-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleRefIdeal (m : (ℓ : Loc Cert.LastSampleRefIdeal.nD Cert.LastSampleRefIdeal.τ Cert.LastSampleRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_CaQ (m : (ℓ : Loc Cert.CaQ.nD Cert.CaQ.τ Cert.CaQ.sig) → Buf (Elt Bits) ℓ) : Prop :=
  True

def Pre_CaQIdeal (m : (ℓ : Loc Cert.CaQIdeal.nD Cert.CaQIdeal.τ Cert.CaQIdeal.sig) → Buf (Elt Ideal) ℓ) : Prop :=
  True

def Pre_CaQRefIdeal (m : (ℓ : Loc Cert.CaQRefIdeal.nD Cert.CaQRefIdeal.τ Cert.CaQRefIdeal.sig) → Buf (Elt Ideal) ℓ) : Prop :=
  True

def Pre_CaKv (m : (ℓ : Loc Cert.CaKv.nD Cert.CaKv.τ Cert.CaKv.sig) → Buf (Elt Bits) ℓ) : Prop :=
  True

def Pre_CaKvIdeal (m : (ℓ : Loc Cert.CaKvIdeal.nD Cert.CaKvIdeal.τ Cert.CaKvIdeal.sig) → Buf (Elt Ideal) ℓ) : Prop :=
  True

def Pre_CaKvRefIdeal (m : (ℓ : Loc Cert.CaKvRefIdeal.nD Cert.CaKvRefIdeal.τ Cert.CaKvRefIdeal.sig) → Buf (Elt Ideal) ℓ) : Prop :=
  True

def Pre_Ca (m : (ℓ : Loc Cert.Ca.nD Cert.Ca.τ Cert.Ca.sig) → Buf (Elt Bits) ℓ) : Prop :=
  True

def Pre_CaIdeal (m : (ℓ : Loc Cert.CaIdeal.nD Cert.CaIdeal.τ Cert.CaIdeal.sig) → Buf (Elt Ideal) ℓ) : Prop :=
  True

def Pre_CaIdeal_finite_ca [hPre_finite_ca : Cert.Pre_finite_ca.Facts] (m : (ℓ : Loc Cert.CaIdeal.nD Cert.CaIdeal.τ Cert.CaIdeal.sig) → Buf (Elt Ideal) ℓ) : Prop :=
  ∀ c : Dev Cert.CaIdeal.nD,
    (Cert.Pre_finite_ca.fn (F := Ideal) (m ((c.tc : Thread Cert.CaIdeal.nD Cert.CaIdeal.τ).loc Cert.CaIdeal.main_arg0)) (m ((c.tc : Thread Cert.CaIdeal.nD Cert.CaIdeal.τ).loc Cert.CaIdeal.main_arg1))).1 = (fun _ => 1#1)
    ∧ (Cert.Pre_finite_ca.fn (F := Ideal) (m ((c.tc : Thread Cert.CaIdeal.nD Cert.CaIdeal.τ).loc Cert.CaIdeal.main_arg0)) (m ((c.tc : Thread Cert.CaIdeal.nD Cert.CaIdeal.τ).loc Cert.CaIdeal.main_arg1))).2 = (fun _ => 1#1)

def Pre_CaRefIdeal (m : (ℓ : Loc Cert.CaRefIdeal.nD Cert.CaRefIdeal.τ Cert.CaRefIdeal.sig) → Buf (Elt Ideal) ℓ) : Prop :=
  True

def Pre_CaRefIdeal_finite_ca [hPre_finite_ca : Cert.Pre_finite_ca.Facts] (m : (ℓ : Loc Cert.CaRefIdeal.nD Cert.CaRefIdeal.τ Cert.CaRefIdeal.sig) → Buf (Elt Ideal) ℓ) : Prop :=
  ∀ c : Dev Cert.CaRefIdeal.nD,
    (Cert.Pre_finite_ca.fn (F := Ideal) (m ((c.tc : Thread Cert.CaRefIdeal.nD Cert.CaRefIdeal.τ).loc Cert.CaRefIdeal.main_arg0)) (m ((c.tc : Thread Cert.CaRefIdeal.nD Cert.CaRefIdeal.τ).loc Cert.CaRefIdeal.main_arg1))).1 = (fun _ => 1#1)
    ∧ (Cert.Pre_finite_ca.fn (F := Ideal) (m ((c.tc : Thread Cert.CaRefIdeal.nD Cert.CaRefIdeal.τ).loc Cert.CaRefIdeal.main_arg0)) (m ((c.tc : Thread Cert.CaRefIdeal.nD Cert.CaRefIdeal.τ).loc Cert.CaRefIdeal.main_arg1))).2 = (fun _ => 1#1)

def Pre_CaOut (m : (ℓ : Loc Cert.CaOut.nD Cert.CaOut.τ Cert.CaOut.sig) → Buf (Elt Bits) ℓ) : Prop :=
  True

def Pre_CaOutIdeal (m : (ℓ : Loc Cert.CaOutIdeal.nD Cert.CaOutIdeal.τ Cert.CaOutIdeal.sig) → Buf (Elt Ideal) ℓ) : Prop :=
  True

def Pre_CaOutRefIdeal (m : (ℓ : Loc Cert.CaOutRefIdeal.nD Cert.CaOutRefIdeal.τ Cert.CaOutRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_DftC (m : (ℓ : Loc Cert.DftC.nD Cert.DftC.τ Cert.DftC.sig) → Buf (Elt Bits) ℓ) : Prop :=
  True

def Pre_DftCIdeal (m : (ℓ : Loc Cert.DftCIdeal.nD Cert.DftCIdeal.τ Cert.DftCIdeal.sig) → Buf (Elt Ideal) ℓ) : Prop :=
  True

def Pre_DftCRefIdeal (m : (ℓ : Loc Cert.DftCRefIdeal.nD Cert.DftCRefIdeal.τ Cert.DftCRefIdeal.sig) → Buf (Elt Ideal) ℓ) : Prop :=
  True

def Pre_DftP (m : (ℓ : Loc Cert.DftP.nD Cert.DftP.τ Cert.DftP.sig) → Buf (Elt Bits) ℓ) : Prop :=
  True

def Pre_DftPIdeal (m : (ℓ : Loc Cert.DftPIdeal.nD Cert.DftPIdeal.τ Cert.DftPIdeal.sig) → Buf (Elt Ideal) ℓ) : Prop :=
  True

def Pre_DftPRefIdeal (m : (ℓ : Loc Cert.DftPRefIdeal.nD Cert.DftPRefIdeal.τ Cert.DftPRefIdeal.sig) → Buf (Elt Ideal) ℓ) : Prop :=
  True

def Pre_KernelSample (m : (ℓ : Loc Cert.KernelSample.nD Cert.KernelSample.τ Cert.KernelSample.sig) → Buf (Elt Bits) ℓ) : Prop :=
  True

def Pre_KernelSampleIdeal (m : (ℓ : Loc Cert.KernelSampleIdeal.nD Cert.KernelSampleIdeal.τ Cert.KernelSampleIdeal.sig) → Buf (Elt Ideal) ℓ) : Prop :=
  True

def Pre_KernelSampleIdeal_finite_keys_sample [hPre_finite_keys_sample : Cert.Pre_finite_keys_sample.Facts] (m : (ℓ : Loc Cert.KernelSampleIdeal.nD Cert.KernelSampleIdeal.τ Cert.KernelSampleIdeal.sig) → Buf (Elt Ideal) ℓ) : Prop :=
  ∀ c : Dev Cert.KernelSampleIdeal.nD,
    (Cert.Pre_finite_keys_sample.fn (F := Ideal) (m ((c.tc : Thread Cert.KernelSampleIdeal.nD Cert.KernelSampleIdeal.τ).loc Cert.KernelSampleIdeal.main_arg0)) (m ((c.tc : Thread Cert.KernelSampleIdeal.nD Cert.KernelSampleIdeal.τ).loc Cert.KernelSampleIdeal.main_arg1)) (m ((c.tc : Thread Cert.KernelSampleIdeal.nD Cert.KernelSampleIdeal.τ).loc Cert.KernelSampleIdeal.main_arg2))).1 = (fun _ => 1#1)
    ∧ (Cert.Pre_finite_keys_sample.fn (F := Ideal) (m ((c.tc : Thread Cert.KernelSampleIdeal.nD Cert.KernelSampleIdeal.τ).loc Cert.KernelSampleIdeal.main_arg0)) (m ((c.tc : Thread Cert.KernelSampleIdeal.nD Cert.KernelSampleIdeal.τ).loc Cert.KernelSampleIdeal.main_arg1)) (m ((c.tc : Thread Cert.KernelSampleIdeal.nD Cert.KernelSampleIdeal.τ).loc Cert.KernelSampleIdeal.main_arg2))).2 = (fun _ => 1#1)

def Pre_KernelSampleRefIdeal (m : (ℓ : Loc Cert.KernelSampleRefIdeal.nD Cert.KernelSampleRefIdeal.τ Cert.KernelSampleRefIdeal.sig) → Buf (Elt Ideal) ℓ) : Prop :=
  True

def Pre_KernelSampleRefIdeal_finite_keys_sample [hPre_finite_keys_sample : Cert.Pre_finite_keys_sample.Facts] (m : (ℓ : Loc Cert.KernelSampleRefIdeal.nD Cert.KernelSampleRefIdeal.τ Cert.KernelSampleRefIdeal.sig) → Buf (Elt Ideal) ℓ) : Prop :=
  ∀ c : Dev Cert.KernelSampleRefIdeal.nD,
    (Cert.Pre_finite_keys_sample.fn (F := Ideal) (m ((c.tc : Thread Cert.KernelSampleRefIdeal.nD Cert.KernelSampleRefIdeal.τ).loc Cert.KernelSampleRefIdeal.main_arg0)) (m ((c.tc : Thread Cert.KernelSampleRefIdeal.nD Cert.KernelSampleRefIdeal.τ).loc Cert.KernelSampleRefIdeal.main_arg1)) (m ((c.tc : Thread Cert.KernelSampleRefIdeal.nD Cert.KernelSampleRefIdeal.τ).loc Cert.KernelSampleRefIdeal.main_arg2))).1 = (fun _ => 1#1)
    ∧ (Cert.Pre_finite_keys_sample.fn (F := Ideal) (m ((c.tc : Thread Cert.KernelSampleRefIdeal.nD Cert.KernelSampleRefIdeal.τ).loc Cert.KernelSampleRefIdeal.main_arg0)) (m ((c.tc : Thread Cert.KernelSampleRefIdeal.nD Cert.KernelSampleRefIdeal.τ).loc Cert.KernelSampleRefIdeal.main_arg1)) (m ((c.tc : Thread Cert.KernelSampleRefIdeal.nD Cert.KernelSampleRefIdeal.τ).loc Cert.KernelSampleRefIdeal.main_arg2))).2 = (fun _ => 1#1)

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_OutProjSample (m : (ℓ : Loc Cert.OutProjSample.nD Cert.OutProjSample.τ Cert.OutProjSample.sig) → Buf (Elt Bits) ℓ) : Prop :=
  True

def Pre_OutProjSampleIdeal (m : (ℓ : Loc Cert.OutProjSampleIdeal.nD Cert.OutProjSampleIdeal.τ Cert.OutProjSampleIdeal.sig) → Buf (Elt Ideal) ℓ) : Prop :=
  True

def Pre_OutProjSampleRefIdeal (m : (ℓ : Loc Cert.OutProjSampleRefIdeal.nD Cert.OutProjSampleRefIdeal.τ Cert.OutProjSampleRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_KeysSample (m : (ℓ : Loc Cert.KeysSample.nD Cert.KeysSample.τ Cert.KeysSample.sig) → Buf (Elt Bits) ℓ) : Prop :=
  True

def Pre_KeysSampleIdeal (m : (ℓ : Loc Cert.KeysSampleIdeal.nD Cert.KeysSampleIdeal.τ Cert.KeysSampleIdeal.sig) → Buf (Elt Ideal) ℓ) : Prop :=
  True

def Pre_KeysSampleRefIdeal (m : (ℓ : Loc Cert.KeysSampleRefIdeal.nD Cert.KeysSampleRefIdeal.τ Cert.KeysSampleRefIdeal.sig) → Buf (Elt Ideal) ℓ) : Prop :=
  True

def Pre_CaQSample (m : (ℓ : Loc Cert.CaQSample.nD Cert.CaQSample.τ Cert.CaQSample.sig) → Buf (Elt Bits) ℓ) : Prop :=
  True

def Pre_CaQSampleIdeal (m : (ℓ : Loc Cert.CaQSampleIdeal.nD Cert.CaQSampleIdeal.τ Cert.CaQSampleIdeal.sig) → Buf (Elt Ideal) ℓ) : Prop :=
  True

def Pre_CaQSampleRefIdeal (m : (ℓ : Loc Cert.CaQSampleRefIdeal.nD Cert.CaQSampleRefIdeal.τ Cert.CaQSampleRefIdeal.sig) → Buf (Elt Ideal) ℓ) : Prop :=
  True

def Pre_CaSample (m : (ℓ : Loc Cert.CaSample.nD Cert.CaSample.τ Cert.CaSample.sig) → Buf (Elt Bits) ℓ) : Prop :=
  True

def Pre_CaSampleIdeal (m : (ℓ : Loc Cert.CaSampleIdeal.nD Cert.CaSampleIdeal.τ Cert.CaSampleIdeal.sig) → Buf (Elt Ideal) ℓ) : Prop :=
  True

def Pre_CaSampleIdeal_finite_ca_sample [hPre_finite_ca_sample : Cert.Pre_finite_ca_sample.Facts] (m : (ℓ : Loc Cert.CaSampleIdeal.nD Cert.CaSampleIdeal.τ Cert.CaSampleIdeal.sig) → Buf (Elt Ideal) ℓ) : Prop :=
  ∀ c : Dev Cert.CaSampleIdeal.nD,
    (Cert.Pre_finite_ca_sample.fn (F := Ideal) (m ((c.tc : Thread Cert.CaSampleIdeal.nD Cert.CaSampleIdeal.τ).loc Cert.CaSampleIdeal.main_arg0)) (m ((c.tc : Thread Cert.CaSampleIdeal.nD Cert.CaSampleIdeal.τ).loc Cert.CaSampleIdeal.main_arg1))).1 = (fun _ => 1#1)
    ∧ (Cert.Pre_finite_ca_sample.fn (F := Ideal) (m ((c.tc : Thread Cert.CaSampleIdeal.nD Cert.CaSampleIdeal.τ).loc Cert.CaSampleIdeal.main_arg0)) (m ((c.tc : Thread Cert.CaSampleIdeal.nD Cert.CaSampleIdeal.τ).loc Cert.CaSampleIdeal.main_arg1))).2 = (fun _ => 1#1)

def Pre_CaSampleRefIdeal (m : (ℓ : Loc Cert.CaSampleRefIdeal.nD Cert.CaSampleRefIdeal.τ Cert.CaSampleRefIdeal.sig) → Buf (Elt Ideal) ℓ) : Prop :=
  True

def Pre_CaSampleRefIdeal_finite_ca_sample [hPre_finite_ca_sample : Cert.Pre_finite_ca_sample.Facts] (m : (ℓ : Loc Cert.CaSampleRefIdeal.nD Cert.CaSampleRefIdeal.τ Cert.CaSampleRefIdeal.sig) → Buf (Elt Ideal) ℓ) : Prop :=
  ∀ c : Dev Cert.CaSampleRefIdeal.nD,
    (Cert.Pre_finite_ca_sample.fn (F := Ideal) (m ((c.tc : Thread Cert.CaSampleRefIdeal.nD Cert.CaSampleRefIdeal.τ).loc Cert.CaSampleRefIdeal.main_arg0)) (m ((c.tc : Thread Cert.CaSampleRefIdeal.nD Cert.CaSampleRefIdeal.τ).loc Cert.CaSampleRefIdeal.main_arg1))).1 = (fun _ => 1#1)
    ∧ (Cert.Pre_finite_ca_sample.fn (F := Ideal) (m ((c.tc : Thread Cert.CaSampleRefIdeal.nD Cert.CaSampleRefIdeal.τ).loc Cert.CaSampleRefIdeal.main_arg0)) (m ((c.tc : Thread Cert.CaSampleRefIdeal.nD Cert.CaSampleRefIdeal.τ).loc Cert.CaSampleRefIdeal.main_arg1))).2 = (fun _ => 1#1)

def Pre_CaOutSample (m : (ℓ : Loc Cert.CaOutSample.nD Cert.CaOutSample.τ Cert.CaOutSample.sig) → Buf (Elt Bits) ℓ) : Prop :=
  True

def Pre_CaOutSampleIdeal (m : (ℓ : Loc Cert.CaOutSampleIdeal.nD Cert.CaOutSampleIdeal.τ Cert.CaOutSampleIdeal.sig) → Buf (Elt Ideal) ℓ) : Prop :=
  True

def Pre_CaOutSampleRefIdeal (m : (ℓ : Loc Cert.CaOutSampleRefIdeal.nD Cert.CaOutSampleRefIdeal.τ Cert.CaOutSampleRefIdeal.sig) → Buf (Elt Ideal) ℓ) : Prop :=
  True

def Pre_RouteSample (m : (ℓ : Loc Cert.RouteSample.nD Cert.RouteSample.τ Cert.RouteSample.sig) → Buf (Elt Bits) ℓ) : Prop :=
  True

def Pre_RouteSampleIdeal (m : (ℓ : Loc Cert.RouteSampleIdeal.nD Cert.RouteSampleIdeal.τ Cert.RouteSampleIdeal.sig) → Buf (Elt Ideal) ℓ) : Prop :=
  True

def Pre_RouteSampleRefIdeal (m : (ℓ : Loc Cert.RouteSampleRefIdeal.nD Cert.RouteSampleRefIdeal.τ Cert.RouteSampleRefIdeal.sig) → Buf (Elt Ideal) ℓ) : Prop :=
  True

def Pre_DftCSample (m : (ℓ : Loc Cert.DftCSample.nD Cert.DftCSample.τ Cert.DftCSample.sig) → Buf (Elt Bits) ℓ) : Prop :=
  True

def Pre_DftCSampleIdeal (m : (ℓ : Loc Cert.DftCSampleIdeal.nD Cert.DftCSampleIdeal.τ Cert.DftCSampleIdeal.sig) → Buf (Elt Ideal) ℓ) : Prop :=
  True

def Pre_DftCSampleRefIdeal (m : (ℓ : Loc Cert.DftCSampleRefIdeal.nD Cert.DftCSampleRefIdeal.τ Cert.DftCSampleRefIdeal.sig) → Buf (Elt Ideal) ℓ) : Prop :=
  True

def Pre_DftPSample (m : (ℓ : Loc Cert.DftPSample.nD Cert.DftPSample.τ Cert.DftPSample.sig) → Buf (Elt Bits) ℓ) : Prop :=
  True

def Pre_DftPSampleIdeal (m : (ℓ : Loc Cert.DftPSampleIdeal.nD Cert.DftPSampleIdeal.τ Cert.DftPSampleIdeal.sig) → Buf (Elt Ideal) ℓ) : Prop :=
  True

def Pre_DftPSampleRefIdeal (m : (ℓ : Loc Cert.DftPSampleRefIdeal.nD Cert.DftPSampleRefIdeal.τ Cert.DftPSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2))
      ∧ r.2.sem = fun _ => 0)

def quiescent_LastSampleRefIdeal [hLastSampleRefIdeal : Cert.LastSampleRefIdeal.Facts] : Prop :=
  ∀ (m : (ℓ : Loc Cert.LastSampleRefIdeal.nD Cert.LastSampleRefIdeal.τ Cert.LastSampleRefIdeal.sig) → Buf (Elt Ideal) ℓ) (g : Dev Cert.LastSampleRefIdeal.nD → PrngReg), Pre_LastSampleRefIdeal m →
    θ_run (Cert.LastSampleRefIdeal.defs (F := Ideal)) (onTc (τ := Cert.LastSampleRefIdeal.τ) (Cert.LastSampleRefIdeal.main (F := Ideal))) ⟨m, fun _ => 0, g⟩ (fun r => (∀ c : Dev Cert.LastSampleRefIdeal.nD,
      r.2.mem ((c.tc : Thread Cert.LastSampleRefIdeal.nD Cert.LastSampleRefIdeal.τ).loc Cert.LastSampleRefIdeal.main_arg0) = m ((c.tc : Thread Cert.LastSampleRefIdeal.nD Cert.LastSampleRefIdeal.τ).loc Cert.LastSampleRefIdeal.main_arg0)
      ∧ r.2.mem ((c.tc : Thread Cert.LastSampleRefIdeal.nD Cert.LastSampleRefIdeal.τ).loc Cert.LastSampleRefIdeal.main_arg1) = m ((c.tc : Thread Cert.LastSampleRefIdeal.nD Cert.LastSampleRefIdeal.τ).loc Cert.LastSampleRefIdeal.main_arg1)
      ∧ r.2.mem ((c.tc : Thread Cert.LastSampleRefIdeal.nD Cert.LastSampleRefIdeal.τ).loc Cert.LastSampleRefIdeal.main_arg2) = m ((c.tc : Thread Cert.LastSampleRefIdeal.nD Cert.LastSampleRefIdeal.τ).loc Cert.LastSampleRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1))
      ∧ r.2.sem = fun _ => 0)

def quiescent_CaQ [hCaQ : Cert.CaQ.Facts] : Prop :=
  ∀ (m : (ℓ : Loc Cert.CaQ.nD Cert.CaQ.τ Cert.CaQ.sig) → Buf (Elt Bits) ℓ) (g : Dev Cert.CaQ.nD → PrngReg), Pre_CaQ m →
    θ_run (Cert.CaQ.defs (F := Bits)) (onTc (τ := Cert.CaQ.τ) (Cert.CaQ.main (F := Bits))) ⟨m, fun _ => 0, g⟩ (fun r => (∀ c : Dev Cert.CaQ.nD,
      r.2.mem ((c.tc : Thread Cert.CaQ.nD Cert.CaQ.τ).loc Cert.CaQ.main_arg0) = m ((c.tc : Thread Cert.CaQ.nD Cert.CaQ.τ).loc Cert.CaQ.main_arg0)
      ∧ r.2.mem ((c.tc : Thread Cert.CaQ.nD Cert.CaQ.τ).loc Cert.CaQ.main_arg1) = m ((c.tc : Thread Cert.CaQ.nD Cert.CaQ.τ).loc Cert.CaQ.main_arg1))
      ∧ r.2.sem = fun _ => 0)

def quiescent_CaQIdeal [hCaQIdeal : Cert.CaQIdeal.Facts] : Prop :=
  ∀ (m : (ℓ : Loc Cert.CaQIdeal.nD Cert.CaQIdeal.τ Cert.CaQIdeal.sig) → Buf (Elt Ideal) ℓ) (g : Dev Cert.CaQIdeal.nD → PrngReg), Pre_CaQIdeal m →
    θ_run (Cert.CaQIdeal.defs (F := Ideal)) (onTc (τ := Cert.CaQIdeal.τ) (Cert.CaQIdeal.main (F := Ideal))) ⟨m, fun _ => 0, g⟩ (fun r => (∀ c : Dev Cert.CaQIdeal.nD,
      r.2.mem ((c.tc : Thread Cert.CaQIdeal.nD Cert.CaQIdeal.τ).loc Cert.CaQIdeal.main_arg0) = m ((c.tc : Thread Cert.CaQIdeal.nD Cert.CaQIdeal.τ).loc Cert.CaQIdeal.main_arg0)
      ∧ r.2.mem ((c.tc : Thread Cert.CaQIdeal.nD Cert.CaQIdeal.τ).loc Cert.CaQIdeal.main_arg1) = m ((c.tc : Thread Cert.CaQIdeal.nD Cert.CaQIdeal.τ).loc Cert.CaQIdeal.main_arg1))
      ∧ r.2.sem = fun _ => 0)

def quiescent_CaQRefIdeal [hCaQRefIdeal : Cert.CaQRefIdeal.Facts] : Prop :=
  ∀ (m : (ℓ : Loc Cert.CaQRefIdeal.nD Cert.CaQRefIdeal.τ Cert.CaQRefIdeal.sig) → Buf (Elt Ideal) ℓ) (g : Dev Cert.CaQRefIdeal.nD → PrngReg), Pre_CaQRefIdeal m →
    θ_run (Cert.CaQRefIdeal.defs (F := Ideal)) (onTc (τ := Cert.CaQRefIdeal.τ) (Cert.CaQRefIdeal.main (F := Ideal))) ⟨m, fun _ => 0, g⟩ (fun r => (∀ c : Dev Cert.CaQRefIdeal.nD,
      r.2.mem ((c.tc : Thread Cert.CaQRefIdeal.nD Cert.CaQRefIdeal.τ).loc Cert.CaQRefIdeal.main_arg0) = m ((c.tc : Thread Cert.CaQRefIdeal.nD Cert.CaQRefIdeal.τ).loc Cert.CaQRefIdeal.main_arg0)
      ∧ r.2.mem ((c.tc : Thread Cert.CaQRefIdeal.nD Cert.CaQRefIdeal.τ).loc Cert.CaQRefIdeal.main_arg1) = m ((c.tc : Thread Cert.CaQRefIdeal.nD Cert.CaQRefIdeal.τ).loc Cert.CaQRefIdeal.main_arg1))
      ∧ r.2.sem = fun _ => 0)

def quiescent_CaKv [hCaKv : Cert.CaKv.Facts] : Prop :=
  ∀ (m : (ℓ : Loc Cert.CaKv.nD Cert.CaKv.τ Cert.CaKv.sig) → Buf (Elt Bits) ℓ) (g : Dev Cert.CaKv.nD → PrngReg), Pre_CaKv m →
    θ_run (Cert.CaKv.defs (F := Bits)) (onTc (τ := Cert.CaKv.τ) (Cert.CaKv.main (F := Bits))) ⟨m, fun _ => 0, g⟩ (fun r => (∀ c : Dev Cert.CaKv.nD,
      r.2.mem ((c.tc : Thread Cert.CaKv.nD Cert.CaKv.τ).loc Cert.CaKv.main_arg0) = m ((c.tc : Thread Cert.CaKv.nD Cert.CaKv.τ).loc Cert.CaKv.main_arg0)
      ∧ r.2.mem ((c.tc : Thread Cert.CaKv.nD Cert.CaKv.τ).loc Cert.CaKv.main_arg1) = m ((c.tc : Thread Cert.CaKv.nD Cert.CaKv.τ).loc Cert.CaKv.main_arg1)
      ∧ r.2.mem ((c.tc : Thread Cert.CaKv.nD Cert.CaKv.τ).loc Cert.CaKv.main_arg2) = m ((c.tc : Thread Cert.CaKv.nD Cert.CaKv.τ).loc Cert.CaKv.main_arg2))
      ∧ r.2.sem = fun _ => 0)

def quiescent_CaKvIdeal [hCaKvIdeal : Cert.CaKvIdeal.Facts] : Prop :=
  ∀ (m : (ℓ : Loc Cert.CaKvIdeal.nD Cert.CaKvIdeal.τ Cert.CaKvIdeal.sig) → Buf (Elt Ideal) ℓ) (g : Dev Cert.CaKvIdeal.nD → PrngReg), Pre_CaKvIdeal m →
    θ_run (Cert.CaKvIdeal.defs (F := Ideal)) (onTc (τ := Cert.CaKvIdeal.τ) (Cert.CaKvIdeal.main (F := Ideal))) ⟨m, fun _ => 0, g⟩ (fun r => (∀ c : Dev Cert.CaKvIdeal.nD,
      r.2.mem ((c.tc : Thread Cert.CaKvIdeal.nD Cert.CaKvIdeal.τ).loc Cert.CaKvIdeal.main_arg0) = m ((c.tc : Thread Cert.CaKvIdeal.nD Cert.CaKvIdeal.τ).loc Cert.CaKvIdeal.main_arg0)
      ∧ r.2.mem ((c.tc : Thread Cert.CaKvIdeal.nD Cert.CaKvIdeal.τ).loc Cert.CaKvIdeal.main_arg1) = m ((c.tc : Thread Cert.CaKvIdeal.nD Cert.CaKvIdeal.τ).loc Cert.CaKvIdeal.main_arg1)
      ∧ r.2.mem ((c.tc : Thread Cert.CaKvIdeal.nD Cert.CaKvIdeal.τ).loc Cert.CaKvIdeal.main_arg2) = m ((c.tc : Thread Cert.CaKvIdeal.nD Cert.CaKvIdeal.τ).loc Cert.CaKvIdeal.main_arg2))
      ∧ r.2.sem = fun _ => 0)

def quiescent_CaKvRefIdeal [hCaKvRefIdeal : Cert.CaKvRefIdeal.Facts] : Prop :=
  ∀ (m : (ℓ : Loc Cert.CaKvRefIdeal.nD Cert.CaKvRefIdeal.τ Cert.CaKvRefIdeal.sig) → Buf (Elt Ideal) ℓ) (g : Dev Cert.CaKvRefIdeal.nD → PrngReg), Pre_CaKvRefIdeal m →
    θ_run (Cert.CaKvRefIdeal.defs (F := Ideal)) (onTc (τ := Cert.CaKvRefIdeal.τ) (Cert.CaKvRefIdeal.main (F := Ideal))) ⟨m, fun _ => 0, g⟩ (fun r => (∀ c : Dev Cert.CaKvRefIdeal.nD,
      r.2.mem ((c.tc : Thread Cert.CaKvRefIdeal.nD Cert.CaKvRefIdeal.τ).loc Cert.CaKvRefIdeal.main_arg0) = m ((c.tc : Thread Cert.CaKvRefIdeal.nD Cert.CaKvRefIdeal.τ).loc Cert.CaKvRefIdeal.main_arg0)
      ∧ r.2.mem ((c.tc : Thread Cert.CaKvRefIdeal.nD Cert.CaKvRefIdeal.τ).loc Cert.CaKvRefIdeal.main_arg1) = m ((c.tc : Thread Cert.CaKvRefIdeal.nD Cert.CaKvRefIdeal.τ).loc Cert.CaKvRefIdeal.main_arg1)
      ∧ r.2.mem ((c.tc : Thread Cert.CaKvRefIdeal.nD Cert.CaKvRefIdeal.τ).loc Cert.CaKvRefIdeal.main_arg2) = m ((c.tc : Thread Cert.CaKvRefIdeal.nD Cert.CaKvRefIdeal.τ).loc Cert.CaKvRefIdeal.main_arg2))
      ∧ r.2.sem = fun _ => 0)

def quiescent_Ca [hCa : Cert.Ca.Facts] : Prop :=
  ∀ (m : (ℓ : Loc Cert.Ca.nD Cert.Ca.τ Cert.Ca.sig) → Buf (Elt Bits) ℓ) (g : Dev Cert.Ca.nD → PrngReg), Pre_Ca m →
    θ_run (Cert.Ca.defs (F := Bits)) (onTc (τ := Cert.Ca.τ) (Cert.Ca.main (F := Bits))) ⟨m, fun _ => 0, g⟩ (fun r => (∀ c : Dev Cert.Ca.nD,
      r.2.mem ((c.tc : Thread Cert.Ca.nD Cert.Ca.τ).loc Cert.Ca.main_arg0) = m ((c.tc : Thread Cert.Ca.nD Cert.Ca.τ).loc Cert.Ca.main_arg0)
      ∧ r.2.mem ((c.tc : Thread Cert.Ca.nD Cert.Ca.τ).loc Cert.Ca.main_arg1) = m ((c.tc : Thread Cert.Ca.nD Cert.Ca.τ).loc Cert.Ca.main_arg1))
      ∧ r.2.sem = fun _ => 0)

def quiescent_CaIdeal [hCaIdeal : Cert.CaIdeal.Facts] : Prop :=
  ∀ (m : (ℓ : Loc Cert.CaIdeal.nD Cert.CaIdeal.τ Cert.CaIdeal.sig) → Buf (Elt Ideal) ℓ) (g : Dev Cert.CaIdeal.nD → PrngReg), Pre_CaIdeal m →
    θ_run (Cert.CaIdeal.defs (F := Ideal)) (onTc (τ := Cert.CaIdeal.τ) (Cert.CaIdeal.main (F := Ideal))) ⟨m, fun _ => 0, g⟩ (fun r => (∀ c : Dev Cert.CaIdeal.nD,
      r.2.mem ((c.tc : Thread Cert.CaIdeal.nD Cert.CaIdeal.τ).loc Cert.CaIdeal.main_arg0) = m ((c.tc : Thread Cert.CaIdeal.nD Cert.CaIdeal.τ).loc Cert.CaIdeal.main_arg0)
      ∧ r.2.mem ((c.tc : Thread Cert.CaIdeal.nD Cert.CaIdeal.τ).loc Cert.CaIdeal.main_arg1) = m ((c.tc : Thread Cert.CaIdeal.nD Cert.CaIdeal.τ).loc Cert.CaIdeal.main_arg1))
      ∧ r.2.sem = fun _ => 0)

def quiescent_CaIdeal_pre_finite_ca [hCaIdeal : Cert.CaIdeal.Facts] [hPre_finite_ca : Cert.Pre_finite_ca.Facts] : Prop :=
  ∀ (m : (ℓ : Loc Cert.CaIdeal.nD Cert.CaIdeal.τ Cert.CaIdeal.sig) → Buf (Elt Ideal) ℓ) (g : Dev Cert.CaIdeal.nD → PrngReg), Pre_CaIdeal_finite_ca m →
    θ_run (Cert.CaIdeal.defs (F := Ideal)) (onTc (τ := Cert.CaIdeal.τ) (Cert.CaIdeal.main (F := Ideal))) ⟨m, fun _ => 0, g⟩ (fun r => (∀ c : Dev Cert.CaIdeal.nD,
      r.2.mem ((c.tc : Thread Cert.CaIdeal.nD Cert.CaIdeal.τ).loc Cert.CaIdeal.main_arg0) = m ((c.tc : Thread Cert.CaIdeal.nD Cert.CaIdeal.τ).loc Cert.CaIdeal.main_arg0)
      ∧ r.2.mem ((c.tc : Thread Cert.CaIdeal.nD Cert.CaIdeal.τ).loc Cert.CaIdeal.main_arg1) = m ((c.tc : Thread Cert.CaIdeal.nD Cert.CaIdeal.τ).loc Cert.CaIdeal.main_arg1))
      ∧ r.2.sem = fun _ => 0)

def quiescent_CaRefIdeal [hCaRefIdeal : Cert.CaRefIdeal.Facts] : Prop :=
  ∀ (m : (ℓ : Loc Cert.CaRefIdeal.nD Cert.CaRefIdeal.τ Cert.CaRefIdeal.sig) → Buf (Elt Ideal) ℓ) (g : Dev Cert.CaRefIdeal.nD → PrngReg), Pre_CaRefIdeal m →
    θ_run (Cert.CaRefIdeal.defs (F := Ideal)) (onTc (τ := Cert.CaRefIdeal.τ) (Cert.CaRefIdeal.main (F := Ideal))) ⟨m, fun _ => 0, g⟩ (fun r => (∀ c : Dev Cert.CaRefIdeal.nD,
      r.2.mem ((c.tc : Thread Cert.CaRefIdeal.nD Cert.CaRefIdeal.τ).loc Cert.CaRefIdeal.main_arg0) = m ((c.tc : Thread Cert.CaRefIdeal.nD Cert.CaRefIdeal.τ).loc Cert.CaRefIdeal.main_arg0)
      ∧ r.2.mem ((c.tc : Thread Cert.CaRefIdeal.nD Cert.CaRefIdeal.τ).loc Cert.CaRefIdeal.main_arg1) = m ((c.tc : Thread Cert.CaRefIdeal.nD Cert.CaRefIdeal.τ).loc Cert.CaRefIdeal.main_arg1))
      ∧ r.2.sem = fun _ => 0)

def quiescent_CaRefIdeal_pre_finite_ca [hCaRefIdeal : Cert.CaRefIdeal.Facts] [hPre_finite_ca : Cert.Pre_finite_ca.Facts] : Prop :=
  ∀ (m : (ℓ : Loc Cert.CaRefIdeal.nD Cert.CaRefIdeal.τ Cert.CaRefIdeal.sig) → Buf (Elt Ideal) ℓ) (g : Dev Cert.CaRefIdeal.nD → PrngReg), Pre_CaRefIdeal_finite_ca m →
    θ_run (Cert.CaRefIdeal.defs (F := Ideal)) (onTc (τ := Cert.CaRefIdeal.τ) (Cert.CaRefIdeal.main (F := Ideal))) ⟨m, fun _ => 0, g⟩ (fun r => (∀ c : Dev Cert.CaRefIdeal.nD,
      r.2.mem ((c.tc : Thread Cert.CaRefIdeal.nD Cert.CaRefIdeal.τ).loc Cert.CaRefIdeal.main_arg0) = m ((c.tc : Thread Cert.CaRefIdeal.nD Cert.CaRefIdeal.τ).loc Cert.CaRefIdeal.main_arg0)
      ∧ r.2.mem ((c.tc : Thread Cert.CaRefIdeal.nD Cert.CaRefIdeal.τ).loc Cert.CaRefIdeal.main_arg1) = m ((c.tc : Thread Cert.CaRefIdeal.nD Cert.CaRefIdeal.τ).loc Cert.CaRefIdeal.main_arg1))
      ∧ r.2.sem = fun _ => 0)

def quiescent_CaOut [hCaOut : Cert.CaOut.Facts] : Prop :=
  ∀ (m : (ℓ : Loc Cert.CaOut.nD Cert.CaOut.τ Cert.CaOut.sig) → Buf (Elt Bits) ℓ) (g : Dev Cert.CaOut.nD → PrngReg), Pre_CaOut m →
    θ_run (Cert.CaOut.defs (F := Bits)) (onTc (τ := Cert.CaOut.τ) (Cert.CaOut.main (F := Bits))) ⟨m, fun _ => 0, g⟩ (fun r => (∀ c : Dev Cert.CaOut.nD,
      r.2.mem ((c.tc : Thread Cert.CaOut.nD Cert.CaOut.τ).loc Cert.CaOut.main_arg0) = m ((c.tc : Thread Cert.CaOut.nD Cert.CaOut.τ).loc Cert.CaOut.main_arg0)
      ∧ r.2.mem ((c.tc : Thread Cert.CaOut.nD Cert.CaOut.τ).loc Cert.CaOut.main_arg1) = m ((c.tc : Thread Cert.CaOut.nD Cert.CaOut.τ).loc Cert.CaOut.main_arg1)
      ∧ r.2.mem ((c.tc : Thread Cert.CaOut.nD Cert.CaOut.τ).loc Cert.CaOut.main_arg2) = m ((c.tc : Thread Cert.CaOut.nD Cert.CaOut.τ).loc Cert.CaOut.main_arg2))
      ∧ r.2.sem = fun _ => 0)

def quiescent_CaOutIdeal [hCaOutIdeal : Cert.CaOutIdeal.Facts] : Prop :=
  ∀ (m : (ℓ : Loc Cert.CaOutIdeal.nD Cert.CaOutIdeal.τ Cert.CaOutIdeal.sig) → Buf (Elt Ideal) ℓ) (g : Dev Cert.CaOutIdeal.nD → PrngReg), Pre_CaOutIdeal m →
    θ_run (Cert.CaOutIdeal.defs (F := Ideal)) (onTc (τ := Cert.CaOutIdeal.τ) (Cert.CaOutIdeal.main (F := Ideal))) ⟨m, fun _ => 0, g⟩ (fun r => (∀ c : Dev Cert.CaOutIdeal.nD,
      r.2.mem ((c.tc : Thread Cert.CaOutIdeal.nD Cert.CaOutIdeal.τ).loc Cert.CaOutIdeal.main_arg0) = m ((c.tc : Thread Cert.CaOutIdeal.nD Cert.CaOutIdeal.τ).loc Cert.CaOutIdeal.main_arg0)
      ∧ r.2.mem ((c.tc : Thread Cert.CaOutIdeal.nD Cert.CaOutIdeal.τ).loc Cert.CaOutIdeal.main_arg1) = m ((c.tc : Thread Cert.CaOutIdeal.nD Cert.CaOutIdeal.τ).loc Cert.CaOutIdeal.main_arg1)
      ∧ r.2.mem ((c.tc : Thread Cert.CaOutIdeal.nD Cert.CaOutIdeal.τ).loc Cert.CaOutIdeal.main_arg2) = m ((c.tc : Thread Cert.CaOutIdeal.nD Cert.CaOutIdeal.τ).loc Cert.CaOutIdeal.main_arg2))
      ∧ r.2.sem = fun _ => 0)

def quiescent_CaOutRefIdeal [hCaOutRefIdeal : Cert.CaOutRefIdeal.Facts] : Prop :=
  ∀ (m : (ℓ : Loc Cert.CaOutRefIdeal.nD Cert.CaOutRefIdeal.τ Cert.CaOutRefIdeal.sig) → Buf (Elt Ideal) ℓ) (g : Dev Cert.CaOutRefIdeal.nD → PrngReg), Pre_CaOutRefIdeal m →
    θ_run (Cert.CaOutRefIdeal.defs (F := Ideal)) (onTc (τ := Cert.CaOutRefIdeal.τ) (Cert.CaOutRefIdeal.main (F := Ideal))) ⟨m, fun _ => 0, g⟩ (fun r => (∀ c : Dev Cert.CaOutRefIdeal.nD,
      r.2.mem ((c.tc : Thread Cert.CaOutRefIdeal.nD Cert.CaOutRefIdeal.τ).loc Cert.CaOutRefIdeal.main_arg0) = m ((c.tc : Thread Cert.CaOutRefIdeal.nD Cert.CaOutRefIdeal.τ).loc Cert.CaOutRefIdeal.main_arg0)
      ∧ r.2.mem ((c.tc : Thread Cert.CaOutRefIdeal.nD Cert.CaOutRefIdeal.τ).loc Cert.CaOutRefIdeal.main_arg1) = m ((c.tc : Thread Cert.CaOutRefIdeal.nD Cert.CaOutRefIdeal.τ).loc Cert.CaOutRefIdeal.main_arg1)
      ∧ r.2.mem ((c.tc : Thread Cert.CaOutRefIdeal.nD Cert.CaOutRefIdeal.τ).loc Cert.CaOutRefIdeal.main_arg2) = m ((c.tc : Thread Cert.CaOutRefIdeal.nD Cert.CaOutRefIdeal.τ).loc Cert.CaOutRefIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def quiescent_DftC [hDftC : Cert.DftC.Facts] : Prop :=
  ∀ (m : (ℓ : Loc Cert.DftC.nD Cert.DftC.τ Cert.DftC.sig) → Buf (Elt Bits) ℓ) (g : Dev Cert.DftC.nD → PrngReg), Pre_DftC m →
    θ_run (Cert.DftC.defs (F := Bits)) (onTc (τ := Cert.DftC.τ) (Cert.DftC.main (F := Bits))) ⟨m, fun _ => 0, g⟩ (fun r => (∀ c : Dev Cert.DftC.nD,
      r.2.mem ((c.tc : Thread Cert.DftC.nD Cert.DftC.τ).loc Cert.DftC.main_arg0) = m ((c.tc : Thread Cert.DftC.nD Cert.DftC.τ).loc Cert.DftC.main_arg0)
      ∧ r.2.mem ((c.tc : Thread Cert.DftC.nD Cert.DftC.τ).loc Cert.DftC.main_arg1) = m ((c.tc : Thread Cert.DftC.nD Cert.DftC.τ).loc Cert.DftC.main_arg1))
      ∧ r.2.sem = fun _ => 0)

def quiescent_DftCIdeal [hDftCIdeal : Cert.DftCIdeal.Facts] : Prop :=
  ∀ (m : (ℓ : Loc Cert.DftCIdeal.nD Cert.DftCIdeal.τ Cert.DftCIdeal.sig) → Buf (Elt Ideal) ℓ) (g : Dev Cert.DftCIdeal.nD → PrngReg), Pre_DftCIdeal m →
    θ_run (Cert.DftCIdeal.defs (F := Ideal)) (onTc (τ := Cert.DftCIdeal.τ) (Cert.DftCIdeal.main (F := Ideal))) ⟨m, fun _ => 0, g⟩ (fun r => (∀ c : Dev Cert.DftCIdeal.nD,
      r.2.mem ((c.tc : Thread Cert.DftCIdeal.nD Cert.DftCIdeal.τ).loc Cert.DftCIdeal.main_arg0) = m ((c.tc : Thread Cert.DftCIdeal.nD Cert.DftCIdeal.τ).loc Cert.DftCIdeal.main_arg0)
      ∧ r.2.mem ((c.tc : Thread Cert.DftCIdeal.nD Cert.DftCIdeal.τ).loc Cert.DftCIdeal.main_arg1) = m ((c.tc : Thread Cert.DftCIdeal.nD Cert.DftCIdeal.τ).loc Cert.DftCIdeal.main_arg1))
      ∧ r.2.sem = fun _ => 0)

def quiescent_DftCRefIdeal [hDftCRefIdeal : Cert.DftCRefIdeal.Facts] : Prop :=
  ∀ (m : (ℓ : Loc Cert.DftCRefIdeal.nD Cert.DftCRefIdeal.τ Cert.DftCRefIdeal.sig) → Buf (Elt Ideal) ℓ) (g : Dev Cert.DftCRefIdeal.nD → PrngReg), Pre_DftCRefIdeal m →
    θ_run (Cert.DftCRefIdeal.defs (F := Ideal)) (onTc (τ := Cert.DftCRefIdeal.τ) (Cert.DftCRefIdeal.main (F := Ideal))) ⟨m, fun _ => 0, g⟩ (fun r => (∀ c : Dev Cert.DftCRefIdeal.nD,
      r.2.mem ((c.tc : Thread Cert.DftCRefIdeal.nD Cert.DftCRefIdeal.τ).loc Cert.DftCRefIdeal.main_arg0) = m ((c.tc : Thread Cert.DftCRefIdeal.nD Cert.DftCRefIdeal.τ).loc Cert.DftCRefIdeal.main_arg0)
      ∧ r.2.mem ((c.tc : Thread Cert.DftCRefIdeal.nD Cert.DftCRefIdeal.τ).loc Cert.DftCRefIdeal.main_arg1) = m ((c.tc : Thread Cert.DftCRefIdeal.nD Cert.DftCRefIdeal.τ).loc Cert.DftCRefIdeal.main_arg1))
      ∧ r.2.sem = fun _ => 0)

def quiescent_DftP [hDftP : Cert.DftP.Facts] : Prop :=
  ∀ (m : (ℓ : Loc Cert.DftP.nD Cert.DftP.τ Cert.DftP.sig) → Buf (Elt Bits) ℓ) (g : Dev Cert.DftP.nD → PrngReg), Pre_DftP m →
    θ_run (Cert.DftP.defs (F := Bits)) (onTc (τ := Cert.DftP.τ) (Cert.DftP.main (F := Bits))) ⟨m, fun _ => 0, g⟩ (fun r => (∀ c : Dev Cert.DftP.nD,
      r.2.mem ((c.tc : Thread Cert.DftP.nD Cert.DftP.τ).loc Cert.DftP.main_arg0) = m ((c.tc : Thread Cert.DftP.nD Cert.DftP.τ).loc Cert.DftP.main_arg0)
      ∧ r.2.mem ((c.tc : Thread Cert.DftP.nD Cert.DftP.τ).loc Cert.DftP.main_arg1) = m ((c.tc : Thread Cert.DftP.nD Cert.DftP.τ).loc Cert.DftP.main_arg1)
      ∧ r.2.mem ((c.tc : Thread Cert.DftP.nD Cert.DftP.τ).loc Cert.DftP.main_arg2) = m ((c.tc : Thread Cert.DftP.nD Cert.DftP.τ).loc Cert.DftP.main_arg2))
      ∧ r.2.sem = fun _ => 0)

def quiescent_DftPIdeal [hDftPIdeal : Cert.DftPIdeal.Facts] : Prop :=
  ∀ (m : (ℓ : Loc Cert.DftPIdeal.nD Cert.DftPIdeal.τ Cert.DftPIdeal.sig) → Buf (Elt Ideal) ℓ) (g : Dev Cert.DftPIdeal.nD → PrngReg), Pre_DftPIdeal m →
    θ_run (Cert.DftPIdeal.defs (F := Ideal)) (onTc (τ := Cert.DftPIdeal.τ) (Cert.DftPIdeal.main (F := Ideal))) ⟨m, fun _ => 0, g⟩ (fun r => (∀ c : Dev Cert.DftPIdeal.nD,
      r.2.mem ((c.tc : Thread Cert.DftPIdeal.nD Cert.DftPIdeal.τ).loc Cert.DftPIdeal.main_arg0) = m ((c.tc : Thread Cert.DftPIdeal.nD Cert.DftPIdeal.τ).loc Cert.DftPIdeal.main_arg0)
      ∧ r.2.mem ((c.tc : Thread Cert.DftPIdeal.nD Cert.DftPIdeal.τ).loc Cert.DftPIdeal.main_arg1) = m ((c.tc : Thread Cert.DftPIdeal.nD Cert.DftPIdeal.τ).loc Cert.DftPIdeal.main_arg1)
      ∧ r.2.mem ((c.tc : Thread Cert.DftPIdeal.nD Cert.DftPIdeal.τ).loc Cert.DftPIdeal.main_arg2) = m ((c.tc : Thread Cert.DftPIdeal.nD Cert.DftPIdeal.τ).loc Cert.DftPIdeal.main_arg2))
      ∧ r.2.sem = fun _ => 0)

def quiescent_DftPRefIdeal [hDftPRefIdeal : Cert.DftPRefIdeal.Facts] : Prop :=
  ∀ (m : (ℓ : Loc Cert.DftPRefIdeal.nD Cert.DftPRefIdeal.τ Cert.DftPRefIdeal.sig) → Buf (Elt Ideal) ℓ) (g : Dev Cert.DftPRefIdeal.nD → PrngReg), Pre_DftPRefIdeal m →
    θ_run (Cert.DftPRefIdeal.defs (F := Ideal)) (onTc (τ := Cert.DftPRefIdeal.τ) (Cert.DftPRefIdeal.main (F := Ideal))) ⟨m, fun _ => 0, g⟩ (fun r => (∀ c : Dev Cert.DftPRefIdeal.nD,
      r.2.mem ((c.tc : Thread Cert.DftPRefIdeal.nD Cert.DftPRefIdeal.τ).loc Cert.DftPRefIdeal.main_arg0) = m ((c.tc : Thread Cert.DftPRefIdeal.nD Cert.DftPRefIdeal.τ).loc Cert.DftPRefIdeal.main_arg0)
      ∧ r.2.mem ((c.tc : Thread Cert.DftPRefIdeal.nD Cert.DftPRefIdeal.τ).loc Cert.DftPRefIdeal.main_arg1) = m ((c.tc : Thread Cert.DftPRefIdeal.nD Cert.DftPRefIdeal.τ).loc Cert.DftPRefIdeal.main_arg1)
      ∧ r.2.mem ((c.tc : Thread Cert.DftPRefIdeal.nD Cert.DftPRefIdeal.τ).loc Cert.DftPRefIdeal.main_arg2) = m ((c.tc : Thread Cert.DftPRefIdeal.nD Cert.DftPRefIdeal.τ).loc Cert.DftPRefIdeal.main_arg2))
      ∧ r.2.sem = fun _ => 0)

def quiescent_KernelSample [hKernelSample : Cert.KernelSample.Facts] : Prop :=
  ∀ (m : (ℓ : Loc Cert.KernelSample.nD Cert.KernelSample.τ Cert.KernelSample.sig) → Buf (Elt Bits) ℓ) (g : Dev Cert.KernelSample.nD → PrngReg), Pre_KernelSample m →
    θ_run (Cert.KernelSample.defs (F := Bits)) (onTc (τ := Cert.KernelSample.τ) (Cert.KernelSample.main (F := Bits))) ⟨m, fun _ => 0, g⟩ (fun r => (∀ c : Dev Cert.KernelSample.nD,
      r.2.mem ((c.tc : Thread Cert.KernelSample.nD Cert.KernelSample.τ).loc Cert.KernelSample.main_arg0) = m ((c.tc : Thread Cert.KernelSample.nD Cert.KernelSample.τ).loc Cert.KernelSample.main_arg0)
      ∧ r.2.mem ((c.tc : Thread Cert.KernelSample.nD Cert.KernelSample.τ).loc Cert.KernelSample.main_arg1) = m ((c.tc : Thread Cert.KernelSample.nD Cert.KernelSample.τ).loc Cert.KernelSample.main_arg1)
      ∧ r.2.mem ((c.tc : Thread Cert.KernelSample.nD Cert.KernelSample.τ).loc Cert.KernelSample.main_arg2) = m ((c.tc : Thread Cert.KernelSample.nD Cert.KernelSample.τ).loc Cert.KernelSample.main_arg2))
      ∧ r.2.sem = fun _ => 0)

def quiescent_KernelSampleIdeal [hKernelSampleIdeal : Cert.KernelSampleIdeal.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
      ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2))
      ∧ r.2.sem = fun _ => 0)

def quiescent_KernelSampleIdeal_pre_finite_keys_sample [hKernelSampleIdeal : Cert.KernelSampleIdeal.Facts] [hPre_finite_keys_sample : Cert.Pre_finite_keys_sample.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal_finite_keys_sample m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
      ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2))
      ∧ r.2.sem = fun _ => 0)

def quiescent_KernelSampleRefIdeal [hKernelSampleRefIdeal : Cert.KernelSampleRefIdeal.Facts] : Prop :=
  ∀ (m : (ℓ : Loc Cert.KernelSampleRefIdeal.nD Cert.KernelSampleRefIdeal.τ Cert.KernelSampleRefIdeal.sig) → Buf (Elt Ideal) ℓ) (g : Dev Cert.KernelSampleRefIdeal.nD → PrngReg), Pre_KernelSampleRefIdeal m →
    θ_run (Cert.KernelSampleRefIdeal.defs (F := Ideal)) (onTc (τ := Cert.KernelSampleRefIdeal.τ) (Cert.KernelSampleRefIdeal.main (F := Ideal))) ⟨m, fun _ => 0, g⟩ (fun r => (∀ c : Dev Cert.KernelSampleRefIdeal.nD,
      r.2.mem ((c.tc : Thread Cert.KernelSampleRefIdeal.nD Cert.KernelSampleRefIdeal.τ).loc Cert.KernelSampleRefIdeal.main_arg0) = m ((c.tc : Thread Cert.KernelSampleRefIdeal.nD Cert.KernelSampleRefIdeal.τ).loc Cert.KernelSampleRefIdeal.main_arg0)
      ∧ r.2.mem ((c.tc : Thread Cert.KernelSampleRefIdeal.nD Cert.KernelSampleRefIdeal.τ).loc Cert.KernelSampleRefIdeal.main_arg1) = m ((c.tc : Thread Cert.KernelSampleRefIdeal.nD Cert.KernelSampleRefIdeal.τ).loc Cert.KernelSampleRefIdeal.main_arg1)
      ∧ r.2.mem ((c.tc : Thread Cert.KernelSampleRefIdeal.nD Cert.KernelSampleRefIdeal.τ).loc Cert.KernelSampleRefIdeal.main_arg2) = m ((c.tc : Thread Cert.KernelSampleRefIdeal.nD Cert.KernelSampleRefIdeal.τ).loc Cert.KernelSampleRefIdeal.main_arg2))
      ∧ r.2.sem = fun _ => 0)

def quiescent_KernelSampleRefIdeal_pre_finite_keys_sample [hKernelSampleRefIdeal : Cert.KernelSampleRefIdeal.Facts] [hPre_finite_keys_sample : Cert.Pre_finite_keys_sample.Facts] : Prop :=
  ∀ (m : (ℓ : Loc Cert.KernelSampleRefIdeal.nD Cert.KernelSampleRefIdeal.τ Cert.KernelSampleRefIdeal.sig) → Buf (Elt Ideal) ℓ) (g : Dev Cert.KernelSampleRefIdeal.nD → PrngReg), Pre_KernelSampleRefIdeal_finite_keys_sample m →
    θ_run (Cert.KernelSampleRefIdeal.defs (F := Ideal)) (onTc (τ := Cert.KernelSampleRefIdeal.τ) (Cert.KernelSampleRefIdeal.main (F := Ideal))) ⟨m, fun _ => 0, g⟩ (fun r => (∀ c : Dev Cert.KernelSampleRefIdeal.nD,
      r.2.mem ((c.tc : Thread Cert.KernelSampleRefIdeal.nD Cert.KernelSampleRefIdeal.τ).loc Cert.KernelSampleRefIdeal.main_arg0) = m ((c.tc : Thread Cert.KernelSampleRefIdeal.nD Cert.KernelSampleRefIdeal.τ).loc Cert.KernelSampleRefIdeal.main_arg0)
      ∧ r.2.mem ((c.tc : Thread Cert.KernelSampleRefIdeal.nD Cert.KernelSampleRefIdeal.τ).loc Cert.KernelSampleRefIdeal.main_arg1) = m ((c.tc : Thread Cert.KernelSampleRefIdeal.nD Cert.KernelSampleRefIdeal.τ).loc Cert.KernelSampleRefIdeal.main_arg1)
      ∧ r.2.mem ((c.tc : Thread Cert.KernelSampleRefIdeal.nD Cert.KernelSampleRefIdeal.τ).loc Cert.KernelSampleRefIdeal.main_arg2) = m ((c.tc : Thread Cert.KernelSampleRefIdeal.nD Cert.KernelSampleRefIdeal.τ).loc Cert.KernelSampleRefIdeal.main_arg2))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1))
      ∧ r.2.sem = fun _ => 0)

def quiescent_OutProjSample [hOutProjSample : Cert.OutProjSample.Facts] : Prop :=
  ∀ (m : (ℓ : Loc Cert.OutProjSample.nD Cert.OutProjSample.τ Cert.OutProjSample.sig) → Buf (Elt Bits) ℓ) (g : Dev Cert.OutProjSample.nD → PrngReg), Pre_OutProjSample m →
    θ_run (Cert.OutProjSample.defs (F := Bits)) (onTc (τ := Cert.OutProjSample.τ) (Cert.OutProjSample.main (F := Bits))) ⟨m, fun _ => 0, g⟩ (fun r => (∀ c : Dev Cert.OutProjSample.nD,
      r.2.mem ((c.tc : Thread Cert.OutProjSample.nD Cert.OutProjSample.τ).loc Cert.OutProjSample.main_arg0) = m ((c.tc : Thread Cert.OutProjSample.nD Cert.OutProjSample.τ).loc Cert.OutProjSample.main_arg0)
      ∧ r.2.mem ((c.tc : Thread Cert.OutProjSample.nD Cert.OutProjSample.τ).loc Cert.OutProjSample.main_arg1) = m ((c.tc : Thread Cert.OutProjSample.nD Cert.OutProjSample.τ).loc Cert.OutProjSample.main_arg1)
      ∧ r.2.mem ((c.tc : Thread Cert.OutProjSample.nD Cert.OutProjSample.τ).loc Cert.OutProjSample.main_arg2) = m ((c.tc : Thread Cert.OutProjSample.nD Cert.OutProjSample.τ).loc Cert.OutProjSample.main_arg2))
      ∧ r.2.sem = fun _ => 0)

def quiescent_OutProjSampleIdeal [hOutProjSampleIdeal : Cert.OutProjSampleIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg), Pre_OutProjSampleIdeal m →
    θ_run (Cert.OutProjSampleIdeal.defs (F := Ideal)) (onTc (τ := Cert.OutProjSampleIdeal.τ) (Cert.OutProjSampleIdeal.main (F := Ideal))) ⟨m, fun _ => 0, g⟩ (fun r => (∀ c : Dev Cert.OutProjSampleIdeal.nD,
      r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
      ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
      ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2))
      ∧ r.2.sem = fun _ => 0)

def quiescent_OutProjSampleRefIdeal [hOutProjSampleRefIdeal : Cert.OutProjSampleRefIdeal.Facts] : Prop :=
  ∀ (m : (ℓ : Loc Cert.OutProjSampleRefIdeal.nD Cert.OutProjSampleRefIdeal.τ Cert.OutProjSampleRefIdeal.sig) → Buf (Elt Ideal) ℓ) (g : Dev Cert.OutProjSampleRefIdeal.nD → PrngReg), Pre_OutProjSampleRefIdeal m →
    θ_run (Cert.OutProjSampleRefIdeal.defs (F := Ideal)) (onTc (τ := Cert.OutProjSampleRefIdeal.τ) (Cert.OutProjSampleRefIdeal.main (F := Ideal))) ⟨m, fun _ => 0, g⟩ (fun r => (∀ c : Dev Cert.OutProjSampleRefIdeal.nD,
      r.2.mem ((c.tc : Thread Cert.OutProjSampleRefIdeal.nD Cert.OutProjSampleRefIdeal.τ).loc Cert.OutProjSampleRefIdeal.main_arg0) = m ((c.tc : Thread Cert.OutProjSampleRefIdeal.nD Cert.OutProjSampleRefIdeal.τ).loc Cert.OutProjSampleRefIdeal.main_arg0)
      ∧ r.2.mem ((c.tc : Thread Cert.OutProjSampleRefIdeal.nD Cert.OutProjSampleRefIdeal.τ).loc Cert.OutProjSampleRefIdeal.main_arg1) = m ((c.tc : Thread Cert.OutProjSampleRefIdeal.nD Cert.OutProjSampleRefIdeal.τ).loc Cert.OutProjSampleRefIdeal.main_arg1)
      ∧ r.2.mem ((c.tc : Thread Cert.OutProjSampleRefIdeal.nD Cert.OutProjSampleRefIdeal.τ).loc Cert.OutProjSampleRefIdeal.main_arg2) = m ((c.tc : Thread Cert.OutProjSampleRefIdeal.nD Cert.OutProjSampleRefIdeal.τ).loc Cert.OutProjSampleRefIdeal.main_arg2))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1))
      ∧ r.2.sem = fun _ => 0)

def quiescent_KeysSample [hKeysSample : Cert.KeysSample.Facts] : Prop :=
  ∀ (m : (ℓ : Loc Cert.KeysSample.nD Cert.KeysSample.τ Cert.KeysSample.sig) → Buf (Elt Bits) ℓ) (g : Dev Cert.KeysSample.nD → PrngReg), Pre_KeysSample m →
    θ_run (Cert.KeysSample.defs (F := Bits)) (onTc (τ := Cert.KeysSample.τ) (Cert.KeysSample.main (F := Bits))) ⟨m, fun _ => 0, g⟩ (fun r => (∀ c : Dev Cert.KeysSample.nD,
      r.2.mem ((c.tc : Thread Cert.KeysSample.nD Cert.KeysSample.τ).loc Cert.KeysSample.main_arg0) = m ((c.tc : Thread Cert.KeysSample.nD Cert.KeysSample.τ).loc Cert.KeysSample.main_arg0)
      ∧ r.2.mem ((c.tc : Thread Cert.KeysSample.nD Cert.KeysSample.τ).loc Cert.KeysSample.main_arg1) = m ((c.tc : Thread Cert.KeysSample.nD Cert.KeysSample.τ).loc Cert.KeysSample.main_arg1))
      ∧ r.2.sem = fun _ => 0)

def quiescent_KeysSampleIdeal [hKeysSampleIdeal : Cert.KeysSampleIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg), Pre_KeysSampleIdeal m →
    θ_run (Cert.KeysSampleIdeal.defs (F := Ideal)) (onTc (τ := Cert.KeysSampleIdeal.τ) (Cert.KeysSampleIdeal.main (F := Ideal))) ⟨m, fun _ => 0, g⟩ (fun r => (∀ c : Dev Cert.KeysSampleIdeal.nD,
      r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
      ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1))
      ∧ r.2.sem = fun _ => 0)

def quiescent_KeysSampleRefIdeal [hKeysSampleRefIdeal : Cert.KeysSampleRefIdeal.Facts] : Prop :=
  ∀ (m : (ℓ : Loc Cert.KeysSampleRefIdeal.nD Cert.KeysSampleRefIdeal.τ Cert.KeysSampleRefIdeal.sig) → Buf (Elt Ideal) ℓ) (g : Dev Cert.KeysSampleRefIdeal.nD → PrngReg), Pre_KeysSampleRefIdeal m →
    θ_run (Cert.KeysSampleRefIdeal.defs (F := Ideal)) (onTc (τ := Cert.KeysSampleRefIdeal.τ) (Cert.KeysSampleRefIdeal.main (F := Ideal))) ⟨m, fun _ => 0, g⟩ (fun r => (∀ c : Dev Cert.KeysSampleRefIdeal.nD,
      r.2.mem ((c.tc : Thread Cert.KeysSampleRefIdeal.nD Cert.KeysSampleRefIdeal.τ).loc Cert.KeysSampleRefIdeal.main_arg0) = m ((c.tc : Thread Cert.KeysSampleRefIdeal.nD Cert.KeysSampleRefIdeal.τ).loc Cert.KeysSampleRefIdeal.main_arg0)
      ∧ r.2.mem ((c.tc : Thread Cert.KeysSampleRefIdeal.nD Cert.KeysSampleRefIdeal.τ).loc Cert.KeysSampleRefIdeal.main_arg1) = m ((c.tc : Thread Cert.KeysSampleRefIdeal.nD Cert.KeysSampleRefIdeal.τ).loc Cert.KeysSampleRefIdeal.main_arg1))
      ∧ r.2.sem = fun _ => 0)

def quiescent_CaQSample [hCaQSample : Cert.CaQSample.Facts] : Prop :=
  ∀ (m : (ℓ : Loc Cert.CaQSample.nD Cert.CaQSample.τ Cert.CaQSample.sig) → Buf (Elt Bits) ℓ) (g : Dev Cert.CaQSample.nD → PrngReg), Pre_CaQSample m →
    θ_run (Cert.CaQSample.defs (F := Bits)) (onTc (τ := Cert.CaQSample.τ) (Cert.CaQSample.main (F := Bits))) ⟨m, fun _ => 0, g⟩ (fun r => (∀ c : Dev Cert.CaQSample.nD,
      r.2.mem ((c.tc : Thread Cert.CaQSample.nD Cert.CaQSample.τ).loc Cert.CaQSample.main_arg0) = m ((c.tc : Thread Cert.CaQSample.nD Cert.CaQSample.τ).loc Cert.CaQSample.main_arg0)
      ∧ r.2.mem ((c.tc : Thread Cert.CaQSample.nD Cert.CaQSample.τ).loc Cert.CaQSample.main_arg1) = m ((c.tc : Thread Cert.CaQSample.nD Cert.CaQSample.τ).loc Cert.CaQSample.main_arg1))
      ∧ r.2.sem = fun _ => 0)

def quiescent_CaQSampleIdeal [hCaQSampleIdeal : Cert.CaQSampleIdeal.Facts] : Prop :=
  ∀ (m : (ℓ : Loc Cert.CaQSampleIdeal.nD Cert.CaQSampleIdeal.τ Cert.CaQSampleIdeal.sig) → Buf (Elt Ideal) ℓ) (g : Dev Cert.CaQSampleIdeal.nD → PrngReg), Pre_CaQSampleIdeal m →
    θ_run (Cert.CaQSampleIdeal.defs (F := Ideal)) (onTc (τ := Cert.CaQSampleIdeal.τ) (Cert.CaQSampleIdeal.main (F := Ideal))) ⟨m, fun _ => 0, g⟩ (fun r => (∀ c : Dev Cert.CaQSampleIdeal.nD,
      r.2.mem ((c.tc : Thread Cert.CaQSampleIdeal.nD Cert.CaQSampleIdeal.τ).loc Cert.CaQSampleIdeal.main_arg0) = m ((c.tc : Thread Cert.CaQSampleIdeal.nD Cert.CaQSampleIdeal.τ).loc Cert.CaQSampleIdeal.main_arg0)
      ∧ r.2.mem ((c.tc : Thread Cert.CaQSampleIdeal.nD Cert.CaQSampleIdeal.τ).loc Cert.CaQSampleIdeal.main_arg1) = m ((c.tc : Thread Cert.CaQSampleIdeal.nD Cert.CaQSampleIdeal.τ).loc Cert.CaQSampleIdeal.main_arg1))
      ∧ r.2.sem = fun _ => 0)

def quiescent_CaQSampleRefIdeal [hCaQSampleRefIdeal : Cert.CaQSampleRefIdeal.Facts] : Prop :=
  ∀ (m : (ℓ : Loc Cert.CaQSampleRefIdeal.nD Cert.CaQSampleRefIdeal.τ Cert.CaQSampleRefIdeal.sig) → Buf (Elt Ideal) ℓ) (g : Dev Cert.CaQSampleRefIdeal.nD → PrngReg), Pre_CaQSampleRefIdeal m →
    θ_run (Cert.CaQSampleRefIdeal.defs (F := Ideal)) (onTc (τ := Cert.CaQSampleRefIdeal.τ) (Cert.CaQSampleRefIdeal.main (F := Ideal))) ⟨m, fun _ => 0, g⟩ (fun r => (∀ c : Dev Cert.CaQSampleRefIdeal.nD,
      r.2.mem ((c.tc : Thread Cert.CaQSampleRefIdeal.nD Cert.CaQSampleRefIdeal.τ).loc Cert.CaQSampleRefIdeal.main_arg0) = m ((c.tc : Thread Cert.CaQSampleRefIdeal.nD Cert.CaQSampleRefIdeal.τ).loc Cert.CaQSampleRefIdeal.main_arg0)
      ∧ r.2.mem ((c.tc : Thread Cert.CaQSampleRefIdeal.nD Cert.CaQSampleRefIdeal.τ).loc Cert.CaQSampleRefIdeal.main_arg1) = m ((c.tc : Thread Cert.CaQSampleRefIdeal.nD Cert.CaQSampleRefIdeal.τ).loc Cert.CaQSampleRefIdeal.main_arg1))
      ∧ r.2.sem = fun _ => 0)

def quiescent_CaSample [hCaSample : Cert.CaSample.Facts] : Prop :=
  ∀ (m : (ℓ : Loc Cert.CaSample.nD Cert.CaSample.τ Cert.CaSample.sig) → Buf (Elt Bits) ℓ) (g : Dev Cert.CaSample.nD → PrngReg), Pre_CaSample m →
    θ_run (Cert.CaSample.defs (F := Bits)) (onTc (τ := Cert.CaSample.τ) (Cert.CaSample.main (F := Bits))) ⟨m, fun _ => 0, g⟩ (fun r => (∀ c : Dev Cert.CaSample.nD,
      r.2.mem ((c.tc : Thread Cert.CaSample.nD Cert.CaSample.τ).loc Cert.CaSample.main_arg0) = m ((c.tc : Thread Cert.CaSample.nD Cert.CaSample.τ).loc Cert.CaSample.main_arg0)
      ∧ r.2.mem ((c.tc : Thread Cert.CaSample.nD Cert.CaSample.τ).loc Cert.CaSample.main_arg1) = m ((c.tc : Thread Cert.CaSample.nD Cert.CaSample.τ).loc Cert.CaSample.main_arg1))
      ∧ r.2.sem = fun _ => 0)

def quiescent_CaSampleIdeal [hCaSampleIdeal : Cert.CaSampleIdeal.Facts] : Prop :=
  ∀ (m : (ℓ : Loc Cert.CaSampleIdeal.nD Cert.CaSampleIdeal.τ Cert.CaSampleIdeal.sig) → Buf (Elt Ideal) ℓ) (g : Dev Cert.CaSampleIdeal.nD → PrngReg), Pre_CaSampleIdeal m →
    θ_run (Cert.CaSampleIdeal.defs (F := Ideal)) (onTc (τ := Cert.CaSampleIdeal.τ) (Cert.CaSampleIdeal.main (F := Ideal))) ⟨m, fun _ => 0, g⟩ (fun r => (∀ c : Dev Cert.CaSampleIdeal.nD,
      r.2.mem ((c.tc : Thread Cert.CaSampleIdeal.nD Cert.CaSampleIdeal.τ).loc Cert.CaSampleIdeal.main_arg0) = m ((c.tc : Thread Cert.CaSampleIdeal.nD Cert.CaSampleIdeal.τ).loc Cert.CaSampleIdeal.main_arg0)
      ∧ r.2.mem ((c.tc : Thread Cert.CaSampleIdeal.nD Cert.CaSampleIdeal.τ).loc Cert.CaSampleIdeal.main_arg1) = m ((c.tc : Thread Cert.CaSampleIdeal.nD Cert.CaSampleIdeal.τ).loc Cert.CaSampleIdeal.main_arg1))
      ∧ r.2.sem = fun _ => 0)

def quiescent_CaSampleIdeal_pre_finite_ca_sample [hCaSampleIdeal : Cert.CaSampleIdeal.Facts] [hPre_finite_ca_sample : Cert.Pre_finite_ca_sample.Facts] : Prop :=
  ∀ (m : (ℓ : Loc Cert.CaSampleIdeal.nD Cert.CaSampleIdeal.τ Cert.CaSampleIdeal.sig) → Buf (Elt Ideal) ℓ) (g : Dev Cert.CaSampleIdeal.nD → PrngReg), Pre_CaSampleIdeal_finite_ca_sample m →
    θ_run (Cert.CaSampleIdeal.defs (F := Ideal)) (onTc (τ := Cert.CaSampleIdeal.τ) (Cert.CaSampleIdeal.main (F := Ideal))) ⟨m, fun _ => 0, g⟩ (fun r => (∀ c : Dev Cert.CaSampleIdeal.nD,
      r.2.mem ((c.tc : Thread Cert.CaSampleIdeal.nD Cert.CaSampleIdeal.τ).loc Cert.CaSampleIdeal.main_arg0) = m ((c.tc : Thread Cert.CaSampleIdeal.nD Cert.CaSampleIdeal.τ).loc Cert.CaSampleIdeal.main_arg0)
      ∧ r.2.mem ((c.tc : Thread Cert.CaSampleIdeal.nD Cert.CaSampleIdeal.τ).loc Cert.CaSampleIdeal.main_arg1) = m ((c.tc : Thread Cert.CaSampleIdeal.nD Cert.CaSampleIdeal.τ).loc Cert.CaSampleIdeal.main_arg1))
      ∧ r.2.sem = fun _ => 0)

def quiescent_CaSampleRefIdeal [hCaSampleRefIdeal : Cert.CaSampleRefIdeal.Facts] : Prop :=
  ∀ (m : (ℓ : Loc Cert.CaSampleRefIdeal.nD Cert.CaSampleRefIdeal.τ Cert.CaSampleRefIdeal.sig) → Buf (Elt Ideal) ℓ) (g : Dev Cert.CaSampleRefIdeal.nD → PrngReg), Pre_CaSampleRefIdeal m →
    θ_run (Cert.CaSampleRefIdeal.defs (F := Ideal)) (onTc (τ := Cert.CaSampleRefIdeal.τ) (Cert.CaSampleRefIdeal.main (F := Ideal))) ⟨m, fun _ => 0, g⟩ (fun r => (∀ c : Dev Cert.CaSampleRefIdeal.nD,
      r.2.mem ((c.tc : Thread Cert.CaSampleRefIdeal.nD Cert.CaSampleRefIdeal.τ).loc Cert.CaSampleRefIdeal.main_arg0) = m ((c.tc : Thread Cert.CaSampleRefIdeal.nD Cert.CaSampleRefIdeal.τ).loc Cert.CaSampleRefIdeal.main_arg0)
      ∧ r.2.mem ((c.tc : Thread Cert.CaSampleRefIdeal.nD Cert.CaSampleRefIdeal.τ).loc Cert.CaSampleRefIdeal.main_arg1) = m ((c.tc : Thread Cert.CaSampleRefIdeal.nD Cert.CaSampleRefIdeal.τ).loc Cert.CaSampleRefIdeal.main_arg1))
      ∧ r.2.sem = fun _ => 0)

def quiescent_CaSampleRefIdeal_pre_finite_ca_sample [hCaSampleRefIdeal : Cert.CaSampleRefIdeal.Facts] [hPre_finite_ca_sample : Cert.Pre_finite_ca_sample.Facts] : Prop :=
  ∀ (m : (ℓ : Loc Cert.CaSampleRefIdeal.nD Cert.CaSampleRefIdeal.τ Cert.CaSampleRefIdeal.sig) → Buf (Elt Ideal) ℓ) (g : Dev Cert.CaSampleRefIdeal.nD → PrngReg), Pre_CaSampleRefIdeal_finite_ca_sample m →
    θ_run (Cert.CaSampleRefIdeal.defs (F := Ideal)) (onTc (τ := Cert.CaSampleRefIdeal.τ) (Cert.CaSampleRefIdeal.main (F := Ideal))) ⟨m, fun _ => 0, g⟩ (fun r => (∀ c : Dev Cert.CaSampleRefIdeal.nD,
      r.2.mem ((c.tc : Thread Cert.CaSampleRefIdeal.nD Cert.CaSampleRefIdeal.τ).loc Cert.CaSampleRefIdeal.main_arg0) = m ((c.tc : Thread Cert.CaSampleRefIdeal.nD Cert.CaSampleRefIdeal.τ).loc Cert.CaSampleRefIdeal.main_arg0)
      ∧ r.2.mem ((c.tc : Thread Cert.CaSampleRefIdeal.nD Cert.CaSampleRefIdeal.τ).loc Cert.CaSampleRefIdeal.main_arg1) = m ((c.tc : Thread Cert.CaSampleRefIdeal.nD Cert.CaSampleRefIdeal.τ).loc Cert.CaSampleRefIdeal.main_arg1))
      ∧ r.2.sem = fun _ => 0)

def quiescent_CaOutSample [hCaOutSample : Cert.CaOutSample.Facts] : Prop :=
  ∀ (m : (ℓ : Loc Cert.CaOutSample.nD Cert.CaOutSample.τ Cert.CaOutSample.sig) → Buf (Elt Bits) ℓ) (g : Dev Cert.CaOutSample.nD → PrngReg), Pre_CaOutSample m →
    θ_run (Cert.CaOutSample.defs (F := Bits)) (onTc (τ := Cert.CaOutSample.τ) (Cert.CaOutSample.main (F := Bits))) ⟨m, fun _ => 0, g⟩ (fun r => (∀ c : Dev Cert.CaOutSample.nD,
      r.2.mem ((c.tc : Thread Cert.CaOutSample.nD Cert.CaOutSample.τ).loc Cert.CaOutSample.main_arg0) = m ((c.tc : Thread Cert.CaOutSample.nD Cert.CaOutSample.τ).loc Cert.CaOutSample.main_arg0)
      ∧ r.2.mem ((c.tc : Thread Cert.CaOutSample.nD Cert.CaOutSample.τ).loc Cert.CaOutSample.main_arg1) = m ((c.tc : Thread Cert.CaOutSample.nD Cert.CaOutSample.τ).loc Cert.CaOutSample.main_arg1)
      ∧ r.2.mem ((c.tc : Thread Cert.CaOutSample.nD Cert.CaOutSample.τ).loc Cert.CaOutSample.main_arg2) = m ((c.tc : Thread Cert.CaOutSample.nD Cert.CaOutSample.τ).loc Cert.CaOutSample.main_arg2))
      ∧ r.2.sem = fun _ => 0)

def quiescent_CaOutSampleIdeal [hCaOutSampleIdeal : Cert.CaOutSampleIdeal.Facts] : Prop :=
  ∀ (m : (ℓ : Loc Cert.CaOutSampleIdeal.nD Cert.CaOutSampleIdeal.τ Cert.CaOutSampleIdeal.sig) → Buf (Elt Ideal) ℓ) (g : Dev Cert.CaOutSampleIdeal.nD → PrngReg), Pre_CaOutSampleIdeal m →
    θ_run (Cert.CaOutSampleIdeal.defs (F := Ideal)) (onTc (τ := Cert.CaOutSampleIdeal.τ) (Cert.CaOutSampleIdeal.main (F := Ideal))) ⟨m, fun _ => 0, g⟩ (fun r => (∀ c : Dev Cert.CaOutSampleIdeal.nD,
      r.2.mem ((c.tc : Thread Cert.CaOutSampleIdeal.nD Cert.CaOutSampleIdeal.τ).loc Cert.CaOutSampleIdeal.main_arg0) = m ((c.tc : Thread Cert.CaOutSampleIdeal.nD Cert.CaOutSampleIdeal.τ).loc Cert.CaOutSampleIdeal.main_arg0)
      ∧ r.2.mem ((c.tc : Thread Cert.CaOutSampleIdeal.nD Cert.CaOutSampleIdeal.τ).loc Cert.CaOutSampleIdeal.main_arg1) = m ((c.tc : Thread Cert.CaOutSampleIdeal.nD Cert.CaOutSampleIdeal.τ).loc Cert.CaOutSampleIdeal.main_arg1)
      ∧ r.2.mem ((c.tc : Thread Cert.CaOutSampleIdeal.nD Cert.CaOutSampleIdeal.τ).loc Cert.CaOutSampleIdeal.main_arg2) = m ((c.tc : Thread Cert.CaOutSampleIdeal.nD Cert.CaOutSampleIdeal.τ).loc Cert.CaOutSampleIdeal.main_arg2))
      ∧ r.2.sem = fun _ => 0)

def quiescent_CaOutSampleRefIdeal [hCaOutSampleRefIdeal : Cert.CaOutSampleRefIdeal.Facts] : Prop :=
  ∀ (m : (ℓ : Loc Cert.CaOutSampleRefIdeal.nD Cert.CaOutSampleRefIdeal.τ Cert.CaOutSampleRefIdeal.sig) → Buf (Elt Ideal) ℓ) (g : Dev Cert.CaOutSampleRefIdeal.nD → PrngReg), Pre_CaOutSampleRefIdeal m →
    θ_run (Cert.CaOutSampleRefIdeal.defs (F := Ideal)) (onTc (τ := Cert.CaOutSampleRefIdeal.τ) (Cert.CaOutSampleRefIdeal.main (F := Ideal))) ⟨m, fun _ => 0, g⟩ (fun r => (∀ c : Dev Cert.CaOutSampleRefIdeal.nD,
      r.2.mem ((c.tc : Thread Cert.CaOutSampleRefIdeal.nD Cert.CaOutSampleRefIdeal.τ).loc Cert.CaOutSampleRefIdeal.main_arg0) = m ((c.tc : Thread Cert.CaOutSampleRefIdeal.nD Cert.CaOutSampleRefIdeal.τ).loc Cert.CaOutSampleRefIdeal.main_arg0)
      ∧ r.2.mem ((c.tc : Thread Cert.CaOutSampleRefIdeal.nD Cert.CaOutSampleRefIdeal.τ).loc Cert.CaOutSampleRefIdeal.main_arg1) = m ((c.tc : Thread Cert.CaOutSampleRefIdeal.nD Cert.CaOutSampleRefIdeal.τ).loc Cert.CaOutSampleRefIdeal.main_arg1)
      ∧ r.2.mem ((c.tc : Thread Cert.CaOutSampleRefIdeal.nD Cert.CaOutSampleRefIdeal.τ).loc Cert.CaOutSampleRefIdeal.main_arg2) = m ((c.tc : Thread Cert.CaOutSampleRefIdeal.nD Cert.CaOutSampleRefIdeal.τ).loc Cert.CaOutSampleRefIdeal.main_arg2))
      ∧ r.2.sem = fun _ => 0)

def quiescent_RouteSample [hRouteSample : Cert.RouteSample.Facts] : Prop :=
  ∀ (m : (ℓ : Loc Cert.RouteSample.nD Cert.RouteSample.τ Cert.RouteSample.sig) → Buf (Elt Bits) ℓ) (g : Dev Cert.RouteSample.nD → PrngReg), Pre_RouteSample m →
    θ_run (Cert.RouteSample.defs (F := Bits)) (onTc (τ := Cert.RouteSample.τ) (Cert.RouteSample.main (F := Bits))) ⟨m, fun _ => 0, g⟩ (fun r => (∀ c : Dev Cert.RouteSample.nD,
      r.2.mem ((c.tc : Thread Cert.RouteSample.nD Cert.RouteSample.τ).loc Cert.RouteSample.main_arg0) = m ((c.tc : Thread Cert.RouteSample.nD Cert.RouteSample.τ).loc Cert.RouteSample.main_arg0)
      ∧ r.2.mem ((c.tc : Thread Cert.RouteSample.nD Cert.RouteSample.τ).loc Cert.RouteSample.main_arg1) = m ((c.tc : Thread Cert.RouteSample.nD Cert.RouteSample.τ).loc Cert.RouteSample.main_arg1)
      ∧ r.2.mem ((c.tc : Thread Cert.RouteSample.nD Cert.RouteSample.τ).loc Cert.RouteSample.main_arg2) = m ((c.tc : Thread Cert.RouteSample.nD Cert.RouteSample.τ).loc Cert.RouteSample.main_arg2)
      ∧ r.2.mem ((c.tc : Thread Cert.RouteSample.nD Cert.RouteSample.τ).loc Cert.RouteSample.main_arg3) = m ((c.tc : Thread Cert.RouteSample.nD Cert.RouteSample.τ).loc Cert.RouteSample.main_arg3))
      ∧ r.2.sem = fun _ => 0)

def quiescent_RouteSampleIdeal [hRouteSampleIdeal : Cert.RouteSampleIdeal.Facts] : Prop :=
  ∀ (m : (ℓ : Loc Cert.RouteSampleIdeal.nD Cert.RouteSampleIdeal.τ Cert.RouteSampleIdeal.sig) → Buf (Elt Ideal) ℓ) (g : Dev Cert.RouteSampleIdeal.nD → PrngReg), Pre_RouteSampleIdeal m →
    θ_run (Cert.RouteSampleIdeal.defs (F := Ideal)) (onTc (τ := Cert.RouteSampleIdeal.τ) (Cert.RouteSampleIdeal.main (F := Ideal))) ⟨m, fun _ => 0, g⟩ (fun r => (∀ c : Dev Cert.RouteSampleIdeal.nD,
      r.2.mem ((c.tc : Thread Cert.RouteSampleIdeal.nD Cert.RouteSampleIdeal.τ).loc Cert.RouteSampleIdeal.main_arg0) = m ((c.tc : Thread Cert.RouteSampleIdeal.nD Cert.RouteSampleIdeal.τ).loc Cert.RouteSampleIdeal.main_arg0)
      ∧ r.2.mem ((c.tc : Thread Cert.RouteSampleIdeal.nD Cert.RouteSampleIdeal.τ).loc Cert.RouteSampleIdeal.main_arg1) = m ((c.tc : Thread Cert.RouteSampleIdeal.nD Cert.RouteSampleIdeal.τ).loc Cert.RouteSampleIdeal.main_arg1)
      ∧ r.2.mem ((c.tc : Thread Cert.RouteSampleIdeal.nD Cert.RouteSampleIdeal.τ).loc Cert.RouteSampleIdeal.main_arg2) = m ((c.tc : Thread Cert.RouteSampleIdeal.nD Cert.RouteSampleIdeal.τ).loc Cert.RouteSampleIdeal.main_arg2)
      ∧ r.2.mem ((c.tc : Thread Cert.RouteSampleIdeal.nD Cert.RouteSampleIdeal.τ).loc Cert.RouteSampleIdeal.main_arg3) = m ((c.tc : Thread Cert.RouteSampleIdeal.nD Cert.RouteSampleIdeal.τ).loc Cert.RouteSampleIdeal.main_arg3))
      ∧ r.2.sem = fun _ => 0)

def quiescent_RouteSampleRefIdeal [hRouteSampleRefIdeal : Cert.RouteSampleRefIdeal.Facts] : Prop :=
  ∀ (m : (ℓ : Loc Cert.RouteSampleRefIdeal.nD Cert.RouteSampleRefIdeal.τ Cert.RouteSampleRefIdeal.sig) → Buf (Elt Ideal) ℓ) (g : Dev Cert.RouteSampleRefIdeal.nD → PrngReg), Pre_RouteSampleRefIdeal m →
    θ_run (Cert.RouteSampleRefIdeal.defs (F := Ideal)) (onTc (τ := Cert.RouteSampleRefIdeal.τ) (Cert.RouteSampleRefIdeal.main (F := Ideal))) ⟨m, fun _ => 0, g⟩ (fun r => (∀ c : Dev Cert.RouteSampleRefIdeal.nD,
      r.2.mem ((c.tc : Thread Cert.RouteSampleRefIdeal.nD Cert.RouteSampleRefIdeal.τ).loc Cert.RouteSampleRefIdeal.main_arg0) = m ((c.tc : Thread Cert.RouteSampleRefIdeal.nD Cert.RouteSampleRefIdeal.τ).loc Cert.RouteSampleRefIdeal.main_arg0)
      ∧ r.2.mem ((c.tc : Thread Cert.RouteSampleRefIdeal.nD Cert.RouteSampleRefIdeal.τ).loc Cert.RouteSampleRefIdeal.main_arg1) = m ((c.tc : Thread Cert.RouteSampleRefIdeal.nD Cert.RouteSampleRefIdeal.τ).loc Cert.RouteSampleRefIdeal.main_arg1)
      ∧ r.2.mem ((c.tc : Thread Cert.RouteSampleRefIdeal.nD Cert.RouteSampleRefIdeal.τ).loc Cert.RouteSampleRefIdeal.main_arg2) = m ((c.tc : Thread Cert.RouteSampleRefIdeal.nD Cert.RouteSampleRefIdeal.τ).loc Cert.RouteSampleRefIdeal.main_arg2)
      ∧ r.2.mem ((c.tc : Thread Cert.RouteSampleRefIdeal.nD Cert.RouteSampleRefIdeal.τ).loc Cert.RouteSampleRefIdeal.main_arg3) = m ((c.tc : Thread Cert.RouteSampleRefIdeal.nD Cert.RouteSampleRefIdeal.τ).loc Cert.RouteSampleRefIdeal.main_arg3))
      ∧ r.2.sem = fun _ => 0)

def quiescent_DftCSample [hDftCSample : Cert.DftCSample.Facts] : Prop :=
  ∀ (m : (ℓ : Loc Cert.DftCSample.nD Cert.DftCSample.τ Cert.DftCSample.sig) → Buf (Elt Bits) ℓ) (g : Dev Cert.DftCSample.nD → PrngReg), Pre_DftCSample m →
    θ_run (Cert.DftCSample.defs (F := Bits)) (onTc (τ := Cert.DftCSample.τ) (Cert.DftCSample.main (F := Bits))) ⟨m, fun _ => 0, g⟩ (fun r => (∀ c : Dev Cert.DftCSample.nD,
      r.2.mem ((c.tc : Thread Cert.DftCSample.nD Cert.DftCSample.τ).loc Cert.DftCSample.main_arg0) = m ((c.tc : Thread Cert.DftCSample.nD Cert.DftCSample.τ).loc Cert.DftCSample.main_arg0)
      ∧ r.2.mem ((c.tc : Thread Cert.DftCSample.nD Cert.DftCSample.τ).loc Cert.DftCSample.main_arg1) = m ((c.tc : Thread Cert.DftCSample.nD Cert.DftCSample.τ).loc Cert.DftCSample.main_arg1))
      ∧ r.2.sem = fun _ => 0)

def quiescent_DftCSampleIdeal [hDftCSampleIdeal : Cert.DftCSampleIdeal.Facts] : Prop :=
  ∀ (m : (ℓ : Loc Cert.DftCSampleIdeal.nD Cert.DftCSampleIdeal.τ Cert.DftCSampleIdeal.sig) → Buf (Elt Ideal) ℓ) (g : Dev Cert.DftCSampleIdeal.nD → PrngReg), Pre_DftCSampleIdeal m →
    θ_run (Cert.DftCSampleIdeal.defs (F := Ideal)) (onTc (τ := Cert.DftCSampleIdeal.τ) (Cert.DftCSampleIdeal.main (F := Ideal))) ⟨m, fun _ => 0, g⟩ (fun r => (∀ c : Dev Cert.DftCSampleIdeal.nD,
      r.2.mem ((c.tc : Thread Cert.DftCSampleIdeal.nD Cert.DftCSampleIdeal.τ).loc Cert.DftCSampleIdeal.main_arg0) = m ((c.tc : Thread Cert.DftCSampleIdeal.nD Cert.DftCSampleIdeal.τ).loc Cert.DftCSampleIdeal.main_arg0)
      ∧ r.2.mem ((c.tc : Thread Cert.DftCSampleIdeal.nD Cert.DftCSampleIdeal.τ).loc Cert.DftCSampleIdeal.main_arg1) = m ((c.tc : Thread Cert.DftCSampleIdeal.nD Cert.DftCSampleIdeal.τ).loc Cert.DftCSampleIdeal.main_arg1))
      ∧ r.2.sem = fun _ => 0)

def quiescent_DftCSampleRefIdeal [hDftCSampleRefIdeal : Cert.DftCSampleRefIdeal.Facts] : Prop :=
  ∀ (m : (ℓ : Loc Cert.DftCSampleRefIdeal.nD Cert.DftCSampleRefIdeal.τ Cert.DftCSampleRefIdeal.sig) → Buf (Elt Ideal) ℓ) (g : Dev Cert.DftCSampleRefIdeal.nD → PrngReg), Pre_DftCSampleRefIdeal m →
    θ_run (Cert.DftCSampleRefIdeal.defs (F := Ideal)) (onTc (τ := Cert.DftCSampleRefIdeal.τ) (Cert.DftCSampleRefIdeal.main (F := Ideal))) ⟨m, fun _ => 0, g⟩ (fun r => (∀ c : Dev Cert.DftCSampleRefIdeal.nD,
      r.2.mem ((c.tc : Thread Cert.DftCSampleRefIdeal.nD Cert.DftCSampleRefIdeal.τ).loc Cert.DftCSampleRefIdeal.main_arg0) = m ((c.tc : Thread Cert.DftCSampleRefIdeal.nD Cert.DftCSampleRefIdeal.τ).loc Cert.DftCSampleRefIdeal.main_arg0)
      ∧ r.2.mem ((c.tc : Thread Cert.DftCSampleRefIdeal.nD Cert.DftCSampleRefIdeal.τ).loc Cert.DftCSampleRefIdeal.main_arg1) = m ((c.tc : Thread Cert.DftCSampleRefIdeal.nD Cert.DftCSampleRefIdeal.τ).loc Cert.DftCSampleRefIdeal.main_arg1))
      ∧ r.2.sem = fun _ => 0)

def quiescent_DftPSample [hDftPSample : Cert.DftPSample.Facts] : Prop :=
  ∀ (m : (ℓ : Loc Cert.DftPSample.nD Cert.DftPSample.τ Cert.DftPSample.sig) → Buf (Elt Bits) ℓ) (g : Dev Cert.DftPSample.nD → PrngReg), Pre_DftPSample m →
    θ_run (Cert.DftPSample.defs (F := Bits)) (onTc (τ := Cert.DftPSample.τ) (Cert.DftPSample.main (F := Bits))) ⟨m, fun _ => 0, g⟩ (fun r => (∀ c : Dev Cert.DftPSample.nD,
      r.2.mem ((c.tc : Thread Cert.DftPSample.nD Cert.DftPSample.τ).loc Cert.DftPSample.main_arg0) = m ((c.tc : Thread Cert.DftPSample.nD Cert.DftPSample.τ).loc Cert.DftPSample.main_arg0)
      ∧ r.2.mem ((c.tc : Thread Cert.DftPSample.nD Cert.DftPSample.τ).loc Cert.DftPSample.main_arg1) = m ((c.tc : Thread Cert.DftPSample.nD Cert.DftPSample.τ).loc Cert.DftPSample.main_arg1)
      ∧ r.2.mem ((c.tc : Thread Cert.DftPSample.nD Cert.DftPSample.τ).loc Cert.DftPSample.main_arg2) = m ((c.tc : Thread Cert.DftPSample.nD Cert.DftPSample.τ).loc Cert.DftPSample.main_arg2))
      ∧ r.2.sem = fun _ => 0)

def quiescent_DftPSampleIdeal [hDftPSampleIdeal : Cert.DftPSampleIdeal.Facts] : Prop :=
  ∀ (m : (ℓ : Loc Cert.DftPSampleIdeal.nD Cert.DftPSampleIdeal.τ Cert.DftPSampleIdeal.sig) → Buf (Elt Ideal) ℓ) (g : Dev Cert.DftPSampleIdeal.nD → PrngReg), Pre_DftPSampleIdeal m →
    θ_run (Cert.DftPSampleIdeal.defs (F := Ideal)) (onTc (τ := Cert.DftPSampleIdeal.τ) (Cert.DftPSampleIdeal.main (F := Ideal))) ⟨m, fun _ => 0, g⟩ (fun r => (∀ c : Dev Cert.DftPSampleIdeal.nD,
      r.2.mem ((c.tc : Thread Cert.DftPSampleIdeal.nD Cert.DftPSampleIdeal.τ).loc Cert.DftPSampleIdeal.main_arg0) = m ((c.tc : Thread Cert.DftPSampleIdeal.nD Cert.DftPSampleIdeal.τ).loc Cert.DftPSampleIdeal.main_arg0)
      ∧ r.2.mem ((c.tc : Thread Cert.DftPSampleIdeal.nD Cert.DftPSampleIdeal.τ).loc Cert.DftPSampleIdeal.main_arg1) = m ((c.tc : Thread Cert.DftPSampleIdeal.nD Cert.DftPSampleIdeal.τ).loc Cert.DftPSampleIdeal.main_arg1)
      ∧ r.2.mem ((c.tc : Thread Cert.DftPSampleIdeal.nD Cert.DftPSampleIdeal.τ).loc Cert.DftPSampleIdeal.main_arg2) = m ((c.tc : Thread Cert.DftPSampleIdeal.nD Cert.DftPSampleIdeal.τ).loc Cert.DftPSampleIdeal.main_arg2))
      ∧ r.2.sem = fun _ => 0)

def quiescent_DftPSampleRefIdeal [hDftPSampleRefIdeal : Cert.DftPSampleRefIdeal.Facts] : Prop :=
  ∀ (m : (ℓ : Loc Cert.DftPSampleRefIdeal.nD Cert.DftPSampleRefIdeal.τ Cert.DftPSampleRefIdeal.sig) → Buf (Elt Ideal) ℓ) (g : Dev Cert.DftPSampleRefIdeal.nD → PrngReg), Pre_DftPSampleRefIdeal m →
    θ_run (Cert.DftPSampleRefIdeal.defs (F := Ideal)) (onTc (τ := Cert.DftPSampleRefIdeal.τ) (Cert.DftPSampleRefIdeal.main (F := Ideal))) ⟨m, fun _ => 0, g⟩ (fun r => (∀ c : Dev Cert.DftPSampleRefIdeal.nD,
      r.2.mem ((c.tc : Thread Cert.DftPSampleRefIdeal.nD Cert.DftPSampleRefIdeal.τ).loc Cert.DftPSampleRefIdeal.main_arg0) = m ((c.tc : Thread Cert.DftPSampleRefIdeal.nD Cert.DftPSampleRefIdeal.τ).loc Cert.DftPSampleRefIdeal.main_arg0)
      ∧ r.2.mem ((c.tc : Thread Cert.DftPSampleRefIdeal.nD Cert.DftPSampleRefIdeal.τ).loc Cert.DftPSampleRefIdeal.main_arg1) = m ((c.tc : Thread Cert.DftPSampleRefIdeal.nD Cert.DftPSampleRefIdeal.τ).loc Cert.DftPSampleRefIdeal.main_arg1)
      ∧ r.2.mem ((c.tc : Thread Cert.DftPSampleRefIdeal.nD Cert.DftPSampleRefIdeal.τ).loc Cert.DftPSampleRefIdeal.main_arg2) = m ((c.tc : Thread Cert.DftPSampleRefIdeal.nD Cert.DftPSampleRefIdeal.τ).loc Cert.DftPSampleRefIdeal.main_arg2))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v47)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v47) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v6) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v14) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2))

def preserves_LastSample_LastSampleIdeal : Prop :=
  True

def algebraic_LastSampleIdeal_LastSampleRefIdeal [hLastSampleIdeal : Cert.LastSampleIdeal.Facts] [hLastSampleRefIdeal : Cert.LastSampleRefIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleRefIdeal.nD Cert.LastSampleRefIdeal.τ Cert.LastSampleRefIdeal.sig) → Buf (Elt Ideal) ℓ) (g' : Dev Cert.LastSampleRefIdeal.nD → PrngReg), Pre_LastSampleIdeal m →
    (∀ c : Dev Cert.LastSampleIdeal.nD,
      m' ((c.tc : Thread Cert.LastSampleRefIdeal.nD Cert.LastSampleRefIdeal.τ).loc Cert.LastSampleRefIdeal.main_arg0) = m ((c.tc : Thread Cert.LastSampleIdeal.nD Cert.LastSampleIdeal.τ).loc Cert.LastSampleIdeal.main_arg0)
      ∧ m' ((c.tc : Thread Cert.LastSampleRefIdeal.nD Cert.LastSampleRefIdeal.τ).loc Cert.LastSampleRefIdeal.main_arg1) = m ((c.tc : Thread Cert.LastSampleIdeal.nD Cert.LastSampleIdeal.τ).loc Cert.LastSampleIdeal.main_arg1)
      ∧ m' ((c.tc : Thread Cert.LastSampleRefIdeal.nD Cert.LastSampleRefIdeal.τ).loc Cert.LastSampleRefIdeal.main_arg2) = m ((c.tc : Thread Cert.LastSampleIdeal.nD Cert.LastSampleIdeal.τ).loc Cert.LastSampleIdeal.main_arg2)) →
    ∃ (v0 : (c : Dev Cert.LastSampleIdeal.nD) → Buf (Elt Ideal) ((c.tc : Thread Cert.LastSampleIdeal.nD Cert.LastSampleIdeal.τ).loc Cert.LastSampleIdeal.main_v1)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v1) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2))
      ∧ θ_run (Cert.LastSampleRefIdeal.defs (F := Ideal)) (onTc (τ := Cert.LastSampleRefIdeal.τ) (Cert.LastSampleRefIdeal.main (F := Ideal))) ⟨m', fun _ => 0, g'⟩ (fun r => ∀ c : Dev Cert.LastSampleRefIdeal.nD,
          r.2.mem ((c.tc : Thread Cert.LastSampleRefIdeal.nD Cert.LastSampleRefIdeal.τ).loc Cert.LastSampleRefIdeal.main_v14) = v0 c
          ∧ r.2.mem ((c.tc : Thread Cert.LastSampleRefIdeal.nD Cert.LastSampleRefIdeal.τ).loc Cert.LastSampleRefIdeal.main_arg0) = m' ((c.tc : Thread Cert.LastSampleRefIdeal.nD Cert.LastSampleRefIdeal.τ).loc Cert.LastSampleRefIdeal.main_arg0)
          ∧ r.2.mem ((c.tc : Thread Cert.LastSampleRefIdeal.nD Cert.LastSampleRefIdeal.τ).loc Cert.LastSampleRefIdeal.main_arg1) = m' ((c.tc : Thread Cert.LastSampleRefIdeal.nD Cert.LastSampleRefIdeal.τ).loc Cert.LastSampleRefIdeal.main_arg1)
          ∧ r.2.mem ((c.tc : Thread Cert.LastSampleRefIdeal.nD Cert.LastSampleRefIdeal.τ).loc Cert.LastSampleRefIdeal.main_arg2) = m' ((c.tc : Thread Cert.LastSampleRefIdeal.nD Cert.LastSampleRefIdeal.τ).loc Cert.LastSampleRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v38)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v38) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v67) = v0 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1))

def preserves_CaQ_CaQIdeal : Prop :=
  True

def algebraic_CaQIdeal_CaQRefIdeal [hCaQIdeal : Cert.CaQIdeal.Facts] [hCaQRefIdeal : Cert.CaQRefIdeal.Facts] : Prop :=
  ∀ (m : (ℓ : Loc Cert.CaQIdeal.nD Cert.CaQIdeal.τ Cert.CaQIdeal.sig) → Buf (Elt Ideal) ℓ) (g : Dev Cert.CaQIdeal.nD → PrngReg)
    (m' : (ℓ : Loc Cert.CaQRefIdeal.nD Cert.CaQRefIdeal.τ Cert.CaQRefIdeal.sig) → Buf (Elt Ideal) ℓ) (g' : Dev Cert.CaQRefIdeal.nD → PrngReg), Pre_CaQIdeal m →
    (∀ c : Dev Cert.CaQIdeal.nD,
      m' ((c.tc : Thread Cert.CaQRefIdeal.nD Cert.CaQRefIdeal.τ).loc Cert.CaQRefIdeal.main_arg0) = m ((c.tc : Thread Cert.CaQIdeal.nD Cert.CaQIdeal.τ).loc Cert.CaQIdeal.main_arg0)
      ∧ m' ((c.tc : Thread Cert.CaQRefIdeal.nD Cert.CaQRefIdeal.τ).loc Cert.CaQRefIdeal.main_arg1) = m ((c.tc : Thread Cert.CaQIdeal.nD Cert.CaQIdeal.τ).loc Cert.CaQIdeal.main_arg1)) →
    ∃ (v0 : (c : Dev Cert.CaQIdeal.nD) → Buf (Elt Ideal) ((c.tc : Thread Cert.CaQIdeal.nD Cert.CaQIdeal.τ).loc Cert.CaQIdeal.main_v2)),
      θ_run (Cert.CaQIdeal.defs (F := Ideal)) (onTc (τ := Cert.CaQIdeal.τ) (Cert.CaQIdeal.main (F := Ideal))) ⟨m, fun _ => 0, g⟩ (fun r => ∀ c : Dev Cert.CaQIdeal.nD,
          r.2.mem ((c.tc : Thread Cert.CaQIdeal.nD Cert.CaQIdeal.τ).loc Cert.CaQIdeal.main_v2) = v0 c
          ∧ r.2.mem ((c.tc : Thread Cert.CaQIdeal.nD Cert.CaQIdeal.τ).loc Cert.CaQIdeal.main_arg0) = m ((c.tc : Thread Cert.CaQIdeal.nD Cert.CaQIdeal.τ).loc Cert.CaQIdeal.main_arg0)
          ∧ r.2.mem ((c.tc : Thread Cert.CaQIdeal.nD Cert.CaQIdeal.τ).loc Cert.CaQIdeal.main_arg1) = m ((c.tc : Thread Cert.CaQIdeal.nD Cert.CaQIdeal.τ).loc Cert.CaQIdeal.main_arg1))
      ∧ θ_run (Cert.CaQRefIdeal.defs (F := Ideal)) (onTc (τ := Cert.CaQRefIdeal.τ) (Cert.CaQRefIdeal.main (F := Ideal))) ⟨m', fun _ => 0, g'⟩ (fun r => ∀ c : Dev Cert.CaQRefIdeal.nD,
          r.2.mem ((c.tc : Thread Cert.CaQRefIdeal.nD Cert.CaQRefIdeal.τ).loc Cert.CaQRefIdeal.main_v5) = v0 c
          ∧ r.2.mem ((c.tc : Thread Cert.CaQRefIdeal.nD Cert.CaQRefIdeal.τ).loc Cert.CaQRefIdeal.main_arg0) = m' ((c.tc : Thread Cert.CaQRefIdeal.nD Cert.CaQRefIdeal.τ).loc Cert.CaQRefIdeal.main_arg0)
          ∧ r.2.mem ((c.tc : Thread Cert.CaQRefIdeal.nD Cert.CaQRefIdeal.τ).loc Cert.CaQRefIdeal.main_arg1) = m' ((c.tc : Thread Cert.CaQRefIdeal.nD Cert.CaQRefIdeal.τ).loc Cert.CaQRefIdeal.main_arg1))

def preserves_CaKv_CaKvIdeal : Prop :=
  True

def algebraic_CaKvIdeal_CaKvRefIdeal [hCaKvIdeal : Cert.CaKvIdeal.Facts] [hCaKvRefIdeal : Cert.CaKvRefIdeal.Facts] : Prop :=
  ∀ (m : (ℓ : Loc Cert.CaKvIdeal.nD Cert.CaKvIdeal.τ Cert.CaKvIdeal.sig) → Buf (Elt Ideal) ℓ) (g : Dev Cert.CaKvIdeal.nD → PrngReg)
    (m' : (ℓ : Loc Cert.CaKvRefIdeal.nD Cert.CaKvRefIdeal.τ Cert.CaKvRefIdeal.sig) → Buf (Elt Ideal) ℓ) (g' : Dev Cert.CaKvRefIdeal.nD → PrngReg), Pre_CaKvIdeal m →
    (∀ c : Dev Cert.CaKvIdeal.nD,
      m' ((c.tc : Thread Cert.CaKvRefIdeal.nD Cert.CaKvRefIdeal.τ).loc Cert.CaKvRefIdeal.main_arg0) = m ((c.tc : Thread Cert.CaKvIdeal.nD Cert.CaKvIdeal.τ).loc Cert.CaKvIdeal.main_arg0)
      ∧ m' ((c.tc : Thread Cert.CaKvRefIdeal.nD Cert.CaKvRefIdeal.τ).loc Cert.CaKvRefIdeal.main_arg1) = m ((c.tc : Thread Cert.CaKvIdeal.nD Cert.CaKvIdeal.τ).loc Cert.CaKvIdeal.main_arg1)
      ∧ m' ((c.tc : Thread Cert.CaKvRefIdeal.nD Cert.CaKvRefIdeal.τ).loc Cert.CaKvRefIdeal.main_arg2) = m ((c.tc : Thread Cert.CaKvIdeal.nD Cert.CaKvIdeal.τ).loc Cert.CaKvIdeal.main_arg2)) →
    ∃ (v0 : (c : Dev Cert.CaKvIdeal.nD) → Buf (Elt Ideal) ((c.tc : Thread Cert.CaKvIdeal.nD Cert.CaKvIdeal.τ).loc Cert.CaKvIdeal.main_v5)),
      θ_run (Cert.CaKvIdeal.defs (F := Ideal)) (onTc (τ := Cert.CaKvIdeal.τ) (Cert.CaKvIdeal.main (F := Ideal))) ⟨m, fun _ => 0, g⟩ (fun r => ∀ c : Dev Cert.CaKvIdeal.nD,
          r.2.mem ((c.tc : Thread Cert.CaKvIdeal.nD Cert.CaKvIdeal.τ).loc Cert.CaKvIdeal.main_v5) = v0 c
          ∧ r.2.mem ((c.tc : Thread Cert.CaKvIdeal.nD Cert.CaKvIdeal.τ).loc Cert.CaKvIdeal.main_arg0) = m ((c.tc : Thread Cert.CaKvIdeal.nD Cert.CaKvIdeal.τ).loc Cert.CaKvIdeal.main_arg0)
          ∧ r.2.mem ((c.tc : Thread Cert.CaKvIdeal.nD Cert.CaKvIdeal.τ).loc Cert.CaKvIdeal.main_arg1) = m ((c.tc : Thread Cert.CaKvIdeal.nD Cert.CaKvIdeal.τ).loc Cert.CaKvIdeal.main_arg1)
          ∧ r.2.mem ((c.tc : Thread Cert.CaKvIdeal.nD Cert.CaKvIdeal.τ).loc Cert.CaKvIdeal.main_arg2) = m ((c.tc : Thread Cert.CaKvIdeal.nD Cert.CaKvIdeal.τ).loc Cert.CaKvIdeal.main_arg2))
      ∧ θ_run (Cert.CaKvRefIdeal.defs (F := Ideal)) (onTc (τ := Cert.CaKvRefIdeal.τ) (Cert.CaKvRefIdeal.main (F := Ideal))) ⟨m', fun _ => 0, g'⟩ (fun r => ∀ c : Dev Cert.CaKvRefIdeal.nD,
          r.2.mem ((c.tc : Thread Cert.CaKvRefIdeal.nD Cert.CaKvRefIdeal.τ).loc Cert.CaKvRefIdeal.main_v17) = v0 c
          ∧ r.2.mem ((c.tc : Thread Cert.CaKvRefIdeal.nD Cert.CaKvRefIdeal.τ).loc Cert.CaKvRefIdeal.main_arg0) = m' ((c.tc : Thread Cert.CaKvRefIdeal.nD Cert.CaKvRefIdeal.τ).loc Cert.CaKvRefIdeal.main_arg0)
          ∧ r.2.mem ((c.tc : Thread Cert.CaKvRefIdeal.nD Cert.CaKvRefIdeal.τ).loc Cert.CaKvRefIdeal.main_arg1) = m' ((c.tc : Thread Cert.CaKvRefIdeal.nD Cert.CaKvRefIdeal.τ).loc Cert.CaKvRefIdeal.main_arg1)
          ∧ r.2.mem ((c.tc : Thread Cert.CaKvRefIdeal.nD Cert.CaKvRefIdeal.τ).loc Cert.CaKvRefIdeal.main_arg2) = m' ((c.tc : Thread Cert.CaKvRefIdeal.nD Cert.CaKvRefIdeal.τ).loc Cert.CaKvRefIdeal.main_arg2))

def preserves_Ca_CaIdeal : Prop :=
  True

def algebraic_CaIdeal_CaRefIdeal_pre_finite_ca [hCaIdeal : Cert.CaIdeal.Facts] [hCaRefIdeal : Cert.CaRefIdeal.Facts] [hPre_finite_ca : Cert.Pre_finite_ca.Facts] : Prop :=
  ∀ (m : (ℓ : Loc Cert.CaIdeal.nD Cert.CaIdeal.τ Cert.CaIdeal.sig) → Buf (Elt Ideal) ℓ) (g : Dev Cert.CaIdeal.nD → PrngReg)
    (m' : (ℓ : Loc Cert.CaRefIdeal.nD Cert.CaRefIdeal.τ Cert.CaRefIdeal.sig) → Buf (Elt Ideal) ℓ) (g' : Dev Cert.CaRefIdeal.nD → PrngReg), Pre_CaIdeal_finite_ca m →
    (∀ c : Dev Cert.CaIdeal.nD,
      m' ((c.tc : Thread Cert.CaRefIdeal.nD Cert.CaRefIdeal.τ).loc Cert.CaRefIdeal.main_arg0) = m ((c.tc : Thread Cert.CaIdeal.nD Cert.CaIdeal.τ).loc Cert.CaIdeal.main_arg0)
      ∧ m' ((c.tc : Thread Cert.CaRefIdeal.nD Cert.CaRefIdeal.τ).loc Cert.CaRefIdeal.main_arg1) = m ((c.tc : Thread Cert.CaIdeal.nD Cert.CaIdeal.τ).loc Cert.CaIdeal.main_arg1)) →
    ∃ (v0 : (c : Dev Cert.CaIdeal.nD) → Buf (Elt Ideal) ((c.tc : Thread Cert.CaIdeal.nD Cert.CaIdeal.τ).loc Cert.CaIdeal.main_v2)),
      θ_run (Cert.CaIdeal.defs (F := Ideal)) (onTc (τ := Cert.CaIdeal.τ) (Cert.CaIdeal.main (F := Ideal))) ⟨m, fun _ => 0, g⟩ (fun r => ∀ c : Dev Cert.CaIdeal.nD,
          r.2.mem ((c.tc : Thread Cert.CaIdeal.nD Cert.CaIdeal.τ).loc Cert.CaIdeal.main_v2) = v0 c
          ∧ r.2.mem ((c.tc : Thread Cert.CaIdeal.nD Cert.CaIdeal.τ).loc Cert.CaIdeal.main_arg0) = m ((c.tc : Thread Cert.CaIdeal.nD Cert.CaIdeal.τ).loc Cert.CaIdeal.main_arg0)
          ∧ r.2.mem ((c.tc : Thread Cert.CaIdeal.nD Cert.CaIdeal.τ).loc Cert.CaIdeal.main_arg1) = m ((c.tc : Thread Cert.CaIdeal.nD Cert.CaIdeal.τ).loc Cert.CaIdeal.main_arg1))
      ∧ θ_run (Cert.CaRefIdeal.defs (F := Ideal)) (onTc (τ := Cert.CaRefIdeal.τ) (Cert.CaRefIdeal.main (F := Ideal))) ⟨m', fun _ => 0, g'⟩ (fun r => ∀ c : Dev Cert.CaRefIdeal.nD,
          r.2.mem ((c.tc : Thread Cert.CaRefIdeal.nD Cert.CaRefIdeal.τ).loc Cert.CaRefIdeal.main_v23) = v0 c
          ∧ r.2.mem ((c.tc : Thread Cert.CaRefIdeal.nD Cert.CaRefIdeal.τ).loc Cert.CaRefIdeal.main_arg0) = m' ((c.tc : Thread Cert.CaRefIdeal.nD Cert.CaRefIdeal.τ).loc Cert.CaRefIdeal.main_arg0)
          ∧ r.2.mem ((c.tc : Thread Cert.CaRefIdeal.nD Cert.CaRefIdeal.τ).loc Cert.CaRefIdeal.main_arg1) = m' ((c.tc : Thread Cert.CaRefIdeal.nD Cert.CaRefIdeal.τ).loc Cert.CaRefIdeal.main_arg1))

def preserves_CaOut_CaOutIdeal : Prop :=
  True

def algebraic_CaOutIdeal_CaOutRefIdeal [hCaOutIdeal : Cert.CaOutIdeal.Facts] [hCaOutRefIdeal : Cert.CaOutRefIdeal.Facts] : Prop :=
  ∀ (m : (ℓ : Loc Cert.CaOutIdeal.nD Cert.CaOutIdeal.τ Cert.CaOutIdeal.sig) → Buf (Elt Ideal) ℓ) (g : Dev Cert.CaOutIdeal.nD → PrngReg)
    (m' : (ℓ : Loc Cert.CaOutRefIdeal.nD Cert.CaOutRefIdeal.τ Cert.CaOutRefIdeal.sig) → Buf (Elt Ideal) ℓ) (g' : Dev Cert.CaOutRefIdeal.nD → PrngReg), Pre_CaOutIdeal m →
    (∀ c : Dev Cert.CaOutIdeal.nD,
      m' ((c.tc : Thread Cert.CaOutRefIdeal.nD Cert.CaOutRefIdeal.τ).loc Cert.CaOutRefIdeal.main_arg0) = m ((c.tc : Thread Cert.CaOutIdeal.nD Cert.CaOutIdeal.τ).loc Cert.CaOutIdeal.main_arg0)
      ∧ m' ((c.tc : Thread Cert.CaOutRefIdeal.nD Cert.CaOutRefIdeal.τ).loc Cert.CaOutRefIdeal.main_arg1) = m ((c.tc : Thread Cert.CaOutIdeal.nD Cert.CaOutIdeal.τ).loc Cert.CaOutIdeal.main_arg1)
      ∧ m' ((c.tc : Thread Cert.CaOutRefIdeal.nD Cert.CaOutRefIdeal.τ).loc Cert.CaOutRefIdeal.main_arg2) = m ((c.tc : Thread Cert.CaOutIdeal.nD Cert.CaOutIdeal.τ).loc Cert.CaOutIdeal.main_arg2)) →
    ∃ (v0 : (c : Dev Cert.CaOutIdeal.nD) → Buf (Elt Ideal) ((c.tc : Thread Cert.CaOutIdeal.nD Cert.CaOutIdeal.τ).loc Cert.CaOutIdeal.main_v2)),
      θ_run (Cert.CaOutIdeal.defs (F := Ideal)) (onTc (τ := Cert.CaOutIdeal.τ) (Cert.CaOutIdeal.main (F := Ideal))) ⟨m, fun _ => 0, g⟩ (fun r => ∀ c : Dev Cert.CaOutIdeal.nD,
          r.2.mem ((c.tc : Thread Cert.CaOutIdeal.nD Cert.CaOutIdeal.τ).loc Cert.CaOutIdeal.main_v2) = v0 c
          ∧ r.2.mem ((c.tc : Thread Cert.CaOutIdeal.nD Cert.CaOutIdeal.τ).loc Cert.CaOutIdeal.main_arg0) = m ((c.tc : Thread Cert.CaOutIdeal.nD Cert.CaOutIdeal.τ).loc Cert.CaOutIdeal.main_arg0)
          ∧ r.2.mem ((c.tc : Thread Cert.CaOutIdeal.nD Cert.CaOutIdeal.τ).loc Cert.CaOutIdeal.main_arg1) = m ((c.tc : Thread Cert.CaOutIdeal.nD Cert.CaOutIdeal.τ).loc Cert.CaOutIdeal.main_arg1)
          ∧ r.2.mem ((c.tc : Thread Cert.CaOutIdeal.nD Cert.CaOutIdeal.τ).loc Cert.CaOutIdeal.main_arg2) = m ((c.tc : Thread Cert.CaOutIdeal.nD Cert.CaOutIdeal.τ).loc Cert.CaOutIdeal.main_arg2))
      ∧ θ_run (Cert.CaOutRefIdeal.defs (F := Ideal)) (onTc (τ := Cert.CaOutRefIdeal.τ) (Cert.CaOutRefIdeal.main (F := Ideal))) ⟨m', fun _ => 0, g'⟩ (fun r => ∀ c : Dev Cert.CaOutRefIdeal.nD,
          r.2.mem ((c.tc : Thread Cert.CaOutRefIdeal.nD Cert.CaOutRefIdeal.τ).loc Cert.CaOutRefIdeal.main_v3) = v0 c
          ∧ r.2.mem ((c.tc : Thread Cert.CaOutRefIdeal.nD Cert.CaOutRefIdeal.τ).loc Cert.CaOutRefIdeal.main_arg0) = m' ((c.tc : Thread Cert.CaOutRefIdeal.nD Cert.CaOutRefIdeal.τ).loc Cert.CaOutRefIdeal.main_arg0)
          ∧ r.2.mem ((c.tc : Thread Cert.CaOutRefIdeal.nD Cert.CaOutRefIdeal.τ).loc Cert.CaOutRefIdeal.main_arg1) = m' ((c.tc : Thread Cert.CaOutRefIdeal.nD Cert.CaOutRefIdeal.τ).loc Cert.CaOutRefIdeal.main_arg1)
          ∧ r.2.mem ((c.tc : Thread Cert.CaOutRefIdeal.nD Cert.CaOutRefIdeal.τ).loc Cert.CaOutRefIdeal.main_arg2) = m' ((c.tc : Thread Cert.CaOutRefIdeal.nD Cert.CaOutRefIdeal.τ).loc Cert.CaOutRefIdeal.main_arg2))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)) →
    ∃ (v0 : (c : Dev Cert.RouteIdeal.nD) → Buf (Elt Ideal) ((c.tc : Thread Cert.RouteIdeal.nD Cert.RouteIdeal.τ).loc Cert.RouteIdeal.main_v24_0)) (v1 : (c : Dev Cert.RouteIdeal.nD) → Buf (Elt Ideal) ((c.tc : Thread Cert.RouteIdeal.nD Cert.RouteIdeal.τ).loc Cert.RouteIdeal.main_v24_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v24_0) = v0 c
          ∧ r.2.mem ((c.tc : Thread Cert.RouteIdeal.nD Cert.RouteIdeal.τ).loc Cert.RouteIdeal.main_v24_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v22) = v0 c
          ∧ r.2.mem ((c.tc : Thread Cert.RouteRefIdeal.nD Cert.RouteRefIdeal.τ).loc Cert.RouteRefIdeal.main_v25) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3))

def preserves_DftC_DftCIdeal : Prop :=
  True

def algebraic_DftCIdeal_DftCRefIdeal [hDftCIdeal : Cert.DftCIdeal.Facts] [hDftCRefIdeal : Cert.DftCRefIdeal.Facts] : Prop :=
  ∀ (m : (ℓ : Loc Cert.DftCIdeal.nD Cert.DftCIdeal.τ Cert.DftCIdeal.sig) → Buf (Elt Ideal) ℓ) (g : Dev Cert.DftCIdeal.nD → PrngReg)
    (m' : (ℓ : Loc Cert.DftCRefIdeal.nD Cert.DftCRefIdeal.τ Cert.DftCRefIdeal.sig) → Buf (Elt Ideal) ℓ) (g' : Dev Cert.DftCRefIdeal.nD → PrngReg), Pre_DftCIdeal m →
    (∀ c : Dev Cert.DftCIdeal.nD,
      m' ((c.tc : Thread Cert.DftCRefIdeal.nD Cert.DftCRefIdeal.τ).loc Cert.DftCRefIdeal.main_arg0) = m ((c.tc : Thread Cert.DftCIdeal.nD Cert.DftCIdeal.τ).loc Cert.DftCIdeal.main_arg0)
      ∧ m' ((c.tc : Thread Cert.DftCRefIdeal.nD Cert.DftCRefIdeal.τ).loc Cert.DftCRefIdeal.main_arg1) = m ((c.tc : Thread Cert.DftCIdeal.nD Cert.DftCIdeal.τ).loc Cert.DftCIdeal.main_arg1)) →
    ∃ (v0 : (c : Dev Cert.DftCIdeal.nD) → Buf (Elt Ideal) ((c.tc : Thread Cert.DftCIdeal.nD Cert.DftCIdeal.τ).loc Cert.DftCIdeal.main_v0)),
      θ_run (Cert.DftCIdeal.defs (F := Ideal)) (onTc (τ := Cert.DftCIdeal.τ) (Cert.DftCIdeal.main (F := Ideal))) ⟨m, fun _ => 0, g⟩ (fun r => ∀ c : Dev Cert.DftCIdeal.nD,
          r.2.mem ((c.tc : Thread Cert.DftCIdeal.nD Cert.DftCIdeal.τ).loc Cert.DftCIdeal.main_v0) = v0 c
          ∧ r.2.mem ((c.tc : Thread Cert.DftCIdeal.nD Cert.DftCIdeal.τ).loc Cert.DftCIdeal.main_arg0) = m ((c.tc : Thread Cert.DftCIdeal.nD Cert.DftCIdeal.τ).loc Cert.DftCIdeal.main_arg0)
          ∧ r.2.mem ((c.tc : Thread Cert.DftCIdeal.nD Cert.DftCIdeal.τ).loc Cert.DftCIdeal.main_arg1) = m ((c.tc : Thread Cert.DftCIdeal.nD Cert.DftCIdeal.τ).loc Cert.DftCIdeal.main_arg1))
      ∧ θ_run (Cert.DftCRefIdeal.defs (F := Ideal)) (onTc (τ := Cert.DftCRefIdeal.τ) (Cert.DftCRefIdeal.main (F := Ideal))) ⟨m', fun _ => 0, g'⟩ (fun r => ∀ c : Dev Cert.DftCRefIdeal.nD,
          r.2.mem ((c.tc : Thread Cert.DftCRefIdeal.nD Cert.DftCRefIdeal.τ).loc Cert.DftCRefIdeal.main_v4) = v0 c
          ∧ r.2.mem ((c.tc : Thread Cert.DftCRefIdeal.nD Cert.DftCRefIdeal.τ).loc Cert.DftCRefIdeal.main_arg0) = m' ((c.tc : Thread Cert.DftCRefIdeal.nD Cert.DftCRefIdeal.τ).loc Cert.DftCRefIdeal.main_arg0)
          ∧ r.2.mem ((c.tc : Thread Cert.DftCRefIdeal.nD Cert.DftCRefIdeal.τ).loc Cert.DftCRefIdeal.main_arg1) = m' ((c.tc : Thread Cert.DftCRefIdeal.nD Cert.DftCRefIdeal.τ).loc Cert.DftCRefIdeal.main_arg1))

def preserves_DftP_DftPIdeal : Prop :=
  True

def algebraic_DftPIdeal_DftPRefIdeal [hDftPIdeal : Cert.DftPIdeal.Facts] [hDftPRefIdeal : Cert.DftPRefIdeal.Facts] : Prop :=
  ∀ (m : (ℓ : Loc Cert.DftPIdeal.nD Cert.DftPIdeal.τ Cert.DftPIdeal.sig) → Buf (Elt Ideal) ℓ) (g : Dev Cert.DftPIdeal.nD → PrngReg)
    (m' : (ℓ : Loc Cert.DftPRefIdeal.nD Cert.DftPRefIdeal.τ Cert.DftPRefIdeal.sig) → Buf (Elt Ideal) ℓ) (g' : Dev Cert.DftPRefIdeal.nD → PrngReg), Pre_DftPIdeal m →
    (∀ c : Dev Cert.DftPIdeal.nD,
      m' ((c.tc : Thread Cert.DftPRefIdeal.nD Cert.DftPRefIdeal.τ).loc Cert.DftPRefIdeal.main_arg0) = m ((c.tc : Thread Cert.DftPIdeal.nD Cert.DftPIdeal.τ).loc Cert.DftPIdeal.main_arg0)
      ∧ m' ((c.tc : Thread Cert.DftPRefIdeal.nD Cert.DftPRefIdeal.τ).loc Cert.DftPRefIdeal.main_arg1) = m ((c.tc : Thread Cert.DftPIdeal.nD Cert.DftPIdeal.τ).loc Cert.DftPIdeal.main_arg1)
      ∧ m' ((c.tc : Thread Cert.DftPRefIdeal.nD Cert.DftPRefIdeal.τ).loc Cert.DftPRefIdeal.main_arg2) = m ((c.tc : Thread Cert.DftPIdeal.nD Cert.DftPIdeal.τ).loc Cert.DftPIdeal.main_arg2)) →
    ∃ (v0 : (c : Dev Cert.DftPIdeal.nD) → Buf (Elt Ideal) ((c.tc : Thread Cert.DftPIdeal.nD Cert.DftPIdeal.τ).loc Cert.DftPIdeal.main_v1)),
      θ_run (Cert.DftPIdeal.defs (F := Ideal)) (onTc (τ := Cert.DftPIdeal.τ) (Cert.DftPIdeal.main (F := Ideal))) ⟨m, fun _ => 0, g⟩ (fun r => ∀ c : Dev Cert.DftPIdeal.nD,
          r.2.mem ((c.tc : Thread Cert.DftPIdeal.nD Cert.DftPIdeal.τ).loc Cert.DftPIdeal.main_v1) = v0 c
          ∧ r.2.mem ((c.tc : Thread Cert.DftPIdeal.nD Cert.DftPIdeal.τ).loc Cert.DftPIdeal.main_arg0) = m ((c.tc : Thread Cert.DftPIdeal.nD Cert.DftPIdeal.τ).loc Cert.DftPIdeal.main_arg0)
          ∧ r.2.mem ((c.tc : Thread Cert.DftPIdeal.nD Cert.DftPIdeal.τ).loc Cert.DftPIdeal.main_arg1) = m ((c.tc : Thread Cert.DftPIdeal.nD Cert.DftPIdeal.τ).loc Cert.DftPIdeal.main_arg1)
          ∧ r.2.mem ((c.tc : Thread Cert.DftPIdeal.nD Cert.DftPIdeal.τ).loc Cert.DftPIdeal.main_arg2) = m ((c.tc : Thread Cert.DftPIdeal.nD Cert.DftPIdeal.τ).loc Cert.DftPIdeal.main_arg2))
      ∧ θ_run (Cert.DftPRefIdeal.defs (F := Ideal)) (onTc (τ := Cert.DftPRefIdeal.τ) (Cert.DftPRefIdeal.main (F := Ideal))) ⟨m', fun _ => 0, g'⟩ (fun r => ∀ c : Dev Cert.DftPRefIdeal.nD,
          r.2.mem ((c.tc : Thread Cert.DftPRefIdeal.nD Cert.DftPRefIdeal.τ).loc Cert.DftPRefIdeal.main_v13) = v0 c
          ∧ r.2.mem ((c.tc : Thread Cert.DftPRefIdeal.nD Cert.DftPRefIdeal.τ).loc Cert.DftPRefIdeal.main_arg0) = m' ((c.tc : Thread Cert.DftPRefIdeal.nD Cert.DftPRefIdeal.τ).loc Cert.DftPRefIdeal.main_arg0)
          ∧ r.2.mem ((c.tc : Thread Cert.DftPRefIdeal.nD Cert.DftPRefIdeal.τ).loc Cert.DftPRefIdeal.main_arg1) = m' ((c.tc : Thread Cert.DftPRefIdeal.nD Cert.DftPRefIdeal.τ).loc Cert.DftPRefIdeal.main_arg1)
          ∧ r.2.mem ((c.tc : Thread Cert.DftPRefIdeal.nD Cert.DftPRefIdeal.τ).loc Cert.DftPRefIdeal.main_arg2) = m' ((c.tc : Thread Cert.DftPRefIdeal.nD Cert.DftPRefIdeal.τ).loc Cert.DftPRefIdeal.main_arg2))

def preserves_KernelSample_KernelSampleIdeal : Prop :=
  True

def algebraic_KernelSampleIdeal_KernelSampleRefIdeal_pre_finite_keys_sample [hKernelSampleIdeal : Cert.KernelSampleIdeal.Facts] [hKernelSampleRefIdeal : Cert.KernelSampleRefIdeal.Facts] [hPre_finite_keys_sample : Cert.Pre_finite_keys_sample.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg)
    (m' : (ℓ : Loc Cert.KernelSampleRefIdeal.nD Cert.KernelSampleRefIdeal.τ Cert.KernelSampleRefIdeal.sig) → Buf (Elt Ideal) ℓ) (g' : Dev Cert.KernelSampleRefIdeal.nD → PrngReg), Pre_KernelSampleIdeal_finite_keys_sample m →
    (∀ c : Dev Cert.KernelSampleIdeal.nD,
      m' ((c.tc : Thread Cert.KernelSampleRefIdeal.nD Cert.KernelSampleRefIdeal.τ).loc Cert.KernelSampleRefIdeal.main_arg0) = m ((c.tc : Thread Cert.KernelSampleIdeal.nD Cert.KernelSampleIdeal.τ).loc Cert.KernelSampleIdeal.main_arg0)
      ∧ m' ((c.tc : Thread Cert.KernelSampleRefIdeal.nD Cert.KernelSampleRefIdeal.τ).loc Cert.KernelSampleRefIdeal.main_arg1) = m ((c.tc : Thread Cert.KernelSampleIdeal.nD Cert.KernelSampleIdeal.τ).loc Cert.KernelSampleIdeal.main_arg1)
      ∧ m' ((c.tc : Thread Cert.KernelSampleRefIdeal.nD Cert.KernelSampleRefIdeal.τ).loc Cert.KernelSampleRefIdeal.main_arg2) = m ((c.tc : Thread Cert.KernelSampleIdeal.nD Cert.KernelSampleIdeal.τ).loc Cert.KernelSampleIdeal.main_arg2)) →
    ∃ (v0 : (c : Dev Cert.KernelSampleIdeal.nD) → Buf (Elt Ideal) ((c.tc : Thread Cert.KernelSampleIdeal.nD Cert.KernelSampleIdeal.τ).loc Cert.KernelSampleIdeal.main_v39)),
      θ_run (Cert.KernelSampleIdeal.defs (F := Ideal)) (onTc (τ := Cert.KernelSampleIdeal.τ) (Cert.KernelSampleIdeal.main (F := Ideal))) ⟨m, fun _ => 0, g⟩ (fun r => ∀ c : Dev Cert.KernelSampleIdeal.nD,
          r.2.mem ((c.tc : Thread Cert.KernelSampleIdeal.nD Cert.KernelSampleIdeal.τ).loc Cert.KernelSampleIdeal.main_v39) = v0 c
          ∧ r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
          ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
          ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2))
      ∧ θ_run (Cert.KernelSampleRefIdeal.defs (F := Ideal)) (onTc (τ := Cert.KernelSampleRefIdeal.τ) (Cert.KernelSampleRefIdeal.main (F := Ideal))) ⟨m', fun _ => 0, g'⟩ (fun r => ∀ c : Dev Cert.KernelSampleRefIdeal.nD,
          r.2.mem ((c.tc : Thread Cert.KernelSampleRefIdeal.nD Cert.KernelSampleRefIdeal.τ).loc Cert.KernelSampleRefIdeal.main_v90) = v0 c
          ∧ r.2.mem ((c.tc : Thread Cert.KernelSampleRefIdeal.nD Cert.KernelSampleRefIdeal.τ).loc Cert.KernelSampleRefIdeal.main_arg0) = m' ((c.tc : Thread Cert.KernelSampleRefIdeal.nD Cert.KernelSampleRefIdeal.τ).loc Cert.KernelSampleRefIdeal.main_arg0)
          ∧ r.2.mem ((c.tc : Thread Cert.KernelSampleRefIdeal.nD Cert.KernelSampleRefIdeal.τ).loc Cert.KernelSampleRefIdeal.main_arg1) = m' ((c.tc : Thread Cert.KernelSampleRefIdeal.nD Cert.KernelSampleRefIdeal.τ).loc Cert.KernelSampleRefIdeal.main_arg1)
          ∧ r.2.mem ((c.tc : Thread Cert.KernelSampleRefIdeal.nD Cert.KernelSampleRefIdeal.τ).loc Cert.KernelSampleRefIdeal.main_arg2) = m' ((c.tc : Thread Cert.KernelSampleRefIdeal.nD Cert.KernelSampleRefIdeal.τ).loc Cert.KernelSampleRefIdeal.main_arg2))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)) →
    ∃ (v0 : (c : Dev Cert.MergeSampleIdeal.nD) → Buf (Elt Ideal) ((c.tc : Thread Cert.MergeSampleIdeal.nD Cert.MergeSampleIdeal.τ).loc Cert.MergeSampleIdeal.main_v47)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v47) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v27) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)) →
    ∃ (v0 : (c : Dev Cert.InProjSampleIdeal.nD) → Buf (Elt Ideal) ((c.tc : Thread Cert.InProjSampleIdeal.nD Cert.InProjSampleIdeal.τ).loc Cert.InProjSampleIdeal.main_v5)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v5) = v0 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v6) = v0 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1))

def preserves_OutProjSample_OutProjSampleIdeal : Prop :=
  True

def algebraic_OutProjSampleIdeal_OutProjSampleRefIdeal [hOutProjSampleIdeal : Cert.OutProjSampleIdeal.Facts] [hOutProjSampleRefIdeal : Cert.OutProjSampleRefIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg)
    (m' : (ℓ : Loc Cert.OutProjSampleRefIdeal.nD Cert.OutProjSampleRefIdeal.τ Cert.OutProjSampleRefIdeal.sig) → Buf (Elt Ideal) ℓ) (g' : Dev Cert.OutProjSampleRefIdeal.nD → PrngReg), Pre_OutProjSampleIdeal m →
    (∀ c : Dev Cert.OutProjSampleIdeal.nD,
      m' ((c.tc : Thread Cert.OutProjSampleRefIdeal.nD Cert.OutProjSampleRefIdeal.τ).loc Cert.OutProjSampleRefIdeal.main_arg0) = m ((c.tc : Thread Cert.OutProjSampleIdeal.nD Cert.OutProjSampleIdeal.τ).loc Cert.OutProjSampleIdeal.main_arg0)
      ∧ m' ((c.tc : Thread Cert.OutProjSampleRefIdeal.nD Cert.OutProjSampleRefIdeal.τ).loc Cert.OutProjSampleRefIdeal.main_arg1) = m ((c.tc : Thread Cert.OutProjSampleIdeal.nD Cert.OutProjSampleIdeal.τ).loc Cert.OutProjSampleIdeal.main_arg1)
      ∧ m' ((c.tc : Thread Cert.OutProjSampleRefIdeal.nD Cert.OutProjSampleRefIdeal.τ).loc Cert.OutProjSampleRefIdeal.main_arg2) = m ((c.tc : Thread Cert.OutProjSampleIdeal.nD Cert.OutProjSampleIdeal.τ).loc Cert.OutProjSampleIdeal.main_arg2)) →
    ∃ (v0 : (c : Dev Cert.OutProjSampleIdeal.nD) → Buf (Elt Ideal) ((c.tc : Thread Cert.OutProjSampleIdeal.nD Cert.OutProjSampleIdeal.τ).loc Cert.OutProjSampleIdeal.main_v3)),
      θ_run (Cert.OutProjSampleIdeal.defs (F := Ideal)) (onTc (τ := Cert.OutProjSampleIdeal.τ) (Cert.OutProjSampleIdeal.main (F := Ideal))) ⟨m, fun _ => 0, g⟩ (fun r => ∀ c : Dev Cert.OutProjSampleIdeal.nD,
          r.2.mem ((c.tc : Thread Cert.OutProjSampleIdeal.nD Cert.OutProjSampleIdeal.τ).loc Cert.OutProjSampleIdeal.main_v3) = v0 c
          ∧ r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
          ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
          ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2))
      ∧ θ_run (Cert.OutProjSampleRefIdeal.defs (F := Ideal)) (onTc (τ := Cert.OutProjSampleRefIdeal.τ) (Cert.OutProjSampleRefIdeal.main (F := Ideal))) ⟨m', fun _ => 0, g'⟩ (fun r => ∀ c : Dev Cert.OutProjSampleRefIdeal.nD,
          r.2.mem ((c.tc : Thread Cert.OutProjSampleRefIdeal.nD Cert.OutProjSampleRefIdeal.τ).loc Cert.OutProjSampleRefIdeal.main_v4) = v0 c
          ∧ r.2.mem ((c.tc : Thread Cert.OutProjSampleRefIdeal.nD Cert.OutProjSampleRefIdeal.τ).loc Cert.OutProjSampleRefIdeal.main_arg0) = m' ((c.tc : Thread Cert.OutProjSampleRefIdeal.nD Cert.OutProjSampleRefIdeal.τ).loc Cert.OutProjSampleRefIdeal.main_arg0)
          ∧ r.2.mem ((c.tc : Thread Cert.OutProjSampleRefIdeal.nD Cert.OutProjSampleRefIdeal.τ).loc Cert.OutProjSampleRefIdeal.main_arg1) = m' ((c.tc : Thread Cert.OutProjSampleRefIdeal.nD Cert.OutProjSampleRefIdeal.τ).loc Cert.OutProjSampleRefIdeal.main_arg1)
          ∧ r.2.mem ((c.tc : Thread Cert.OutProjSampleRefIdeal.nD Cert.OutProjSampleRefIdeal.τ).loc Cert.OutProjSampleRefIdeal.main_arg2) = m' ((c.tc : Thread Cert.OutProjSampleRefIdeal.nD Cert.OutProjSampleRefIdeal.τ).loc Cert.OutProjSampleRefIdeal.main_arg2))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v2)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v2) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v14) = v0 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1))

def preserves_KeysSample_KeysSampleIdeal : Prop :=
  True

def algebraic_KeysSampleIdeal_KeysSampleRefIdeal [hKeysSampleIdeal : Cert.KeysSampleIdeal.Facts] [hKeysSampleRefIdeal : Cert.KeysSampleRefIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg)
    (m' : (ℓ : Loc Cert.KeysSampleRefIdeal.nD Cert.KeysSampleRefIdeal.τ Cert.KeysSampleRefIdeal.sig) → Buf (Elt Ideal) ℓ) (g' : Dev Cert.KeysSampleRefIdeal.nD → PrngReg), Pre_KeysSampleIdeal m →
    (∀ c : Dev Cert.KeysSampleIdeal.nD,
      m' ((c.tc : Thread Cert.KeysSampleRefIdeal.nD Cert.KeysSampleRefIdeal.τ).loc Cert.KeysSampleRefIdeal.main_arg0) = m ((c.tc : Thread Cert.KeysSampleIdeal.nD Cert.KeysSampleIdeal.τ).loc Cert.KeysSampleIdeal.main_arg0)
      ∧ m' ((c.tc : Thread Cert.KeysSampleRefIdeal.nD Cert.KeysSampleRefIdeal.τ).loc Cert.KeysSampleRefIdeal.main_arg1) = m ((c.tc : Thread Cert.KeysSampleIdeal.nD Cert.KeysSampleIdeal.τ).loc Cert.KeysSampleIdeal.main_arg1)) →
    ∃ (v0 : (c : Dev Cert.KeysSampleIdeal.nD) → Buf (Elt Ideal) ((c.tc : Thread Cert.KeysSampleIdeal.nD Cert.KeysSampleIdeal.τ).loc Cert.KeysSampleIdeal.main_v38)),
      θ_run (Cert.KeysSampleIdeal.defs (F := Ideal)) (onTc (τ := Cert.KeysSampleIdeal.τ) (Cert.KeysSampleIdeal.main (F := Ideal))) ⟨m, fun _ => 0, g⟩ (fun r => ∀ c : Dev Cert.KeysSampleIdeal.nD,
          r.2.mem ((c.tc : Thread Cert.KeysSampleIdeal.nD Cert.KeysSampleIdeal.τ).loc Cert.KeysSampleIdeal.main_v38) = v0 c
          ∧ r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
          ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1))
      ∧ θ_run (Cert.KeysSampleRefIdeal.defs (F := Ideal)) (onTc (τ := Cert.KeysSampleRefIdeal.τ) (Cert.KeysSampleRefIdeal.main (F := Ideal))) ⟨m', fun _ => 0, g'⟩ (fun r => ∀ c : Dev Cert.KeysSampleRefIdeal.nD,
          r.2.mem ((c.tc : Thread Cert.KeysSampleRefIdeal.nD Cert.KeysSampleRefIdeal.τ).loc Cert.KeysSampleRefIdeal.main_v67) = v0 c
          ∧ r.2.mem ((c.tc : Thread Cert.KeysSampleRefIdeal.nD Cert.KeysSampleRefIdeal.τ).loc Cert.KeysSampleRefIdeal.main_arg0) = m' ((c.tc : Thread Cert.KeysSampleRefIdeal.nD Cert.KeysSampleRefIdeal.τ).loc Cert.KeysSampleRefIdeal.main_arg0)
          ∧ r.2.mem ((c.tc : Thread Cert.KeysSampleRefIdeal.nD Cert.KeysSampleRefIdeal.τ).loc Cert.KeysSampleRefIdeal.main_arg1) = m' ((c.tc : Thread Cert.KeysSampleRefIdeal.nD Cert.KeysSampleRefIdeal.τ).loc Cert.KeysSampleRefIdeal.main_arg1))

def preserves_CaQSample_CaQSampleIdeal : Prop :=
  True

def algebraic_CaQSampleIdeal_CaQSampleRefIdeal [hCaQSampleIdeal : Cert.CaQSampleIdeal.Facts] [hCaQSampleRefIdeal : Cert.CaQSampleRefIdeal.Facts] : Prop :=
  ∀ (m : (ℓ : Loc Cert.CaQSampleIdeal.nD Cert.CaQSampleIdeal.τ Cert.CaQSampleIdeal.sig) → Buf (Elt Ideal) ℓ) (g : Dev Cert.CaQSampleIdeal.nD → PrngReg)
    (m' : (ℓ : Loc Cert.CaQSampleRefIdeal.nD Cert.CaQSampleRefIdeal.τ Cert.CaQSampleRefIdeal.sig) → Buf (Elt Ideal) ℓ) (g' : Dev Cert.CaQSampleRefIdeal.nD → PrngReg), Pre_CaQSampleIdeal m →
    (∀ c : Dev Cert.CaQSampleIdeal.nD,
      m' ((c.tc : Thread Cert.CaQSampleRefIdeal.nD Cert.CaQSampleRefIdeal.τ).loc Cert.CaQSampleRefIdeal.main_arg0) = m ((c.tc : Thread Cert.CaQSampleIdeal.nD Cert.CaQSampleIdeal.τ).loc Cert.CaQSampleIdeal.main_arg0)
      ∧ m' ((c.tc : Thread Cert.CaQSampleRefIdeal.nD Cert.CaQSampleRefIdeal.τ).loc Cert.CaQSampleRefIdeal.main_arg1) = m ((c.tc : Thread Cert.CaQSampleIdeal.nD Cert.CaQSampleIdeal.τ).loc Cert.CaQSampleIdeal.main_arg1)) →
    ∃ (v0 : (c : Dev Cert.CaQSampleIdeal.nD) → Buf (Elt Ideal) ((c.tc : Thread Cert.CaQSampleIdeal.nD Cert.CaQSampleIdeal.τ).loc Cert.CaQSampleIdeal.main_v2)),
      θ_run (Cert.CaQSampleIdeal.defs (F := Ideal)) (onTc (τ := Cert.CaQSampleIdeal.τ) (Cert.CaQSampleIdeal.main (F := Ideal))) ⟨m, fun _ => 0, g⟩ (fun r => ∀ c : Dev Cert.CaQSampleIdeal.nD,
          r.2.mem ((c.tc : Thread Cert.CaQSampleIdeal.nD Cert.CaQSampleIdeal.τ).loc Cert.CaQSampleIdeal.main_v2) = v0 c
          ∧ r.2.mem ((c.tc : Thread Cert.CaQSampleIdeal.nD Cert.CaQSampleIdeal.τ).loc Cert.CaQSampleIdeal.main_arg0) = m ((c.tc : Thread Cert.CaQSampleIdeal.nD Cert.CaQSampleIdeal.τ).loc Cert.CaQSampleIdeal.main_arg0)
          ∧ r.2.mem ((c.tc : Thread Cert.CaQSampleIdeal.nD Cert.CaQSampleIdeal.τ).loc Cert.CaQSampleIdeal.main_arg1) = m ((c.tc : Thread Cert.CaQSampleIdeal.nD Cert.CaQSampleIdeal.τ).loc Cert.CaQSampleIdeal.main_arg1))
      ∧ θ_run (Cert.CaQSampleRefIdeal.defs (F := Ideal)) (onTc (τ := Cert.CaQSampleRefIdeal.τ) (Cert.CaQSampleRefIdeal.main (F := Ideal))) ⟨m', fun _ => 0, g'⟩ (fun r => ∀ c : Dev Cert.CaQSampleRefIdeal.nD,
          r.2.mem ((c.tc : Thread Cert.CaQSampleRefIdeal.nD Cert.CaQSampleRefIdeal.τ).loc Cert.CaQSampleRefIdeal.main_v5) = v0 c
          ∧ r.2.mem ((c.tc : Thread Cert.CaQSampleRefIdeal.nD Cert.CaQSampleRefIdeal.τ).loc Cert.CaQSampleRefIdeal.main_arg0) = m' ((c.tc : Thread Cert.CaQSampleRefIdeal.nD Cert.CaQSampleRefIdeal.τ).loc Cert.CaQSampleRefIdeal.main_arg0)
          ∧ r.2.mem ((c.tc : Thread Cert.CaQSampleRefIdeal.nD Cert.CaQSampleRefIdeal.τ).loc Cert.CaQSampleRefIdeal.main_arg1) = m' ((c.tc : Thread Cert.CaQSampleRefIdeal.nD Cert.CaQSampleRefIdeal.τ).loc Cert.CaQSampleRefIdeal.main_arg1))

def preserves_CaSample_CaSampleIdeal : Prop :=
  True

def algebraic_CaSampleIdeal_CaSampleRefIdeal_pre_finite_ca_sample [hCaSampleIdeal : Cert.CaSampleIdeal.Facts] [hCaSampleRefIdeal : Cert.CaSampleRefIdeal.Facts] [hPre_finite_ca_sample : Cert.Pre_finite_ca_sample.Facts] : Prop :=
  ∀ (m : (ℓ : Loc Cert.CaSampleIdeal.nD Cert.CaSampleIdeal.τ Cert.CaSampleIdeal.sig) → Buf (Elt Ideal) ℓ) (g : Dev Cert.CaSampleIdeal.nD → PrngReg)
    (m' : (ℓ : Loc Cert.CaSampleRefIdeal.nD Cert.CaSampleRefIdeal.τ Cert.CaSampleRefIdeal.sig) → Buf (Elt Ideal) ℓ) (g' : Dev Cert.CaSampleRefIdeal.nD → PrngReg), Pre_CaSampleIdeal_finite_ca_sample m →
    (∀ c : Dev Cert.CaSampleIdeal.nD,
      m' ((c.tc : Thread Cert.CaSampleRefIdeal.nD Cert.CaSampleRefIdeal.τ).loc Cert.CaSampleRefIdeal.main_arg0) = m ((c.tc : Thread Cert.CaSampleIdeal.nD Cert.CaSampleIdeal.τ).loc Cert.CaSampleIdeal.main_arg0)
      ∧ m' ((c.tc : Thread Cert.CaSampleRefIdeal.nD Cert.CaSampleRefIdeal.τ).loc Cert.CaSampleRefIdeal.main_arg1) = m ((c.tc : Thread Cert.CaSampleIdeal.nD Cert.CaSampleIdeal.τ).loc Cert.CaSampleIdeal.main_arg1)) →
    ∃ (v0 : (c : Dev Cert.CaSampleIdeal.nD) → Buf (Elt Ideal) ((c.tc : Thread Cert.CaSampleIdeal.nD Cert.CaSampleIdeal.τ).loc Cert.CaSampleIdeal.main_v2)),
      θ_run (Cert.CaSampleIdeal.defs (F := Ideal)) (onTc (τ := Cert.CaSampleIdeal.τ) (Cert.CaSampleIdeal.main (F := Ideal))) ⟨m, fun _ => 0, g⟩ (fun r => ∀ c : Dev Cert.CaSampleIdeal.nD,
          r.2.mem ((c.tc : Thread Cert.CaSampleIdeal.nD Cert.CaSampleIdeal.τ).loc Cert.CaSampleIdeal.main_v2) = v0 c
          ∧ r.2.mem ((c.tc : Thread Cert.CaSampleIdeal.nD Cert.CaSampleIdeal.τ).loc Cert.CaSampleIdeal.main_arg0) = m ((c.tc : Thread Cert.CaSampleIdeal.nD Cert.CaSampleIdeal.τ).loc Cert.CaSampleIdeal.main_arg0)
          ∧ r.2.mem ((c.tc : Thread Cert.CaSampleIdeal.nD Cert.CaSampleIdeal.τ).loc Cert.CaSampleIdeal.main_arg1) = m ((c.tc : Thread Cert.CaSampleIdeal.nD Cert.CaSampleIdeal.τ).loc Cert.CaSampleIdeal.main_arg1))
      ∧ θ_run (Cert.CaSampleRefIdeal.defs (F := Ideal)) (onTc (τ := Cert.CaSampleRefIdeal.τ) (Cert.CaSampleRefIdeal.main (F := Ideal))) ⟨m', fun _ => 0, g'⟩ (fun r => ∀ c : Dev Cert.CaSampleRefIdeal.nD,
          r.2.mem ((c.tc : Thread Cert.CaSampleRefIdeal.nD Cert.CaSampleRefIdeal.τ).loc Cert.CaSampleRefIdeal.main_v23) = v0 c
          ∧ r.2.mem ((c.tc : Thread Cert.CaSampleRefIdeal.nD Cert.CaSampleRefIdeal.τ).loc Cert.CaSampleRefIdeal.main_arg0) = m' ((c.tc : Thread Cert.CaSampleRefIdeal.nD Cert.CaSampleRefIdeal.τ).loc Cert.CaSampleRefIdeal.main_arg0)
          ∧ r.2.mem ((c.tc : Thread Cert.CaSampleRefIdeal.nD Cert.CaSampleRefIdeal.τ).loc Cert.CaSampleRefIdeal.main_arg1) = m' ((c.tc : Thread Cert.CaSampleRefIdeal.nD Cert.CaSampleRefIdeal.τ).loc Cert.CaSampleRefIdeal.main_arg1))

def preserves_CaOutSample_CaOutSampleIdeal : Prop :=
  True

def algebraic_CaOutSampleIdeal_CaOutSampleRefIdeal [hCaOutSampleIdeal : Cert.CaOutSampleIdeal.Facts] [hCaOutSampleRefIdeal : Cert.CaOutSampleRefIdeal.Facts] : Prop :=
  ∀ (m : (ℓ : Loc Cert.CaOutSampleIdeal.nD Cert.CaOutSampleIdeal.τ Cert.CaOutSampleIdeal.sig) → Buf (Elt Ideal) ℓ) (g : Dev Cert.CaOutSampleIdeal.nD → PrngReg)
    (m' : (ℓ : Loc Cert.CaOutSampleRefIdeal.nD Cert.CaOutSampleRefIdeal.τ Cert.CaOutSampleRefIdeal.sig) → Buf (Elt Ideal) ℓ) (g' : Dev Cert.CaOutSampleRefIdeal.nD → PrngReg), Pre_CaOutSampleIdeal m →
    (∀ c : Dev Cert.CaOutSampleIdeal.nD,
      m' ((c.tc : Thread Cert.CaOutSampleRefIdeal.nD Cert.CaOutSampleRefIdeal.τ).loc Cert.CaOutSampleRefIdeal.main_arg0) = m ((c.tc : Thread Cert.CaOutSampleIdeal.nD Cert.CaOutSampleIdeal.τ).loc Cert.CaOutSampleIdeal.main_arg0)
      ∧ m' ((c.tc : Thread Cert.CaOutSampleRefIdeal.nD Cert.CaOutSampleRefIdeal.τ).loc Cert.CaOutSampleRefIdeal.main_arg1) = m ((c.tc : Thread Cert.CaOutSampleIdeal.nD Cert.CaOutSampleIdeal.τ).loc Cert.CaOutSampleIdeal.main_arg1)
      ∧ m' ((c.tc : Thread Cert.CaOutSampleRefIdeal.nD Cert.CaOutSampleRefIdeal.τ).loc Cert.CaOutSampleRefIdeal.main_arg2) = m ((c.tc : Thread Cert.CaOutSampleIdeal.nD Cert.CaOutSampleIdeal.τ).loc Cert.CaOutSampleIdeal.main_arg2)) →
    ∃ (v0 : (c : Dev Cert.CaOutSampleIdeal.nD) → Buf (Elt Ideal) ((c.tc : Thread Cert.CaOutSampleIdeal.nD Cert.CaOutSampleIdeal.τ).loc Cert.CaOutSampleIdeal.main_v2)),
      θ_run (Cert.CaOutSampleIdeal.defs (F := Ideal)) (onTc (τ := Cert.CaOutSampleIdeal.τ) (Cert.CaOutSampleIdeal.main (F := Ideal))) ⟨m, fun _ => 0, g⟩ (fun r => ∀ c : Dev Cert.CaOutSampleIdeal.nD,
          r.2.mem ((c.tc : Thread Cert.CaOutSampleIdeal.nD Cert.CaOutSampleIdeal.τ).loc Cert.CaOutSampleIdeal.main_v2) = v0 c
          ∧ r.2.mem ((c.tc : Thread Cert.CaOutSampleIdeal.nD Cert.CaOutSampleIdeal.τ).loc Cert.CaOutSampleIdeal.main_arg0) = m ((c.tc : Thread Cert.CaOutSampleIdeal.nD Cert.CaOutSampleIdeal.τ).loc Cert.CaOutSampleIdeal.main_arg0)
          ∧ r.2.mem ((c.tc : Thread Cert.CaOutSampleIdeal.nD Cert.CaOutSampleIdeal.τ).loc Cert.CaOutSampleIdeal.main_arg1) = m ((c.tc : Thread Cert.CaOutSampleIdeal.nD Cert.CaOutSampleIdeal.τ).loc Cert.CaOutSampleIdeal.main_arg1)
          ∧ r.2.mem ((c.tc : Thread Cert.CaOutSampleIdeal.nD Cert.CaOutSampleIdeal.τ).loc Cert.CaOutSampleIdeal.main_arg2) = m ((c.tc : Thread Cert.CaOutSampleIdeal.nD Cert.CaOutSampleIdeal.τ).loc Cert.CaOutSampleIdeal.main_arg2))
      ∧ θ_run (Cert.CaOutSampleRefIdeal.defs (F := Ideal)) (onTc (τ := Cert.CaOutSampleRefIdeal.τ) (Cert.CaOutSampleRefIdeal.main (F := Ideal))) ⟨m', fun _ => 0, g'⟩ (fun r => ∀ c : Dev Cert.CaOutSampleRefIdeal.nD,
          r.2.mem ((c.tc : Thread Cert.CaOutSampleRefIdeal.nD Cert.CaOutSampleRefIdeal.τ).loc Cert.CaOutSampleRefIdeal.main_v3) = v0 c
          ∧ r.2.mem ((c.tc : Thread Cert.CaOutSampleRefIdeal.nD Cert.CaOutSampleRefIdeal.τ).loc Cert.CaOutSampleRefIdeal.main_arg0) = m' ((c.tc : Thread Cert.CaOutSampleRefIdeal.nD Cert.CaOutSampleRefIdeal.τ).loc Cert.CaOutSampleRefIdeal.main_arg0)
          ∧ r.2.mem ((c.tc : Thread Cert.CaOutSampleRefIdeal.nD Cert.CaOutSampleRefIdeal.τ).loc Cert.CaOutSampleRefIdeal.main_arg1) = m' ((c.tc : Thread Cert.CaOutSampleRefIdeal.nD Cert.CaOutSampleRefIdeal.τ).loc Cert.CaOutSampleRefIdeal.main_arg1)
          ∧ r.2.mem ((c.tc : Thread Cert.CaOutSampleRefIdeal.nD Cert.CaOutSampleRefIdeal.τ).loc Cert.CaOutSampleRefIdeal.main_arg2) = m' ((c.tc : Thread Cert.CaOutSampleRefIdeal.nD Cert.CaOutSampleRefIdeal.τ).loc Cert.CaOutSampleRefIdeal.main_arg2))

def preserves_RouteSample_RouteSampleIdeal : Prop :=
  True

def algebraic_RouteSampleIdeal_RouteSampleRefIdeal [hRouteSampleIdeal : Cert.RouteSampleIdeal.Facts] [hRouteSampleRefIdeal : Cert.RouteSampleRefIdeal.Facts] : Prop :=
  ∀ (m : (ℓ : Loc Cert.RouteSampleIdeal.nD Cert.RouteSampleIdeal.τ Cert.RouteSampleIdeal.sig) → Buf (Elt Ideal) ℓ) (g : Dev Cert.RouteSampleIdeal.nD → PrngReg)
    (m' : (ℓ : Loc Cert.RouteSampleRefIdeal.nD Cert.RouteSampleRefIdeal.τ Cert.RouteSampleRefIdeal.sig) → Buf (Elt Ideal) ℓ) (g' : Dev Cert.RouteSampleRefIdeal.nD → PrngReg), Pre_RouteSampleIdeal m →
    (∀ c : Dev Cert.RouteSampleIdeal.nD,
      m' ((c.tc : Thread Cert.RouteSampleRefIdeal.nD Cert.RouteSampleRefIdeal.τ).loc Cert.RouteSampleRefIdeal.main_arg0) = m ((c.tc : Thread Cert.RouteSampleIdeal.nD Cert.RouteSampleIdeal.τ).loc Cert.RouteSampleIdeal.main_arg0)
      ∧ m' ((c.tc : Thread Cert.RouteSampleRefIdeal.nD Cert.RouteSampleRefIdeal.τ).loc Cert.RouteSampleRefIdeal.main_arg1) = m ((c.tc : Thread Cert.RouteSampleIdeal.nD Cert.RouteSampleIdeal.τ).loc Cert.RouteSampleIdeal.main_arg1)
      ∧ m' ((c.tc : Thread Cert.RouteSampleRefIdeal.nD Cert.RouteSampleRefIdeal.τ).loc Cert.RouteSampleRefIdeal.main_arg2) = m ((c.tc : Thread Cert.RouteSampleIdeal.nD Cert.RouteSampleIdeal.τ).loc Cert.RouteSampleIdeal.main_arg2)
      ∧ m' ((c.tc : Thread Cert.RouteSampleRefIdeal.nD Cert.RouteSampleRefIdeal.τ).loc Cert.RouteSampleRefIdeal.main_arg3) = m ((c.tc : Thread Cert.RouteSampleIdeal.nD Cert.RouteSampleIdeal.τ).loc Cert.RouteSampleIdeal.main_arg3)) →
    ∃ (v0 : (c : Dev Cert.RouteSampleIdeal.nD) → Buf (Elt Ideal) ((c.tc : Thread Cert.RouteSampleIdeal.nD Cert.RouteSampleIdeal.τ).loc Cert.RouteSampleIdeal.main_v24_0)) (v1 : (c : Dev Cert.RouteSampleIdeal.nD) → Buf (Elt Ideal) ((c.tc : Thread Cert.RouteSampleIdeal.nD Cert.RouteSampleIdeal.τ).loc Cert.RouteSampleIdeal.main_v24_1)),
      θ_run (Cert.RouteSampleIdeal.defs (F := Ideal)) (onTc (τ := Cert.RouteSampleIdeal.τ) (Cert.RouteSampleIdeal.main (F := Ideal))) ⟨m, fun _ => 0, g⟩ (fun r => ∀ c : Dev Cert.RouteSampleIdeal.nD,
          r.2.mem ((c.tc : Thread Cert.RouteSampleIdeal.nD Cert.RouteSampleIdeal.τ).loc Cert.RouteSampleIdeal.main_v24_0) = v0 c
          ∧ r.2.mem ((c.tc : Thread Cert.RouteSampleIdeal.nD Cert.RouteSampleIdeal.τ).loc Cert.RouteSampleIdeal.main_v24_1) = v1 c
          ∧ r.2.mem ((c.tc : Thread Cert.RouteSampleIdeal.nD Cert.RouteSampleIdeal.τ).loc Cert.RouteSampleIdeal.main_arg0) = m ((c.tc : Thread Cert.RouteSampleIdeal.nD Cert.RouteSampleIdeal.τ).loc Cert.RouteSampleIdeal.main_arg0)
          ∧ r.2.mem ((c.tc : Thread Cert.RouteSampleIdeal.nD Cert.RouteSampleIdeal.τ).loc Cert.RouteSampleIdeal.main_arg1) = m ((c.tc : Thread Cert.RouteSampleIdeal.nD Cert.RouteSampleIdeal.τ).loc Cert.RouteSampleIdeal.main_arg1)
          ∧ r.2.mem ((c.tc : Thread Cert.RouteSampleIdeal.nD Cert.RouteSampleIdeal.τ).loc Cert.RouteSampleIdeal.main_arg2) = m ((c.tc : Thread Cert.RouteSampleIdeal.nD Cert.RouteSampleIdeal.τ).loc Cert.RouteSampleIdeal.main_arg2)
          ∧ r.2.mem ((c.tc : Thread Cert.RouteSampleIdeal.nD Cert.RouteSampleIdeal.τ).loc Cert.RouteSampleIdeal.main_arg3) = m ((c.tc : Thread Cert.RouteSampleIdeal.nD Cert.RouteSampleIdeal.τ).loc Cert.RouteSampleIdeal.main_arg3))
      ∧ θ_run (Cert.RouteSampleRefIdeal.defs (F := Ideal)) (onTc (τ := Cert.RouteSampleRefIdeal.τ) (Cert.RouteSampleRefIdeal.main (F := Ideal))) ⟨m', fun _ => 0, g'⟩ (fun r => ∀ c : Dev Cert.RouteSampleRefIdeal.nD,
          r.2.mem ((c.tc : Thread Cert.RouteSampleRefIdeal.nD Cert.RouteSampleRefIdeal.τ).loc Cert.RouteSampleRefIdeal.main_v22) = v0 c
          ∧ r.2.mem ((c.tc : Thread Cert.RouteSampleRefIdeal.nD Cert.RouteSampleRefIdeal.τ).loc Cert.RouteSampleRefIdeal.main_v25) = v1 c
          ∧ r.2.mem ((c.tc : Thread Cert.RouteSampleRefIdeal.nD Cert.RouteSampleRefIdeal.τ).loc Cert.RouteSampleRefIdeal.main_arg0) = m' ((c.tc : Thread Cert.RouteSampleRefIdeal.nD Cert.RouteSampleRefIdeal.τ).loc Cert.RouteSampleRefIdeal.main_arg0)
          ∧ r.2.mem ((c.tc : Thread Cert.RouteSampleRefIdeal.nD Cert.RouteSampleRefIdeal.τ).loc Cert.RouteSampleRefIdeal.main_arg1) = m' ((c.tc : Thread Cert.RouteSampleRefIdeal.nD Cert.RouteSampleRefIdeal.τ).loc Cert.RouteSampleRefIdeal.main_arg1)
          ∧ r.2.mem ((c.tc : Thread Cert.RouteSampleRefIdeal.nD Cert.RouteSampleRefIdeal.τ).loc Cert.RouteSampleRefIdeal.main_arg2) = m' ((c.tc : Thread Cert.RouteSampleRefIdeal.nD Cert.RouteSampleRefIdeal.τ).loc Cert.RouteSampleRefIdeal.main_arg2)
          ∧ r.2.mem ((c.tc : Thread Cert.RouteSampleRefIdeal.nD Cert.RouteSampleRefIdeal.τ).loc Cert.RouteSampleRefIdeal.main_arg3) = m' ((c.tc : Thread Cert.RouteSampleRefIdeal.nD Cert.RouteSampleRefIdeal.τ).loc Cert.RouteSampleRefIdeal.main_arg3))

def preserves_DftCSample_DftCSampleIdeal : Prop :=
  True

def algebraic_DftCSampleIdeal_DftCSampleRefIdeal [hDftCSampleIdeal : Cert.DftCSampleIdeal.Facts] [hDftCSampleRefIdeal : Cert.DftCSampleRefIdeal.Facts] : Prop :=
  ∀ (m : (ℓ : Loc Cert.DftCSampleIdeal.nD Cert.DftCSampleIdeal.τ Cert.DftCSampleIdeal.sig) → Buf (Elt Ideal) ℓ) (g : Dev Cert.DftCSampleIdeal.nD → PrngReg)
    (m' : (ℓ : Loc Cert.DftCSampleRefIdeal.nD Cert.DftCSampleRefIdeal.τ Cert.DftCSampleRefIdeal.sig) → Buf (Elt Ideal) ℓ) (g' : Dev Cert.DftCSampleRefIdeal.nD → PrngReg), Pre_DftCSampleIdeal m →
    (∀ c : Dev Cert.DftCSampleIdeal.nD,
      m' ((c.tc : Thread Cert.DftCSampleRefIdeal.nD Cert.DftCSampleRefIdeal.τ).loc Cert.DftCSampleRefIdeal.main_arg0) = m ((c.tc : Thread Cert.DftCSampleIdeal.nD Cert.DftCSampleIdeal.τ).loc Cert.DftCSampleIdeal.main_arg0)
      ∧ m' ((c.tc : Thread Cert.DftCSampleRefIdeal.nD Cert.DftCSampleRefIdeal.τ).loc Cert.DftCSampleRefIdeal.main_arg1) = m ((c.tc : Thread Cert.DftCSampleIdeal.nD Cert.DftCSampleIdeal.τ).loc Cert.DftCSampleIdeal.main_arg1)) →
    ∃ (v0 : (c : Dev Cert.DftCSampleIdeal.nD) → Buf (Elt Ideal) ((c.tc : Thread Cert.DftCSampleIdeal.nD Cert.DftCSampleIdeal.τ).loc Cert.DftCSampleIdeal.main_v0)),
      θ_run (Cert.DftCSampleIdeal.defs (F := Ideal)) (onTc (τ := Cert.DftCSampleIdeal.τ) (Cert.DftCSampleIdeal.main (F := Ideal))) ⟨m, fun _ => 0, g⟩ (fun r => ∀ c : Dev Cert.DftCSampleIdeal.nD,
          r.2.mem ((c.tc : Thread Cert.DftCSampleIdeal.nD Cert.DftCSampleIdeal.τ).loc Cert.DftCSampleIdeal.main_v0) = v0 c
          ∧ r.2.mem ((c.tc : Thread Cert.DftCSampleIdeal.nD Cert.DftCSampleIdeal.τ).loc Cert.DftCSampleIdeal.main_arg0) = m ((c.tc : Thread Cert.DftCSampleIdeal.nD Cert.DftCSampleIdeal.τ).loc Cert.DftCSampleIdeal.main_arg0)
          ∧ r.2.mem ((c.tc : Thread Cert.DftCSampleIdeal.nD Cert.DftCSampleIdeal.τ).loc Cert.DftCSampleIdeal.main_arg1) = m ((c.tc : Thread Cert.DftCSampleIdeal.nD Cert.DftCSampleIdeal.τ).loc Cert.DftCSampleIdeal.main_arg1))
      ∧ θ_run (Cert.DftCSampleRefIdeal.defs (F := Ideal)) (onTc (τ := Cert.DftCSampleRefIdeal.τ) (Cert.DftCSampleRefIdeal.main (F := Ideal))) ⟨m', fun _ => 0, g'⟩ (fun r => ∀ c : Dev Cert.DftCSampleRefIdeal.nD,
          r.2.mem ((c.tc : Thread Cert.DftCSampleRefIdeal.nD Cert.DftCSampleRefIdeal.τ).loc Cert.DftCSampleRefIdeal.main_v4) = v0 c
          ∧ r.2.mem ((c.tc : Thread Cert.DftCSampleRefIdeal.nD Cert.DftCSampleRefIdeal.τ).loc Cert.DftCSampleRefIdeal.main_arg0) = m' ((c.tc : Thread Cert.DftCSampleRefIdeal.nD Cert.DftCSampleRefIdeal.τ).loc Cert.DftCSampleRefIdeal.main_arg0)
          ∧ r.2.mem ((c.tc : Thread Cert.DftCSampleRefIdeal.nD Cert.DftCSampleRefIdeal.τ).loc Cert.DftCSampleRefIdeal.main_arg1) = m' ((c.tc : Thread Cert.DftCSampleRefIdeal.nD Cert.DftCSampleRefIdeal.τ).loc Cert.DftCSampleRefIdeal.main_arg1))

def preserves_DftPSample_DftPSampleIdeal : Prop :=
  True

def algebraic_DftPSampleIdeal_DftPSampleRefIdeal [hDftPSampleIdeal : Cert.DftPSampleIdeal.Facts] [hDftPSampleRefIdeal : Cert.DftPSampleRefIdeal.Facts] : Prop :=
  ∀ (m : (ℓ : Loc Cert.DftPSampleIdeal.nD Cert.DftPSampleIdeal.τ Cert.DftPSampleIdeal.sig) → Buf (Elt Ideal) ℓ) (g : Dev Cert.DftPSampleIdeal.nD → PrngReg)
    (m' : (ℓ : Loc Cert.DftPSampleRefIdeal.nD Cert.DftPSampleRefIdeal.τ Cert.DftPSampleRefIdeal.sig) → Buf (Elt Ideal) ℓ) (g' : Dev Cert.DftPSampleRefIdeal.nD → PrngReg), Pre_DftPSampleIdeal m →
    (∀ c : Dev Cert.DftPSampleIdeal.nD,
      m' ((c.tc : Thread Cert.DftPSampleRefIdeal.nD Cert.DftPSampleRefIdeal.τ).loc Cert.DftPSampleRefIdeal.main_arg0) = m ((c.tc : Thread Cert.DftPSampleIdeal.nD Cert.DftPSampleIdeal.τ).loc Cert.DftPSampleIdeal.main_arg0)
      ∧ m' ((c.tc : Thread Cert.DftPSampleRefIdeal.nD Cert.DftPSampleRefIdeal.τ).loc Cert.DftPSampleRefIdeal.main_arg1) = m ((c.tc : Thread Cert.DftPSampleIdeal.nD Cert.DftPSampleIdeal.τ).loc Cert.DftPSampleIdeal.main_arg1)
      ∧ m' ((c.tc : Thread Cert.DftPSampleRefIdeal.nD Cert.DftPSampleRefIdeal.τ).loc Cert.DftPSampleRefIdeal.main_arg2) = m ((c.tc : Thread Cert.DftPSampleIdeal.nD Cert.DftPSampleIdeal.τ).loc Cert.DftPSampleIdeal.main_arg2)) →
    ∃ (v0 : (c : Dev Cert.DftPSampleIdeal.nD) → Buf (Elt Ideal) ((c.tc : Thread Cert.DftPSampleIdeal.nD Cert.DftPSampleIdeal.τ).loc Cert.DftPSampleIdeal.main_v1)),
      θ_run (Cert.DftPSampleIdeal.defs (F := Ideal)) (onTc (τ := Cert.DftPSampleIdeal.τ) (Cert.DftPSampleIdeal.main (F := Ideal))) ⟨m, fun _ => 0, g⟩ (fun r => ∀ c : Dev Cert.DftPSampleIdeal.nD,
          r.2.mem ((c.tc : Thread Cert.DftPSampleIdeal.nD Cert.DftPSampleIdeal.τ).loc Cert.DftPSampleIdeal.main_v1) = v0 c
          ∧ r.2.mem ((c.tc : Thread Cert.DftPSampleIdeal.nD Cert.DftPSampleIdeal.τ).loc Cert.DftPSampleIdeal.main_arg0) = m ((c.tc : Thread Cert.DftPSampleIdeal.nD Cert.DftPSampleIdeal.τ).loc Cert.DftPSampleIdeal.main_arg0)
          ∧ r.2.mem ((c.tc : Thread Cert.DftPSampleIdeal.nD Cert.DftPSampleIdeal.τ).loc Cert.DftPSampleIdeal.main_arg1) = m ((c.tc : Thread Cert.DftPSampleIdeal.nD Cert.DftPSampleIdeal.τ).loc Cert.DftPSampleIdeal.main_arg1)
          ∧ r.2.mem ((c.tc : Thread Cert.DftPSampleIdeal.nD Cert.DftPSampleIdeal.τ).loc Cert.DftPSampleIdeal.main_arg2) = m ((c.tc : Thread Cert.DftPSampleIdeal.nD Cert.DftPSampleIdeal.τ).loc Cert.DftPSampleIdeal.main_arg2))
      ∧ θ_run (Cert.DftPSampleRefIdeal.defs (F := Ideal)) (onTc (τ := Cert.DftPSampleRefIdeal.τ) (Cert.DftPSampleRefIdeal.main (F := Ideal))) ⟨m', fun _ => 0, g'⟩ (fun r => ∀ c : Dev Cert.DftPSampleRefIdeal.nD,
          r.2.mem ((c.tc : Thread Cert.DftPSampleRefIdeal.nD Cert.DftPSampleRefIdeal.τ).loc Cert.DftPSampleRefIdeal.main_v13) = v0 c
          ∧ r.2.mem ((c.tc : Thread Cert.DftPSampleRefIdeal.nD Cert.DftPSampleRefIdeal.τ).loc Cert.DftPSampleRefIdeal.main_arg0) = m' ((c.tc : Thread Cert.DftPSampleRefIdeal.nD Cert.DftPSampleRefIdeal.τ).loc Cert.DftPSampleRefIdeal.main_arg0)
          ∧ r.2.mem ((c.tc : Thread Cert.DftPSampleRefIdeal.nD Cert.DftPSampleRefIdeal.τ).loc Cert.DftPSampleRefIdeal.main_arg1) = m' ((c.tc : Thread Cert.DftPSampleRefIdeal.nD Cert.DftPSampleRefIdeal.τ).loc Cert.DftPSampleRefIdeal.main_arg1)
          ∧ r.2.mem ((c.tc : Thread Cert.DftPSampleRefIdeal.nD Cert.DftPSampleRefIdeal.τ).loc Cert.DftPSampleRefIdeal.main_arg2) = m' ((c.tc : Thread Cert.DftPSampleRefIdeal.nD Cert.DftPSampleRefIdeal.τ).loc Cert.DftPSampleRefIdeal.main_arg2))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hLast : Cert.Last.Facts) (hLastIdeal : Cert.LastIdeal.Facts) (hLastRefIdeal : Cert.LastRefIdeal.Facts) (hLastSample : Cert.LastSample.Facts) (hLastSampleIdeal : Cert.LastSampleIdeal.Facts) (hLastSampleRefIdeal : Cert.LastSampleRefIdeal.Facts) (hNorm : Cert.Norm.Facts) (hNormIdeal : Cert.NormIdeal.Facts) (hNormRefIdeal : Cert.NormRefIdeal.Facts) (hKeys : Cert.Keys.Facts) (hKeysIdeal : Cert.KeysIdeal.Facts) (hKeysRefIdeal : Cert.KeysRefIdeal.Facts) (hCaQ : Cert.CaQ.Facts) (hCaQIdeal : Cert.CaQIdeal.Facts) (hCaQRefIdeal : Cert.CaQRefIdeal.Facts) (hCaKv : Cert.CaKv.Facts) (hCaKvIdeal : Cert.CaKvIdeal.Facts) (hCaKvRefIdeal : Cert.CaKvRefIdeal.Facts) (hCa : Cert.Ca.Facts) (hCaIdeal : Cert.CaIdeal.Facts) (hCaRefIdeal : Cert.CaRefIdeal.Facts) (hCaOut : Cert.CaOut.Facts) (hCaOutIdeal : Cert.CaOutIdeal.Facts) (hCaOutRefIdeal : Cert.CaOutRefIdeal.Facts) (hRoute : Cert.Route.Facts) (hRouteIdeal : Cert.RouteIdeal.Facts) (hRouteRefIdeal : Cert.RouteRefIdeal.Facts) (hDftC : Cert.DftC.Facts) (hDftCIdeal : Cert.DftCIdeal.Facts) (hDftCRefIdeal : Cert.DftCRefIdeal.Facts) (hDftP : Cert.DftP.Facts) (hDftPIdeal : Cert.DftPIdeal.Facts) (hDftPRefIdeal : Cert.DftPRefIdeal.Facts) (hKernelSample : Cert.KernelSample.Facts) (hKernelSampleIdeal : Cert.KernelSampleIdeal.Facts) (hKernelSampleRefIdeal : Cert.KernelSampleRefIdeal.Facts) (hMergeSample : Cert.MergeSample.Facts) (hMergeSampleIdeal : Cert.MergeSampleIdeal.Facts) (hMergeSampleRefIdeal : Cert.MergeSampleRefIdeal.Facts) (hInProjSample : Cert.InProjSample.Facts) (hInProjSampleIdeal : Cert.InProjSampleIdeal.Facts) (hInProjSampleRefIdeal : Cert.InProjSampleRefIdeal.Facts) (hOutProjSample : Cert.OutProjSample.Facts) (hOutProjSampleIdeal : Cert.OutProjSampleIdeal.Facts) (hOutProjSampleRefIdeal : Cert.OutProjSampleRefIdeal.Facts) (hNormSample : Cert.NormSample.Facts) (hNormSampleIdeal : Cert.NormSampleIdeal.Facts) (hNormSampleRefIdeal : Cert.NormSampleRefIdeal.Facts) (hKeysSample : Cert.KeysSample.Facts) (hKeysSampleIdeal : Cert.KeysSampleIdeal.Facts) (hKeysSampleRefIdeal : Cert.KeysSampleRefIdeal.Facts) (hCaQSample : Cert.CaQSample.Facts) (hCaQSampleIdeal : Cert.CaQSampleIdeal.Facts) (hCaQSampleRefIdeal : Cert.CaQSampleRefIdeal.Facts) (hCaSample : Cert.CaSample.Facts) (hCaSampleIdeal : Cert.CaSampleIdeal.Facts) (hCaSampleRefIdeal : Cert.CaSampleRefIdeal.Facts) (hCaOutSample : Cert.CaOutSample.Facts) (hCaOutSampleIdeal : Cert.CaOutSampleIdeal.Facts) (hCaOutSampleRefIdeal : Cert.CaOutSampleRefIdeal.Facts) (hRouteSample : Cert.RouteSample.Facts) (hRouteSampleIdeal : Cert.RouteSampleIdeal.Facts) (hRouteSampleRefIdeal : Cert.RouteSampleRefIdeal.Facts) (hDftCSample : Cert.DftCSample.Facts) (hDftCSampleIdeal : Cert.DftCSampleIdeal.Facts) (hDftCSampleRefIdeal : Cert.DftCSampleRefIdeal.Facts) (hDftPSample : Cert.DftPSample.Facts) (hDftPSampleIdeal : Cert.DftPSampleIdeal.Facts) (hDftPSampleRefIdeal : Cert.DftPSampleRefIdeal.Facts) (hPre_finite_keys : Cert.Pre_finite_keys.Facts) (hPre_finite_ca : Cert.Pre_finite_ca.Facts) (hPre_finite_keys_sample : Cert.Pre_finite_keys_sample.Facts) (hPre_finite_ca_sample : Cert.Pre_finite_ca_sample.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Last (hLast := hLast)
    ∧ quiescent_LastIdeal (hLastIdeal := hLastIdeal)
    ∧ quiescent_LastRefIdeal (hLastRefIdeal := hLastRefIdeal)
    ∧ quiescent_LastSample (hLastSample := hLastSample)
    ∧ quiescent_LastSampleIdeal (hLastSampleIdeal := hLastSampleIdeal)
    ∧ quiescent_LastSampleRefIdeal (hLastSampleRefIdeal := hLastSampleRefIdeal)
    ∧ quiescent_Norm (hNorm := hNorm)
    ∧ quiescent_NormIdeal (hNormIdeal := hNormIdeal)
    ∧ quiescent_NormRefIdeal (hNormRefIdeal := hNormRefIdeal)
    ∧ quiescent_Keys (hKeys := hKeys)
    ∧ quiescent_KeysIdeal (hKeysIdeal := hKeysIdeal)
    ∧ quiescent_KeysRefIdeal (hKeysRefIdeal := hKeysRefIdeal)
    ∧ quiescent_CaQ (hCaQ := hCaQ)
    ∧ quiescent_CaQIdeal (hCaQIdeal := hCaQIdeal)
    ∧ quiescent_CaQRefIdeal (hCaQRefIdeal := hCaQRefIdeal)
    ∧ quiescent_CaKv (hCaKv := hCaKv)
    ∧ quiescent_CaKvIdeal (hCaKvIdeal := hCaKvIdeal)
    ∧ quiescent_CaKvRefIdeal (hCaKvRefIdeal := hCaKvRefIdeal)
    ∧ quiescent_Ca (hCa := hCa)
    ∧ quiescent_CaIdeal (hCaIdeal := hCaIdeal)
    ∧ quiescent_CaIdeal_pre_finite_ca (hCaIdeal := hCaIdeal) (hPre_finite_ca := hPre_finite_ca)
    ∧ quiescent_CaRefIdeal (hCaRefIdeal := hCaRefIdeal)
    ∧ quiescent_CaRefIdeal_pre_finite_ca (hCaRefIdeal := hCaRefIdeal) (hPre_finite_ca := hPre_finite_ca)
    ∧ quiescent_CaOut (hCaOut := hCaOut)
    ∧ quiescent_CaOutIdeal (hCaOutIdeal := hCaOutIdeal)
    ∧ quiescent_CaOutRefIdeal (hCaOutRefIdeal := hCaOutRefIdeal)
    ∧ quiescent_Route (hRoute := hRoute)
    ∧ quiescent_RouteIdeal (hRouteIdeal := hRouteIdeal)
    ∧ quiescent_RouteRefIdeal (hRouteRefIdeal := hRouteRefIdeal)
    ∧ quiescent_DftC (hDftC := hDftC)
    ∧ quiescent_DftCIdeal (hDftCIdeal := hDftCIdeal)
    ∧ quiescent_DftCRefIdeal (hDftCRefIdeal := hDftCRefIdeal)
    ∧ quiescent_DftP (hDftP := hDftP)
    ∧ quiescent_DftPIdeal (hDftPIdeal := hDftPIdeal)
    ∧ quiescent_DftPRefIdeal (hDftPRefIdeal := hDftPRefIdeal)
    ∧ quiescent_KernelSample (hKernelSample := hKernelSample)
    ∧ quiescent_KernelSampleIdeal (hKernelSampleIdeal := hKernelSampleIdeal)
    ∧ quiescent_KernelSampleIdeal_pre_finite_keys_sample (hKernelSampleIdeal := hKernelSampleIdeal) (hPre_finite_keys_sample := hPre_finite_keys_sample)
    ∧ quiescent_KernelSampleRefIdeal (hKernelSampleRefIdeal := hKernelSampleRefIdeal)
    ∧ quiescent_KernelSampleRefIdeal_pre_finite_keys_sample (hKernelSampleRefIdeal := hKernelSampleRefIdeal) (hPre_finite_keys_sample := hPre_finite_keys_sample)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_OutProjSample (hOutProjSample := hOutProjSample)
    ∧ quiescent_OutProjSampleIdeal (hOutProjSampleIdeal := hOutProjSampleIdeal)
    ∧ quiescent_OutProjSampleRefIdeal (hOutProjSampleRefIdeal := hOutProjSampleRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_KeysSample (hKeysSample := hKeysSample)
    ∧ quiescent_KeysSampleIdeal (hKeysSampleIdeal := hKeysSampleIdeal)
    ∧ quiescent_KeysSampleRefIdeal (hKeysSampleRefIdeal := hKeysSampleRefIdeal)
    ∧ quiescent_CaQSample (hCaQSample := hCaQSample)
    ∧ quiescent_CaQSampleIdeal (hCaQSampleIdeal := hCaQSampleIdeal)
    ∧ quiescent_CaQSampleRefIdeal (hCaQSampleRefIdeal := hCaQSampleRefIdeal)
    ∧ quiescent_CaSample (hCaSample := hCaSample)
    ∧ quiescent_CaSampleIdeal (hCaSampleIdeal := hCaSampleIdeal)
    ∧ quiescent_CaSampleIdeal_pre_finite_ca_sample (hCaSampleIdeal := hCaSampleIdeal) (hPre_finite_ca_sample := hPre_finite_ca_sample)
    ∧ quiescent_CaSampleRefIdeal (hCaSampleRefIdeal := hCaSampleRefIdeal)
    ∧ quiescent_CaSampleRefIdeal_pre_finite_ca_sample (hCaSampleRefIdeal := hCaSampleRefIdeal) (hPre_finite_ca_sample := hPre_finite_ca_sample)
    ∧ quiescent_CaOutSample (hCaOutSample := hCaOutSample)
    ∧ quiescent_CaOutSampleIdeal (hCaOutSampleIdeal := hCaOutSampleIdeal)
    ∧ quiescent_CaOutSampleRefIdeal (hCaOutSampleRefIdeal := hCaOutSampleRefIdeal)
    ∧ quiescent_RouteSample (hRouteSample := hRouteSample)
    ∧ quiescent_RouteSampleIdeal (hRouteSampleIdeal := hRouteSampleIdeal)
    ∧ quiescent_RouteSampleRefIdeal (hRouteSampleRefIdeal := hRouteSampleRefIdeal)
    ∧ quiescent_DftCSample (hDftCSample := hDftCSample)
    ∧ quiescent_DftCSampleIdeal (hDftCSampleIdeal := hDftCSampleIdeal)
    ∧ quiescent_DftCSampleRefIdeal (hDftCSampleRefIdeal := hDftCSampleRefIdeal)
    ∧ quiescent_DftPSample (hDftPSample := hDftPSample)
    ∧ quiescent_DftPSampleIdeal (hDftPSampleIdeal := hDftPSampleIdeal)
    ∧ quiescent_DftPSampleRefIdeal (hDftPSampleRefIdeal := hDftPSampleRefIdeal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Last_LastIdeal
    ∧ algebraic_LastIdeal_LastRefIdeal (hLastIdeal := hLastIdeal) (hLastRefIdeal := hLastRefIdeal)
    ∧ preserves_LastSample_LastSampleIdeal
    ∧ algebraic_LastSampleIdeal_LastSampleRefIdeal (hLastSampleIdeal := hLastSampleIdeal) (hLastSampleRefIdeal := hLastSampleRefIdeal)
    ∧ preserves_Norm_NormIdeal
    ∧ algebraic_NormIdeal_NormRefIdeal (hNormIdeal := hNormIdeal) (hNormRefIdeal := hNormRefIdeal)
    ∧ preserves_Keys_KeysIdeal
    ∧ algebraic_KeysIdeal_KeysRefIdeal (hKeysIdeal := hKeysIdeal) (hKeysRefIdeal := hKeysRefIdeal)
    ∧ preserves_CaQ_CaQIdeal
    ∧ algebraic_CaQIdeal_CaQRefIdeal (hCaQIdeal := hCaQIdeal) (hCaQRefIdeal := hCaQRefIdeal)
    ∧ preserves_CaKv_CaKvIdeal
    ∧ algebraic_CaKvIdeal_CaKvRefIdeal (hCaKvIdeal := hCaKvIdeal) (hCaKvRefIdeal := hCaKvRefIdeal)
    ∧ preserves_Ca_CaIdeal
    ∧ algebraic_CaIdeal_CaRefIdeal_pre_finite_ca (hCaIdeal := hCaIdeal) (hCaRefIdeal := hCaRefIdeal) (hPre_finite_ca := hPre_finite_ca)
    ∧ preserves_CaOut_CaOutIdeal
    ∧ algebraic_CaOutIdeal_CaOutRefIdeal (hCaOutIdeal := hCaOutIdeal) (hCaOutRefIdeal := hCaOutRefIdeal)
    ∧ preserves_Route_RouteIdeal
    ∧ algebraic_RouteIdeal_RouteRefIdeal (hRouteIdeal := hRouteIdeal) (hRouteRefIdeal := hRouteRefIdeal)
    ∧ preserves_DftC_DftCIdeal
    ∧ algebraic_DftCIdeal_DftCRefIdeal (hDftCIdeal := hDftCIdeal) (hDftCRefIdeal := hDftCRefIdeal)
    ∧ preserves_DftP_DftPIdeal
    ∧ algebraic_DftPIdeal_DftPRefIdeal (hDftPIdeal := hDftPIdeal) (hDftPRefIdeal := hDftPRefIdeal)
    ∧ preserves_KernelSample_KernelSampleIdeal
    ∧ algebraic_KernelSampleIdeal_KernelSampleRefIdeal_pre_finite_keys_sample (hKernelSampleIdeal := hKernelSampleIdeal) (hKernelSampleRefIdeal := hKernelSampleRefIdeal) (hPre_finite_keys_sample := hPre_finite_keys_sample)
    ∧ preserves_MergeSample_MergeSampleIdeal
    ∧ algebraic_MergeSampleIdeal_MergeSampleRefIdeal (hMergeSampleIdeal := hMergeSampleIdeal) (hMergeSampleRefIdeal := hMergeSampleRefIdeal)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_OutProjSample_OutProjSampleIdeal
    ∧ algebraic_OutProjSampleIdeal_OutProjSampleRefIdeal (hOutProjSampleIdeal := hOutProjSampleIdeal) (hOutProjSampleRefIdeal := hOutProjSampleRefIdeal)
    ∧ preserves_NormSample_NormSampleIdeal
    ∧ algebraic_NormSampleIdeal_NormSampleRefIdeal (hNormSampleIdeal := hNormSampleIdeal) (hNormSampleRefIdeal := hNormSampleRefIdeal)
    ∧ preserves_KeysSample_KeysSampleIdeal
    ∧ algebraic_KeysSampleIdeal_KeysSampleRefIdeal (hKeysSampleIdeal := hKeysSampleIdeal) (hKeysSampleRefIdeal := hKeysSampleRefIdeal)
    ∧ preserves_CaQSample_CaQSampleIdeal
    ∧ algebraic_CaQSampleIdeal_CaQSampleRefIdeal (hCaQSampleIdeal := hCaQSampleIdeal) (hCaQSampleRefIdeal := hCaQSampleRefIdeal)
    ∧ preserves_CaSample_CaSampleIdeal
    ∧ algebraic_CaSampleIdeal_CaSampleRefIdeal_pre_finite_ca_sample (hCaSampleIdeal := hCaSampleIdeal) (hCaSampleRefIdeal := hCaSampleRefIdeal) (hPre_finite_ca_sample := hPre_finite_ca_sample)
    ∧ preserves_CaOutSample_CaOutSampleIdeal
    ∧ algebraic_CaOutSampleIdeal_CaOutSampleRefIdeal (hCaOutSampleIdeal := hCaOutSampleIdeal) (hCaOutSampleRefIdeal := hCaOutSampleRefIdeal)
    ∧ preserves_RouteSample_RouteSampleIdeal
    ∧ algebraic_RouteSampleIdeal_RouteSampleRefIdeal (hRouteSampleIdeal := hRouteSampleIdeal) (hRouteSampleRefIdeal := hRouteSampleRefIdeal)
    ∧ preserves_DftCSample_DftCSampleIdeal
    ∧ algebraic_DftCSampleIdeal_DftCSampleRefIdeal (hDftCSampleIdeal := hDftCSampleIdeal) (hDftCSampleRefIdeal := hDftCSampleRefIdeal)
    ∧ preserves_DftPSample_DftPSampleIdeal
    ∧ algebraic_DftPSampleIdeal_DftPSampleRefIdeal (hDftPSampleIdeal := hDftPSampleIdeal) (hDftPSampleRefIdeal := hDftPSampleRefIdeal)
-- ==== Pre_finite_ca.lean ====
abbrev S16384x1024 : Shape := ⟨2, ![16384, 1024]⟩
abbrev S1024x2048 : Shape := ⟨2, ![1024, 2048]⟩
abbrev S_ : Shape := ⟨0, ![]⟩
abbrev S1024x1024 : Shape := ⟨2, ![1024, 1024]⟩

class Facts : Prop where
  bitsLt_bf16_f32 : FTy.bits .bf16 < FTy.bits .f32
  bcast_S_S16384x1024 : S_.BroadcastsInDim S16384x1024 (![] : Fin 0 → Fin S16384x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S16384x1024 .bf16) (main_arg1 : FVec F S1024x2048 .bf16) : IVec S16384x1024 1 × IVec S1024x1024 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S1024x2048 .f32 := (extf .f32 · bitsLt_bf16_f32) main_arg1
  let main_v5 : FVec F S1024x1024 .f32 := (extractStridedSlice S1024x1024 ![0, 0] · slices_S1024x2048_S1024x1024_0_0) main_v4
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  (main_v3, main_v8)
-- ==== Pre_finite_ca_sample.lean ====
abbrev S8192x1024 : Shape := ⟨2, ![8192, 1024]⟩
abbrev S1024x2048 : Shape := ⟨2, ![1024, 2048]⟩
abbrev S_ : Shape := ⟨0, ![]⟩
abbrev S1024x1024 : Shape := ⟨2, ![1024, 1024]⟩

class Facts : Prop where
  bitsLt_bf16_f32 : FTy.bits .bf16 < FTy.bits .f32
  bcast_S_S8192x1024 : S_.BroadcastsInDim S8192x1024 (![] : Fin 0 → Fin S8192x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S1024x2048 .bf16) : IVec S8192x1024 1 × IVec S1024x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x2048 .f32 := (extf .f32 · bitsLt_bf16_f32) main_arg1
  let main_v5 : FVec F S1024x1024 .f32 := (extractStridedSlice S1024x1024 ![0, 0] · slices_S1024x2048_S1024x1024_0_0) main_v4
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  (main_v3, main_v8)
-- ==== Pre_finite_keys.lean ====
abbrev S16384x5120 : Shape := ⟨2, ![16384, 5120]⟩
abbrev S16384x512 : Shape := ⟨2, ![16384, 512]⟩
abbrev S1x128 : Shape := ⟨2, ![1, 128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S1x128 : S_.BroadcastsInDim S1x128 (![] : Fin 0 → Fin S1x128.rank)

variable [Facts]

def fn {F : FTy → Type} [FloatOps F] (main_arg0 : FVec F S16384x5120 .bf16) (main_arg1 : FVec F S16384x512 .bf16) (main_arg2 : FVec F S1x128 .f32) : IVec S16384x512 1 × IVec S1x128 1 :=
  let main_v0 : FVec F S16384x512 .f32 := (extf .f32 · bitsLt_bf16_f32) main_arg1
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  (main_v3, main_v6)
-- ==== Pre_finite_keys_sample.lean ====
abbrev S8192x5120 : Shape := ⟨2, ![8192, 5120]⟩
abbrev S8192x512 : Shape := ⟨2, ![8192, 512]⟩
abbrev S1x128 : Shape := ⟨2, ![1, 128]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S1x128 : S_.BroadcastsInDim S1x128 (![] : Fin 0 → Fin S1x128.rank)

variable [Facts]

def fn {F : FTy → Type} [FloatOps F] (main_arg0 : FVec F S8192x5120 .bf16) (main_arg1 : FVec F S8192x512 .bf16) (main_arg2 : FVec F S1x128 .f32) : IVec S8192x512 1 × IVec S1x128 1 :=
  let main_v0 : FVec F S8192x512 .f32 := (extf .f32 · bitsLt_bf16_f32) main_arg1
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  (main_v3, main_v6)
-- ==== Kernel.lean ====
abbrev S16384x5120 : Shape := ⟨2, ![16384, 5120]⟩
abbrev S16384x512 : Shape := ⟨2, ![16384, 512]⟩
abbrev S1x128 : Shape := ⟨2, ![1, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S32 : Shape := ⟨1, ![32]⟩
abbrev S4096x2x1 : Shape := ⟨3, ![4096, 2, 1]⟩
abbrev S1x1x32 : Shape := ⟨3, ![1, 1, 32]⟩
abbrev S4096x2x32 : Shape := ⟨3, ![4096, 2, 32]⟩
abbrev S4096x2x1x32 : Shape := ⟨4, ![4096, 2, 1, 32]⟩
abbrev S4096x2x2x32 : Shape := ⟨4, ![4096, 2, 2, 32]⟩
abbrev S4096x128 : Shape := ⟨2, ![4096, 128]⟩
abbrev S4x4096x512 : Shape := ⟨3, ![4, 4096, 512]⟩
abbrev S4x4096x5120 : Shape := ⟨3, ![4, 4096, 5120]⟩
abbrev S4x4096x2048 : Shape := ⟨3, ![4, 4096, 2048]⟩
abbrev S1x256x512 : Shape := ⟨3, ![1, 256, 512]⟩
abbrev S1x4096x128 : Shape := ⟨3, ![1, 4096, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x4096 : Shape := ⟨2, ![256, 4096]⟩

abbrev nBuf : Space → Nat
  | .hbm => 86
  | .vmem => 13
  | .smem => 0
  | _ => 0

abbrev bufTy : (tb : Table) → Fin (tcTables nBuf tb) → BufTy
  | .hbm, ⟨0, _⟩ => ⟨S16384x5120, .bf16⟩
  | .hbm, ⟨1, _⟩ => ⟨S16384x512, .bf16⟩
  | .hbm, ⟨2, _⟩ => ⟨S1x128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S1x128, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S_, .i1⟩
  | .hbm, ⟨43, _⟩ => ⟨S4096, .i1⟩
  | .hbm, ⟨44, _⟩ => ⟨S4096, .i1⟩
  | .hbm, ⟨45, _⟩ => ⟨S4096, .i1⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S4096x1, .i32⟩
  | .hbm, ⟨50, _⟩ => ⟨S4096x1, .i32⟩
  | .hbm, ⟨51, _⟩ => ⟨S4096x2, .i32⟩
  | .hbm, ⟨52, _⟩ => ⟨S4096x2, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S4096x2x1, .f32⟩
  | .hbm, ⟨68, _⟩ => ⟨S1x1x32, .f32⟩
  | .hbm, ⟨69, _⟩ => ⟨S4096x2x32, .f32⟩
  | .hbm, ⟨70, _⟩ => ⟨S4096x2x32, .f32⟩
  | .hbm, ⟨71, _⟩ => ⟨S4096x2x32, .f32⟩
  | .hbm, ⟨72, _⟩ => ⟨S4096x2x32, .f32⟩
  | .hbm, ⟨73, _⟩ => ⟨S4096x2x32, .f32⟩
  | .hbm, ⟨74, _⟩ => ⟨S4096x2x1x32, .f32⟩
  | .hbm, ⟨75, _⟩ => ⟨S4096x2x1x32, .f32⟩
  | .hbm, ⟨76, _⟩ => ⟨S4096x2x2x32, .f32⟩
  | .hbm, ⟨77, _⟩ => ⟨S4096x128, .f32⟩
  | .hbm, ⟨78, _⟩ => ⟨S4096x2x32, .f32⟩
  | .hbm, ⟨79, _⟩ => ⟨S4096x2x1x32, .f32⟩
  | .hbm, ⟨80, _⟩ => ⟨S4096x2x1x32, .f32⟩
  | .hbm, ⟨81, _⟩ => ⟨S4096x2x2x32, .f32⟩
  | .hbm, ⟨82, _⟩ => ⟨S4096x128, .f32⟩
  | .hbm, ⟨83, _⟩ => ⟨S4x4096x512, .bf16⟩
  | .hbm, ⟨84, _⟩ => ⟨S4x4096x5120, .bf16⟩
  | .hbm, ⟨85, _⟩ => ⟨S4x4096x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x256x512, .bf16⟩
  | .local _ .vmem, ⟨12, _⟩ => ⟨S1x256x512, .bf16⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_1 : Ref sig .tc := ⟨.hbm, 54, rfl⟩
abbrev main_v12 : Ref sig .tc := ⟨.hbm, 55, rfl⟩
abbrev main_v13 : Ref sig .tc := ⟨.hbm, 56, rfl⟩
abbrev main_cst_2 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_cst_3 : Ref sig .tc := ⟨.hbm, 61, rfl⟩
abbrev main_v17 : Ref sig .tc := ⟨.hbm, 62, rfl⟩
abbrev main_v18 : Ref sig .tc := ⟨.hbm, 63, rfl⟩
abbrev main_cst_4 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16384x5120 : Shape := ⟨2, ![16384, 5120]⟩
abbrev S16384x512 : Shape := ⟨2, ![16384, 512]⟩
abbrev S1x128 : Shape := ⟨2, ![1, 128]⟩
abbrev S4x4096x5120 : Shape := ⟨3, ![4, 4096, 5120]⟩
abbrev S4x4096x2048 : Shape := ⟨3, ![4, 4096, 2048]⟩
abbrev S4x4096x16x128 : Shape := ⟨4, ![4, 4096, 16, 128]⟩
abbrev S4x4096x512 : Shape := ⟨3, ![4, 4096, 512]⟩
abbrev S4x4096x4x128 : Shape := ⟨4, ![4, 4096, 4, 128]⟩
abbrev S128 : Shape := ⟨1, ![128]⟩
abbrev S_ : Shape := ⟨0, ![]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S4096x2 : Shape := ⟨2, ![4096, 2]⟩
abbrev S4096x2x1 : Shape := ⟨3, ![4096, 2, 1]⟩
abbrev S1x1x32 : Shape := ⟨3, ![1, 1, 32]⟩
abbrev S4096x2x32 : Shape := ⟨3, ![4096, 2, 32]⟩
abbrev S4x4096x16x2x2x32 : Shape := ⟨6, ![4, 4096, 16, 2, 2, 32]⟩
abbrev S4x4096x16x2x1x32 : Shape := ⟨6, ![4, 4096, 16, 2, 1, 32]⟩
abbrev S4x4096x16x2x32 : Shape := ⟨5, ![4, 4096, 16, 2, 32]⟩
abbrev S1x4096x1x2x32 : Shape := ⟨5, ![1, 4096, 1, 2, 32]⟩
abbrev S4x4096x4x4x128 : Shape := ⟨5, ![4, 4096, 4, 4, 128]⟩
abbrev S4x4x4096x4096x4 : Shape := ⟨5, ![4, 4, 4096, 4096, 4]⟩
abbrev S4x4x4x4096x4096 : Shape := ⟨5, ![4, 4, 4, 4096, 4096]⟩
abbrev S4x4x4x4096 : Shape := ⟨4, ![4, 4, 4, 4096]⟩
abbrev S4x4x4x4096x1 : Shape := ⟨5, ![4, 4, 4, 4096, 1]⟩
abbrev S4x4x128x4x4096 : Shape := ⟨5, ![4, 4, 128, 4, 4096]⟩

abbrev nBuf : Space → Nat
  | .hbm => 105
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S16384x512, .bf16⟩
  | .hbm, ⟨2, _⟩ => ⟨S1x128, .f32⟩
  | .hbm, ⟨3, _⟩ => ⟨S16384x5120, .f32⟩
  | .hbm, ⟨4, _⟩ => ⟨S4x4096x5120, .f32⟩
  | .hbm, ⟨5, _⟩ => ⟨S4x4096x2048, .f32⟩
  | .hbm, ⟨6, _⟩ => ⟨S4x4096x16x128, .f32⟩
  | .hbm, ⟨7, _⟩ => ⟨S4x4096x512, .f32⟩
  | .hbm, ⟨8, _⟩ => ⟨S4x4096x4x128, .f32⟩
  | .hbm, ⟨9, _⟩ => ⟨S16384x512, .f32⟩
  | .hbm, ⟨10, _⟩ => ⟨S4x4096x4x128, .f32⟩
  | .hbm, ⟨11, _⟩ => ⟨S128, .f32⟩
  | .hbm, ⟨12, _⟩ => ⟨S4x4096x16x128, .f32⟩
  | .hbm, ⟨13, _⟩ => ⟨S_, .f32⟩
  | .hbm, ⟨14, _⟩ => ⟨S4x4096x16, .f32⟩
  | .hbm, ⟨15, _⟩ => ⟨S4x4096x16x1, .f32⟩
  | .hbm, ⟨16, _⟩ => ⟨S_, .f32⟩
  | .hbm, ⟨17, _⟩ => ⟨S4x4096x16x1, .f32⟩
  | .hbm, ⟨18, _⟩ => ⟨S4x4096x16x1, .f32⟩
  | .hbm, ⟨19, _⟩ => ⟨S_, .f32⟩
  | .hbm, ⟨20, _⟩ => ⟨S4x4096x16x1, .f32⟩
  | .hbm, ⟨21, _⟩ => ⟨S4x4096x16x1, .f32⟩
  | .hbm, ⟨22, _⟩ => ⟨S4x4096x16x1, .f32⟩
  | .hbm, ⟨23, _⟩ => ⟨S4x4096x16x128, .f32⟩
  | .hbm, ⟨24, _⟩ => ⟨S4x4096x16x128, .f32⟩
  | .hbm, ⟨25, _⟩ => ⟨S1x1x1x128, .f32⟩
  | .hbm, ⟨26, _⟩ => ⟨S4x4096x16x128, .f32⟩
  | .hbm, ⟨27, _⟩ => ⟨S4x4096x16x128, .f32⟩
  | .hbm, ⟨28, _⟩ => ⟨S64, .i32⟩
  | .hbm, ⟨29, _⟩ => ⟨S64x64, .i32⟩
  | .hbm, ⟨30, _⟩ => ⟨S4096, .i32⟩
  | .hbm, ⟨31, _⟩ => ⟨S64, .i32⟩
  | .hbm, ⟨32, _⟩ => ⟨S1x64, .i32⟩
  | .hbm, ⟨33, _⟩ => ⟨S64x64, .i32⟩
  | .hbm, ⟨34, _⟩ => ⟨S4096, .i32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S4096x1, .i32⟩
  | .hbm, ⟨50, _⟩ => ⟨S4096x1, .i32⟩
  | .hbm, ⟨51, _⟩ => ⟨S4096x2, .i32⟩
  | .hbm, ⟨52, _⟩ => ⟨S4096x2, .f32⟩
  | .hbm, ⟨53, _⟩ => ⟨S4096x2x1, .f32⟩
  | .hbm, ⟨54, _⟩ => ⟨S1x1x32, .f32⟩
  | .hbm, ⟨55, _⟩ => ⟨S4096x2x32, .f32⟩
  | .hbm, ⟨56, _⟩ => ⟨S4096x2x32, .f32⟩
  | .hbm, ⟨57, _⟩ => ⟨S4096x2x32, .f32⟩
  | .hbm, ⟨58, _⟩ => ⟨S4096x2x32, .f32⟩
  | .hbm, ⟨59, _⟩ => ⟨S4096x2x32, .f32⟩
  | .hbm, ⟨60, _⟩ => ⟨S4x4096x16x2x2x32, .f32⟩
  | .hbm, ⟨61, _⟩ => ⟨S4x4096x16x2x1x32, .f32⟩
  | .hbm, ⟨62, _⟩ => ⟨S4x4096x16x2x32, .f32⟩
  | .hbm, ⟨63, _⟩ => ⟨S4x4096x16x2x1x32, .f32⟩
  | .hbm, ⟨64, _⟩ => ⟨S4x4096x16x2x32, .f32⟩
  | .hbm, ⟨65, _⟩ => ⟨S1x4096x1x2x32, .f32⟩
  | .hbm, ⟨66, _⟩ => ⟨S1x4096x1x2x32, .f32⟩
  | .hbm, ⟨67, _⟩ => ⟨S4x4096x16x2x32, .f32⟩
  | .hbm, ⟨68, _⟩ => ⟨S4x4096x16x2x32, .f32⟩
  | .hbm, ⟨69, _⟩ => ⟨S4x4096x16x2x32, .f32⟩
  | .hbm, ⟨70, _⟩ => ⟨S4x4096x16x2x32, .f32⟩
  | .hbm, ⟨71, _⟩ => ⟨S4x4096x16x2x32, .f32⟩
  | .hbm, ⟨72, _⟩ => ⟨S4x4096x16x2x32, .f32⟩
  | .hbm, ⟨73, _⟩ => ⟨S4x4096x16x2x32, .f32⟩
  | .hbm, ⟨74, _⟩ => ⟨S4x4096x16x2x32, .f32⟩
  | .hbm, ⟨75, _⟩ => ⟨S4x4096x16x2x32, .f32⟩
  | .hbm, ⟨76, _⟩ => ⟨S4x4096x16x2x32, .f32⟩
  | .hbm, ⟨77, _⟩ => ⟨S4x4096x16x2x1x32, .f32⟩
  | .hbm, ⟨78, _⟩ => ⟨S4x4096x16x2x1x32, .f32⟩
  | .hbm, ⟨79, _⟩ => ⟨S4x4096x16x2x2x32, .f32⟩
  | .hbm, ⟨80, _⟩ => ⟨S4x4096x16x128, .f32⟩
  | .hbm, ⟨81, _⟩ => ⟨S4x4096x4x4x128, .f32⟩
  | .hbm, ⟨82, _⟩ => ⟨S4x4x4096x4096x4, .f32⟩
  | .hbm, ⟨83, _⟩ => ⟨S4x4x4x4096x4096, .f32⟩
  | .hbm, ⟨84, _⟩ => ⟨S_, .f32⟩
  | .hbm, ⟨85, _⟩ => ⟨S4x4x4x4096x4096, .f32⟩
  | .hbm, ⟨86, _⟩ => ⟨S4x4x4x4096x4096, .f32⟩
  | .hbm, ⟨87, _⟩ => ⟨S_, .f32⟩
  | .hbm, ⟨88, _⟩ => ⟨S4x4x4x4096, .f32⟩
  | .hbm, ⟨89, _⟩ => ⟨S_, .f32⟩
  | .hbm, ⟨90, _⟩ => ⟨S4x4x4x4096, .f32⟩
  | .hbm, ⟨91, _⟩ => ⟨S4x4x4x4096, .f32⟩
  | .hbm, ⟨92, _⟩ => ⟨S4x4x4x4096x1, .f32⟩
  | .hbm, ⟨93, _⟩ => ⟨S4x4x4x4096x4096, .f32⟩
  | .hbm, ⟨94, _⟩ => ⟨S4x4x4x4096x4096, .f32⟩
  | .hbm, ⟨95, _⟩ => ⟨S4x4x4x4096x4096, .f32⟩
  | .hbm, ⟨96, _⟩ => ⟨S_, .f32⟩
  | .hbm, ⟨97, _⟩ => ⟨S4x4x4x4096, .f32⟩
  | .hbm, ⟨98, _⟩ => ⟨S4x4x4x4096x1, .f32⟩
  | .hbm, ⟨99, _⟩ => ⟨S4x4x4x4096x4096, .f32⟩
  | .hbm, ⟨100, _⟩ => ⟨S4x4x4x4096x4096, .f32⟩
  | .hbm, ⟨101, _⟩ => ⟨S4x4x128x4x4096, .f32⟩
  | .hbm, ⟨102, _⟩ => ⟨S4x4096x4x4x128, .f32⟩
  | .hbm, ⟨103, _⟩ => ⟨S4x4096x2048, .f32⟩
  | .hbm, ⟨104, _⟩ => ⟨S4x4096x2048, .bf16⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_6 : Ref sig .tc := ⟨.hbm, 84, rfl⟩
abbrev main_v74 : Ref sig .tc := ⟨.hbm, 85, rfl⟩
abbrev main_v75 : Ref sig .tc := ⟨.hbm, 86, rfl⟩
abbrev main_cst_7 : Ref sig .tc := ⟨.hbm, 87, rfl⟩
abbrev main_v76 : Ref sig .tc := ⟨.hbm, 88, rfl⟩
abbrev main_cst_8 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_9 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩

abbrev nD : Nat := 1
abbrev τ : Topo := Topo.v7x

variable {F : FTy → Type} [FloatOps F]
-- ==== Merge.lean ====
abbrev S16384x2048 : Shape := ⟨2, ![16384, 2048]⟩
abbrev S16384x4096 : Shape := ⟨2, ![16384, 4096]⟩
abbrev S1x2048x4096 : Shape := ⟨3, ![1, 2048, 4096]⟩
abbrev S1x4096x8192 : Shape := ⟨3, ![1, 4096, 8192]⟩
abbrev S1x8192 : Shape := ⟨2, ![1, 8192]⟩
abbrev S1x4096 : Shape := ⟨2, ![1, 4096]⟩
abbrev S4096x8192 : Shape := ⟨2, ![4096, 8192]⟩
abbrev S_ : Shape := ⟨0, ![]⟩
abbrev S4096 : Shape := ⟨1, ![4096]⟩
abbrev S1 : Shape := ⟨1, ![1]⟩
abbrev S2 : Shape := ⟨1, ![2]⟩
abbrev S2048x4096 : Shape := ⟨2, ![2048, 4096]⟩
abbrev S8192 : Shape := ⟨1, ![8192]⟩
abbrev S512x2048 : Shape := ⟨2, ![512, 2048]⟩
abbrev S512x4096 : Shape := ⟨2, ![512, 4096]⟩
abbrev S2048x512 : Shape := ⟨2, ![2048, 512]⟩
abbrev S4096x512 : Shape := ⟨2, ![4096, 512]⟩
abbrev S1x512 : Shape := ⟨2, ![1, 512]⟩
abbrev S512x512 : Shape := ⟨2, ![512, 512]⟩

abbrev nBuf : Space → Nat
  | .hbm => 84
  | .vmem => 21
  | .smem => 1
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x4096, .bf16⟩
  | .hbm, ⟨3, _⟩ => ⟨S1x2048x4096, .f32⟩
  | .hbm, ⟨4, _⟩ => ⟨S1x2048x4096, .f32⟩
  | .hbm, ⟨5, _⟩ => ⟨S1x4096x8192, .f32⟩
  | .hbm, ⟨6, _⟩ => ⟨S1x8192, .f32⟩
  | .hbm, ⟨7, _⟩ => ⟨S1x4096, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S2, .f32⟩
  | .hbm, ⟨73, _⟩ => ⟨S2048x4096, .f32⟩
  | .hbm, ⟨74, _⟩ => ⟨S2048x4096, .bf16⟩
  | .hbm, ⟨75, _⟩ => ⟨S2048x4096, .f32⟩
  | .hbm, ⟨76, _⟩ => ⟨S2048x4096, .bf16⟩
  | .hbm, ⟨77, _⟩ => ⟨S4096x8192, .f32⟩
  | .hbm, ⟨78, _⟩ => ⟨S4096x8192, .f32⟩
  | .hbm, ⟨79, _⟩ => ⟨S4096x8192, .f32⟩
  | .hbm, ⟨80, _⟩ => ⟨S4096x8192, .fp8e4m3⟩
  | .hbm, ⟨81, _⟩ => ⟨S8192, .f32⟩
  | .hbm, ⟨82, _⟩ => ⟨S1x8192, .f32⟩
  | .hbm, ⟨83, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x4096, .bf16⟩
  | .local _ .vmem, ⟨5, _⟩ => ⟨S512x4096, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S4096x512, .fp8e4m3⟩
  | .local _ .vmem, ⟨11, _⟩ => ⟨S4096x512, .fp8e4m3⟩
  | .local _ .vmem, ⟨12, _⟩ => ⟨S4096x512, .fp8e4m3⟩
  | .local _ .vmem, ⟨13, _⟩ => ⟨S4096x512, .fp8e4m3⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S512x4096, .fp8e4m3⟩
  | .local _ .smem, ⟨0, _⟩ => ⟨S2, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_cst_6 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v13 : Ref sig .tc := ⟨.hbm, 32, rfl⟩
abbrev main_cst_7 : Ref sig .tc := ⟨.hbm, 33, rfl⟩
abbrev main_call1_v0 : Ref sig .tc := ⟨.hbm, 34, rfl⟩
abbrev main_v14 : Ref sig .tc := ⟨.hbm, 35, rfl⟩
abbrev main_v15 : Ref sig .tc := ⟨.hbm, 36, rfl⟩
abbrev main_cst_8 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_9 : Ref sig .tc := ⟨.hbm, 41, rfl⟩
abbrev main_v19 : Ref sig .tc := ⟨.hbm, 42, rfl⟩
abbrev main_cst_10 : Ref sig .tc := ⟨.hbm, 43, rfl⟩
abbrev main_v20 : Ref sig .tc := ⟨.hbm, 44, rfl⟩
abbrev main_cst_11 : Ref sig .tc := ⟨.hbm, 45, rfl⟩
abbrev main_v21 : Ref sig .tc := ⟨.hbm, 46, rfl⟩
abbrev main_v22 : Ref sig .tc := ⟨.hbm, 47, rfl⟩
abbrev main_cst_12 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_13 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_14 : Ref sig .tc := ⟨.hbm, 56, rfl⟩
abbrev main_v29 : Ref sig .tc := ⟨.hbm, 57, rfl⟩
abbrev main_cst_15 : Ref sig .tc := ⟨.hbm, 58, rfl⟩
abbrev main_cst_16 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v30 : Ref sig .tc := ⟨.hbm, 63, rfl⟩
abbrev main_cst_17 : Ref sig .tc := ⟨.hbm, 64, rfl⟩
abbrev main_call3_v0 : Ref sig .tc := ⟨.hbm, 65, rfl⟩
abbrev main_v31 : Ref sig .tc := ⟨.hbm, 66, rfl⟩
abbrev main_v32 : Ref sig .tc := ⟨.hbm, 67, rfl⟩
abbrev main_cst_18 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeIdeal.lean ====
abbrev S16384x2048 : Shape := ⟨2, ![16384, 2048]⟩
abbrev S16384x4096 : Shape := ⟨2, ![16384, 4096]⟩
abbrev S1x2048x4096 : Shape := ⟨3, ![1, 2048, 4096]⟩
abbrev S1x4096x8192 : Shape := ⟨3, ![1, 4096, 8192]⟩
abbrev S1x8192 : Shape := ⟨2, ![1, 8192]⟩
abbrev S1x4096 : Shape := ⟨2, ![1, 4096]⟩
abbrev S4096x8192 : Shape := ⟨2, ![4096, 8192]⟩
abbrev S_ : Shape := ⟨0, ![]⟩
abbrev S4096 : Shape := ⟨1, ![4096]⟩
abbrev S1 : Shape := ⟨1, ![1]⟩
abbrev S2 : Shape := ⟨1, ![2]⟩
abbrev S2048x4096 : Shape := ⟨2, ![2048, 4096]⟩
abbrev S8192 : Shape := ⟨1, ![8192]⟩
abbrev S512x2048 : Shape := ⟨2, ![512, 2048]⟩
abbrev S512x4096 : Shape := ⟨2, ![512, 4096]⟩
abbrev S2048x512 : Shape := ⟨2, ![2048, 512]⟩
abbrev S4096x512 : Shape := ⟨2, ![4096, 512]⟩
abbrev S1x512 : Shape := ⟨2, ![1, 512]⟩
abbrev S512x512 : Shape := ⟨2, ![512, 512]⟩

abbrev nBuf : Space → Nat
  | .hbm => 84
  | .vmem => 21
  | .smem => 1
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x4096, .bf16⟩
  | .hbm, ⟨3, _⟩ => ⟨S1x2048x4096, .f32⟩
  | .hbm, ⟨4, _⟩ => ⟨S1x2048x4096, .f32⟩
  | .hbm, ⟨5, _⟩ => ⟨S1x4096x8192, .f32⟩
  | .hbm, ⟨6, _⟩ => ⟨S1x8192, .f32⟩
  | .hbm, ⟨7, _⟩ => ⟨S1x4096, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S2, .f32⟩
  | .hbm, ⟨73, _⟩ => ⟨S2048x4096, .f32⟩
  | .hbm, ⟨74, _⟩ => ⟨S2048x4096, .bf16⟩
  | .hbm, ⟨75, _⟩ => ⟨S2048x4096, .f32⟩
  | .hbm, ⟨76, _⟩ => ⟨S2048x4096, .bf16⟩
  | .hbm, ⟨77, _⟩ => ⟨S4096x8192, .f32⟩
  | .hbm, ⟨78, _⟩ => ⟨S4096x8192, .f32⟩
  | .hbm, ⟨79, _⟩ => ⟨S4096x8192, .f32⟩
  | .hbm, ⟨80, _⟩ => ⟨S4096x8192, .fp8e4m3⟩
  | .hbm, ⟨81, _⟩ => ⟨S8192, .f32⟩
  | .hbm, ⟨82, _⟩ => ⟨S1x8192, .f32⟩
  | .hbm, ⟨83, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x4096, .bf16⟩
  | .local _ .vmem, ⟨5, _⟩ => ⟨S512x4096, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S4096x512, .fp8e4m3⟩
  | .local _ .vmem, ⟨11, _⟩ => ⟨S4096x512, .fp8e4m3⟩
  | .local _ .vmem, ⟨12, _⟩ => ⟨S4096x512, .fp8e4m3⟩
  | .local _ .vmem, ⟨13, _⟩ => ⟨S4096x512, .fp8e4m3⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S512x4096, .fp8e4m3⟩
  | .local _ .smem, ⟨0, _⟩ => ⟨S2, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_cst_6 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v13 : Ref sig .tc := ⟨.hbm, 32, rfl⟩
abbrev main_cst_7 : Ref sig .tc := ⟨.hbm, 33, rfl⟩
abbrev main_call1_v0 : Ref sig .tc := ⟨.hbm, 34, rfl⟩
abbrev main_v14 : Ref sig .tc := ⟨.hbm, 35, rfl⟩
abbrev main_v15 : Ref sig .tc := ⟨.hbm, 36, rfl⟩
abbrev main_cst_8 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_9 : Ref sig .tc := ⟨.hbm, 41, rfl⟩
abbrev main_v19 : Ref sig .tc := ⟨.hbm, 42, rfl⟩
abbrev main_cst_10 : Ref sig .tc := ⟨.hbm, 43, rfl⟩
abbrev main_v20 : Ref sig .tc := ⟨.hbm, 44, rfl⟩
abbrev main_cst_11 : Ref sig .tc := ⟨.hbm, 45, rfl⟩
abbrev main_v21 : Ref sig .tc := ⟨.hbm, 46, rfl⟩
abbrev main_v22 : Ref sig .tc := ⟨.hbm, 47, rfl⟩
abbrev main_cst_12 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_13 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_14 : Ref sig .tc := ⟨.hbm, 56, rfl⟩
abbrev main_v29 : Ref sig .tc := ⟨.hbm, 57, rfl⟩
abbrev main_cst_15 : Ref sig .tc := ⟨.hbm, 58, rfl⟩
abbrev main_cst_16 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v30 : Ref sig .tc := ⟨.hbm, 63, rfl⟩
abbrev main_cst_17 : Ref sig .tc := ⟨.hbm, 64, rfl⟩
abbrev main_call3_v0 : Ref sig .tc := ⟨.hbm, 65, rfl⟩
abbrev main_v31 : Ref sig .tc := ⟨.hbm, 66, rfl⟩
abbrev main_v32 : Ref sig .tc := ⟨.hbm, 67, rfl⟩
abbrev main_cst_18 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S16384x2048 : Shape := ⟨2, ![16384, 2048]⟩
abbrev S16384x4096 : Shape := ⟨2, ![16384, 4096]⟩
abbrev S1x2048x4096 : Shape := ⟨3, ![1, 2048, 4096]⟩
abbrev S1x4096x8192 : Shape := ⟨3, ![1, 4096, 8192]⟩
abbrev S1x8192 : Shape := ⟨2, ![1, 8192]⟩
abbrev S1x4096 : Shape := ⟨2, ![1, 4096]⟩
abbrev S2048x4096 : Shape := ⟨2, ![2048, 4096]⟩
abbrev S4096x8192 : Shape := ⟨2, ![4096, 8192]⟩
abbrev S16384x8192 : Shape := ⟨2, ![16384, 8192]⟩
abbrev S8192 : Shape := ⟨1, ![8192]⟩
abbrev S_ : Shape := ⟨0, ![]⟩
abbrev S16384x2x4096 : Shape := ⟨3, ![16384, 2, 4096]⟩
abbrev S16384x1x4096 : Shape := ⟨3, ![16384, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x4096, .bf16⟩
  | .hbm, ⟨3, _⟩ => ⟨S1x2048x4096, .f32⟩
  | .hbm, ⟨4, _⟩ => ⟨S1x2048x4096, .f32⟩
  | .hbm, ⟨5, _⟩ => ⟨S1x4096x8192, .f32⟩
  | .hbm, ⟨6, _⟩ => ⟨S1x8192, .f32⟩
  | .hbm, ⟨7, _⟩ => ⟨S1x4096, .f32⟩
  | .hbm, ⟨8, _⟩ => ⟨S16384x2048, .f32⟩
  | .hbm, ⟨9, _⟩ => ⟨S2048x4096, .f32⟩
  | .hbm, ⟨10, _⟩ => ⟨S16384x4096, .f32⟩
  | .hbm, ⟨11, _⟩ => ⟨S16384x2048, .f32⟩
  | .hbm, ⟨12, _⟩ => ⟨S2048x4096, .f32⟩
  | .hbm, ⟨13, _⟩ => ⟨S16384x4096, .f32⟩
  | .hbm, ⟨14, _⟩ => ⟨S16384x4096, .f32⟩
  | .hbm, ⟨15, _⟩ => ⟨S4096x8192, .f32⟩
  | .hbm, ⟨16, _⟩ => ⟨S16384x8192, .f32⟩
  | .hbm, ⟨17, _⟩ => ⟨S8192, .f32⟩
  | .hbm, ⟨18, _⟩ => ⟨S1x8192, .f32⟩
  | .hbm, ⟨19, _⟩ => ⟨S16384x8192, .f32⟩
  | .hbm, ⟨20, _⟩ => ⟨S16384x8192, .f32⟩
  | .hbm, ⟨21, _⟩ => ⟨S16384x8192, .f32⟩
  | .hbm, ⟨22, _⟩ => ⟨S16384x8192, .f32⟩
  | .hbm, ⟨23, _⟩ => ⟨S_, .f32⟩
  | .hbm, ⟨24, _⟩ => ⟨S16384x8192, .f32⟩
  | .hbm, ⟨25, _⟩ => ⟨S16384x8192, .f32⟩
  | .hbm, ⟨26, _⟩ => ⟨S_, .f32⟩
  | .hbm, ⟨27, _⟩ => ⟨S16384x8192, .f32⟩
  | .hbm, ⟨28, _⟩ => ⟨S16384x8192, .f32⟩
  | .hbm, ⟨29, _⟩ => ⟨S16384x2x4096, .f32⟩
  | .hbm, ⟨30, _⟩ => ⟨S16384x1x4096, .f32⟩
  | .hbm, ⟨31, _⟩ => ⟨S16384x4096, .f32⟩
  | .hbm, ⟨32, _⟩ => ⟨S16384x4096, .f32⟩
  | .hbm, ⟨33, _⟩ => ⟨S16384x1x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== InProj.lean ====
abbrev S16384x4096 : Shape := ⟨2, ![16384, 4096]⟩
abbrev S1x4096x5120 : Shape := ⟨3, ![1, 4096, 5120]⟩
abbrev S4096x5120 : Shape := ⟨2, ![4096, 5120]⟩
abbrev S4096x2048 : Shape := ⟨2, ![4096, 2048]⟩
abbrev S4096x3072 : Shape := ⟨2, ![4096, 3072]⟩
abbrev S16384x5120 : Shape := ⟨2, ![16384, 5120]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x5120, .f32⟩
  | .hbm, ⟨2, _⟩ => ⟨S4096x5120, .f32⟩
  | .hbm, ⟨3, _⟩ => ⟨S4096x2048, .f32⟩
  | .hbm, ⟨4, _⟩ => ⟨S4096x3072, .f32⟩
  | .hbm, ⟨5, _⟩ => ⟨S4096x5120, .f32⟩
  | .hbm, ⟨6, _⟩ => ⟨S4096x5120, .bf16⟩
  | .hbm, ⟨7, _⟩ => ⟨S16384x5120, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjIdeal.lean ====
abbrev S16384x4096 : Shape := ⟨2, ![16384, 4096]⟩
abbrev S1x4096x5120 : Shape := ⟨3, ![1, 4096, 5120]⟩
abbrev S4096x5120 : Shape := ⟨2, ![4096, 5120]⟩
abbrev S4096x2048 : Shape := ⟨2, ![4096, 2048]⟩
abbrev S4096x3072 : Shape := ⟨2, ![4096, 3072]⟩
abbrev S16384x5120 : Shape := ⟨2, ![16384, 5120]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x5120, .f32⟩
  | .hbm, ⟨2, _⟩ => ⟨S4096x5120, .f32⟩
  | .hbm, ⟨3, _⟩ => ⟨S4096x2048, .f32⟩
  | .hbm, ⟨4, _⟩ => ⟨S4096x3072, .f32⟩
  | .hbm, ⟨5, _⟩ => ⟨S4096x5120, .f32⟩
  | .hbm, ⟨6, _⟩ => ⟨S4096x5120, .bf16⟩
  | .hbm, ⟨7, _⟩ => ⟨S16384x5120, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16384x4096 : Shape := ⟨2, ![16384, 4096]⟩
abbrev S1x4096x5120 : Shape := ⟨3, ![1, 4096, 5120]⟩
abbrev S4096x5120 : Shape := ⟨2, ![4096, 5120]⟩
abbrev S16384x5120 : Shape := ⟨2, ![16384, 5120]⟩
abbrev S16384x3072 : Shape := ⟨2, ![16384, 3072]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x5120, .f32⟩
  | .hbm, ⟨2, _⟩ => ⟨S16384x4096, .f32⟩
  | .hbm, ⟨3, _⟩ => ⟨S4096x5120, .f32⟩
  | .hbm, ⟨4, _⟩ => ⟨S16384x5120, .f32⟩
  | .hbm, ⟨5, _⟩ => ⟨S16384x3072, .f32⟩
  | .hbm, ⟨6, _⟩ => ⟨S16384x2048, .f32⟩
  | .hbm, ⟨7, _⟩ => ⟨S16384x5120, .f32⟩
  | .hbm, ⟨8, _⟩ => ⟨S16384x5120, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OutProj.lean ====
abbrev S16384x4096 : Shape := ⟨2, ![16384, 4096]⟩
abbrev S1x4096x4096 : Shape := ⟨3, ![1, 4096, 4096]⟩
abbrev S4x4096x4096 : Shape := ⟨3, ![4, 4096, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4x4096x4096, .f32⟩
  | .hbm, ⟨3, _⟩ => ⟨S4096x4096, .f32⟩
  | .hbm, ⟨4, _⟩ => ⟨S4096x4096, .bf16⟩
  | .hbm, ⟨5, _⟩ => ⟨S16384x4096, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjIdeal.lean ====
abbrev S16384x4096 : Shape := ⟨2, ![16384, 4096]⟩
abbrev S1x4096x4096 : Shape := ⟨3, ![1, 4096, 4096]⟩
abbrev S4x4096x4096 : Shape := ⟨3, ![4, 4096, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4x4096x4096, .f32⟩
  | .hbm, ⟨3, _⟩ => ⟨S4096x4096, .f32⟩
  | .hbm, ⟨4, _⟩ => ⟨S4096x4096, .bf16⟩
  | .hbm, ⟨5, _⟩ => ⟨S16384x4096, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x4096 : Shape := ⟨2, ![16384, 4096]⟩
abbrev S1x4096x4096 : Shape := ⟨3, ![1, 4096, 4096]⟩
abbrev S4x4096x4096 : Shape := ⟨3, ![4, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4x4096x4096, .f32⟩
  | .hbm, ⟨3, _⟩ => ⟨S16384x4096, .f32⟩
  | .hbm, ⟨4, _⟩ => ⟨S16384x4096, .f32⟩
  | .hbm, ⟨5, _⟩ => ⟨S4096x4096, .f32⟩
  | .hbm, ⟨6, _⟩ => ⟨S16384x4096, .f32⟩
  | .hbm, ⟨7, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Last.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== LastSample.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastSampleRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Norm.lean ====
abbrev S16384x4096 : Shape := ⟨2, ![16384, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S16384x4096 : Shape := ⟨2, ![16384, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Keys.lean ====
abbrev S16384x5120 : Shape := ⟨2, ![16384, 5120]⟩
abbrev S1x128 : Shape := ⟨2, ![1, 128]⟩
abbrev S128 : Shape := ⟨1, ![128]⟩
abbrev S4x128 : Shape := ⟨2, ![4, 128]⟩
abbrev S512 : Shape := ⟨1, ![512]⟩
abbrev S1x512 : Shape := ⟨2, ![1, 512]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S32 : Shape := ⟨1, ![32]⟩
abbrev S4096x2x1 : Shape := ⟨3, ![4096, 2, 1]⟩
abbrev S1x1x32 : Shape := ⟨3, ![1, 1, 32]⟩
abbrev S4096x2x32 : Shape := ⟨3, ![4096, 2, 32]⟩
abbrev S4096x2x1x32 : Shape := ⟨4, ![4096, 2, 1, 32]⟩
abbrev S4096x2x2x32 : Shape := ⟨4, ![4096, 2, 2, 32]⟩
abbrev S4096x128 : Shape := ⟨2, ![4096, 128]⟩
abbrev S16384x512 : Shape := ⟨2, ![16384, 512]⟩
abbrev S512x512 : Shape := ⟨2, ![512, 512]⟩
abbrev S512x128 : Shape := ⟨2, ![512, 128]⟩
abbrev S512x1 : Shape := ⟨2, ![512, 1]⟩

abbrev nBuf : Space → Nat
  | .hbm => 83
  | .vmem => 9
  | .smem => 0
  | _ => 0

abbrev bufTy : (tb : Table) → Fin (tcTables nBuf tb) → BufTy
  | .hbm, ⟨0, _⟩ => ⟨S16384x5120, .bf16⟩
  | .hbm, ⟨1, _⟩ => ⟨S1x128, .f32⟩
  | .hbm, ⟨2, _⟩ => ⟨S128, .f32⟩
  | .hbm, ⟨3, _⟩ => ⟨S1x128, .f32⟩
  | .hbm, ⟨4, _⟩ => ⟨S4x128, .f32⟩
  | .hbm, ⟨5, _⟩ => ⟨S512, .f32⟩
  | .hbm, ⟨6, _⟩ => ⟨S1x512, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S_, .i1⟩
  | .hbm, ⟨42, _⟩ => ⟨S4096, .i1⟩
  | .hbm, ⟨43, _⟩ => ⟨S4096, .i1⟩
  | .hbm, ⟨44, _⟩ => ⟨S4096, .i1⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x1, .i32⟩
  | .hbm, ⟨50, _⟩ => ⟨S4096x2, .i32⟩
  | .hbm, ⟨51, _⟩ => ⟨S4096x2, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S4096x2x1, .f32⟩
  | .hbm, ⟨67, _⟩ => ⟨S1x1x32, .f32⟩
  | .hbm, ⟨68, _⟩ => ⟨S4096x2x32, .f32⟩
  | .hbm, ⟨69, _⟩ => ⟨S4096x2x32, .f32⟩
  | .hbm, ⟨70, _⟩ => ⟨S4096x2x32, .f32⟩
  | .hbm, ⟨71, _⟩ => ⟨S4096x2x32, .f32⟩
  | .hbm, ⟨72, _⟩ => ⟨S4096x2x32, .f32⟩
  | .hbm, ⟨73, _⟩ => ⟨S4096x2x1x32, .f32⟩
  | .hbm, ⟨74, _⟩ => ⟨S4096x2x1x32, .f32⟩
  | .hbm, ⟨75, _⟩ => ⟨S4096x2x2x32, .f32⟩
  | .hbm, ⟨76, _⟩ => ⟨S4096x128, .f32⟩
  | .hbm, ⟨77, _⟩ => ⟨S4096x2x32, .f32⟩
  | .hbm, ⟨78, _⟩ => ⟨S4096x2x1x32, .f32⟩
  | .hbm, ⟨79, _⟩ => ⟨S4096x2x1x32, .f32⟩
  | .hbm, ⟨80, _⟩ => ⟨S4096x2x2x32, .f32⟩
  | .hbm, ⟨81, _⟩ => ⟨S4096x128, .f32⟩
  | .hbm, ⟨82, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x512, .bf16⟩
  | .local _ .vmem, ⟨8, _⟩ => ⟨S512x512, .bf16⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst : Ref sig .tc := ⟨.hbm, 53, rfl⟩
abbrev main_v13 : Ref sig .tc := ⟨.hbm, 54, rfl⟩
abbrev main_v14 : Ref sig .tc := ⟨.hbm, 55, rfl⟩
abbrev main_cst_1 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_2 : Ref sig .tc := ⟨.hbm, 60, rfl⟩
abbrev main_v18 : Ref sig .tc := ⟨.hbm, 61, rfl⟩
abbrev main_v19 : Ref sig .tc := ⟨.hbm, 62, rfl⟩
abbrev main_cst_3 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KeysRefIdeal.lean ====
abbrev S16384x5120 : Shape := ⟨2, ![16384, 5120]⟩
abbrev S1x128 : Shape := ⟨2, ![1, 128]⟩
abbrev S16384x512 : Shape := ⟨2, ![16384, 512]⟩
abbrev S4x4096x4x128 : Shape := ⟨4, ![4, 4096, 4, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S4096x2 : Shape := ⟨2, ![4096, 2]⟩
abbrev S4096x2x1 : Shape := ⟨3, ![4096, 2, 1]⟩
abbrev S1x1x32 : Shape := ⟨3, ![1, 1, 32]⟩
abbrev S4096x2x32 : Shape := ⟨3, ![4096, 2, 32]⟩
abbrev S128 : Shape := ⟨1, ![128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4096x4x2x2x32 : Shape := ⟨6, ![4, 4096, 4, 2, 2, 32]⟩
abbrev S4x4096x4x2x1x32 : Shape := ⟨6, ![4, 4096, 4, 2, 1, 32]⟩
abbrev S4x4096x4x2x32 : Shape := ⟨5, ![4, 4096, 4, 2, 32]⟩
abbrev S1x4096x1x2x32 : Shape := ⟨5, ![1, 4096, 1, 2, 32]⟩

abbrev nBuf : Space → Nat
  | .hbm => 77
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S1x128, .f32⟩
  | .hbm, ⟨2, _⟩ => ⟨S16384x5120, .f32⟩
  | .hbm, ⟨3, _⟩ => ⟨S16384x512, .f32⟩
  | .hbm, ⟨4, _⟩ => ⟨S4x4096x4x128, .f32⟩
  | .hbm, ⟨5, _⟩ => ⟨S64, .i32⟩
  | .hbm, ⟨6, _⟩ => ⟨S64x64, .i32⟩
  | .hbm, ⟨7, _⟩ => ⟨S4096, .i32⟩
  | .hbm, ⟨8, _⟩ => ⟨S64, .i32⟩
  | .hbm, ⟨9, _⟩ => ⟨S1x64, .i32⟩
  | .hbm, ⟨10, _⟩ => ⟨S64x64, .i32⟩
  | .hbm, ⟨11, _⟩ => ⟨S4096, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4096x1, .i32⟩
  | .hbm, ⟨27, _⟩ => ⟨S4096x1, .i32⟩
  | .hbm, ⟨28, _⟩ => ⟨S4096x2, .i32⟩
  | .hbm, ⟨29, _⟩ => ⟨S4096x2, .f32⟩
  | .hbm, ⟨30, _⟩ => ⟨S4096x2x1, .f32⟩
  | .hbm, ⟨31, _⟩ => ⟨S1x1x32, .f32⟩
  | .hbm, ⟨32, _⟩ => ⟨S4096x2x32, .f32⟩
  | .hbm, ⟨33, _⟩ => ⟨S4096x2x32, .f32⟩
  | .hbm, ⟨34, _⟩ => ⟨S4096x2x32, .f32⟩
  | .hbm, ⟨35, _⟩ => ⟨S4096x2x32, .f32⟩
  | .hbm, ⟨36, _⟩ => ⟨S4096x2x32, .f32⟩
  | .hbm, ⟨37, _⟩ => ⟨S128, .f32⟩
  | .hbm, ⟨38, _⟩ => ⟨S4x4096x4x128, .f32⟩
  | .hbm, ⟨39, _⟩ => ⟨S_, .f32⟩
  | .hbm, ⟨40, _⟩ => ⟨S4x4096x4, .f32⟩
  | .hbm, ⟨41, _⟩ => ⟨S4x4096x4x1, .f32⟩
  | .hbm, ⟨42, _⟩ => ⟨S_, .f32⟩
  | .hbm, ⟨43, _⟩ => ⟨S4x4096x4x1, .f32⟩
  | .hbm, ⟨44, _⟩ => ⟨S4x4096x4x1, .f32⟩
  | .hbm, ⟨45, _⟩ => ⟨S_, .f32⟩
  | .hbm, ⟨46, _⟩ => ⟨S4x4096x4x1, .f32⟩
  | .hbm, ⟨47, _⟩ => ⟨S4x4096x4x1, .f32⟩
  | .hbm, ⟨48, _⟩ => ⟨S4x4096x4x1, .f32⟩
  | .hbm, ⟨49, _⟩ => ⟨S4x4096x4x128, .f32⟩
  | .hbm, ⟨50, _⟩ => ⟨S4x4096x4x128, .f32⟩
  | .hbm, ⟨51, _⟩ => ⟨S1x1x1x128, .f32⟩
  | .hbm, ⟨52, _⟩ => ⟨S4x4096x4x128, .f32⟩
  | .hbm, ⟨53, _⟩ => ⟨S4x4096x4x128, .f32⟩
  | .hbm, ⟨54, _⟩ => ⟨S4x4096x4x2x2x32, .f32⟩
  | .hbm, ⟨55, _⟩ => ⟨S4x4096x4x2x1x32, .f32⟩
  | .hbm, ⟨56, _⟩ => ⟨S4x4096x4x2x32, .f32⟩
  | .hbm, ⟨57, _⟩ => ⟨S4x4096x4x2x1x32, .f32⟩
  | .hbm, ⟨58, _⟩ => ⟨S4x4096x4x2x32, .f32⟩
  | .hbm, ⟨59, _⟩ => ⟨S1x4096x1x2x32, .f32⟩
  | .hbm, ⟨60, _⟩ => ⟨S1x4096x1x2x32, .f32⟩
  | .hbm, ⟨61, _⟩ => ⟨S4x4096x4x2x32, .f32⟩
  | .hbm, ⟨62, _⟩ => ⟨S4x4096x4x2x32, .f32⟩
  | .hbm, ⟨63, _⟩ => ⟨S4x4096x4x2x32, .f32⟩
  | .hbm, ⟨64, _⟩ => ⟨S4x4096x4x2x32, .f32⟩
  | .hbm, ⟨65, _⟩ => ⟨S4x4096x4x2x32, .f32⟩
  | .hbm, ⟨66, _⟩ => ⟨S4x4096x4x2x32, .f32⟩
  | .hbm, ⟨67, _⟩ => ⟨S4x4096x4x2x32, .f32⟩
  | .hbm, ⟨68, _⟩ => ⟨S4x4096x4x2x32, .f32⟩
  | .hbm, ⟨69, _⟩ => ⟨S4x4096x4x2x32, .f32⟩
  | .hbm, ⟨70, _⟩ => ⟨S4x4096x4x2x32, .f32⟩
  | .hbm, ⟨71, _⟩ => ⟨S4x4096x4x2x1x32, .f32⟩
  | .hbm, ⟨72, _⟩ => ⟨S4x4096x4x2x1x32, .f32⟩
  | .hbm, ⟨73, _⟩ => ⟨S4x4096x4x2x2x32, .f32⟩
  | .hbm, ⟨74, _⟩ => ⟨S4x4096x4x128, .f32⟩
  | .hbm, ⟨75, _⟩ => ⟨S16384x512, .f32⟩
  | .hbm, ⟨76, _⟩ => ⟨S16384x512, .bf16⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩

abbrev nD : Nat := 1
abbrev τ : Topo := Topo.v7x

variable {F : FTy → Type} [FloatOps F]
-- ==== CaQ.lean ====
abbrev S16384x4096 : Shape := ⟨2, ![16384, 4096]⟩
abbrev S1x4096x1024 : Shape := ⟨3, ![1, 4096, 1024]⟩
abbrev S4096x1024 : Shape := ⟨2, ![4096, 1024]⟩
abbrev S16384x1024 : Shape := ⟨2, ![16384, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S16384x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CaQIdeal.lean ====
abbrev S16384x4096 : Shape := ⟨2, ![16384, 4096]⟩
abbrev S1x4096x1024 : Shape := ⟨3, ![1, 4096, 1024]⟩
abbrev S4096x1024 : Shape := ⟨2, ![4096, 1024]⟩
abbrev S16384x1024 : Shape := ⟨2, ![16384, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S16384x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CaQRefIdeal.lean ====
abbrev S16384x4096 : Shape := ⟨2, ![16384, 4096]⟩
abbrev S1x4096x1024 : Shape := ⟨3, ![1, 4096, 1024]⟩
abbrev S4096x1024 : Shape := ⟨2, ![4096, 1024]⟩
abbrev S16384x1024 : Shape := ⟨2, ![16384, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x1024, .f32⟩
  | .hbm, ⟨2, _⟩ => ⟨S16384x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CaKv.lean ====
abbrev S4x256x4096 : Shape := ⟨3, ![4, 256, 4096]⟩
abbrev S1x4096 : Shape := ⟨2, ![1, 4096]⟩
abbrev S1x4096x2048 : Shape := ⟨3, ![1, 4096, 2048]⟩
abbrev S1024x4096 : Shape := ⟨2, ![1024, 4096]⟩
abbrev S4096 : Shape := ⟨1, ![4096]⟩
abbrev S4096x2048 : Shape := ⟨2, ![4096, 2048]⟩
abbrev S1024x2048 : Shape := ⟨2, ![1024, 2048]⟩
abbrev S512x4096 : Shape := ⟨2, ![512, 4096]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S1x4096x2048, .f32⟩
  | .hbm, ⟨3, _⟩ => ⟨S1024x4096, .f32⟩
  | .hbm, ⟨4, _⟩ => ⟨S4096, .f32⟩
  | .hbm, ⟨5, _⟩ => ⟨S4096x2048, .f32⟩
  | .hbm, ⟨6, _⟩ => ⟨S4096x2048, .bf16⟩
  | .hbm, ⟨7, _⟩ => ⟨S1x4096, .f32⟩
  | .hbm, ⟨8, _⟩ => ⟨S1024x2048, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S512x512, .bf16⟩
  | .local _ .vmem, ⟨6, _⟩ => ⟨S512x512, .bf16⟩
  | .local _ .vmem, ⟨7, _⟩ => ⟨S512x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CaKvRefIdeal.lean ====
abbrev S4x256x4096 : Shape := ⟨3, ![4, 256, 4096]⟩
abbrev S1x4096 : Shape := ⟨2, ![1, 4096]⟩
abbrev S1x4096x2048 : Shape := ⟨3, ![1, 4096, 2048]⟩
abbrev S4096 : Shape := ⟨1, ![4096]⟩
abbrev S_ : Shape := ⟨0, ![]⟩
abbrev S4x256 : Shape := ⟨2, ![4, 256]⟩
abbrev S4x256x1 : Shape := ⟨3, ![4, 256, 1]⟩
abbrev S1x1x4096 : Shape := ⟨3, ![1, 1, 4096]⟩
abbrev S4096x2048 : Shape := ⟨2, ![4096, 2048]⟩
abbrev S4x256x2048 : Shape := ⟨3, ![4, 256, 2048]⟩
abbrev S1024x2048 : Shape := ⟨2, ![1024, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S1x4096x2048, .f32⟩
  | .hbm, ⟨3, _⟩ => ⟨S4096, .f32⟩
  | .hbm, ⟨4, _⟩ => ⟨S4x256x4096, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x4096, .f32⟩
  | .hbm, ⟨16, _⟩ => ⟨S4x256x4096, .f32⟩
  | .hbm, ⟨17, _⟩ => ⟨S1x1x4096, .f32⟩
  | .hbm, ⟨18, _⟩ => ⟨S4x256x4096, .f32⟩
  | .hbm, ⟨19, _⟩ => ⟨S4x256x4096, .f32⟩
  | .hbm, ⟨20, _⟩ => ⟨S4096x2048, .f32⟩
  | .hbm, ⟨21, _⟩ => ⟨S4x256x2048, .f32⟩
  | .hbm, ⟨22, _⟩ => ⟨S1024x2048, .f32⟩
  | .hbm, ⟨23, _⟩ => ⟨S1024x2048, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Ca.lean ====
abbrev S16384x1024 : Shape := ⟨2, ![16384, 1024]⟩
abbrev S1024x2048 : Shape := ⟨2, ![1024, 2048]⟩
abbrev S4x4096x1024 : Shape := ⟨3, ![4, 4096, 1024]⟩
abbrev S4x256x2048 : Shape := ⟨3, ![4, 256, 2048]⟩
abbrev S1x512x1024 : Shape := ⟨3, ![1, 512, 1024]⟩
abbrev S1x256x2048 : Shape := ⟨3, ![1, 256, 2048]⟩
abbrev S1x256x256 : Shape := ⟨3, ![1, 256, 256]⟩
abbrev S256x256 : Shape := ⟨2, ![256, 256]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .bf16⟩
  | .hbm, ⟨2, _⟩ => ⟨S4x4096x1024, .bf16⟩
  | .hbm, ⟨3, _⟩ => ⟨S4x256x2048, .bf16⟩
  | .hbm, ⟨4, _⟩ => ⟨S4x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x512x1024, .bf16⟩
  | .local _ .vmem, ⟨5, _⟩ => ⟨S1x512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CaRefIdeal.lean ====
abbrev S16384x1024 : Shape := ⟨2, ![16384, 1024]⟩
abbrev S1024x2048 : Shape := ⟨2, ![1024, 2048]⟩
abbrev S4x4096x4x256 : Shape := ⟨4, ![4, 4096, 4, 256]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S4x4096x1024 : Shape := ⟨3, ![4, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .bf16⟩
  | .hbm, ⟨2, _⟩ => ⟨S16384x1024, .f32⟩
  | .hbm, ⟨3, _⟩ => ⟨S4x4096x4x256, .f32⟩
  | .hbm, ⟨4, _⟩ => ⟨S1024x2048, .f32⟩
  | .hbm, ⟨5, _⟩ => ⟨S4x256x2x4x256, .f32⟩
  | .hbm, ⟨6, _⟩ => ⟨S4x256x1x4x256, .f32⟩
  | .hbm, ⟨7, _⟩ => ⟨S4x256x4x256, .f32⟩
  | .hbm, ⟨8, _⟩ => ⟨S4x256x1x4x256, .f32⟩
  | .hbm, ⟨9, _⟩ => ⟨S4x256x4x256, .f32⟩
  | .hbm, ⟨10, _⟩ => ⟨S4x4x4096x256, .f32⟩
  | .hbm, ⟨11, _⟩ => ⟨S_, .f32⟩
  | .hbm, ⟨12, _⟩ => ⟨S4x4x4096, .f32⟩
  | .hbm, ⟨13, _⟩ => ⟨S_, .f32⟩
  | .hbm, ⟨14, _⟩ => ⟨S4x4x4096, .f32⟩
  | .hbm, ⟨15, _⟩ => ⟨S4x4x4096, .f32⟩
  | .hbm, ⟨16, _⟩ => ⟨S4x4x4096x1, .f32⟩
  | .hbm, ⟨17, _⟩ => ⟨S4x4x4096x256, .f32⟩
  | .hbm, ⟨18, _⟩ => ⟨S4x4x4096x256, .f32⟩
  | .hbm, ⟨19, _⟩ => ⟨S4x4x4096x256, .f32⟩
  | .hbm, ⟨20, _⟩ => ⟨S_, .f32⟩
  | .hbm, ⟨21, _⟩ => ⟨S4x4x4096, .f32⟩
  | .hbm, ⟨22, _⟩ => ⟨S4x4x4096x1, .f32⟩
  | .hbm, ⟨23, _⟩ => ⟨S4x4x4096x256, .f32⟩
  | .hbm, ⟨24, _⟩ => ⟨S4x4x4096x256, .f32⟩
  | .hbm, ⟨25, _⟩ => ⟨S4x4x256x4096, .f32⟩
  | .hbm, ⟨26, _⟩ => ⟨S4x4096x4x256, .f32⟩
  | .hbm, ⟨27, _⟩ => ⟨S4x4096x1024, .f32⟩
  | .hbm, ⟨28, _⟩ => ⟨S4x4096x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== CaOut.lean ====
abbrev S16384x1024 : Shape := ⟨2, ![16384, 1024]⟩
abbrev S1x1024x4096 : Shape := ⟨3, ![1, 1024, 4096]⟩
abbrev S16384x4096 : Shape := ⟨2, ![16384, 4096]⟩
abbrev S1024x4096 : Shape := ⟨2, ![1024, 4096]⟩
abbrev S1024x1024 : Shape := ⟨2, ![1024, 1024]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1x1024x4096, .f32⟩
  | .hbm, ⟨2, _⟩ => ⟨S16384x4096, .f32⟩
  | .hbm, ⟨3, _⟩ => ⟨S1024x4096, .f32⟩
  | .hbm, ⟨4, _⟩ => ⟨S1024x4096, .bf16⟩
  | .hbm, ⟨5, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CaOutIdeal.lean ====
abbrev S16384x1024 : Shape := ⟨2, ![16384, 1024]⟩
abbrev S1x1024x4096 : Shape := ⟨3, ![1, 1024, 4096]⟩
abbrev S16384x4096 : Shape := ⟨2, ![16384, 4096]⟩
abbrev S1024x4096 : Shape := ⟨2, ![1024, 4096]⟩
abbrev S1024x1024 : Shape := ⟨2, ![1024, 1024]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1x1024x4096, .f32⟩
  | .hbm, ⟨2, _⟩ => ⟨S16384x4096, .f32⟩
  | .hbm, ⟨3, _⟩ => ⟨S1024x4096, .f32⟩
  | .hbm, ⟨4, _⟩ => ⟨S1024x4096, .bf16⟩
  | .hbm, ⟨5, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CaOutRefIdeal.lean ====
abbrev S16384x1024 : Shape := ⟨2, ![16384, 1024]⟩
abbrev S1x1024x4096 : Shape := ⟨3, ![1, 1024, 4096]⟩
abbrev S16384x4096 : Shape := ⟨2, ![16384, 4096]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x4096, .f32⟩
  | .hbm, ⟨2, _⟩ => ⟨S16384x4096, .f32⟩
  | .hbm, ⟨3, _⟩ => ⟨S16384x1024, .f32⟩
  | .hbm, ⟨4, _⟩ => ⟨S1024x4096, .f32⟩
  | .hbm, ⟨5, _⟩ => ⟨S16384x4096, .f32⟩
  | .hbm, ⟨6, _⟩ => ⟨S16384x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Route.lean ====
abbrev S16384x4096 : Shape := ⟨2, ![16384, 4096]⟩
abbrev S1x4096 : Shape := ⟨2, ![1, 4096]⟩
abbrev S1x4096x2048 : Shape := ⟨3, ![1, 4096, 2048]⟩
abbrev S1x2x128x128 : Shape := ⟨4, ![1, 2, 128, 128]⟩
abbrev S4096 : Shape := ⟨1, ![4096]⟩
abbrev S_ : Shape := ⟨0, ![]⟩
abbrev S4096x2048 : Shape := ⟨2, ![4096, 2048]⟩
abbrev S2048x4096 : Shape := ⟨2, ![2048, 4096]⟩
abbrev S2x128x128 : Shape := ⟨3, ![2, 128, 128]⟩
abbrev S1 : Shape := ⟨1, ![1]⟩
abbrev S8x128x16384 : Shape := ⟨3, ![8, 128, 16384]⟩
abbrev S8x1x16384 : Shape := ⟨3, ![8, 1, 16384]⟩
abbrev S256x4096 : Shape := ⟨2, ![256, 4096]⟩
abbrev S8x128x256 : Shape := ⟨3, ![8, 128, 256]⟩
abbrev S8x1x256 : Shape := ⟨3, ![8, 1, 256]⟩
abbrev S2048x256 : Shape := ⟨2, ![2048, 256]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S8x128 : Shape := ⟨2, ![8, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 48
  | .vmem => 18
  | .smem => 1
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x2048, .f32⟩
  | .hbm, ⟨3, _⟩ => ⟨S1x2x128x128, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096, .f32⟩
  | .hbm, ⟨36, _⟩ => ⟨S4096x2048, .f32⟩
  | .hbm, ⟨37, _⟩ => ⟨S2048x4096, .f32⟩
  | .hbm, ⟨38, _⟩ => ⟨S2048x4096, .bf16⟩
  | .hbm, ⟨39, _⟩ => ⟨S2x128x128, .f32⟩
  | .hbm, ⟨40, _⟩ => ⟨S1, .f32⟩
  | .hbm, ⟨41, _⟩ => ⟨S1x4096, .f32⟩
  | .hbm, ⟨42, _⟩ => ⟨S8x128x16384, .f32⟩
  | .hbm, ⟨43, _⟩ => ⟨S8x128x16384, .f32⟩
  | .hbm, ⟨44, _⟩ => ⟨S8x128x16384, .f32⟩
  | .hbm, ⟨45, _⟩ => ⟨S8x128x16384, .f32⟩
  | .hbm, ⟨46, _⟩ => ⟨S8x1x16384, .f32⟩
  | .hbm, ⟨47, _⟩ => ⟨S16384x4096, .fp8e4m3⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S2048x4096, .bf16⟩
  | .local _ .vmem, ⟨4, _⟩ => ⟨S2x128x128, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S8x128x256, .f32⟩
  | .local _ .vmem, ⟨13, _⟩ => ⟨S8x1x256, .f32⟩
  | .local _ .vmem, ⟨14, _⟩ => ⟨S8x1x256, .f32⟩
  | .local _ .vmem, ⟨15, _⟩ => ⟨S256x4096, .fp8e4m3⟩
  | .local _ .vmem, ⟨16, _⟩ => ⟨S256x4096, .fp8e4m3⟩
  | .local _ .vmem, ⟨17, _⟩ => ⟨S2048x256, .f32⟩
  | .local _ .smem, ⟨0, _⟩ => ⟨S1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_cst_7 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v15 : Ref sig .tc := ⟨.hbm, 31, rfl⟩
abbrev main_cst_8 : Ref sig .tc := ⟨.hbm, 32, rfl⟩
abbrev main_call1_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v24_3 : Ref sig .tc := ⟨.hbm, 45, rfl⟩
abbrev main_v24_4 : Ref sig .tc := ⟨.hbm, 46, rfl⟩
abbrev main_v24_5 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v32 : BitVec 32 := Scalar.addi c0_i32 c8_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  v33
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let v35 : Index := Scalar.indexCast v34
  let c0_19 : Index := 0#32
  ![v35.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let c128_i32 : BitVec 32 := 128#32
  let v38 : BitVec 32 := Scalar.addi v34 c128_i32
  let v39 : Index := Scalar.indexCast v38
  let c0_21 : Index := 0#32
  ![v39.toNat, 0]
def k0_off3 (k0_t1 : Fin k0_t1_loop.trips) : Fin 3 → Nat :=
  let c0_i32 : BitVec 32 := 0#32
  let c1_i32 : BitVec 32 := 1#32
  let arg13 : BitVec 32 := Scf.iv c0_i32 c1_i32 k0_t1
  let v1327 : Index := Scalar.indexCast arg13
  let c0_188 : Index := 0#32
  let c0_189 : Index := 0#32
  ![v1327.toNat, 0, 0]
def k0_off4 (k0_t1 : Fin k0_t1_loop.trips) : Fin 3 → Nat :=
  let c0_i32 : BitVec 32 := 0#32
  let c1_i32 : BitVec 32 := 1#32
  let arg13 : BitVec 32 := Scf.iv c0_i32 c1_i32 k0_t1
  let v1352 : Index := Scalar.indexCast arg13
  let c0_196 : Index := 0#32
  let c0_197 : Index := 0#32
  ![v1352.toNat, 0, 0]
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let v1356 : Index := Scalar.indexCast v34
  let c128 : Index := 128#32
  ![v1356.toNat, 128]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let c128_i32_199 : BitVec 32 := 128#32
  let v1359 : BitVec 32 := Scalar.addi v34 c128_i32_199
  let v1360 : Index := Scalar.indexCast v1359
  let c128_200 : Index := 128#32
  ![v1360.toNat, 128]
def k0_off7 (k0_t1 : Fin k0_t1_loop.trips) : Fin 3 → Nat :=
  let c0_i32 : BitVec 32 := 0#32
  let c1_i32 : BitVec 32 := 1#32
  let arg13 : BitVec 32 := Scf.iv c0_i32 c1_i32 k0_t1
  let v2648 : Index := Scalar.indexCast arg13
  let c0_372 : Index := 0#32
  let c128_373 : Index := 128#32
  ![v2648.toNat, 0, 128]
def k0_off8 (k0_t1 : Fin k0_t1_loop.trips) : Fin 3 → Nat :=
  let c0_i32 : BitVec 32 := 0#32
  let c1_i32 : BitVec 32 := 1#32
  let arg13 : BitVec 32 := Scf.iv c0_i32 c1_i32 k0_t1
  let v2673 : Index := Scalar.indexCast arg13
  let c0_380 : Index := 0#32
  let c128_381 : Index := 128#32
  ![v2673.toNat, 0, 128]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RouteIdeal.lean ====
abbrev S16384x4096 : Shape := ⟨2, ![16384, 4096]⟩
abbrev S1x4096 : Shape := ⟨2, ![1, 4096]⟩
abbrev S1x4096x2048 : Shape := ⟨3, ![1, 4096, 2048]⟩
abbrev S1x2x128x128 : Shape := ⟨4, ![1, 2, 128, 128]⟩
abbrev S4096 : Shape := ⟨1, ![4096]⟩
abbrev S_ : Shape := ⟨0, ![]⟩
abbrev S4096x2048 : Shape := ⟨2, ![4096, 2048]⟩
abbrev S2048x4096 : Shape := ⟨2, ![2048, 4096]⟩
abbrev S2x128x128 : Shape := ⟨3, ![2, 128, 128]⟩
abbrev S1 : Shape := ⟨1, ![1]⟩
abbrev S8x128x16384 : Shape := ⟨3, ![8, 128, 16384]⟩
abbrev S8x1x16384 : Shape := ⟨3, ![8, 1, 16384]⟩
abbrev S256x4096 : Shape := ⟨2, ![256, 4096]⟩
abbrev S8x128x256 : Shape := ⟨3, ![8, 128, 256]⟩
abbrev S8x1x256 : Shape := ⟨3, ![8, 1, 256]⟩
abbrev S2048x256 : Shape := ⟨2, ![2048, 256]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S8x128 : Shape := ⟨2, ![8, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 48
  | .vmem => 18
  | .smem => 1
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x2048, .f32⟩
  | .hbm, ⟨3, _⟩ => ⟨S1x2x128x128, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096, .f32⟩
  | .hbm, ⟨36, _⟩ => ⟨S4096x2048, .f32⟩
  | .hbm, ⟨37, _⟩ => ⟨S2048x4096, .f32⟩
  | .hbm, ⟨38, _⟩ => ⟨S2048x4096, .bf16⟩
  | .hbm, ⟨39, _⟩ => ⟨S2x128x128, .f32⟩
  | .hbm, ⟨40, _⟩ => ⟨S1, .f32⟩
  | .hbm, ⟨41, _⟩ => ⟨S1x4096, .f32⟩
  | .hbm, ⟨42, _⟩ => ⟨S8x128x16384, .f32⟩
  | .hbm, ⟨43, _⟩ => ⟨S8x128x16384, .f32⟩
  | .hbm, ⟨44, _⟩ => ⟨S8x128x16384, .f32⟩
  | .hbm, ⟨45, _⟩ => ⟨S8x128x16384, .f32⟩
  | .hbm, ⟨46, _⟩ => ⟨S8x1x16384, .f32⟩
  | .hbm, ⟨47, _⟩ => ⟨S16384x4096, .fp8e4m3⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S2048x4096, .bf16⟩
  | .local _ .vmem, ⟨4, _⟩ => ⟨S2x128x128, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S8x128x256, .f32⟩
  | .local _ .vmem, ⟨13, _⟩ => ⟨S8x1x256, .f32⟩
  | .local _ .vmem, ⟨14, _⟩ => ⟨S8x1x256, .f32⟩
  | .local _ .vmem, ⟨15, _⟩ => ⟨S256x4096, .fp8e4m3⟩
  | .local _ .vmem, ⟨16, _⟩ => ⟨S256x4096, .fp8e4m3⟩
  | .local _ .vmem, ⟨17, _⟩ => ⟨S2048x256, .f32⟩
  | .local _ .smem, ⟨0, _⟩ => ⟨S1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_cst_7 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v15 : Ref sig .tc := ⟨.hbm, 31, rfl⟩
abbrev main_cst_8 : Ref sig .tc := ⟨.hbm, 32, rfl⟩
abbrev main_call1_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v24_3 : Ref sig .tc := ⟨.hbm, 45, rfl⟩
abbrev main_v24_4 : Ref sig .tc := ⟨.hbm, 46, rfl⟩
abbrev main_v24_5 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v32 : BitVec 32 := Scalar.addi c0_i32 c8_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  v33
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let v35 : Index := Scalar.indexCast v34
  let c0_19 : Index := 0#32
  ![v35.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let c128_i32 : BitVec 32 := 128#32
  let v38 : BitVec 32 := Scalar.addi v34 c128_i32
  let v39 : Index := Scalar.indexCast v38
  let c0_21 : Index := 0#32
  ![v39.toNat, 0]
def k0_off3 (k0_t1 : Fin k0_t1_loop.trips) : Fin 3 → Nat :=
  let c0_i32 : BitVec 32 := 0#32
  let c1_i32 : BitVec 32 := 1#32
  let arg13 : BitVec 32 := Scf.iv c0_i32 c1_i32 k0_t1
  let v1327 : Index := Scalar.indexCast arg13
  let c0_188 : Index := 0#32
  let c0_189 : Index := 0#32
  ![v1327.toNat, 0, 0]
def k0_off4 (k0_t1 : Fin k0_t1_loop.trips) : Fin 3 → Nat :=
  let c0_i32 : BitVec 32 := 0#32
  let c1_i32 : BitVec 32 := 1#32
  let arg13 : BitVec 32 := Scf.iv c0_i32 c1_i32 k0_t1
  let v1352 : Index := Scalar.indexCast arg13
  let c0_196 : Index := 0#32
  let c0_197 : Index := 0#32
  ![v1352.toNat, 0, 0]
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let v1356 : Index := Scalar.indexCast v34
  let c128 : Index := 128#32
  ![v1356.toNat, 128]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let c128_i32_199 : BitVec 32 := 128#32
  let v1359 : BitVec 32 := Scalar.addi v34 c128_i32_199
  let v1360 : Index := Scalar.indexCast v1359
  let c128_200 : Index := 128#32
  ![v1360.toNat, 128]
def k0_off7 (k0_t1 : Fin k0_t1_loop.trips) : Fin 3 → Nat :=
  let c0_i32 : BitVec 32 := 0#32
  let c1_i32 : BitVec 32 := 1#32
  let arg13 : BitVec 32 := Scf.iv c0_i32 c1_i32 k0_t1
  let v2648 : Index := Scalar.indexCast arg13
  let c0_372 : Index := 0#32
  let c128_373 : Index := 128#32
  ![v2648.toNat, 0, 128]
def k0_off8 (k0_t1 : Fin k0_t1_loop.trips) : Fin 3 → Nat :=
  let c0_i32 : BitVec 32 := 0#32
  let c1_i32 : BitVec 32 := 1#32
  let arg13 : BitVec 32 := Scf.iv c0_i32 c1_i32 k0_t1
  let v2673 : Index := Scalar.indexCast arg13
  let c0_380 : Index := 0#32
  let c128_381 : Index := 128#32
  ![v2673.toNat, 0, 128]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RouteRefIdeal.lean ====
abbrev S16384x4096 : Shape := ⟨2, ![16384, 4096]⟩
abbrev S1x4096 : Shape := ⟨2, ![1, 4096]⟩
abbrev S1x4096x2048 : Shape := ⟨3, ![1, 4096, 2048]⟩
abbrev S1x2x128x128 : Shape := ⟨4, ![1, 2, 128, 128]⟩
abbrev S4096 : Shape := ⟨1, ![4096]⟩
abbrev S_ : Shape := ⟨0, ![]⟩
abbrev S16384 : Shape := ⟨1, ![16384]⟩
abbrev S16384x1 : Shape := ⟨2, ![16384, 1]⟩
abbrev S4096x2048 : Shape := ⟨2, ![4096, 2048]⟩
abbrev S16384x2048 : Shape := ⟨2, ![16384, 2048]⟩
abbrev S16384x8x2x128 : Shape := ⟨4, ![16384, 8, 2, 128]⟩
abbrev S2x128x128 : Shape := ⟨3, ![2, 128, 128]⟩
abbrev S2x128x16384x8 : Shape := ⟨4, ![2, 128, 16384, 8]⟩
abbrev S16384x8x1x128 : Shape := ⟨4, ![16384, 8, 1, 128]⟩
abbrev S16384x8x128 : Shape := ⟨3, ![16384, 8, 128]⟩
abbrev S8x128x16384 : Shape := ⟨3, ![8, 128, 16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x2048, .f32⟩
  | .hbm, ⟨3, _⟩ => ⟨S1x2x128x128, .f32⟩
  | .hbm, ⟨4, _⟩ => ⟨S4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S4096x2048, .f32⟩
  | .hbm, ⟨22, _⟩ => ⟨S16384x2048, .f32⟩
  | .hbm, ⟨23, _⟩ => ⟨S16384x8x2x128, .f32⟩
  | .hbm, ⟨24, _⟩ => ⟨S2x128x128, .f32⟩
  | .hbm, ⟨25, _⟩ => ⟨S2x128x16384x8, .f32⟩
  | .hbm, ⟨26, _⟩ => ⟨S16384x8x2x128, .f32⟩
  | .hbm, ⟨27, _⟩ => ⟨S16384x8x1x128, .f32⟩
  | .hbm, ⟨28, _⟩ => ⟨S16384x8x128, .f32⟩
  | .hbm, ⟨29, _⟩ => ⟨S8x128x16384, .f32⟩
  | .hbm, ⟨30, _⟩ => ⟨S16384x8x1x128, .f32⟩
  | .hbm, ⟨31, _⟩ => ⟨S16384x8x128, .f32⟩
  | .hbm, ⟨32, _⟩ => ⟨S8x128x16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== DftC.lean ====
abbrev S16384x5120 : Shape := ⟨2, ![16384, 5120]⟩
abbrev S2048x4096 : Shape := ⟨2, ![2048, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x5120, .bf16⟩
  | .hbm, ⟨1, _⟩ => ⟨S2048x4096, .bf16⟩
  | .hbm, ⟨2, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DftCIdeal.lean ====
abbrev S16384x5120 : Shape := ⟨2, ![16384, 5120]⟩
abbrev S2048x4096 : Shape := ⟨2, ![2048, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x5120, .bf16⟩
  | .hbm, ⟨1, _⟩ => ⟨S2048x4096, .bf16⟩
  | .hbm, ⟨2, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DftCRefIdeal.lean ====
abbrev S16384x5120 : Shape := ⟨2, ![16384, 5120]⟩
abbrev S2048x4096 : Shape := ⟨2, ![2048, 4096]⟩
abbrev S16384x2048 : Shape := ⟨2, ![16384, 2048]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S2048x4096, .bf16⟩
  | .hbm, ⟨2, _⟩ => ⟨S16384x5120, .f32⟩
  | .hbm, ⟨3, _⟩ => ⟨S16384x2048, .f32⟩
  | .hbm, ⟨4, _⟩ => ⟨S2048x4096, .f32⟩
  | .hbm, ⟨5, _⟩ => ⟨S16384x4096, .f32⟩
  | .hbm, ⟨6, _⟩ => ⟨S16384x4096, .bf16⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DftP.lean ====
abbrev S4096x4096 : Shape := ⟨2, ![4096, 4096]⟩
abbrev S16384x4096 : Shape := ⟨2, ![16384, 4096]⟩
abbrev S4x4096x4096 : Shape := ⟨3, ![4, 4096, 4096]⟩
abbrev S4x4096x2048 : Shape := ⟨3, ![4, 4096, 2048]⟩
abbrev S512x4096 : Shape := ⟨2, ![512, 4096]⟩
abbrev S1x4096x512 : Shape := ⟨3, ![1, 4096, 512]⟩
abbrev S1x512x512 : Shape := ⟨3, ![1, 512, 512]⟩
abbrev S4096x512 : Shape := ⟨2, ![4096, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16384x4096, .bf16⟩
  | .hbm, ⟨3, _⟩ => ⟨S4x4096x4096, .bf16⟩
  | .hbm, ⟨4, _⟩ => ⟨S4x4096x2048, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x512x512, .bf16⟩
  | .local _ .vmem, ⟨9, _⟩ => ⟨S1x512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== DftPRefIdeal.lean ====
abbrev S4096x4096 : Shape := ⟨2, ![4096, 4096]⟩
abbrev S16384x4096 : Shape := ⟨2, ![16384, 4096]⟩
abbrev S4x4096x4096 : Shape := ⟨3, ![4, 4096, 4096]⟩
abbrev S4x4096x2048 : Shape := ⟨3, ![4, 4096, 2048]⟩
abbrev S4x2048x4096 : Shape := ⟨3, ![4, 2048, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16384x4096, .bf16⟩
  | .hbm, ⟨3, _⟩ => ⟨S16384x4096, .f32⟩
  | .hbm, ⟨4, _⟩ => ⟨S4x4096x4096, .f32⟩
  | .hbm, ⟨5, _⟩ => ⟨S4096x4096, .f32⟩
  | .hbm, ⟨6, _⟩ => ⟨S4x4096x2048, .f32⟩
  | .hbm, ⟨7, _⟩ => ⟨S4x2048x4096, .f32⟩
  | .hbm, ⟨8, _⟩ => ⟨S4x4096x2048, .f32⟩
  | .hbm, ⟨9, _⟩ => ⟨S4096x4096, .f32⟩
  | .hbm, ⟨10, _⟩ => ⟨S4x4096x2048, .f32⟩
  | .hbm, ⟨11, _⟩ => ⟨S4x2048x4096, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096x2048, .f32⟩
  | .hbm, ⟨16, _⟩ => ⟨S4x4096x2048, .f32⟩
  | .hbm, ⟨17, _⟩ => ⟨S4x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== KernelSample.lean ====
abbrev S8192x5120 : Shape := ⟨2, ![8192, 5120]⟩
abbrev S8192x512 : Shape := ⟨2, ![8192, 512]⟩
abbrev S1x128 : Shape := ⟨2, ![1, 128]⟩
abbrev S128 : Shape := ⟨1, ![128]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S32 : Shape := ⟨1, ![32]⟩
abbrev S2048x2x1 : Shape := ⟨3, ![2048, 2, 1]⟩
abbrev S1x1x32 : Shape := ⟨3, ![1, 1, 32]⟩
abbrev S2048x2x32 : Shape := ⟨3, ![2048, 2, 32]⟩
abbrev S2048x2x1x32 : Shape := ⟨4, ![2048, 2, 1, 32]⟩
abbrev S2048x2x2x32 : Shape := ⟨4, ![2048, 2, 2, 32]⟩
abbrev S2048x128 : Shape := ⟨2, ![2048, 128]⟩
abbrev S4x2048x512 : Shape := ⟨3, ![4, 2048, 512]⟩
abbrev S4x2048x5120 : Shape := ⟨3, ![4, 2048, 5120]⟩
abbrev S4x2048x2048 : Shape := ⟨3, ![4, 2048, 2048]⟩
abbrev S1x256x512 : Shape := ⟨3, ![1, 256, 512]⟩
abbrev S1x2048x128 : Shape := ⟨3, ![1, 2048, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x2048 : Shape := ⟨2, ![256, 2048]⟩

abbrev nBuf : Space → Nat
  | .hbm => 86
  | .vmem => 13
  | .smem => 0
  | _ => 0

abbrev bufTy : (tb : Table) → Fin (tcTables nBuf tb) → BufTy
  | .hbm, ⟨0, _⟩ => ⟨S8192x5120, .bf16⟩
  | .hbm, ⟨1, _⟩ => ⟨S8192x512, .bf16⟩
  | .hbm, ⟨2, _⟩ => ⟨S1x128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S1x128, .f32⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S_, .i1⟩
  | .hbm, ⟨43, _⟩ => ⟨S2048, .i1⟩
  | .hbm, ⟨44, _⟩ => ⟨S2048, .i1⟩
  | .hbm, ⟨45, _⟩ => ⟨S2048, .i1⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048x1, .i32⟩
  | .hbm, ⟨50, _⟩ => ⟨S2048x1, .i32⟩
  | .hbm, ⟨51, _⟩ => ⟨S2048x2, .i32⟩
  | .hbm, ⟨52, _⟩ => ⟨S2048x2, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S2048x2x1, .f32⟩
  | .hbm, ⟨68, _⟩ => ⟨S1x1x32, .f32⟩
  | .hbm, ⟨69, _⟩ => ⟨S2048x2x32, .f32⟩
  | .hbm, ⟨70, _⟩ => ⟨S2048x2x32, .f32⟩
  | .hbm, ⟨71, _⟩ => ⟨S2048x2x32, .f32⟩
  | .hbm, ⟨72, _⟩ => ⟨S2048x2x32, .f32⟩
  | .hbm, ⟨73, _⟩ => ⟨S2048x2x32, .f32⟩
  | .hbm, ⟨74, _⟩ => ⟨S2048x2x1x32, .f32⟩
  | .hbm, ⟨75, _⟩ => ⟨S2048x2x1x32, .f32⟩
  | .hbm, ⟨76, _⟩ => ⟨S2048x2x2x32, .f32⟩
  | .hbm, ⟨77, _⟩ => ⟨S2048x128, .f32⟩
  | .hbm, ⟨78, _⟩ => ⟨S2048x2x32, .f32⟩
  | .hbm, ⟨79, _⟩ => ⟨S2048x2x1x32, .f32⟩
  | .hbm, ⟨80, _⟩ => ⟨S2048x2x1x32, .f32⟩
  | .hbm, ⟨81, _⟩ => ⟨S2048x2x2x32, .f32⟩
  | .hbm, ⟨82, _⟩ => ⟨S2048x128, .f32⟩
  | .hbm, ⟨83, _⟩ => ⟨S4x2048x512, .bf16⟩
  | .hbm, ⟨84, _⟩ => ⟨S4x2048x5120, .bf16⟩
  | .hbm, ⟨85, _⟩ => ⟨S4x2048x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x256x512, .bf16⟩
  | .local _ .vmem, ⟨12, _⟩ => ⟨S1x256x512, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_1 : Ref sig .tc := ⟨.hbm, 54, rfl⟩
abbrev main_v12 : Ref sig .tc := ⟨.hbm, 55, rfl⟩
abbrev main_v13 : Ref sig .tc := ⟨.hbm, 56, rfl⟩
abbrev main_cst_2 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_cst_3 : Ref sig .tc := ⟨.hbm, 61, rfl⟩
abbrev main_v17 : Ref sig .tc := ⟨.hbm, 62, rfl⟩
abbrev main_v18 : Ref sig .tc := ⟨.hbm, 63, rfl⟩
abbrev main_cst_4 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelSampleRefIdeal.lean ====
abbrev S8192x5120 : Shape := ⟨2, ![8192, 5120]⟩
abbrev S8192x512 : Shape := ⟨2, ![8192, 512]⟩
abbrev S1x128 : Shape := ⟨2, ![1, 128]⟩
abbrev S4x2048x5120 : Shape := ⟨3, ![4, 2048, 5120]⟩
abbrev S4x2048x2048 : Shape := ⟨3, ![4, 2048, 2048]⟩
abbrev S4x2048x16x128 : Shape := ⟨4, ![4, 2048, 16, 128]⟩
abbrev S4x2048x512 : Shape := ⟨3, ![4, 2048, 512]⟩
abbrev S4x2048x4x128 : Shape := ⟨4, ![4, 2048, 4, 128]⟩
abbrev S128 : Shape := ⟨1, ![128]⟩
abbrev S_ : Shape := ⟨0, ![]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S2048x2 : Shape := ⟨2, ![2048, 2]⟩
abbrev S2048x2x1 : Shape := ⟨3, ![2048, 2, 1]⟩
abbrev S1x1x32 : Shape := ⟨3, ![1, 1, 32]⟩
abbrev S2048x2x32 : Shape := ⟨3, ![2048, 2, 32]⟩
abbrev S4x2048x16x2x2x32 : Shape := ⟨6, ![4, 2048, 16, 2, 2, 32]⟩
abbrev S4x2048x16x2x1x32 : Shape := ⟨6, ![4, 2048, 16, 2, 1, 32]⟩
abbrev S4x2048x16x2x32 : Shape := ⟨5, ![4, 2048, 16, 2, 32]⟩
abbrev S1x2048x1x2x32 : Shape := ⟨5, ![1, 2048, 1, 2, 32]⟩
abbrev S4x2048x4x4x128 : Shape := ⟨5, ![4, 2048, 4, 4, 128]⟩
abbrev S4x4x2048x2048x4 : Shape := ⟨5, ![4, 4, 2048, 2048, 4]⟩
abbrev S4x4x4x2048x2048 : Shape := ⟨5, ![4, 4, 4, 2048, 2048]⟩
abbrev S4x4x4x2048 : Shape := ⟨4, ![4, 4, 4, 2048]⟩
abbrev S4x4x4x2048x1 : Shape := ⟨5, ![4, 4, 4, 2048, 1]⟩
abbrev S4x4x128x4x2048 : Shape := ⟨5, ![4, 4, 128, 4, 2048]⟩

abbrev nBuf : Space → Nat
  | .hbm => 105
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8192x512, .bf16⟩
  | .hbm, ⟨2, _⟩ => ⟨S1x128, .f32⟩
  | .hbm, ⟨3, _⟩ => ⟨S8192x5120, .f32⟩
  | .hbm, ⟨4, _⟩ => ⟨S4x2048x5120, .f32⟩
  | .hbm, ⟨5, _⟩ => ⟨S4x2048x2048, .f32⟩
  | .hbm, ⟨6, _⟩ => ⟨S4x2048x16x128, .f32⟩
  | .hbm, ⟨7, _⟩ => ⟨S4x2048x512, .f32⟩
  | .hbm, ⟨8, _⟩ => ⟨S4x2048x4x128, .f32⟩
  | .hbm, ⟨9, _⟩ => ⟨S8192x512, .f32⟩
  | .hbm, ⟨10, _⟩ => ⟨S4x2048x4x128, .f32⟩
  | .hbm, ⟨11, _⟩ => ⟨S128, .f32⟩
  | .hbm, ⟨12, _⟩ => ⟨S4x2048x16x128, .f32⟩
  | .hbm, ⟨13, _⟩ => ⟨S_, .f32⟩
  | .hbm, ⟨14, _⟩ => ⟨S4x2048x16, .f32⟩
  | .hbm, ⟨15, _⟩ => ⟨S4x2048x16x1, .f32⟩
  | .hbm, ⟨16, _⟩ => ⟨S_, .f32⟩
  | .hbm, ⟨17, _⟩ => ⟨S4x2048x16x1, .f32⟩
  | .hbm, ⟨18, _⟩ => ⟨S4x2048x16x1, .f32⟩
  | .hbm, ⟨19, _⟩ => ⟨S_, .f32⟩
  | .hbm, ⟨20, _⟩ => ⟨S4x2048x16x1, .f32⟩
  | .hbm, ⟨21, _⟩ => ⟨S4x2048x16x1, .f32⟩
  | .hbm, ⟨22, _⟩ => ⟨S4x2048x16x1, .f32⟩
  | .hbm, ⟨23, _⟩ => ⟨S4x2048x16x128, .f32⟩
  | .hbm, ⟨24, _⟩ => ⟨S4x2048x16x128, .f32⟩
  | .hbm, ⟨25, _⟩ => ⟨S1x1x1x128, .f32⟩
  | .hbm, ⟨26, _⟩ => ⟨S4x2048x16x128, .f32⟩
  | .hbm, ⟨27, _⟩ => ⟨S4x2048x16x128, .f32⟩
  | .hbm, ⟨28, _⟩ => ⟨S32, .i32⟩
  | .hbm, ⟨29, _⟩ => ⟨S32x64, .i32⟩
  | .hbm, ⟨30, _⟩ => ⟨S2048, .i32⟩
  | .hbm, ⟨31, _⟩ => ⟨S64, .i32⟩
  | .hbm, ⟨32, _⟩ => ⟨S1x64, .i32⟩
  | .hbm, ⟨33, _⟩ => ⟨S32x64, .i32⟩
  | .hbm, ⟨34, _⟩ => ⟨S2048, .i32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S2048x1, .i32⟩
  | .hbm, ⟨50, _⟩ => ⟨S2048x1, .i32⟩
  | .hbm, ⟨51, _⟩ => ⟨S2048x2, .i32⟩
  | .hbm, ⟨52, _⟩ => ⟨S2048x2, .f32⟩
  | .hbm, ⟨53, _⟩ => ⟨S2048x2x1, .f32⟩
  | .hbm, ⟨54, _⟩ => ⟨S1x1x32, .f32⟩
  | .hbm, ⟨55, _⟩ => ⟨S2048x2x32, .f32⟩
  | .hbm, ⟨56, _⟩ => ⟨S2048x2x32, .f32⟩
  | .hbm, ⟨57, _⟩ => ⟨S2048x2x32, .f32⟩
  | .hbm, ⟨58, _⟩ => ⟨S2048x2x32, .f32⟩
  | .hbm, ⟨59, _⟩ => ⟨S2048x2x32, .f32⟩
  | .hbm, ⟨60, _⟩ => ⟨S4x2048x16x2x2x32, .f32⟩
  | .hbm, ⟨61, _⟩ => ⟨S4x2048x16x2x1x32, .f32⟩
  | .hbm, ⟨62, _⟩ => ⟨S4x2048x16x2x32, .f32⟩
  | .hbm, ⟨63, _⟩ => ⟨S4x2048x16x2x1x32, .f32⟩
  | .hbm, ⟨64, _⟩ => ⟨S4x2048x16x2x32, .f32⟩
  | .hbm, ⟨65, _⟩ => ⟨S1x2048x1x2x32, .f32⟩
  | .hbm, ⟨66, _⟩ => ⟨S1x2048x1x2x32, .f32⟩
  | .hbm, ⟨67, _⟩ => ⟨S4x2048x16x2x32, .f32⟩
  | .hbm, ⟨68, _⟩ => ⟨S4x2048x16x2x32, .f32⟩
  | .hbm, ⟨69, _⟩ => ⟨S4x2048x16x2x32, .f32⟩
  | .hbm, ⟨70, _⟩ => ⟨S4x2048x16x2x32, .f32⟩
  | .hbm, ⟨71, _⟩ => ⟨S4x2048x16x2x32, .f32⟩
  | .hbm, ⟨72, _⟩ => ⟨S4x2048x16x2x32, .f32⟩
  | .hbm, ⟨73, _⟩ => ⟨S4x2048x16x2x32, .f32⟩
  | .hbm, ⟨74, _⟩ => ⟨S4x2048x16x2x32, .f32⟩
  | .hbm, ⟨75, _⟩ => ⟨S4x2048x16x2x32, .f32⟩
  | .hbm, ⟨76, _⟩ => ⟨S4x2048x16x2x32, .f32⟩
  | .hbm, ⟨77, _⟩ => ⟨S4x2048x16x2x1x32, .f32⟩
  | .hbm, ⟨78, _⟩ => ⟨S4x2048x16x2x1x32, .f32⟩
  | .hbm, ⟨79, _⟩ => ⟨S4x2048x16x2x2x32, .f32⟩
  | .hbm, ⟨80, _⟩ => ⟨S4x2048x16x128, .f32⟩
  | .hbm, ⟨81, _⟩ => ⟨S4x2048x4x4x128, .f32⟩
  | .hbm, ⟨82, _⟩ => ⟨S4x4x2048x2048x4, .f32⟩
  | .hbm, ⟨83, _⟩ => ⟨S4x4x4x2048x2048, .f32⟩
  | .hbm, ⟨84, _⟩ => ⟨S_, .f32⟩
  | .hbm, ⟨85, _⟩ => ⟨S4x4x4x2048x2048, .f32⟩
  | .hbm, ⟨86, _⟩ => ⟨S4x4x4x2048x2048, .f32⟩
  | .hbm, ⟨87, _⟩ => ⟨S_, .f32⟩
  | .hbm, ⟨88, _⟩ => ⟨S4x4x4x2048, .f32⟩
  | .hbm, ⟨89, _⟩ => ⟨S_, .f32⟩
  | .hbm, ⟨90, _⟩ => ⟨S4x4x4x2048, .f32⟩
  | .hbm, ⟨91, _⟩ => ⟨S4x4x4x2048, .f32⟩
  | .hbm, ⟨92, _⟩ => ⟨S4x4x4x2048x1, .f32⟩
  | .hbm, ⟨93, _⟩ => ⟨S4x4x4x2048x2048, .f32⟩
  | .hbm, ⟨94, _⟩ => ⟨S4x4x4x2048x2048, .f32⟩
  | .hbm, ⟨95, _⟩ => ⟨S4x4x4x2048x2048, .f32⟩
  | .hbm, ⟨96, _⟩ => ⟨S_, .f32⟩
  | .hbm, ⟨97, _⟩ => ⟨S4x4x4x2048, .f32⟩
  | .hbm, ⟨98, _⟩ => ⟨S4x4x4x2048x1, .f32⟩
  | .hbm, ⟨99, _⟩ => ⟨S4x4x4x2048x2048, .f32⟩
  | .hbm, ⟨100, _⟩ => ⟨S4x4x4x2048x2048, .f32⟩
  | .hbm, ⟨101, _⟩ => ⟨S4x4x128x4x2048, .f32⟩
  | .hbm, ⟨102, _⟩ => ⟨S4x2048x4x4x128, .f32⟩
  | .hbm, ⟨103, _⟩ => ⟨S4x2048x2048, .f32⟩
  | .hbm, ⟨104, _⟩ => ⟨S4x2048x2048, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_6 : Ref sig .tc := ⟨.hbm, 84, rfl⟩
abbrev main_v74 : Ref sig .tc := ⟨.hbm, 85, rfl⟩
abbrev main_v75 : Ref sig .tc := ⟨.hbm, 86, rfl⟩
abbrev main_cst_7 : Ref sig .tc := ⟨.hbm, 87, rfl⟩
abbrev main_v76 : Ref sig .tc := ⟨.hbm, 88, rfl⟩
abbrev main_cst_8 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_9 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩

abbrev nD : Nat := 1
abbrev τ : Topo := Topo.v7x

variable {F : FTy → Type} [FloatOps F]
-- ==== MergeSample.lean ====
abbrev S8192x2048 : Shape := ⟨2, ![8192, 2048]⟩
abbrev S8192x4096 : Shape := ⟨2, ![8192, 4096]⟩
abbrev S1x2048x4096 : Shape := ⟨3, ![1, 2048, 4096]⟩
abbrev S1x4096x8192 : Shape := ⟨3, ![1, 4096, 8192]⟩
abbrev S1x8192 : Shape := ⟨2, ![1, 8192]⟩
abbrev S1x4096 : Shape := ⟨2, ![1, 4096]⟩
abbrev S4096x8192 : Shape := ⟨2, ![4096, 8192]⟩
abbrev S_ : Shape := ⟨0, ![]⟩
abbrev S4096 : Shape := ⟨1, ![4096]⟩
abbrev S1 : Shape := ⟨1, ![1]⟩
abbrev S2 : Shape := ⟨1, ![2]⟩
abbrev S2048x4096 : Shape := ⟨2, ![2048, 4096]⟩
abbrev S8192 : Shape := ⟨1, ![8192]⟩
abbrev S512x2048 : Shape := ⟨2, ![512, 2048]⟩
abbrev S512x4096 : Shape := ⟨2, ![512, 4096]⟩
abbrev S2048x512 : Shape := ⟨2, ![2048, 512]⟩
abbrev S4096x512 : Shape := ⟨2, ![4096, 512]⟩
abbrev S1x512 : Shape := ⟨2, ![1, 512]⟩
abbrev S512x512 : Shape := ⟨2, ![512, 512]⟩

abbrev nBuf : Space → Nat
  | .hbm => 84
  | .vmem => 21
  | .smem => 1
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .bf16⟩
  | .hbm, ⟨3, _⟩ => ⟨S1x2048x4096, .f32⟩
  | .hbm, ⟨4, _⟩ => ⟨S1x2048x4096, .f32⟩
  | .hbm, ⟨5, _⟩ => ⟨S1x4096x8192, .f32⟩
  | .hbm, ⟨6, _⟩ => ⟨S1x8192, .f32⟩
  | .hbm, ⟨7, _⟩ => ⟨S1x4096, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S2, .f32⟩
  | .hbm, ⟨73, _⟩ => ⟨S2048x4096, .f32⟩
  | .hbm, ⟨74, _⟩ => ⟨S2048x4096, .bf16⟩
  | .hbm, ⟨75, _⟩ => ⟨S2048x4096, .f32⟩
  | .hbm, ⟨76, _⟩ => ⟨S2048x4096, .bf16⟩
  | .hbm, ⟨77, _⟩ => ⟨S4096x8192, .f32⟩
  | .hbm, ⟨78, _⟩ => ⟨S4096x8192, .f32⟩
  | .hbm, ⟨79, _⟩ => ⟨S4096x8192, .f32⟩
  | .hbm, ⟨80, _⟩ => ⟨S4096x8192, .fp8e4m3⟩
  | .hbm, ⟨81, _⟩ => ⟨S8192, .f32⟩
  | .hbm, ⟨82, _⟩ => ⟨S1x8192, .f32⟩
  | .hbm, ⟨83, _⟩ => ⟨S8192x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x4096, .bf16⟩
  | .local _ .vmem, ⟨5, _⟩ => ⟨S512x4096, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S4096x512, .fp8e4m3⟩
  | .local _ .vmem, ⟨11, _⟩ => ⟨S4096x512, .fp8e4m3⟩
  | .local _ .vmem, ⟨12, _⟩ => ⟨S4096x512, .fp8e4m3⟩
  | .local _ .vmem, ⟨13, _⟩ => ⟨S4096x512, .fp8e4m3⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S512x4096, .fp8e4m3⟩
  | .local _ .smem, ⟨0, _⟩ => ⟨S2, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_cst_6 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v13 : Ref sig .tc := ⟨.hbm, 32, rfl⟩
abbrev main_cst_7 : Ref sig .tc := ⟨.hbm, 33, rfl⟩
abbrev main_call1_v0 : Ref sig .tc := ⟨.hbm, 34, rfl⟩
abbrev main_v14 : Ref sig .tc := ⟨.hbm, 35, rfl⟩
abbrev main_v15 : Ref sig .tc := ⟨.hbm, 36, rfl⟩
abbrev main_cst_8 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_9 : Ref sig .tc := ⟨.hbm, 41, rfl⟩
abbrev main_v19 : Ref sig .tc := ⟨.hbm, 42, rfl⟩
abbrev main_cst_10 : Ref sig .tc := ⟨.hbm, 43, rfl⟩
abbrev main_v20 : Ref sig .tc := ⟨.hbm, 44, rfl⟩
abbrev main_cst_11 : Ref sig .tc := ⟨.hbm, 45, rfl⟩
abbrev main_v21 : Ref sig .tc := ⟨.hbm, 46, rfl⟩
abbrev main_v22 : Ref sig .tc := ⟨.hbm, 47, rfl⟩
abbrev main_cst_12 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_13 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_14 : Ref sig .tc := ⟨.hbm, 56, rfl⟩
abbrev main_v29 : Ref sig .tc := ⟨.hbm, 57, rfl⟩
abbrev main_cst_15 : Ref sig .tc := ⟨.hbm, 58, rfl⟩
abbrev main_cst_16 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v30 : Ref sig .tc := ⟨.hbm, 63, rfl⟩
abbrev main_cst_17 : Ref sig .tc := ⟨.hbm, 64, rfl⟩
abbrev main_call3_v0 : Ref sig .tc := ⟨.hbm, 65, rfl⟩
abbrev main_v31 : Ref sig .tc := ⟨.hbm, 66, rfl⟩
abbrev main_v32 : Ref sig .tc := ⟨.hbm, 67, rfl⟩
abbrev main_cst_18 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeSampleRefIdeal.lean ====
abbrev S8192x2048 : Shape := ⟨2, ![8192, 2048]⟩
abbrev S8192x4096 : Shape := ⟨2, ![8192, 4096]⟩
abbrev S1x2048x4096 : Shape := ⟨3, ![1, 2048, 4096]⟩
abbrev S1x4096x8192 : Shape := ⟨3, ![1, 4096, 8192]⟩
abbrev S1x8192 : Shape := ⟨2, ![1, 8192]⟩
abbrev S1x4096 : Shape := ⟨2, ![1, 4096]⟩
abbrev S2048x4096 : Shape := ⟨2, ![2048, 4096]⟩
abbrev S4096x8192 : Shape := ⟨2, ![4096, 8192]⟩
abbrev S8192x8192 : Shape := ⟨2, ![8192, 8192]⟩
abbrev S8192 : Shape := ⟨1, ![8192]⟩
abbrev S_ : Shape := ⟨0, ![]⟩
abbrev S8192x2x4096 : Shape := ⟨3, ![8192, 2, 4096]⟩
abbrev S8192x1x4096 : Shape := ⟨3, ![8192, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .bf16⟩
  | .hbm, ⟨3, _⟩ => ⟨S1x2048x4096, .f32⟩
  | .hbm, ⟨4, _⟩ => ⟨S1x2048x4096, .f32⟩
  | .hbm, ⟨5, _⟩ => ⟨S1x4096x8192, .f32⟩
  | .hbm, ⟨6, _⟩ => ⟨S1x8192, .f32⟩
  | .hbm, ⟨7, _⟩ => ⟨S1x4096, .f32⟩
  | .hbm, ⟨8, _⟩ => ⟨S8192x2048, .f32⟩
  | .hbm, ⟨9, _⟩ => ⟨S2048x4096, .f32⟩
  | .hbm, ⟨10, _⟩ => ⟨S8192x4096, .f32⟩
  | .hbm, ⟨11, _⟩ => ⟨S8192x2048, .f32⟩
  | .hbm, ⟨12, _⟩ => ⟨S2048x4096, .f32⟩
  | .hbm, ⟨13, _⟩ => ⟨S8192x4096, .f32⟩
  | .hbm, ⟨14, _⟩ => ⟨S8192x4096, .f32⟩
  | .hbm, ⟨15, _⟩ => ⟨S4096x8192, .f32⟩
  | .hbm, ⟨16, _⟩ => ⟨S8192x8192, .f32⟩
  | .hbm, ⟨17, _⟩ => ⟨S8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x2x4096, .f32⟩
  | .hbm, ⟨30, _⟩ => ⟨S8192x1x4096, .f32⟩
  | .hbm, ⟨31, _⟩ => ⟨S8192x4096, .f32⟩
  | .hbm, ⟨32, _⟩ => ⟨S8192x4096, .f32⟩
  | .hbm, ⟨33, _⟩ => ⟨S8192x1x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== InProjSample.lean ====
abbrev S8192x4096 : Shape := ⟨2, ![8192, 4096]⟩
abbrev S1x4096x5120 : Shape := ⟨3, ![1, 4096, 5120]⟩
abbrev S4096x5120 : Shape := ⟨2, ![4096, 5120]⟩
abbrev S4096x2048 : Shape := ⟨2, ![4096, 2048]⟩
abbrev S4096x3072 : Shape := ⟨2, ![4096, 3072]⟩
abbrev S8192x5120 : Shape := ⟨2, ![8192, 5120]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x5120, .f32⟩
  | .hbm, ⟨2, _⟩ => ⟨S4096x5120, .f32⟩
  | .hbm, ⟨3, _⟩ => ⟨S4096x2048, .f32⟩
  | .hbm, ⟨4, _⟩ => ⟨S4096x3072, .f32⟩
  | .hbm, ⟨5, _⟩ => ⟨S4096x5120, .f32⟩
  | .hbm, ⟨6, _⟩ => ⟨S4096x5120, .bf16⟩
  | .hbm, ⟨7, _⟩ => ⟨S8192x5120, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjSampleRefIdeal.lean ====
abbrev S8192x4096 : Shape := ⟨2, ![8192, 4096]⟩
abbrev S1x4096x5120 : Shape := ⟨3, ![1, 4096, 5120]⟩
abbrev S4096x5120 : Shape := ⟨2, ![4096, 5120]⟩
abbrev S8192x5120 : Shape := ⟨2, ![8192, 5120]⟩
abbrev S8192x3072 : Shape := ⟨2, ![8192, 3072]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x5120, .f32⟩
  | .hbm, ⟨2, _⟩ => ⟨S8192x4096, .f32⟩
  | .hbm, ⟨3, _⟩ => ⟨S4096x5120, .f32⟩
  | .hbm, ⟨4, _⟩ => ⟨S8192x5120, .f32⟩
  | .hbm, ⟨5, _⟩ => ⟨S8192x3072, .f32⟩
  | .hbm, ⟨6, _⟩ => ⟨S8192x2048, .f32⟩
  | .hbm, ⟨7, _⟩ => ⟨S8192x5120, .f32⟩
  | .hbm, ⟨8, _⟩ => ⟨S8192x5120, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OutProjSample.lean ====
abbrev S8192x4096 : Shape := ⟨2, ![8192, 4096]⟩
abbrev S1x4096x4096 : Shape := ⟨3, ![1, 4096, 4096]⟩
abbrev S4x2048x4096 : Shape := ⟨3, ![4, 2048, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S4x2048x4096, .f32⟩
  | .hbm, ⟨3, _⟩ => ⟨S4096x4096, .f32⟩
  | .hbm, ⟨4, _⟩ => ⟨S4096x4096, .bf16⟩
  | .hbm, ⟨5, _⟩ => ⟨S8192x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjSampleRefIdeal.lean ====
abbrev S8192x4096 : Shape := ⟨2, ![8192, 4096]⟩
abbrev S1x4096x4096 : Shape := ⟨3, ![1, 4096, 4096]⟩
abbrev S4x2048x4096 : Shape := ⟨3, ![4, 2048, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S4x2048x4096, .f32⟩
  | .hbm, ⟨3, _⟩ => ⟨S8192x4096, .f32⟩
  | .hbm, ⟨4, _⟩ => ⟨S8192x4096, .f32⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormSample.lean ====
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSampleRefIdeal.lean ====
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KeysSample.lean ====
abbrev S8192x5120 : Shape := ⟨2, ![8192, 5120]⟩
abbrev S1x128 : Shape := ⟨2, ![1, 128]⟩
abbrev S128 : Shape := ⟨1, ![128]⟩
abbrev S4x128 : Shape := ⟨2, ![4, 128]⟩
abbrev S512 : Shape := ⟨1, ![512]⟩
abbrev S1x512 : Shape := ⟨2, ![1, 512]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S32 : Shape := ⟨1, ![32]⟩
abbrev S2048x2x1 : Shape := ⟨3, ![2048, 2, 1]⟩
abbrev S1x1x32 : Shape := ⟨3, ![1, 1, 32]⟩
abbrev S2048x2x32 : Shape := ⟨3, ![2048, 2, 32]⟩
abbrev S2048x2x1x32 : Shape := ⟨4, ![2048, 2, 1, 32]⟩
abbrev S2048x2x2x32 : Shape := ⟨4, ![2048, 2, 2, 32]⟩
abbrev S2048x128 : Shape := ⟨2, ![2048, 128]⟩
abbrev S8192x512 : Shape := ⟨2, ![8192, 512]⟩
abbrev S512x512 : Shape := ⟨2, ![512, 512]⟩
abbrev S512x128 : Shape := ⟨2, ![512, 128]⟩
abbrev S512x1 : Shape := ⟨2, ![512, 1]⟩

abbrev nBuf : Space → Nat
  | .hbm => 83
  | .vmem => 9
  | .smem => 0
  | _ => 0

abbrev bufTy : (tb : Table) → Fin (tcTables nBuf tb) → BufTy
  | .hbm, ⟨0, _⟩ => ⟨S8192x5120, .bf16⟩
  | .hbm, ⟨1, _⟩ => ⟨S1x128, .f32⟩
  | .hbm, ⟨2, _⟩ => ⟨S128, .f32⟩
  | .hbm, ⟨3, _⟩ => ⟨S1x128, .f32⟩
  | .hbm, ⟨4, _⟩ => ⟨S4x128, .f32⟩
  | .hbm, ⟨5, _⟩ => ⟨S512, .f32⟩
  | .hbm, ⟨6, _⟩ => ⟨S1x512, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S_, .i1⟩
  | .hbm, ⟨42, _⟩ => ⟨S2048, .i1⟩
  | .hbm, ⟨43, _⟩ => ⟨S2048, .i1⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S2048x1, .i32⟩
  | .hbm, ⟨50, _⟩ => ⟨S2048x2, .i32⟩
  | .hbm, ⟨51, _⟩ => ⟨S2048x2, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2048x2x1, .f32⟩
  | .hbm, ⟨67, _⟩ => ⟨S1x1x32, .f32⟩
  | .hbm, ⟨68, _⟩ => ⟨S2048x2x32, .f32⟩
  | .hbm, ⟨69, _⟩ => ⟨S2048x2x32, .f32⟩
  | .hbm, ⟨70, _⟩ => ⟨S2048x2x32, .f32⟩
  | .hbm, ⟨71, _⟩ => ⟨S2048x2x32, .f32⟩
  | .hbm, ⟨72, _⟩ => ⟨S2048x2x32, .f32⟩
  | .hbm, ⟨73, _⟩ => ⟨S2048x2x1x32, .f32⟩
  | .hbm, ⟨74, _⟩ => ⟨S2048x2x1x32, .f32⟩
  | .hbm, ⟨75, _⟩ => ⟨S2048x2x2x32, .f32⟩
  | .hbm, ⟨76, _⟩ => ⟨S2048x128, .f32⟩
  | .hbm, ⟨77, _⟩ => ⟨S2048x2x32, .f32⟩
  | .hbm, ⟨78, _⟩ => ⟨S2048x2x1x32, .f32⟩
  | .hbm, ⟨79, _⟩ => ⟨S2048x2x1x32, .f32⟩
  | .hbm, ⟨80, _⟩ => ⟨S2048x2x2x32, .f32⟩
  | .hbm, ⟨81, _⟩ => ⟨S2048x128, .f32⟩
  | .hbm, ⟨82, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x512, .bf16⟩
  | .local _ .vmem, ⟨8, _⟩ => ⟨S512x512, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst : Ref sig .tc := ⟨.hbm, 53, rfl⟩
abbrev main_v13 : Ref sig .tc := ⟨.hbm, 54, rfl⟩
abbrev main_v14 : Ref sig .tc := ⟨.hbm, 55, rfl⟩
abbrev main_cst_1 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_2 : Ref sig .tc := ⟨.hbm, 60, rfl⟩
abbrev main_v18 : Ref sig .tc := ⟨.hbm, 61, rfl⟩
abbrev main_v19 : Ref sig .tc := ⟨.hbm, 62, rfl⟩
abbrev main_cst_3 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KeysSampleRefIdeal.lean ====
abbrev S8192x5120 : Shape := ⟨2, ![8192, 5120]⟩
abbrev S1x128 : Shape := ⟨2, ![1, 128]⟩
abbrev S8192x512 : Shape := ⟨2, ![8192, 512]⟩
abbrev S4x2048x4x128 : Shape := ⟨4, ![4, 2048, 4, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S2048x2 : Shape := ⟨2, ![2048, 2]⟩
abbrev S2048x2x1 : Shape := ⟨3, ![2048, 2, 1]⟩
abbrev S1x1x32 : Shape := ⟨3, ![1, 1, 32]⟩
abbrev S2048x2x32 : Shape := ⟨3, ![2048, 2, 32]⟩
abbrev S128 : Shape := ⟨1, ![128]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x2048x4x2x2x32 : Shape := ⟨6, ![4, 2048, 4, 2, 2, 32]⟩
abbrev S4x2048x4x2x1x32 : Shape := ⟨6, ![4, 2048, 4, 2, 1, 32]⟩
abbrev S4x2048x4x2x32 : Shape := ⟨5, ![4, 2048, 4, 2, 32]⟩
abbrev S1x2048x1x2x32 : Shape := ⟨5, ![1, 2048, 1, 2, 32]⟩

abbrev nBuf : Space → Nat
  | .hbm => 77
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S1x128, .f32⟩
  | .hbm, ⟨2, _⟩ => ⟨S8192x5120, .f32⟩
  | .hbm, ⟨3, _⟩ => ⟨S8192x512, .f32⟩
  | .hbm, ⟨4, _⟩ => ⟨S4x2048x4x128, .f32⟩
  | .hbm, ⟨5, _⟩ => ⟨S32, .i32⟩
  | .hbm, ⟨6, _⟩ => ⟨S32x64, .i32⟩
  | .hbm, ⟨7, _⟩ => ⟨S2048, .i32⟩
  | .hbm, ⟨8, _⟩ => ⟨S64, .i32⟩
  | .hbm, ⟨9, _⟩ => ⟨S1x64, .i32⟩
  | .hbm, ⟨10, _⟩ => ⟨S32x64, .i32⟩
  | .hbm, ⟨11, _⟩ => ⟨S2048, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2048x1, .i32⟩
  | .hbm, ⟨27, _⟩ => ⟨S2048x1, .i32⟩
  | .hbm, ⟨28, _⟩ => ⟨S2048x2, .i32⟩
  | .hbm, ⟨29, _⟩ => ⟨S2048x2, .f32⟩
  | .hbm, ⟨30, _⟩ => ⟨S2048x2x1, .f32⟩
  | .hbm, ⟨31, _⟩ => ⟨S1x1x32, .f32⟩
  | .hbm, ⟨32, _⟩ => ⟨S2048x2x32, .f32⟩
  | .hbm, ⟨33, _⟩ => ⟨S2048x2x32, .f32⟩
  | .hbm, ⟨34, _⟩ => ⟨S2048x2x32, .f32⟩
  | .hbm, ⟨35, _⟩ => ⟨S2048x2x32, .f32⟩
  | .hbm, ⟨36, _⟩ => ⟨S2048x2x32, .f32⟩
  | .hbm, ⟨37, _⟩ => ⟨S128, .f32⟩
  | .hbm, ⟨38, _⟩ => ⟨S4x2048x4x128, .f32⟩
  | .hbm, ⟨39, _⟩ => ⟨S_, .f32⟩
  | .hbm, ⟨40, _⟩ => ⟨S4x2048x4, .f32⟩
  | .hbm, ⟨41, _⟩ => ⟨S4x2048x4x1, .f32⟩
  | .hbm, ⟨42, _⟩ => ⟨S_, .f32⟩
  | .hbm, ⟨43, _⟩ => ⟨S4x2048x4x1, .f32⟩
  | .hbm, ⟨44, _⟩ => ⟨S4x2048x4x1, .f32⟩
  | .hbm, ⟨45, _⟩ => ⟨S_, .f32⟩
  | .hbm, ⟨46, _⟩ => ⟨S4x2048x4x1, .f32⟩
  | .hbm, ⟨47, _⟩ => ⟨S4x2048x4x1, .f32⟩
  | .hbm, ⟨48, _⟩ => ⟨S4x2048x4x1, .f32⟩
  | .hbm, ⟨49, _⟩ => ⟨S4x2048x4x128, .f32⟩
  | .hbm, ⟨50, _⟩ => ⟨S4x2048x4x128, .f32⟩
  | .hbm, ⟨51, _⟩ => ⟨S1x1x1x128, .f32⟩
  | .hbm, ⟨52, _⟩ => ⟨S4x2048x4x128, .f32⟩
  | .hbm, ⟨53, _⟩ => ⟨S4x2048x4x128, .f32⟩
  | .hbm, ⟨54, _⟩ => ⟨S4x2048x4x2x2x32, .f32⟩
  | .hbm, ⟨55, _⟩ => ⟨S4x2048x4x2x1x32, .f32⟩
  | .hbm, ⟨56, _⟩ => ⟨S4x2048x4x2x32, .f32⟩
  | .hbm, ⟨57, _⟩ => ⟨S4x2048x4x2x1x32, .f32⟩
  | .hbm, ⟨58, _⟩ => ⟨S4x2048x4x2x32, .f32⟩
  | .hbm, ⟨59, _⟩ => ⟨S1x2048x1x2x32, .f32⟩
  | .hbm, ⟨60, _⟩ => ⟨S1x2048x1x2x32, .f32⟩
  | .hbm, ⟨61, _⟩ => ⟨S4x2048x4x2x32, .f32⟩
  | .hbm, ⟨62, _⟩ => ⟨S4x2048x4x2x32, .f32⟩
  | .hbm, ⟨63, _⟩ => ⟨S4x2048x4x2x32, .f32⟩
  | .hbm, ⟨64, _⟩ => ⟨S4x2048x4x2x32, .f32⟩
  | .hbm, ⟨65, _⟩ => ⟨S4x2048x4x2x32, .f32⟩
  | .hbm, ⟨66, _⟩ => ⟨S4x2048x4x2x32, .f32⟩
  | .hbm, ⟨67, _⟩ => ⟨S4x2048x4x2x32, .f32⟩
  | .hbm, ⟨68, _⟩ => ⟨S4x2048x4x2x32, .f32⟩
  | .hbm, ⟨69, _⟩ => ⟨S4x2048x4x2x32, .f32⟩
  | .hbm, ⟨70, _⟩ => ⟨S4x2048x4x2x32, .f32⟩
  | .hbm, ⟨71, _⟩ => ⟨S4x2048x4x2x1x32, .f32⟩
  | .hbm, ⟨72, _⟩ => ⟨S4x2048x4x2x1x32, .f32⟩
  | .hbm, ⟨73, _⟩ => ⟨S4x2048x4x2x2x32, .f32⟩
  | .hbm, ⟨74, _⟩ => ⟨S4x2048x4x128, .f32⟩
  | .hbm, ⟨75, _⟩ => ⟨S8192x512, .f32⟩
  | .hbm, ⟨76, _⟩ => ⟨S8192x512, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩

abbrev nD : Nat := 1
abbrev τ : Topo := Topo.v7x

variable {F : FTy → Type} [FloatOps F]
-- ==== CaQSample.lean ====
abbrev S8192x4096 : Shape := ⟨2, ![8192, 4096]⟩
abbrev S1x4096x1024 : Shape := ⟨3, ![1, 4096, 1024]⟩
abbrev S4096x1024 : Shape := ⟨2, ![4096, 1024]⟩
abbrev S8192x1024 : Shape := ⟨2, ![8192, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CaQSampleRefIdeal.lean ====
abbrev S8192x4096 : Shape := ⟨2, ![8192, 4096]⟩
abbrev S1x4096x1024 : Shape := ⟨3, ![1, 4096, 1024]⟩
abbrev S4096x1024 : Shape := ⟨2, ![4096, 1024]⟩
abbrev S8192x1024 : Shape := ⟨2, ![8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .f32⟩
  | .hbm, ⟨2, _⟩ => ⟨S8192x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CaSample.lean ====
abbrev S8192x1024 : Shape := ⟨2, ![8192, 1024]⟩
abbrev S1024x2048 : Shape := ⟨2, ![1024, 2048]⟩
abbrev S4x2048x1024 : Shape := ⟨3, ![4, 2048, 1024]⟩
abbrev S4x256x2048 : Shape := ⟨3, ![4, 256, 2048]⟩
abbrev S1x512x1024 : Shape := ⟨3, ![1, 512, 1024]⟩
abbrev S1x256x2048 : Shape := ⟨3, ![1, 256, 2048]⟩
abbrev S1x256x256 : Shape := ⟨3, ![1, 256, 256]⟩
abbrev S256x256 : Shape := ⟨2, ![256, 256]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S4x2048x1024, .bf16⟩
  | .hbm, ⟨3, _⟩ => ⟨S4x256x2048, .bf16⟩
  | .hbm, ⟨4, _⟩ => ⟨S4x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x512x1024, .bf16⟩
  | .local _ .vmem, ⟨5, _⟩ => ⟨S1x512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CaSampleRefIdeal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x2048x1024 : Shape := ⟨3, ![4, 2048, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S4x2048x4x256, .f32⟩
  | .hbm, ⟨4, _⟩ => ⟨S1024x2048, .f32⟩
  | .hbm, ⟨5, _⟩ => ⟨S4x256x2x4x256, .f32⟩
  | .hbm, ⟨6, _⟩ => ⟨S4x256x1x4x256, .f32⟩
  | .hbm, ⟨7, _⟩ => ⟨S4x256x4x256, .f32⟩
  | .hbm, ⟨8, _⟩ => ⟨S4x256x1x4x256, .f32⟩
  | .hbm, ⟨9, _⟩ => ⟨S4x256x4x256, .f32⟩
  | .hbm, ⟨10, _⟩ => ⟨S4x4x2048x256, .f32⟩
  | .hbm, ⟨11, _⟩ => ⟨S_, .f32⟩
  | .hbm, ⟨12, _⟩ => ⟨S4x4x2048, .f32⟩
  | .hbm, ⟨13, _⟩ => ⟨S_, .f32⟩
  | .hbm, ⟨14, _⟩ => ⟨S4x4x2048, .f32⟩
  | .hbm, ⟨15, _⟩ => ⟨S4x4x2048, .f32⟩
  | .hbm, ⟨16, _⟩ => ⟨S4x4x2048x1, .f32⟩
  | .hbm, ⟨17, _⟩ => ⟨S4x4x2048x256, .f32⟩
  | .hbm, ⟨18, _⟩ => ⟨S4x4x2048x256, .f32⟩
  | .hbm, ⟨19, _⟩ => ⟨S4x4x2048x256, .f32⟩
  | .hbm, ⟨20, _⟩ => ⟨S_, .f32⟩
  | .hbm, ⟨21, _⟩ => ⟨S4x4x2048, .f32⟩
  | .hbm, ⟨22, _⟩ => ⟨S4x4x2048x1, .f32⟩
  | .hbm, ⟨23, _⟩ => ⟨S4x4x2048x256, .f32⟩
  | .hbm, ⟨24, _⟩ => ⟨S4x4x2048x256, .f32⟩
  | .hbm, ⟨25, _⟩ => ⟨S4x4x256x2048, .f32⟩
  | .hbm, ⟨26, _⟩ => ⟨S4x2048x4x256, .f32⟩
  | .hbm, ⟨27, _⟩ => ⟨S4x2048x1024, .f32⟩
  | .hbm, ⟨28, _⟩ => ⟨S4x2048x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== CaOutSample.lean ====
abbrev S8192x1024 : Shape := ⟨2, ![8192, 1024]⟩
abbrev S1x1024x4096 : Shape := ⟨3, ![1, 1024, 4096]⟩
abbrev S8192x4096 : Shape := ⟨2, ![8192, 4096]⟩
abbrev S1024x4096 : Shape := ⟨2, ![1024, 4096]⟩
abbrev S1024x1024 : Shape := ⟨2, ![1024, 1024]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .f32⟩
  | .hbm, ⟨2, _⟩ => ⟨S8192x4096, .f32⟩
  | .hbm, ⟨3, _⟩ => ⟨S1024x4096, .f32⟩
  | .hbm, ⟨4, _⟩ => ⟨S1024x4096, .bf16⟩
  | .hbm, ⟨5, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CaOutSampleRefIdeal.lean ====
abbrev S8192x1024 : Shape := ⟨2, ![8192, 1024]⟩
abbrev S1x1024x4096 : Shape := ⟨3, ![1, 1024, 4096]⟩
abbrev S8192x4096 : Shape := ⟨2, ![8192, 4096]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .f32⟩
  | .hbm, ⟨2, _⟩ => ⟨S8192x4096, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RouteSample.lean ====
abbrev S8192x4096 : Shape := ⟨2, ![8192, 4096]⟩
abbrev S1x4096 : Shape := ⟨2, ![1, 4096]⟩
abbrev S1x4096x2048 : Shape := ⟨3, ![1, 4096, 2048]⟩
abbrev S1x2x128x128 : Shape := ⟨4, ![1, 2, 128, 128]⟩
abbrev S4096 : Shape := ⟨1, ![4096]⟩
abbrev S_ : Shape := ⟨0, ![]⟩
abbrev S4096x2048 : Shape := ⟨2, ![4096, 2048]⟩
abbrev S2048x4096 : Shape := ⟨2, ![2048, 4096]⟩
abbrev S2x128x128 : Shape := ⟨3, ![2, 128, 128]⟩
abbrev S1 : Shape := ⟨1, ![1]⟩
abbrev S8x128x8192 : Shape := ⟨3, ![8, 128, 8192]⟩
abbrev S8x1x8192 : Shape := ⟨3, ![8, 1, 8192]⟩
abbrev S256x4096 : Shape := ⟨2, ![256, 4096]⟩
abbrev S8x128x256 : Shape := ⟨3, ![8, 128, 256]⟩
abbrev S8x1x256 : Shape := ⟨3, ![8, 1, 256]⟩
abbrev S2048x256 : Shape := ⟨2, ![2048, 256]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S8x128 : Shape := ⟨2, ![8, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 48
  | .vmem => 18
  | .smem => 1
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096x2048, .f32⟩
  | .hbm, ⟨3, _⟩ => ⟨S1x2x128x128, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096, .f32⟩
  | .hbm, ⟨36, _⟩ => ⟨S4096x2048, .f32⟩
  | .hbm, ⟨37, _⟩ => ⟨S2048x4096, .f32⟩
  | .hbm, ⟨38, _⟩ => ⟨S2048x4096, .bf16⟩
  | .hbm, ⟨39, _⟩ => ⟨S2x128x128, .f32⟩
  | .hbm, ⟨40, _⟩ => ⟨S1, .f32⟩
  | .hbm, ⟨41, _⟩ => ⟨S1x4096, .f32⟩
  | .hbm, ⟨42, _⟩ => ⟨S8x128x8192, .f32⟩
  | .hbm, ⟨43, _⟩ => ⟨S8x128x8192, .f32⟩
  | .hbm, ⟨44, _⟩ => ⟨S8x128x8192, .f32⟩
  | .hbm, ⟨45, _⟩ => ⟨S8x128x8192, .f32⟩
  | .hbm, ⟨46, _⟩ => ⟨S8x1x8192, .f32⟩
  | .hbm, ⟨47, _⟩ => ⟨S8192x4096, .fp8e4m3⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S2048x4096, .bf16⟩
  | .local _ .vmem, ⟨4, _⟩ => ⟨S2x128x128, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S8x128x256, .f32⟩
  | .local _ .vmem, ⟨13, _⟩ => ⟨S8x1x256, .f32⟩
  | .local _ .vmem, ⟨14, _⟩ => ⟨S8x1x256, .f32⟩
  | .local _ .vmem, ⟨15, _⟩ => ⟨S256x4096, .fp8e4m3⟩
  | .local _ .vmem, ⟨16, _⟩ => ⟨S256x4096, .fp8e4m3⟩
  | .local _ .vmem, ⟨17, _⟩ => ⟨S2048x256, .f32⟩
  | .local _ .smem, ⟨0, _⟩ => ⟨S1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_cst_7 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v15 : Ref sig .tc := ⟨.hbm, 31, rfl⟩
abbrev main_cst_8 : Ref sig .tc := ⟨.hbm, 32, rfl⟩
abbrev main_call1_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v24_3 : Ref sig .tc := ⟨.hbm, 45, rfl⟩
abbrev main_v24_4 : Ref sig .tc := ⟨.hbm, 46, rfl⟩
abbrev main_v24_5 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v32 : BitVec 32 := Scalar.addi c0_i32 c8_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  v33
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let v35 : Index := Scalar.indexCast v34
  let c0_19 : Index := 0#32
  ![v35.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let c128_i32 : BitVec 32 := 128#32
  let v38 : BitVec 32 := Scalar.addi v34 c128_i32
  let v39 : Index := Scalar.indexCast v38
  let c0_21 : Index := 0#32
  ![v39.toNat, 0]
def k0_off3 (k0_t1 : Fin k0_t1_loop.trips) : Fin 3 → Nat :=
  let c0_i32 : BitVec 32 := 0#32
  let c1_i32 : BitVec 32 := 1#32
  let arg13 : BitVec 32 := Scf.iv c0_i32 c1_i32 k0_t1
  let v1327 : Index := Scalar.indexCast arg13
  let c0_188 : Index := 0#32
  let c0_189 : Index := 0#32
  ![v1327.toNat, 0, 0]
def k0_off4 (k0_t1 : Fin k0_t1_loop.trips) : Fin 3 → Nat :=
  let c0_i32 : BitVec 32 := 0#32
  let c1_i32 : BitVec 32 := 1#32
  let arg13 : BitVec 32 := Scf.iv c0_i32 c1_i32 k0_t1
  let v1352 : Index := Scalar.indexCast arg13
  let c0_196 : Index := 0#32
  let c0_197 : Index := 0#32
  ![v1352.toNat, 0, 0]
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let v1356 : Index := Scalar.indexCast v34
  let c128 : Index := 128#32
  ![v1356.toNat, 128]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let c128_i32_199 : BitVec 32 := 128#32
  let v1359 : BitVec 32 := Scalar.addi v34 c128_i32_199
  let v1360 : Index := Scalar.indexCast v1359
  let c128_200 : Index := 128#32
  ![v1360.toNat, 128]
def k0_off7 (k0_t1 : Fin k0_t1_loop.trips) : Fin 3 → Nat :=
  let c0_i32 : BitVec 32 := 0#32
  let c1_i32 : BitVec 32 := 1#32
  let arg13 : BitVec 32 := Scf.iv c0_i32 c1_i32 k0_t1
  let v2648 : Index := Scalar.indexCast arg13
  let c0_372 : Index := 0#32
  let c128_373 : Index := 128#32
  ![v2648.toNat, 0, 128]
def k0_off8 (k0_t1 : Fin k0_t1_loop.trips) : Fin 3 → Nat :=
  let c0_i32 : BitVec 32 := 0#32
  let c1_i32 : BitVec 32 := 1#32
  let arg13 : BitVec 32 := Scf.iv c0_i32 c1_i32 k0_t1
  let v2673 : Index := Scalar.indexCast arg13
  let c0_380 : Index := 0#32
  let c128_381 : Index := 128#32
  ![v2673.toNat, 0, 128]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RouteSampleRefIdeal.lean ====
abbrev S8192x4096 : Shape := ⟨2, ![8192, 4096]⟩
abbrev S1x4096 : Shape := ⟨2, ![1, 4096]⟩
abbrev S1x4096x2048 : Shape := ⟨3, ![1, 4096, 2048]⟩
abbrev S1x2x128x128 : Shape := ⟨4, ![1, 2, 128, 128]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x2048 : Shape := ⟨2, ![4096, 2048]⟩
abbrev S8192x2048 : Shape := ⟨2, ![8192, 2048]⟩
abbrev S8192x8x2x128 : Shape := ⟨4, ![8192, 8, 2, 128]⟩
abbrev S2x128x128 : Shape := ⟨3, ![2, 128, 128]⟩
abbrev S2x128x8192x8 : Shape := ⟨4, ![2, 128, 8192, 8]⟩
abbrev S8192x8x1x128 : Shape := ⟨4, ![8192, 8, 1, 128]⟩
abbrev S8192x8x128 : Shape := ⟨3, ![8192, 8, 128]⟩
abbrev S8x128x8192 : Shape := ⟨3, ![8, 128, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096x2048, .f32⟩
  | .hbm, ⟨3, _⟩ => ⟨S1x2x128x128, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S4096x2048, .f32⟩
  | .hbm, ⟨22, _⟩ => ⟨S8192x2048, .f32⟩
  | .hbm, ⟨23, _⟩ => ⟨S8192x8x2x128, .f32⟩
  | .hbm, ⟨24, _⟩ => ⟨S2x128x128, .f32⟩
  | .hbm, ⟨25, _⟩ => ⟨S2x128x8192x8, .f32⟩
  | .hbm, ⟨26, _⟩ => ⟨S8192x8x2x128, .f32⟩
  | .hbm, ⟨27, _⟩ => ⟨S8192x8x1x128, .f32⟩
  | .hbm, ⟨28, _⟩ => ⟨S8192x8x128, .f32⟩
  | .hbm, ⟨29, _⟩ => ⟨S8x128x8192, .f32⟩
  | .hbm, ⟨30, _⟩ => ⟨S8192x8x1x128, .f32⟩
  | .hbm, ⟨31, _⟩ => ⟨S8192x8x128, .f32⟩
  | .hbm, ⟨32, _⟩ => ⟨S8x128x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== DftCSample.lean ====
abbrev S8192x5120 : Shape := ⟨2, ![8192, 5120]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5120, .bf16⟩
  | .hbm, ⟨1, _⟩ => ⟨S2048x4096, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DftCSampleRefIdeal.lean ====
abbrev S8192x5120 : Shape := ⟨2, ![8192, 5120]⟩
abbrev S2048x4096 : Shape := ⟨2, ![2048, 4096]⟩
abbrev S8192x2048 : Shape := ⟨2, ![8192, 2048]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S2048x4096, .bf16⟩
  | .hbm, ⟨2, _⟩ => ⟨S8192x5120, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S8192x4096, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DftPSample.lean ====
abbrev S2048x2048 : Shape := ⟨2, ![2048, 2048]⟩
abbrev S8192x4096 : Shape := ⟨2, ![8192, 4096]⟩
abbrev S4x2048x4096 : Shape := ⟨3, ![4, 2048, 4096]⟩
abbrev S4x2048x2048 : Shape := ⟨3, ![4, 2048, 2048]⟩
abbrev S512x2048 : Shape := ⟨2, ![512, 2048]⟩
abbrev S1x2048x512 : Shape := ⟨3, ![1, 2048, 512]⟩
abbrev S1x512x512 : Shape := ⟨3, ![1, 512, 512]⟩
abbrev S2048x512 : Shape := ⟨2, ![2048, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8192x4096, .bf16⟩
  | .hbm, ⟨3, _⟩ => ⟨S4x2048x4096, .bf16⟩
  | .hbm, ⟨4, _⟩ => ⟨S4x2048x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x512, .bf16⟩
  | .local _ .vmem, ⟨9, _⟩ => ⟨S1x512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== DftPSampleRefIdeal.lean ====
abbrev S2048x2048 : Shape := ⟨2, ![2048, 2048]⟩
abbrev S8192x4096 : Shape := ⟨2, ![8192, 4096]⟩
abbrev S4x2048x4096 : Shape := ⟨3, ![4, 2048, 4096]⟩
abbrev S4x2048x2048 : Shape := ⟨3, ![4, 2048, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8192x4096, .bf16⟩
  | .hbm, ⟨3, _⟩ => ⟨S8192x4096, .f32⟩
  | .hbm, ⟨4, _⟩ => ⟨S4x2048x4096, .f32⟩
  | .hbm, ⟨5, _⟩ => ⟨S2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Math.lean ====
module

public import Idealize.ShloMosaic.Lib.Pointwise

@[expose] public section

noncomputable section

namespace Cert.Num

open Idealize.ShloMosaic

/-- A finite sum of reals, read in the extended reals. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- A nonnegative real factor distributes over any finite sum of extended reals. -/
theorem sum_mul_coe {n : ℕ} (f : Fin n → EReal) {c : ℝ} (hc : 0 ≤ c) :
    (∑ i, f i) * (c : EReal) = ∑ i, f i * (c : EReal) := by
  induction n with
  | zero => simp
  | succ n ih =>
    rw [Fin.sum_univ_succ, Fin.sum_univ_succ, EReal.right_distrib_of_nonneg_of_ne_top (by exact_mod_cast hc) (EReal.coe_ne_top c), ih]

/-- The largest of finitely many reals, as a fold from `⊥`, is a real. -/
theorem fold_max_real {n : ℕ} (f : Fin (n + 1) → EReal) (hf : ∀ i, ∃ r : ℝ, f i = r) :
    ∃ r : ℝ, Finset.univ.fold max ⊥ f = r := by
  have h : Finset.univ.fold max ⊥ f = Finset.univ.sup f := rfl
  rw [h]
  obtain ⟨i, -, hi⟩ := Finset.exists_mem_eq_sup Finset.univ ⟨0, Finset.mem_univ _⟩ f
  rw [hi]; exact hf i

/-- Softmax-weighted sums: dividing after the sum is dividing each weight before it. -/
theorem softmax_div {n : ℕ} (L : Fin (n + 1) → EReal) (hL : ∀ i, ∃ r : ℝ, L i = r) (v : Fin (n + 1) → EReal) :
    Ideal.div (∑ t, Ideal.exp (L t - Finset.univ.fold max ⊥ L) * v t) (∑ t, Ideal.exp (L t - Finset.univ.fold max ⊥ L))
      = ∑ t, v t * Ideal.div (Ideal.exp (L t - Finset.univ.fold max ⊥ L)) (∑ t, Ideal.exp (L t - Finset.univ.fold max ⊥ L)) := by
  obtain ⟨M, hM⟩ := fold_max_real L hL
  rw [hM]
  choose l hl using hL
  have he : ∀ t, Ideal.exp (L t - (M : EReal)) = ((Real.exp (l t - M) : ℝ) : EReal) := fun t => by
    rw [hl, ← EReal.coe_sub, Ideal.exp_coe]
  simp only [he]
  rw [← coe_sum]
  have hpos : 0 < ∑ t, Real.exp (l t - M) := Finset.sum_pos (fun t _ => Real.exp_pos _) ⟨0, Finset.mem_univ _⟩
  simp only [Ideal.div_coe hpos.ne']
  rw [sum_mul_coe _ (by positivity)]
  refine Finset.sum_congr rfl fun t _ => ?_
  rw [mul_comm (v t), mul_right_comm]

/-- The sum of squares of extended reals: a nonnegative real when all entries are real, else `⊤`. -/
theorem sumsq {n : ℕ} (x : Fin n → EReal) :
    (∃ X : Fin n → ℝ, (∀ i, x i = X i) ∧ ∑ i, x i * x i = ((∑ i, X i * X i : ℝ) : EReal)) ∨ ∑ i, x i * x i = ⊤ := by
  by_cases h : ∀ i, ∃ r : ℝ, x i = r
  · choose X hX using h
    refine .inl ⟨X, hX, ?_⟩
    rw [coe_sum]
    exact Finset.sum_congr rfl fun i _ => by rw [hX, EReal.coe_mul]
  · right
    push Not at h
    obtain ⟨i, hi⟩ := h
    have hnn : ∀ j, 0 ≤ x j * x j := fun j => by
      induction x j using EReal.rec with
      | bot => simp
      | top => simp
      | coe r => exact_mod_cast mul_self_nonneg r
    have ht : x i * x i = ⊤ := by
      revert hi
      induction x i using EReal.rec with
      | bot => simp
      | top => simp
      | coe r => intro h; exact absurd rfl (h r)
    have := Finset.single_le_sum (f := fun j => x j * x j) (fun j _ => hnn j) (Finset.mem_univ i)
    rw [ht] at this
    exact top_le_iff.1 this

/-- An RMS-normalised entry is a real, whatever the entries: an infinite entry makes the factor zero. -/
theorem rms_real {n : ℕ} (x : Fin n → EReal) {c e : ℝ} (hc : 0 < c) (he : 0 < e) (d : Fin n) :
    ∃ r : ℝ, x d * Ideal.rsqrt (Ideal.div (∑ i, x i * x i) (c : EReal) + (e : EReal)) = r := by
  rw [Ideal.div_coe hc.ne']
  rcases sumsq x with ⟨X, hX, hs⟩ | hs
  · rw [hs, hX, ← EReal.coe_mul, ← EReal.coe_add, Ideal.rsqrt_coe]
    have h0 : 0 ≤ ∑ i, X i * X i := Finset.sum_nonneg fun i _ => mul_self_nonneg _
    have : 0 < (∑ i, X i * X i) * (1 / c) + e := by positivity
    rw [if_neg (not_lt.2 this.le), if_neg this.ne', ← EReal.coe_mul]
    exact ⟨_, rfl⟩
  · rw [hs, EReal.top_mul_coe_of_pos (by positivity), EReal.top_add_coe, Ideal.rsqrt_top, mul_zero]
    exact ⟨0, rfl⟩

/-- The rotary frequency of lane pair `e`. -/
def freq (e : ℕ) : EReal :=
  Ideal.pow (Ideal.ofBits FTy.f32 1176256512#32)
    (Ideal.div (-(Ideal.ofBits FTy.f32 1073741824#32 * FloatOps.sitofp (F := Ideal) FTy.f32 (BitVec.ofNat 32 e)))
      (Ideal.ofBits FTy.f32 1115684864#32))

/-- The rotary angle at position `s`: by the row `s / 64` in the first 64 lanes, by the column `s % 64` in the last. -/
def ang (s p e : ℕ) : EReal :=
  FloatOps.sitofp (F := Ideal) FTy.f32 (if p < 1 then BitVec.ofNat 32 (s / 64) else BitVec.ofNat 32 (s % 64)) * freq e

/-- A row's RMS-normalised entries, before the gain. -/
def nrm (x : Fin 128 → EReal) (d : Fin 128) : EReal :=
  x d * Ideal.rsqrt (Ideal.div (∑ i, x i * x i) (Ideal.ofBits FTy.f32 1124073472#32) + Ideal.ofBits FTy.f32 897988541#32)

/-- The reference's rotary rotation of `n · g` at position `s`: the two halves of each 64-lane block turned by the angle. -/
def rrot (n g : Fin 128 → EReal) (s : ℕ) (d : Fin 128) : EReal :=
  if d.val / 32 % 2 < 1 then
    n ⟨d.val / 64 * 64 + d.val % 32, by omega⟩ * g ⟨d.val / 64 * 64 + d.val % 32, by omega⟩ * Ideal.cos (ang s (d.val / 64) (d.val % 32))
      - n ⟨d.val / 64 * 64 + 32 + d.val % 32, by omega⟩ * g ⟨d.val / 64 * 64 + 32 + d.val % 32, by omega⟩ * Ideal.sin (ang s (d.val / 64) (d.val % 32))
  else
    n ⟨d.val / 64 * 64 + 32 + d.val % 32, by omega⟩ * g ⟨d.val / 64 * 64 + 32 + d.val % 32, by omega⟩ * Ideal.cos (ang s (d.val / 64) (d.val % 32))
      + n ⟨d.val / 64 * 64 + d.val % 32, by omega⟩ * g ⟨d.val / 64 * 64 + d.val % 32, by omega⟩ * Ideal.sin (ang s (d.val / 64) (d.val % 32))

/-- The reference's score of one query row against key `t`, scaled after the contraction. -/
def rscore {N : ℕ} (n g : Fin 128 → EReal) (s : ℕ) (k : Fin N → Fin 128 → EReal) (t : Fin N) : EReal :=
  (∑ d, k t d * rrot n g s d) * Ideal.ofBits FTy.f32 1035273459#32

/-- The exponential of a score less the row's maximum. -/
def rexp {N : ℕ} (n g : Fin 128 → EReal) (s : ℕ) (k : Fin N → Fin 128 → EReal) (t : Fin N) : EReal :=
  Ideal.exp (rscore n g s k t - max (Ideal.ofBits FTy.f32 4286578688#32) (Finset.univ.fold max (Ideal.ofBits FTy.f32 4286578688#32) (rscore n g s k)))

/-- The softmax weight of key `t`. -/
def rweight {N : ℕ} (n g : Fin 128 → EReal) (s : ℕ) (k : Fin N → Fin 128 → EReal) (t : Fin N) : EReal :=
  Ideal.div (rexp n g s k t) (∑ t, rexp n g s k t)

/-- The rotated query, one row: the query times the cosine row plus its half-rotation times the signed sine row. -/
def rot (q c s : Fin 128 → EReal) (d : Fin 128) : EReal :=
  q d * c d + (if d.val / 32 % 2 < 1 then q ⟨(d.val + 128 - 96) % 128, Nat.mod_lt _ (by decide)⟩ else q ⟨(d.val + 128 - 32) % 128, Nat.mod_lt _ (by decide)⟩) * s d

/-- One score of the kernel: the rotated query row against one key. -/
def score {N : ℕ} (q c s : Fin 128 → EReal) (k : Fin N → Fin 128 → EReal) (j : Fin N) : EReal :=
  ∑ d, rot q c s d * k j d

/-- The kernel's exponential of a score less its row's maximum. -/
def kexp {N : ℕ} (q c s : Fin 128 → EReal) (k : Fin N → Fin 128 → EReal) (j : Fin N) : EReal :=
  Ideal.exp (score q c s k j - Finset.univ.fold max ⊥ (score q c s k))

/-- The kernel's result for one query row of one head, lane `v`: weighted values over the weights' sum. -/
def kout {N : ℕ} (x g c s : Fin 128 → EReal) (k : Fin N → Fin 128 → EReal) (v : Fin N → EReal) : EReal :=
  Ideal.div (∑ t, kexp (fun d => nrm x d * g d) c s k t * v t) (∑ t, kexp (fun d => nrm x d * g d) c s k t)

theorem ofBits_128 : Ideal.ofBits FTy.f32 1124073472#32 = ((128 : ℝ) : EReal) := by
  simp [Ideal.ofBits, Ideal.ieee, -EReal.coe_mul]; norm_num
theorem ofBits_eps : ∃ r : ℝ, 0 < r ∧ Ideal.ofBits FTy.f32 897988541#32 = r := by
  simp [Ideal.ofBits, Ideal.ieee, -EReal.coe_mul]
theorem ofBits_scale : ∃ r : ℝ, 0 < r ∧ Ideal.ofBits FTy.f32 1035273459#32 = r := by
  simp [Ideal.ofBits, Ideal.ieee, -EReal.coe_mul]
theorem ofBits_64 : Ideal.ofBits FTy.f32 1115684864#32 = ((64 : ℝ) : EReal) := by
  simp [Ideal.ofBits, Ideal.ieee, -EReal.coe_mul]; norm_num
theorem ofBits_2 : Ideal.ofBits FTy.f32 1073741824#32 = ((2 : ℝ) : EReal) := by
  simp [Ideal.ofBits, Ideal.ieee, -EReal.coe_mul]; norm_num
theorem ofBits_theta : Ideal.ofBits FTy.f32 1176256512#32 = ((10000 : ℝ) : EReal) := by
  simp [Ideal.ofBits, Ideal.ieee, -EReal.coe_mul]; norm_num

theorem sitofp_real (w : BitVec 32) : ∃ r : ℝ, FloatOps.sitofp (F := Ideal) FTy.f32 w = (r : EReal) := ⟨_, rfl⟩

/-- Every rotary angle is a real. -/
theorem ang_real (s p e : ℕ) : ∃ r : ℝ, ang s p e = r := by
  unfold ang freq
  obtain ⟨a, ha⟩ := sitofp_real (if p < 1 then BitVec.ofNat 32 (s / 64) else BitVec.ofNat 32 (s % 64))
  obtain ⟨b, hb⟩ := sitofp_real (BitVec.ofNat 32 e)
  rw [ha, hb, ofBits_64, ofBits_2, ofBits_theta, ← EReal.coe_mul, ← EReal.coe_neg, Ideal.div_coe (by norm_num), ← EReal.coe_mul,
    Ideal.pow_coe_coe, ← EReal.coe_mul]
  exact ⟨_, rfl⟩

theorem ofBits_neg_inf : Ideal.ofBits FTy.f32 4286578688#32 = ⊥ := by
  simp [Ideal.ofBits, Ideal.ieee]

theorem nrm_real (x : Fin 128 → EReal) (d : Fin 128) : ∃ r : ℝ, nrm x d = r := by
  obtain ⟨e, he, h⟩ := ofBits_eps
  unfold nrm
  rw [ofBits_128, h]
  exact rms_real x (by norm_num) he d

/-- The kernel's score (the scale folded into the gain, the rotation by a lane roll and a signed sine) is the
    reference's, for finite gains and keys; and it is a real. -/
theorem score_eq {N : ℕ} (x g : Fin 128 → EReal) (s : ℕ) (k : Fin N → Fin 128 → EReal) (hg : ∀ d, ∃ r : ℝ, g d = r) (hk : ∀ t d, ∃ r : ℝ, k t d = r) (t : Fin N) :
    score (fun d => nrm x d * (g d * Ideal.ofBits FTy.f32 1035273459#32)) (fun d => Ideal.cos (ang s (d.val / 64) (d.val % 32)))
        (fun d => if d.val / 32 % 2 < 1 then -Ideal.sin (ang s (d.val / 64) (d.val % 32)) else Ideal.sin (ang s (d.val / 64) (d.val % 32))) k t
      = rscore (nrm x) g s k t ∧ ∃ r : ℝ, rscore (nrm x) g s k t = r := by
  obtain ⟨c, hc, hc'⟩ := ofBits_scale
  choose N hN using nrm_real x
  choose G hG using hg
  choose K hK using hk
  choose A hA using ang_real s
  have key : ∀ d, ∃ r : ℝ, rot (fun d => nrm x d * (g d * Ideal.ofBits FTy.f32 1035273459#32)) (fun d => Ideal.cos (ang s (d.val / 64) (d.val % 32)))
        (fun d => if d.val / 32 % 2 < 1 then -Ideal.sin (ang s (d.val / 64) (d.val % 32)) else Ideal.sin (ang s (d.val / 64) (d.val % 32))) d * k t d = ((r * c : ℝ) : EReal)
      ∧ k t d * rrot (nrm x) g s d = r := by
    intro d
    unfold rot rrot
    by_cases h : d.val / 32 % 2 < 1
    · have e0 : (⟨d.val / 64 * 64 + d.val % 32, by omega⟩ : Fin 128) = d := Fin.ext (by dsimp only; omega)
      have e1 : (⟨(d.val + 128 - 96) % 128, Nat.mod_lt _ (by decide)⟩ : Fin 128) = ⟨d.val / 64 * 64 + 32 + d.val % 32, by omega⟩ := Fin.ext (by dsimp only; omega)
      simp only [h, if_true, e0, e1, hN, hG, hK, hA, hc', Ideal.cos_coe, Ideal.sin_coe, ← EReal.coe_mul, ← EReal.coe_add, ← EReal.coe_sub, ← EReal.coe_neg]
      refine ⟨_, ?_, rfl⟩
      congr 1; ring
    · have e0 : (⟨d.val / 64 * 64 + 32 + d.val % 32, by omega⟩ : Fin 128) = d := Fin.ext (by dsimp only; omega)
      have e1 : (⟨(d.val + 128 - 32) % 128, Nat.mod_lt _ (by decide)⟩ : Fin 128) = ⟨d.val / 64 * 64 + d.val % 32, by omega⟩ := Fin.ext (by dsimp only; omega)
      simp only [h, if_false, e0, e1, hN, hG, hK, hA, hc', Ideal.cos_coe, Ideal.sin_coe, ← EReal.coe_mul, ← EReal.coe_add, ← EReal.coe_sub, ← EReal.coe_neg]
      refine ⟨_, ?_, rfl⟩
      congr 1; ring
  choose R hR hR' using key
  unfold score rscore
  simp only [hR, hR']
  rw [hc', ← coe_sum, ← coe_sum, ← EReal.coe_mul, Finset.sum_mul]
  exact ⟨rfl, _, rfl⟩

/-- One query row of one head: the kernel's result is the reference's. -/
theorem attn_eq {N : ℕ} [NeZero N] (x g : Fin 128 → EReal) (s : ℕ) (k : Fin N → Fin 128 → EReal) (v : Fin N → EReal) (hg : ∀ d, ∃ r : ℝ, g d = r) (hk : ∀ t d, ∃ r : ℝ, k t d = r) :
    kout x (fun d => g d * Ideal.ofBits FTy.f32 1035273459#32) (fun d => Ideal.cos (ang s (d.val / 64) (d.val % 32)))
        (fun d => if d.val / 32 % 2 < 1 then -Ideal.sin (ang s (d.val / 64) (d.val % 32)) else Ideal.sin (ang s (d.val / 64) (d.val % 32))) k v
      = ∑ t, v t * rweight (nrm x) g s k t := by
  obtain ⟨n, rfl⟩ := Nat.exists_eq_succ_of_ne_zero (NeZero.ne N)
  have hs := fun t => score_eq x g s k hg hk t
  have hf := funext fun t => (hs t).1
  unfold kout kexp rweight rexp
  rw [hf, ofBits_neg_inf, max_eq_right bot_le]
  exact softmax_div (rscore (nrm x) g s k) (fun t => (hs t).2) v

end Cert.Num
end
-- ==== Proof.Head.lean ====
module

public import proofs.«01_k».proof.Proof.Gen.KernelIdeal.Frame
public import Idealize.ShloMosaic.Lib.Pipeline.ValueKit
public import Idealize.ShloMosaic.Lib.Pointwise
public import proofs.«01_k».proof.Proof.Math

@[expose] public section

set_option maxRecDepth 16384
set_option backward.isDefEq.respectTransparency.types false

noncomputable section

namespace Cert.Attn

open Idealize.ShloMosaic Idealize.ShloMosaic.TcCoe Idealize.SL.Sem
open Cert.KernelIdeal Cert.KernelIdeal.Gen

/-- The lane number's half-block, floor-divided by 32 as the kernel computes it on words. -/
def laneQ (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 32#32 0#32)) (Scalar.extui (Scalar.cmpi CmpIPredicate.slt 32#32 0#32))))
      (IntOp.cmpi CmpIPredicate.ne (IntOp.remsi ArithUnit.vector w 32#32) 0#32))
    (IntOp.subi (IntOp.divsi ArithUnit.vector w 32#32) 1#32)
    (IntOp.divsi ArithUnit.vector w 32#32)

/-- The kernel's word 2 (guarded against a zero divisor). -/
def two : BitVec 32 := Scalar.select (Scalar.cmpi CmpIPredicate.eq 2#32 0#32) 1#32 2#32

/-- Whether a lane lies in the first half of its 64-lane rotary block, as the kernel computes it on words. -/
def laneBit (w : BitVec 32) : BitVec 1 :=
  IntOp.cmpi CmpIPredicate.eq
    (Scalar.select
      (IntOp.andi
        (IntOp.xori (IntOp.cmpi CmpIPredicate.slt (IntOp.remsi ArithUnit.vector (laneQ w) two) 0#32) (Scalar.cmpi CmpIPredicate.slt two 0#32))
        (IntOp.cmpi CmpIPredicate.ne (IntOp.remsi ArithUnit.vector (laneQ w) two) 0#32))
      (IntOp.addi (IntOp.remsi ArithUnit.vector (laneQ w) two) two)
      (IntOp.remsi ArithUnit.vector (laneQ w) two))
    0#32

/-- It is the bit of `lane / 32` even. -/
theorem laneBit_eq : ∀ d : Fin 128, laneBit (BitVec.ofNat 32 d) = if d.val / 32 % 2 < 1 then 1#1 else 0#1 := by
  decide +kernel

/-- The exponentials of one query row's scores less their maximum. -/
theorem pay8_at (k : FVec Ideal S4096x128 .bf16) (c s q : FVec Ideal S256x128 .f32) (r : Fin 256) (j : Fin 4096) :
    k0_pay8 (F := Ideal) k c s q (iota .tc S256x128 32 [1] iota_S256x128_d1_w32) 32#32 k0_pay6 k0_pay7 0#32 (ix2 r j)
      = Ideal.exp (Num.score (fun d => q (ix2 r d)) (fun d => c (ix2 r d)) (fun d => s (ix2 r d)) (fun j d => k (ix2 j d)) j
          - Finset.univ.fold max ⊥ (Num.score (fun d => q (ix2 r d)) (fun d => c (ix2 r d)) (fun d => s (ix2 r d)) (fun j d => k (ix2 j d)))) := by
  have hs : ∀ j, Num.score (fun d => q (ix2 r d)) (fun d => c (ix2 r d)) (fun d => s (ix2 r d)) (fun j d => k (ix2 j d)) j
      = ∑ x : Fin 128, (q (ix2 r x) * c (ix2 r x) + Scalar.select (laneBit (BitVec.ofNat 32 x)) (q (ix2 r ⟨(x.val + 128 - 96) % 128, Nat.mod_lt _ (by decide)⟩)) (q (ix2 r ⟨(x.val + 128 - 32) % 128, Nat.mod_lt _ (by decide)⟩)) * s (ix2 r x)) * k (ix2 j x) := by
    intro j
    unfold Num.score Num.rot
    refine Finset.sum_congr rfl fun x _ => ?_
    rw [laneBit_eq x]
    by_cases h : x.val / 32 % 2 < 1 <;> simp only [h, if_true, if_false, Scalar.select] <;> rfl
  have hf : (Num.score (fun d => q (ix2 r d)) (fun d => c (ix2 r d)) (fun d => s (ix2 r d)) (fun j d => k (ix2 j d))) = _ := funext hs
  rw [hf]
  pointwise [k0_pay8, k0_pay6, k0_pay7]
  rfl

/-- The normalised query of one head. -/
theorem pay5_at (y : FVec Ideal S1x256x128 .bf16) (g : FVec Ideal S1x128 .f32) (r : Fin 256) (d : Fin 128) :
    k0_pay5 (F := Ideal) y g (ix2 r d) =  y (ix3 0 r d) *
        Ideal.rsqrt
          (Ideal.div (∑ x, y (ix3 0 r x) * y (ix3 0 r x)) (Ideal.ofBits FTy.f32 1124073472#32) +
            Ideal.ofBits FTy.f32 897988541#32) *
      g (ix2 0 d) := by
  pointwise [k0_pay5]

/-- The weighted values over the weights' sum. -/
theorem pay9_at (v : FVec Ideal S4096x128 .bf16) (p : FVec Ideal S256x4096 .f32) (r : Fin 256) (d : Fin 128) :
    k0_pay9 (F := Ideal) v p (ix3 0 r d) = Ideal.div (∑ x, p (ix2 r x) * v (ix2 x d)) (∑ x, p (ix2 r x)) := by
  pointwise [k0_pay9]

/-- One head's tile: from its query tile, the keys, the values, the gain and the two tables. -/
def headT (y : FVec Ideal S1x256x128 .bf16) (k v : FVec Ideal S1x4096x128 .bf16) (g : FVec Ideal S1x128 .f32) (c s : FVec Ideal S256x128 .f32) : FVec Ideal S1x256x128 .bf16 :=
  k0_pay9 (F := Ideal) (k0_pay2 v) (k0_pay8 (k0_pay1 k) (k0_pay3 c) (k0_pay4 s) (k0_pay5 y g) (iota .tc S256x128 32 [1] iota_S256x128_d1_w32) 32#32 k0_pay6 k0_pay7 0#32)

/-- A head's tile at an index. -/
theorem headT_at (y : FVec Ideal S1x256x128 .bf16) (k v : FVec Ideal S1x4096x128 .bf16) (g : FVec Ideal S1x128 .f32) (c s : FVec Ideal S256x128 .f32) (r : Fin 256) (d : Fin 128) :
    headT y k v g c s (ix3 0 r d) = Num.kout (fun d => y (ix3 0 r d)) (fun d => g (ix2 0 d)) (fun d => c (ix2 r d)) (fun d => s (ix2 r d)) (fun t d => k (ix3 0 t d)) (fun t => v (ix3 0 t d)) := by
  have hk : ∀ j d, k0_pay1 (F := Ideal) k (ix2 j d) = k (ix3 0 j d) := fun j d => by pointwise [k0_pay1]
  have hv : ∀ j d, k0_pay2 (F := Ideal) v (ix2 j d) = v (ix3 0 j d) := fun j d => by pointwise [k0_pay2]
  have hc : k0_pay3 (F := Ideal) c = c := by funext i; idx_vars i; pointwise [k0_pay3]
  have hs : k0_pay4 (F := Ideal) s = s := by funext i; idx_vars i; pointwise [k0_pay4]
  have hq : (fun d => k0_pay5 (F := Ideal) y g (ix2 r d)) = fun d => Num.nrm (fun d => y (ix3 0 r d)) d * g (ix2 0 d) := funext fun d => pay5_at y g r d
  have h8 := pay8_at (k0_pay1 k) (k0_pay3 c) (k0_pay4 s) (k0_pay5 y g) r
  rw [hq, hc, hs] at h8
  simp only [hk] at h8
  unfold headT
  rw [pay9_at, hc, hs]
  unfold Num.kout Num.kexp
  refine congrArg₂ Ideal.div (Finset.sum_congr rfl fun t _ => ?_) (Finset.sum_congr rfl fun t _ => h8 t)
  rw [h8 t, hv]

/-- The three other heads' tiles are the same function of their query tiles. -/
theorem head1 (y : FVec Ideal S1x256x128 .bf16) (k v : FVec Ideal S1x4096x128 .bf16) (g : FVec Ideal S1x128 .f32) (c s : FVec Ideal S256x128 .f32) :
    k0_pay16 (k0_pay2 v) (k0_pay14 (k0_pay1 k) (k0_pay3 c) (k0_pay4 s) (k0_pay10 y g) (iota .tc S256x128 32 [1] iota_S256x128_d1_w32) 32#32 k0_pay11 k0_pay12 (Scalar.extui (Scalar.cmpi .sgt 32#32 0#32)) (Scalar.extui (Scalar.cmpi .slt 32#32 0#32)))
      (k0_pay15 (k0_pay1 k) (k0_pay3 c) (k0_pay4 s) (k0_pay10 y g) (iota .tc S256x128 32 [1] iota_S256x128_d1_w32) 32#32 k0_pay11 k0_pay12 (Scalar.extui (Scalar.cmpi .sgt 32#32 0#32)) (Scalar.extui (Scalar.cmpi .slt 32#32 0#32))) (constant S256x128 .f32 0x00000000#32) = headT y k v g c s := rfl
theorem head2 (y : FVec Ideal S1x256x128 .bf16) (k v : FVec Ideal S1x4096x128 .bf16) (g : FVec Ideal S1x128 .f32) (c s : FVec Ideal S256x128 .f32) :
    k0_pay22 (k0_pay21 (k0_pay1 k) (k0_pay2 v) (k0_pay3 c) (k0_pay4 s) (k0_pay17 y g) k0_pay18 k0_pay19 k0_pay20) = headT y k v g c s := rfl
theorem head3 (y : FVec Ideal S1x256x128 .bf16) (k v : FVec Ideal S1x4096x128 .bf16) (g : FVec Ideal S1x128 .f32) (c s : FVec Ideal S256x128 .f32) :
    k0_pay26 (k0_pay1 k) (k0_pay2 v) (k0_pay3 c) (k0_pay4 s) (k0_pay23 y g) k0_pay24 k0_pay25 1#32 = headT y k v g c s := rfl

variable (m : (ℓ : Loc nD τ sig) → Buf (Elt Ideal) ℓ)

/-- The row number the kernel's tables compute on words (a floor division by 64). -/
def rowW (w : BitVec 32) : BitVec 32 :=
  Scalar.select
    (IntOp.andi
      (IntOp.cmpi CmpIPredicate.ne
        (if w = 0 then 0 else if w.msb = true then -1 else 1)
        (if 64#32 = 0 then (0 : BitVec 32) else if (64#32).msb = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

/-- The column number the kernel's tables compute on words (a floor remainder by 64). -/
def colW (w : BitVec 32) : BitVec 32 :=
  Scalar.select
    (IntOp.andi
      (IntOp.cmpi CmpIPredicate.ne
        (IntOp.cmpi CmpIPredicate.slt
          (IntOp.remsi ArithUnit.host w
            (Scalar.select (IntOp.cmpi CmpIPredicate.eq 64#32 0#32) 1#32 64#32))
          0#32)
        (IntOp.cmpi CmpIPredicate.slt (Scalar.select (IntOp.cmpi CmpIPredicate.eq 64#32 0#32) 1#32 64#32)
          0#32))
      (IntOp.cmpi CmpIPredicate.ne
        (IntOp.remsi ArithUnit.host w
          (Scalar.select (IntOp.cmpi CmpIPredicate.eq 64#32 0#32) 1#32 64#32))
        0#32))
    (IntOp.addi
      (IntOp.remsi ArithUnit.host w
        (Scalar.select (IntOp.cmpi CmpIPredicate.eq 64#32 0#32) 1#32 64#32))
      (Scalar.select (IntOp.cmpi CmpIPredicate.eq 64#32 0#32) 1#32 64#32))
    (IntOp.remsi ArithUnit.host w
      (Scalar.select (IntOp.cmpi CmpIPredicate.eq 64#32 0#32) 1#32 64#32))

theorem rowW_eq : ∀ s : Fin 4096, rowW (BitVec.ofNat 32 s) = BitVec.ofNat 32 (s.val / 64) := by decide +kernel
theorem colW_eq : ∀ s : Fin 4096, colW (BitVec.ofNat 32 s) = BitVec.ofNat 32 (s.val % 64) := by decide +kernel

/-- The cosine table the kernel is given. -/
theorem cos_at (c : Dev nD) (s : Fin 4096) (d : Fin 128) :
    (show EReal from V m c main_v31 (ix2 s d)) = Ideal.cos (Num.ang s (d.val / 64) (d.val % 32)) := by
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise []
  have h2 := colW_eq s
  unfold colW at h2
  simp only [h2]
  unfold Num.ang Num.freq
  by_cases h : d.val / 64 < 1 <;> simp only [h, dite_true, dite_false, if_true, if_false, ite_self, dite_eq_ite]
  rw [← rowW_eq s]
  rfl

/-- The sine table the kernel is given: negated in the first half of every 64-lane block. -/
theorem sin_at (c : Dev nD) (s : Fin 4096) (d : Fin 128) :
    (show EReal from V m c main_v36 (ix2 s d))
      = if d.val / 32 % 2 < 1 then -Ideal.sin (Num.ang s (d.val / 64) (d.val % 32)) else Ideal.sin (Num.ang s (d.val / 64) (d.val % 32)) := by
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise []
  have h2 := colW_eq s
  unfold colW at h2
  simp only [h2]
  unfold Num.ang Num.freq
  by_cases h : d.val / 64 < 1 <;> simp only [h, dite_true, dite_false, if_true, if_false, ite_self, dite_eq_ite]
  rw [← rowW_eq s]
  rfl

/-- The gain the kernel is given: the query norm's gain times the softmax scale. -/
theorem gain_at (c : Dev nD) (d : Fin 128) :
    (show EReal from V m c main_v3 (ix2 0 d))
      = (show FVec Ideal S1x128 .f32 from m ((c : Thread nD τ).loc main_arg2)) (ix2 0 d) * Ideal.ofBits FTy.f32 1035273459#32 := by
  unfold V
  simp only [hostOps0, hostOps0_1, hostOps0_2, hostOps0_3, hostOps0_4, List.flatten_cons, List.flatten_nil, List.append_nil, List.cons_append, List.nil_append]
  entry_read
  pointwise []

end Cert.Attn
end
-- ==== Proof.RefAttn.lean ====
module

public import proofs.«01_k».proof.Proof.Gen.ReferenceIdeal.Read
public import Idealize.ShloMosaic.Lib.Pointwise
public import proofs.«01_k».proof.Proof.Math

@[expose] public section

set_option maxRecDepth 16384

noncomputable section

namespace Cert.Attn.Ref

open Idealize.ShloMosaic Idealize.ShloMosaic.TcCoe Idealize.SL.Sem
open Cert.ReferenceIdeal Cert.ReferenceIdeal.Read

/-- The reference's rotary cosine and sine. -/
theorem v48_at (s : Fin 4096) (p : Fin 2) (e : Fin 32) :
    val_main_v48 (F := Ideal) (ix3 s p e) = Ideal.cos (Num.ang s p e) := by
  pointwise [val_main_v48, val_main_v47, val_main_v46, val_main_v45, val_main_v44, val_main_v43, val_main_v42, val_main_v41, val_main_v40, val_main_v39, val_main_v28, val_main_v27, val_main_v26, val_main_v25, val_main_v24, val_main_v23, val_main_v22, val_main_v38, val_main_v37, val_main_cst_5, val_main_v36, val_main_v35, val_main_cst_4, val_main_v34, val_main_v33, val_main_v32, val_main_cst_3, val_main_v31, val_main_v30, val_main_cst_2, val_main_v29, dite_eq_ite]
  rfl

theorem v49_at (s : Fin 4096) (p : Fin 2) (e : Fin 32) :
    val_main_v49 (F := Ideal) (ix3 s p e) = Ideal.sin (Num.ang s p e) := by
  pointwise [val_main_v49, val_main_v47, val_main_v46, val_main_v45, val_main_v44, val_main_v43, val_main_v42, val_main_v41, val_main_v40, val_main_v39, val_main_v28, val_main_v27, val_main_v26, val_main_v25, val_main_v24, val_main_v23, val_main_v22, val_main_v38, val_main_v37, val_main_cst_5, val_main_v36, val_main_v35, val_main_cst_4, val_main_v34, val_main_v33, val_main_v32, val_main_cst_3, val_main_v31, val_main_v30, val_main_cst_2, val_main_v29, dite_eq_ite]
  rfl

/-- The rotated, normalised query row of head `h` at position `s`. -/
theorem v70_at (x0 : FVec Ideal S16384x5120 .bf16) (x2 : FVec Ideal S1x128 .f32) (b : Fin 4) (s : Fin 4096) (h : Fin 16) (d : Fin 128) :
    val_main_v70 (F := Ideal) x0 x2 (ix4 b s h d)
      = Num.rrot (Num.nrm fun d => x0 (ix2 ⟨b.val * 4096 + s.val, by omega⟩ ⟨2048 + (h.val * 128 + d.val), by omega⟩)) (fun d => x2 (ix2 0 d)) s d := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, v48_at, v49_at,
    val_main_v21, val_main_v20, val_main_v19, val_main_v18, val_main_v17, val_main_v16, val_main_v15, val_main_v14, val_main_cst_1, val_main_v13, val_main_v12, val_main_cst_0, val_main_v11, val_main_v10, val_main_cst, val_main_v9, val_main_v8, val_main_v3, val_main_v2, val_main_v1, val_main_v0, dite_eq_ite]
  rfl

/-- One score of the reference: a key against a rotated query row, scaled. -/
theorem v75_at (x0 : FVec Ideal S16384x5120 .bf16) (x1 : FVec Ideal S16384x512 .bf16) (x2 : FVec Ideal S1x128 .f32) (b : Fin 4) (kv g : Fin 4) (s t : Fin 4096) :
    val_main_v75 (F := Ideal) x0 x1 x2 (ix5 b kv g s t)
      = Num.rscore (Num.nrm fun d => x0 (ix2 ⟨b.val * 4096 + s.val, by omega⟩ ⟨2048 + ((kv.val * 4 + g.val) * 128 + d.val), by omega⟩)) (fun d => x2 (ix2 0 d)) s
          (fun t d => x1 (ix2 ⟨b.val * 4096 + t.val, by omega⟩ ⟨kv.val * 128 + d.val, by omega⟩)) t := by
  pointwise [val_main_v75, val_main_v74, val_main_cst_6, val_main_v73, val_main_v72, val_main_v71, val_main_v7, val_main_v6, v70_at]
  rfl

/-- The reduction of a row of scores by the maximum. -/
theorem v76_at (x0 : FVec Ideal S16384x5120 .bf16) (x1 : FVec Ideal S16384x512 .bf16) (x2 : FVec Ideal S1x128 .f32) (b : Fin 4) (kv g : Fin 4) (s : Fin 4096) :
    val_main_v76 (F := Ideal) x0 x1 x2 (ix4 b kv g s) = Finset.univ.fold max (Ideal.ofBits FTy.f32 4286578688#32) (fun t => val_main_v75 (F := Ideal) x0 x1 x2 (ix5 b kv g s t)) := by
  pointwise [val_main_v76, val_main_cst_7]

theorem v78_at (x0 : FVec Ideal S16384x5120 .bf16) (x1 : FVec Ideal S16384x512 .bf16) (x2 : FVec Ideal S1x128 .f32) (b : Fin 4) (kv g : Fin 4) (s : Fin 4096) :
    val_main_v78 (F := Ideal) x0 x1 x2 (ix4 b kv g s) = max (Ideal.ofBits FTy.f32 4286578688#32) (val_main_v76 (F := Ideal) x0 x1 x2 (ix4 b kv g s)) := by
  rw [val_main_v78_apply, val_main_v77_apply, val_main_cst_8_apply]; rfl

theorem v80_at (x0 : FVec Ideal S16384x5120 .bf16) (x1 : FVec Ideal S16384x512 .bf16) (x2 : FVec Ideal S1x128 .f32) (b : Fin 4) (kv g : Fin 4) (s t : Fin 4096) :
    val_main_v80 (F := Ideal) x0 x1 x2 (ix5 b kv g s t) = val_main_v78 (F := Ideal) x0 x1 x2 (ix4 b kv g s) := by
  pointwise [val_main_v80, val_main_v79]

/-- The exponential of a score less its row's maximum. -/
theorem v82_at (x0 : FVec Ideal S16384x5120 .bf16) (x1 : FVec Ideal S16384x512 .bf16) (x2 : FVec Ideal S1x128 .f32) (b : Fin 4) (kv g : Fin 4) (s t : Fin 4096) :
    val_main_v82 (F := Ideal) x0 x1 x2 (ix5 b kv g s t)
      = Num.rexp (Num.nrm fun d => x0 (ix2 ⟨b.val * 4096 + s.val, by omega⟩ ⟨2048 + ((kv.val * 4 + g.val) * 128 + d.val), by omega⟩)) (fun d => x2 (ix2 0 d)) s
          (fun t d => x1 (ix2 ⟨b.val * 4096 + t.val, by omega⟩ ⟨kv.val * 128 + d.val, by omega⟩)) t := by
  have h : val_main_v82 (F := Ideal) x0 x1 x2 (ix5 b kv g s t) = Ideal.exp (val_main_v75 (F := Ideal) x0 x1 x2 (ix5 b kv g s t) - val_main_v80 (F := Ideal) x0 x1 x2 (ix5 b kv g s t)) := by
    pointwise [val_main_v82, val_main_v81]
  rw [h, v80_at, v78_at, v76_at, v75_at]
  unfold Num.rexp
  simp only [v75_at]

/-- The softmax weight. -/
theorem v86_at (x0 : FVec Ideal S16384x5120 .bf16) (x1 : FVec Ideal S16384x512 .bf16) (x2 : FVec Ideal S1x128 .f32) (b : Fin 4) (kv g : Fin 4) (s t : Fin 4096) :
    val_main_v86 (F := Ideal) x0 x1 x2 (ix5 b kv g s t)
      = Num.rweight (Num.nrm fun d => x0 (ix2 ⟨b.val * 4096 + s.val, by omega⟩ ⟨2048 + ((kv.val * 4 + g.val) * 128 + d.val), by omega⟩)) (fun d => x2 (ix2 0 d)) s
          (fun t d => x1 (ix2 ⟨b.val * 4096 + t.val, by omega⟩ ⟨kv.val * 128 + d.val, by omega⟩)) t := by
  pointwise [val_main_v86, val_main_v85, val_main_v84, val_main_v83, val_main_cst_9, v82_at]
  rfl

/-- The value row a key position contributes. -/
theorem v5_at (x0 : FVec Ideal S16384x5120 .bf16) (b kv : Fin 4) (t : Fin 4096) (d : Fin 128) :
    val_main_v5 (F := Ideal) x0 (ix4 b t kv d) = x0 (ix2 ⟨b.val * 4096 + t.val, by omega⟩ ⟨4608 + (kv.val * 128 + d.val), by omega⟩) := by
  pointwise [val_main_v5, val_main_v4, val_main_v1, val_main_v0]

/-- The reference's result at an index: the softmax-weighted values of its head. -/
theorem v90_at (x0 : FVec Ideal S16384x5120 .bf16) (x1 : FVec Ideal S16384x512 .bf16) (x2 : FVec Ideal S1x128 .f32) (b : Fin 4) (s : Fin 4096) (l : Fin 2048) :
    val_main_v90 (F := Ideal) x0 x1 x2 (ix3 b s l) = ∑ t : Fin 4096, val_main_v5 (F := Ideal) x0 (ix4 b t ⟨l.val / 512, by omega⟩ ⟨l.val % 128, by omega⟩)
      * val_main_v86 (F := Ideal) x0 x1 x2 (ix5 b ⟨l.val / 512, by omega⟩ ⟨l.val / 128 % 4, by omega⟩ s t) := by
  pointwise [val_main_v90, val_main_v89, val_main_v88, val_main_v87]

end Cert.Attn.Ref
end
-- ==== Proof.Final.lean ====
module

public import proofs.«01_k».proof.Proof.Head
public import proofs.«01_k».proof.Proof.RefAttn

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ)

theorem idx : ∀ t : Fin cfg0.N, win0_0.index t = ![t.val / 64, t.val % 16, 4 + t.val / 16 % 4] ∧ win0_1.index t = ![t.val / 64, 0, t.val / 16 % 4]
    ∧ win0_2.index t = ![t.val / 64, 0, 36 + t.val / 16 % 4] ∧ win0_3.index t = ![0, 0] ∧ win0_4.index t = ![t.val % 16, 0] ∧ win0_5.index t = ![t.val % 16, 0]
    ∧ win0_6.index t = ![t.val / 64, t.val % 16, t.val / 16 % 4] := (by decide +kernel : ∀ t : Fin grid0.N, _)

/-- A head's tile, placed in its 128 lanes of the block. -/
theorem tile (x0 : FVec Ideal S1x256x512 .bf16) (x1 x2 : FVec Ideal S1x4096x128 .bf16) (x3 : FVec Ideal S1x128 .f32) (x4 x5 : FVec Ideal S256x128 .f32)
    (r : Fin 256) (l : Fin 512) (o : ℕ) (ho : o < 4) (Y T : FVec Ideal S1x256x128 .bf16) (hT : T = headT Y x1 x2 x3 x4 x5)
    (hY : ∀ (r : Fin 256) (d : Fin 128), Y (ix3 0 r d) = x0 (ix3 0 r ⟨o * 128 + d.val, by omega⟩))
    (j : S1x256x128.Idx) (h1 : r.val = (j 1).val) (h2 : l.val = o * 128 + (j 2).val) :
    T j = Num.kout (fun d => x0 (ix3 0 r ⟨l.val / 128 * 128 + d.val, by omega⟩)) (fun d => x3 (ix2 0 d)) (fun d => x4 (ix2 r d)) (fun d => x5 (ix2 r d))
          (fun t d => x1 (ix3 0 t d)) (fun t => x2 (ix3 0 t ⟨l.val % 128, Nat.mod_lt _ (by decide)⟩)) := by
  idx_vars j
  have ha : j0 = 0 := Subsingleton.elim _ _
  have hb : j1 = r := Fin.ext h1.symm
  have h2' : l.val = o * 128 + j2.val := h2
  have hd : (⟨l.val % 128, Nat.mod_lt _ (by decide)⟩ : Fin 128) = j2 := Fin.ext (by dsimp only; omega)
  have ho' : l.val / 128 = o := by omega
  subst ha hb hT
  rw [headT_at, hd]
  simp only [hY, ho']

/-- One point's result block: each of its four 128-lane column tiles is a head's tile. -/
theorem out_at (x0 : FVec Ideal S1x256x512 .bf16) (x1 x2 : FVec Ideal S1x4096x128 .bf16) (x3 : FVec Ideal S1x128 .f32) (x4 x5 : FVec Ideal S256x128 .f32) (y : S1x256x512.Idx) (r : Fin 256) (l : Fin 512) (hr : r = y 1) (hl : l = y 2) :
    out0_6 (F := Ideal) x0 x1 x2 x3 x4 x5 y
      = Num.kout (fun d => x0 (ix3 0 r ⟨l.val / 128 * 128 + d.val, by omega⟩)) (fun d => x3 (ix2 0 d)) (fun d => x4 (ix2 r d)) (fun d => x5 (ix2 r d))
          (fun t d => x1 (ix3 0 t d)) (fun t => x2 (ix3 0 t ⟨l.val % 128, Nat.mod_lt _ (by decide)⟩)) := by
  have hr' : r.val = (y 1).val := congrArg Fin.val hr
  have hl' : l.val = (y 2).val := congrArg Fin.val hl
  unfold_out out0_6
  frame_out
  canon_tiles x h
  case piece0 => exact tile x0 x1 x2 x3 x4 x5 r l 3 (by decide) _ _ (head3 _ _ _ _ _ _) (fun r d => by pointwise; blk_ext) x (hr'.trans h1) (hl'.trans h2)
  case piece1 => exact tile x0 x1 x2 x3 x4 x5 r l 2 (by decide) _ _ (head2 _ _ _ _ _ _) (fun r d => by pointwise; blk_ext) x (hr'.trans h1) (hl'.trans h2)
  case piece2 => exact tile x0 x1 x2 x3 x4 x5 r l 1 (by decide) _ _ (head1 _ _ _ _ _ _) (fun r d => by pointwise; blk_ext) x (hr'.trans h1) (hl'.trans h2)
  case piece3 => exact tile x0 x1 x2 x3 x4 x5 r l 0 (by decide) _ _ rfl (fun r d => by pointwise; blk_ext) x (hr'.trans h1) (hl'.trans (h2.trans (by omega)))

/-- The kernel's operand arrays, read at an index of the arguments. -/
theorem v38_at (c : Dev nD) (b : Fin 4) (s : Fin 4096) (l : Fin 5120) :
    (show EReal from V m c main_v38 (ix3 b s l)) = (show FVec Ideal S16384x5120 .bf16 from m ((c : Thread nD τ).loc main_arg0)) (ix2 ⟨b.val * 4096 + s.val, by omega⟩ l) := by
  unfold V
  simp only [hostOps0, hostOps0_1, hostOps0_2, hostOps0_3, hostOps0_4, List.flatten_cons, List.flatten_nil, List.append_nil, List.cons_append, List.nil_append]
  entry_read
  pointwise []

theorem v37_at (c : Dev nD) (b : Fin 4) (s : Fin 4096) (l : Fin 512) :
    (show EReal from V m c main_v37 (ix3 b s l)) = (show FVec Ideal S16384x512 .bf16 from m ((c : Thread nD τ).loc main_arg1)) (ix2 ⟨b.val * 4096 + s.val, by omega⟩ l) := by
  unfold V
  simp only [hostOps0, hostOps0_1, hostOps0_2, hostOps0_3, hostOps0_4, List.flatten_cons, List.flatten_nil, List.append_nil, List.cons_append, List.nil_append]
  entry_read
  pointwise []

theorem ib0 (c : Dev nD) (t : Fin cfg0.N) (ht : t.val < 256) (r : Fin 256) (l : Fin 512) :
    (show FVec Ideal S1x256x512 .bf16 from iblk m c 0 t) (ix3 0 r l)
      = (show FVec Ideal S16384x5120 .bf16 from m ((c : Thread nD τ).loc main_arg0)) (ix2 ⟨t.val / 64 * 4096 + (t.val % 16 * 256 + r.val), by omega⟩ ⟨(4 + t.val / 16 % 4) * 512 + l.val, by omega⟩) := by
  refine Eq.trans ?_ (v38_at m c ⟨t.val / 64, by omega⟩ ⟨t.val % 16 * 256 + r.val, by omega⟩ ⟨(4 + t.val / 16 % 4) * 512 + l.val, by omega⟩)
  blk_ext [iblk, idx t]

theorem ib1 (c : Dev nD) (t : Fin cfg0.N) (ht : t.val < 256) (s : Fin 4096) (d : Fin 128) :
    (show FVec Ideal S1x4096x128 .bf16 from iblk m c 1 t) (ix3 0 s d)
      = (show FVec Ideal S16384x512 .bf16 from m ((c : Thread nD τ).loc main_arg1)) (ix2 ⟨t.val / 64 * 4096 + s.val, by omega⟩ ⟨t.val / 16 % 4 * 128 + d.val, by omega⟩) := by
  refine Eq.trans ?_ (v37_at m c ⟨t.val / 64, by omega⟩ s ⟨t.val / 16 % 4 * 128 + d.val, by omega⟩)
  blk_ext [iblk, idx t]

theorem ib2 (c : Dev nD) (t : Fin cfg0.N) (ht : t.val < 256) (s : Fin 4096) (d : Fin 128) :
    (show FVec Ideal S1x4096x128 .bf16 from iblk m c 2 t) (ix3 0 s d)
      = (show FVec Ideal S16384x5120 .bf16 from m ((c : Thread nD τ).loc main_arg0)) (ix2 ⟨t.val / 64 * 4096 + s.val, by omega⟩ ⟨(36 + t.val / 16 % 4) * 128 + d.val, by omega⟩) := by
  refine Eq.trans ?_ (v38_at m c ⟨t.val / 64, by omega⟩ s ⟨(36 + t.val / 16 % 4) * 128 + d.val, by omega⟩)
  blk_ext [iblk, idx t]

theorem ib3 (c : Dev nD) (t : Fin cfg0.N) (d : Fin 128) :
    (show FVec Ideal S1x128 .f32 from iblk m c 3 t) (ix2 0 d)
      = (show FVec Ideal S1x128 .f32 from m ((c : Thread nD τ).loc main_arg2)) (ix2 0 d) * Ideal.ofBits FTy.f32 1035273459#32 := by
  refine Eq.trans ?_ (gain_at m c d)
  blk_ext [iblk, idx t]

theorem ib4 (c : Dev nD) (t : Fin cfg0.N) (r : Fin 256) (d : Fin 128) :
    (show FVec Ideal S256x128 .f32 from iblk m c 4 t) (ix2 r d) = Ideal.cos (Num.ang (t.val % 16 * 256 + r.val) (d.val / 64) (d.val % 32)) := by
  refine Eq.trans ?_ (cos_at m c ⟨t.val % 16 * 256 + r.val, by omega⟩ d)
  blk_ext [iblk, idx t]

theorem ib5 (c : Dev nD) (t : Fin cfg0.N) (r : Fin 256) (d : Fin 128) :
    (show FVec Ideal S256x128 .f32 from iblk m c 5 t) (ix2 r d)
      = if d.val / 32 % 2 < 1 then -Ideal.sin (Num.ang (t.val % 16 * 256 + r.val) (d.val / 64) (d.val % 32)) else Ideal.sin (Num.ang (t.val % 16 * 256 + r.val) (d.val / 64) (d.val % 32)) := by
  refine Eq.trans ?_ (sin_at m c ⟨t.val % 16 * 256 + r.val, by omega⟩ d)
  blk_ext [iblk, idx t]

/-- The reference's attention over the kernel's argument arrays. -/
abbrev REF (x0 : FVec Ideal S16384x5120 .bf16) (x1 : FVec Ideal S16384x512 .bf16) (x2 : FVec Ideal S1x128 .f32) : FVec Ideal S4x4096x2048 .bf16 :=
  Cert.ReferenceIdeal.Read.val_main_v90 (F := Ideal) x0 x1 x2

/-- The reference at an index, in the words of the row arithmetic. -/
theorem ref_at (x0 : FVec Ideal S16384x5120 .bf16) (x1 : FVec Ideal S16384x512 .bf16) (x2 : FVec Ideal S1x128 .f32) (b : Fin 4) (s : Fin 4096) (l : Fin 2048) :
    REF x0 x1 x2 (ix3 b s l) = ∑ t : Fin 4096, x0 (ix2 ⟨b.val * 4096 + t.val, by omega⟩ ⟨4608 + (l.val / 512 * 128 + l.val % 128), by omega⟩)
      * Num.rweight (Num.nrm fun d => x0 (ix2 ⟨b.val * 4096 + s.val, by omega⟩ ⟨2048 + ((l.val / 512 * 4 + l.val / 128 % 4) * 128 + d.val), by omega⟩)) (fun d => x2 (ix2 0 d)) s
          (fun t d => x1 (ix2 ⟨b.val * 4096 + t.val, by omega⟩ ⟨l.val / 512 * 128 + d.val, by omega⟩)) t := by
  refine (Ref.v90_at x0 x1 x2 b s l).trans (Finset.sum_congr rfl fun t _ => ?_)
  exact congrArg₂ (· * ·) (Ref.v5_at x0 b _ t _) (Ref.v86_at x0 x1 x2 b _ _ s t)

theorem kout_congr {x x' g g' cs cs' sn sn' : Fin 128 → EReal} {k k' : Fin 4096 → Fin 128 → EReal} {v v' : Fin 4096 → EReal}
    (h0 : ∀ d, x d = x' d) (h1 : ∀ d, g d = g' d) (h2 : ∀ d, cs d = cs' d) (h3 : ∀ d, sn d = sn' d) (h4 : ∀ s d, k s d = k' s d) (h5 : ∀ s, v s = v' s) :
    Num.kout x g cs sn k v = Num.kout x' g' cs' sn' k' v' := by
  rw [funext h0, funext h1, funext h2, funext h3, funext fun s => funext (h4 s), funext h5]

/-- The kernel's result array is the reference's attention, for finite keys and gain. -/
theorem final (c : Dev nD)
    (hk : ∀ i, ∃ r : ℝ, (show FVec Ideal S16384x512 .bf16 from m ((c : Thread nD τ).loc main_arg1)) i = (r : EReal))
    (hg : ∀ i, ∃ r : ℝ, (show FVec Ideal S1x128 .f32 from m ((c : Thread nD τ).loc main_arg2)) i = (r : EReal)) :
    (dats m 0 c).arrAt 6 cfg0.N = REF (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have ht : t.val < 256 := lt_of_lt_of_eq t.isLt N_0
  have hy1 : (y 1).val < 256 := (y 1).isLt
  have hy2 : (y 2).val < 512 := (y 2).isLt
  refine (out_at _ _ _ _ _ _ y (y 1) (y 2) rfl rfl).trans ?_
  refine (kout_congr (fun d => ib0 m c t ht (y 1) _) (fun d => ib3 m c t d) (fun d => ib4 m c t (y 1) d) (fun d => ib5 m c t (y 1) d)
    (fun s d => ib1 m c t ht s d) (fun s => ib2 m c t ht s _)).trans ?_
  refine (Num.attn_eq _ (fun d => (show FVec Ideal S1x128 .f32 from m ((c : Thread nD τ).loc main_arg2)) (ix2 0 d)) _ _ _ (fun d => hg _) (fun s d => hk _)).trans ?_
  have e := ref_at (m ((c : Thread nD τ).loc main_arg0)) (m ((c : Thread nD τ).loc main_arg1)) (m ((c : Thread nD τ).loc main_arg2))
    ⟨t.val / 64, by omega⟩ ⟨t.val % 16 * 256 + (y 1).val, by omega⟩ ⟨t.val / 16 % 4 * 512 + (y 2).val, by omega⟩
  generalize REF (m ((c : Thread nD τ).loc main_arg0)) (m ((c : Thread nD τ).loc main_arg1)) (m ((c : Thread nD τ).loc main_arg2)) = A at e ⊢
  refine Eq.trans ?_ (e.symm.trans ?_)
  · dsimp only
    have e1 : (t.val / 16 % 4 * 512 + (y 2).val) / 512 = t.val / 16 % 4 := by omega
    have e2 : (t.val / 16 % 4 * 512 + (y 2).val) % 128 = (y 2).val % 128 := by omega
    have e3 : (t.val / 16 % 4 * 512 + (y 2).val) / 128 % 4 = (y 2).val / 128 := by omega
    simp only [e1, e2, e3]
    have f : ∀ d : Fin 128, 2048 + ((t.val / 16 % 4 * 4 + (y 2).val / 128) * 128 + d.val) = (4 + t.val / 16 % 4) * 512 + ((y 2).val / 128 * 128 + d.val) := fun d => by omega
    have g : 4608 + (t.val / 16 % 4 * 128 + (y 2).val % 128) = (36 + t.val / 16 % 4) * 128 + (y 2).val % 128 := by omega
    simp only [f, g]
  · blk_ext [idx t]

end Cert.Attn
end
-- ==== Proof.Attention.lean ====
/- The attention claim: the two programs' runs, and the precondition read as finite keys and a finite query-norm gain. -/
module

public import proofs.«01_k».proof.Defs
public import proofs.«01_k».proof.Proof.Final
public import proofs.«01_k».proof.Proof.Gen.Kernel.Frame
public import proofs.«01_k».proof.Proof.Gen.KernelIdeal.Value
public import proofs.«01_k».proof.Pre_finite_keys
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Attn

open Idealize.ShloMosaic Idealize.SL.Sem

/-- The side conditions of the precondition's own operations. -/
theorem preFacts : Cert.Pre_finite_keys.Facts := ⟨by decide, by decide, by decide⟩

instance : Cert.Pre_finite_keys.Facts := preFacts

/-- A magnitude compared below infinity says the number is a real one. -/
theorem real_of_cmp (x : EReal) (h : Ideal.cmp .olt (max x (-x)) (Ideal.ofBits FTy.f32 0x7F800000#32) = 1#1) : ∃ r : ℝ, x = (r : EReal) := by
  have hi : Ideal.ofBits FTy.f32 0x7F800000#32 = ⊤ := by
    simp [Ideal.ofBits, Ideal.ieee]
  rw [hi] at h
  induction x using EReal.rec with
  | bot => simp [Ideal.cmp] at h
  | coe r => exact ⟨r, rfl⟩
  | top => simp [Ideal.cmp] at h

theorem keys_finite (m : (ℓ : Loc KernelIdeal.nD KernelIdeal.τ KernelIdeal.sig) → Buf (Elt Ideal) ℓ) (h : Cert.Pre_KernelIdeal_finite_keys m) (c : Dev KernelIdeal.nD) :
    ∀ i, ∃ r : ℝ, (show FVec Ideal KernelIdeal.S16384x512 .bf16 from m ((c.tc : Thread KernelIdeal.nD KernelIdeal.τ).loc KernelIdeal.main_arg1)) i = (r : EReal) :=
  fun i => real_of_cmp _ (congrFun (h c).1 i)

theorem gain_finite (m : (ℓ : Loc KernelIdeal.nD KernelIdeal.τ KernelIdeal.sig) → Buf (Elt Ideal) ℓ) (h : Cert.Pre_KernelIdeal_finite_keys m) (c : Dev KernelIdeal.nD) :
    ∀ i, ∃ r : ℝ, (show FVec Ideal KernelIdeal.S1x128 .f32 from m ((c.tc : Thread KernelIdeal.nD KernelIdeal.τ).loc KernelIdeal.main_arg2)) i = (r : EReal) :=
  fun i => real_of_cmp _ (congrFun (h c).2 i)

/-- Both programs run and end with the same attention output. -/
theorem algebraic : Cert.algebraic_KernelIdeal_ReferenceIdeal_pre_finite_keys := by
  pair_intro
  · run_from Cert.KernelIdeal.Value.run_blocks m g
  · run_from Cert.ReferenceIdeal.Value.run m' g'
    rw [Cert.ReferenceIdeal.Read.val_main_v90_eq, (hagree c).1, (hagree c).2.1, (hagree c).2.2]
    exact (final m c (keys_finite m hpre c) (gain_finite m hpre c)).symm

end Cert.Attn
end
-- ==== Proof.MergeHost.lean ====
/- The merge of the two branches: the operands that the host prepares for the kernel. -/
module

public import proofs.«01_k».proof.Proof.Math
public import proofs.«01_k».proof.Proof.Gen.MergeIdeal.Value
public import Idealize.ShloMosaic.Lib.Claim
public import Idealize.ShloMosaic.Lib.Pipeline.ValueKit
public import Idealize.ShloMosaic.Lib.Pointwise

@[expose] public section

set_option maxRecDepth 16384

noncomputable section

namespace Cert.MergeProof

open Cert.MergeIdeal Cert.MergeIdeal.Gen
open Idealize.ShloMosaic Idealize.ShloMosaic.TcCoe Idealize.SL.Sem

/-- Running one list of host operations after another is running their concatenation. -/
theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The host operations up to and including the choice of the gate scale. -/
def hostA (W : Valuation τ sig (Elt Ideal)) : Valuation τ sig (Elt Ideal) :=
  StableHlo.after hostOps0_3 (StableHlo.after hostOps0_2 (StableHlo.after hostOps0_1 (StableHlo.after hostOps0 W)))

/-- The host operations that choose the scale of the activations. -/
def hostB (W : Valuation τ sig (Elt Ideal)) : Valuation τ sig (Elt Ideal) :=
  StableHlo.after hostOps0_7 (StableHlo.after hostOps0_6 (StableHlo.after hostOps0_5 (StableHlo.after hostOps0_4 W)))

variable (W : Valuation τ sig (Elt Ideal))

/-- The host's second scale operand, entry 0: the scale of the activations. -/
theorem last36_0 :
    (show EReal from StableHlo.after hostOps0_8 W (Proc.tc.devRef main_v36) (ix1 0))
      = (show EReal from W (Proc.tc.devRef main_v31) ix0) := by
  simp only [hostOps0_8]
  entry_read
  pointwise []

/-- Entry 1: the reciprocal of the product of the two scales. -/
theorem last36_1 :
    (show EReal from StableHlo.after hostOps0_8 W (Proc.tc.devRef main_v36) (ix1 1))
      = Ideal.div 1 ((show EReal from W (Proc.tc.devRef main_v31) ix0)
          * (show EReal from W (Proc.tc.devRef main_v14) ix0)) := by
  simp only [hostOps0_8]
  entry_read
  pointwise []

/-- The gate weights that the kernel reads are the weights times the gate scale. -/
theorem last44 (k : Fin 4096) (j : Fin 8192) :
    (show EReal from StableHlo.after hostOps0_8 W (Proc.tc.devRef main_v44) (ix2 k j))
      = (show EReal from W (Proc.tc.devRef main_arg5) (ix3 0 k j))
          * (show EReal from W (Proc.tc.devRef main_v14) ix0) := by
  simp only [hostOps0_8]
  entry_read
  pointwise []

/-- The weights of the attention branch. -/
theorem last38 (k : Fin 2048) (j : Fin 4096) :
    (show EReal from StableHlo.after hostOps0_8 W (Proc.tc.devRef main_v38) (ix2 k j))
      = (show EReal from W (Proc.tc.devRef main_arg3) (ix3 0 k j)) := by
  simp only [hostOps0_8]
  entry_read
  pointwise []

/-- The weights of the Fourier branch. -/
theorem last40 (k : Fin 2048) (j : Fin 4096) :
    (show EReal from StableHlo.after hostOps0_8 W (Proc.tc.devRef main_v40) (ix2 k j))
      = (show EReal from W (Proc.tc.devRef main_arg4) (ix3 0 k j)) := by
  simp only [hostOps0_8]
  entry_read
  pointwise []

/-- The bias of the gates. -/
theorem last46 (j : Fin 8192) :
    (show EReal from StableHlo.after hostOps0_8 W (Proc.tc.devRef main_v46) (ix2 0 j))
      = (show EReal from W (Proc.tc.devRef main_arg6) (ix2 0 j)) := by
  simp only [hostOps0_8]
  entry_read
  pointwise []

/-- A clipped number, or one, is a positive real. -/
theorem clip_pos (b : Prop) [Decidable b] (p : EReal) :
    ∃ r : ℝ, 0 < r ∧ (if b then min (Ideal.ofBits FTy.f32 0x5D800000#32) (max (Ideal.ofBits FTy.f32 0x21800000#32) p) else (1 : EReal)) = r := by
  have h1 : Ideal.ofBits FTy.f32 0x5D800000#32 = ((2 ^ 60 : ℝ) : EReal) := by
    simp [Ideal.ofBits, Ideal.ieee, -EReal.coe_mul, -EReal.coe_pow]; norm_num
  have h2 : Ideal.ofBits FTy.f32 0x21800000#32 = ((1 / 2 ^ 60 : ℝ) : EReal) := by
    simp [Ideal.ofBits, Ideal.ieee, -EReal.coe_mul, -EReal.coe_pow]; norm_num
  split_ifs
  · rw [h1, h2]
    induction p with
    | bot => exact ⟨1 / 2 ^ 60, by positivity, by rw [max_eq_left bot_le]; exact min_eq_right (EReal.coe_le_coe_iff.2 (by norm_num))⟩
    | top => exact ⟨2 ^ 60, by positivity, by rw [max_eq_right le_top, min_eq_left le_top]⟩
    | coe x => exact ⟨min (2 ^ 60) (max (1 / 2 ^ 60) x), lt_min (by positivity) (lt_max_of_lt_left (by positivity)), by
        rw [EReal.coe_strictMono.monotone.map_min, EReal.coe_strictMono.monotone.map_max]⟩
  · exact ⟨1, one_pos, rfl⟩

/-- The scale of the activations is a positive real. -/
theorem hostB_31 : ∃ r : ℝ, 0 < r ∧ (show EReal from hostB W (Proc.tc.devRef main_v31) ix0) = r := by
  unfold hostB
  simp only [hostOps0_7]
  entry_read
  simp -implicitDefEqProofs only [StableHlo.TRef.toBuf, StableHlo.TRef.ofBuf, cast_cast, cast_eq]
  generalize Host.exp (F := Ideal) _ = E
  generalize cmpf (F := Ideal) (φ := .f32) _ _ _ = B
  pointwise []
  exact clip_pos _ _

/-- The last three stages of the gate scale, from the contents before them. -/
theorem clip_14 : (show EReal from StableHlo.after hostOps0_3 (StableHlo.after hostOps0_2 (StableHlo.after hostOps0_1 W)) (Proc.tc.devRef main_v14) ix0)
    = if (show BitVec 1 from W (Proc.tc.devRef main_v12) ix0) = 1#1 then
        min (show EReal from W (Proc.tc.devRef main_cst_6) ix0) (max (show EReal from W (Proc.tc.devRef main_cst_5) ix0) (show EReal from W (Proc.tc.devRef main_v11) ix0)) else 1 := by
  simp only [hostOps0_3]
  entry_read
  simp -implicitDefEqProofs only [StableHlo.TRef.toBuf, StableHlo.TRef.ofBuf, cast_cast, cast_eq]
  pointwise []
  rfl

theorem first_5 : (show EReal from StableHlo.after hostOps0 W (Proc.tc.devRef main_cst_5) ix0) = Ideal.ofBits FTy.f32 0x21800000#32 := by
  entry_read
  rfl

theorem first_6 : (show EReal from StableHlo.after hostOps0 W (Proc.tc.devRef main_cst_6) ix0) = Ideal.ofBits FTy.f32 0x5D800000#32 := by
  entry_read
  rfl

/-- The gate scale is a positive real. -/
theorem hostA_14 : ∃ r : ℝ, 0 < r ∧ (show EReal from hostA W (Proc.tc.devRef main_v14) ix0) = r := by
  unfold hostA
  refine (clip_pos ((show BitVec 1 from StableHlo.after hostOps0 W (Proc.tc.devRef main_v12) ix0) = 1#1) (show EReal from StableHlo.after hostOps0 W (Proc.tc.devRef main_v11) ix0)).imp
    fun r h => ⟨h.1, ((clip_14 _).trans ?_).trans h.2⟩
  rw [first_5, first_6]

theorem hostB_14 : hostB W (Proc.tc.devRef main_v14) = W (Proc.tc.devRef main_v14) := by
  unfold hostB
  entry_read
  rfl

theorem hostB_3 : hostB W (Proc.tc.devRef main_arg3) = W (Proc.tc.devRef main_arg3) := by
  unfold hostB
  entry_read
  rfl

theorem hostB_4 : hostB W (Proc.tc.devRef main_arg4) = W (Proc.tc.devRef main_arg4) := by
  unfold hostB
  entry_read
  rfl

theorem hostB_5 : hostB W (Proc.tc.devRef main_arg5) = W (Proc.tc.devRef main_arg5) := by
  unfold hostB
  entry_read
  rfl

theorem hostB_6 : hostB W (Proc.tc.devRef main_arg6) = W (Proc.tc.devRef main_arg6) := by
  unfold hostB
  entry_read
  rfl

theorem hostA_3 : hostA W (Proc.tc.devRef main_arg3) = W (Proc.tc.devRef main_arg3) := by
  unfold hostA
  entry_read
  rfl

theorem hostA_4 : hostA W (Proc.tc.devRef main_arg4) = W (Proc.tc.devRef main_arg4) := by
  unfold hostA
  entry_read
  rfl

theorem hostA_5 : hostA W (Proc.tc.devRef main_arg5) = W (Proc.tc.devRef main_arg5) := by
  unfold hostA
  entry_read
  rfl

theorem hostA_6 : hostA W (Proc.tc.devRef main_arg6) = W (Proc.tc.devRef main_arg6) := by
  unfold hostA
  entry_read
  rfl

variable (m : (ℓ : Loc nD τ sig) → Buf (Elt Ideal) ℓ)

/-- The contents when the kernel starts, in three stages of host operations. -/
theorem V_stages (c : Dev nD) (b : Ref sig .tc) :
    V m c b = StableHlo.after hostOps0_8 (hostB (hostA fun b => m (c, b))) (Proc.tc.devRef b) := by
  unfold V hostA hostB
  simp only [List.flatten_cons, List.flatten_nil, List.append_nil, after_app]

/-- The scale of the activations. -/
def sc (c : Dev nD) : EReal := show EReal from hostB (hostA fun b => m (c, b)) (Proc.tc.devRef main_v31) ix0

/-- The scale of the gate weights. -/
def tc' (c : Dev nD) : EReal := show EReal from hostA (fun b => m (c, b)) (Proc.tc.devRef main_v14) ix0

theorem sc_pos (c : Dev nD) : ∃ r : ℝ, 0 < r ∧ sc m c = r := hostB_31 _

theorem tc_pos (c : Dev nD) : ∃ r : ℝ, 0 < r ∧ tc' m c = r := hostA_14 _

theorem V36_0 (c : Dev nD) : (show EReal from V m c main_v36 (ix1 0)) = sc m c := by
  rw [V_stages]; exact last36_0 _

theorem V36_1 (c : Dev nD) : (show EReal from V m c main_v36 (ix1 1)) = Ideal.div 1 (sc m c * tc' m c) := by
  rw [V_stages]; exact (last36_1 _).trans (by rw [hostB_14]; rfl)

theorem V44 (c : Dev nD) (k : Fin 4096) (j : Fin 8192) :
    (show EReal from V m c main_v44 (ix2 k j)) = (show EReal from m (c, Proc.tc.devRef main_arg5) (ix3 0 k j)) * tc' m c := by
  rw [V_stages]; exact (last44 _ k j).trans (by rw [hostB_14, hostB_5, hostA_5]; rfl)

theorem V38 (c : Dev nD) (k : Fin 2048) (j : Fin 4096) :
    (show EReal from V m c main_v38 (ix2 k j)) = (show EReal from m (c, Proc.tc.devRef main_arg3) (ix3 0 k j)) := by
  rw [V_stages]; exact (last38 _ k j).trans (by rw [hostB_3, hostA_3])

theorem V40 (c : Dev nD) (k : Fin 2048) (j : Fin 4096) :
    (show EReal from V m c main_v40 (ix2 k j)) = (show EReal from m (c, Proc.tc.devRef main_arg4) (ix3 0 k j)) := by
  rw [V_stages]; exact (last40 _ k j).trans (by rw [hostB_4, hostA_4])

theorem V46 (c : Dev nD) (j : Fin 8192) :
    (show EReal from V m c main_v46 (ix2 0 j)) = (show EReal from m (c, Proc.tc.devRef main_arg6) (ix2 0 j)) := by
  rw [V_stages]; exact (last46 _ j).trans (by rw [hostB_6, hostA_6])

end Cert.MergeProof
end
-- ==== Proof.Merge.lean ====
/- The merge of the two branches: the value of the kernel's result array. -/
module

public import proofs.«01_k».proof.Defs
public import proofs.«01_k».proof.Proof.MergeHost
public import Idealize.ShloMosaic.Lib.Pipeline.ReadBack
public import proofs.«01_k».proof.Proof.Gen.Merge.Frame
public import proofs.«01_k».proof.Proof.Gen.MergeRefIdeal.Run
public import proofs.«01_k».proof.Proof.Gen.MergeRefIdeal.Read

@[expose] public section

set_option maxRecDepth 16384

noncomputable section

namespace Cert.MergeProof

open Cert.MergeIdeal Cert.MergeIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0] ∧ win0_1.index t = ![t.val / 8, 0] ∧ win0_2.index t = ![t.val / 8, 0] ∧ win0_3.index t = ![t.val / 8, 0]
    ∧ win0_4.index t = ![0, t.val % 8] ∧ win0_5.index t = ![0, t.val % 8] ∧ win0_6.index t = ![0, t.val % 8] ∧ win0_7.index t = ![0, 8 + t.val % 8]
    ∧ win0_8.index t = ![0, t.val % 8] ∧ win0_9.index t = ![0, 8 + t.val % 8] ∧ win0_10.index t = ![t.val / 8, t.val % 8] :=
  (by decide +kernel : ∀ t : Fin grid0.N, _)

/-- The kernel's second scale, as the body loads it. -/
theorem ld1 (x : Vec Ideal S2 .f32) :
    (show Elt Ideal .f32 from View.ld x (Rect.unit ![1] ![1] inb_S2_S1_1) (Shape.Idx.first (Nat.succ_pos 0))) = x (ix1 1) := by
  pointwise []

/-- At the first column block the scratch is filled with the scaled rows. -/
theorem scr_A (c : Dev nD) (t : Fin cfg0.N) (h : t.val % 8 = 0) (r : Fin 512) (k : Fin 4096) :
    (show EReal from (outsAt0 m c t.val t.isLt).2 (ix2 r k))
      = (show FVec Ideal S512x4096 .bf16 from iblk m c 3 t) (ix2 r k) * (show FVec Ideal S2 .f32 from iblk m c 0 t) (ix1 0) := by
  rw [outsAt0_A m c t h]
  dsimp only
  frame_out
  pointwise [k0_pay2]

/-- At the others it is what the point before left. -/
theorem scr_B (c : Dev nD) (t : Fin cfg0.N) (h : ¬ t.val % 8 = 0) :
    (outsAt0 m c t.val t.isLt).2 = (outsAt0 m c (t.val - 1) (Nat.lt_of_le_of_lt (Nat.sub_le _ _) t.isLt)).2 := by
  rw [outsAt0_B m c t h]
  rfl

/-! ## The kernel's blocks, read at an index of the arrays they are cut from -/

theorem rd0 (c : Dev nD) (X : Buf (Elt Ideal) ((c : Thread nD τ).loc main_v36)) (t : Fin cfg0.N) (i : Fin 2) :
    (show EReal from ((cfg0.win 0).blk t).view.read (Elt Ideal) X (ix1 i)) = (show EReal from X (ix1 i)) := by
  blk_ext [idx t]

theorem ib0_0 (c : Dev nD) (t : Fin cfg0.N) : (show EReal from iblk m c 0 t (ix1 0)) = sc m c :=
  (rd0 c (V m c main_v36) t 0).trans (V36_0 m c)

theorem ib0_1 (c : Dev nD) (t : Fin cfg0.N) : (show EReal from iblk m c 0 t (ix1 1)) = Ideal.div 1 (sc m c * tc' m c) :=
  (rd0 c (V m c main_v36) t 1).trans (V36_1 m c)

theorem rd4 (c : Dev nD) (X : Buf (Elt Ideal) ((c : Thread nD τ).loc main_v38)) (t : Fin cfg0.N) (ht : t.val < 256) (k : Fin 2048) (l : Fin 512) :
    (show EReal from ((cfg0.win 4).blk t).view.read (Elt Ideal) X (ix2 k l)) = (show EReal from X (ix2 k ⟨t.val % 8 * 512 + l.val, by omega⟩)) := by
  blk_ext [idx t]

theorem ib4 (c : Dev nD) (t : Fin cfg0.N) (ht : t.val < 256) (k : Fin 2048) (l : Fin 512) :
    (show EReal from iblk m c 4 t (ix2 k l)) = (show EReal from m (c, Proc.tc.devRef main_arg3) (ix3 0 k ⟨t.val % 8 * 512 + l.val, by omega⟩)) :=
  (rd4 c (V m c main_v38) t ht k l).trans (V38 m c k ⟨t.val % 8 * 512 + l.val, by omega⟩)

theorem rd5 (c : Dev nD) (X : Buf (Elt Ideal) ((c : Thread nD τ).loc main_v40)) (t : Fin cfg0.N) (ht : t.val < 256) (k : Fin 2048) (l : Fin 512) :
    (show EReal from ((cfg0.win 5).blk t).view.read (Elt Ideal) X (ix2 k l)) = (show EReal from X (ix2 k ⟨t.val % 8 * 512 + l.val, by omega⟩)) := by
  blk_ext [idx t]

theorem ib5 (c : Dev nD) (t : Fin cfg0.N) (ht : t.val < 256) (k : Fin 2048) (l : Fin 512) :
    (show EReal from iblk m c 5 t (ix2 k l)) = (show EReal from m (c, Proc.tc.devRef main_arg4) (ix3 0 k ⟨t.val % 8 * 512 + l.val, by omega⟩)) :=
  (rd5 c (V m c main_v40) t ht k l).trans (V40 m c k ⟨t.val % 8 * 512 + l.val, by omega⟩)

theorem rd6 (c : Dev nD) (X : Buf (Elt Ideal) ((c : Thread nD τ).loc main_v44)) (t : Fin cfg0.N) (ht : t.val < 256) (k : Fin 4096) (l : Fin 512) :
    (show EReal from ((cfg0.win 6).blk t).view.read (Elt Ideal) X (ix2 k l)) = (show EReal from X (ix2 k ⟨t.val % 8 * 512 + l.val, by omega⟩)) := by
  blk_ext [idx t]

theorem ib6 (c : Dev nD) (t : Fin cfg0.N) (ht : t.val < 256) (k : Fin 4096) (l : Fin 512) :
    (show EReal from iblk m c 6 t (ix2 k l)) = (show EReal from m (c, Proc.tc.devRef main_arg5) (ix3 0 k ⟨t.val % 8 * 512 + l.val, by omega⟩)) * tc' m c :=
  (rd6 c (V m c main_v44) t ht k l).trans (V44 m c k ⟨t.val % 8 * 512 + l.val, by omega⟩)

theorem rd7 (c : Dev nD) (X : Buf (Elt Ideal) ((c : Thread nD τ).loc main_v44)) (t : Fin cfg0.N) (ht : t.val < 256) (k : Fin 4096) (l : Fin 512) :
    (show EReal from ((cfg0.win 7).blk t).view.read (Elt Ideal) X (ix2 k l)) = (show EReal from X (ix2 k ⟨4096 + (t.val % 8 * 512 + l.val), by omega⟩)) := by
  blk_ext [idx t]

theorem ib7 (c : Dev nD) (t : Fin cfg0.N) (ht : t.val < 256) (k : Fin 4096) (l : Fin 512) :
    (show EReal from iblk m c 7 t (ix2 k l)) = (show EReal from m (c, Proc.tc.devRef main_arg5) (ix3 0 k ⟨4096 + (t.val % 8 * 512 + l.val), by omega⟩)) * tc' m c :=
  (rd7 c (V m c main_v44) t ht k l).trans (V44 m c k ⟨4096 + (t.val % 8 * 512 + l.val), by omega⟩)

theorem rd8 (c : Dev nD) (X : Buf (Elt Ideal) ((c : Thread nD τ).loc main_v46)) (t : Fin cfg0.N) (ht : t.val < 256) (l : Fin 512) :
    (show EReal from ((cfg0.win 8).blk t).view.read (Elt Ideal) X (ix2 0 l)) = (show EReal from X (ix2 0 ⟨t.val % 8 * 512 + l.val, by omega⟩)) := by
  blk_ext [idx t]

theorem ib8 (c : Dev nD) (t : Fin cfg0.N) (ht : t.val < 256) (l : Fin 512) :
    (show EReal from iblk m c 8 t (ix2 0 l)) = (show EReal from m (c, Proc.tc.devRef main_arg6) (ix2 0 ⟨t.val % 8 * 512 + l.val, by omega⟩)) :=
  (rd8 c (V m c main_v46) t ht l).trans (V46 m c ⟨t.val % 8 * 512 + l.val, by omega⟩)

theorem rd9 (c : Dev nD) (X : Buf (Elt Ideal) ((c : Thread nD τ).loc main_v46)) (t : Fin cfg0.N) (ht : t.val < 256) (l : Fin 512) :
    (show EReal from ((cfg0.win 9).blk t).view.read (Elt Ideal) X (ix2 0 l)) = (show EReal from X (ix2 0 ⟨4096 + (t.val % 8 * 512 + l.val), by omega⟩)) := by
  blk_ext [idx t]

theorem ib9 (c : Dev nD) (t : Fin cfg0.N) (ht : t.val < 256) (l : Fin 512) :
    (show EReal from iblk m c 9 t (ix2 0 l)) = (show EReal from m (c, Proc.tc.devRef main_arg6) (ix2 0 ⟨4096 + (t.val % 8 * 512 + l.val), by omega⟩)) :=
  (rd9 c (V m c main_v46) t ht l).trans (V46 m c ⟨4096 + (t.val % 8 * 512 + l.val), by omega⟩)

theorem ib3 (c : Dev nD) (t : Fin cfg0.N) (ht : t.val < 256) (r : Fin 512) (k : Fin 4096) :
    (show FVec Ideal S512x4096 .bf16 from iblk m c 3 t) (ix2 r k)
      = (show FVec Ideal S16384x4096 .bf16 from m ((c : Thread nD τ).loc main_arg2)) (ix2 ⟨t.val / 8 * 512 + r.val, by omega⟩ k) := by
  blk_ext [iblk, V, idx t]

theorem ib1 (c : Dev nD) (t : Fin cfg0.N) (ht : t.val < 256) (r : Fin 512) (k : Fin 2048) :
    (show FVec Ideal S512x2048 .bf16 from iblk m c 1 t) (ix2 r k)
      = (show FVec Ideal S16384x2048 .bf16 from m ((c : Thread nD τ).loc main_arg0)) (ix2 ⟨t.val / 8 * 512 + r.val, by omega⟩ k) := by
  blk_ext [iblk, V, idx t]

theorem ib2 (c : Dev nD) (t : Fin cfg0.N) (ht : t.val < 256) (r : Fin 512) (k : Fin 2048) :
    (show FVec Ideal S512x2048 .bf16 from iblk m c 2 t) (ix2 r k)
      = (show FVec Ideal S16384x2048 .bf16 from m ((c : Thread nD τ).loc main_arg1)) (ix2 ⟨t.val / 8 * 512 + r.val, by omega⟩ k) := by
  blk_ext [iblk, V, idx t]

/-- The scratch after any point: the row block, scaled. -/
theorem scr_at (c : Dev nD) (n : ℕ) (hn : n < cfg0.N) (h256 : n < 256) (r : Fin 512) (k : Fin 4096) :
    (show EReal from (outsAt0 m c n hn).2 (ix2 r k))
      = (show FVec Ideal S16384x4096 .bf16 from m ((c : Thread nD τ).loc main_arg2)) (ix2 ⟨n / 8 * 512 + r.val, by omega⟩ k) * sc m c := by
  induction n with
  | zero => exact (scr_A m c ⟨0, hn⟩ rfl r k).trans (congrArg₂ (· * ·) (ib3 m c ⟨0, hn⟩ h256 r k) (ib0_0 m c ⟨0, hn⟩))
  | succ n ih =>
    by_cases h : (n + 1) % 8 = 0
    · exact (scr_A m c ⟨n + 1, hn⟩ h r k).trans (congrArg₂ (· * ·) (ib3 m c ⟨n + 1, hn⟩ h256 r k) (ib0_0 m c ⟨n + 1, hn⟩))
    · refine (congrFun (scr_B m c ⟨n + 1, hn⟩ h) (ix2 r k)).trans ((ih (by omega) (by omega)).trans ?_)
      have e : n / 8 = (n + 1) / 8 := by omega
      simp only [e]

/-- One point's result block, from the scratch that holds the scaled rows. -/
theorem out_eq (c : Dev nD) (t : Fin cfg0.N) (y : S512x512.Idx) :
    (show EReal from (outsAt0 m c t.val t.isLt).1 y)
      = k0_pay1 (F := Ideal) (k0_pay3 (iblk m c 1 t) (iblk m c 4 t)) (k0_pay4 (iblk m c 2 t) (iblk m c 5 t))
      (k0_pay5 (outsAt0 m c t.val t.isLt).2 (iblk m c 6 t) (show Elt Ideal .f32 from iblk m c 0 t (ix1 1)) (iblk m c 8 t))
      (k0_pay6 (outsAt0 m c t.val t.isLt).2 (iblk m c 7 t) (show Elt Ideal .f32 from iblk m c 0 t (ix1 1)))
      (k0_pay7 (iblk m c 9 t)) y := by
  have q := ld1 (iblk m c 0 t)
  dsimp only at q ⊢
  rw [← q]
  by_cases h : t.val % 8 = 0
  · have e : (outsAt0 m c t.val t.isLt).2 = k0_pay2 (iblk m c 3 t) (View.ld (iblk m c 0 t) (Rect.unit ![0] ![1] inb_S2_S1_0) (Shape.Idx.first (Nat.succ_pos 0))) := by
      funext z
      rw [outsAt0_A m c t h]
      dsimp only
      frame_out
    rw [e, outsAt0_A m c t h]
    dsimp only
    frame_out
  · rw [scr_B m c t h, outsAt0_B m c t h]
    dsimp only
    frame_out
    rw [read_unread_whole]

/-- One point's result at an index. -/
theorem pay_at (o f : FVec Ideal S512x2048 .bf16) (wo wf : FVec Ideal S2048x512 .bf16) (h : FVec Ideal S512x4096 .fp8e4m3) (ga gf : FVec Ideal S4096x512 .fp8e4m3)
    (q : EReal) (ba bf : FVec Ideal S1x512 .f32) (r l : Fin 512) :
    k0_pay1 (F := Ideal) (k0_pay3 o wo) (k0_pay4 f wf) (k0_pay5 h ga q ba) (k0_pay6 h gf q) (k0_pay7 bf) (ix2 r l)
      = Ideal.logistic ((∑ k, h (ix2 r k) * ga (ix2 k l)) * q + ba (ix2 0 l)) * ∑ k, o (ix2 r k) * wo (ix2 k l)
        + Ideal.logistic ((∑ k, h (ix2 r k) * gf (ix2 k l)) * q + bf (ix2 0 l)) * ∑ k, f (ix2 r k) * wf (ix2 k l) := by
  pointwise [k0_pay1, k0_pay3, k0_pay4, k0_pay5, k0_pay6, k0_pay7]

theorem pay_y (o f : FVec Ideal S512x2048 .bf16) (wo wf : FVec Ideal S2048x512 .bf16) (h : FVec Ideal S512x4096 .fp8e4m3) (ga gf : FVec Ideal S4096x512 .fp8e4m3)
    (q : EReal) (ba bf : FVec Ideal S1x512 .f32) (y : S512x512.Idx) :
    k0_pay1 (F := Ideal) (k0_pay3 o wo) (k0_pay4 f wf) (k0_pay5 h ga q ba) (k0_pay6 h gf q) (k0_pay7 bf) y
      = Ideal.logistic ((∑ k, h (ix2 (y 0) k) * ga (ix2 k (y 1))) * q + ba (ix2 0 (y 1))) * ∑ k, o (ix2 (y 0) k) * wo (ix2 k (y 1))
        + Ideal.logistic ((∑ k, h (ix2 (y 0) k) * gf (ix2 k (y 1))) * q + bf (ix2 0 (y 1))) * ∑ k, f (ix2 (y 0) k) * wf (ix2 k (y 1)) := by
  idx_vars y
  exact pay_at o f wo wf h ga gf q ba bf y0 y1

/-- Scaling both factors by positive numbers and dividing the sum by their product changes nothing. -/
theorem descale (f g : Fin 4096 → EReal) (s t : EReal) (hs : ∃ r : ℝ, 0 < r ∧ s = r) (ht : ∃ r : ℝ, 0 < r ∧ t = r) :
    (∑ k, (f k * s) * (g k * t)) * Ideal.div 1 (s * t) = ∑ k, f k * g k := by
  obtain ⟨a, ha, rfl⟩ := hs
  obtain ⟨b, hb, rfl⟩ := ht
  have hab : a * b ≠ 0 := (mul_pos ha hb).ne'
  simp only [mul_mul_mul_comm _ (a : EReal) _ (b : EReal)]
  rw [← EReal.coe_mul, ← Num.sum_mul_coe _ (mul_pos ha hb).le, Ideal.div_coe hab, one_mul, mul_assoc, ← EReal.coe_mul, mul_one_div_cancel hab, EReal.coe_one, mul_one]

/-- One gate, from a row of the activations and a column of the gate weights. -/
def gate (h : Fin 4096 → EReal) (w : Fin 4096 → EReal) (b : EReal) : EReal :=
  Ideal.div 1 (1 + Ideal.exp (-(∑ k, h k * w k + b)))

/-- The reference's result array, from the arrays the kernel takes. -/
abbrev REF (x0 x1 : FVec Ideal S16384x2048 .bf16) (x2 : FVec Ideal S16384x4096 .bf16) (x3 x4 : FVec Ideal S1x2048x4096 .f32) (x5 : FVec Ideal S1x4096x8192 .f32)
    (x6 : FVec Ideal S1x8192 .f32) : FVec Ideal S16384x4096 .bf16 :=
  Cert.MergeRefIdeal.Read.val_main_v27 (F := Ideal) x0 x1 x2 x3 x4 x5 x6

open Cert.MergeRefIdeal.Read in
theorem z_at (x2 : FVec Ideal S16384x4096 .bf16) (x5 : FVec Ideal S1x4096x8192 .f32) (x6 : FVec Ideal S1x8192 .f32) (r : Fin 16384) (l : Fin 8192) :
    val_main_v18 (F := Ideal) x2 x5 x6 (ix2 r l) = gate (fun k => x2 (ix2 r k)) (fun k => x5 (ix3 0 k l)) (x6 (ix2 0 l)) := by
  unfold gate
  pointwise [val_main_v6, val_main_v7, val_main_v8, val_main_v9, val_main_v10, val_main_v11, val_main_v12, val_main_v13, val_main_v14, val_main_v15, val_main_v16, val_main_v17, val_main_v18, val_main_cst, val_main_cst_0]

open Cert.MergeRefIdeal.Read in
/-- The reference at an index. -/
theorem ref_at (x0 x1 : FVec Ideal S16384x2048 .bf16) (x2 : FVec Ideal S16384x4096 .bf16) (x3 x4 : FVec Ideal S1x2048x4096 .f32) (x5 : FVec Ideal S1x4096x8192 .f32)
    (x6 : FVec Ideal S1x8192 .f32) (r : Fin 16384) (l : Fin 4096) :
    REF x0 x1 x2 x3 x4 x5 x6 (ix2 r l)
      = gate (fun k => x2 (ix2 r k)) (fun k => x5 (ix3 0 k ⟨l.val, by omega⟩)) (x6 (ix2 0 ⟨l.val, by omega⟩)) * (∑ k, x0 (ix2 r k) * x3 (ix3 0 k l))
        + gate (fun k => x2 (ix2 r k)) (fun k => x5 (ix3 0 k ⟨4096 + l.val, by omega⟩)) (x6 (ix2 0 ⟨4096 + l.val, by omega⟩)) * (∑ k, x1 (ix2 r k) * x4 (ix3 0 k l)) := by
  have e : REF x0 x1 x2 x3 x4 x5 x6 (ix2 r l)
      = val_main_v18 (F := Ideal) x2 x5 x6 (ix2 r ⟨l.val, by omega⟩) * (∑ k, x0 (ix2 r k) * x3 (ix3 0 k l))
        + val_main_v18 (F := Ideal) x2 x5 x6 (ix2 r ⟨4096 + l.val, by omega⟩) * (∑ k, x1 (ix2 r k) * x4 (ix3 0 k l)) := by
    pointwise [REF, val_main_v0, val_main_v1, val_main_v2, val_main_v3, val_main_v4, val_main_v5, val_main_v19, val_main_v20, val_main_v21, val_main_v22, val_main_v23, val_main_v24, val_main_v25, val_main_v26, val_main_v27]
  rw [e, z_at, z_at]

/-- The kernel's logistic is the reference's gate. -/
theorem gate_eq (h w : Fin 4096 → EReal) (b s t z : EReal) (hs : ∃ r : ℝ, 0 < r ∧ s = r) (ht : ∃ r : ℝ, 0 < r ∧ t = r)
    (hz : z = (∑ k, (h k * s) * (w k * t)) * Ideal.div 1 (s * t) + b) : Ideal.logistic z = gate h w b := by
  rw [hz, descale h w s t hs ht]
  rfl

/-- The kernel's result array is the reference's. -/
theorem final (c : Dev nD) :
    (dats m 0 c).arrAt 10 cfg0.N = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  have ht : t.val < 256 := lt_of_lt_of_eq t.isLt N_0
  have hy0 : (y 0).val < 512 := (y 0).isLt
  have hy1 : (y 1).val < 512 := (y 1).isLt
  have e := ref_at (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      ⟨t.val / 8 * 512 + (y 0).val, by omega⟩ ⟨t.val % 8 * 512 + (y 1).val, by omega⟩
  generalize REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) = A at e ⊢
  refine (out_eq m c t y).trans ?_
  refine Eq.trans ?_ (e.symm.trans ?_)
  · refine (pay_y _ _ _ _ _ _ _ _ _ _ y).trans ?_
    refine congrArg₂ (· + ·) (congrArg₂ (· * ·) ?_ (Finset.sum_congr rfl fun k _ => congrArg₂ (· * ·) ?_ ?_))
      (congrArg₂ (· * ·) ?_ (Finset.sum_congr rfl fun k _ => congrArg₂ (· * ·) ?_ ?_))
    · exact gate_eq _ _ _ _ _ _ (sc_pos m c) (tc_pos m c) (congrArg₂ (· + ·) (congrArg₂ (· * ·) (Finset.sum_congr rfl fun k _ => congrArg₂ (· * ·) (scr_at m c t.val t.isLt ht (y 0) k)
        (ib6 m c t ht k (y 1))) (ib0_1 m c t)) (ib8 m c t ht (y 1)))
    · exact ib1 m c t ht (y 0) k
    · exact ib4 m c t ht k (y 1)
    · exact gate_eq _ _ _ _ _ _ (sc_pos m c) (tc_pos m c) (congrArg₂ (· + ·) (congrArg₂ (· * ·) (Finset.sum_congr rfl fun k _ => congrArg₂ (· * ·) (scr_at m c t.val t.isLt ht (y 0) k)
        (ib7 m c t ht k (y 1))) (ib0_1 m c t)) (ib9 m c t ht (y 1)))
    · exact ib2 m c t ht (y 0) k
    · exact ib5 m c t ht k (y 1)
  · blk_ext [idx t]

/-- Both programs run and end with the same result. -/
theorem algebraic : Cert.algebraic_MergeIdeal_MergeRefIdeal := by
  pair_intro
  · run_from Cert.MergeIdeal.Value.run_blocks m g
  · run_from Cert.MergeRefIdeal.Value.run m' g'
    rw [Cert.MergeRefIdeal.Read.val_main_v27_eq]
    exact (final m c).symm

end Cert.MergeProof
end
-- ==== Proof.InProj.lean ====
/- The input projection: the value of the kernel's result array. -/
module

public import proofs.«01_k».proof.Defs
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.InProjProof

open Idealize.ShloMosaic Idealize.ShloMosaic.TcCoe Idealize.SL.Sem
open Cert.InProjIdeal Cert.InProjIdeal.Gen

variable (m : (ℓ : Loc nD τ sig) → Buf (Elt Ideal) ℓ)

theorem idx : ∀ t : Fin cfg0.N, win0_0.index t = ![t.val / 10, 0] ∧ win0_1.index t = ![0, t.val % 10] ∧ win0_2.index t = ![t.val / 10, t.val % 10] := (by decide +kernel : ∀ t : Fin grid0.N, _)

/-- One point's block: the rows times the columns. -/
theorem pay_at (x0 : FVec Ideal S1024x4096 .bf16) (x1 : FVec Ideal S4096x512 .bf16) (r : Fin 1024) (l : Fin 512) :
    k0_pay1 x0 x1 (ix2 r l) = ∑ k : Fin 4096, x0 (ix2 r k) * x1 (ix2 k l) := by
  pointwise [k0_pay1]

theorem out_at (x0 : FVec Ideal S1024x4096 .bf16) (x1 : FVec Ideal S4096x512 .bf16) (y : S1024x512.Idx) :
    out0_2 (F := Ideal) x0 x1 y = ∑ k : Fin 4096, x0 (ix2 (y 0) k) * x1 (ix2 k (y 1)) := by
  unfold out0_2
  frame_out
  idx_vars y
  exact pay_at x0 x1 y0 y1

abbrev REF (x0 : FVec Ideal S16384x4096 .bf16) (x1 : FVec Ideal S1x4096x5120 .f32) : FVec Ideal S16384x5120 .bf16 :=
  Cert.InProjRefIdeal.Read.val_main_v6 (F := Ideal) x0 x1

/-- The reference at an index. -/
theorem ref_at (x0 : FVec Ideal S16384x4096 .bf16) (x1 : FVec Ideal S1x4096x5120 .f32) (r : Fin 16384) (l : Fin 5120) :
    REF x0 x1 (ix2 r l) = ∑ k : Fin 4096, x0 (ix2 r k) * (if h : l.val < 2048 then x1 (ix3 0 k ⟨3072 + l.val, by omega⟩) else x1 (ix3 0 k ⟨l.val - 2048, by omega⟩)) := by
  by_cases h : l.val < 2048
  · simp only [h, dif_pos]
    pointwise [REF, Cert.InProjRefIdeal.Read.val_main_v0, Cert.InProjRefIdeal.Read.val_main_v1, Cert.InProjRefIdeal.Read.val_main_v2, Cert.InProjRefIdeal.Read.val_main_v3, Cert.InProjRefIdeal.Read.val_main_v4, Cert.InProjRefIdeal.Read.val_main_v5, Cert.InProjRefIdeal.Read.val_main_v6]
    rw [dif_pos h]
  · simp only [h, dif_neg, not_false_eq_true]
    pointwise [REF, Cert.InProjRefIdeal.Read.val_main_v0, Cert.InProjRefIdeal.Read.val_main_v1, Cert.InProjRefIdeal.Read.val_main_v2, Cert.InProjRefIdeal.Read.val_main_v3, Cert.InProjRefIdeal.Read.val_main_v4, Cert.InProjRefIdeal.Read.val_main_v5, Cert.InProjRefIdeal.Read.val_main_v6]
    rw [dif_neg h]

/-- The kernel's weights, read at an index of the argument. -/
theorem w_at (c : Dev nD) (k : Fin 4096) (l : Fin 5120) :
    (show EReal from V m c main_v4 (ix2 k l)) = (if h : l.val < 2048 then (show FVec Ideal S1x4096x5120 .f32 from m ((c : Thread nD τ).loc main_arg1)) (ix3 0 k ⟨3072 + l.val, by omega⟩) else (show FVec Ideal S1x4096x5120 .f32 from m ((c : Thread nD τ).loc main_arg1)) (ix3 0 k ⟨l.val - 2048, by omega⟩)) := by
  by_cases h : l.val < 2048
  · simp only [h, dif_pos]
    entry_read
    pointwise []
    rw [dif_pos h]
  · simp only [h, dif_neg, not_false_eq_true]
    entry_read
    pointwise []
    rw [dif_neg h]

/-- The kernel's result array is the reference's. -/
theorem final (c : Dev nD) :
    (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 160 := lt_of_lt_of_eq t.isLt N_0
  have hy0 : (y 0).val < 1024 := (y 0).isLt
  have hy1 : (y 1).val < 512 := (y 1).isLt
  refine (out_at _ _ y).trans ?_
  have e := ref_at (m ((c : Thread nD τ).loc main_arg0)) (m ((c : Thread nD τ).loc main_arg1)) ⟨t.val / 10 * 1024 + (y 0).val, by omega⟩ ⟨t.val % 10 * 512 + (y 1).val, by omega⟩
  generalize REF (m ((c : Thread nD τ).loc main_arg0)) (m ((c : Thread nD τ).loc main_arg1)) = A at e ⊢
  refine Eq.trans ?_ (e.symm.trans ?_)
  · refine (Finset.sum_congr rfl fun k _ => congrArg₂ (· * ·) ?_ ?_)
    · blk_ext [iblk, V, idx t]
    · refine Eq.trans ?_ (w_at m c k ⟨t.val % 10 * 512 + (y 1).val, by omega⟩)
      blk_ext [iblk, idx t]
  · blk_ext [idx t]

/-- Both programs run and end with the same result. -/
theorem algebraic : Cert.algebraic_InProjIdeal_InProjRefIdeal := by
  pair_intro
  · run_from Cert.InProjIdeal.Value.run_blocks m g
  · run_from Cert.InProjRefIdeal.Value.run m' g'
    rw [Cert.InProjRefIdeal.Read.val_main_v6_eq]
    exact (final m c).symm

end Cert.InProjProof
end
-- ==== Proof.OutProj.lean ====
/- The output projection with the residual. -/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.OutProjProof

open Idealize.ShloMosaic Idealize.ShloMosaic.TcCoe Idealize.SL.Sem
open Cert.OutProjIdeal Cert.OutProjIdeal.Gen

variable (m : (ℓ : Loc nD τ sig) → Buf (Elt Ideal) ℓ)

theorem idx : ∀ t : Fin cfg0.N, win0_0.index t = ![t.val / 8, 0] ∧ win0_1.index t = ![0, t.val % 8] ∧ win0_2.index t = ![t.val / 8, t.val % 8] ∧ win0_3.index t = ![t.val / 8, t.val % 8] := (by decide +kernel : ∀ t : Fin grid0.N, _)

/-- One point's block: the rows times the columns. -/
theorem pay_at (x0 : FVec Ideal S1024x4096 .bf16) (x1 : FVec Ideal S4096x512 .bf16) (x2 : FVec Ideal S1024x512 .f32) (r : Fin 1024) (l : Fin 512) :
    k0_pay1 x0 x1 x2 (ix2 r l) = x2 (ix2 r l) + ∑ k : Fin 4096, x0 (ix2 r k) * x1 (ix2 k l) := by
  pointwise [k0_pay1]

theorem out_at (x0 : FVec Ideal S1024x4096 .bf16) (x1 : FVec Ideal S4096x512 .bf16) (x2 : FVec Ideal S1024x512 .f32) (y : S1024x512.Idx) :
    out0_3 (F := Ideal) x0 x1 x2 y = x2 (ix2 (y 0) (y 1)) + ∑ k : Fin 4096, x0 (ix2 (y 0) k) * x1 (ix2 k (y 1)) := by
  unfold out0_3
  frame_out
  idx_vars y
  exact pay_at x0 x1 x2 y0 y1

abbrev REF (x0 : FVec Ideal S16384x4096 .bf16) (x1 : FVec Ideal S1x4096x4096 .f32) (x2 : FVec Ideal S4x4096x4096 .f32) : FVec Ideal S16384x4096 .f32 :=
  Cert.OutProjRefIdeal.Read.val_main_v4 (F := Ideal) x0 x1 x2

/-- The reference at an index. -/
theorem ref_at (x0 : FVec Ideal S16384x4096 .bf16) (x1 : FVec Ideal S1x4096x4096 .f32) (x2 : FVec Ideal S4x4096x4096 .f32) (r : Fin 16384) (l : Fin 4096) :
    REF x0 x1 x2 (ix2 r l) = x2 (ix3 ⟨r.val / 4096, by omega⟩ ⟨r.val % 4096, by omega⟩ l) + ∑ k : Fin 4096, x0 (ix2 r k) * x1 (ix3 0 k l) := by
  pointwise [REF, Cert.OutProjRefIdeal.Read.val_main_v0, Cert.OutProjRefIdeal.Read.val_main_v1, Cert.OutProjRefIdeal.Read.val_main_v2, Cert.OutProjRefIdeal.Read.val_main_v3, Cert.OutProjRefIdeal.Read.val_main_v4]

/-- The kernel's weights, read at an index of the argument. -/
theorem w_at (c : Dev nD) (k : Fin 4096) (l : Fin 4096) :
    (show EReal from V m c main_v1 (ix2 k l)) = (show FVec Ideal S1x4096x4096 .f32 from m ((c : Thread nD τ).loc main_arg1)) (ix3 0 k l) := by
  entry_read
  pointwise []

/-- The residual rows the kernel reads. -/
theorem x_at (c : Dev nD) (r : Fin 16384) (l : Fin 4096) :
    (show EReal from V m c main_v2 (ix2 r l)) = (show FVec Ideal S4x4096x4096 .f32 from m ((c : Thread nD τ).loc main_arg2)) (ix3 ⟨r.val / 4096, by omega⟩ ⟨r.val % 4096, by omega⟩ l) := by
  entry_read
  pointwise []

/-- The kernel's result array is the reference's. -/
theorem final (c : Dev nD) :
    (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht : t.val < 128 := lt_of_lt_of_eq t.isLt N_0
  have hy0 : (y 0).val < 1024 := (y 0).isLt
  have hy1 : (y 1).val < 512 := (y 1).isLt
  refine (out_at _ _ _ y).trans ?_
  have e := ref_at (m ((c : Thread nD τ).loc main_arg0)) (m ((c : Thread nD τ).loc main_arg1)) (m ((c : Thread nD τ).loc main_arg2)) ⟨t.val / 8 * 1024 + (y 0).val, by omega⟩ ⟨t.val % 8 * 512 + (y 1).val, by omega⟩
  generalize REF (m ((c : Thread nD τ).loc main_arg0)) (m ((c : Thread nD τ).loc main_arg1)) (m ((c : Thread nD τ).loc main_arg2)) = A at e ⊢
  refine Eq.trans ?_ (e.symm.trans ?_)
  · refine congrArg₂ (· + ·) ?_ (Finset.sum_congr rfl fun k _ => congrArg₂ (· * ·) ?_ ?_)
    · refine Eq.trans ?_ (x_at m c ⟨t.val / 8 * 1024 + (y 0).val, by omega⟩ ⟨t.val % 8 * 512 + (y 1).val, by omega⟩)
      blk_ext [iblk, idx t]
    · blk_ext [iblk, V, idx t]
    · refine Eq.trans ?_ (w_at m c k ⟨t.val % 8 * 512 + (y 1).val, by omega⟩)
      blk_ext [iblk, idx t]
  · blk_ext [idx t]

/-- Both programs run and end with the same result. -/
theorem algebraic : Cert.algebraic_OutProjIdeal_OutProjRefIdeal := by
  pair_intro
  · run_from Cert.OutProjIdeal.Value.run_blocks m g
  · run_from Cert.OutProjRefIdeal.Value.run m' g'
    rw [Cert.OutProjRefIdeal.Read.val_main_v4_eq]
    exact (final m c).symm

end Cert.OutProjProof
end
-- ==== Proof.Last.lean ====
/- The final normalization: the first result from its two summands. -/
module

public import proofs.«01_k».proof.Defs
public import proofs.«01_k».proof.Proof.Gen.Last.Frame
public import proofs.«01_k».proof.Proof.Gen.LastIdeal.Value
public import proofs.«01_k».proof.Proof.Gen.LastRefIdeal.Run
public import proofs.«01_k».proof.Proof.Gen.LastRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.LastProof

open Idealize.ShloMosaic Idealize.ShloMosaic.TcCoe Idealize.SL.Sem
open Cert.LastIdeal Cert.LastIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] := (by decide +kernel : ∀ t : Fin grid0.N, _)

/-- One entry of a normalized row. -/
def row (x : Fin 4096 → EReal) (g : EReal) (l : Fin 4096) : EReal :=
  x l * Ideal.rsqrt (Ideal.div (∑ k, x k * x k) (Ideal.ofBits FTy.f32 0x45800000#32) + Ideal.ofBits FTy.f32 0x358637BD#32) * g

/-- One point's block: each row normalized. -/
theorem pay_at (x0 : FVec Ideal S256x4096 .f32) (x1 : FVec Ideal S256x4096 .bf16) (x2 : FVec Ideal S1x4096 .f32) (r : Fin 256) (l : Fin 4096) :
    k0_pay1 (F := Ideal) x0 x1 x2 (ix2 r l) = row (fun k => x0 (ix2 r k) + x1 (ix2 r k)) (x2 (ix2 0 l)) l := by
  unfold row
  pointwise [k0_pay1]

theorem out_at (x0 : FVec Ideal S256x4096 .f32) (x1 : FVec Ideal S256x4096 .bf16) (x2 : FVec Ideal S1x4096 .f32) (y : S256x4096.Idx) :
    out0_3 (F := Ideal) x0 x1 x2 y = row (fun k => x0 (ix2 (y 0) k) + x1 (ix2 (y 0) k)) (x2 (ix2 0 (y 1))) (y 1) := by
  unfold out0_3
  frame_out
  idx_vars y
  exact pay_at x0 x1 x2 y0 y1

abbrev REF (x0 : FVec Ideal S16384x4096 .f32) (x1 : FVec Ideal S16384x4096 .bf16) (x2 : FVec Ideal S4096 .f32) : FVec Ideal S16384x4096 .f32 :=
  Cert.LastRefIdeal.Read.val_main_v14 (F := Ideal) x0 x1 x2

/-- The reference at an index. -/
theorem ref_at (x0 : FVec Ideal S16384x4096 .f32) (x1 : FVec Ideal S16384x4096 .bf16) (x2 : FVec Ideal S4096 .f32) (r : Fin 16384) (l : Fin 4096) :
    REF x0 x1 x2 (ix2 r l) = row (fun k => x0 (ix2 r k) + x1 (ix2 r k)) (x2 (ix1 l)) l := by
  unfold row
  pointwise [REF, Cert.LastRefIdeal.Read.val_main_v0, Cert.LastRefIdeal.Read.val_main_v1, Cert.LastRefIdeal.Read.val_main_v2, Cert.LastRefIdeal.Read.val_main_v3, Cert.LastRefIdeal.Read.val_main_v4, Cert.LastRefIdeal.Read.val_main_v5, Cert.LastRefIdeal.Read.val_main_v6, Cert.LastRefIdeal.Read.val_main_v7, Cert.LastRefIdeal.Read.val_main_v8, Cert.LastRefIdeal.Read.val_main_v9, Cert.LastRefIdeal.Read.val_main_v10, Cert.LastRefIdeal.Read.val_main_v11, Cert.LastRefIdeal.Read.val_main_v12, Cert.LastRefIdeal.Read.val_main_v13, Cert.LastRefIdeal.Read.val_main_v14, Cert.LastRefIdeal.Read.val_main_cst, Cert.LastRefIdeal.Read.val_main_cst_0, Cert.LastRefIdeal.Read.val_main_cst_1]

/-- The kernel's gain, read at an index of the argument. -/
theorem g_at (c : Dev nD) (l : Fin 4096) :
    (show EReal from V m c main_v0 (ix2 0 l)) = (show FVec Ideal S4096 .f32 from m ((c : Thread nD τ).loc main_arg2)) (ix1 l) := by
  entry_read
  pointwise []

theorem row_congr {x x' : Fin 4096 → EReal} {g g' : EReal} (l : Fin 4096) (h : ∀ k, x k = x' k) (hg : g = g') : row x g l = row x' g' l := by
  rw [funext h, hg]

/-- The kernel's result array is the reference's. -/
theorem final (c : Dev nD) :
    (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht : t.val < 64 := lt_of_lt_of_eq t.isLt N_0
  have hy0 : (y 0).val < 256 := (y 0).isLt
  have hy1 : (y 1).val < 4096 := (y 1).isLt
  refine (out_at _ _ _ y).trans ?_
  have e := ref_at (m ((c : Thread nD τ).loc main_arg0)) (m ((c : Thread nD τ).loc main_arg1)) (m ((c : Thread nD τ).loc main_arg2)) ⟨t.val * 256 + (y 0).val, by omega⟩ (y 1)
  generalize REF (m ((c : Thread nD τ).loc main_arg0)) (m ((c : Thread nD τ).loc main_arg1)) (m ((c : Thread nD τ).loc main_arg2)) = A at e ⊢
  refine Eq.trans ?_ (e.symm.trans ?_)
  · refine row_congr _ (fun k => congrArg₂ (· + ·) ?_ ?_) ?_
    · blk_ext [iblk, V, idx t]
    · blk_ext [iblk, V, idx t]
    · refine Eq.trans ?_ (g_at m c (y 1))
      blk_ext [iblk, idx t]
  · blk_ext [idx t]

/-- Both programs run and end with the same result. -/
theorem algebraic : Cert.algebraic_LastIdeal_LastRefIdeal := by
  pair_intro
  · run_from Cert.LastIdeal.Value.run_blocks m g
  · run_from Cert.LastRefIdeal.Value.run m' g'
    rw [Cert.LastRefIdeal.Read.val_main_v14_eq]
    exact (final m c).symm

end Cert.LastProof
end
-- ==== Proof.LastSample.lean ====
/- The final normalization of the sampled rows. -/
module

public import proofs.«01_k».proof.Defs
public import proofs.«01_k».proof.Proof.Gen.LastSample.Frame
public import proofs.«01_k».proof.Proof.Gen.LastSampleIdeal.Value
public import proofs.«01_k».proof.Proof.Gen.LastSampleRefIdeal.Run
public import proofs.«01_k».proof.Proof.Gen.LastSampleRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.LastSampleProof

open Idealize.ShloMosaic Idealize.ShloMosaic.TcCoe Idealize.SL.Sem
open Cert.LastSampleIdeal Cert.LastSampleIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] := (by decide +kernel : ∀ t : Fin grid0.N, _)

/-- One entry of a normalized row. -/
def row (x : Fin 4096 → EReal) (g : EReal) (l : Fin 4096) : EReal :=
  x l * Ideal.rsqrt (Ideal.div (∑ k, x k * x k) (Ideal.ofBits FTy.f32 0x45800000#32) + Ideal.ofBits FTy.f32 0x358637BD#32) * g

/-- One point's block: each row normalized. -/
theorem pay_at (x0 : FVec Ideal S256x4096 .f32) (x1 : FVec Ideal S256x4096 .bf16) (x2 : FVec Ideal S1x4096 .f32) (r : Fin 256) (l : Fin 4096) :
    k0_pay1 (F := Ideal) x0 x1 x2 (ix2 r l) = row (fun k => x0 (ix2 r k) + x1 (ix2 r k)) (x2 (ix2 0 l)) l := by
  unfold row
  pointwise [k0_pay1]

theorem out_at (x0 : FVec Ideal S256x4096 .f32) (x1 : FVec Ideal S256x4096 .bf16) (x2 : FVec Ideal S1x4096 .f32) (y : S256x4096.Idx) :
    out0_3 (F := Ideal) x0 x1 x2 y = row (fun k => x0 (ix2 (y 0) k) + x1 (ix2 (y 0) k)) (x2 (ix2 0 (y 1))) (y 1) := by
  unfold out0_3
  frame_out
  idx_vars y
  exact pay_at x0 x1 x2 y0 y1

abbrev REF (x0 : FVec Ideal S8192x4096 .f32) (x1 : FVec Ideal S8192x4096 .bf16) (x2 : FVec Ideal S4096 .f32) : FVec Ideal S8192x4096 .f32 :=
  Cert.LastSampleRefIdeal.Read.val_main_v14 (F := Ideal) x0 x1 x2

/-- The reference at an index. -/
theorem ref_at (x0 : FVec Ideal S8192x4096 .f32) (x1 : FVec Ideal S8192x4096 .bf16) (x2 : FVec Ideal S4096 .f32) (r : Fin 8192) (l : Fin 4096) :
    REF x0 x1 x2 (ix2 r l) = row (fun k => x0 (ix2 r k) + x1 (ix2 r k)) (x2 (ix1 l)) l := by
  unfold row
  pointwise [REF, Cert.LastSampleRefIdeal.Read.val_main_v0, Cert.LastSampleRefIdeal.Read.val_main_v1, Cert.LastSampleRefIdeal.Read.val_main_v2, Cert.LastSampleRefIdeal.Read.val_main_v3, Cert.LastSampleRefIdeal.Read.val_main_v4, Cert.LastSampleRefIdeal.Read.val_main_v5, Cert.LastSampleRefIdeal.Read.val_main_v6, Cert.LastSampleRefIdeal.Read.val_main_v7, Cert.LastSampleRefIdeal.Read.val_main_v8, Cert.LastSampleRefIdeal.Read.val_main_v9, Cert.LastSampleRefIdeal.Read.val_main_v10, Cert.LastSampleRefIdeal.Read.val_main_v11, Cert.LastSampleRefIdeal.Read.val_main_v12, Cert.LastSampleRefIdeal.Read.val_main_v13, Cert.LastSampleRefIdeal.Read.val_main_v14, Cert.LastSampleRefIdeal.Read.val_main_cst, Cert.LastSampleRefIdeal.Read.val_main_cst_0, Cert.LastSampleRefIdeal.Read.val_main_cst_1]

/-- The kernel's gain, read at an index of the argument. -/
theorem g_at (c : Dev nD) (l : Fin 4096) :
    (show EReal from V m c main_v0 (ix2 0 l)) = (show FVec Ideal S4096 .f32 from m ((c : Thread nD τ).loc main_arg2)) (ix1 l) := by
  entry_read
  pointwise []

theorem row_congr {x x' : Fin 4096 → EReal} {g g' : EReal} (l : Fin 4096) (h : ∀ k, x k = x' k) (hg : g = g') : row x g l = row x' g' l := by
  rw [funext h, hg]

/-- The kernel's result array is the reference's. -/
theorem final (c : Dev nD) :
    (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht : t.val < 32 := lt_of_lt_of_eq t.isLt N_0
  have hy0 : (y 0).val < 256 := (y 0).isLt
  have hy1 : (y 1).val < 4096 := (y 1).isLt
  refine (out_at _ _ _ y).trans ?_
  have e := ref_at (m ((c : Thread nD τ).loc main_arg0)) (m ((c : Thread nD τ).loc main_arg1)) (m ((c : Thread nD τ).loc main_arg2)) ⟨t.val * 256 + (y 0).val, by omega⟩ (y 1)
  generalize REF (m ((c : Thread nD τ).loc main_arg0)) (m ((c : Thread nD τ).loc main_arg1)) (m ((c : Thread nD τ).loc main_arg2)) = A at e ⊢
  refine Eq.trans ?_ (e.symm.trans ?_)
  · refine row_congr _ (fun k => congrArg₂ (· + ·) ?_ ?_) ?_
    · blk_ext [iblk, V, idx t]
    · blk_ext [iblk, V, idx t]
    · refine Eq.trans ?_ (g_at m c (y 1))
      blk_ext [iblk, idx t]
  · blk_ext [idx t]

/-- Both programs run and end with the same result. -/
theorem algebraic : Cert.algebraic_LastSampleIdeal_LastSampleRefIdeal := by
  pair_intro
  · run_from Cert.LastSampleIdeal.Value.run_blocks m g
  · run_from Cert.LastSampleRefIdeal.Value.run m' g'
    rw [Cert.LastSampleRefIdeal.Read.val_main_v14_eq]
    exact (final m c).symm

end Cert.LastSampleProof
end
-- ==== Proof.Norm.lean ====
/- The normalization of the rows before the mixing branches. -/
module

public import proofs.«01_k».proof.Defs
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.NormProof

open Idealize.ShloMosaic Idealize.ShloMosaic.TcCoe Idealize.SL.Sem
open Cert.NormIdeal Cert.NormIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] := (by decide +kernel : ∀ t : Fin grid0.N, _)

/-- One entry of a normalized row. -/
def row (x : Fin 4096 → EReal) (g : EReal) (l : Fin 4096) : EReal :=
  x l * Ideal.rsqrt (Ideal.div (∑ k, x k * x k) (Ideal.ofBits FTy.f32 0x45800000#32) + Ideal.ofBits FTy.f32 0x358637BD#32) * g

/-- One point's block: each row normalized. -/
theorem pay_at (x0 : FVec Ideal S256x4096 .f32) (x1 : FVec Ideal S1x4096 .f32) (r : Fin 256) (l : Fin 4096) :
    k0_pay1 (F := Ideal) x0 x1 (ix2 r l) = row (fun k => x0 (ix2 r k)) (x1 (ix2 0 l)) l := by
  unfold row
  pointwise [k0_pay1]

theorem out_at (x0 : FVec Ideal S256x4096 .f32) (x1 : FVec Ideal S1x4096 .f32) (y : S256x4096.Idx) :
    out0_2 (F := Ideal) x0 x1 y = row (fun k => x0 (ix2 (y 0) k)) (x1 (ix2 0 (y 1))) (y 1) := by
  unfold out0_2
  frame_out
  idx_vars y
  exact pay_at x0 x1 y0 y1

abbrev REF (x0 : FVec Ideal S16384x4096 .f32) (x1 : FVec Ideal S1x4096 .f32) : FVec Ideal S16384x4096 .bf16 :=
  Cert.NormRefIdeal.Read.val_main_v14 (F := Ideal) x0 x1

/-- The reference at an index. -/
theorem ref_at (x0 : FVec Ideal S16384x4096 .f32) (x1 : FVec Ideal S1x4096 .f32) (r : Fin 16384) (l : Fin 4096) :
    REF x0 x1 (ix2 r l) = row (fun k => x0 (ix2 r k)) (x1 (ix2 0 l)) l := by
  unfold row
  pointwise [REF, Cert.NormRefIdeal.Read.val_main_v0, Cert.NormRefIdeal.Read.val_main_v1, Cert.NormRefIdeal.Read.val_main_v2, Cert.NormRefIdeal.Read.val_main_v3, Cert.NormRefIdeal.Read.val_main_v4, Cert.NormRefIdeal.Read.val_main_v5, Cert.NormRefIdeal.Read.val_main_v6, Cert.NormRefIdeal.Read.val_main_v7, Cert.NormRefIdeal.Read.val_main_v8, Cert.NormRefIdeal.Read.val_main_v9, Cert.NormRefIdeal.Read.val_main_v10, Cert.NormRefIdeal.Read.val_main_v11, Cert.NormRefIdeal.Read.val_main_v12, Cert.NormRefIdeal.Read.val_main_v13, Cert.NormRefIdeal.Read.val_main_v14, Cert.NormRefIdeal.Read.val_main_cst, Cert.NormRefIdeal.Read.val_main_cst_0, Cert.NormRefIdeal.Read.val_main_cst_1]

/-- The kernel's gain, read at an index of the argument. -/
theorem g_at (c : Dev nD) (l : Fin 4096) :
    (show EReal from V m c main_v1 (ix2 0 l)) = (show FVec Ideal S1x4096 .f32 from m ((c : Thread nD τ).loc main_arg1)) (ix2 0 l) := by
  entry_read
  pointwise []

theorem row_congr {x x' : Fin 4096 → EReal} {g g' : EReal} (l : Fin 4096) (h : ∀ k, x k = x' k) (hg : g = g') : row x g l = row x' g' l := by
  rw [funext h, hg]

/-- The kernel's result array is the reference's. -/
theorem final (c : Dev nD) :
    (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 64 := lt_of_lt_of_eq t.isLt N_0
  have hy0 : (y 0).val < 256 := (y 0).isLt
  have hy1 : (y 1).val < 4096 := (y 1).isLt
  refine (out_at _ _ y).trans ?_
  have e := ref_at (m ((c : Thread nD τ).loc main_arg0)) (m ((c : Thread nD τ).loc main_arg1)) ⟨t.val * 256 + (y 0).val, by omega⟩ (y 1)
  generalize REF (m ((c : Thread nD τ).loc main_arg0)) (m ((c : Thread nD τ).loc main_arg1)) = A at e ⊢
  refine Eq.trans ?_ (e.symm.trans ?_)
  · refine row_congr _ (fun k => ?_) ?_
    · blk_ext [iblk, V, idx t]
    · refine Eq.trans ?_ (g_at m c (y 1))
      blk_ext [iblk, idx t]
  · blk_ext [idx t]

/-- Both programs run and end with the same result. -/
theorem algebraic : Cert.algebraic_NormIdeal_NormRefIdeal := by
  pair_intro
  · run_from Cert.NormIdeal.Value.run_blocks m g
  · run_from Cert.NormRefIdeal.Value.run m' g'
    rw [Cert.NormRefIdeal.Read.val_main_v14_eq]
    exact (final m c).symm

end Cert.NormProof
end
-- ==== Proof.Keys.lean ====
/- The keys: each of the four key heads normalized over its 128 lanes, scaled by the gain, and turned by its position. -/
module

public import proofs.«01_k».proof.Defs
public import proofs.«01_k».proof.Proof.Math
public import proofs.«01_k».proof.Proof.Head
public import proofs.«01_k».proof.Proof.Gen.Keys.Frame
public import proofs.«01_k».proof.Proof.Gen.KeysIdeal.Value
public import proofs.«01_k».proof.Proof.Gen.KeysRefIdeal.Run
public import proofs.«01_k».proof.Proof.Gen.KeysRefIdeal.Read
public import Idealize.ShloMosaic.Lib.Claim
public import Idealize.ShloMosaic.Lib.Pipeline.ValueKit
public import Idealize.ShloMosaic.Lib.Pointwise

@[expose] public section

set_option maxRecDepth 16384
set_option backward.isDefEq.respectTransparency.types false

noncomputable section

namespace Cert.KeysProof

open Idealize.ShloMosaic Idealize.ShloMosaic.TcCoe Idealize.SL.Sem
open Cert Cert.KeysIdeal Cert.KeysIdeal.Gen

/-- The kernel's turn (a lane roll and a signed sine) is the reference's. -/
theorem rot_eq (n g : Fin 128 → EReal) (s : ℕ) (d : Fin 128) :
    Num.rot (fun d => n d * g d) (fun d => Ideal.cos (Num.ang s (d.val / 64) (d.val % 32)))
        (fun d => if d.val / 32 % 2 < 1 then -Ideal.sin (Num.ang s (d.val / 64) (d.val % 32)) else Ideal.sin (Num.ang s (d.val / 64) (d.val % 32))) d
      = Num.rrot n g s d := by
  unfold Num.rot Num.rrot
  by_cases h : d.val / 32 % 2 < 1
  · have e0 : (⟨d.val / 64 * 64 + d.val % 32, by omega⟩ : Fin 128) = d := Fin.ext (by dsimp only; omega)
    have e1 : (⟨(d.val + 128 - 96) % 128, Nat.mod_lt _ (by decide)⟩ : Fin 128) = ⟨d.val / 64 * 64 + 32 + d.val % 32, by omega⟩ := Fin.ext (by dsimp only; omega)
    simp only [h, if_true, e0, e1, mul_neg, sub_eq_add_neg]
  · have e0 : (⟨d.val / 64 * 64 + 32 + d.val % 32, by omega⟩ : Fin 128) = d := Fin.ext (by dsimp only; omega)
    have e1 : (⟨(d.val + 128 - 32) % 128, Nat.mod_lt _ (by decide)⟩ : Fin 128) = ⟨d.val / 64 * 64 + d.val % 32, by omega⟩ := Fin.ext (by dsimp only; omega)
    simp only [h, if_false, e0, e1]

/-- The turn of one normalized, scaled head. -/
theorem pay8_at (c s q : FVec Ideal S512x128 .f32) (r : Fin 512) (d : Fin 128) :
    k0_pay8 (F := Ideal) c s q k0_pay5 k0_pay6 k0_pay7 (ix2 r d) = Num.rot (fun d => q (ix2 r d)) (fun d => c (ix2 r d)) (fun d => s (ix2 r d)) d := by
  have hs : Num.rot (fun d => q (ix2 r d)) (fun d => c (ix2 r d)) (fun d => s (ix2 r d)) d
      = q (ix2 r d) * c (ix2 r d) + Scalar.select (Attn.laneBit (BitVec.ofNat 32 d)) (q (ix2 r ⟨(d.val + 128 - 96) % 128, Nat.mod_lt _ (by decide)⟩)) (q (ix2 r ⟨(d.val + 128 - 32) % 128, Nat.mod_lt _ (by decide)⟩)) * s (ix2 r d) := by
    unfold Num.rot
    rw [Attn.laneBit_eq d]
    by_cases h : d.val / 32 % 2 < 1 <;> simp only [h, if_true, if_false, Scalar.select] <;> rfl
  rw [hs]
  pointwise [k0_pay8, k0_pay5, k0_pay6, k0_pay7]
  rfl

theorem pay4_at (x : FVec Ideal S512x128 .bf16) (g : FVec Ideal S1x128 .f32) (r : Fin 512) (d : Fin 128) :
    k0_pay4 (F := Ideal) x g (ix2 r d) = Num.nrm (fun d => x (ix2 r d)) d * g (ix2 0 d) := by
  unfold Num.nrm
  pointwise [k0_pay4]

/-- One head's tile, from its keys, the gain and the two tables. -/
def headT (x : FVec Ideal S512x128 .bf16) (g : FVec Ideal S1x128 .f32) (c s : FVec Ideal S512x128 .f32) : FVec Ideal S512x128 .bf16 :=
  k0_pay8 (F := Ideal) (k0_pay2 c) (k0_pay3 s) (k0_pay4 x g) k0_pay5 k0_pay6 k0_pay7

theorem headT_at (x : FVec Ideal S512x128 .bf16) (g : FVec Ideal S1x128 .f32) (c s : FVec Ideal S512x128 .f32) (r : Fin 512) (d : Fin 128) :
    headT x g c s (ix2 r d) = Num.rot (fun d => Num.nrm (fun d => x (ix2 r d)) d * g (ix2 0 d)) (fun d => c (ix2 r d)) (fun d => s (ix2 r d)) d := by
  have hc : k0_pay2 (F := Ideal) c = c := by funext i; idx_vars i; pointwise [k0_pay2]
  have hs : k0_pay3 (F := Ideal) s = s := by funext i; idx_vars i; pointwise [k0_pay3]
  unfold headT
  rw [pay8_at, hc, hs]
  simp only [pay4_at]

theorem head1 (x : FVec Ideal S512x128 .bf16) (g : FVec Ideal S1x128 .f32) (c s : FVec Ideal S512x128 .f32) :
    k0_pay15 (F := Ideal) (k0_pay2 c) (k0_pay3 s) (k0_pay13 (k0_pay9 g) (k0_pay10 x) (k0_pay11 x) (k0_pay12 (F := Ideal))) k0_pay14 = headT x g c s := rfl
theorem head2 (x : FVec Ideal S512x128 .bf16) (g : FVec Ideal S1x128 .f32) (c s : FVec Ideal S512x128 .f32) :
    k0_pay20 (F := Ideal) (k0_pay2 c) (k0_pay3 s) (k0_pay16 x g) (iota .tc S512x128 32 [1] iota_S512x128_d1_w32) 32#32 k0_pay17 k0_pay18 k0_pay19 = headT x g c s := rfl
theorem head3 (x : FVec Ideal S512x128 .bf16) (g : FVec Ideal S1x128 .f32) (c s : FVec Ideal S512x128 .f32) :
    k0_pay1 (F := Ideal) (k0_pay2 c) (k0_pay3 s) (k0_pay24 (k0_pay21 g) (k0_pay22 x) (k0_pay23 x)) (Scalar.select (Scalar.cmpi .eq 2#32 0#32) 1#32 2#32) k0_pay25 k0_pay26 k0_pay27 k0_pay28 = headT x g c s := rfl

/-- The entry of the block at row `r`, lane `l`: the head is `l / 128`. -/
abbrev ent (x0 : FVec Ideal S512x512 .bf16) (x1 : FVec Ideal S1x512 .f32) (x2 x3 : FVec Ideal S512x128 .f32) (r : Fin 512) (l : Fin 512) : EReal :=
  Num.rot (fun d => Num.nrm (fun d => x0 (ix2 r ⟨l.val / 128 * 128 + d.val, by omega⟩)) d * x1 (ix2 0 ⟨l.val / 128 * 128 + d.val, by omega⟩))
    (fun d => x2 (ix2 r d)) (fun d => x3 (ix2 r d)) ⟨l.val % 128, Nat.mod_lt _ (by decide)⟩

/-- A head's tile, placed in its 128 lanes of the block. -/
theorem tile (x0 : FVec Ideal S512x512 .bf16) (x1 : FVec Ideal S1x512 .f32) (x2 x3 : FVec Ideal S512x128 .f32) (r l : Fin 512) (o : ℕ) (ho : o < 4)
    (Y T : FVec Ideal S512x128 .bf16) (G : FVec Ideal S1x128 .f32) (C D : FVec Ideal S512x128 .f32) (hT : T = headT Y G C D)
    (hC : ∀ (r : Fin 512) (d : Fin 128), C (ix2 r d) = x2 (ix2 r d))
    (hD : ∀ (r : Fin 512) (d : Fin 128), D (ix2 r d) = x3 (ix2 r d))
    (hG : ∀ d : Fin 128, G (ix2 0 d) = x1 (ix2 0 ⟨o * 128 + d.val, by omega⟩))
    (hY : ∀ (r : Fin 512) (d : Fin 128), Y (ix2 r d) = x0 (ix2 r ⟨o * 128 + d.val, by omega⟩))
    (j : S512x128.Idx) (h1 : r.val = (j 0).val) (h2 : l.val = o * 128 + (j 1).val) : T j = ent x0 x1 x2 x3 r l := by
  idx_vars j
  have hb : j0 = r := Fin.ext h1.symm
  have h2' : l.val = o * 128 + j1.val := h2
  have hj1 : j1.val < 128 := j1.isLt
  have ho' : l.val / 128 = o := by omega
  have hm : (⟨l.val % 128, Nat.mod_lt _ (by decide)⟩ : Fin 128) = j1 := Fin.ext (by dsimp only; omega)
  subst hb hT
  rw [headT_at]
  unfold ent
  simp only [hC, hD, hG, hY, ho', hm]

/-- One point's result block. -/
theorem out_at (x0 : FVec Ideal S512x512 .bf16) (x1 : FVec Ideal S1x512 .f32) (x2 x3 : FVec Ideal S512x128 .f32) (y : S512x512.Idx) (r l : Fin 512) (hr : r = y 0) (hl : l = y 1) :
    out0_4 (F := Ideal) x0 x1 x2 x3 y = ent x0 x1 x2 x3 r l := by
  have hr' : r.val = (y 0).val := congrArg Fin.val hr
  have hl' : l.val = (y 1).val := congrArg Fin.val hl
  unfold out0_4 k0_pay30 k0_pay29
  canon_tiles x h
  case piece0 => exact tile x0 x1 x2 x3 r l 3 (by decide) _ _ _ _ _ (head3 _ _ _ _) (fun r d => by pointwise; blk_ext) (fun r d => by pointwise; blk_ext) (fun d => by pointwise; blk_ext) (fun r d => by pointwise; blk_ext) x (hr'.trans h0) (hl'.trans h1)
  case piece1 => exact tile x0 x1 x2 x3 r l 2 (by decide) _ _ _ _ _ (head2 _ _ _ _) (fun r d => by pointwise; blk_ext) (fun r d => by pointwise; blk_ext) (fun d => by pointwise; blk_ext) (fun r d => by pointwise; blk_ext) x (hr'.trans h0) (hl'.trans h1)
  case piece2 => exact tile x0 x1 x2 x3 r l 1 (by decide) _ _ _ _ _ (head1 _ _ _ _) (fun r d => by pointwise; blk_ext) (fun r d => by pointwise; blk_ext) (fun d => by pointwise; blk_ext) (fun r d => by pointwise; blk_ext) x (hr'.trans h0) (hl'.trans h1)
  case piece3 => exact tile x0 x1 x2 x3 r l 0 (by decide) _ _ _ _ _ rfl (fun r d => by pointwise; blk_ext) (fun r d => by pointwise; blk_ext) (fun d => by pointwise; blk_ext) (fun r d => by pointwise; blk_ext) x (hr'.trans h0) (hl'.trans (h1.trans (by omega)))

variable (m : (ℓ : Loc nD τ sig) → Buf (Elt Ideal) ℓ)

theorem idx : ∀ t : Fin cfg0.N, win0_0.index t = ![t.val, 8] ∧ win0_1.index t = ![0, 0] ∧ win0_2.index t = ![t.val % 8, 0] ∧ win0_3.index t = ![t.val % 8, 0] ∧ win0_4.index t = ![t.val, 0] :=
  (by decide +kernel : ∀ t : Fin grid0.N, _)

/-- The cosine table the kernel is given. -/
theorem cos_at (c : Dev nD) (s : Fin 4096) (d : Fin 128) :
    (show EReal from V m c main_v32 (ix2 s d)) = Ideal.cos (Num.ang s (d.val / 64) (d.val % 32)) := by
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise []
  have h2 := Attn.colW_eq s
  unfold Attn.colW at h2
  simp only [h2]
  unfold Num.ang Num.freq
  by_cases h : d.val / 64 < 1 <;> simp only [h, dite_true, dite_false, if_true, if_false, ite_self, dite_eq_ite]
  rw [← Attn.rowW_eq s]
  rfl

/-- The sine table the kernel is given: negated in the first half of every 64-lane block. -/
theorem sin_at (c : Dev nD) (s : Fin 4096) (d : Fin 128) :
    (show EReal from V m c main_v37 (ix2 s d))
      = if d.val / 32 % 2 < 1 then -Ideal.sin (Num.ang s (d.val / 64) (d.val % 32)) else Ideal.sin (Num.ang s (d.val / 64) (d.val % 32)) := by
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise []
  have h2 := Attn.colW_eq s
  unfold Attn.colW at h2
  simp only [h2]
  unfold Num.ang Num.freq
  by_cases h : d.val / 64 < 1 <;> simp only [h, dite_true, dite_false, if_true, if_false, ite_self, dite_eq_ite]
  rw [← Attn.rowW_eq s]
  rfl

/-- The gain the kernel is given: the norm's gain, once per head. -/
theorem gain_at (c : Dev nD) (l : Fin 512) :
    (show EReal from V m c main_v4 (ix2 0 l))
      = (show FVec Ideal S1x128 .f32 from m ((c : Thread nD τ).loc main_arg1)) (ix2 0 ⟨l.val % 128, Nat.mod_lt _ (by decide)⟩) := by
  unfold V
  simp only [hostOps0, hostOps0_1, hostOps0_2, hostOps0_3, hostOps0_4, List.flatten_cons, List.flatten_nil, List.append_nil, List.cons_append, List.nil_append]
  entry_read
  pointwise []

theorem rd0 (c : Dev nD) (X : Buf (Elt Ideal) ((c : Thread nD τ).loc main_arg0)) (t : Fin cfg0.N) (ht : t.val < 32) (r l : Fin 512) :
    (show EReal from ((cfg0.win 0).blk t).view.read (Elt Ideal) X (ix2 r l)) = (show EReal from X (ix2 ⟨t.val * 512 + r.val, by omega⟩ ⟨4096 + l.val, by omega⟩)) := by
  blk_ext [idx t]

theorem rd1 (c : Dev nD) (X : Buf (Elt Ideal) ((c : Thread nD τ).loc main_v4)) (t : Fin cfg0.N) (l : Fin 512) :
    (show EReal from ((cfg0.win 1).blk t).view.read (Elt Ideal) X (ix2 0 l)) = (show EReal from X (ix2 0 l)) := by
  blk_ext [idx t]

theorem rd2 (c : Dev nD) (X : Buf (Elt Ideal) ((c : Thread nD τ).loc main_v32)) (t : Fin cfg0.N) (r : Fin 512) (d : Fin 128) :
    (show EReal from ((cfg0.win 2).blk t).view.read (Elt Ideal) X (ix2 r d)) = (show EReal from X (ix2 ⟨t.val % 8 * 512 + r.val, by omega⟩ d)) := by
  blk_ext [idx t]

theorem rd3 (c : Dev nD) (X : Buf (Elt Ideal) ((c : Thread nD τ).loc main_v37)) (t : Fin cfg0.N) (r : Fin 512) (d : Fin 128) :
    (show EReal from ((cfg0.win 3).blk t).view.read (Elt Ideal) X (ix2 r d)) = (show EReal from X (ix2 ⟨t.val % 8 * 512 + r.val, by omega⟩ d)) := by
  blk_ext [idx t]

/-- The reference's result array, from the arrays the kernel takes. -/
abbrev REF (x0 : FVec Ideal S16384x5120 .bf16) (x1 : FVec Ideal S1x128 .f32) : FVec Ideal S16384x512 .bf16 :=
  Cert.KeysRefIdeal.Read.val_main_v67 (F := Ideal) x0 x1

open Cert.KeysRefIdeal.Read

/-- The reference's rotary cosine and sine. -/
theorem v29_at (s : Fin 4096) (p : Fin 2) (e : Fin 32) : val_main_v29 (F := Ideal) (ix3 s p e) = Ideal.cos (Num.ang s p e) := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, dite_eq_ite]
  rfl

theorem v30_at (s : Fin 4096) (p : Fin 2) (e : Fin 32) : val_main_v30 (F := Ideal) (ix3 s p e) = Ideal.sin (Num.ang s p e) := by
  pointwise [val_main_v30, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, dite_eq_ite]
  rfl

theorem v44_at (x0 : FVec Ideal S16384x5120 .bf16) (x1 : FVec Ideal S1x128 .f32) (b : Fin 4) (s : Fin 4096) (h : Fin 4) (d : Fin 128) :
    val_main_v44 (F := Ideal) x0 x1 (ix4 b s h d)
      = Num.nrm (fun d => x0 (ix2 ⟨b.val * 4096 + s.val, by omega⟩ ⟨4096 + (h.val * 128 + d.val), by omega⟩)) d * x1 (ix2 0 d) := by
  unfold Num.nrm
  pointwise [val_main_v44, val_main_v43, val_main_v42, val_main_v41, val_main_v40, val_main_v39, val_main_v38, val_main_v37, val_main_v36, val_main_v35, val_main_v34, val_main_v33, val_main_v32, val_main_v31, val_main_v2, val_main_v1, val_main_v0, val_main_cst_3, val_main_cst_4, val_main_cst_5]

theorem v65_at (x0 : FVec Ideal S16384x5120 .bf16) (x1 : FVec Ideal S1x128 .f32) (b : Fin 4) (s : Fin 4096) (h : Fin 4) (d : Fin 128) :
    val_main_v65 (F := Ideal) x0 x1 (ix4 b s h d)
      = Num.rrot (Num.nrm fun d => x0 (ix2 ⟨b.val * 4096 + s.val, by omega⟩ ⟨4096 + (h.val * 128 + d.val), by omega⟩)) (fun d => x1 (ix2 0 d)) s d := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, v29_at, v30_at, v44_at, dite_eq_ite]
  rfl

/-- The reference at an index. -/
theorem ref_at (x0 : FVec Ideal S16384x5120 .bf16) (x1 : FVec Ideal S1x128 .f32) (r : Fin 16384) (l : Fin 512) :
    REF x0 x1 (ix2 r l)
      = Num.rrot (Num.nrm fun d => x0 (ix2 r ⟨4096 + (l.val / 128 * 128 + d.val), by omega⟩)) (fun d => x1 (ix2 0 d)) (r.val % 4096) ⟨l.val % 128, Nat.mod_lt _ (by decide)⟩ := by
  have e : REF x0 x1 (ix2 r l) = val_main_v65 (F := Ideal) x0 x1 (ix4 ⟨r.val / 4096, by omega⟩ ⟨r.val % 4096, by omega⟩ ⟨l.val / 128, by omega⟩ ⟨l.val % 128, by omega⟩) := by
    unfold REF val_main_v67 val_main_v66
    generalize val_main_v65 (F := Ideal) x0 x1 = X
    pointwise []
  rw [e, v65_at]
  have f : r.val / 4096 * 4096 + r.val % 4096 = r.val := by omega
  simp only [f]

end Cert.KeysProof
end
-- ==== Proof.KeysFinal.lean ====
/- The keys: the whole result array, and the two programs' equal results. -/
module

public import proofs.«01_k».proof.Proof.Keys

@[expose] public section

set_option maxRecDepth 16384
set_option backward.isDefEq.respectTransparency.types false

noncomputable section

namespace Cert.KeysProof

open Idealize.ShloMosaic Idealize.ShloMosaic.TcCoe Idealize.SL.Sem
open Cert Cert.KeysIdeal Cert.KeysIdeal.Gen

variable (m : (ℓ : Loc nD τ sig) → Buf (Elt Ideal) ℓ)

theorem ent_congr {x x' g g' c c' s s' : Fin 128 → EReal} (d : Fin 128) (hx : ∀ d, x d = x' d) (hg : ∀ d, g d = g' d) (hc : ∀ d, c d = c' d) (hs : ∀ d, s d = s' d) :
    Num.rot (fun d => Num.nrm x d * g d) c s d = Num.rot (fun d => Num.nrm x' d * g' d) c' s' d := by
  rw [funext hx, funext hg, funext hc, funext hs]

theorem rrot_congr {n n' g g' : Fin 128 → EReal} {s s' : ℕ} {d d' : Fin 128} (hn : n = n') (hg : g = g') (hs : s = s') (hd : d = d') : Num.rrot n g s d = Num.rrot n' g' s' d' := by
  rw [hn, hg, hs, hd]

/-- The kernel's result array is the reference's. -/
theorem final (c : Dev nD) :
    (dats m 0 c).arrAt 4 cfg0.N = REF (m ((c : Thread nD τ).loc main_arg0)) (m ((c : Thread nD τ).loc main_arg1)) := by
  refine (dats m 0 c).arrAt_eq_of_covers 4 _ (by decide +kernel) fun t _ y => ?_
  blk_simp
  rw [after0_4]
  have ht : t.val < 32 := lt_of_lt_of_eq t.isLt N_0
  have hy0 : (y 0).val < 512 := (y 0).isLt
  have hy1 : (y 1).val < 512 := (y 1).isLt
  refine (out_at _ _ _ _ y (y 0) (y 1) rfl rfl).trans ?_
  have e := ref_at (m ((c : Thread nD τ).loc main_arg0)) (m ((c : Thread nD τ).loc main_arg1)) ⟨t.val * 512 + (y 0).val, by omega⟩ (y 1)
  generalize REF (m ((c : Thread nD τ).loc main_arg0)) (m ((c : Thread nD τ).loc main_arg1)) = A at e ⊢
  refine Eq.trans ?_ (e.symm.trans ?_)
  · refine (ent_congr _ (fun d => rd0 c (V m c main_arg0) t ht (y 0) _) (fun d => (rd1 c (V m c main_v4) t _).trans (gain_at m c _))
      (fun d => (rd2 c (V m c main_v32) t (y 0) d).trans (cos_at m c _ d)) (fun d => (rd3 c (V m c main_v37) t (y 0) d).trans (sin_at m c _ d))).trans ?_
    refine (rot_eq _ _ (t.val % 8 * 512 + (y 0).val) _).trans (rrot_congr ?_ ?_ ?_ rfl)
    · have hv : V m c main_arg0 = m ((c : Thread nD τ).loc main_arg0) := V_main_arg0 m c
      rw [hv]
    · funext d
      have f : ((y 1).val / 128 * 128 + d.val) % 128 = d.val := by omega
      simp only [f]
    · dsimp only; omega
  · blk_ext [idx t]

/-- Both programs run and end with the same result. -/
theorem algebraic : Cert.algebraic_KeysIdeal_KeysRefIdeal := by
  pair_intro
  · run_from Cert.KeysIdeal.Value.run_blocks m g
  · run_from Cert.KeysRefIdeal.Value.run m' g'
    rw [Cert.KeysRefIdeal.Read.val_main_v67_eq, (hagree c).1, (hagree c).2]
    exact (final m c).symm

end Cert.KeysProof
end
-- ==== Proof.CaQ.lean ====
/- The query projection of the cross attention. -/
module

public import proofs.«01_k».proof.Defs
public import proofs.«01_k».proof.Proof.Gen.CaQ.Frame
public import proofs.«01_k».proof.Proof.Gen.CaQIdeal.Value
public import proofs.«01_k».proof.Proof.Gen.CaQRefIdeal.Run
public import proofs.«01_k».proof.Proof.Gen.CaQRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.CaQProof

open Idealize.ShloMosaic Idealize.ShloMosaic.TcCoe Idealize.SL.Sem
open Cert.CaQIdeal Cert.CaQIdeal.Gen

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] := (by decide +kernel : ∀ t : Fin grid0.N, _)

/-- One point's block: the rows times the columns. -/
theorem pay_at (x0 : FVec Ideal S1024x4096 .bf16) (x1 : FVec Ideal S4096x512 .bf16) (r : Fin 1024) (l : Fin 512) :
    k0_pay1 x0 x1 (ix2 r l) = (∑ k : Fin 4096, x0 (ix2 r k) * x1 (ix2 k l)) * Ideal.ofBits FTy.f32 0x3D800000#32 := by
  pointwise [k0_pay1]

theorem out_at (x0 : FVec Ideal S1024x4096 .bf16) (x1 : FVec Ideal S4096x512 .bf16) (y : S1024x512.Idx) :
    out0_2 (F := Ideal) x0 x1 y = (∑ k : Fin 4096, x0 (ix2 (y 0) k) * x1 (ix2 k (y 1))) * Ideal.ofBits FTy.f32 0x3D800000#32 := by
  unfold out0_2
  frame_out
  idx_vars y
  exact pay_at x0 x1 y0 y1

abbrev REF (x0 : FVec Ideal S16384x4096 .bf16) (x1 : FVec Ideal S1x4096x1024 .f32) : FVec Ideal S16384x1024 .bf16 :=
  Cert.CaQRefIdeal.Read.val_main_v5 (F := Ideal) x0 x1

/-- The reference at an index. -/
theorem ref_at (x0 : FVec Ideal S16384x4096 .bf16) (x1 : FVec Ideal S1x4096x1024 .f32) (r : Fin 16384) (l : Fin 1024) :
    REF x0 x1 (ix2 r l) = (∑ k : Fin 4096, x0 (ix2 r k) * x1 (ix3 0 k l)) * Ideal.ofBits FTy.f32 0x3D800000#32 := by
  pointwise [REF, Cert.CaQRefIdeal.Read.val_main_cst, Cert.CaQRefIdeal.Read.val_main_v0, Cert.CaQRefIdeal.Read.val_main_v1, Cert.CaQRefIdeal.Read.val_main_v2, Cert.CaQRefIdeal.Read.val_main_v3, Cert.CaQRefIdeal.Read.val_main_v4, Cert.CaQRefIdeal.Read.val_main_v5]

/-- The kernel's weights, read at an index of the argument. -/
theorem w_at (c : Dev nD) (k : Fin 4096) (l : Fin 1024) :
    (show EReal from V m c main_v1 (ix2 k l)) = (show FVec Ideal S1x4096x1024 .f32 from m ((c : Thread nD τ).loc main_arg1)) (ix3 0 k l) := by
  entry_read
  pointwise []

/-- The kernel's result array is the reference's. -/
theorem final (c : Dev nD) :
    (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 32 := lt_of_lt_of_eq t.isLt N_0
  have hy0 : (y 0).val < 1024 := (y 0).isLt
  have hy1 : (y 1).val < 512 := (y 1).isLt
  refine (out_at _ _ y).trans ?_
  have e := ref_at (m ((c : Thread nD τ).loc main_arg0)) (m ((c : Thread nD τ).loc main_arg1)) ⟨t.val / 2 * 1024 + (y 0).val, by omega⟩ ⟨t.val % 2 * 512 + (y 1).val, by omega⟩
  generalize REF (m ((c : Thread nD τ).loc main_arg0)) (m ((c : Thread nD τ).loc main_arg1)) = A at e ⊢
  refine Eq.trans ?_ (e.symm.trans ?_)
  · refine congrArg (· * _) (Finset.sum_congr rfl fun k _ => congrArg₂ (· * ·) ?_ ?_)
    · blk_ext [iblk, V, idx t]
    · refine Eq.trans ?_ (w_at m c k ⟨t.val % 2 * 512 + (y 1).val, by omega⟩)
      blk_ext [iblk, idx t]
  · blk_ext [idx t]

/-- Both programs run and end with the same result. -/
theorem algebraic : Cert.algebraic_CaQIdeal_CaQRefIdeal := by
  pair_intro
  · run_from Cert.CaQIdeal.Value.run_blocks m g
  · run_from Cert.CaQRefIdeal.Value.run m' g'
    rw [Cert.CaQRefIdeal.Read.val_main_v5_eq]
    exact (final m c).symm

end Cert.CaQProof
end
-- ==== Proof.CaKv.lean ====
/- The keys and values of the cross attention, projected from the normalized memory. -/
module

public import proofs.«01_k».proof.Defs
public import proofs.«01_k».proof.Proof.Gen.CaKv.Frame
public import proofs.«01_k».proof.Proof.Gen.CaKvIdeal.Value
public import proofs.«01_k».proof.Proof.Gen.CaKvRefIdeal.Run
public import proofs.«01_k».proof.Proof.Gen.CaKvRefIdeal.Read
public import Idealize.ShloMosaic.Lib.Claim
public import Idealize.ShloMosaic.Lib.Pipeline.ValueKit
public import Idealize.ShloMosaic.Lib.Pointwise
public import Idealize.ShloMosaic.Lib.Pipeline.ReadBack

@[expose] public section

set_option maxRecDepth 16384

noncomputable section

namespace Cert.CaKvProof

open Idealize.ShloMosaic Idealize.ShloMosaic.TcCoe Idealize.SL.Sem
open Cert.CaKvIdeal Cert.CaKvIdeal.Gen

variable (m : (ℓ : Loc nD τ sig) → Buf (Elt Ideal) ℓ)

theorem idx : ∀ t : Fin cfg0.N, win0_0.index t = ![t.val / 4, 0] ∧ win0_1.index t = ![0, 0] ∧ win0_2.index t = ![0, t.val % 4] ∧ win0_3.index t = ![t.val / 4, t.val % 4] :=
  (by decide +kernel : ∀ t : Fin grid0.N, _)

/-- One entry of a normalized row. -/
def row (x : Fin 4096 → EReal) (g : EReal) (l : Fin 4096) : EReal :=
  x l * Ideal.rsqrt (Ideal.div (∑ k, x k * x k) (Ideal.ofBits FTy.f32 0x45800000#32) + Ideal.ofBits FTy.f32 0x358637BD#32) * g

/-- The rows that fill the scratch. -/
theorem pay1_at (x0 : FVec Ideal S512x4096 .f32) (x1 : FVec Ideal S1x4096 .f32) (r : Fin 512) (l : Fin 4096) :
    k0_pay1 (F := Ideal) x0 x1 (ix2 r l) = row (fun k => x0 (ix2 r k)) (x1 (ix2 0 l)) l := by
  unfold row
  pointwise [k0_pay1]

/-- The rows times the columns. -/
theorem pay2_at (x0 : FVec Ideal S512x4096 .bf16) (x1 : FVec Ideal S4096x512 .bf16) (y : S512x512.Idx) :
    k0_pay2 (F := Ideal) x0 x1 y = ∑ k : Fin 4096, x0 (ix2 (y 0) k) * x1 (ix2 k (y 1)) := by
  idx_vars y
  pointwise [k0_pay2]

/-- At the first column block the scratch is filled with the normalized rows. -/
theorem scr_A (c : Dev nD) (t : Fin cfg0.N) (h : t.val % 4 = 0) :
    (outsAt0 m c t.val t.isLt).2 = k0_pay1 (F := Ideal) (iblk m c 0 t) (iblk m c 1 t) := by
  funext z
  rw [outsAt0_A m c t h]
  dsimp only
  frame_out

/-- At the others it is what the point before left. -/
theorem scr_B (c : Dev nD) (t : Fin cfg0.N) (h : ¬ t.val % 4 = 0) :
    (outsAt0 m c t.val t.isLt).2 = (outsAt0 m c (t.val - 1) (Nat.lt_of_le_of_lt (Nat.sub_le _ _) t.isLt)).2 := by
  rw [outsAt0_B m c t h]
  rfl

theorem out_eq (c : Dev nD) (t : Fin cfg0.N) (y : S512x512.Idx) :
    (show EReal from (outsAt0 m c t.val t.isLt).1 y) = k0_pay2 (F := Ideal) (outsAt0 m c t.val t.isLt).2 (iblk m c 2 t) y := by
  by_cases h : t.val % 4 = 0
  · rw [scr_A m c t h, outsAt0_A m c t h]
    dsimp only
    frame_out
  · rw [scr_B m c t h, outsAt0_B m c t h]
    dsimp only
    frame_out
    rw [read_unread_whole]

/-- The memory row, as the kernel takes it. -/
abbrev mrow (x0 : FVec Ideal S4x256x4096 .f32) (r : Fin 1024) : Fin 4096 → EReal :=
  fun k => x0 (ix3 ⟨r.val / 256, by omega⟩ ⟨r.val % 256, by omega⟩ k)

theorem x_at (c : Dev nD) (r : Fin 1024) (k : Fin 4096) :
    (show EReal from V m c main_v0 (ix2 r k)) = mrow (m ((c : Thread nD τ).loc main_arg0)) r k := by
  entry_read
  pointwise []

theorem g_at (c : Dev nD) (l : Fin 4096) :
    (show EReal from V m c main_v4 (ix2 0 l)) = (show FVec Ideal S1x4096 .f32 from m ((c : Thread nD τ).loc main_arg1)) (ix2 0 l) := by
  entry_read
  pointwise []

theorem w_at (c : Dev nD) (k : Fin 4096) (l : Fin 2048) :
    (show EReal from V m c main_v3 (ix2 k l)) = (show FVec Ideal S1x4096x2048 .f32 from m ((c : Thread nD τ).loc main_arg2)) (ix3 0 k l) := by
  entry_read
  pointwise []

theorem rd0 (c : Dev nD) (X : Buf (Elt Ideal) ((c : Thread nD τ).loc main_v0)) (t : Fin cfg0.N) (ht : t.val < 8) (r : Fin 512) (k : Fin 4096) :
    (show EReal from ((cfg0.win 0).blk t).view.read (Elt Ideal) X (ix2 r k)) = (show EReal from X (ix2 ⟨t.val / 4 * 512 + r.val, by omega⟩ k)) := by
  blk_ext [idx t]

theorem rd1 (c : Dev nD) (X : Buf (Elt Ideal) ((c : Thread nD τ).loc main_v4)) (t : Fin cfg0.N) (k : Fin 4096) :
    (show EReal from ((cfg0.win 1).blk t).view.read (Elt Ideal) X (ix2 0 k)) = (show EReal from X (ix2 0 k)) := by
  blk_ext [idx t]

theorem rd2 (c : Dev nD) (X : Buf (Elt Ideal) ((c : Thread nD τ).loc main_v3)) (t : Fin cfg0.N) (ht : t.val < 8) (k : Fin 4096) (l : Fin 512) :
    (show EReal from ((cfg0.win 2).blk t).view.read (Elt Ideal) X (ix2 k l)) = (show EReal from X (ix2 k ⟨t.val % 4 * 512 + l.val, by omega⟩)) := by
  blk_ext [idx t]

theorem row_congr {x x' : Fin 4096 → EReal} {g g' : EReal} (l : Fin 4096) (h : ∀ k, x k = x' k) (hg : g = g') : row x g l = row x' g' l := by
  rw [funext h, hg]

/-- The scratch after any point: the row block, normalized. -/
theorem scr_at (c : Dev nD) (n : ℕ) (hn : n < cfg0.N) (h8 : n < 8) (r : Fin 512) (k : Fin 4096) :
    (show EReal from (outsAt0 m c n hn).2 (ix2 r k))
      = row (mrow (m ((c : Thread nD τ).loc main_arg0)) ⟨n / 4 * 512 + r.val, by omega⟩) ((show FVec Ideal S1x4096 .f32 from m ((c : Thread nD τ).loc main_arg1)) (ix2 0 k)) k := by
  have first : ∀ (t : Fin cfg0.N) (ht : t.val < 8), t.val % 4 = 0 → (show EReal from (outsAt0 m c t.val t.isLt).2 (ix2 r k))
      = row (mrow (m ((c : Thread nD τ).loc main_arg0)) ⟨t.val / 4 * 512 + r.val, by omega⟩) ((show FVec Ideal S1x4096 .f32 from m ((c : Thread nD τ).loc main_arg1)) (ix2 0 k)) k :=
    fun t ht h => (congrFun (scr_A m c t h) (ix2 r k)).trans ((pay1_at _ _ r k).trans
      (row_congr k (fun i => (rd0 c (V m c main_v0) t ht r i).trans (x_at m c _ i)) ((rd1 c (V m c main_v4) t k).trans (g_at m c k))))
  induction n with
  | zero => exact first ⟨0, hn⟩ h8 rfl
  | succ n ih =>
    by_cases h : (n + 1) % 4 = 0
    · exact first ⟨n + 1, hn⟩ h8 h
    · refine (congrFun (scr_B m c ⟨n + 1, hn⟩ h) (ix2 r k)).trans ((ih (by omega) (by omega) first).trans ?_)
      have e : n / 4 = (n + 1) / 4 := by omega
      simp only [e]

/-- The reference's result array, from the arrays the kernel takes. -/
abbrev REF (x0 : FVec Ideal S4x256x4096 .f32) (x1 : FVec Ideal S1x4096 .f32) (x2 : FVec Ideal S1x4096x2048 .f32) : FVec Ideal S1024x2048 .bf16 :=
  Cert.CaKvRefIdeal.Read.val_main_v17 (F := Ideal) x0 x1 x2

open Cert.CaKvRefIdeal.Read in
theorem n_at (x0 : FVec Ideal S4x256x4096 .f32) (x1 : FVec Ideal S1x4096 .f32) (b : Fin 4) (r : Fin 256) (l : Fin 4096) :
    val_main_v13 (F := Ideal) x0 x1 (ix3 b r l) = row (fun k => x0 (ix3 b r k)) (x1 (ix2 0 l)) l := by
  unfold row
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]

open Cert.CaKvRefIdeal.Read in
/-- The reference at an index. -/
theorem ref_at (x0 : FVec Ideal S4x256x4096 .f32) (x1 : FVec Ideal S1x4096 .f32) (x2 : FVec Ideal S1x4096x2048 .f32) (r : Fin 1024) (l : Fin 2048) :
    REF x0 x1 x2 (ix2 r l) = ∑ k : Fin 4096, row (mrow x0 r) (x1 (ix2 0 k)) k * x2 (ix3 0 k l) := by
  have e : REF x0 x1 x2 (ix2 r l) = ∑ k : Fin 4096, val_main_v13 (F := Ideal) x0 x1 (ix3 ⟨r.val / 256, by omega⟩ ⟨r.val % 256, by omega⟩ k) * x2 (ix3 0 k l) := by
    pointwise [REF, val_main_v14, val_main_v15, val_main_v16, val_main_v17]
  rw [e]
  exact Finset.sum_congr rfl fun k _ => congrArg (· * _) (n_at x0 x1 _ _ k)

/-- The kernel's result array is the reference's. -/
theorem final (c : Dev nD) :
    (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht : t.val < 8 := lt_of_lt_of_eq t.isLt N_0
  have hy0 : (y 0).val < 512 := (y 0).isLt
  have hy1 : (y 1).val < 512 := (y 1).isLt
  have e := ref_at (m ((c : Thread nD τ).loc main_arg0)) (m ((c : Thread nD τ).loc main_arg1)) (m ((c : Thread nD τ).loc main_arg2))
      ⟨t.val / 4 * 512 + (y 0).val, by omega⟩ ⟨t.val % 4 * 512 + (y 1).val, by omega⟩
  generalize REF (m ((c : Thread nD τ).loc main_arg0)) (m ((c : Thread nD τ).loc main_arg1)) (m ((c : Thread nD τ).loc main_arg2)) = A at e ⊢
  refine (out_eq m c t y).trans ?_
  refine Eq.trans ?_ (e.symm.trans ?_)
  · refine (pay2_at _ _ y).trans (Finset.sum_congr rfl fun k _ => congrArg₂ (· * ·) ?_ ?_)
    · exact scr_at m c t.val t.isLt ht (y 0) k
    · exact (rd2 c (V m c main_v3) t ht k (y 1)).trans (w_at m c k _)
  · blk_ext [idx t]

/-- Both programs run and end with the same result. -/
theorem algebraic : Cert.algebraic_CaKvIdeal_CaKvRefIdeal := by
  pair_intro
  · run_from Cert.CaKvIdeal.Value.run_blocks m g
  · run_from Cert.CaKvRefIdeal.Value.run m' g'
    rw [Cert.CaKvRefIdeal.Read.val_main_v17_eq]
    exact (final m c).symm

end Cert.CaKvProof
end
-- ==== Proof.Ca.lean ====
/- The attention over the memory: four heads of 256 lanes, each a softmax over the 256 memory rows. -/
module

public import proofs.«01_k».proof.Defs
public import proofs.«01_k».proof.Pre_finite_ca
public import proofs.«01_k».proof.Proof.Math
public import proofs.«01_k».proof.Proof.Attention
public import proofs.«01_k».proof.Proof.Gen.Ca.Frame
public import proofs.«01_k».proof.Proof.Gen.CaIdeal.Value
public import proofs.«01_k».proof.Proof.Gen.CaRefIdeal.Run
public import proofs.«01_k».proof.Proof.Gen.CaRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.CaProof

open Idealize.ShloMosaic Idealize.ShloMosaic.TcCoe Idealize.SL.Sem
open Cert.CaIdeal Cert.CaIdeal.Gen

/-- The side conditions of the precondition's own operations. -/
theorem preFacts : Cert.Pre_finite_ca.Facts := ⟨by decide, by decide, by decide, by decide⟩

instance : Cert.Pre_finite_ca.Facts := preFacts

/-- The score of a query row against memory row `t`. -/
def score (q : Fin 256 → EReal) (k : Fin 256 → Fin 256 → EReal) (t : Fin 256) : EReal := ∑ d : Fin 256, q d * k t d

/-- The weight of a memory row before the division. -/
def wt (S : Fin 256 → EReal) (t : Fin 256) : EReal := Ideal.exp (S t - Finset.univ.fold max ⊥ S)

/-- The kernel's entry: the weighted values, divided by the sum of the weights. -/
def kout (S v : Fin 256 → EReal) : EReal := Ideal.div (∑ t, wt S t * v t) (∑ t, wt S t)

theorem pay4_at (k : FVec Ideal S1x256x256 .bf16) (q : FVec Ideal S1x512x256 .bf16) (r : Fin 512) (j : Fin 256) :
    k0_pay4 (F := Ideal) k q (ix2 r j) = score (fun d => q (ix3 0 r d)) (fun t d => k (ix3 0 t d)) j := by
  unfold score
  pointwise [k0_pay4]

/-- The row maximum of an array of scores. -/
theorem pay5_at (k : FVec Ideal S1x256x256 .bf16) (q : FVec Ideal S1x512x256 .bf16) (r : Fin 512) :
    k0_pay5 (F := Ideal) k q (ix1 r) = Finset.univ.fold max ⊥ (score (fun d => q (ix3 0 r d)) (fun t d => k (ix3 0 t d))) := by
  have e : score (fun d => q (ix3 0 r d)) (fun t d => k (ix3 0 t d)) = fun j => k0_pay4 (F := Ideal) k q (ix2 r j) := funext fun j => (pay4_at k q r j).symm
  rw [e]
  unfold k0_pay5
  generalize k0_pay4 (F := Ideal) k q = X
  pointwise []
  rw [Cert.Num.ofBits_neg_inf]

theorem pay6_at (v : FVec Ideal S256x256 .bf16) (s : FVec Ideal S512x256 .f32) (x : FVec Ideal S512 .f32) (r : Fin 512) (d : Fin 256) :
    k0_pay6 (F := Ideal) v s x (ix3 0 r d) = Ideal.div (∑ t, Ideal.exp (s (ix2 r t) - x (ix1 r)) * v (ix2 t d)) (∑ t, Ideal.exp (s (ix2 r t) - x (ix1 r))) := by
  pointwise [k0_pay6]

theorem pay3_at (v : FVec Ideal S1x256x256 .bf16) (t d : Fin 256) : k0_pay3 (F := Ideal) v (ix2 t d) = v (ix3 0 t d) := by
  pointwise [k0_pay3]

/-- One head's tile, from its keys, values and queries. -/
def headT (k v : FVec Ideal S1x256x256 .bf16) (q : FVec Ideal S1x512x256 .bf16) : FVec Ideal S1x512x256 .bf16 :=
  k0_pay6 (F := Ideal) (k0_pay3 v) (k0_pay4 k q) (k0_pay5 k q)

theorem headT_at (k v : FVec Ideal S1x256x256 .bf16) (q : FVec Ideal S1x512x256 .bf16) (r : Fin 512) (d : Fin 256) :
    headT k v q (ix3 0 r d) = kout (score (fun d => q (ix3 0 r d)) (fun t d => k (ix3 0 t d))) (fun t => v (ix3 0 t d)) := by
  unfold headT
  rw [pay6_at, pay5_at]
  simp only [pay4_at, pay3_at]
  rfl

theorem head0 (k v : FVec Ideal S1x256x256 .bf16) (q : FVec Ideal S1x512x256 .bf16) : k0_pay2 (F := Ideal) k v q = headT k v q := rfl
theorem head2 (k v : FVec Ideal S1x256x256 .bf16) (q : FVec Ideal S1x512x256 .bf16) : k0_pay7 (F := Ideal) k v q = headT k v q := rfl
theorem head3 (k v : FVec Ideal S1x256x256 .bf16) (q : FVec Ideal S1x512x256 .bf16) : k0_pay1 (F := Ideal) k v q = headT k v q := rfl

/-- The entry of the block at row `r`, lane `l`: the head is `l / 256`. -/
abbrev ent (x0 : FVec Ideal S1x512x1024 .bf16) (x1 : FVec Ideal S1x256x2048 .bf16) (r : Fin 512) (l : Fin 1024) : EReal :=
  kout (score (fun d => x0 (ix3 0 r ⟨l.val / 256 * 256 + d.val, by omega⟩)) (fun t d => x1 (ix3 0 t ⟨l.val / 256 * 256 + d.val, by omega⟩)))
    (fun t => x1 (ix3 0 t ⟨1024 + l.val, by omega⟩))

/-- A head's tile, placed in its 256 lanes of the block. -/
theorem tile (x0 : FVec Ideal S1x512x1024 .bf16) (x1 : FVec Ideal S1x256x2048 .bf16) (r : Fin 512) (l : Fin 1024) (o : ℕ) (ho : o < 4)
    (Kt Vt : FVec Ideal S1x256x256 .bf16) (Y T : FVec Ideal S1x512x256 .bf16) (hT : T = headT Kt Vt Y)
    (hK : ∀ t d : Fin 256, Kt (ix3 0 t d) = x1 (ix3 0 t ⟨o * 256 + d.val, by omega⟩))
    (hV : ∀ t d : Fin 256, Vt (ix3 0 t d) = x1 (ix3 0 t ⟨1024 + (o * 256 + d.val), by omega⟩))
    (hY : ∀ (r : Fin 512) (d : Fin 256), Y (ix3 0 r d) = x0 (ix3 0 r ⟨o * 256 + d.val, by omega⟩))
    (j : S1x512x256.Idx) (h1 : r.val = (j 1).val) (h2 : l.val = o * 256 + (j 2).val) : T j = ent x0 x1 r l := by
  idx_vars j
  have ha : j0 = 0 := Subsingleton.elim _ _
  have hb : j1 = r := Fin.ext h1.symm
  have h2' : l.val = o * 256 + j2.val := h2
  have hj2 : j2.val < 256 := j2.isLt
  have ho' : l.val / 256 = o := by omega
  subst ha hb hT
  rw [headT_at]
  unfold ent
  simp only [hK, hV, hY, ho']
  simp only [h2']

/-- One point's result block. -/
theorem out_at (x0 : FVec Ideal S1x512x1024 .bf16) (x1 : FVec Ideal S1x256x2048 .bf16) (y : S1x512x1024.Idx) (r : Fin 512) (l : Fin 1024) (hr : r = y 1) (hl : l = y 2) :
    out0_2 (F := Ideal) x0 x1 y = ent x0 x1 r l := by
  have hr' : r.val = (y 1).val := congrArg Fin.val hr
  have hl' : l.val = (y 2).val := congrArg Fin.val hl
  unfold out0_2
  canon_tiles x h
  case piece0 => exact tile x0 x1 r l 3 (by decide) _ _ _ _ (head3 _ _ _) (fun t d => by pointwise; blk_ext) (fun t d => by pointwise; blk_ext) (fun r d => by pointwise; blk_ext) x (hr'.trans h1) (hl'.trans h2)
  case piece1 => exact tile x0 x1 r l 2 (by decide) _ _ _ _ (head2 _ _ _) (fun t d => by pointwise; blk_ext) (fun t d => by pointwise; blk_ext) (fun r d => by pointwise; blk_ext) x (hr'.trans h1) (hl'.trans h2)
  case piece2 => exact tile x0 x1 r l 1 (by decide) _ _ _ _ rfl (fun t d => by pointwise; blk_ext) (fun t d => by pointwise; blk_ext) (fun r d => by pointwise; blk_ext) x (hr'.trans h1) (hl'.trans h2)
  case piece3 => exact tile x0 x1 r l 0 (by decide) _ _ _ _ (head0 _ _ _) (fun t d => by pointwise; blk_ext) (fun t d => by pointwise; blk_ext) (fun r d => by pointwise; blk_ext) x (hr'.trans h1) (hl'.trans (h2.trans (by omega)))

variable (m : (ℓ : Loc nD τ sig) → Buf (Elt Ideal) ℓ)

theorem idx : ∀ t : Fin cfg0.N, win0_0.index t = ![t.val / 8, t.val % 8, 0] ∧ win0_1.index t = ![t.val / 8, 0, 0] ∧ win0_2.index t = ![t.val / 8, t.val % 8, 0] :=
  (by decide +kernel : ∀ t : Fin grid0.N, _)

theorem q_at (c : Dev nD) (b : Fin 4) (s : Fin 4096) (l : Fin 1024) :
    (show EReal from V m c main_v0 (ix3 b s l)) = (show FVec Ideal S16384x1024 .bf16 from m ((c : Thread nD τ).loc main_arg0)) (ix2 ⟨b.val * 4096 + s.val, by omega⟩ l) := by
  entry_read
  pointwise []

theorem kv_at (c : Dev nD) (b : Fin 4) (s : Fin 256) (l : Fin 2048) :
    (show EReal from V m c main_v1 (ix3 b s l)) = (show FVec Ideal S1024x2048 .bf16 from m ((c : Thread nD τ).loc main_arg1)) (ix2 ⟨b.val * 256 + s.val, by omega⟩ l) := by
  entry_read
  pointwise []

theorem rd0 (c : Dev nD) (X : Buf (Elt Ideal) ((c : Thread nD τ).loc main_v0)) (t : Fin cfg0.N) (ht : t.val < 32) (r : Fin 512) (l : Fin 1024) :
    (show EReal from ((cfg0.win 0).blk t).view.read (Elt Ideal) X (ix3 0 r l)) = (show EReal from X (ix3 ⟨t.val / 8, by omega⟩ ⟨t.val % 8 * 512 + r.val, by omega⟩ l)) := by
  blk_ext [idx t]

theorem rd1 (c : Dev nD) (X : Buf (Elt Ideal) ((c : Thread nD τ).loc main_v1)) (t : Fin cfg0.N) (ht : t.val < 32) (r : Fin 256) (l : Fin 2048) :
    (show EReal from ((cfg0.win 1).blk t).view.read (Elt Ideal) X (ix3 0 r l)) = (show EReal from X (ix3 ⟨t.val / 8, by omega⟩ r l)) := by
  blk_ext [idx t]

theorem ib0 (c : Dev nD) (t : Fin cfg0.N) (ht : t.val < 32) (r : Fin 512) (l : Fin 1024) :
    (show FVec Ideal S1x512x1024 .bf16 from iblk m c 0 t) (ix3 0 r l)
      = (show FVec Ideal S16384x1024 .bf16 from m ((c : Thread nD τ).loc main_arg0)) (ix2 ⟨t.val / 8 * 4096 + (t.val % 8 * 512 + r.val), by omega⟩ l) :=
  (rd0 c (V m c main_v0) t ht r l).trans (q_at m c _ _ l)

theorem ib1 (c : Dev nD) (t : Fin cfg0.N) (ht : t.val < 32) (r : Fin 256) (l : Fin 2048) :
    (show FVec Ideal S1x256x2048 .bf16 from iblk m c 1 t) (ix3 0 r l)
      = (show FVec Ideal S1024x2048 .bf16 from m ((c : Thread nD τ).loc main_arg1)) (ix2 ⟨t.val / 8 * 256 + r.val, by omega⟩ l) :=
  (rd1 c (V m c main_v1) t ht r l).trans (kv_at m c _ _ l)

/-- The reference's result array, from the arrays the kernel takes. -/
abbrev REF (x0 : FVec Ideal S16384x1024 .bf16) (x1 : FVec Ideal S1024x2048 .bf16) : FVec Ideal S4x4096x1024 .bf16 :=
  Cert.CaRefIdeal.Read.val_main_v23 (F := Ideal) x0 x1

/-- The scores of batch `b`, head `h`, row `s`. -/
abbrev sco (x0 : FVec Ideal S16384x1024 .bf16) (x1 : FVec Ideal S1024x2048 .bf16) (b h : Fin 4) (s : Fin 4096) : Fin 256 → EReal :=
  score (fun d => x0 (ix2 ⟨b.val * 4096 + s.val, by omega⟩ ⟨h.val * 256 + d.val, by omega⟩)) (fun t d => x1 (ix2 ⟨b.val * 256 + t.val, by omega⟩ ⟨h.val * 256 + d.val, by omega⟩))

open Cert.CaRefIdeal.Read

theorem v8_at (x0 : FVec Ideal S16384x1024 .bf16) (x1 : FVec Ideal S1024x2048 .bf16) (b h : Fin 4) (s : Fin 4096) (t : Fin 256) :
    val_main_v8 (F := Ideal) x0 x1 (ix4 b h s t) = sco x0 x1 b h s t := by
  unfold sco score
  pointwise [val_main_v8, val_main_v5, val_main_v4, val_main_v3, val_main_v2, val_main_v1, val_main_v0]

theorem v9_at (x0 : FVec Ideal S16384x1024 .bf16) (x1 : FVec Ideal S1024x2048 .bf16) (b h : Fin 4) (s : Fin 4096) :
    val_main_v9 (F := Ideal) x0 x1 (ix3 b h s) = Finset.univ.fold max (Ideal.ofBits FTy.f32 4286578688#32) (fun t => val_main_v8 (F := Ideal) x0 x1 (ix4 b h s t)) := by
  unfold val_main_v9
  generalize val_main_v8 (F := Ideal) x0 x1 = X
  pointwise [val_main_cst]

theorem v11_at (x0 : FVec Ideal S16384x1024 .bf16) (x1 : FVec Ideal S1024x2048 .bf16) (b h : Fin 4) (s : Fin 4096) :
    val_main_v11 (F := Ideal) x0 x1 (ix3 b h s) = max (Ideal.ofBits FTy.f32 4286578688#32) (val_main_v9 (F := Ideal) x0 x1 (ix3 b h s)) := by
  rw [val_main_v11_apply, val_main_v10_apply, val_main_cst_0_apply]; rfl

theorem v13_at (x0 : FVec Ideal S16384x1024 .bf16) (x1 : FVec Ideal S1024x2048 .bf16) (b h : Fin 4) (s : Fin 4096) (t : Fin 256) :
    val_main_v13 (F := Ideal) x0 x1 (ix4 b h s t) = val_main_v11 (F := Ideal) x0 x1 (ix3 b h s) := by
  unfold val_main_v13 val_main_v12
  generalize val_main_v11 (F := Ideal) x0 x1 = X
  pointwise []

/-- The exponential of a score less its row's maximum. -/
theorem v15_at (x0 : FVec Ideal S16384x1024 .bf16) (x1 : FVec Ideal S1024x2048 .bf16) (b h : Fin 4) (s : Fin 4096) (t : Fin 256) :
    val_main_v15 (F := Ideal) x0 x1 (ix4 b h s t) = wt (sco x0 x1 b h s) t := by
  have e : val_main_v15 (F := Ideal) x0 x1 (ix4 b h s t) = Ideal.exp (val_main_v8 (F := Ideal) x0 x1 (ix4 b h s t) - val_main_v13 (F := Ideal) x0 x1 (ix4 b h s t)) := by
    rw [val_main_v15_apply, val_main_v14_apply]; rfl
  have f : (fun t => val_main_v8 (F := Ideal) x0 x1 (ix4 b h s t)) = sco x0 x1 b h s := funext fun t => v8_at x0 x1 b h s t
  rw [e, v13_at, v11_at, v9_at, f, v8_at, Cert.Num.ofBits_neg_inf, max_eq_right bot_le]
  rfl

/-- The softmax weight. -/
theorem v19_at (x0 : FVec Ideal S16384x1024 .bf16) (x1 : FVec Ideal S1024x2048 .bf16) (b h : Fin 4) (s : Fin 4096) (t : Fin 256) :
    val_main_v19 (F := Ideal) x0 x1 (ix4 b h s t) = Ideal.div (wt (sco x0 x1 b h s) t) (∑ t, wt (sco x0 x1 b h s) t) := by
  have e : val_main_v19 (F := Ideal) x0 x1 (ix4 b h s t) = Ideal.div (val_main_v15 (F := Ideal) x0 x1 (ix4 b h s t)) (∑ t, val_main_v15 (F := Ideal) x0 x1 (ix4 b h s t)) := by
    unfold val_main_v19 val_main_v18 val_main_v17 val_main_v16
    generalize val_main_v15 (F := Ideal) x0 x1 = X
    pointwise [val_main_cst_1]
  rw [e]
  simp only [v15_at]

theorem v7_at (x1 : FVec Ideal S1024x2048 .bf16) (b h : Fin 4) (t : Fin 256) (d : Fin 256) :
    val_main_v7 (F := Ideal) x1 (ix4 b t h d) = x1 (ix2 ⟨b.val * 256 + t.val, by omega⟩ ⟨1024 + (h.val * 256 + d.val), by omega⟩) := by
  pointwise [val_main_v7, val_main_v6, val_main_v3, val_main_v2]
  simp only [Nat.add_assoc]

/-- The reference at an index. -/
theorem ref_at (x0 : FVec Ideal S16384x1024 .bf16) (x1 : FVec Ideal S1024x2048 .bf16) (b : Fin 4) (s : Fin 4096) (l : Fin 1024) :
    REF x0 x1 (ix3 b s l) = ∑ t : Fin 256, x1 (ix2 ⟨b.val * 256 + t.val, by omega⟩ ⟨1024 + l.val, by omega⟩)
      * Ideal.div (wt (sco x0 x1 b ⟨l.val / 256, by omega⟩ s) t) (∑ t, wt (sco x0 x1 b ⟨l.val / 256, by omega⟩ s) t) := by
  have e : REF x0 x1 (ix3 b s l) = ∑ t : Fin 256, val_main_v7 (F := Ideal) x1 (ix4 b t ⟨l.val / 256, by omega⟩ ⟨l.val % 256, by omega⟩) * val_main_v19 (F := Ideal) x0 x1 (ix4 b ⟨l.val / 256, by omega⟩ s t) := by
    unfold REF val_main_v23 val_main_v22 val_main_v21 val_main_v20
    generalize val_main_v7 (F := Ideal) x1 = X
    generalize val_main_v19 (F := Ideal) x0 x1 = Y
    pointwise []
  rw [e]
  refine Finset.sum_congr rfl fun t _ => congrArg₂ (· * ·) ((v7_at x1 b _ t _).trans ?_) (v19_at x0 x1 b _ s t)
  have f : l.val / 256 * 256 + l.val % 256 = l.val := by omega
  simp only [f]

theorem score_real (q : Fin 256 → EReal) (k : Fin 256 → Fin 256 → EReal) (hq : ∀ d, ∃ r : ℝ, q d = r) (hk : ∀ t d, ∃ r : ℝ, k t d = r) (t : Fin 256) : ∃ r : ℝ, score q k t = r := by
  choose Q hQ using hq
  choose K hK using hk t
  refine ⟨∑ d, Q d * K d, ?_⟩
  unfold score
  rw [Cert.Num.coe_sum]
  exact Finset.sum_congr rfl fun d _ => by rw [hQ, hK, EReal.coe_mul]

theorem kout_congr {S S' v v' : Fin 256 → EReal} (h : S = S') (h' : ∀ t, v t = v' t) : kout S v = kout S' v' := by
  rw [h, funext h']

theorem score_congr {q q' : Fin 256 → EReal} {k k' : Fin 256 → Fin 256 → EReal} (h : ∀ d, q d = q' d) (h' : ∀ t d, k t d = k' t d) : score q k = score q' k' := by
  rw [funext h, funext fun t => funext (h' t)]

/-- The kernel's result array is the reference's, for finite queries and keys. -/
theorem final (c : Dev nD)
    (hq : ∀ i, ∃ r : ℝ, (show FVec Ideal S16384x1024 .bf16 from m ((c : Thread nD τ).loc main_arg0)) i = (r : EReal))
    (hk : ∀ (s : Fin 1024) (l : Fin 1024), ∃ r : ℝ, (show FVec Ideal S1024x2048 .bf16 from m ((c : Thread nD τ).loc main_arg1)) (ix2 s ⟨l.val, by omega⟩) = (r : EReal)) :
    (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 32 := lt_of_lt_of_eq t.isLt N_0
  have hy1 : (y 1).val < 512 := (y 1).isLt
  have hy2 : (y 2).val < 1024 := (y 2).isLt
  refine (out_at _ _ y (y 1) (y 2) rfl rfl).trans ?_
  refine (kout_congr (score_congr (fun d => ib0 m c t ht (y 1) _) (fun s d => ib1 m c t ht s _)) (fun s => ib1 m c t ht s _)).trans ?_
  refine (Cert.Num.softmax_div _ (score_real _ _ (fun d => hq _) (fun s d => hk _ ⟨(y 2).val / 256 * 256 + d.val, by omega⟩)) _).trans ?_
  have e := ref_at (m ((c : Thread nD τ).loc main_arg0)) (m ((c : Thread nD τ).loc main_arg1)) ⟨t.val / 8, by omega⟩ ⟨t.val % 8 * 512 + (y 1).val, by omega⟩ (y 2)
  generalize REF (m ((c : Thread nD τ).loc main_arg0)) (m ((c : Thread nD τ).loc main_arg1)) = A at e ⊢
  refine Eq.trans ?_ (e.symm.trans ?_)
  · rfl
  · blk_ext [idx t]

theorem q_finite (h : Cert.Pre_CaIdeal_finite_ca m) (c : Dev nD) :
    ∀ i, ∃ r : ℝ, (show FVec Ideal S16384x1024 .bf16 from m ((c.tc : Thread nD τ).loc main_arg0)) i = (r : EReal) :=
  fun i => Cert.Attn.real_of_cmp _ (congrFun (h c).1 i)

theorem k_finite (h : Cert.Pre_CaIdeal_finite_ca m) (c : Dev nD) (s : Fin 1024) (l : Fin 1024) :
    ∃ r : ℝ, (show FVec Ideal S1024x2048 .bf16 from m ((c.tc : Thread nD τ).loc main_arg1)) (ix2 s ⟨l.val, by omega⟩) = (r : EReal) := by
  refine Cert.Attn.real_of_cmp _ ?_
  refine Eq.trans ?_ (congrFun (h c).2 (ix2 s l))
  generalize m ((c.tc : Thread nD τ).loc main_arg1) = X
  pointwise [Cert.Pre_finite_ca.fn]
  rfl

/-- Both programs run and end with the same result. -/
theorem algebraic : Cert.algebraic_CaIdeal_CaRefIdeal_pre_finite_ca := by
  pair_intro
  · run_from Cert.CaIdeal.Value.run_blocks m g
  · run_from Cert.CaRefIdeal.Value.run m' g'
    rw [Cert.CaRefIdeal.Read.val_main_v23_eq]
    exact (final m c (q_finite m hpre c) (k_finite m hpre c)).symm

end Cert.CaProof
end
-- ==== Proof.CaOut.lean ====
/- The output projection of the cross attention with the residual. -/
module

public import proofs.«01_k».proof.Defs
public import proofs.«01_k».proof.Proof.Gen.CaOut.Frame
public import proofs.«01_k».proof.Proof.Gen.CaOutIdeal.Value
public import proofs.«01_k».proof.Proof.Gen.CaOutRefIdeal.Run
public import proofs.«01_k».proof.Proof.Gen.CaOutRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.CaOutProof

open Idealize.ShloMosaic Idealize.ShloMosaic.TcCoe Idealize.SL.Sem
open Cert.CaOutIdeal Cert.CaOutIdeal.Gen

variable (m : (ℓ : Loc nD τ sig) → Buf (Elt Ideal) ℓ)

theorem idx : ∀ t : Fin cfg0.N, win0_0.index t = ![t.val / 8, 0] ∧ win0_1.index t = ![0, t.val % 8] ∧ win0_2.index t = ![t.val / 8, t.val % 8] ∧ win0_3.index t = ![t.val / 8, t.val % 8] := (by decide +kernel : ∀ t : Fin grid0.N, _)

/-- One point's block: the rows times the columns. -/
theorem pay_at (x0 : FVec Ideal S1024x1024 .bf16) (x1 : FVec Ideal S1024x512 .bf16) (x2 : FVec Ideal S1024x512 .f32) (r : Fin 1024) (l : Fin 512) :
    k0_pay1 x0 x1 x2 (ix2 r l) = x2 (ix2 r l) + ∑ k : Fin 1024, x0 (ix2 r k) * x1 (ix2 k l) := by
  pointwise [k0_pay1]

theorem out_at (x0 : FVec Ideal S1024x1024 .bf16) (x1 : FVec Ideal S1024x512 .bf16) (x2 : FVec Ideal S1024x512 .f32) (y : S1024x512.Idx) :
    out0_3 (F := Ideal) x0 x1 x2 y = x2 (ix2 (y 0) (y 1)) + ∑ k : Fin 1024, x0 (ix2 (y 0) k) * x1 (ix2 k (y 1)) := by
  unfold out0_3
  frame_out
  idx_vars y
  exact pay_at x0 x1 x2 y0 y1

abbrev REF (x0 : FVec Ideal S16384x1024 .bf16) (x1 : FVec Ideal S1x1024x4096 .f32) (x2 : FVec Ideal S16384x4096 .f32) : FVec Ideal S16384x4096 .f32 :=
  Cert.CaOutRefIdeal.Read.val_main_v3 (F := Ideal) x0 x1 x2

/-- The reference at an index. -/
theorem ref_at (x0 : FVec Ideal S16384x1024 .bf16) (x1 : FVec Ideal S1x1024x4096 .f32) (x2 : FVec Ideal S16384x4096 .f32) (r : Fin 16384) (l : Fin 4096) :
    REF x0 x1 x2 (ix2 r l) = x2 (ix2 r l) + ∑ k : Fin 1024, x0 (ix2 r k) * x1 (ix3 0 k l) := by
  pointwise [REF, Cert.CaOutRefIdeal.Read.val_main_v0, Cert.CaOutRefIdeal.Read.val_main_v1, Cert.CaOutRefIdeal.Read.val_main_v2, Cert.CaOutRefIdeal.Read.val_main_v3]

/-- The kernel's weights, read at an index of the argument. -/
theorem w_at (c : Dev nD) (k : Fin 1024) (l : Fin 4096) :
    (show EReal from V m c main_v1 (ix2 k l)) = (show FVec Ideal S1x1024x4096 .f32 from m ((c : Thread nD τ).loc main_arg1)) (ix3 0 k l) := by
  entry_read
  pointwise []

/-- The kernel's result array is the reference's. -/
theorem final (c : Dev nD) :
    (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht : t.val < 128 := lt_of_lt_of_eq t.isLt N_0
  have hy0 : (y 0).val < 1024 := (y 0).isLt
  have hy1 : (y 1).val < 512 := (y 1).isLt
  refine (out_at _ _ _ y).trans ?_
  have e := ref_at (m ((c : Thread nD τ).loc main_arg0)) (m ((c : Thread nD τ).loc main_arg1)) (m ((c : Thread nD τ).loc main_arg2)) ⟨t.val / 8 * 1024 + (y 0).val, by omega⟩ ⟨t.val % 8 * 512 + (y 1).val, by omega⟩
  generalize REF (m ((c : Thread nD τ).loc main_arg0)) (m ((c : Thread nD τ).loc main_arg1)) (m ((c : Thread nD τ).loc main_arg2)) = A at e ⊢
  refine Eq.trans ?_ (e.symm.trans ?_)
  · refine congrArg₂ (· + ·) ?_ (Finset.sum_congr rfl fun k _ => congrArg₂ (· * ·) ?_ ?_)
    · blk_ext [iblk, V, idx t]
    · blk_ext [iblk, V, idx t]
    · refine Eq.trans ?_ (w_at m c k ⟨t.val % 8 * 512 + (y 1).val, by omega⟩)
      blk_ext [iblk, idx t]
  · blk_ext [idx t]

/-- Both programs run and end with the same result. -/
theorem algebraic : Cert.algebraic_CaOutIdeal_CaOutRefIdeal := by
  pair_intro
  · run_from Cert.CaOutIdeal.Value.run_blocks m g
  · run_from Cert.CaOutRefIdeal.Value.run m' g'
    rw [Cert.CaOutRefIdeal.Read.val_main_v3_eq]
    exact (final m c).symm

end Cert.CaOutProof
end
-- ==== Proof.RouteLoop.lean ====
/- The loop of the expert routing: what its trips store of the scores. -/
module

public import proofs.«01_k».proof.Defs
public import proofs.«01_k».proof.Proof.Gen.Route.Frame
public import proofs.«01_k».proof.Proof.Gen.RouteIdeal.Value
public import proofs.«01_k».proof.Proof.Gen.RouteRefIdeal.Run
public import proofs.«01_k».proof.Proof.Gen.RouteRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.RouteProof

open Idealize.ShloMosaic Idealize.ShloMosaic.TcCoe Idealize.SL.Sem
open Cert.RouteIdeal Cert.RouteIdeal.Gen

/-- The scores of one head and one half: the keys `v` times the columns of the projected rows `Z` that start at row `o` of the head. -/
def sc (v : FVec Ideal S128x128 .f32) (Z : FVec Ideal S2048x256 .f32) (o : ℕ) (h : o ≤ 128) (y : S8x128x256.Idx) : EReal :=
  ∑ d : Fin 128, v (ix2 (y 1) d) * Z (ix2 ⟨(y 0).val * 256 + o + d.val, by have := (y 0).isLt; have e : S8x128x256.size 0 = 8 := rfl; omega⟩ (y 2))

theorem off1 : ∀ k : Fin k0_t1_loop.trips, k0_off1 k = ![k.val * 256 + 0, 0] ∧ k0_off2 k = ![k.val * 256 + 128, 0] ∧ k0_off3 k = ![k.val, 0, 0]
    ∧ k0_off5 k = ![k.val * 256 + 0, 128] ∧ k0_off6 k = ![k.val * 256 + 128, 128] ∧ k0_off7 k = ![k.val, 0, 128] := by decide +kernel

theorem trips : k0_t1_loop.trips = 8 := by decide +kernel

theorem p5 (v w : FVec Ideal S128x128 .f32) (x : S1x128x128.Idx) : k0_pay1022 (F := Ideal) (k0_pay3 v w) x = ∑ d : Fin 128, v (ix2 (x 1) d) * w (ix2 d (x 2)) := by
  idx_vars x
  pointwise [k0_pay1022, k0_pay3]

theorem p5' (v w : FVec Ideal S128x128 .f32) (x : S1x128x128.Idx) : k0_pay2038 (F := Ideal) (k0_pay1028 v w) x = ∑ d : Fin 128, v (ix2 (x 1) d) * w (ix2 d (x 2)) := by
  idx_vars x
  pointwise [k0_pay2038, k0_pay1028]

theorem p6 (v w : FVec Ideal S128x128 .f32) (x : S1x128x128.Idx) : k0_pay1023 (F := Ideal) (k0_pay4 v w) x = ∑ d : Fin 128, v (ix2 (x 1) d) * w (ix2 d (x 2)) := by
  idx_vars x
  pointwise [k0_pay1023, k0_pay4]

theorem p6' (v w : FVec Ideal S128x128 .f32) (x : S1x128x128.Idx) : k0_pay2039 (F := Ideal) (k0_pay1029 v w) x = ∑ d : Fin 128, v (ix2 (x 1) d) * w (ix2 d (x 2)) := by
  idx_vars x
  pointwise [k0_pay2039, k0_pay1029]

theorem in3 (j k : ℕ) (off : Fin 3 → ℕ) (e : off = ![k, 0, j]) (hj : j ≤ 128) (hk : k < 8) (a : Fin 3) : off a + S1x128x128.size a ≤ S8x128x256.size a := by
  subst e
  fin_cases a
  · show k + 1 ≤ 8
    omega
  · show 0 + 128 ≤ 128
    omega
  · show j + 128 ≤ 256
    omega

theorem in2 (j k o : ℕ) (off : Fin 2 → ℕ) (e : off = ![k * 256 + o, j]) (hj : j ≤ 128) (ho : o ≤ 128) (hk : k < 8) (a : Fin 2) : off a + S128x128.size a ≤ S2048x256.size a := by
  subst e
  fin_cases a
  · show k * 256 + o + 128 ≤ 2048
    omega
  · show j + 128 ≤ 256
    omega

/-- A tile of scores at its place in the block. -/
theorem tile (v : FVec Ideal S128x128 .f32) (Z : FVec Ideal S2048x256 .f32) (o : ℕ) (h : o ≤ 128) (j : ℕ) (k : ℕ) (off : Fin 3 → ℕ) (off' : Fin 2 → ℕ)
    (e : off = ![k, 0, j]) (e' : off' = ![k * 256 + o, j]) (inb : ∀ a, off a + S1x128x128.size a ≤ S8x128x256.size a) (inb' : ∀ a, off' a + S128x128.size a ≤ S2048x256.size a)
    (x : (Rect.unit (s := S8x128x256) off S1x128x128.size inb).shape.Idx) :
    (∑ d : Fin 128, v (ix2 (x 1) d) * Z ((Rect.unit (s := S2048x256) off' S128x128.size inb').idx (ix2 d (x 2)))) = sc v Z o h ((Rect.unit (s := S8x128x256) off S1x128x128.size inb).emb x) := by
  subst e e'
  unfold sc
  refine Finset.sum_congr rfl fun d _ => congrArg₂ (· * ·) (congrArg v ?_) (congrArg Z ?_)
  · funext a
    fin_cases a
    · apply Fin.ext
      show (x 1).val = 0 + 1 * (x 1).val
      omega
    · rfl
  · have hx : (x 0).val < 1 := (x 0).isLt
    funext a
    fin_cases a
    · apply Fin.ext
      show k * 256 + o + 1 * d.val = (k + 1 * (x 0).val) * 256 + o + d.val
      omega
    · apply Fin.ext
      rfl

/-- The tile's places. -/
theorem mem (j k : ℕ) (off : Fin 3 → ℕ) (e : off = ![k, 0, j]) (inb : ∀ a, off a + S1x128x128.size a ≤ S8x128x256.size a) (y : S8x128x256.Idx) (h0 : (y 0).val = k)
    (h2 : j ≤ (y 2).val) (h3 : (y 2).val < j + 128) : y ∈ (Rect.unit (s := S8x128x256) off S1x128x128.size inb).set := by
  subst e
  have hy1 : (y 1).val < 128 := (y 1).isLt
  refine Rect.mem_set_unit.mpr fun a => ?_
  fin_cases a
  · exact ⟨h0.ge, by show (y 0).val < k + 1; omega⟩
  · exact ⟨Nat.zero_le _, by show (y 1).val < 0 + 128; omega⟩
  · exact ⟨h2, h3⟩

/-- What one trip stores: tiles of the scores. -/
theorem trip5 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) (k : Fin k0_t1_loop.trips) :
    ∀ p ∈ (trip_k0_t1 (F := Ideal) 𝒱 c bd i a1 h1 a2 h2 a3 h3 a4 h4 a5 h5 a6 h6 a7 h7 a8 h8 a9 h9 a10 h10 a11 h11 a12 h12 v29 v31 c0 c1 X k).1, ∀ x : p.1.shape.Idx, p.2 x = sc v29 (a12.view.read (Elt Ideal) X) 0 (by omega) (p.1.emb x) := by
  unfold trip_k0_t1
  dsimp only
  intro p hp
  have hk : k.val < 8 := lt_of_lt_of_eq k.isLt trips
  rcases List.mem_cons.mp hp with rfl | hp
  · exact fun x => (p5' _ _ x).trans (tile _ _ _ _ 128 k.val _ _ (off1 k).2.2.2.2.2 (off1 k).2.2.2.1 (in3 128 k.val _ (off1 k).2.2.2.2.2 (by omega) hk) (in2 128 k.val 0 _ (off1 k).2.2.2.1 (by omega) (by omega) hk) x)
  · rcases List.mem_singleton.mp hp with rfl
    exact fun x => (p5 _ _ x).trans (tile _ _ _ _ 0 k.val _ _ (off1 k).2.2.1 (off1 k).1 (in3 0 k.val _ (off1 k).2.2.1 (by omega) hk) (in2 0 k.val 0 _ (off1 k).1 (by omega) (by omega) hk) x)

/-- One trip covers its head. -/
theorem cover5 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) (k : Fin k0_t1_loop.trips) (y : S8x128x256.Idx) (h : (y 0).val = k.val) :
    ∃ p ∈ (trip_k0_t1 (F := Ideal) 𝒱 c bd i a1 h1 a2 h2 a3 h3 a4 h4 a5 h5 a6 h6 a7 h7 a8 h8 a9 h9 a10 h10 a11 h11 a12 h12 v29 v31 c0 c1 X k).1, y ∈ p.1.set := by
  unfold trip_k0_t1
  dsimp only
  have hk : k.val < 8 := lt_of_lt_of_eq k.isLt trips
  have hy2 : (y 2).val < 256 := (y 2).isLt
  by_cases hl : (y 2).val < 128
  · exact ⟨_, List.mem_cons_of_mem _ (List.mem_singleton_self _), mem 0 k.val _ (off1 k).2.2.1 (in3 0 k.val _ (off1 k).2.2.1 (by omega) hk) y h (Nat.zero_le _) (by omega)⟩
  · exact ⟨_, List.mem_cons_self, mem 128 k.val _ (off1 k).2.2.2.2.2 (in3 128 k.val _ (off1 k).2.2.2.2.2 (by omega) hk) y h (by omega) (by omega)⟩

/-- So do all the trips before the n-th. -/
theorem all5 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) : ∀ n : ℕ, n ≤ 8 →
    (∀ p ∈ (pb_k0_t1 (F := Ideal) 𝒱 c bd i a1 h1 a2 h2 a3 h3 a4 h4 a5 h5 a6 h6 a7 h7 a8 h8 a9 h9 a10 h10 a11 h11 a12 h12 v29 v31 c0 c1 X n).1, ∀ x : p.1.shape.Idx, p.2 x = sc v29 (a12.view.read (Elt Ideal) X) 0 (by omega) (p.1.emb x))
    ∧ (∀ y : S8x128x256.Idx, (y 0).val < n → ∃ p ∈ (pb_k0_t1 (F := Ideal) 𝒱 c bd i a1 h1 a2 h2 a3 h3 a4 h4 a5 h5 a6 h6 a7 h7 a8 h8 a9 h9 a10 h10 a11 h11 a12 h12 v29 v31 c0 c1 X n).1, y ∈ p.1.set)
  | 0, _ => by
    rw [pb_k0_t1.eq_1]
    exact ⟨fun p hp => absurd hp List.not_mem_nil, fun y h => absurd h (Nat.not_lt_zero _)⟩
  | n + 1, hn => by
    have ih := all5 𝒱 c bd i a1 h1 a2 h2 a3 h3 a4 h4 a5 h5 a6 h6 a7 h7 a8 h8 a9 h9 a10 h10 a11 h11 a12 h12 v29 v31 c0 c1 X n (by omega)
    have hs := pb_k0_t1_succ (F := Ideal) 𝒱 c bd i a1 h1 a2 h2 a3 h3 a4 h4 a5 h5 a6 h6 a7 h7 a8 h8 a9 h9 a10 h10 a11 h11 a12 h12 v29 v31 c0 c1 X ⟨n, by rw [trips]; omega⟩
    dsimp only at hs
    rw [hs]
    dsimp only
    refine ⟨fun p hp => ?_, fun y hy => ?_⟩
    · rcases List.mem_append.mp hp with hp | hp
      · exact trip5 𝒱 c bd i a1 h1 a2 h2 a3 h3 a4 h4 a5 h5 a6 h6 a7 h7 a8 h8 a9 h9 a10 h10 a11 h11 a12 h12 v29 v31 c0 c1 X _ p hp
      · exact ih.1 p hp
    · by_cases he : (y 0).val = n
      · obtain ⟨p, hp, h⟩ := cover5 𝒱 c bd i a1 h1 a2 h2 a3 h3 a4 h4 a5 h5 a6 h6 a7 h7 a8 h8 a9 h9 a10 h10 a11 h11 a12 h12 v29 v31 c0 c1 X ⟨n, by rw [trips]; omega⟩ y he
        exact ⟨p, List.mem_append_left _ hp, h⟩
      · obtain ⟨p, hp, h⟩ := ih.2 y (by omega)
        exact ⟨p, List.mem_append_right _ hp, h⟩

/-- What one trip stores: tiles of the scores. -/
theorem trip6 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) (k : Fin k0_t1_loop.trips) :
    ∀ p ∈ (trip_k0_t1 (F := Ideal) 𝒱 c bd i a1 h1 a2 h2 a3 h3 a4 h4 a5 h5 a6 h6 a7 h7 a8 h8 a9 h9 a10 h10 a11 h11 a12 h12 v29 v31 c0 c1 X k).2.1, ∀ x : p.1.shape.Idx, p.2 x = sc v31 (a12.view.read (Elt Ideal) X) 128 (by omega) (p.1.emb x) := by
  unfold trip_k0_t1
  dsimp only
  intro p hp
  have hk : k.val < 8 := lt_of_lt_of_eq k.isLt trips
  rcases List.mem_cons.mp hp with rfl | hp
  · exact fun x => (p6' _ _ x).trans (tile _ _ _ _ 128 k.val _ _ (off1 k).2.2.2.2.2 (off1 k).2.2.2.2.1 (in3 128 k.val _ (off1 k).2.2.2.2.2 (by omega) hk) (in2 128 k.val 128 _ (off1 k).2.2.2.2.1 (by omega) (by omega) hk) x)
  · rcases List.mem_singleton.mp hp with rfl
    exact fun x => (p6 _ _ x).trans (tile _ _ _ _ 0 k.val _ _ (off1 k).2.2.1 (off1 k).2.1 (in3 0 k.val _ (off1 k).2.2.1 (by omega) hk) (in2 0 k.val 128 _ (off1 k).2.1 (by omega) (by omega) hk) x)

/-- One trip covers its head. -/
theorem cover6 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) (k : Fin k0_t1_loop.trips) (y : S8x128x256.Idx) (h : (y 0).val = k.val) :
    ∃ p ∈ (trip_k0_t1 (F := Ideal) 𝒱 c bd i a1 h1 a2 h2 a3 h3 a4 h4 a5 h5 a6 h6 a7 h7 a8 h8 a9 h9 a10 h10 a11 h11 a12 h12 v29 v31 c0 c1 X k).2.1, y ∈ p.1.set := by
  unfold trip_k0_t1
  dsimp only
  have hk : k.val < 8 := lt_of_lt_of_eq k.isLt trips
  have hy2 : (y 2).val < 256 := (y 2).isLt
  by_cases hl : (y 2).val < 128
  · exact ⟨_, List.mem_cons_of_mem _ (List.mem_singleton_self _), mem 0 k.val _ (off1 k).2.2.1 (in3 0 k.val _ (off1 k).2.2.1 (by omega) hk) y h (Nat.zero_le _) (by omega)⟩
  · exact ⟨_, List.mem_cons_self, mem 128 k.val _ (off1 k).2.2.2.2.2 (in3 128 k.val _ (off1 k).2.2.2.2.2 (by omega) hk) y h (by omega) (by omega)⟩

/-- So do all the trips before the n-th. -/
theorem all6 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) : ∀ n : ℕ, n ≤ 8 →
    (∀ p ∈ (pb_k0_t1 (F := Ideal) 𝒱 c bd i a1 h1 a2 h2 a3 h3 a4 h4 a5 h5 a6 h6 a7 h7 a8 h8 a9 h9 a10 h10 a11 h11 a12 h12 v29 v31 c0 c1 X n).2.1, ∀ x : p.1.shape.Idx, p.2 x = sc v31 (a12.view.read (Elt Ideal) X) 128 (by omega) (p.1.emb x))
    ∧ (∀ y : S8x128x256.Idx, (y 0).val < n → ∃ p ∈ (pb_k0_t1 (F := Ideal) 𝒱 c bd i a1 h1 a2 h2 a3 h3 a4 h4 a5 h5 a6 h6 a7 h7 a8 h8 a9 h9 a10 h10 a11 h11 a12 h12 v29 v31 c0 c1 X n).2.1, y ∈ p.1.set)
  | 0, _ => by
    rw [pb_k0_t1.eq_1]
    exact ⟨fun p hp => absurd hp List.not_mem_nil, fun y h => absurd h (Nat.not_lt_zero _)⟩
  | n + 1, hn => by
    have ih := all6 𝒱 c bd i a1 h1 a2 h2 a3 h3 a4 h4 a5 h5 a6 h6 a7 h7 a8 h8 a9 h9 a10 h10 a11 h11 a12 h12 v29 v31 c0 c1 X n (by omega)
    have hs := pb_k0_t1_succ (F := Ideal) 𝒱 c bd i a1 h1 a2 h2 a3 h3 a4 h4 a5 h5 a6 h6 a7 h7 a8 h8 a9 h9 a10 h10 a11 h11 a12 h12 v29 v31 c0 c1 X ⟨n, by rw [trips]; omega⟩
    dsimp only at hs
    rw [hs]
    dsimp only
    refine ⟨fun p hp => ?_, fun y hy => ?_⟩
    · rcases List.mem_append.mp hp with hp | hp
      · exact trip6 𝒱 c bd i a1 h1 a2 h2 a3 h3 a4 h4 a5 h5 a6 h6 a7 h7 a8 h8 a9 h9 a10 h10 a11 h11 a12 h12 v29 v31 c0 c1 X _ p hp
      · exact ih.1 p hp
    · by_cases he : (y 0).val = n
      · obtain ⟨p, hp, h⟩ := cover6 𝒱 c bd i a1 h1 a2 h2 a3 h3 a4 h4 a5 h5 a6 h6 a7 h7 a8 h8 a9 h9 a10 h10 a11 h11 a12 h12 v29 v31 c0 c1 X ⟨n, by rw [trips]; omega⟩ y he
        exact ⟨p, List.mem_append_left _ hp, h⟩
      · obtain ⟨p, hp, h⟩ := ih.2 y (by omega)
        exact ⟨p, List.mem_append_right _ hp, h⟩

end Cert.RouteProof
end
-- ==== Proof.Route.lean ====
/- The scores of the expert routing: the value of the kernel's first two result arrays. -/
module

public import proofs.«01_k».proof.Defs
public import proofs.«01_k».proof.Proof.Gen.Route.Frame
public import proofs.«01_k».proof.Proof.Gen.RouteIdeal.Value
public import proofs.«01_k».proof.Proof.Gen.RouteRefIdeal.Run
public import proofs.«01_k».proof.Proof.Gen.RouteRefIdeal.Read
public import proofs.«01_k».proof.Proof.RouteLoop
public import Idealize.ShloMosaic.Lib.Claim
public import Idealize.ShloMosaic.Lib.Pipeline.ValueKit
public import Idealize.ShloMosaic.Lib.Pointwise

@[expose] public section

set_option maxRecDepth 16384
set_option maxHeartbeats 2000000

noncomputable section

namespace Cert.RouteProof

open Idealize.ShloMosaic Idealize.ShloMosaic.TcCoe Idealize.SL.Sem
open Cert.RouteIdeal Cert.RouteIdeal.Gen

variable (m : (ℓ : Loc nD τ sig) → Buf (Elt Ideal) ℓ)

/-- The projected rows, features first. -/
def zz (x1 : FVec Ideal S256x4096 .f32) (x2 : FVec Ideal S1x4096 .f32) (x3 : FVec Ideal S2048x4096 .bf16) : FVec Ideal S2048x256 .f32 :=
  k0_pay2046 (F := Ideal) x1 x2 x3

/-- One half of the keys. -/
def half0 (x4 : FVec Ideal S2x128x128 .f32) : FVec Ideal S128x128 .f32 := fun j => x4 (ix3 0 (j 0) (j 1))
def half1 (x4 : FVec Ideal S2x128x128 .f32) : FVec Ideal S128x128 .f32 := fun j => x4 (ix3 1 (j 0) (j 1))

theorem key0 (c : Dev nD) (a5 : Memref sig .tc .vmem S2x128x128 .f32) (h5 : a5.IsWhole) (x4 : FVec Ideal S2x128x128 .f32) :
    kernelRun0_A.sl.r_1 (F := Ideal) c a5 h5 x4 = half0 x4 := by
  funext j
  idx_vars j
  unfold kernelRun0_A.sl.r_1 half0
  simp only [View.readAt_eq_ld, h5.read_unread]
  pointwise [k0_pay2047]
  all_goals blk_ext []

theorem key1 (c : Dev nD) (a5 : Memref sig .tc .vmem S2x128x128 .f32) (h5 : a5.IsWhole) (x4 : FVec Ideal S2x128x128 .f32) :
    kernelRun0_A.sl.r_2 (F := Ideal) c a5 h5 x4 = half1 x4 := by
  funext j
  idx_vars j
  unfold kernelRun0_A.sl.r_2 half1
  simp only [View.readAt_eq_ld, h5.read_unread]
  pointwise [k0_pay2048]
  all_goals blk_ext []

theorem rows (c : Dev nD) (a2 : Memref sig .tc .vmem S256x4096 .f32) (h2 : a2.IsWhole) (a3 : Memref sig .tc .vmem S1x4096 .f32) (h3 : a3.IsWhole) (a4 : Memref sig .tc .vmem S2048x4096 .bf16) (h4 : a4.IsWhole)
    (a12 : Memref sig .tc .vmem S2048x256 .f32) (x1 : FVec Ideal S256x4096 .f32) (x2 : FVec Ideal S1x4096 .f32) (x3 : FVec Ideal S2048x4096 .bf16) :
    a12.view.read (Elt Ideal) (a12.view.writes (Elt Ideal) a12.view.junk (kernelRun0_A.sl.HS0_1 (F := Ideal) c a2 h2 a3 h3 a4 h4 x1 x2 x3)) = zz x1 x2 x3 := by
  rw [View.read_writes_junk_eq_canon]
  unfold kernelRun0_A.sl.HS0_1 zz
  simp only [View.readAt_eq_ld, h2.read_unread, h3.read_unread, h4.read_unread]
  frame_out

theorem trips8 : Scf.trips (0#32) (Scalar.addi 0#32 8#32) 1#32 = 8 := by decide +kernel

theorem out5 (c : Dev nD) (i : grid0.Coords) (a1 : Memref sig .tc .smem S1 .f32) (h1 : a1.IsWhole) (a2 : Memref sig .tc .vmem S256x4096 .f32) (h2 : a2.IsWhole) (a3 : Memref sig .tc .vmem S1x4096 .f32) (h3 : a3.IsWhole) (a4 : Memref sig .tc .vmem S2048x4096 .bf16) (h4 : a4.IsWhole) (a5 : Memref sig .tc .vmem S2x128x128 .f32) (h5 : a5.IsWhole) (a6 : Memref sig .tc .vmem S8x128x256 .f32) (h6 : a6.IsWhole) (a7 : Memref sig .tc .vmem S8x128x256 .f32) (h7 : a7.IsWhole) (a8 : Memref sig .tc .vmem S8x128x256 .f32) (h8 : a8.IsWhole) (a9 : Memref sig .tc .vmem S8x128x256 .f32) (h9 : a9.IsWhole) (a10 : Memref sig .tc .vmem S8x1x256 .f32) (h10 : a10.IsWhole) (a11 : Memref sig .tc .vmem S256x4096 .fp8e4m3) (h11 : a11.IsWhole) (a12 : Memref sig .tc .vmem S2048x256 .f32) (h12 : a12.IsWhole)
    (x0 : FVec Ideal S1 .f32) (x1 : FVec Ideal S256x4096 .f32) (x2 : FVec Ideal S1x4096 .f32) (x3 : FVec Ideal S2048x4096 .bf16) (x4 : FVec Ideal S2x128x128 .f32) (y : S8x128x256.Idx) :
    out0_A_5 (F := Ideal) c i a1 h1 a2 h2 a3 h3 a4 h4 a5 h5 a6 h6 a7 h7 a8 h8 a9 h9 a10 h10 a11 h11 a12 h12 x0 x1 x2 x3 x4 y = sc (half0 x4) (zz x1 x2 x3) 0 (by omega) y := by
  unfold out0_A_5
  rw [View.read_writes_junk_apply_eq_canon]
  have e : (kernelRun0_A (F := Ideal) c i a1 h1 a2 h2 a3 h3 a4 h4 a5 h5 a6 h6 a7 h7 a8 h8 a9 h9 a10 h10 a11 h11 a12 h12 x0 x1 x2 x3 x4).1 = (pb_k0_t1 (F := Ideal) Variants.none c none i a1 h1 a2 h2 a3 h3 a4 h4 a5 h5 a6 h6 a7 h7 a8 h8 a9 h9 a10 h10 a11 h11 a12 h12 (kernelRun0_A.sl.r_1 c a5 h5 x4) (kernelRun0_A.sl.r_2 c a5 h5 x4) (0#32) (1#32) (a12.view.writes (Elt Ideal) a12.view.junk (kernelRun0_A.sl.HS0_1 c a2 h2 a3 h3 a4 h4 x1 x2 x3)) 8).1 := by
    rw [← trips8]
    unfold kernelRun0_A
    rfl
  rw [e]
  have a := all5 Variants.none c none i a1 h1 a2 h2 a3 h3 a4 h4 a5 h5 a6 h6 a7 h7 a8 h8 a9 h9 a10 h10 a11 h11 a12 h12 (kernelRun0_A.sl.r_1 c a5 h5 x4) (kernelRun0_A.sl.r_2 c a5 h5 x4) (0#32) (1#32) (a12.view.writes (Elt Ideal) a12.view.junk (kernelRun0_A.sl.HS0_1 c a2 h2 a3 h3 a4 h4 x1 x2 x3)) 8 le_rfl
  rw [rows, key0, key1] at a
  rw [key0, key1]
  exact View.canon_apply_of_pieces _ _ a.1 y (a.2 y (y 0).isLt)

theorem out6 (c : Dev nD) (i : grid0.Coords) (a1 : Memref sig .tc .smem S1 .f32) (h1 : a1.IsWhole) (a2 : Memref sig .tc .vmem S256x4096 .f32) (h2 : a2.IsWhole) (a3 : Memref sig .tc .vmem S1x4096 .f32) (h3 : a3.IsWhole) (a4 : Memref sig .tc .vmem S2048x4096 .bf16) (h4 : a4.IsWhole) (a5 : Memref sig .tc .vmem S2x128x128 .f32) (h5 : a5.IsWhole) (a6 : Memref sig .tc .vmem S8x128x256 .f32) (h6 : a6.IsWhole) (a7 : Memref sig .tc .vmem S8x128x256 .f32) (h7 : a7.IsWhole) (a8 : Memref sig .tc .vmem S8x128x256 .f32) (h8 : a8.IsWhole) (a9 : Memref sig .tc .vmem S8x128x256 .f32) (h9 : a9.IsWhole) (a10 : Memref sig .tc .vmem S8x1x256 .f32) (h10 : a10.IsWhole) (a11 : Memref sig .tc .vmem S256x4096 .fp8e4m3) (h11 : a11.IsWhole) (a12 : Memref sig .tc .vmem S2048x256 .f32) (h12 : a12.IsWhole)
    (x0 : FVec Ideal S1 .f32) (x1 : FVec Ideal S256x4096 .f32) (x2 : FVec Ideal S1x4096 .f32) (x3 : FVec Ideal S2048x4096 .bf16) (x4 : FVec Ideal S2x128x128 .f32) (y : S8x128x256.Idx) :
    out0_A_6 (F := Ideal) c i a1 h1 a2 h2 a3 h3 a4 h4 a5 h5 a6 h6 a7 h7 a8 h8 a9 h9 a10 h10 a11 h11 a12 h12 x0 x1 x2 x3 x4 y = sc (half1 x4) (zz x1 x2 x3) 128 (by omega) y := by
  unfold out0_A_6
  rw [View.read_writes_junk_apply_eq_canon]
  have e : (kernelRun0_A (F := Ideal) c i a1 h1 a2 h2 a3 h3 a4 h4 a5 h5 a6 h6 a7 h7 a8 h8 a9 h9 a10 h10 a11 h11 a12 h12 x0 x1 x2 x3 x4).2.1 = (pb_k0_t1 (F := Ideal) Variants.none c none i a1 h1 a2 h2 a3 h3 a4 h4 a5 h5 a6 h6 a7 h7 a8 h8 a9 h9 a10 h10 a11 h11 a12 h12 (kernelRun0_A.sl.r_1 c a5 h5 x4) (kernelRun0_A.sl.r_2 c a5 h5 x4) (0#32) (1#32) (a12.view.writes (Elt Ideal) a12.view.junk (kernelRun0_A.sl.HS0_1 c a2 h2 a3 h3 a4 h4 x1 x2 x3)) 8).2.1 := by
    rw [← trips8]
    unfold kernelRun0_A
    rfl
  rw [e]
  have a := all6 Variants.none c none i a1 h1 a2 h2 a3 h3 a4 h4 a5 h5 a6 h6 a7 h7 a8 h8 a9 h9 a10 h10 a11 h11 a12 h12 (kernelRun0_A.sl.r_1 c a5 h5 x4) (kernelRun0_A.sl.r_2 c a5 h5 x4) (0#32) (1#32) (a12.view.writes (Elt Ideal) a12.view.junk (kernelRun0_A.sl.HS0_1 c a2 h2 a3 h3 a4 h4 x1 x2 x3)) 8 le_rfl
  rw [rows, key0, key1] at a
  rw [key0, key1]
  exact View.canon_apply_of_pieces _ _ a.1 y (a.2 y (y 0).isLt)

/-- One normed row, and its product with one feature's weights. -/
def row (x g : Fin 4096 → EReal) (l : Fin 4096) : EReal := x l * Ideal.rsqrt (Ideal.div (∑ k, x k * x k) (Ideal.ofBits FTy.f32 0x45800000#32) + Ideal.ofBits FTy.f32 0x358637BD#32) * g l

theorem zz_at (x1 : FVec Ideal S256x4096 .f32) (x2 : FVec Ideal S1x4096 .f32) (x3 : FVec Ideal S2048x4096 .bf16) (q : Fin 2048) (r : Fin 256) :
    zz x1 x2 x3 (ix2 q r) = ∑ k : Fin 4096, x3 (ix2 q k) * row (fun l => x1 (ix2 r l)) (fun l => x2 (ix2 0 l)) k := by
  unfold row
  pointwise [zz, k0_pay2046, k0_pay2044]

theorem idx : ∀ t : Fin cfg0.N, win0_1.index t = ![t.val, 0] ∧ win0_2.index t = ![0, 0] ∧ win0_3.index t = ![0, 0] ∧ win0_4.index t = ![0, 0, 0]
    ∧ win0_5.index t = ![0, 0, t.val] ∧ win0_6.index t = ![0, 0, t.val] := (by decide +kernel : ∀ t : Fin grid0.N, _)

abbrev A0 (c : Dev nD) : FVec Ideal S16384x4096 .f32 := m ((c : Thread nD τ).loc main_arg0)
abbrev A1 (c : Dev nD) : FVec Ideal S1x4096 .f32 := m ((c : Thread nD τ).loc main_arg1)
abbrev A2 (c : Dev nD) : FVec Ideal S1x4096x2048 .f32 := m ((c : Thread nD τ).loc main_arg2)
abbrev A3 (c : Dev nD) : FVec Ideal S1x2x128x128 .f32 := m ((c : Thread nD τ).loc main_arg3)

theorem w_at (c : Dev nD) (q : Fin 2048) (k : Fin 4096) : (show EReal from V m c main_v20 (ix2 q k)) = A2 m c (ix3 0 k q) := by
  unfold V
  simp only [hostOps0, hostOps0_1, hostOps0_2, hostOps0_3, hostOps0_4, List.flatten_cons, List.flatten_nil, List.append_nil, List.cons_append, List.nil_append]
  entry_read
  pointwise []

theorem s_at (c : Dev nD) (h : Fin 2) (n d : Fin 128) : (show EReal from V m c main_v21 (ix3 h n d)) = A3 m c (ix4 0 h n d) := by
  unfold V
  simp only [hostOps0, hostOps0_1, hostOps0_2, hostOps0_3, hostOps0_4, List.flatten_cons, List.flatten_nil, List.append_nil, List.cons_append, List.nil_append]
  entry_read
  pointwise []

theorem g_at (c : Dev nD) (k : Fin 4096) : (show EReal from V m c main_v23 (ix2 0 k)) = A1 m c (ix2 0 k) := by
  unfold V
  simp only [hostOps0, hostOps0_1, hostOps0_2, hostOps0_3, hostOps0_4, List.flatten_cons, List.flatten_nil, List.append_nil, List.cons_append, List.nil_append]
  entry_read
  pointwise []

theorem sc_eq (v : FVec Ideal S128x128 .f32) (Z : FVec Ideal S2048x256 .f32) (o : ℕ) (h : o ≤ 128) (y : S8x128x256.Idx) (f : Fin 128 → EReal)
    (H : ∀ d : Fin 128, v (ix2 (y 1) d) * Z (ix2 ⟨(y 0).val * 256 + o + d.val, by have := (y 0).isLt; have e : S8x128x256.size 0 = 8 := rfl; omega⟩ (y 2)) = f d) : sc v Z o h y = ∑ d, f d :=
  Finset.sum_congr rfl fun d _ => H d

abbrev REF5 (x0 : FVec Ideal S16384x4096 .f32) (x1 : FVec Ideal S1x4096 .f32) (x2 : FVec Ideal S1x4096x2048 .f32) (x3 : FVec Ideal S1x2x128x128 .f32) : FVec Ideal S8x128x16384 .f32 :=
  Cert.RouteRefIdeal.Read.val_main_v22 (F := Ideal) x0 x1 x2 x3

/-- The reference's scores at an index. -/
theorem ref_at5 (x0 : FVec Ideal S16384x4096 .f32) (x1 : FVec Ideal S1x4096 .f32) (x2 : FVec Ideal S1x4096x2048 .f32) (x3 : FVec Ideal S1x2x128x128 .f32) (b : Fin 8) (n : Fin 128) (r : Fin 16384) :
    REF5 x0 x1 x2 x3 (ix3 b n r) = ∑ d : Fin 128, x3 (ix4 0 0 n d) * ∑ k : Fin 4096, row (fun l => x0 (ix2 r l)) (fun l => x1 (ix2 0 l)) k * x2 (ix3 0 k ⟨b.val * 256 + 0 + d.val, by omega⟩) := by
  unfold row
  pointwise [REF5, Cert.RouteRefIdeal.Read.val_main_cst, Cert.RouteRefIdeal.Read.val_main_cst_0, Cert.RouteRefIdeal.Read.val_main_cst_1, Cert.RouteRefIdeal.Read.val_main_v0, Cert.RouteRefIdeal.Read.val_main_v1, Cert.RouteRefIdeal.Read.val_main_v2, Cert.RouteRefIdeal.Read.val_main_v3, Cert.RouteRefIdeal.Read.val_main_v4, Cert.RouteRefIdeal.Read.val_main_v5, Cert.RouteRefIdeal.Read.val_main_v6, Cert.RouteRefIdeal.Read.val_main_v7, Cert.RouteRefIdeal.Read.val_main_v8, Cert.RouteRefIdeal.Read.val_main_v9, Cert.RouteRefIdeal.Read.val_main_v10, Cert.RouteRefIdeal.Read.val_main_v11, Cert.RouteRefIdeal.Read.val_main_v12, Cert.RouteRefIdeal.Read.val_main_v13, Cert.RouteRefIdeal.Read.val_main_v14, Cert.RouteRefIdeal.Read.val_main_v15, Cert.RouteRefIdeal.Read.val_main_v16, Cert.RouteRefIdeal.Read.val_main_v17, Cert.RouteRefIdeal.Read.val_main_v18, Cert.RouteRefIdeal.Read.val_main_v19, Cert.RouteRefIdeal.Read.val_main_v20, Cert.RouteRefIdeal.Read.val_main_v21, Cert.RouteRefIdeal.Read.val_main_v22]

/-- The kernel's array of scores is the reference's. -/
theorem final5 (c : Dev nD) : (dats m 0 c).arrAt 5 cfg0.N = REF5 (A0 m c) (A1 m c) (A2 m c) (A3 m c) := by
  refine (dats m 0 c).arrAt_eq_of_covers 5 _ (by decide +kernel) fun t _ y => ?_
  blk_simp
  rw [after0_5]
  unfold outsAt0
  dsimp only
  have ht : t.val < 64 := lt_of_lt_of_eq t.isLt N_0
  have hy0 : (y 0).val < 8 := (y 0).isLt
  have hy1 : (y 1).val < 128 := (y 1).isLt
  have hy2 : (y 2).val < 256 := (y 2).isLt
  have e := ref_at5 (A0 m c) (A1 m c) (A2 m c) (A3 m c) (y 0) (y 1) ⟨t.val * 256 + (y 2).val, by omega⟩
  generalize REF5 (A0 m c) (A1 m c) (A2 m c) (A3 m c) = A at e ⊢
  refine Eq.trans ?_ (e.symm.trans ?_)
  · refine (out5 _ _ _ _ _ _ _ _ _ _ _ _ _ _ _ _ _ _ _ _ _ _ _ _ _ _ _ _ _ _ _ y).trans (sc_eq _ _ _ _ _ _ fun d => congrArg₂ (· * ·) ?_ ((zz_at _ _ _ _ _).trans (Finset.sum_congr rfl fun k _ => (mul_comm _ _).trans (congrArg₂ (· * ·) (congrArg₂ (fun f g => row f g k) (funext fun l => ?_) (funext fun l => ?_)) ?_))))
    · refine Eq.trans ?_ (s_at m c 0 (y 1) d)
      unfold half0
      blk_ext [iblk, idx t]
    · blk_ext [iblk, V, idx t]
    · refine Eq.trans ?_ (g_at m c l)
      blk_ext [iblk, idx t]
    · refine Eq.trans ?_ (w_at m c _ k)
      blk_ext [iblk, idx t]
  · blk_ext [idx t]

abbrev REF6 (x0 : FVec Ideal S16384x4096 .f32) (x1 : FVec Ideal S1x4096 .f32) (x2 : FVec Ideal S1x4096x2048 .f32) (x3 : FVec Ideal S1x2x128x128 .f32) : FVec Ideal S8x128x16384 .f32 :=
  Cert.RouteRefIdeal.Read.val_main_v25 (F := Ideal) x0 x1 x2 x3

/-- The reference's scores at an index. -/
theorem ref_at6 (x0 : FVec Ideal S16384x4096 .f32) (x1 : FVec Ideal S1x4096 .f32) (x2 : FVec Ideal S1x4096x2048 .f32) (x3 : FVec Ideal S1x2x128x128 .f32) (b : Fin 8) (n : Fin 128) (r : Fin 16384) :
    REF6 x0 x1 x2 x3 (ix3 b n r) = ∑ d : Fin 128, x3 (ix4 0 1 n d) * ∑ k : Fin 4096, row (fun l => x0 (ix2 r l)) (fun l => x1 (ix2 0 l)) k * x2 (ix3 0 k ⟨b.val * 256 + 128 + d.val, by omega⟩) := by
  unfold row
  pointwise [REF6, Cert.RouteRefIdeal.Read.val_main_cst, Cert.RouteRefIdeal.Read.val_main_cst_0, Cert.RouteRefIdeal.Read.val_main_cst_1, Cert.RouteRefIdeal.Read.val_main_v0, Cert.RouteRefIdeal.Read.val_main_v1, Cert.RouteRefIdeal.Read.val_main_v2, Cert.RouteRefIdeal.Read.val_main_v3, Cert.RouteRefIdeal.Read.val_main_v4, Cert.RouteRefIdeal.Read.val_main_v5, Cert.RouteRefIdeal.Read.val_main_v6, Cert.RouteRefIdeal.Read.val_main_v7, Cert.RouteRefIdeal.Read.val_main_v8, Cert.RouteRefIdeal.Read.val_main_v9, Cert.RouteRefIdeal.Read.val_main_v10, Cert.RouteRefIdeal.Read.val_main_v11, Cert.RouteRefIdeal.Read.val_main_v12, Cert.RouteRefIdeal.Read.val_main_v13, Cert.RouteRefIdeal.Read.val_main_v14, Cert.RouteRefIdeal.Read.val_main_v15, Cert.RouteRefIdeal.Read.val_main_v16, Cert.RouteRefIdeal.Read.val_main_v17, Cert.RouteRefIdeal.Read.val_main_v18, Cert.RouteRefIdeal.Read.val_main_v19, Cert.RouteRefIdeal.Read.val_main_v20, Cert.RouteRefIdeal.Read.val_main_v21, Cert.RouteRefIdeal.Read.val_main_v22, Cert.RouteRefIdeal.Read.val_main_v23, Cert.RouteRefIdeal.Read.val_main_v24, Cert.RouteRefIdeal.Read.val_main_v25]

/-- The kernel's array of scores is the reference's. -/
theorem final6 (c : Dev nD) : (dats m 0 c).arrAt 6 cfg0.N = REF6 (A0 m c) (A1 m c) (A2 m c) (A3 m c) := by
  refine (dats m 0 c).arrAt_eq_of_covers 6 _ (by decide +kernel) fun t _ y => ?_
  blk_simp
  rw [after0_6]
  unfold outsAt0
  dsimp only
  have ht : t.val < 64 := lt_of_lt_of_eq t.isLt N_0
  have hy0 : (y 0).val < 8 := (y 0).isLt
  have hy1 : (y 1).val < 128 := (y 1).isLt
  have hy2 : (y 2).val < 256 := (y 2).isLt
  have e := ref_at6 (A0 m c) (A1 m c) (A2 m c) (A3 m c) (y 0) (y 1) ⟨t.val * 256 + (y 2).val, by omega⟩
  generalize REF6 (A0 m c) (A1 m c) (A2 m c) (A3 m c) = A at e ⊢
  refine Eq.trans ?_ (e.symm.trans ?_)
  · refine (out6 _ _ _ _ _ _ _ _ _ _ _ _ _ _ _ _ _ _ _ _ _ _ _ _ _ _ _ _ _ _ _ y).trans (sc_eq _ _ _ _ _ _ fun d => congrArg₂ (· * ·) ?_ ((zz_at _ _ _ _ _).trans (Finset.sum_congr rfl fun k _ => (mul_comm _ _).trans (congrArg₂ (· * ·) (congrArg₂ (fun f g => row f g k) (funext fun l => ?_) (funext fun l => ?_)) ?_))))
    · refine Eq.trans ?_ (s_at m c 1 (y 1) d)
      unfold half1
      blk_ext [iblk, idx t]
    · blk_ext [iblk, V, idx t]
    · refine Eq.trans ?_ (g_at m c l)
      blk_ext [iblk, idx t]
    · refine Eq.trans ?_ (w_at m c _ k)
      blk_ext [iblk, idx t]
  · blk_ext [idx t]

/-- Both programs run and end with the same scores. -/
theorem algebraic : Cert.algebraic_RouteIdeal_RouteRefIdeal := by
  pair_intro
  · run_from Cert.RouteIdeal.Value.run_blocks m g
  · run_from Cert.RouteRefIdeal.Value.run m' g'
    · rw [Cert.RouteRefIdeal.Read.val_main_v22_eq]
      exact (final5 m c).symm
    · rw [Cert.RouteRefIdeal.Read.val_main_v25_eq]
      exact (final6 m c).symm

end Cert.RouteProof
end
-- ==== Proof.DftC.lean ====
/- The transform along the channels. -/
module

public import proofs.«01_k».proof.Defs
public import proofs.«01_k».proof.Proof.Gen.DftC.Frame
public import proofs.«01_k».proof.Proof.Gen.DftCIdeal.Value
public import proofs.«01_k».proof.Proof.Gen.DftCRefIdeal.Run
public import proofs.«01_k».proof.Proof.Gen.DftCRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.DftCProof

open Idealize.ShloMosaic Idealize.ShloMosaic.TcCoe Idealize.SL.Sem
open Cert.DftCIdeal Cert.DftCIdeal.Gen

variable (m : (ℓ : Loc nD τ sig) → Buf (Elt Ideal) ℓ)

theorem idx : ∀ t : Fin cfg0.N, win0_0.index t = ![t.val / 8, 0] ∧ win0_1.index t = ![0, t.val % 8] ∧ win0_2.index t = ![t.val / 8, t.val % 8] := (by decide +kernel : ∀ t : Fin grid0.N, _)

/-- One point's block: the rows times the columns. -/
theorem pay_at (x0 : FVec Ideal S1024x2048 .bf16) (x1 : FVec Ideal S2048x512 .bf16) (r : Fin 1024) (l : Fin 512) :
    k0_pay1 x0 x1 (ix2 r l) = ∑ k : Fin 2048, x0 (ix2 r k) * x1 (ix2 k l) := by
  pointwise [k0_pay1]

theorem out_at (c : Dev nD) (i : grid0.Coords) (a2 : Memref sig .tc .vmem S1024x2048 .bf16) (h2 : a2.IsWhole) (a3 : Memref sig .tc .vmem S2048x512 .bf16) (h3 : a3.IsWhole)
    (a4 : Memref sig .tc .vmem S1024x512 .bf16) (h4 : a4.IsWhole) (x0 : FVec Ideal S1024x2048 .bf16) (x1 : FVec Ideal S2048x512 .bf16) (y : S1024x512.Idx) :
    out0_A_2 (F := Ideal) c i a2 h2 a3 h3 a4 h4 x0 x1 y = ∑ k : Fin 2048, x0 (ix2 (y 0) k) * x1 (ix2 k (y 1)) := by
  unfold out0_A_2
  rw [View.read_writes_junk_apply_eq_canon]
  unfold kernelRun0_A
  dsimp only
  simp only [View.readAt_eq_ld, h2.read_unread, h3.read_unread]
  frame_out
  idx_vars y
  exact pay_at x0 x1 y0 y1

/-- The first block array's contents at an index. -/
theorem x_at (m : (ℓ : Loc nD τ sig) → Buf (Elt Ideal) ℓ) (c : Dev nD) (t : Fin cfg0.N) (r : Fin 1024) (k : Fin 2048) (ht : t.val / 8 * 1024 + r.val < 16384) :
    (show FVec Ideal S1024x2048 .bf16 from X0_0 m c t) (ix2 r k) = (show FVec Ideal S16384x5120 .bf16 from m ((c : Thread nD τ).loc main_arg0)) (ix2 ⟨t.val / 8 * 1024 + r.val, ht⟩ ⟨k.val, by omega⟩) := by
  show (cfg0.win 0).fill (cfg0.grid.coords t) dflt0_0 (iblk m c 0 t) (ix2 r k) = _
  unfold Pipeline.Window.fill
  rw [dif_pos (moved0_0 t (ix2 r k))]
  blk_ext [iblk, V, idx t]

abbrev REF (x0 : FVec Ideal S16384x5120 .bf16) (x1 : FVec Ideal S2048x4096 .bf16) : FVec Ideal S16384x4096 .bf16 :=
  Cert.DftCRefIdeal.Read.val_main_v4 (F := Ideal) x0 x1

/-- The reference at an index. -/
theorem ref_at (x0 : FVec Ideal S16384x5120 .bf16) (x1 : FVec Ideal S2048x4096 .bf16) (r : Fin 16384) (l : Fin 4096) :
    REF x0 x1 (ix2 r l) = ∑ k : Fin 2048, x0 (ix2 r ⟨k.val, by omega⟩) * x1 (ix2 k l) := by
  pointwise [REF, Cert.DftCRefIdeal.Read.val_main_v0, Cert.DftCRefIdeal.Read.val_main_v1, Cert.DftCRefIdeal.Read.val_main_v2, Cert.DftCRefIdeal.Read.val_main_v3, Cert.DftCRefIdeal.Read.val_main_v4]

/-- The kernel's result array is the reference's. -/
theorem final (c : Dev nD) :
    (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 128 := lt_of_lt_of_eq t.isLt N_0
  have hy0 : (y 0).val < 1024 := (y 0).isLt
  have hy1 : (y 1).val < 512 := (y 1).isLt
  refine (out_at _ _ _ _ _ _ _ _ _ _ y).trans ?_
  have e := ref_at (m ((c : Thread nD τ).loc main_arg0)) (m ((c : Thread nD τ).loc main_arg1)) ⟨t.val / 8 * 1024 + (y 0).val, by omega⟩ ⟨t.val % 8 * 512 + (y 1).val, by omega⟩
  generalize REF (m ((c : Thread nD τ).loc main_arg0)) (m ((c : Thread nD τ).loc main_arg1)) = A at e ⊢
  refine Eq.trans ?_ (e.symm.trans ?_)
  · refine Finset.sum_congr rfl fun k _ => congrArg₂ (· * ·) ?_ ?_
    · exact x_at m c t (y 0) k _
    · blk_ext [iblk, V, idx t]
  · blk_ext [idx t]

/-- Both programs run and end with the same result. -/
theorem algebraic : Cert.algebraic_DftCIdeal_DftCRefIdeal := by
  pair_intro
  · run_from Cert.DftCIdeal.Value.run_blocks m g
  · run_from Cert.DftCRefIdeal.Value.run m' g'
    rw [Cert.DftCRefIdeal.Read.val_main_v4_eq]
    exact (final m c).symm

end Cert.DftCProof
end
-- ==== Proof.DftP.lean ====
/- The transform along the positions. -/
module

public import proofs.«01_k».proof.Defs
public import proofs.«01_k».proof.Proof.Gen.DftP.Frame
public import proofs.«01_k».proof.Proof.Gen.DftPIdeal.Value
public import proofs.«01_k».proof.Proof.Gen.DftPRefIdeal.Run
public import proofs.«01_k».proof.Proof.Gen.DftPRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.DftPProof

open Idealize.ShloMosaic Idealize.ShloMosaic.TcCoe Idealize.SL.Sem
open Cert.DftPIdeal Cert.DftPIdeal.Gen

variable (m : (ℓ : Loc nD τ sig) → Buf (Elt Ideal) ℓ)

theorem idx : ∀ t : Fin cfg0.N, win0_0.index t = ![t.val / 16, 0] ∧ win0_1.index t = ![t.val / 16, 0] ∧ win0_2.index t = ![t.val / 4 % 4, 0, t.val % 4]
    ∧ win0_3.index t = ![t.val / 4 % 4, 0, 4 + t.val % 4] ∧ win0_4.index t = ![t.val / 4 % 4, t.val / 16, t.val % 4] := (by decide +kernel : ∀ t : Fin grid0.N, _)

/-- One point's block: the two products' difference, scaled. -/
theorem pay_at (x0 : FVec Ideal S512x4096 .bf16) (x2 : FVec Ideal S1x4096x512 .bf16) (x1 : FVec Ideal S512x4096 .bf16) (x3 : FVec Ideal S1x4096x512 .bf16) (z : Fin 1) (r : Fin 512) (l : Fin 512) :
    k0_pay1 x0 x2 x1 x3 (ix3 z r l) = ((∑ k : Fin 4096, x0 (ix2 r k) * x2 (ix3 0 k l)) - (∑ k : Fin 4096, x1 (ix2 r k) * x3 (ix3 0 k l))) * Ideal.ofBits FTy.f32 0x39B504F3#32 := by
  pointwise [k0_pay1]

theorem out_at (x0 x1 : FVec Ideal S512x4096 .bf16) (x2 x3 : FVec Ideal S1x4096x512 .bf16) (y : S1x512x512.Idx) :
    out0_4 (F := Ideal) x0 x1 x2 x3 y = ((∑ k : Fin 4096, x0 (ix2 (y 1) k) * x2 (ix3 0 k (y 2))) - (∑ k : Fin 4096, x1 (ix2 (y 1) k) * x3 (ix3 0 k (y 2)))) * Ideal.ofBits FTy.f32 0x39B504F3#32 := by
  unfold out0_4
  frame_out
  idx_vars y
  exact pay_at x0 x2 x1 x3 _ _ _

abbrev REF (x0 x1 : FVec Ideal S4096x4096 .bf16) (x2 : FVec Ideal S16384x4096 .bf16) : FVec Ideal S4x4096x2048 .bf16 :=
  Cert.DftPRefIdeal.Read.val_main_v13 (F := Ideal) x0 x1 x2

/-- The reference at an index. -/
theorem ref_at (x0 x1 : FVec Ideal S4096x4096 .bf16) (x2 : FVec Ideal S16384x4096 .bf16) (b : Fin 4) (r : Fin 4096) (l : Fin 2048) :
    REF x0 x1 x2 (ix3 b r l) = ((∑ k : Fin 4096, x2 (ix2 ⟨b.val * 4096 + k.val, by omega⟩ ⟨l.val, by omega⟩) * x0 (ix2 r k)) - (∑ k : Fin 4096, x2 (ix2 ⟨b.val * 4096 + k.val, by omega⟩ ⟨2048 + l.val, by omega⟩) * x1 (ix2 r k))) * Ideal.ofBits FTy.f32 0x39B504F3#32 := by
  pointwise [REF, Cert.DftPRefIdeal.Read.val_main_cst, Cert.DftPRefIdeal.Read.val_main_v0, Cert.DftPRefIdeal.Read.val_main_v1, Cert.DftPRefIdeal.Read.val_main_v2, Cert.DftPRefIdeal.Read.val_main_v3, Cert.DftPRefIdeal.Read.val_main_v4, Cert.DftPRefIdeal.Read.val_main_v5, Cert.DftPRefIdeal.Read.val_main_v6, Cert.DftPRefIdeal.Read.val_main_v7, Cert.DftPRefIdeal.Read.val_main_v8, Cert.DftPRefIdeal.Read.val_main_v9, Cert.DftPRefIdeal.Read.val_main_v10, Cert.DftPRefIdeal.Read.val_main_v11, Cert.DftPRefIdeal.Read.val_main_v12, Cert.DftPRefIdeal.Read.val_main_v13]

/-- The kernel's products, in one array, read at an index of the argument. -/
theorem p_at (c : Dev nD) (b : Fin 4) (k : Fin 4096) (l : Fin 4096) :
    (show EReal from V m c main_v0 (ix3 b k l)) = (show FVec Ideal S16384x4096 .bf16 from m ((c : Thread nD τ).loc main_arg2)) (ix2 ⟨b.val * 4096 + k.val, by omega⟩ l) := by
  entry_read
  pointwise []

/-- The kernel's result array is the reference's. -/
theorem final (c : Dev nD) :
    (dats m 0 c).arrAt 4 cfg0.N = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have ht : t.val < 128 := lt_of_lt_of_eq t.isLt N_0
  have hy0 : (y 0).val < 1 := (y 0).isLt
  have hy1 : (y 1).val < 512 := (y 1).isLt
  have hy2 : (y 2).val < 512 := (y 2).isLt
  refine (out_at _ _ _ _ y).trans ?_
  have e := ref_at (m ((c : Thread nD τ).loc main_arg0)) (m ((c : Thread nD τ).loc main_arg1)) (m ((c : Thread nD τ).loc main_arg2)) ⟨t.val / 4 % 4, by omega⟩ ⟨t.val / 16 * 512 + (y 1).val, by omega⟩ ⟨t.val % 4 * 512 + (y 2).val, by omega⟩
  generalize REF (m ((c : Thread nD τ).loc main_arg0)) (m ((c : Thread nD τ).loc main_arg1)) (m ((c : Thread nD τ).loc main_arg2)) = A at e ⊢
  refine Eq.trans ?_ (e.symm.trans ?_)
  · refine congrArg (· * _) (congrArg₂ (· - ·) (Finset.sum_congr rfl fun k _ => ?_) (Finset.sum_congr rfl fun k _ => ?_))
    · refine (mul_comm _ _).trans (congrArg₂ (· * ·) ?_ ?_)
      · refine Eq.trans ?_ (p_at m c ⟨t.val / 4 % 4, by omega⟩ k ⟨t.val % 4 * 512 + (y 2).val, by omega⟩)
        blk_ext [iblk, idx t]
      · blk_ext [iblk, V, idx t]
    · refine (mul_comm _ _).trans (congrArg₂ (· * ·) ?_ ?_)
      · refine Eq.trans ?_ ((p_at m c ⟨t.val / 4 % 4, by omega⟩ k ⟨2048 + (t.val % 4 * 512 + (y 2).val), by omega⟩))
        blk_ext [iblk, idx t]
      · blk_ext [iblk, V, idx t]
  · blk_ext [idx t]

/-- Both programs run and end with the same result. -/
theorem algebraic : Cert.algebraic_DftPIdeal_DftPRefIdeal := by
  pair_intro
  · run_from Cert.DftPIdeal.Value.run_blocks m g
  · run_from Cert.DftPRefIdeal.Value.run m' g'
    rw [Cert.DftPRefIdeal.Read.val_main_v13_eq]
    exact (final m c).symm

end Cert.DftPProof
end
-- ==== Proof.HeadSample.lean ====
module

public import proofs.«01_k».proof.Proof.Gen.KernelSampleIdeal.Frame
public import Idealize.ShloMosaic.Lib.Pipeline.ValueKit
public import Idealize.ShloMosaic.Lib.Pointwise
public import proofs.«01_k».proof.Proof.Math

@[expose] public section

set_option maxRecDepth 16384
set_option backward.isDefEq.respectTransparency.types false

noncomputable section

namespace Cert.KernelSampleProof

open Idealize.ShloMosaic Idealize.ShloMosaic.TcCoe Idealize.SL.Sem
open Cert.KernelSampleIdeal Cert.KernelSampleIdeal.Gen

/-- The lane number's half-block, floor-divided by 32 as the kernel computes it on words. -/
def laneQ (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 32#32 0#32)) (Scalar.extui (Scalar.cmpi CmpIPredicate.slt 32#32 0#32))))
      (IntOp.cmpi CmpIPredicate.ne (IntOp.remsi ArithUnit.vector w 32#32) 0#32))
    (IntOp.subi (IntOp.divsi ArithUnit.vector w 32#32) 1#32)
    (IntOp.divsi ArithUnit.vector w 32#32)

/-- The kernel's word 2 (guarded against a zero divisor). -/
def two : BitVec 32 := Scalar.select (Scalar.cmpi CmpIPredicate.eq 2#32 0#32) 1#32 2#32

/-- Whether a lane lies in the first half of its 64-lane rotary block, as the kernel computes it on words. -/
def laneBit (w : BitVec 32) : BitVec 1 :=
  IntOp.cmpi CmpIPredicate.eq
    (Scalar.select
      (IntOp.andi
        (IntOp.xori (IntOp.cmpi CmpIPredicate.slt (IntOp.remsi ArithUnit.vector (laneQ w) two) 0#32) (Scalar.cmpi CmpIPredicate.slt two 0#32))
        (IntOp.cmpi CmpIPredicate.ne (IntOp.remsi ArithUnit.vector (laneQ w) two) 0#32))
      (IntOp.addi (IntOp.remsi ArithUnit.vector (laneQ w) two) two)
      (IntOp.remsi ArithUnit.vector (laneQ w) two))
    0#32

/-- It is the bit of `lane / 32` even. -/
theorem laneBit_eq : ∀ d : Fin 128, laneBit (BitVec.ofNat 32 d) = if d.val / 32 % 2 < 1 then 1#1 else 0#1 := by
  decide +kernel

/-- The exponentials of one query row's scores less their maximum. -/
theorem pay8_at (k : FVec Ideal S2048x128 .bf16) (c s q : FVec Ideal S256x128 .f32) (r : Fin 256) (j : Fin 2048) :
    k0_pay8 (F := Ideal) k c s q (iota .tc S256x128 32 [1] iota_S256x128_d1_w32) 32#32 k0_pay6 k0_pay7 0#32 (ix2 r j)
      = Ideal.exp (Num.score (fun d => q (ix2 r d)) (fun d => c (ix2 r d)) (fun d => s (ix2 r d)) (fun j d => k (ix2 j d)) j
          - Finset.univ.fold max ⊥ (Num.score (fun d => q (ix2 r d)) (fun d => c (ix2 r d)) (fun d => s (ix2 r d)) (fun j d => k (ix2 j d)))) := by
  have hs : ∀ j, Num.score (fun d => q (ix2 r d)) (fun d => c (ix2 r d)) (fun d => s (ix2 r d)) (fun j d => k (ix2 j d)) j
      = ∑ x : Fin 128, (q (ix2 r x) * c (ix2 r x) + Scalar.select (laneBit (BitVec.ofNat 32 x)) (q (ix2 r ⟨(x.val + 128 - 96) % 128, Nat.mod_lt _ (by decide)⟩)) (q (ix2 r ⟨(x.val + 128 - 32) % 128, Nat.mod_lt _ (by decide)⟩)) * s (ix2 r x)) * k (ix2 j x) := by
    intro j
    unfold Num.score Num.rot
    refine Finset.sum_congr rfl fun x _ => ?_
    rw [laneBit_eq x]
    by_cases h : x.val / 32 % 2 < 1 <;> simp only [h, if_true, if_false, Scalar.select] <;> rfl
  have hf : (Num.score (fun d => q (ix2 r d)) (fun d => c (ix2 r d)) (fun d => s (ix2 r d)) (fun j d => k (ix2 j d))) = _ := funext hs
  rw [hf]
  pointwise [k0_pay8, k0_pay6, k0_pay7]
  rfl

/-- The normalised query of one head. -/
theorem pay5_at (y : FVec Ideal S1x256x128 .bf16) (g : FVec Ideal S1x128 .f32) (r : Fin 256) (d : Fin 128) :
    k0_pay5 (F := Ideal) y g (ix2 r d) =  y (ix3 0 r d) *
        Ideal.rsqrt
          (Ideal.div (∑ x, y (ix3 0 r x) * y (ix3 0 r x)) (Ideal.ofBits FTy.f32 1124073472#32) +
            Ideal.ofBits FTy.f32 897988541#32) *
      g (ix2 0 d) := by
  pointwise [k0_pay5]

/-- The weighted values over the weights' sum. -/
theorem pay9_at (v : FVec Ideal S2048x128 .bf16) (p : FVec Ideal S256x2048 .f32) (r : Fin 256) (d : Fin 128) :
    k0_pay9 (F := Ideal) v p (ix3 0 r d) = Ideal.div (∑ x, p (ix2 r x) * v (ix2 x d)) (∑ x, p (ix2 r x)) := by
  pointwise [k0_pay9]

/-- One head's tile: from its query tile, the keys, the values, the gain and the two tables. -/
def headT (y : FVec Ideal S1x256x128 .bf16) (k v : FVec Ideal S1x2048x128 .bf16) (g : FVec Ideal S1x128 .f32) (c s : FVec Ideal S256x128 .f32) : FVec Ideal S1x256x128 .bf16 :=
  k0_pay9 (F := Ideal) (k0_pay2 v) (k0_pay8 (k0_pay1 k) (k0_pay3 c) (k0_pay4 s) (k0_pay5 y g) (iota .tc S256x128 32 [1] iota_S256x128_d1_w32) 32#32 k0_pay6 k0_pay7 0#32)

/-- A head's tile at an index. -/
theorem headT_at (y : FVec Ideal S1x256x128 .bf16) (k v : FVec Ideal S1x2048x128 .bf16) (g : FVec Ideal S1x128 .f32) (c s : FVec Ideal S256x128 .f32) (r : Fin 256) (d : Fin 128) :
    headT y k v g c s (ix3 0 r d) = Num.kout (fun d => y (ix3 0 r d)) (fun d => g (ix2 0 d)) (fun d => c (ix2 r d)) (fun d => s (ix2 r d)) (fun t d => k (ix3 0 t d)) (fun t => v (ix3 0 t d)) := by
  have hk : ∀ j d, k0_pay1 (F := Ideal) k (ix2 j d) = k (ix3 0 j d) := fun j d => by pointwise [k0_pay1]
  have hv : ∀ j d, k0_pay2 (F := Ideal) v (ix2 j d) = v (ix3 0 j d) := fun j d => by pointwise [k0_pay2]
  have hc : k0_pay3 (F := Ideal) c = c := by funext i; idx_vars i; pointwise [k0_pay3]
  have hs : k0_pay4 (F := Ideal) s = s := by funext i; idx_vars i; pointwise [k0_pay4]
  have hq : (fun d => k0_pay5 (F := Ideal) y g (ix2 r d)) = fun d => Num.nrm (fun d => y (ix3 0 r d)) d * g (ix2 0 d) := funext fun d => pay5_at y g r d
  have h8 := pay8_at (k0_pay1 k) (k0_pay3 c) (k0_pay4 s) (k0_pay5 y g) r
  rw [hq, hc, hs] at h8
  simp only [hk] at h8
  unfold headT
  rw [pay9_at, hc, hs]
  unfold Num.kout Num.kexp
  refine congrArg₂ Ideal.div (Finset.sum_congr rfl fun t _ => ?_) (Finset.sum_congr rfl fun t _ => h8 t)
  rw [h8 t, hv]

/-- The three other heads' tiles are the same function of their query tiles. -/
theorem head1 (y : FVec Ideal S1x256x128 .bf16) (k v : FVec Ideal S1x2048x128 .bf16) (g : FVec Ideal S1x128 .f32) (c s : FVec Ideal S256x128 .f32) :
    k0_pay16 (k0_pay2 v) (k0_pay14 (k0_pay1 k) (k0_pay3 c) (k0_pay4 s) (k0_pay10 y g) (iota .tc S256x128 32 [1] iota_S256x128_d1_w32) 32#32 k0_pay11 k0_pay12 (Scalar.extui (Scalar.cmpi .sgt 32#32 0#32)) (Scalar.extui (Scalar.cmpi .slt 32#32 0#32)))
      (k0_pay15 (k0_pay1 k) (k0_pay3 c) (k0_pay4 s) (k0_pay10 y g) (iota .tc S256x128 32 [1] iota_S256x128_d1_w32) 32#32 k0_pay11 k0_pay12 (Scalar.extui (Scalar.cmpi .sgt 32#32 0#32)) (Scalar.extui (Scalar.cmpi .slt 32#32 0#32))) (constant S256x128 .f32 0x00000000#32) = headT y k v g c s := rfl
theorem head2 (y : FVec Ideal S1x256x128 .bf16) (k v : FVec Ideal S1x2048x128 .bf16) (g : FVec Ideal S1x128 .f32) (c s : FVec Ideal S256x128 .f32) :
    k0_pay22 (k0_pay21 (k0_pay1 k) (k0_pay2 v) (k0_pay3 c) (k0_pay4 s) (k0_pay17 y g) k0_pay18 k0_pay19 k0_pay20) = headT y k v g c s := rfl
theorem head3 (y : FVec Ideal S1x256x128 .bf16) (k v : FVec Ideal S1x2048x128 .bf16) (g : FVec Ideal S1x128 .f32) (c s : FVec Ideal S256x128 .f32) :
    k0_pay26 (k0_pay1 k) (k0_pay2 v) (k0_pay3 c) (k0_pay4 s) (k0_pay23 y g) k0_pay24 k0_pay25 1#32 = headT y k v g c s := rfl

variable (m : (ℓ : Loc nD τ sig) → Buf (Elt Ideal) ℓ)

/-- The row number the kernel's tables compute on words (a floor division by 64). -/
def rowW (w : BitVec 32) : BitVec 32 :=
  Scalar.select
    (IntOp.andi
      (IntOp.cmpi CmpIPredicate.ne
        (if w = 0 then 0 else if w.msb = true then -1 else 1)
        (if 64#32 = 0 then (0 : BitVec 32) else if (64#32).msb = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

/-- The column number the kernel's tables compute on words (a floor remainder by 64). -/
def colW (w : BitVec 32) : BitVec 32 :=
  Scalar.select
    (IntOp.andi
      (IntOp.cmpi CmpIPredicate.ne
        (IntOp.cmpi CmpIPredicate.slt
          (IntOp.remsi ArithUnit.host w
            (Scalar.select (IntOp.cmpi CmpIPredicate.eq 64#32 0#32) 1#32 64#32))
          0#32)
        (IntOp.cmpi CmpIPredicate.slt (Scalar.select (IntOp.cmpi CmpIPredicate.eq 64#32 0#32) 1#32 64#32)
          0#32))
      (IntOp.cmpi CmpIPredicate.ne
        (IntOp.remsi ArithUnit.host w
          (Scalar.select (IntOp.cmpi CmpIPredicate.eq 64#32 0#32) 1#32 64#32))
        0#32))
    (IntOp.addi
      (IntOp.remsi ArithUnit.host w
        (Scalar.select (IntOp.cmpi CmpIPredicate.eq 64#32 0#32) 1#32 64#32))
      (Scalar.select (IntOp.cmpi CmpIPredicate.eq 64#32 0#32) 1#32 64#32))
    (IntOp.remsi ArithUnit.host w
      (Scalar.select (IntOp.cmpi CmpIPredicate.eq 64#32 0#32) 1#32 64#32))

theorem rowW_eq : ∀ s : Fin 2048, rowW (BitVec.ofNat 32 s) = BitVec.ofNat 32 (s.val / 64) := by decide +kernel
theorem colW_eq : ∀ s : Fin 2048, colW (BitVec.ofNat 32 s) = BitVec.ofNat 32 (s.val % 64) := by decide +kernel

/-- The cosine table the kernel is given. -/
theorem cos_at (c : Dev nD) (s : Fin 2048) (d : Fin 128) :
    (show EReal from V m c main_v31 (ix2 s d)) = Ideal.cos (Num.ang s (d.val / 64) (d.val % 32)) := by
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise []
  have h2 := colW_eq s
  unfold colW at h2
  simp only [h2]
  unfold Num.ang Num.freq
  by_cases h : d.val / 64 < 1 <;> simp only [h, dite_true, dite_false, if_true, if_false, ite_self, dite_eq_ite]
  rw [← rowW_eq s]
  rfl

/-- The sine table the kernel is given: negated in the first half of every 64-lane block. -/
theorem sin_at (c : Dev nD) (s : Fin 2048) (d : Fin 128) :
    (show EReal from V m c main_v36 (ix2 s d))
      = if d.val / 32 % 2 < 1 then -Ideal.sin (Num.ang s (d.val / 64) (d.val % 32)) else Ideal.sin (Num.ang s (d.val / 64) (d.val % 32)) := by
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise []
  have h2 := colW_eq s
  unfold colW at h2
  simp only [h2]
  unfold Num.ang Num.freq
  by_cases h : d.val / 64 < 1 <;> simp only [h, dite_true, dite_false, if_true, if_false, ite_self, dite_eq_ite]
  rw [← rowW_eq s]
  rfl

/-- The gain the kernel is given: the query norm's gain times the softmax scale. -/
theorem gain_at (c : Dev nD) (d : Fin 128) :
    (show EReal from V m c main_v3 (ix2 0 d))
      = (show FVec Ideal S1x128 .f32 from m ((c : Thread nD τ).loc main_arg2)) (ix2 0 d) * Ideal.ofBits FTy.f32 1035273459#32 := by
  unfold V
  simp only [hostOps0, hostOps0_1, hostOps0_2, hostOps0_3, hostOps0_4, List.flatten_cons, List.flatten_nil, List.append_nil, List.cons_append, List.nil_append]
  entry_read
  pointwise []

end Cert.KernelSampleProof
end
-- ==== Proof.RefAttnSample.lean ====
module

public import proofs.«01_k».proof.Proof.Gen.KernelSampleRefIdeal.Read
public import Idealize.ShloMosaic.Lib.Pointwise
public import proofs.«01_k».proof.Proof.Math

@[expose] public section

set_option maxRecDepth 16384

noncomputable section

namespace Cert.KernelSampleProof.Ref

open Idealize.ShloMosaic Idealize.ShloMosaic.TcCoe Idealize.SL.Sem
open Cert.KernelSampleRefIdeal Cert.KernelSampleRefIdeal.Read

/-- The reference's rotary cosine and sine. -/
theorem v48_at (s : Fin 2048) (p : Fin 2) (e : Fin 32) :
    val_main_v48 (F := Ideal) (ix3 s p e) = Ideal.cos (Num.ang s p e) := by
  pointwise [val_main_v48, val_main_v47, val_main_v46, val_main_v45, val_main_v44, val_main_v43, val_main_v42, val_main_v41, val_main_v40, val_main_v39, val_main_v28, val_main_v27, val_main_v26, val_main_v25, val_main_v24, val_main_v23, val_main_v22, val_main_v38, val_main_v37, val_main_cst_5, val_main_v36, val_main_v35, val_main_cst_4, val_main_v34, val_main_v33, val_main_v32, val_main_cst_3, val_main_v31, val_main_v30, val_main_cst_2, val_main_v29, dite_eq_ite]
  rfl

theorem v49_at (s : Fin 2048) (p : Fin 2) (e : Fin 32) :
    val_main_v49 (F := Ideal) (ix3 s p e) = Ideal.sin (Num.ang s p e) := by
  pointwise [val_main_v49, val_main_v47, val_main_v46, val_main_v45, val_main_v44, val_main_v43, val_main_v42, val_main_v41, val_main_v40, val_main_v39, val_main_v28, val_main_v27, val_main_v26, val_main_v25, val_main_v24, val_main_v23, val_main_v22, val_main_v38, val_main_v37, val_main_cst_5, val_main_v36, val_main_v35, val_main_cst_4, val_main_v34, val_main_v33, val_main_v32, val_main_cst_3, val_main_v31, val_main_v30, val_main_cst_2, val_main_v29, dite_eq_ite]
  rfl

/-- The rotated, normalised query row of head `h` at position `s`. -/
theorem v70_at (x0 : FVec Ideal S8192x5120 .bf16) (x2 : FVec Ideal S1x128 .f32) (b : Fin 4) (s : Fin 2048) (h : Fin 16) (d : Fin 128) :
    val_main_v70 (F := Ideal) x0 x2 (ix4 b s h d)
      = Num.rrot (Num.nrm fun d => x0 (ix2 ⟨b.val * 2048 + s.val, by omega⟩ ⟨2048 + (h.val * 128 + d.val), by omega⟩)) (fun d => x2 (ix2 0 d)) s d := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, v48_at, v49_at,
    val_main_v21, val_main_v20, val_main_v19, val_main_v18, val_main_v17, val_main_v16, val_main_v15, val_main_v14, val_main_cst_1, val_main_v13, val_main_v12, val_main_cst_0, val_main_v11, val_main_v10, val_main_cst, val_main_v9, val_main_v8, val_main_v3, val_main_v2, val_main_v1, val_main_v0, dite_eq_ite]
  rfl

/-- One score of the reference: a key against a rotated query row, scaled. -/
theorem v75_at (x0 : FVec Ideal S8192x5120 .bf16) (x1 : FVec Ideal S8192x512 .bf16) (x2 : FVec Ideal S1x128 .f32) (b : Fin 4) (kv g : Fin 4) (s t : Fin 2048) :
    val_main_v75 (F := Ideal) x0 x1 x2 (ix5 b kv g s t)
      = Num.rscore (Num.nrm fun d => x0 (ix2 ⟨b.val * 2048 + s.val, by omega⟩ ⟨2048 + ((kv.val * 4 + g.val) * 128 + d.val), by omega⟩)) (fun d => x2 (ix2 0 d)) s
          (fun t d => x1 (ix2 ⟨b.val * 2048 + t.val, by omega⟩ ⟨kv.val * 128 + d.val, by omega⟩)) t := by
  pointwise [val_main_v75, val_main_v74, val_main_cst_6, val_main_v73, val_main_v72, val_main_v71, val_main_v7, val_main_v6, v70_at]
  rfl

/-- The reduction of a row of scores by the maximum. -/
theorem v76_at (x0 : FVec Ideal S8192x5120 .bf16) (x1 : FVec Ideal S8192x512 .bf16) (x2 : FVec Ideal S1x128 .f32) (b : Fin 4) (kv g : Fin 4) (s : Fin 2048) :
    val_main_v76 (F := Ideal) x0 x1 x2 (ix4 b kv g s) = Finset.univ.fold max (Ideal.ofBits FTy.f32 4286578688#32) (fun t => val_main_v75 (F := Ideal) x0 x1 x2 (ix5 b kv g s t)) := by
  pointwise [val_main_v76, val_main_cst_7]

theorem v78_at (x0 : FVec Ideal S8192x5120 .bf16) (x1 : FVec Ideal S8192x512 .bf16) (x2 : FVec Ideal S1x128 .f32) (b : Fin 4) (kv g : Fin 4) (s : Fin 2048) :
    val_main_v78 (F := Ideal) x0 x1 x2 (ix4 b kv g s) = max (Ideal.ofBits FTy.f32 4286578688#32) (val_main_v76 (F := Ideal) x0 x1 x2 (ix4 b kv g s)) := by
  rw [val_main_v78_apply, val_main_v77_apply, val_main_cst_8_apply]; rfl

theorem v80_at (x0 : FVec Ideal S8192x5120 .bf16) (x1 : FVec Ideal S8192x512 .bf16) (x2 : FVec Ideal S1x128 .f32) (b : Fin 4) (kv g : Fin 4) (s t : Fin 2048) :
    val_main_v80 (F := Ideal) x0 x1 x2 (ix5 b kv g s t) = val_main_v78 (F := Ideal) x0 x1 x2 (ix4 b kv g s) := by
  pointwise [val_main_v80, val_main_v79]

/-- The exponential of a score less its row's maximum. -/
theorem v82_at (x0 : FVec Ideal S8192x5120 .bf16) (x1 : FVec Ideal S8192x512 .bf16) (x2 : FVec Ideal S1x128 .f32) (b : Fin 4) (kv g : Fin 4) (s t : Fin 2048) :
    val_main_v82 (F := Ideal) x0 x1 x2 (ix5 b kv g s t)
      = Num.rexp (Num.nrm fun d => x0 (ix2 ⟨b.val * 2048 + s.val, by omega⟩ ⟨2048 + ((kv.val * 4 + g.val) * 128 + d.val), by omega⟩)) (fun d => x2 (ix2 0 d)) s
          (fun t d => x1 (ix2 ⟨b.val * 2048 + t.val, by omega⟩ ⟨kv.val * 128 + d.val, by omega⟩)) t := by
  have h : val_main_v82 (F := Ideal) x0 x1 x2 (ix5 b kv g s t) = Ideal.exp (val_main_v75 (F := Ideal) x0 x1 x2 (ix5 b kv g s t) - val_main_v80 (F := Ideal) x0 x1 x2 (ix5 b kv g s t)) := by
    pointwise [val_main_v82, val_main_v81]
  rw [h, v80_at, v78_at, v76_at, v75_at]
  unfold Num.rexp
  simp only [v75_at]

/-- The softmax weight. -/
theorem v86_at (x0 : FVec Ideal S8192x5120 .bf16) (x1 : FVec Ideal S8192x512 .bf16) (x2 : FVec Ideal S1x128 .f32) (b : Fin 4) (kv g : Fin 4) (s t : Fin 2048) :
    val_main_v86 (F := Ideal) x0 x1 x2 (ix5 b kv g s t)
      = Num.rweight (Num.nrm fun d => x0 (ix2 ⟨b.val * 2048 + s.val, by omega⟩ ⟨2048 + ((kv.val * 4 + g.val) * 128 + d.val), by omega⟩)) (fun d => x2 (ix2 0 d)) s
          (fun t d => x1 (ix2 ⟨b.val * 2048 + t.val, by omega⟩ ⟨kv.val * 128 + d.val, by omega⟩)) t := by
  pointwise [val_main_v86, val_main_v85, val_main_v84, val_main_v83, val_main_cst_9, v82_at]
  rfl

/-- The value row a key position contributes. -/
theorem v5_at (x0 : FVec Ideal S8192x5120 .bf16) (b kv : Fin 4) (t : Fin 2048) (d : Fin 128) :
    val_main_v5 (F := Ideal) x0 (ix4 b t kv d) = x0 (ix2 ⟨b.val * 2048 + t.val, by omega⟩ ⟨4608 + (kv.val * 128 + d.val), by omega⟩) := by
  pointwise [val_main_v5, val_main_v4, val_main_v1, val_main_v0]

/-- The reference's result at an index: the softmax-weighted values of its head. -/
theorem v90_at (x0 : FVec Ideal S8192x5120 .bf16) (x1 : FVec Ideal S8192x512 .bf16) (x2 : FVec Ideal S1x128 .f32) (b : Fin 4) (s : Fin 2048) (l : Fin 2048) :
    val_main_v90 (F := Ideal) x0 x1 x2 (ix3 b s l) = ∑ t : Fin 2048, val_main_v5 (F := Ideal) x0 (ix4 b t ⟨l.val / 512, by omega⟩ ⟨l.val % 128, by omega⟩)
      * val_main_v86 (F := Ideal) x0 x1 x2 (ix5 b ⟨l.val / 512, by omega⟩ ⟨l.val / 128 % 4, by omega⟩ s t) := by
  pointwise [val_main_v90, val_main_v89, val_main_v88, val_main_v87]

end Cert.KernelSampleProof.Ref
end
-- ==== Proof.FinalSample.lean ====
module

public import proofs.«01_k».proof.Proof.HeadSample
public import proofs.«01_k».proof.Proof.RefAttnSample

@[expose] public section

set_option maxRecDepth 16384

noncomputable section

namespace Cert.KernelSampleProof

open Idealize.ShloMosaic Idealize.ShloMosaic.TcCoe Idealize.SL.Sem
open Cert.KernelSampleIdeal Cert.KernelSampleIdeal.Gen

variable (m : (ℓ : Loc nD τ sig) → Buf (Elt Ideal) ℓ)

theorem idx : ∀ t : Fin cfg0.N, win0_0.index t = ![t.val / 32, t.val % 8, 4 + t.val / 8 % 4] ∧ win0_1.index t = ![t.val / 32, 0, t.val / 8 % 4]
    ∧ win0_2.index t = ![t.val / 32, 0, 36 + t.val / 8 % 4] ∧ win0_3.index t = ![0, 0] ∧ win0_4.index t = ![t.val % 8, 0] ∧ win0_5.index t = ![t.val % 8, 0]
    ∧ win0_6.index t = ![t.val / 32, t.val % 8, t.val / 8 % 4] := (by decide +kernel : ∀ t : Fin grid0.N, _)

/-- A head's tile, placed in its 128 lanes of the block. -/
theorem tile (x0 : FVec Ideal S1x256x512 .bf16) (x1 x2 : FVec Ideal S1x2048x128 .bf16) (x3 : FVec Ideal S1x128 .f32) (x4 x5 : FVec Ideal S256x128 .f32)
    (r : Fin 256) (l : Fin 512) (o : ℕ) (ho : o < 4) (Y T : FVec Ideal S1x256x128 .bf16) (hT : T = headT Y x1 x2 x3 x4 x5)
    (hY : ∀ (r : Fin 256) (d : Fin 128), Y (ix3 0 r d) = x0 (ix3 0 r ⟨o * 128 + d.val, by omega⟩))
    (j : S1x256x128.Idx) (h1 : r.val = (j 1).val) (h2 : l.val = o * 128 + (j 2).val) :
    T j = Num.kout (fun d => x0 (ix3 0 r ⟨l.val / 128 * 128 + d.val, by omega⟩)) (fun d => x3 (ix2 0 d)) (fun d => x4 (ix2 r d)) (fun d => x5 (ix2 r d))
          (fun t d => x1 (ix3 0 t d)) (fun t => x2 (ix3 0 t ⟨l.val % 128, Nat.mod_lt _ (by decide)⟩)) := by
  idx_vars j
  have ha : j0 = 0 := Subsingleton.elim _ _
  have hb : j1 = r := Fin.ext h1.symm
  have h2' : l.val = o * 128 + j2.val := h2
  have hd : (⟨l.val % 128, Nat.mod_lt _ (by decide)⟩ : Fin 128) = j2 := Fin.ext (by dsimp only; omega)
  have ho' : l.val / 128 = o := by omega
  subst ha hb hT
  rw [headT_at, hd]
  simp only [hY, ho']

/-- One point's result block: each of its four 128-lane column tiles is a head's tile. -/
theorem out_at (x0 : FVec Ideal S1x256x512 .bf16) (x1 x2 : FVec Ideal S1x2048x128 .bf16) (x3 : FVec Ideal S1x128 .f32) (x4 x5 : FVec Ideal S256x128 .f32) (y : S1x256x512.Idx) (r : Fin 256) (l : Fin 512) (hr : r = y 1) (hl : l = y 2) :
    out0_6 (F := Ideal) x0 x1 x2 x3 x4 x5 y
      = Num.kout (fun d => x0 (ix3 0 r ⟨l.val / 128 * 128 + d.val, by omega⟩)) (fun d => x3 (ix2 0 d)) (fun d => x4 (ix2 r d)) (fun d => x5 (ix2 r d))
          (fun t d => x1 (ix3 0 t d)) (fun t => x2 (ix3 0 t ⟨l.val % 128, Nat.mod_lt _ (by decide)⟩)) := by
  have hr' : r.val = (y 1).val := congrArg Fin.val hr
  have hl' : l.val = (y 2).val := congrArg Fin.val hl
  unfold_out out0_6
  frame_out
  canon_tiles x h
  case piece0 => exact tile x0 x1 x2 x3 x4 x5 r l 3 (by decide) _ _ (head3 _ _ _ _ _ _) (fun r d => by pointwise; blk_ext) x (hr'.trans h1) (hl'.trans h2)
  case piece1 => exact tile x0 x1 x2 x3 x4 x5 r l 2 (by decide) _ _ (head2 _ _ _ _ _ _) (fun r d => by pointwise; blk_ext) x (hr'.trans h1) (hl'.trans h2)
  case piece2 => exact tile x0 x1 x2 x3 x4 x5 r l 1 (by decide) _ _ (head1 _ _ _ _ _ _) (fun r d => by pointwise; blk_ext) x (hr'.trans h1) (hl'.trans h2)
  case piece3 => exact tile x0 x1 x2 x3 x4 x5 r l 0 (by decide) _ _ rfl (fun r d => by pointwise; blk_ext) x (hr'.trans h1) (hl'.trans (h2.trans (by omega)))

/-- The kernel's operand arrays, read at an index of the arguments. -/
theorem v38_at (c : Dev nD) (b : Fin 4) (s : Fin 2048) (l : Fin 5120) :
    (show EReal from V m c main_v38 (ix3 b s l)) = (show FVec Ideal S8192x5120 .bf16 from m ((c : Thread nD τ).loc main_arg0)) (ix2 ⟨b.val * 2048 + s.val, by omega⟩ l) := by
  unfold V
  simp only [hostOps0, hostOps0_1, hostOps0_2, hostOps0_3, hostOps0_4, List.flatten_cons, List.flatten_nil, List.append_nil, List.cons_append, List.nil_append]
  entry_read
  pointwise []

theorem v37_at (c : Dev nD) (b : Fin 4) (s : Fin 2048) (l : Fin 512) :
    (show EReal from V m c main_v37 (ix3 b s l)) = (show FVec Ideal S8192x512 .bf16 from m ((c : Thread nD τ).loc main_arg1)) (ix2 ⟨b.val * 2048 + s.val, by omega⟩ l) := by
  unfold V
  simp only [hostOps0, hostOps0_1, hostOps0_2, hostOps0_3, hostOps0_4, List.flatten_cons, List.flatten_nil, List.append_nil, List.cons_append, List.nil_append]
  entry_read
  pointwise []

theorem ib0 (c : Dev nD) (t : Fin cfg0.N) (ht : t.val < 128) (r : Fin 256) (l : Fin 512) :
    (show FVec Ideal S1x256x512 .bf16 from iblk m c 0 t) (ix3 0 r l)
      = (show FVec Ideal S8192x5120 .bf16 from m ((c : Thread nD τ).loc main_arg0)) (ix2 ⟨t.val / 32 * 2048 + (t.val % 8 * 256 + r.val), by omega⟩ ⟨(4 + t.val / 8 % 4) * 512 + l.val, by omega⟩) := by
  refine Eq.trans ?_ (v38_at m c ⟨t.val / 32, by omega⟩ ⟨t.val % 8 * 256 + r.val, by omega⟩ ⟨(4 + t.val / 8 % 4) * 512 + l.val, by omega⟩)
  blk_ext [iblk, idx t]

theorem ib1 (c : Dev nD) (t : Fin cfg0.N) (ht : t.val < 128) (s : Fin 2048) (d : Fin 128) :
    (show FVec Ideal S1x2048x128 .bf16 from iblk m c 1 t) (ix3 0 s d)
      = (show FVec Ideal S8192x512 .bf16 from m ((c : Thread nD τ).loc main_arg1)) (ix2 ⟨t.val / 32 * 2048 + s.val, by omega⟩ ⟨t.val / 8 % 4 * 128 + d.val, by omega⟩) := by
  refine Eq.trans ?_ (v37_at m c ⟨t.val / 32, by omega⟩ s ⟨t.val / 8 % 4 * 128 + d.val, by omega⟩)
  blk_ext [iblk, idx t]

theorem ib2 (c : Dev nD) (t : Fin cfg0.N) (ht : t.val < 128) (s : Fin 2048) (d : Fin 128) :
    (show FVec Ideal S1x2048x128 .bf16 from iblk m c 2 t) (ix3 0 s d)
      = (show FVec Ideal S8192x5120 .bf16 from m ((c : Thread nD τ).loc main_arg0)) (ix2 ⟨t.val / 32 * 2048 + s.val, by omega⟩ ⟨(36 + t.val / 8 % 4) * 128 + d.val, by omega⟩) := by
  refine Eq.trans ?_ (v38_at m c ⟨t.val / 32, by omega⟩ s ⟨(36 + t.val / 8 % 4) * 128 + d.val, by omega⟩)
  blk_ext [iblk, idx t]

theorem ib3 (c : Dev nD) (t : Fin cfg0.N) (d : Fin 128) :
    (show FVec Ideal S1x128 .f32 from iblk m c 3 t) (ix2 0 d)
      = (show FVec Ideal S1x128 .f32 from m ((c : Thread nD τ).loc main_arg2)) (ix2 0 d) * Ideal.ofBits FTy.f32 1035273459#32 := by
  refine Eq.trans ?_ (gain_at m c d)
  blk_ext [iblk, idx t]

theorem ib4 (c : Dev nD) (t : Fin cfg0.N) (r : Fin 256) (d : Fin 128) :
    (show FVec Ideal S256x128 .f32 from iblk m c 4 t) (ix2 r d) = Ideal.cos (Num.ang (t.val % 8 * 256 + r.val) (d.val / 64) (d.val % 32)) := by
  refine Eq.trans ?_ (cos_at m c ⟨t.val % 8 * 256 + r.val, by omega⟩ d)
  blk_ext [iblk, idx t]

theorem ib5 (c : Dev nD) (t : Fin cfg0.N) (r : Fin 256) (d : Fin 128) :
    (show FVec Ideal S256x128 .f32 from iblk m c 5 t) (ix2 r d)
      = if d.val / 32 % 2 < 1 then -Ideal.sin (Num.ang (t.val % 8 * 256 + r.val) (d.val / 64) (d.val % 32)) else Ideal.sin (Num.ang (t.val % 8 * 256 + r.val) (d.val / 64) (d.val % 32)) := by
  refine Eq.trans ?_ (sin_at m c ⟨t.val % 8 * 256 + r.val, by omega⟩ d)
  blk_ext [iblk, idx t]

/-- The reference's attention over the kernel's argument arrays. -/
abbrev REF (x0 : FVec Ideal S8192x5120 .bf16) (x1 : FVec Ideal S8192x512 .bf16) (x2 : FVec Ideal S1x128 .f32) : FVec Ideal S4x2048x2048 .bf16 :=
  Cert.KernelSampleRefIdeal.Read.val_main_v90 (F := Ideal) x0 x1 x2

/-- The reference at an index, in the words of the row arithmetic. -/
theorem ref_at (x0 : FVec Ideal S8192x5120 .bf16) (x1 : FVec Ideal S8192x512 .bf16) (x2 : FVec Ideal S1x128 .f32) (b : Fin 4) (s : Fin 2048) (l : Fin 2048) :
    REF x0 x1 x2 (ix3 b s l) = ∑ t : Fin 2048, x0 (ix2 ⟨b.val * 2048 + t.val, by omega⟩ ⟨4608 + (l.val / 512 * 128 + l.val % 128), by omega⟩)
      * Num.rweight (Num.nrm fun d => x0 (ix2 ⟨b.val * 2048 + s.val, by omega⟩ ⟨2048 + ((l.val / 512 * 4 + l.val / 128 % 4) * 128 + d.val), by omega⟩)) (fun d => x2 (ix2 0 d)) s
          (fun t d => x1 (ix2 ⟨b.val * 2048 + t.val, by omega⟩ ⟨l.val / 512 * 128 + d.val, by omega⟩)) t := by
  refine (Ref.v90_at x0 x1 x2 b s l).trans (Finset.sum_congr rfl fun t _ => ?_)
  exact congrArg₂ (· * ·) (Ref.v5_at x0 b _ t _) (Ref.v86_at x0 x1 x2 b _ _ s t)

theorem kout_congr {x x' g g' cs cs' sn sn' : Fin 128 → EReal} {k k' : Fin 2048 → Fin 128 → EReal} {v v' : Fin 2048 → EReal}
    (h0 : ∀ d, x d = x' d) (h1 : ∀ d, g d = g' d) (h2 : ∀ d, cs d = cs' d) (h3 : ∀ d, sn d = sn' d) (h4 : ∀ s d, k s d = k' s d) (h5 : ∀ s, v s = v' s) :
    Num.kout x g cs sn k v = Num.kout x' g' cs' sn' k' v' := by
  rw [funext h0, funext h1, funext h2, funext h3, funext fun s => funext (h4 s), funext h5]

/-- The kernel's result array is the reference's attention, for finite keys and gain. -/
theorem final (c : Dev nD)
    (hk : ∀ i, ∃ r : ℝ, (show FVec Ideal S8192x512 .bf16 from m ((c : Thread nD τ).loc main_arg1)) i = (r : EReal))
    (hg : ∀ i, ∃ r : ℝ, (show FVec Ideal S1x128 .f32 from m ((c : Thread nD τ).loc main_arg2)) i = (r : EReal)) :
    (dats m 0 c).arrAt 6 cfg0.N = REF (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have ht : t.val < 128 := lt_of_lt_of_eq t.isLt N_0
  have hy1 : (y 1).val < 256 := (y 1).isLt
  have hy2 : (y 2).val < 512 := (y 2).isLt
  refine (out_at _ _ _ _ _ _ y (y 1) (y 2) rfl rfl).trans ?_
  refine (kout_congr (fun d => ib0 m c t ht (y 1) _) (fun d => ib3 m c t d) (fun d => ib4 m c t (y 1) d) (fun d => ib5 m c t (y 1) d)
    (fun s d => ib1 m c t ht s d) (fun s => ib2 m c t ht s _)).trans ?_
  refine (Num.attn_eq _ (fun d => (show FVec Ideal S1x128 .f32 from m ((c : Thread nD τ).loc main_arg2)) (ix2 0 d)) _ _ _ (fun d => hg _) (fun s d => hk _)).trans ?_
  have e := ref_at (m ((c : Thread nD τ).loc main_arg0)) (m ((c : Thread nD τ).loc main_arg1)) (m ((c : Thread nD τ).loc main_arg2))
    ⟨t.val / 32, by omega⟩ ⟨t.val % 8 * 256 + (y 1).val, by omega⟩ ⟨t.val / 8 % 4 * 512 + (y 2).val, by omega⟩
  generalize REF (m ((c : Thread nD τ).loc main_arg0)) (m ((c : Thread nD τ).loc main_arg1)) (m ((c : Thread nD τ).loc main_arg2)) = A at e ⊢
  refine Eq.trans ?_ (e.symm.trans ?_)
  · dsimp only
    have e1 : (t.val / 8 % 4 * 512 + (y 2).val) / 512 = t.val / 8 % 4 := by omega
    have e2 : (t.val / 8 % 4 * 512 + (y 2).val) % 128 = (y 2).val % 128 := by omega
    have e3 : (t.val / 8 % 4 * 512 + (y 2).val) / 128 % 4 = (y 2).val / 128 := by omega
    simp only [e1, e2, e3]
    have f : ∀ d : Fin 128, 2048 + ((t.val / 8 % 4 * 4 + (y 2).val / 128) * 128 + d.val) = (4 + t.val / 8 % 4) * 512 + ((y 2).val / 128 * 128 + d.val) := fun d => by omega
    have g : 4608 + (t.val / 8 % 4 * 128 + (y 2).val % 128) = (36 + t.val / 8 % 4) * 128 + (y 2).val % 128 := by omega
    simp only [f, g]
  · blk_ext [idx t]

end Cert.KernelSampleProof
end
-- ==== Proof.KernelSample.lean ====
/- The attention claim: the two programs' runs, and the precondition read as finite keys and a finite query-norm gain. For the sample batch. -/
module

public import proofs.«01_k».proof.Defs
public import proofs.«01_k».proof.Proof.FinalSample
public import proofs.«01_k».proof.Proof.Gen.KernelSample.Frame
public import proofs.«01_k».proof.Proof.Gen.KernelSampleIdeal.Value
public import proofs.«01_k».proof.Pre_finite_keys_sample
public import proofs.«01_k».proof.Proof.Gen.KernelSampleRefIdeal.Run
public import proofs.«01_k».proof.Proof.Gen.KernelSampleRefIdeal.Read
public import Idealize.ShloMosaic.Lib.Claim

@[expose] public section

set_option maxRecDepth 16384

noncomputable section

namespace Cert.KernelSampleProof

open Idealize.ShloMosaic Idealize.SL.Sem

/-- The side conditions of the precondition's own operations. -/
theorem preFacts : Cert.Pre_finite_keys_sample.Facts := ⟨by decide, by decide, by decide⟩

instance : Cert.Pre_finite_keys_sample.Facts := preFacts

/-- A magnitude compared below infinity says the number is a real one. -/
theorem real_of_cmp (x : EReal) (h : Ideal.cmp .olt (max x (-x)) (Ideal.ofBits FTy.f32 0x7F800000#32) = 1#1) : ∃ r : ℝ, x = (r : EReal) := by
  have hi : Ideal.ofBits FTy.f32 0x7F800000#32 = ⊤ := by
    simp [Ideal.ofBits, Ideal.ieee]
  rw [hi] at h
  induction x using EReal.rec with
  | bot => simp [Ideal.cmp] at h
  | coe r => exact ⟨r, rfl⟩
  | top => simp [Ideal.cmp] at h

theorem keys_finite (m : (ℓ : Loc KernelSampleIdeal.nD KernelSampleIdeal.τ KernelSampleIdeal.sig) → Buf (Elt Ideal) ℓ) (h : Cert.Pre_KernelSampleIdeal_finite_keys_sample m) (c : Dev KernelSampleIdeal.nD) :
    ∀ i, ∃ r : ℝ, (show FVec Ideal KernelSampleIdeal.S8192x512 .bf16 from m ((c.tc : Thread KernelSampleIdeal.nD KernelSampleIdeal.τ).loc KernelSampleIdeal.main_arg1)) i = (r : EReal) :=
  fun i => real_of_cmp _ (congrFun (h c).1 i)

theorem gain_finite (m : (ℓ : Loc KernelSampleIdeal.nD KernelSampleIdeal.τ KernelSampleIdeal.sig) → Buf (Elt Ideal) ℓ) (h : Cert.Pre_KernelSampleIdeal_finite_keys_sample m) (c : Dev KernelSampleIdeal.nD) :
    ∀ i, ∃ r : ℝ, (show FVec Ideal KernelSampleIdeal.S1x128 .f32 from m ((c.tc : Thread KernelSampleIdeal.nD KernelSampleIdeal.τ).loc KernelSampleIdeal.main_arg2)) i = (r : EReal) :=
  fun i => real_of_cmp _ (congrFun (h c).2 i)

/-- Both programs run and end with the same attention output. -/
theorem algebraic : Cert.algebraic_KernelSampleIdeal_KernelSampleRefIdeal_pre_finite_keys_sample := by
  pair_intro
  · run_from Cert.KernelSampleIdeal.Value.run_blocks m g
  · run_from Cert.KernelSampleRefIdeal.Value.run m' g'
    rw [Cert.KernelSampleRefIdeal.Read.val_main_v90_eq, (hagree c).1, (hagree c).2.1, (hagree c).2.2]
    exact (final m c (keys_finite m hpre c) (gain_finite m hpre c)).symm

end Cert.KernelSampleProof
end
-- ==== Proof.MergeSampleHost.lean ====
/- The merge of the two branches: the operands that the host prepares for the kernel. For the sample batch. -/
module

public import proofs.«01_k».proof.Proof.Math
public import proofs.«01_k».proof.Proof.Gen.MergeSampleIdeal.Value
public import Idealize.ShloMosaic.Lib.Claim
public import Idealize.ShloMosaic.Lib.Pipeline.ValueKit
public import Idealize.ShloMosaic.Lib.Pointwise

@[expose] public section

set_option maxRecDepth 16384

noncomputable section

namespace Cert.MergeSampleProof

open Cert.MergeSampleIdeal Cert.MergeSampleIdeal.Gen
open Idealize.ShloMosaic Idealize.ShloMosaic.TcCoe Idealize.SL.Sem

/-- Running one list of host operations after another is running their concatenation. -/
theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The host operations up to and including the choice of the gate scale. -/
def hostA (W : Valuation τ sig (Elt Ideal)) : Valuation τ sig (Elt Ideal) :=
  StableHlo.after hostOps0_3 (StableHlo.after hostOps0_2 (StableHlo.after hostOps0_1 (StableHlo.after hostOps0 W)))

/-- The host operations that choose the scale of the activations. -/
def hostB (W : Valuation τ sig (Elt Ideal)) : Valuation τ sig (Elt Ideal) :=
  StableHlo.after hostOps0_7 (StableHlo.after hostOps0_6 (StableHlo.after hostOps0_5 (StableHlo.after hostOps0_4 W)))

variable (W : Valuation τ sig (Elt Ideal))

/-- The host's second scale operand, entry 0: the scale of the activations. -/
theorem last36_0 :
    (show EReal from StableHlo.after hostOps0_8 W (Proc.tc.devRef main_v36) (ix1 0))
      = (show EReal from W (Proc.tc.devRef main_v31) ix0) := by
  simp only [hostOps0_8]
  entry_read
  pointwise []

/-- Entry 1: the reciprocal of the product of the two scales. -/
theorem last36_1 :
    (show EReal from StableHlo.after hostOps0_8 W (Proc.tc.devRef main_v36) (ix1 1))
      = Ideal.div 1 ((show EReal from W (Proc.tc.devRef main_v31) ix0)
          * (show EReal from W (Proc.tc.devRef main_v14) ix0)) := by
  simp only [hostOps0_8]
  entry_read
  pointwise []

/-- The gate weights that the kernel reads are the weights times the gate scale. -/
theorem last44 (k : Fin 4096) (j : Fin 8192) :
    (show EReal from StableHlo.after hostOps0_8 W (Proc.tc.devRef main_v44) (ix2 k j))
      = (show EReal from W (Proc.tc.devRef main_arg5) (ix3 0 k j))
          * (show EReal from W (Proc.tc.devRef main_v14) ix0) := by
  simp only [hostOps0_8]
  entry_read
  pointwise []

/-- The weights of the attention branch. -/
theorem last38 (k : Fin 2048) (j : Fin 4096) :
    (show EReal from StableHlo.after hostOps0_8 W (Proc.tc.devRef main_v38) (ix2 k j))
      = (show EReal from W (Proc.tc.devRef main_arg3) (ix3 0 k j)) := by
  simp only [hostOps0_8]
  entry_read
  pointwise []

/-- The weights of the Fourier branch. -/
theorem last40 (k : Fin 2048) (j : Fin 4096) :
    (show EReal from StableHlo.after hostOps0_8 W (Proc.tc.devRef main_v40) (ix2 k j))
      = (show EReal from W (Proc.tc.devRef main_arg4) (ix3 0 k j)) := by
  simp only [hostOps0_8]
  entry_read
  pointwise []

/-- The bias of the gates. -/
theorem last46 (j : Fin 8192) :
    (show EReal from StableHlo.after hostOps0_8 W (Proc.tc.devRef main_v46) (ix2 0 j))
      = (show EReal from W (Proc.tc.devRef main_arg6) (ix2 0 j)) := by
  simp only [hostOps0_8]
  entry_read
  pointwise []

/-- A clipped number, or one, is a positive real. -/
theorem clip_pos (b : Prop) [Decidable b] (p : EReal) :
    ∃ r : ℝ, 0 < r ∧ (if b then min (Ideal.ofBits FTy.f32 0x5D800000#32) (max (Ideal.ofBits FTy.f32 0x21800000#32) p) else (1 : EReal)) = r := by
  have h1 : Ideal.ofBits FTy.f32 0x5D800000#32 = ((2 ^ 60 : ℝ) : EReal) := by
    simp [Ideal.ofBits, Ideal.ieee, -EReal.coe_mul, -EReal.coe_pow]; norm_num
  have h2 : Ideal.ofBits FTy.f32 0x21800000#32 = ((1 / 2 ^ 60 : ℝ) : EReal) := by
    simp [Ideal.ofBits, Ideal.ieee, -EReal.coe_mul, -EReal.coe_pow]; norm_num
  split_ifs
  · rw [h1, h2]
    induction p with
    | bot => exact ⟨1 / 2 ^ 60, by positivity, by rw [max_eq_left bot_le]; exact min_eq_right (EReal.coe_le_coe_iff.2 (by norm_num))⟩
    | top => exact ⟨2 ^ 60, by positivity, by rw [max_eq_right le_top, min_eq_left le_top]⟩
    | coe x => exact ⟨min (2 ^ 60) (max (1 / 2 ^ 60) x), lt_min (by positivity) (lt_max_of_lt_left (by positivity)), by
        rw [EReal.coe_strictMono.monotone.map_min, EReal.coe_strictMono.monotone.map_max]⟩
  · exact ⟨1, one_pos, rfl⟩

/-- The scale of the activations is a positive real. -/
theorem hostB_31 : ∃ r : ℝ, 0 < r ∧ (show EReal from hostB W (Proc.tc.devRef main_v31) ix0) = r := by
  unfold hostB
  simp only [hostOps0_7]
  entry_read
  simp -implicitDefEqProofs only [StableHlo.TRef.toBuf, StableHlo.TRef.ofBuf, cast_cast, cast_eq]
  generalize Host.exp (F := Ideal) _ = E
  generalize cmpf (F := Ideal) (φ := .f32) _ _ _ = B
  pointwise []
  exact clip_pos _ _

/-- The last three stages of the gate scale, from the contents before them. -/
theorem clip_14 : (show EReal from StableHlo.after hostOps0_3 (StableHlo.after hostOps0_2 (StableHlo.after hostOps0_1 W)) (Proc.tc.devRef main_v14) ix0)
    = if (show BitVec 1 from W (Proc.tc.devRef main_v12) ix0) = 1#1 then
        min (show EReal from W (Proc.tc.devRef main_cst_6) ix0) (max (show EReal from W (Proc.tc.devRef main_cst_5) ix0) (show EReal from W (Proc.tc.devRef main_v11) ix0)) else 1 := by
  simp only [hostOps0_3]
  entry_read
  simp -implicitDefEqProofs only [StableHlo.TRef.toBuf, StableHlo.TRef.ofBuf, cast_cast, cast_eq]
  pointwise []
  rfl

theorem first_5 : (show EReal from StableHlo.after hostOps0 W (Proc.tc.devRef main_cst_5) ix0) = Ideal.ofBits FTy.f32 0x21800000#32 := by
  entry_read
  rfl

theorem first_6 : (show EReal from StableHlo.after hostOps0 W (Proc.tc.devRef main_cst_6) ix0) = Ideal.ofBits FTy.f32 0x5D800000#32 := by
  entry_read
  rfl

/-- The gate scale is a positive real. -/
theorem hostA_14 : ∃ r : ℝ, 0 < r ∧ (show EReal from hostA W (Proc.tc.devRef main_v14) ix0) = r := by
  unfold hostA
  refine (clip_pos ((show BitVec 1 from StableHlo.after hostOps0 W (Proc.tc.devRef main_v12) ix0) = 1#1) (show EReal from StableHlo.after hostOps0 W (Proc.tc.devRef main_v11) ix0)).imp
    fun r h => ⟨h.1, ((clip_14 _).trans ?_).trans h.2⟩
  rw [first_5, first_6]

theorem hostB_14 : hostB W (Proc.tc.devRef main_v14) = W (Proc.tc.devRef main_v14) := by
  unfold hostB
  entry_read
  rfl

theorem hostB_3 : hostB W (Proc.tc.devRef main_arg3) = W (Proc.tc.devRef main_arg3) := by
  unfold hostB
  entry_read
  rfl

theorem hostB_4 : hostB W (Proc.tc.devRef main_arg4) = W (Proc.tc.devRef main_arg4) := by
  unfold hostB
  entry_read
  rfl

theorem hostB_5 : hostB W (Proc.tc.devRef main_arg5) = W (Proc.tc.devRef main_arg5) := by
  unfold hostB
  entry_read
  rfl

theorem hostB_6 : hostB W (Proc.tc.devRef main_arg6) = W (Proc.tc.devRef main_arg6) := by
  unfold hostB
  entry_read
  rfl

theorem hostA_3 : hostA W (Proc.tc.devRef main_arg3) = W (Proc.tc.devRef main_arg3) := by
  unfold hostA
  entry_read
  rfl

theorem hostA_4 : hostA W (Proc.tc.devRef main_arg4) = W (Proc.tc.devRef main_arg4) := by
  unfold hostA
  entry_read
  rfl

theorem hostA_5 : hostA W (Proc.tc.devRef main_arg5) = W (Proc.tc.devRef main_arg5) := by
  unfold hostA
  entry_read
  rfl

theorem hostA_6 : hostA W (Proc.tc.devRef main_arg6) = W (Proc.tc.devRef main_arg6) := by
  unfold hostA
  entry_read
  rfl

variable (m : (ℓ : Loc nD τ sig) → Buf (Elt Ideal) ℓ)

/-- The contents when the kernel starts, in three stages of host operations. -/
theorem V_stages (c : Dev nD) (b : Ref sig .tc) :
    V m c b = StableHlo.after hostOps0_8 (hostB (hostA fun b => m (c, b))) (Proc.tc.devRef b) := by
  unfold V hostA hostB
  simp only [List.flatten_cons, List.flatten_nil, List.append_nil, after_app]

/-- The scale of the activations. -/
def sc (c : Dev nD) : EReal := show EReal from hostB (hostA fun b => m (c, b)) (Proc.tc.devRef main_v31) ix0

/-- The scale of the gate weights. -/
def tc' (c : Dev nD) : EReal := show EReal from hostA (fun b => m (c, b)) (Proc.tc.devRef main_v14) ix0

theorem sc_pos (c : Dev nD) : ∃ r : ℝ, 0 < r ∧ sc m c = r := hostB_31 _

theorem tc_pos (c : Dev nD) : ∃ r : ℝ, 0 < r ∧ tc' m c = r := hostA_14 _

theorem V36_0 (c : Dev nD) : (show EReal from V m c main_v36 (ix1 0)) = sc m c := by
  rw [V_stages]; exact last36_0 _

theorem V36_1 (c : Dev nD) : (show EReal from V m c main_v36 (ix1 1)) = Ideal.div 1 (sc m c * tc' m c) := by
  rw [V_stages]; exact (last36_1 _).trans (by rw [hostB_14]; rfl)

theorem V44 (c : Dev nD) (k : Fin 4096) (j : Fin 8192) :
    (show EReal from V m c main_v44 (ix2 k j)) = (show EReal from m (c, Proc.tc.devRef main_arg5) (ix3 0 k j)) * tc' m c := by
  rw [V_stages]; exact (last44 _ k j).trans (by rw [hostB_14, hostB_5, hostA_5]; rfl)

theorem V38 (c : Dev nD) (k : Fin 2048) (j : Fin 4096) :
    (show EReal from V m c main_v38 (ix2 k j)) = (show EReal from m (c, Proc.tc.devRef main_arg3) (ix3 0 k j)) := by
  rw [V_stages]; exact (last38 _ k j).trans (by rw [hostB_3, hostA_3])

theorem V40 (c : Dev nD) (k : Fin 2048) (j : Fin 4096) :
    (show EReal from V m c main_v40 (ix2 k j)) = (show EReal from m (c, Proc.tc.devRef main_arg4) (ix3 0 k j)) := by
  rw [V_stages]; exact (last40 _ k j).trans (by rw [hostB_4, hostA_4])

theorem V46 (c : Dev nD) (j : Fin 8192) :
    (show EReal from V m c main_v46 (ix2 0 j)) = (show EReal from m (c, Proc.tc.devRef main_arg6) (ix2 0 j)) := by
  rw [V_stages]; exact (last46 _ j).trans (by rw [hostB_6, hostA_6])

end Cert.MergeSampleProof
end
-- ==== Proof.MergeSample.lean ====
/- The merge of the two branches: the value of the kernel's result array. For the sample batch. -/
module

public import proofs.«01_k».proof.Defs
public import proofs.«01_k».proof.Proof.MergeSampleHost
public import Idealize.ShloMosaic.Lib.Pipeline.ReadBack
public import proofs.«01_k».proof.Proof.Gen.MergeSample.Frame
public import proofs.«01_k».proof.Proof.Gen.MergeSampleRefIdeal.Run
public import proofs.«01_k».proof.Proof.Gen.MergeSampleRefIdeal.Read

@[expose] public section

set_option maxRecDepth 16384

noncomputable section

namespace Cert.MergeSampleProof

open Cert.MergeSampleIdeal Cert.MergeSampleIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0] ∧ win0_1.index t = ![t.val / 8, 0] ∧ win0_2.index t = ![t.val / 8, 0] ∧ win0_3.index t = ![t.val / 8, 0]
    ∧ win0_4.index t = ![0, t.val % 8] ∧ win0_5.index t = ![0, t.val % 8] ∧ win0_6.index t = ![0, t.val % 8] ∧ win0_7.index t = ![0, 8 + t.val % 8]
    ∧ win0_8.index t = ![0, t.val % 8] ∧ win0_9.index t = ![0, 8 + t.val % 8] ∧ win0_10.index t = ![t.val / 8, t.val % 8] :=
  (by decide +kernel : ∀ t : Fin grid0.N, _)

/-- The kernel's second scale, as the body loads it. -/
theorem ld1 (x : Vec Ideal S2 .f32) :
    (show Elt Ideal .f32 from View.ld x (Rect.unit ![1] ![1] inb_S2_S1_1) (Shape.Idx.first (Nat.succ_pos 0))) = x (ix1 1) := by
  pointwise []

/-- At the first column block the scratch is filled with the scaled rows. -/
theorem scr_A (c : Dev nD) (t : Fin cfg0.N) (h : t.val % 8 = 0) (r : Fin 512) (k : Fin 4096) :
    (show EReal from (outsAt0 m c t.val t.isLt).2 (ix2 r k))
      = (show FVec Ideal S512x4096 .bf16 from iblk m c 3 t) (ix2 r k) * (show FVec Ideal S2 .f32 from iblk m c 0 t) (ix1 0) := by
  rw [outsAt0_A m c t h]
  dsimp only
  frame_out
  pointwise [k0_pay2]

/-- At the others it is what the point before left. -/
theorem scr_B (c : Dev nD) (t : Fin cfg0.N) (h : ¬ t.val % 8 = 0) :
    (outsAt0 m c t.val t.isLt).2 = (outsAt0 m c (t.val - 1) (Nat.lt_of_le_of_lt (Nat.sub_le _ _) t.isLt)).2 := by
  rw [outsAt0_B m c t h]
  rfl

/-! ## The kernel's blocks, read at an index of the arrays they are cut from -/

theorem rd0 (c : Dev nD) (X : Buf (Elt Ideal) ((c : Thread nD τ).loc main_v36)) (t : Fin cfg0.N) (i : Fin 2) :
    (show EReal from ((cfg0.win 0).blk t).view.read (Elt Ideal) X (ix1 i)) = (show EReal from X (ix1 i)) := by
  blk_ext [idx t]

theorem ib0_0 (c : Dev nD) (t : Fin cfg0.N) : (show EReal from iblk m c 0 t (ix1 0)) = sc m c :=
  (rd0 c (V m c main_v36) t 0).trans (V36_0 m c)

theorem ib0_1 (c : Dev nD) (t : Fin cfg0.N) : (show EReal from iblk m c 0 t (ix1 1)) = Ideal.div 1 (sc m c * tc' m c) :=
  (rd0 c (V m c main_v36) t 1).trans (V36_1 m c)

theorem rd4 (c : Dev nD) (X : Buf (Elt Ideal) ((c : Thread nD τ).loc main_v38)) (t : Fin cfg0.N) (ht : t.val < 128) (k : Fin 2048) (l : Fin 512) :
    (show EReal from ((cfg0.win 4).blk t).view.read (Elt Ideal) X (ix2 k l)) = (show EReal from X (ix2 k ⟨t.val % 8 * 512 + l.val, by omega⟩)) := by
  blk_ext [idx t]

theorem ib4 (c : Dev nD) (t : Fin cfg0.N) (ht : t.val < 128) (k : Fin 2048) (l : Fin 512) :
    (show EReal from iblk m c 4 t (ix2 k l)) = (show EReal from m (c, Proc.tc.devRef main_arg3) (ix3 0 k ⟨t.val % 8 * 512 + l.val, by omega⟩)) :=
  (rd4 c (V m c main_v38) t ht k l).trans (V38 m c k ⟨t.val % 8 * 512 + l.val, by omega⟩)

theorem rd5 (c : Dev nD) (X : Buf (Elt Ideal) ((c : Thread nD τ).loc main_v40)) (t : Fin cfg0.N) (ht : t.val < 128) (k : Fin 2048) (l : Fin 512) :
    (show EReal from ((cfg0.win 5).blk t).view.read (Elt Ideal) X (ix2 k l)) = (show EReal from X (ix2 k ⟨t.val % 8 * 512 + l.val, by omega⟩)) := by
  blk_ext [idx t]

theorem ib5 (c : Dev nD) (t : Fin cfg0.N) (ht : t.val < 128) (k : Fin 2048) (l : Fin 512) :
    (show EReal from iblk m c 5 t (ix2 k l)) = (show EReal from m (c, Proc.tc.devRef main_arg4) (ix3 0 k ⟨t.val % 8 * 512 + l.val, by omega⟩)) :=
  (rd5 c (V m c main_v40) t ht k l).trans (V40 m c k ⟨t.val % 8 * 512 + l.val, by omega⟩)

theorem rd6 (c : Dev nD) (X : Buf (Elt Ideal) ((c : Thread nD τ).loc main_v44)) (t : Fin cfg0.N) (ht : t.val < 128) (k : Fin 4096) (l : Fin 512) :
    (show EReal from ((cfg0.win 6).blk t).view.read (Elt Ideal) X (ix2 k l)) = (show EReal from X (ix2 k ⟨t.val % 8 * 512 + l.val, by omega⟩)) := by
  blk_ext [idx t]

theorem ib6 (c : Dev nD) (t : Fin cfg0.N) (ht : t.val < 128) (k : Fin 4096) (l : Fin 512) :
    (show EReal from iblk m c 6 t (ix2 k l)) = (show EReal from m (c, Proc.tc.devRef main_arg5) (ix3 0 k ⟨t.val % 8 * 512 + l.val, by omega⟩)) * tc' m c :=
  (rd6 c (V m c main_v44) t ht k l).trans (V44 m c k ⟨t.val % 8 * 512 + l.val, by omega⟩)

theorem rd7 (c : Dev nD) (X : Buf (Elt Ideal) ((c : Thread nD τ).loc main_v44)) (t : Fin cfg0.N) (ht : t.val < 128) (k : Fin 4096) (l : Fin 512) :
    (show EReal from ((cfg0.win 7).blk t).view.read (Elt Ideal) X (ix2 k l)) = (show EReal from X (ix2 k ⟨4096 + (t.val % 8 * 512 + l.val), by omega⟩)) := by
  blk_ext [idx t]

theorem ib7 (c : Dev nD) (t : Fin cfg0.N) (ht : t.val < 128) (k : Fin 4096) (l : Fin 512) :
    (show EReal from iblk m c 7 t (ix2 k l)) = (show EReal from m (c, Proc.tc.devRef main_arg5) (ix3 0 k ⟨4096 + (t.val % 8 * 512 + l.val), by omega⟩)) * tc' m c :=
  (rd7 c (V m c main_v44) t ht k l).trans (V44 m c k ⟨4096 + (t.val % 8 * 512 + l.val), by omega⟩)

theorem rd8 (c : Dev nD) (X : Buf (Elt Ideal) ((c : Thread nD τ).loc main_v46)) (t : Fin cfg0.N) (ht : t.val < 128) (l : Fin 512) :
    (show EReal from ((cfg0.win 8).blk t).view.read (Elt Ideal) X (ix2 0 l)) = (show EReal from X (ix2 0 ⟨t.val % 8 * 512 + l.val, by omega⟩)) := by
  blk_ext [idx t]

theorem ib8 (c : Dev nD) (t : Fin cfg0.N) (ht : t.val < 128) (l : Fin 512) :
    (show EReal from iblk m c 8 t (ix2 0 l)) = (show EReal from m (c, Proc.tc.devRef main_arg6) (ix2 0 ⟨t.val % 8 * 512 + l.val, by omega⟩)) :=
  (rd8 c (V m c main_v46) t ht l).trans (V46 m c ⟨t.val % 8 * 512 + l.val, by omega⟩)

theorem rd9 (c : Dev nD) (X : Buf (Elt Ideal) ((c : Thread nD τ).loc main_v46)) (t : Fin cfg0.N) (ht : t.val < 128) (l : Fin 512) :
    (show EReal from ((cfg0.win 9).blk t).view.read (Elt Ideal) X (ix2 0 l)) = (show EReal from X (ix2 0 ⟨4096 + (t.val % 8 * 512 + l.val), by omega⟩)) := by
  blk_ext [idx t]

theorem ib9 (c : Dev nD) (t : Fin cfg0.N) (ht : t.val < 128) (l : Fin 512) :
    (show EReal from iblk m c 9 t (ix2 0 l)) = (show EReal from m (c, Proc.tc.devRef main_arg6) (ix2 0 ⟨4096 + (t.val % 8 * 512 + l.val), by omega⟩)) :=
  (rd9 c (V m c main_v46) t ht l).trans (V46 m c ⟨4096 + (t.val % 8 * 512 + l.val), by omega⟩)

theorem ib3 (c : Dev nD) (t : Fin cfg0.N) (ht : t.val < 128) (r : Fin 512) (k : Fin 4096) :
    (show FVec Ideal S512x4096 .bf16 from iblk m c 3 t) (ix2 r k)
      = (show FVec Ideal S8192x4096 .bf16 from m ((c : Thread nD τ).loc main_arg2)) (ix2 ⟨t.val / 8 * 512 + r.val, by omega⟩ k) := by
  blk_ext [iblk, V, idx t]

theorem ib1 (c : Dev nD) (t : Fin cfg0.N) (ht : t.val < 128) (r : Fin 512) (k : Fin 2048) :
    (show FVec Ideal S512x2048 .bf16 from iblk m c 1 t) (ix2 r k)
      = (show FVec Ideal S8192x2048 .bf16 from m ((c : Thread nD τ).loc main_arg0)) (ix2 ⟨t.val / 8 * 512 + r.val, by omega⟩ k) := by
  blk_ext [iblk, V, idx t]

theorem ib2 (c : Dev nD) (t : Fin cfg0.N) (ht : t.val < 128) (r : Fin 512) (k : Fin 2048) :
    (show FVec Ideal S512x2048 .bf16 from iblk m c 2 t) (ix2 r k)
      = (show FVec Ideal S8192x2048 .bf16 from m ((c : Thread nD τ).loc main_arg1)) (ix2 ⟨t.val / 8 * 512 + r.val, by omega⟩ k) := by
  blk_ext [iblk, V, idx t]

/-- The scratch after any point: the row block, scaled. -/
theorem scr_at (c : Dev nD) (n : ℕ) (hn : n < cfg0.N) (h256 : n < 128) (r : Fin 512) (k : Fin 4096) :
    (show EReal from (outsAt0 m c n hn).2 (ix2 r k))
      = (show FVec Ideal S8192x4096 .bf16 from m ((c : Thread nD τ).loc main_arg2)) (ix2 ⟨n / 8 * 512 + r.val, by omega⟩ k) * sc m c := by
  induction n with
  | zero => exact (scr_A m c ⟨0, hn⟩ rfl r k).trans (congrArg₂ (· * ·) (ib3 m c ⟨0, hn⟩ h256 r k) (ib0_0 m c ⟨0, hn⟩))
  | succ n ih =>
    by_cases h : (n + 1) % 8 = 0
    · exact (scr_A m c ⟨n + 1, hn⟩ h r k).trans (congrArg₂ (· * ·) (ib3 m c ⟨n + 1, hn⟩ h256 r k) (ib0_0 m c ⟨n + 1, hn⟩))
    · refine (congrFun (scr_B m c ⟨n + 1, hn⟩ h) (ix2 r k)).trans ((ih (by omega) (by omega)).trans ?_)
      have e : n / 8 = (n + 1) / 8 := by omega
      simp only [e]

/-- One point's result block, from the scratch that holds the scaled rows. -/
theorem out_eq (c : Dev nD) (t : Fin cfg0.N) (y : S512x512.Idx) :
    (show EReal from (outsAt0 m c t.val t.isLt).1 y)
      = k0_pay1 (F := Ideal) (k0_pay3 (iblk m c 1 t) (iblk m c 4 t)) (k0_pay4 (iblk m c 2 t) (iblk m c 5 t))
      (k0_pay5 (outsAt0 m c t.val t.isLt).2 (iblk m c 6 t) (show Elt Ideal .f32 from iblk m c 0 t (ix1 1)) (iblk m c 8 t))
      (k0_pay6 (outsAt0 m c t.val t.isLt).2 (iblk m c 7 t) (show Elt Ideal .f32 from iblk m c 0 t (ix1 1)))
      (k0_pay7 (iblk m c 9 t)) y := by
  have q := ld1 (iblk m c 0 t)
  dsimp only at q ⊢
  rw [← q]
  by_cases h : t.val % 8 = 0
  · have e : (outsAt0 m c t.val t.isLt).2 = k0_pay2 (iblk m c 3 t) (View.ld (iblk m c 0 t) (Rect.unit ![0] ![1] inb_S2_S1_0) (Shape.Idx.first (Nat.succ_pos 0))) := by
      funext z
      rw [outsAt0_A m c t h]
      dsimp only
      frame_out
    rw [e, outsAt0_A m c t h]
    dsimp only
    frame_out
  · rw [scr_B m c t h, outsAt0_B m c t h]
    dsimp only
    frame_out
    rw [read_unread_whole]

/-- One point's result at an index. -/
theorem pay_at (o f : FVec Ideal S512x2048 .bf16) (wo wf : FVec Ideal S2048x512 .bf16) (h : FVec Ideal S512x4096 .fp8e4m3) (ga gf : FVec Ideal S4096x512 .fp8e4m3)
    (q : EReal) (ba bf : FVec Ideal S1x512 .f32) (r l : Fin 512) :
    k0_pay1 (F := Ideal) (k0_pay3 o wo) (k0_pay4 f wf) (k0_pay5 h ga q ba) (k0_pay6 h gf q) (k0_pay7 bf) (ix2 r l)
      = Ideal.logistic ((∑ k, h (ix2 r k) * ga (ix2 k l)) * q + ba (ix2 0 l)) * ∑ k, o (ix2 r k) * wo (ix2 k l)
        + Ideal.logistic ((∑ k, h (ix2 r k) * gf (ix2 k l)) * q + bf (ix2 0 l)) * ∑ k, f (ix2 r k) * wf (ix2 k l) := by
  pointwise [k0_pay1, k0_pay3, k0_pay4, k0_pay5, k0_pay6, k0_pay7]

theorem pay_y (o f : FVec Ideal S512x2048 .bf16) (wo wf : FVec Ideal S2048x512 .bf16) (h : FVec Ideal S512x4096 .fp8e4m3) (ga gf : FVec Ideal S4096x512 .fp8e4m3)
    (q : EReal) (ba bf : FVec Ideal S1x512 .f32) (y : S512x512.Idx) :
    k0_pay1 (F := Ideal) (k0_pay3 o wo) (k0_pay4 f wf) (k0_pay5 h ga q ba) (k0_pay6 h gf q) (k0_pay7 bf) y
      = Ideal.logistic ((∑ k, h (ix2 (y 0) k) * ga (ix2 k (y 1))) * q + ba (ix2 0 (y 1))) * ∑ k, o (ix2 (y 0) k) * wo (ix2 k (y 1))
        + Ideal.logistic ((∑ k, h (ix2 (y 0) k) * gf (ix2 k (y 1))) * q + bf (ix2 0 (y 1))) * ∑ k, f (ix2 (y 0) k) * wf (ix2 k (y 1)) := by
  idx_vars y
  exact pay_at o f wo wf h ga gf q ba bf y0 y1

/-- Scaling both factors by positive numbers and dividing the sum by their product changes nothing. -/
theorem descale (f g : Fin 4096 → EReal) (s t : EReal) (hs : ∃ r : ℝ, 0 < r ∧ s = r) (ht : ∃ r : ℝ, 0 < r ∧ t = r) :
    (∑ k, (f k * s) * (g k * t)) * Ideal.div 1 (s * t) = ∑ k, f k * g k := by
  obtain ⟨a, ha, rfl⟩ := hs
  obtain ⟨b, hb, rfl⟩ := ht
  have hab : a * b ≠ 0 := (mul_pos ha hb).ne'
  simp only [mul_mul_mul_comm _ (a : EReal) _ (b : EReal)]
  rw [← EReal.coe_mul, ← Num.sum_mul_coe _ (mul_pos ha hb).le, Ideal.div_coe hab, one_mul, mul_assoc, ← EReal.coe_mul, mul_one_div_cancel hab, EReal.coe_one, mul_one]

/-- One gate, from a row of the activations and a column of the gate weights. -/
def gate (h : Fin 4096 → EReal) (w : Fin 4096 → EReal) (b : EReal) : EReal :=
  Ideal.div 1 (1 + Ideal.exp (-(∑ k, h k * w k + b)))

/-- The reference's result array, from the arrays the kernel takes. -/
abbrev REF (x0 x1 : FVec Ideal S8192x2048 .bf16) (x2 : FVec Ideal S8192x4096 .bf16) (x3 x4 : FVec Ideal S1x2048x4096 .f32) (x5 : FVec Ideal S1x4096x8192 .f32)
    (x6 : FVec Ideal S1x8192 .f32) : FVec Ideal S8192x4096 .bf16 :=
  Cert.MergeSampleRefIdeal.Read.val_main_v27 (F := Ideal) x0 x1 x2 x3 x4 x5 x6

open Cert.MergeSampleRefIdeal.Read in
theorem z_at (x2 : FVec Ideal S8192x4096 .bf16) (x5 : FVec Ideal S1x4096x8192 .f32) (x6 : FVec Ideal S1x8192 .f32) (r : Fin 8192) (l : Fin 8192) :
    val_main_v18 (F := Ideal) x2 x5 x6 (ix2 r l) = gate (fun k => x2 (ix2 r k)) (fun k => x5 (ix3 0 k l)) (x6 (ix2 0 l)) := by
  unfold gate
  pointwise [val_main_v6, val_main_v7, val_main_v8, val_main_v9, val_main_v10, val_main_v11, val_main_v12, val_main_v13, val_main_v14, val_main_v15, val_main_v16, val_main_v17, val_main_v18, val_main_cst, val_main_cst_0]

open Cert.MergeSampleRefIdeal.Read in
/-- The reference at an index. -/
theorem ref_at (x0 x1 : FVec Ideal S8192x2048 .bf16) (x2 : FVec Ideal S8192x4096 .bf16) (x3 x4 : FVec Ideal S1x2048x4096 .f32) (x5 : FVec Ideal S1x4096x8192 .f32)
    (x6 : FVec Ideal S1x8192 .f32) (r : Fin 8192) (l : Fin 4096) :
    REF x0 x1 x2 x3 x4 x5 x6 (ix2 r l)
      = gate (fun k => x2 (ix2 r k)) (fun k => x5 (ix3 0 k ⟨l.val, by omega⟩)) (x6 (ix2 0 ⟨l.val, by omega⟩)) * (∑ k, x0 (ix2 r k) * x3 (ix3 0 k l))
        + gate (fun k => x2 (ix2 r k)) (fun k => x5 (ix3 0 k ⟨4096 + l.val, by omega⟩)) (x6 (ix2 0 ⟨4096 + l.val, by omega⟩)) * (∑ k, x1 (ix2 r k) * x4 (ix3 0 k l)) := by
  have e : REF x0 x1 x2 x3 x4 x5 x6 (ix2 r l)
      = val_main_v18 (F := Ideal) x2 x5 x6 (ix2 r ⟨l.val, by omega⟩) * (∑ k, x0 (ix2 r k) * x3 (ix3 0 k l))
        + val_main_v18 (F := Ideal) x2 x5 x6 (ix2 r ⟨4096 + l.val, by omega⟩) * (∑ k, x1 (ix2 r k) * x4 (ix3 0 k l)) := by
    pointwise [REF, val_main_v0, val_main_v1, val_main_v2, val_main_v3, val_main_v4, val_main_v5, val_main_v19, val_main_v20, val_main_v21, val_main_v22, val_main_v23, val_main_v24, val_main_v25, val_main_v26, val_main_v27]
  rw [e, z_at, z_at]

/-- The kernel's logistic is the reference's gate. -/
theorem gate_eq (h w : Fin 4096 → EReal) (b s t z : EReal) (hs : ∃ r : ℝ, 0 < r ∧ s = r) (ht : ∃ r : ℝ, 0 < r ∧ t = r)
    (hz : z = (∑ k, (h k * s) * (w k * t)) * Ideal.div 1 (s * t) + b) : Ideal.logistic z = gate h w b := by
  rw [hz, descale h w s t hs ht]
  rfl

/-- The kernel's result array is the reference's. -/
theorem final (c : Dev nD) :
    (dats m 0 c).arrAt 10 cfg0.N = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  have ht : t.val < 128 := lt_of_lt_of_eq t.isLt N_0
  have hy0 : (y 0).val < 512 := (y 0).isLt
  have hy1 : (y 1).val < 512 := (y 1).isLt
  have e := ref_at (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      ⟨t.val / 8 * 512 + (y 0).val, by omega⟩ ⟨t.val % 8 * 512 + (y 1).val, by omega⟩
  generalize REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) = A at e ⊢
  refine (out_eq m c t y).trans ?_
  refine Eq.trans ?_ (e.symm.trans ?_)
  · refine (pay_y _ _ _ _ _ _ _ _ _ _ y).trans ?_
    refine congrArg₂ (· + ·) (congrArg₂ (· * ·) ?_ (Finset.sum_congr rfl fun k _ => congrArg₂ (· * ·) ?_ ?_))
      (congrArg₂ (· * ·) ?_ (Finset.sum_congr rfl fun k _ => congrArg₂ (· * ·) ?_ ?_))
    · exact gate_eq _ _ _ _ _ _ (sc_pos m c) (tc_pos m c) (congrArg₂ (· + ·) (congrArg₂ (· * ·) (Finset.sum_congr rfl fun k _ => congrArg₂ (· * ·) (scr_at m c t.val t.isLt ht (y 0) k)
        (ib6 m c t ht k (y 1))) (ib0_1 m c t)) (ib8 m c t ht (y 1)))
    · exact ib1 m c t ht (y 0) k
    · exact ib4 m c t ht k (y 1)
    · exact gate_eq _ _ _ _ _ _ (sc_pos m c) (tc_pos m c) (congrArg₂ (· + ·) (congrArg₂ (· * ·) (Finset.sum_congr rfl fun k _ => congrArg₂ (· * ·) (scr_at m c t.val t.isLt ht (y 0) k)
        (ib7 m c t ht k (y 1))) (ib0_1 m c t)) (ib9 m c t ht (y 1)))
    · exact ib2 m c t ht (y 0) k
    · exact ib5 m c t ht k (y 1)
  · blk_ext [idx t]

/-- Both programs run and end with the same result. -/
theorem algebraic : Cert.algebraic_MergeSampleIdeal_MergeSampleRefIdeal := by
  pair_intro
  · run_from Cert.MergeSampleIdeal.Value.run_blocks m g
  · run_from Cert.MergeSampleRefIdeal.Value.run m' g'
    rw [Cert.MergeSampleRefIdeal.Read.val_main_v27_eq]
    exact (final m c).symm

end Cert.MergeSampleProof
end
-- ==== Proof.InProjSample.lean ====
/- The input projection: the value of the kernel's result array. For the sample batch. -/
module

public import proofs.«01_k».proof.Defs
public import proofs.«01_k».proof.Proof.Gen.InProjSample.Frame
public import proofs.«01_k».proof.Proof.Gen.InProjSampleIdeal.Value
public import proofs.«01_k».proof.Proof.Gen.InProjSampleRefIdeal.Run
public import proofs.«01_k».proof.Proof.Gen.InProjSampleRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.InProjSampleProof

open Idealize.ShloMosaic Idealize.ShloMosaic.TcCoe Idealize.SL.Sem
open Cert.InProjSampleIdeal Cert.InProjSampleIdeal.Gen

variable (m : (ℓ : Loc nD τ sig) → Buf (Elt Ideal) ℓ)

theorem idx : ∀ t : Fin cfg0.N, win0_0.index t = ![t.val / 10, 0] ∧ win0_1.index t = ![0, t.val % 10] ∧ win0_2.index t = ![t.val / 10, t.val % 10] := (by decide +kernel : ∀ t : Fin grid0.N, _)

/-- One point's block: the rows times the columns. -/
theorem pay_at (x0 : FVec Ideal S1024x4096 .bf16) (x1 : FVec Ideal S4096x512 .bf16) (r : Fin 1024) (l : Fin 512) :
    k0_pay1 x0 x1 (ix2 r l) = ∑ k : Fin 4096, x0 (ix2 r k) * x1 (ix2 k l) := by
  pointwise [k0_pay1]

theorem out_at (x0 : FVec Ideal S1024x4096 .bf16) (x1 : FVec Ideal S4096x512 .bf16) (y : S1024x512.Idx) :
    out0_2 (F := Ideal) x0 x1 y = ∑ k : Fin 4096, x0 (ix2 (y 0) k) * x1 (ix2 k (y 1)) := by
  unfold out0_2
  frame_out
  idx_vars y
  exact pay_at x0 x1 y0 y1

abbrev REF (x0 : FVec Ideal S8192x4096 .bf16) (x1 : FVec Ideal S1x4096x5120 .f32) : FVec Ideal S8192x5120 .bf16 :=
  Cert.InProjSampleRefIdeal.Read.val_main_v6 (F := Ideal) x0 x1

/-- The reference at an index. -/
theorem ref_at (x0 : FVec Ideal S8192x4096 .bf16) (x1 : FVec Ideal S1x4096x5120 .f32) (r : Fin 8192) (l : Fin 5120) :
    REF x0 x1 (ix2 r l) = ∑ k : Fin 4096, x0 (ix2 r k) * (if h : l.val < 2048 then x1 (ix3 0 k ⟨3072 + l.val, by omega⟩) else x1 (ix3 0 k ⟨l.val - 2048, by omega⟩)) := by
  by_cases h : l.val < 2048
  · simp only [h, dif_pos]
    pointwise [REF, Cert.InProjSampleRefIdeal.Read.val_main_v0, Cert.InProjSampleRefIdeal.Read.val_main_v1, Cert.InProjSampleRefIdeal.Read.val_main_v2, Cert.InProjSampleRefIdeal.Read.val_main_v3, Cert.InProjSampleRefIdeal.Read.val_main_v4, Cert.InProjSampleRefIdeal.Read.val_main_v5, Cert.InProjSampleRefIdeal.Read.val_main_v6]
    rw [dif_pos h]
  · simp only [h, dif_neg, not_false_eq_true]
    pointwise [REF, Cert.InProjSampleRefIdeal.Read.val_main_v0, Cert.InProjSampleRefIdeal.Read.val_main_v1, Cert.InProjSampleRefIdeal.Read.val_main_v2, Cert.InProjSampleRefIdeal.Read.val_main_v3, Cert.InProjSampleRefIdeal.Read.val_main_v4, Cert.InProjSampleRefIdeal.Read.val_main_v5, Cert.InProjSampleRefIdeal.Read.val_main_v6]
    rw [dif_neg h]

/-- The kernel's weights, read at an index of the argument. -/
theorem w_at (c : Dev nD) (k : Fin 4096) (l : Fin 5120) :
    (show EReal from V m c main_v4 (ix2 k l)) = (if h : l.val < 2048 then (show FVec Ideal S1x4096x5120 .f32 from m ((c : Thread nD τ).loc main_arg1)) (ix3 0 k ⟨3072 + l.val, by omega⟩) else (show FVec Ideal S1x4096x5120 .f32 from m ((c : Thread nD τ).loc main_arg1)) (ix3 0 k ⟨l.val - 2048, by omega⟩)) := by
  by_cases h : l.val < 2048
  · simp only [h, dif_pos]
    entry_read
    pointwise []
    rw [dif_pos h]
  · simp only [h, dif_neg, not_false_eq_true]
    entry_read
    pointwise []
    rw [dif_neg h]

/-- The kernel's result array is the reference's. -/
theorem final (c : Dev nD) :
    (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 80 := lt_of_lt_of_eq t.isLt N_0
  have hy0 : (y 0).val < 1024 := (y 0).isLt
  have hy1 : (y 1).val < 512 := (y 1).isLt
  refine (out_at _ _ y).trans ?_
  have e := ref_at (m ((c : Thread nD τ).loc main_arg0)) (m ((c : Thread nD τ).loc main_arg1)) ⟨t.val / 10 * 1024 + (y 0).val, by omega⟩ ⟨t.val % 10 * 512 + (y 1).val, by omega⟩
  generalize REF (m ((c : Thread nD τ).loc main_arg0)) (m ((c : Thread nD τ).loc main_arg1)) = A at e ⊢
  refine Eq.trans ?_ (e.symm.trans ?_)
  · refine (Finset.sum_congr rfl fun k _ => congrArg₂ (· * ·) ?_ ?_)
    · blk_ext [iblk, V, idx t]
    · refine Eq.trans ?_ (w_at m c k ⟨t.val % 10 * 512 + (y 1).val, by omega⟩)
      blk_ext [iblk, idx t]
  · blk_ext [idx t]

/-- Both programs run and end with the same result. -/
theorem algebraic : Cert.algebraic_InProjSampleIdeal_InProjSampleRefIdeal := by
  pair_intro
  · run_from Cert.InProjSampleIdeal.Value.run_blocks m g
  · run_from Cert.InProjSampleRefIdeal.Value.run m' g'
    rw [Cert.InProjSampleRefIdeal.Read.val_main_v6_eq]
    exact (final m c).symm

end Cert.InProjSampleProof
end
-- ==== Proof.OutProjSample.lean ====
/- The output projection with the residual. For the sample batch. -/
module

public import proofs.«01_k».proof.Defs
public import proofs.«01_k».proof.Proof.Gen.OutProjSample.Frame
public import proofs.«01_k».proof.Proof.Gen.OutProjSampleIdeal.Value
public import proofs.«01_k».proof.Proof.Gen.OutProjSampleRefIdeal.Run
public import proofs.«01_k».proof.Proof.Gen.OutProjSampleRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.OutProjSampleProof

open Idealize.ShloMosaic Idealize.ShloMosaic.TcCoe Idealize.SL.Sem
open Cert.OutProjSampleIdeal Cert.OutProjSampleIdeal.Gen

variable (m : (ℓ : Loc nD τ sig) → Buf (Elt Ideal) ℓ)

theorem idx : ∀ t : Fin cfg0.N, win0_0.index t = ![t.val / 8, 0] ∧ win0_1.index t = ![0, t.val % 8] ∧ win0_2.index t = ![t.val / 8, t.val % 8] ∧ win0_3.index t = ![t.val / 8, t.val % 8] := (by decide +kernel : ∀ t : Fin grid0.N, _)

/-- One point's block: the rows times the columns. -/
theorem pay_at (x0 : FVec Ideal S1024x4096 .bf16) (x1 : FVec Ideal S4096x512 .bf16) (x2 : FVec Ideal S1024x512 .f32) (r : Fin 1024) (l : Fin 512) :
    k0_pay1 x0 x1 x2 (ix2 r l) = x2 (ix2 r l) + ∑ k : Fin 4096, x0 (ix2 r k) * x1 (ix2 k l) := by
  pointwise [k0_pay1]

theorem out_at (x0 : FVec Ideal S1024x4096 .bf16) (x1 : FVec Ideal S4096x512 .bf16) (x2 : FVec Ideal S1024x512 .f32) (y : S1024x512.Idx) :
    out0_3 (F := Ideal) x0 x1 x2 y = x2 (ix2 (y 0) (y 1)) + ∑ k : Fin 4096, x0 (ix2 (y 0) k) * x1 (ix2 k (y 1)) := by
  unfold out0_3
  frame_out
  idx_vars y
  exact pay_at x0 x1 x2 y0 y1

abbrev REF (x0 : FVec Ideal S8192x4096 .bf16) (x1 : FVec Ideal S1x4096x4096 .f32) (x2 : FVec Ideal S4x2048x4096 .f32) : FVec Ideal S8192x4096 .f32 :=
  Cert.OutProjSampleRefIdeal.Read.val_main_v4 (F := Ideal) x0 x1 x2

/-- The reference at an index. -/
theorem ref_at (x0 : FVec Ideal S8192x4096 .bf16) (x1 : FVec Ideal S1x4096x4096 .f32) (x2 : FVec Ideal S4x2048x4096 .f32) (r : Fin 8192) (l : Fin 4096) :
    REF x0 x1 x2 (ix2 r l) = x2 (ix3 ⟨r.val / 2048, by omega⟩ ⟨r.val % 2048, by omega⟩ l) + ∑ k : Fin 4096, x0 (ix2 r k) * x1 (ix3 0 k l) := by
  pointwise [REF, Cert.OutProjSampleRefIdeal.Read.val_main_v0, Cert.OutProjSampleRefIdeal.Read.val_main_v1, Cert.OutProjSampleRefIdeal.Read.val_main_v2, Cert.OutProjSampleRefIdeal.Read.val_main_v3, Cert.OutProjSampleRefIdeal.Read.val_main_v4]

/-- The kernel's weights, read at an index of the argument. -/
theorem w_at (c : Dev nD) (k : Fin 4096) (l : Fin 4096) :
    (show EReal from V m c main_v1 (ix2 k l)) = (show FVec Ideal S1x4096x4096 .f32 from m ((c : Thread nD τ).loc main_arg1)) (ix3 0 k l) := by
  entry_read
  pointwise []

/-- The residual rows the kernel reads. -/
theorem x_at (c : Dev nD) (r : Fin 8192) (l : Fin 4096) :
    (show EReal from V m c main_v2 (ix2 r l)) = (show FVec Ideal S4x2048x4096 .f32 from m ((c : Thread nD τ).loc main_arg2)) (ix3 ⟨r.val / 2048, by omega⟩ ⟨r.val % 2048, by omega⟩ l) := by
  entry_read
  pointwise []

/-- The kernel's result array is the reference's. -/
theorem final (c : Dev nD) :
    (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht : t.val < 64 := lt_of_lt_of_eq t.isLt N_0
  have hy0 : (y 0).val < 1024 := (y 0).isLt
  have hy1 : (y 1).val < 512 := (y 1).isLt
  refine (out_at _ _ _ y).trans ?_
  have e := ref_at (m ((c : Thread nD τ).loc main_arg0)) (m ((c : Thread nD τ).loc main_arg1)) (m ((c : Thread nD τ).loc main_arg2)) ⟨t.val / 8 * 1024 + (y 0).val, by omega⟩ ⟨t.val % 8 * 512 + (y 1).val, by omega⟩
  generalize REF (m ((c : Thread nD τ).loc main_arg0)) (m ((c : Thread nD τ).loc main_arg1)) (m ((c : Thread nD τ).loc main_arg2)) = A at e ⊢
  refine Eq.trans ?_ (e.symm.trans ?_)
  · refine congrArg₂ (· + ·) ?_ (Finset.sum_congr rfl fun k _ => congrArg₂ (· * ·) ?_ ?_)
    · refine Eq.trans ?_ (x_at m c ⟨t.val / 8 * 1024 + (y 0).val, by omega⟩ ⟨t.val % 8 * 512 + (y 1).val, by omega⟩)
      blk_ext [iblk, idx t]
    · blk_ext [iblk, V, idx t]
    · refine Eq.trans ?_ (w_at m c k ⟨t.val % 8 * 512 + (y 1).val, by omega⟩)
      blk_ext [iblk, idx t]
  · blk_ext [idx t]

/-- Both programs run and end with the same result. -/
theorem algebraic : Cert.algebraic_OutProjSampleIdeal_OutProjSampleRefIdeal := by
  pair_intro
  · run_from Cert.OutProjSampleIdeal.Value.run_blocks m g
  · run_from Cert.OutProjSampleRefIdeal.Value.run m' g'
    rw [Cert.OutProjSampleRefIdeal.Read.val_main_v4_eq]
    exact (final m c).symm

end Cert.OutProjSampleProof
end
-- ==== Proof.NormSample.lean ====
/- The normalization of the rows before the mixing branches. For the sample batch. -/
module

public import proofs.«01_k».proof.Defs
public import proofs.«01_k».proof.Proof.Gen.NormSample.Frame
public import proofs.«01_k».proof.Proof.Gen.NormSampleIdeal.Value
public import proofs.«01_k».proof.Proof.Gen.NormSampleRefIdeal.Run
public import proofs.«01_k».proof.Proof.Gen.NormSampleRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.NormSampleProof

open Idealize.ShloMosaic Idealize.ShloMosaic.TcCoe Idealize.SL.Sem
open Cert.NormSampleIdeal Cert.NormSampleIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] := (by decide +kernel : ∀ t : Fin grid0.N, _)

/-- One entry of a normalized row. -/
def row (x : Fin 4096 → EReal) (g : EReal) (l : Fin 4096) : EReal :=
  x l * Ideal.rsqrt (Ideal.div (∑ k, x k * x k) (Ideal.ofBits FTy.f32 0x45800000#32) + Ideal.ofBits FTy.f32 0x358637BD#32) * g

/-- One point's block: each row normalized. -/
theorem pay_at (x0 : FVec Ideal S256x4096 .f32) (x1 : FVec Ideal S1x4096 .f32) (r : Fin 256) (l : Fin 4096) :
    k0_pay1 (F := Ideal) x0 x1 (ix2 r l) = row (fun k => x0 (ix2 r k)) (x1 (ix2 0 l)) l := by
  unfold row
  pointwise [k0_pay1]

theorem out_at (x0 : FVec Ideal S256x4096 .f32) (x1 : FVec Ideal S1x4096 .f32) (y : S256x4096.Idx) :
    out0_2 (F := Ideal) x0 x1 y = row (fun k => x0 (ix2 (y 0) k)) (x1 (ix2 0 (y 1))) (y 1) := by
  unfold out0_2
  frame_out
  idx_vars y
  exact pay_at x0 x1 y0 y1

abbrev REF (x0 : FVec Ideal S8192x4096 .f32) (x1 : FVec Ideal S1x4096 .f32) : FVec Ideal S8192x4096 .bf16 :=
  Cert.NormSampleRefIdeal.Read.val_main_v14 (F := Ideal) x0 x1

/-- The reference at an index. -/
theorem ref_at (x0 : FVec Ideal S8192x4096 .f32) (x1 : FVec Ideal S1x4096 .f32) (r : Fin 8192) (l : Fin 4096) :
    REF x0 x1 (ix2 r l) = row (fun k => x0 (ix2 r k)) (x1 (ix2 0 l)) l := by
  unfold row
  pointwise [REF, Cert.NormSampleRefIdeal.Read.val_main_v0, Cert.NormSampleRefIdeal.Read.val_main_v1, Cert.NormSampleRefIdeal.Read.val_main_v2, Cert.NormSampleRefIdeal.Read.val_main_v3, Cert.NormSampleRefIdeal.Read.val_main_v4, Cert.NormSampleRefIdeal.Read.val_main_v5, Cert.NormSampleRefIdeal.Read.val_main_v6, Cert.NormSampleRefIdeal.Read.val_main_v7, Cert.NormSampleRefIdeal.Read.val_main_v8, Cert.NormSampleRefIdeal.Read.val_main_v9, Cert.NormSampleRefIdeal.Read.val_main_v10, Cert.NormSampleRefIdeal.Read.val_main_v11, Cert.NormSampleRefIdeal.Read.val_main_v12, Cert.NormSampleRefIdeal.Read.val_main_v13, Cert.NormSampleRefIdeal.Read.val_main_v14, Cert.NormSampleRefIdeal.Read.val_main_cst, Cert.NormSampleRefIdeal.Read.val_main_cst_0, Cert.NormSampleRefIdeal.Read.val_main_cst_1]

/-- The kernel's gain, read at an index of the argument. -/
theorem g_at (c : Dev nD) (l : Fin 4096) :
    (show EReal from V m c main_v1 (ix2 0 l)) = (show FVec Ideal S1x4096 .f32 from m ((c : Thread nD τ).loc main_arg1)) (ix2 0 l) := by
  entry_read
  pointwise []

theorem row_congr {x x' : Fin 4096 → EReal} {g g' : EReal} (l : Fin 4096) (h : ∀ k, x k = x' k) (hg : g = g') : row x g l = row x' g' l := by
  rw [funext h, hg]

/-- The kernel's result array is the reference's. -/
theorem final (c : Dev nD) :
    (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 32 := lt_of_lt_of_eq t.isLt N_0
  have hy0 : (y 0).val < 256 := (y 0).isLt
  have hy1 : (y 1).val < 4096 := (y 1).isLt
  refine (out_at _ _ y).trans ?_
  have e := ref_at (m ((c : Thread nD τ).loc main_arg0)) (m ((c : Thread nD τ).loc main_arg1)) ⟨t.val * 256 + (y 0).val, by omega⟩ (y 1)
  generalize REF (m ((c : Thread nD τ).loc main_arg0)) (m ((c : Thread nD τ).loc main_arg1)) = A at e ⊢
  refine Eq.trans ?_ (e.symm.trans ?_)
  · refine row_congr _ (fun k => ?_) ?_
    · blk_ext [iblk, V, idx t]
    · refine Eq.trans ?_ (g_at m c (y 1))
      blk_ext [iblk, idx t]
  · blk_ext [idx t]

/-- Both programs run and end with the same result. -/
theorem algebraic : Cert.algebraic_NormSampleIdeal_NormSampleRefIdeal := by
  pair_intro
  · run_from Cert.NormSampleIdeal.Value.run_blocks m g
  · run_from Cert.NormSampleRefIdeal.Value.run m' g'
    rw [Cert.NormSampleRefIdeal.Read.val_main_v14_eq]
    exact (final m c).symm

end Cert.NormSampleProof
end
-- ==== Proof.KeysSample.lean ====
/- The keys: each of the four key heads normalized over its 128 lanes, scaled by the gain, and turned by its position. For the sample batch. -/
module

public import proofs.«01_k».proof.Defs
public import proofs.«01_k».proof.Proof.Math
public import proofs.«01_k».proof.Proof.HeadSample
public import proofs.«01_k».proof.Proof.Gen.KeysSample.Frame
public import proofs.«01_k».proof.Proof.Gen.KeysSampleIdeal.Value
public import proofs.«01_k».proof.Proof.Gen.KeysSampleRefIdeal.Run
public import proofs.«01_k».proof.Proof.Gen.KeysSampleRefIdeal.Read
public import Idealize.ShloMosaic.Lib.Claim
public import Idealize.ShloMosaic.Lib.Pipeline.ValueKit
public import Idealize.ShloMosaic.Lib.Pointwise

@[expose] public section

set_option maxRecDepth 16384
set_option backward.isDefEq.respectTransparency.types false

noncomputable section

namespace Cert.KeysSampleProof

open Idealize.ShloMosaic Idealize.ShloMosaic.TcCoe Idealize.SL.Sem
open Cert Cert.KeysSampleIdeal Cert.KeysSampleIdeal.Gen

/-- The kernel's turn (a lane roll and a signed sine) is the reference's. -/
theorem rot_eq (n g : Fin 128 → EReal) (s : ℕ) (d : Fin 128) :
    Num.rot (fun d => n d * g d) (fun d => Ideal.cos (Num.ang s (d.val / 64) (d.val % 32)))
        (fun d => if d.val / 32 % 2 < 1 then -Ideal.sin (Num.ang s (d.val / 64) (d.val % 32)) else Ideal.sin (Num.ang s (d.val / 64) (d.val % 32))) d
      = Num.rrot n g s d := by
  unfold Num.rot Num.rrot
  by_cases h : d.val / 32 % 2 < 1
  · have e0 : (⟨d.val / 64 * 64 + d.val % 32, by omega⟩ : Fin 128) = d := Fin.ext (by dsimp only; omega)
    have e1 : (⟨(d.val + 128 - 96) % 128, Nat.mod_lt _ (by decide)⟩ : Fin 128) = ⟨d.val / 64 * 64 + 32 + d.val % 32, by omega⟩ := Fin.ext (by dsimp only; omega)
    simp only [h, if_true, e0, e1, mul_neg, sub_eq_add_neg]
  · have e0 : (⟨d.val / 64 * 64 + 32 + d.val % 32, by omega⟩ : Fin 128) = d := Fin.ext (by dsimp only; omega)
    have e1 : (⟨(d.val + 128 - 32) % 128, Nat.mod_lt _ (by decide)⟩ : Fin 128) = ⟨d.val / 64 * 64 + d.val % 32, by omega⟩ := Fin.ext (by dsimp only; omega)
    simp only [h, if_false, e0, e1]

/-- The turn of one normalized, scaled head. -/
theorem pay8_at (c s q : FVec Ideal S512x128 .f32) (r : Fin 512) (d : Fin 128) :
    k0_pay8 (F := Ideal) c s q k0_pay5 k0_pay6 k0_pay7 (ix2 r d) = Num.rot (fun d => q (ix2 r d)) (fun d => c (ix2 r d)) (fun d => s (ix2 r d)) d := by
  have hs : Num.rot (fun d => q (ix2 r d)) (fun d => c (ix2 r d)) (fun d => s (ix2 r d)) d
      = q (ix2 r d) * c (ix2 r d) + Scalar.select (KernelSampleProof.laneBit (BitVec.ofNat 32 d)) (q (ix2 r ⟨(d.val + 128 - 96) % 128, Nat.mod_lt _ (by decide)⟩)) (q (ix2 r ⟨(d.val + 128 - 32) % 128, Nat.mod_lt _ (by decide)⟩)) * s (ix2 r d) := by
    unfold Num.rot
    rw [KernelSampleProof.laneBit_eq d]
    by_cases h : d.val / 32 % 2 < 1 <;> simp only [h, if_true, if_false, Scalar.select] <;> rfl
  rw [hs]
  pointwise [k0_pay8, k0_pay5, k0_pay6, k0_pay7]
  rfl

theorem pay4_at (x : FVec Ideal S512x128 .bf16) (g : FVec Ideal S1x128 .f32) (r : Fin 512) (d : Fin 128) :
    k0_pay4 (F := Ideal) x g (ix2 r d) = Num.nrm (fun d => x (ix2 r d)) d * g (ix2 0 d) := by
  unfold Num.nrm
  pointwise [k0_pay4]

/-- One head's tile, from its keys, the gain and the two tables. -/
def headT (x : FVec Ideal S512x128 .bf16) (g : FVec Ideal S1x128 .f32) (c s : FVec Ideal S512x128 .f32) : FVec Ideal S512x128 .bf16 :=
  k0_pay8 (F := Ideal) (k0_pay2 c) (k0_pay3 s) (k0_pay4 x g) k0_pay5 k0_pay6 k0_pay7

theorem headT_at (x : FVec Ideal S512x128 .bf16) (g : FVec Ideal S1x128 .f32) (c s : FVec Ideal S512x128 .f32) (r : Fin 512) (d : Fin 128) :
    headT x g c s (ix2 r d) = Num.rot (fun d => Num.nrm (fun d => x (ix2 r d)) d * g (ix2 0 d)) (fun d => c (ix2 r d)) (fun d => s (ix2 r d)) d := by
  have hc : k0_pay2 (F := Ideal) c = c := by funext i; idx_vars i; pointwise [k0_pay2]
  have hs : k0_pay3 (F := Ideal) s = s := by funext i; idx_vars i; pointwise [k0_pay3]
  unfold headT
  rw [pay8_at, hc, hs]
  simp only [pay4_at]

theorem head1 (x : FVec Ideal S512x128 .bf16) (g : FVec Ideal S1x128 .f32) (c s : FVec Ideal S512x128 .f32) :
    k0_pay15 (F := Ideal) (k0_pay2 c) (k0_pay3 s) (k0_pay13 (k0_pay9 g) (k0_pay10 x) (k0_pay11 x) (k0_pay12 (F := Ideal))) k0_pay14 = headT x g c s := rfl
theorem head2 (x : FVec Ideal S512x128 .bf16) (g : FVec Ideal S1x128 .f32) (c s : FVec Ideal S512x128 .f32) :
    k0_pay20 (F := Ideal) (k0_pay2 c) (k0_pay3 s) (k0_pay16 x g) (iota .tc S512x128 32 [1] iota_S512x128_d1_w32) 32#32 k0_pay17 k0_pay18 k0_pay19 = headT x g c s := rfl
theorem head3 (x : FVec Ideal S512x128 .bf16) (g : FVec Ideal S1x128 .f32) (c s : FVec Ideal S512x128 .f32) :
    k0_pay1 (F := Ideal) (k0_pay2 c) (k0_pay3 s) (k0_pay24 (k0_pay21 g) (k0_pay22 x) (k0_pay23 x)) (Scalar.select (Scalar.cmpi .eq 2#32 0#32) 1#32 2#32) k0_pay25 k0_pay26 k0_pay27 k0_pay28 = headT x g c s := rfl

/-- The entry of the block at row `r`, lane `l`: the head is `l / 128`. -/
abbrev ent (x0 : FVec Ideal S512x512 .bf16) (x1 : FVec Ideal S1x512 .f32) (x2 x3 : FVec Ideal S512x128 .f32) (r : Fin 512) (l : Fin 512) : EReal :=
  Num.rot (fun d => Num.nrm (fun d => x0 (ix2 r ⟨l.val / 128 * 128 + d.val, by omega⟩)) d * x1 (ix2 0 ⟨l.val / 128 * 128 + d.val, by omega⟩))
    (fun d => x2 (ix2 r d)) (fun d => x3 (ix2 r d)) ⟨l.val % 128, Nat.mod_lt _ (by decide)⟩

/-- A head's tile, placed in its 128 lanes of the block. -/
theorem tile (x0 : FVec Ideal S512x512 .bf16) (x1 : FVec Ideal S1x512 .f32) (x2 x3 : FVec Ideal S512x128 .f32) (r l : Fin 512) (o : ℕ) (ho : o < 4)
    (Y T : FVec Ideal S512x128 .bf16) (G : FVec Ideal S1x128 .f32) (C D : FVec Ideal S512x128 .f32) (hT : T = headT Y G C D)
    (hC : ∀ (r : Fin 512) (d : Fin 128), C (ix2 r d) = x2 (ix2 r d))
    (hD : ∀ (r : Fin 512) (d : Fin 128), D (ix2 r d) = x3 (ix2 r d))
    (hG : ∀ d : Fin 128, G (ix2 0 d) = x1 (ix2 0 ⟨o * 128 + d.val, by omega⟩))
    (hY : ∀ (r : Fin 512) (d : Fin 128), Y (ix2 r d) = x0 (ix2 r ⟨o * 128 + d.val, by omega⟩))
    (j : S512x128.Idx) (h1 : r.val = (j 0).val) (h2 : l.val = o * 128 + (j 1).val) : T j = ent x0 x1 x2 x3 r l := by
  idx_vars j
  have hb : j0 = r := Fin.ext h1.symm
  have h2' : l.val = o * 128 + j1.val := h2
  have hj1 : j1.val < 128 := j1.isLt
  have ho' : l.val / 128 = o := by omega
  have hm : (⟨l.val % 128, Nat.mod_lt _ (by decide)⟩ : Fin 128) = j1 := Fin.ext (by dsimp only; omega)
  subst hb hT
  rw [headT_at]
  unfold ent
  simp only [hC, hD, hG, hY, ho', hm]

/-- One point's result block. -/
theorem out_at (x0 : FVec Ideal S512x512 .bf16) (x1 : FVec Ideal S1x512 .f32) (x2 x3 : FVec Ideal S512x128 .f32) (y : S512x512.Idx) (r l : Fin 512) (hr : r = y 0) (hl : l = y 1) :
    out0_4 (F := Ideal) x0 x1 x2 x3 y = ent x0 x1 x2 x3 r l := by
  have hr' : r.val = (y 0).val := congrArg Fin.val hr
  have hl' : l.val = (y 1).val := congrArg Fin.val hl
  unfold out0_4 k0_pay30 k0_pay29
  canon_tiles x h
  case piece0 => exact tile x0 x1 x2 x3 r l 3 (by decide) _ _ _ _ _ (head3 _ _ _ _) (fun r d => by pointwise; blk_ext) (fun r d => by pointwise; blk_ext) (fun d => by pointwise; blk_ext) (fun r d => by pointwise; blk_ext) x (hr'.trans h0) (hl'.trans h1)
  case piece1 => exact tile x0 x1 x2 x3 r l 2 (by decide) _ _ _ _ _ (head2 _ _ _ _) (fun r d => by pointwise; blk_ext) (fun r d => by pointwise; blk_ext) (fun d => by pointwise; blk_ext) (fun r d => by pointwise; blk_ext) x (hr'.trans h0) (hl'.trans h1)
  case piece2 => exact tile x0 x1 x2 x3 r l 1 (by decide) _ _ _ _ _ (head1 _ _ _ _) (fun r d => by pointwise; blk_ext) (fun r d => by pointwise; blk_ext) (fun d => by pointwise; blk_ext) (fun r d => by pointwise; blk_ext) x (hr'.trans h0) (hl'.trans h1)
  case piece3 => exact tile x0 x1 x2 x3 r l 0 (by decide) _ _ _ _ _ rfl (fun r d => by pointwise; blk_ext) (fun r d => by pointwise; blk_ext) (fun d => by pointwise; blk_ext) (fun r d => by pointwise; blk_ext) x (hr'.trans h0) (hl'.trans (h1.trans (by omega)))

variable (m : (ℓ : Loc nD τ sig) → Buf (Elt Ideal) ℓ)

theorem idx : ∀ t : Fin cfg0.N, win0_0.index t = ![t.val, 8] ∧ win0_1.index t = ![0, 0] ∧ win0_2.index t = ![t.val % 4, 0] ∧ win0_3.index t = ![t.val % 4, 0] ∧ win0_4.index t = ![t.val, 0] :=
  (by decide +kernel : ∀ t : Fin grid0.N, _)

/-- The cosine table the kernel is given. -/
theorem cos_at (c : Dev nD) (s : Fin 2048) (d : Fin 128) :
    (show EReal from V m c main_v32 (ix2 s d)) = Ideal.cos (Num.ang s (d.val / 64) (d.val % 32)) := by
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise []
  have h2 := KernelSampleProof.colW_eq s
  unfold KernelSampleProof.colW at h2
  simp only [h2]
  unfold Num.ang Num.freq
  by_cases h : d.val / 64 < 1 <;> simp only [h, dite_true, dite_false, if_true, if_false, ite_self, dite_eq_ite]
  rw [← KernelSampleProof.rowW_eq s]
  rfl

/-- The sine table the kernel is given: negated in the first half of every 64-lane block. -/
theorem sin_at (c : Dev nD) (s : Fin 2048) (d : Fin 128) :
    (show EReal from V m c main_v37 (ix2 s d))
      = if d.val / 32 % 2 < 1 then -Ideal.sin (Num.ang s (d.val / 64) (d.val % 32)) else Ideal.sin (Num.ang s (d.val / 64) (d.val % 32)) := by
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise []
  have h2 := KernelSampleProof.colW_eq s
  unfold KernelSampleProof.colW at h2
  simp only [h2]
  unfold Num.ang Num.freq
  by_cases h : d.val / 64 < 1 <;> simp only [h, dite_true, dite_false, if_true, if_false, ite_self, dite_eq_ite]
  rw [← KernelSampleProof.rowW_eq s]
  rfl

/-- The gain the kernel is given: the norm's gain, once per head. -/
theorem gain_at (c : Dev nD) (l : Fin 512) :
    (show EReal from V m c main_v4 (ix2 0 l))
      = (show FVec Ideal S1x128 .f32 from m ((c : Thread nD τ).loc main_arg1)) (ix2 0 ⟨l.val % 128, Nat.mod_lt _ (by decide)⟩) := by
  unfold V
  simp only [hostOps0, hostOps0_1, hostOps0_2, hostOps0_3, hostOps0_4, List.flatten_cons, List.flatten_nil, List.append_nil, List.cons_append, List.nil_append]
  entry_read
  pointwise []

theorem rd0 (c : Dev nD) (X : Buf (Elt Ideal) ((c : Thread nD τ).loc main_arg0)) (t : Fin cfg0.N) (ht : t.val < 16) (r l : Fin 512) :
    (show EReal from ((cfg0.win 0).blk t).view.read (Elt Ideal) X (ix2 r l)) = (show EReal from X (ix2 ⟨t.val * 512 + r.val, by omega⟩ ⟨4096 + l.val, by omega⟩)) := by
  blk_ext [idx t]

theorem rd1 (c : Dev nD) (X : Buf (Elt Ideal) ((c : Thread nD τ).loc main_v4)) (t : Fin cfg0.N) (l : Fin 512) :
    (show EReal from ((cfg0.win 1).blk t).view.read (Elt Ideal) X (ix2 0 l)) = (show EReal from X (ix2 0 l)) := by
  blk_ext [idx t]

theorem rd2 (c : Dev nD) (X : Buf (Elt Ideal) ((c : Thread nD τ).loc main_v32)) (t : Fin cfg0.N) (r : Fin 512) (d : Fin 128) :
    (show EReal from ((cfg0.win 2).blk t).view.read (Elt Ideal) X (ix2 r d)) = (show EReal from X (ix2 ⟨t.val % 4 * 512 + r.val, by omega⟩ d)) := by
  blk_ext [idx t]

theorem rd3 (c : Dev nD) (X : Buf (Elt Ideal) ((c : Thread nD τ).loc main_v37)) (t : Fin cfg0.N) (r : Fin 512) (d : Fin 128) :
    (show EReal from ((cfg0.win 3).blk t).view.read (Elt Ideal) X (ix2 r d)) = (show EReal from X (ix2 ⟨t.val % 4 * 512 + r.val, by omega⟩ d)) := by
  blk_ext [idx t]

/-- The reference's result array, from the arrays the kernel takes. -/
abbrev REF (x0 : FVec Ideal S8192x5120 .bf16) (x1 : FVec Ideal S1x128 .f32) : FVec Ideal S8192x512 .bf16 :=
  Cert.KeysSampleRefIdeal.Read.val_main_v67 (F := Ideal) x0 x1

open Cert.KeysSampleRefIdeal.Read

/-- The reference's rotary cosine and sine. -/
theorem v29_at (s : Fin 2048) (p : Fin 2) (e : Fin 32) : val_main_v29 (F := Ideal) (ix3 s p e) = Ideal.cos (Num.ang s p e) := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, dite_eq_ite]
  rfl

theorem v30_at (s : Fin 2048) (p : Fin 2) (e : Fin 32) : val_main_v30 (F := Ideal) (ix3 s p e) = Ideal.sin (Num.ang s p e) := by
  pointwise [val_main_v30, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, dite_eq_ite]
  rfl

theorem v44_at (x0 : FVec Ideal S8192x5120 .bf16) (x1 : FVec Ideal S1x128 .f32) (b : Fin 4) (s : Fin 2048) (h : Fin 4) (d : Fin 128) :
    val_main_v44 (F := Ideal) x0 x1 (ix4 b s h d)
      = Num.nrm (fun d => x0 (ix2 ⟨b.val * 2048 + s.val, by omega⟩ ⟨4096 + (h.val * 128 + d.val), by omega⟩)) d * x1 (ix2 0 d) := by
  unfold Num.nrm
  pointwise [val_main_v44, val_main_v43, val_main_v42, val_main_v41, val_main_v40, val_main_v39, val_main_v38, val_main_v37, val_main_v36, val_main_v35, val_main_v34, val_main_v33, val_main_v32, val_main_v31, val_main_v2, val_main_v1, val_main_v0, val_main_cst_3, val_main_cst_4, val_main_cst_5]

theorem v65_at (x0 : FVec Ideal S8192x5120 .bf16) (x1 : FVec Ideal S1x128 .f32) (b : Fin 4) (s : Fin 2048) (h : Fin 4) (d : Fin 128) :
    val_main_v65 (F := Ideal) x0 x1 (ix4 b s h d)
      = Num.rrot (Num.nrm fun d => x0 (ix2 ⟨b.val * 2048 + s.val, by omega⟩ ⟨4096 + (h.val * 128 + d.val), by omega⟩)) (fun d => x1 (ix2 0 d)) s d := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, v29_at, v30_at, v44_at, dite_eq_ite]
  rfl

/-- The reference at an index. -/
theorem ref_at (x0 : FVec Ideal S8192x5120 .bf16) (x1 : FVec Ideal S1x128 .f32) (r : Fin 8192) (l : Fin 512) :
    REF x0 x1 (ix2 r l)
      = Num.rrot (Num.nrm fun d => x0 (ix2 r ⟨4096 + (l.val / 128 * 128 + d.val), by omega⟩)) (fun d => x1 (ix2 0 d)) (r.val % 2048) ⟨l.val % 128, Nat.mod_lt _ (by decide)⟩ := by
  have e : REF x0 x1 (ix2 r l) = val_main_v65 (F := Ideal) x0 x1 (ix4 ⟨r.val / 2048, by omega⟩ ⟨r.val % 2048, by omega⟩ ⟨l.val / 128, by omega⟩ ⟨l.val % 128, by omega⟩) := by
    unfold REF val_main_v67 val_main_v66
    generalize val_main_v65 (F := Ideal) x0 x1 = X
    pointwise []
  rw [e, v65_at]
  have f : r.val / 2048 * 2048 + r.val % 2048 = r.val := by omega
  simp only [f]

end Cert.KeysSampleProof
end
-- ==== Proof.KeysSampleFinal.lean ====
/- The keys: the whole result array, and the two programs' equal results. For the sample batch. -/
module

public import proofs.«01_k».proof.Proof.KeysSample

@[expose] public section

set_option maxRecDepth 16384
set_option backward.isDefEq.respectTransparency.types false

noncomputable section

namespace Cert.KeysSampleProof

open Idealize.ShloMosaic Idealize.ShloMosaic.TcCoe Idealize.SL.Sem
open Cert Cert.KeysSampleIdeal Cert.KeysSampleIdeal.Gen

variable (m : (ℓ : Loc nD τ sig) → Buf (Elt Ideal) ℓ)

theorem ent_congr {x x' g g' c c' s s' : Fin 128 → EReal} (d : Fin 128) (hx : ∀ d, x d = x' d) (hg : ∀ d, g d = g' d) (hc : ∀ d, c d = c' d) (hs : ∀ d, s d = s' d) :
    Num.rot (fun d => Num.nrm x d * g d) c s d = Num.rot (fun d => Num.nrm x' d * g' d) c' s' d := by
  rw [funext hx, funext hg, funext hc, funext hs]

theorem rrot_congr {n n' g g' : Fin 128 → EReal} {s s' : ℕ} {d d' : Fin 128} (hn : n = n') (hg : g = g') (hs : s = s') (hd : d = d') : Num.rrot n g s d = Num.rrot n' g' s' d' := by
  rw [hn, hg, hs, hd]

/-- The kernel's result array is the reference's. -/
theorem final (c : Dev nD) :
    (dats m 0 c).arrAt 4 cfg0.N = REF (m ((c : Thread nD τ).loc main_arg0)) (m ((c : Thread nD τ).loc main_arg1)) := by
  refine (dats m 0 c).arrAt_eq_of_covers 4 _ (by decide +kernel) fun t _ y => ?_
  blk_simp
  rw [after0_4]
  have ht : t.val < 16 := lt_of_lt_of_eq t.isLt N_0
  have hy0 : (y 0).val < 512 := (y 0).isLt
  have hy1 : (y 1).val < 512 := (y 1).isLt
  refine (out_at _ _ _ _ y (y 0) (y 1) rfl rfl).trans ?_
  have e := ref_at (m ((c : Thread nD τ).loc main_arg0)) (m ((c : Thread nD τ).loc main_arg1)) ⟨t.val * 512 + (y 0).val, by omega⟩ (y 1)
  generalize REF (m ((c : Thread nD τ).loc main_arg0)) (m ((c : Thread nD τ).loc main_arg1)) = A at e ⊢
  refine Eq.trans ?_ (e.symm.trans ?_)
  · refine (ent_congr _ (fun d => rd0 c (V m c main_arg0) t ht (y 0) _) (fun d => (rd1 c (V m c main_v4) t _).trans (gain_at m c _))
      (fun d => (rd2 c (V m c main_v32) t (y 0) d).trans (cos_at m c _ d)) (fun d => (rd3 c (V m c main_v37) t (y 0) d).trans (sin_at m c _ d))).trans ?_
    refine (rot_eq _ _ (t.val % 4 * 512 + (y 0).val) _).trans (rrot_congr ?_ ?_ ?_ rfl)
    · have hv : V m c main_arg0 = m ((c : Thread nD τ).loc main_arg0) := V_main_arg0 m c
      rw [hv]
    · funext d
      have f : ((y 1).val / 128 * 128 + d.val) % 128 = d.val := by omega
      simp only [f]
    · dsimp only; omega
  · blk_ext [idx t]

/-- Both programs run and end with the same result. -/
theorem algebraic : Cert.algebraic_KeysSampleIdeal_KeysSampleRefIdeal := by
  pair_intro
  · run_from Cert.KeysSampleIdeal.Value.run_blocks m g
  · run_from Cert.KeysSampleRefIdeal.Value.run m' g'
    rw [Cert.KeysSampleRefIdeal.Read.val_main_v67_eq, (hagree c).1, (hagree c).2]
    exact (final m c).symm

end Cert.KeysSampleProof
end
-- ==== Proof.CaQSample.lean ====
/- The query projection of the cross attention. For the sample batch. -/
module

public import proofs.«01_k».proof.Defs
public import proofs.«01_k».proof.Proof.Gen.CaQSample.Frame
public import proofs.«01_k».proof.Proof.Gen.CaQSampleIdeal.Value
public import proofs.«01_k».proof.Proof.Gen.CaQSampleRefIdeal.Run
public import proofs.«01_k».proof.Proof.Gen.CaQSampleRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.CaQSampleProof

open Idealize.ShloMosaic Idealize.ShloMosaic.TcCoe Idealize.SL.Sem
open Cert.CaQSampleIdeal Cert.CaQSampleIdeal.Gen

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] := (by decide +kernel : ∀ t : Fin grid0.N, _)

/-- One point's block: the rows times the columns. -/
theorem pay_at (x0 : FVec Ideal S1024x4096 .bf16) (x1 : FVec Ideal S4096x512 .bf16) (r : Fin 1024) (l : Fin 512) :
    k0_pay1 x0 x1 (ix2 r l) = (∑ k : Fin 4096, x0 (ix2 r k) * x1 (ix2 k l)) * Ideal.ofBits FTy.f32 0x3D800000#32 := by
  pointwise [k0_pay1]

theorem out_at (x0 : FVec Ideal S1024x4096 .bf16) (x1 : FVec Ideal S4096x512 .bf16) (y : S1024x512.Idx) :
    out0_2 (F := Ideal) x0 x1 y = (∑ k : Fin 4096, x0 (ix2 (y 0) k) * x1 (ix2 k (y 1))) * Ideal.ofBits FTy.f32 0x3D800000#32 := by
  unfold out0_2
  frame_out
  idx_vars y
  exact pay_at x0 x1 y0 y1

abbrev REF (x0 : FVec Ideal S8192x4096 .bf16) (x1 : FVec Ideal S1x4096x1024 .f32) : FVec Ideal S8192x1024 .bf16 :=
  Cert.CaQSampleRefIdeal.Read.val_main_v5 (F := Ideal) x0 x1

/-- The reference at an index. -/
theorem ref_at (x0 : FVec Ideal S8192x4096 .bf16) (x1 : FVec Ideal S1x4096x1024 .f32) (r : Fin 8192) (l : Fin 1024) :
    REF x0 x1 (ix2 r l) = (∑ k : Fin 4096, x0 (ix2 r k) * x1 (ix3 0 k l)) * Ideal.ofBits FTy.f32 0x3D800000#32 := by
  pointwise [REF, Cert.CaQSampleRefIdeal.Read.val_main_cst, Cert.CaQSampleRefIdeal.Read.val_main_v0, Cert.CaQSampleRefIdeal.Read.val_main_v1, Cert.CaQSampleRefIdeal.Read.val_main_v2, Cert.CaQSampleRefIdeal.Read.val_main_v3, Cert.CaQSampleRefIdeal.Read.val_main_v4, Cert.CaQSampleRefIdeal.Read.val_main_v5]

/-- The kernel's weights, read at an index of the argument. -/
theorem w_at (c : Dev nD) (k : Fin 4096) (l : Fin 1024) :
    (show EReal from V m c main_v1 (ix2 k l)) = (show FVec Ideal S1x4096x1024 .f32 from m ((c : Thread nD τ).loc main_arg1)) (ix3 0 k l) := by
  entry_read
  pointwise []

/-- The kernel's result array is the reference's. -/
theorem final (c : Dev nD) :
    (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 16 := lt_of_lt_of_eq t.isLt N_0
  have hy0 : (y 0).val < 1024 := (y 0).isLt
  have hy1 : (y 1).val < 512 := (y 1).isLt
  refine (out_at _ _ y).trans ?_
  have e := ref_at (m ((c : Thread nD τ).loc main_arg0)) (m ((c : Thread nD τ).loc main_arg1)) ⟨t.val / 2 * 1024 + (y 0).val, by omega⟩ ⟨t.val % 2 * 512 + (y 1).val, by omega⟩
  generalize REF (m ((c : Thread nD τ).loc main_arg0)) (m ((c : Thread nD τ).loc main_arg1)) = A at e ⊢
  refine Eq.trans ?_ (e.symm.trans ?_)
  · refine congrArg (· * _) (Finset.sum_congr rfl fun k _ => congrArg₂ (· * ·) ?_ ?_)
    · blk_ext [iblk, V, idx t]
    · refine Eq.trans ?_ (w_at m c k ⟨t.val % 2 * 512 + (y 1).val, by omega⟩)
      blk_ext [iblk, idx t]
  · blk_ext [idx t]

/-- Both programs run and end with the same result. -/
theorem algebraic : Cert.algebraic_CaQSampleIdeal_CaQSampleRefIdeal := by
  pair_intro
  · run_from Cert.CaQSampleIdeal.Value.run_blocks m g
  · run_from Cert.CaQSampleRefIdeal.Value.run m' g'
    rw [Cert.CaQSampleRefIdeal.Read.val_main_v5_eq]
    exact (final m c).symm

end Cert.CaQSampleProof
end
-- ==== Proof.CaSample.lean ====
/- The attention over the memory: four heads of 256 lanes, each a softmax over the 256 memory rows. For the sample batch. -/
module

public import proofs.«01_k».proof.Defs
public import proofs.«01_k».proof.Pre_finite_ca_sample
public import proofs.«01_k».proof.Proof.Math
public import proofs.«01_k».proof.Proof.Attention
public import proofs.«01_k».proof.Proof.Gen.CaSample.Frame
public import proofs.«01_k».proof.Proof.Gen.CaSampleIdeal.Value
public import proofs.«01_k».proof.Proof.Gen.CaSampleRefIdeal.Run
public import proofs.«01_k».proof.Proof.Gen.CaSampleRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.CaSampleProof

open Idealize.ShloMosaic Idealize.ShloMosaic.TcCoe Idealize.SL.Sem
open Cert.CaSampleIdeal Cert.CaSampleIdeal.Gen

/-- The side conditions of the precondition's own operations. -/
theorem preFacts : Cert.Pre_finite_ca_sample.Facts := ⟨by decide, by decide, by decide, by decide⟩

instance : Cert.Pre_finite_ca_sample.Facts := preFacts

/-- The score of a query row against memory row `t`. -/
def score (q : Fin 256 → EReal) (k : Fin 256 → Fin 256 → EReal) (t : Fin 256) : EReal := ∑ d : Fin 256, q d * k t d

/-- The weight of a memory row before the division. -/
def wt (S : Fin 256 → EReal) (t : Fin 256) : EReal := Ideal.exp (S t - Finset.univ.fold max ⊥ S)

/-- The kernel's entry: the weighted values, divided by the sum of the weights. -/
def kout (S v : Fin 256 → EReal) : EReal := Ideal.div (∑ t, wt S t * v t) (∑ t, wt S t)

theorem pay4_at (k : FVec Ideal S1x256x256 .bf16) (q : FVec Ideal S1x512x256 .bf16) (r : Fin 512) (j : Fin 256) :
    k0_pay4 (F := Ideal) k q (ix2 r j) = score (fun d => q (ix3 0 r d)) (fun t d => k (ix3 0 t d)) j := by
  unfold score
  pointwise [k0_pay4]

/-- The row maximum of an array of scores. -/
theorem pay5_at (k : FVec Ideal S1x256x256 .bf16) (q : FVec Ideal S1x512x256 .bf16) (r : Fin 512) :
    k0_pay5 (F := Ideal) k q (ix1 r) = Finset.univ.fold max ⊥ (score (fun d => q (ix3 0 r d)) (fun t d => k (ix3 0 t d))) := by
  have e : score (fun d => q (ix3 0 r d)) (fun t d => k (ix3 0 t d)) = fun j => k0_pay4 (F := Ideal) k q (ix2 r j) := funext fun j => (pay4_at k q r j).symm
  rw [e]
  unfold k0_pay5
  generalize k0_pay4 (F := Ideal) k q = X
  pointwise []
  rw [Cert.Num.ofBits_neg_inf]

theorem pay6_at (v : FVec Ideal S256x256 .bf16) (s : FVec Ideal S512x256 .f32) (x : FVec Ideal S512 .f32) (r : Fin 512) (d : Fin 256) :
    k0_pay6 (F := Ideal) v s x (ix3 0 r d) = Ideal.div (∑ t, Ideal.exp (s (ix2 r t) - x (ix1 r)) * v (ix2 t d)) (∑ t, Ideal.exp (s (ix2 r t) - x (ix1 r))) := by
  pointwise [k0_pay6]

theorem pay3_at (v : FVec Ideal S1x256x256 .bf16) (t d : Fin 256) : k0_pay3 (F := Ideal) v (ix2 t d) = v (ix3 0 t d) := by
  pointwise [k0_pay3]

/-- One head's tile, from its keys, values and queries. -/
def headT (k v : FVec Ideal S1x256x256 .bf16) (q : FVec Ideal S1x512x256 .bf16) : FVec Ideal S1x512x256 .bf16 :=
  k0_pay6 (F := Ideal) (k0_pay3 v) (k0_pay4 k q) (k0_pay5 k q)

theorem headT_at (k v : FVec Ideal S1x256x256 .bf16) (q : FVec Ideal S1x512x256 .bf16) (r : Fin 512) (d : Fin 256) :
    headT k v q (ix3 0 r d) = kout (score (fun d => q (ix3 0 r d)) (fun t d => k (ix3 0 t d))) (fun t => v (ix3 0 t d)) := by
  unfold headT
  rw [pay6_at, pay5_at]
  simp only [pay4_at, pay3_at]
  rfl

theorem head0 (k v : FVec Ideal S1x256x256 .bf16) (q : FVec Ideal S1x512x256 .bf16) : k0_pay2 (F := Ideal) k v q = headT k v q := rfl
theorem head2 (k v : FVec Ideal S1x256x256 .bf16) (q : FVec Ideal S1x512x256 .bf16) : k0_pay7 (F := Ideal) k v q = headT k v q := rfl
theorem head3 (k v : FVec Ideal S1x256x256 .bf16) (q : FVec Ideal S1x512x256 .bf16) : k0_pay1 (F := Ideal) k v q = headT k v q := rfl

/-- The entry of the block at row `r`, lane `l`: the head is `l / 256`. -/
abbrev ent (x0 : FVec Ideal S1x512x1024 .bf16) (x1 : FVec Ideal S1x256x2048 .bf16) (r : Fin 512) (l : Fin 1024) : EReal :=
  kout (score (fun d => x0 (ix3 0 r ⟨l.val / 256 * 256 + d.val, by omega⟩)) (fun t d => x1 (ix3 0 t ⟨l.val / 256 * 256 + d.val, by omega⟩)))
    (fun t => x1 (ix3 0 t ⟨1024 + l.val, by omega⟩))

/-- A head's tile, placed in its 256 lanes of the block. -/
theorem tile (x0 : FVec Ideal S1x512x1024 .bf16) (x1 : FVec Ideal S1x256x2048 .bf16) (r : Fin 512) (l : Fin 1024) (o : ℕ) (ho : o < 4)
    (Kt Vt : FVec Ideal S1x256x256 .bf16) (Y T : FVec Ideal S1x512x256 .bf16) (hT : T = headT Kt Vt Y)
    (hK : ∀ t d : Fin 256, Kt (ix3 0 t d) = x1 (ix3 0 t ⟨o * 256 + d.val, by omega⟩))
    (hV : ∀ t d : Fin 256, Vt (ix3 0 t d) = x1 (ix3 0 t ⟨1024 + (o * 256 + d.val), by omega⟩))
    (hY : ∀ (r : Fin 512) (d : Fin 256), Y (ix3 0 r d) = x0 (ix3 0 r ⟨o * 256 + d.val, by omega⟩))
    (j : S1x512x256.Idx) (h1 : r.val = (j 1).val) (h2 : l.val = o * 256 + (j 2).val) : T j = ent x0 x1 r l := by
  idx_vars j
  have ha : j0 = 0 := Subsingleton.elim _ _
  have hb : j1 = r := Fin.ext h1.symm
  have h2' : l.val = o * 256 + j2.val := h2
  have hj2 : j2.val < 256 := j2.isLt
  have ho' : l.val / 256 = o := by omega
  subst ha hb hT
  rw [headT_at]
  unfold ent
  simp only [hK, hV, hY, ho']
  simp only [h2']

/-- One point's result block. -/
theorem out_at (x0 : FVec Ideal S1x512x1024 .bf16) (x1 : FVec Ideal S1x256x2048 .bf16) (y : S1x512x1024.Idx) (r : Fin 512) (l : Fin 1024) (hr : r = y 1) (hl : l = y 2) :
    out0_2 (F := Ideal) x0 x1 y = ent x0 x1 r l := by
  have hr' : r.val = (y 1).val := congrArg Fin.val hr
  have hl' : l.val = (y 2).val := congrArg Fin.val hl
  unfold out0_2
  canon_tiles x h
  case piece0 => exact tile x0 x1 r l 3 (by decide) _ _ _ _ (head3 _ _ _) (fun t d => by pointwise; blk_ext) (fun t d => by pointwise; blk_ext) (fun r d => by pointwise; blk_ext) x (hr'.trans h1) (hl'.trans h2)
  case piece1 => exact tile x0 x1 r l 2 (by decide) _ _ _ _ (head2 _ _ _) (fun t d => by pointwise; blk_ext) (fun t d => by pointwise; blk_ext) (fun r d => by pointwise; blk_ext) x (hr'.trans h1) (hl'.trans h2)
  case piece2 => exact tile x0 x1 r l 1 (by decide) _ _ _ _ rfl (fun t d => by pointwise; blk_ext) (fun t d => by pointwise; blk_ext) (fun r d => by pointwise; blk_ext) x (hr'.trans h1) (hl'.trans h2)
  case piece3 => exact tile x0 x1 r l 0 (by decide) _ _ _ _ (head0 _ _ _) (fun t d => by pointwise; blk_ext) (fun t d => by pointwise; blk_ext) (fun r d => by pointwise; blk_ext) x (hr'.trans h1) (hl'.trans (h2.trans (by omega)))

variable (m : (ℓ : Loc nD τ sig) → Buf (Elt Ideal) ℓ)

theorem idx : ∀ t : Fin cfg0.N, win0_0.index t = ![t.val / 4, t.val % 4, 0] ∧ win0_1.index t = ![t.val / 4, 0, 0] ∧ win0_2.index t = ![t.val / 4, t.val % 4, 0] :=
  (by decide +kernel : ∀ t : Fin grid0.N, _)

theorem q_at (c : Dev nD) (b : Fin 4) (s : Fin 2048) (l : Fin 1024) :
    (show EReal from V m c main_v0 (ix3 b s l)) = (show FVec Ideal S8192x1024 .bf16 from m ((c : Thread nD τ).loc main_arg0)) (ix2 ⟨b.val * 2048 + s.val, by omega⟩ l) := by
  entry_read
  pointwise []

theorem kv_at (c : Dev nD) (b : Fin 4) (s : Fin 256) (l : Fin 2048) :
    (show EReal from V m c main_v1 (ix3 b s l)) = (show FVec Ideal S1024x2048 .bf16 from m ((c : Thread nD τ).loc main_arg1)) (ix2 ⟨b.val * 256 + s.val, by omega⟩ l) := by
  entry_read
  pointwise []

theorem rd0 (c : Dev nD) (X : Buf (Elt Ideal) ((c : Thread nD τ).loc main_v0)) (t : Fin cfg0.N) (ht : t.val < 16) (r : Fin 512) (l : Fin 1024) :
    (show EReal from ((cfg0.win 0).blk t).view.read (Elt Ideal) X (ix3 0 r l)) = (show EReal from X (ix3 ⟨t.val / 4, by omega⟩ ⟨t.val % 4 * 512 + r.val, by omega⟩ l)) := by
  blk_ext [idx t]

theorem rd1 (c : Dev nD) (X : Buf (Elt Ideal) ((c : Thread nD τ).loc main_v1)) (t : Fin cfg0.N) (ht : t.val < 16) (r : Fin 256) (l : Fin 2048) :
    (show EReal from ((cfg0.win 1).blk t).view.read (Elt Ideal) X (ix3 0 r l)) = (show EReal from X (ix3 ⟨t.val / 4, by omega⟩ r l)) := by
  blk_ext [idx t]

theorem ib0 (c : Dev nD) (t : Fin cfg0.N) (ht : t.val < 16) (r : Fin 512) (l : Fin 1024) :
    (show FVec Ideal S1x512x1024 .bf16 from iblk m c 0 t) (ix3 0 r l)
      = (show FVec Ideal S8192x1024 .bf16 from m ((c : Thread nD τ).loc main_arg0)) (ix2 ⟨t.val / 4 * 2048 + (t.val % 4 * 512 + r.val), by omega⟩ l) :=
  (rd0 c (V m c main_v0) t ht r l).trans (q_at m c _ _ l)

theorem ib1 (c : Dev nD) (t : Fin cfg0.N) (ht : t.val < 16) (r : Fin 256) (l : Fin 2048) :
    (show FVec Ideal S1x256x2048 .bf16 from iblk m c 1 t) (ix3 0 r l)
      = (show FVec Ideal S1024x2048 .bf16 from m ((c : Thread nD τ).loc main_arg1)) (ix2 ⟨t.val / 4 * 256 + r.val, by omega⟩ l) :=
  (rd1 c (V m c main_v1) t ht r l).trans (kv_at m c _ _ l)

/-- The reference's result array, from the arrays the kernel takes. -/
abbrev REF (x0 : FVec Ideal S8192x1024 .bf16) (x1 : FVec Ideal S1024x2048 .bf16) : FVec Ideal S4x2048x1024 .bf16 :=
  Cert.CaSampleRefIdeal.Read.val_main_v23 (F := Ideal) x0 x1

/-- The scores of batch `b`, head `h`, row `s`. -/
abbrev sco (x0 : FVec Ideal S8192x1024 .bf16) (x1 : FVec Ideal S1024x2048 .bf16) (b h : Fin 4) (s : Fin 2048) : Fin 256 → EReal :=
  score (fun d => x0 (ix2 ⟨b.val * 2048 + s.val, by omega⟩ ⟨h.val * 256 + d.val, by omega⟩)) (fun t d => x1 (ix2 ⟨b.val * 256 + t.val, by omega⟩ ⟨h.val * 256 + d.val, by omega⟩))

open Cert.CaSampleRefIdeal.Read

theorem v8_at (x0 : FVec Ideal S8192x1024 .bf16) (x1 : FVec Ideal S1024x2048 .bf16) (b h : Fin 4) (s : Fin 2048) (t : Fin 256) :
    val_main_v8 (F := Ideal) x0 x1 (ix4 b h s t) = sco x0 x1 b h s t := by
  unfold sco score
  pointwise [val_main_v8, val_main_v5, val_main_v4, val_main_v3, val_main_v2, val_main_v1, val_main_v0]

theorem v9_at (x0 : FVec Ideal S8192x1024 .bf16) (x1 : FVec Ideal S1024x2048 .bf16) (b h : Fin 4) (s : Fin 2048) :
    val_main_v9 (F := Ideal) x0 x1 (ix3 b h s) = Finset.univ.fold max (Ideal.ofBits FTy.f32 4286578688#32) (fun t => val_main_v8 (F := Ideal) x0 x1 (ix4 b h s t)) := by
  unfold val_main_v9
  generalize val_main_v8 (F := Ideal) x0 x1 = X
  pointwise [val_main_cst]

theorem v11_at (x0 : FVec Ideal S8192x1024 .bf16) (x1 : FVec Ideal S1024x2048 .bf16) (b h : Fin 4) (s : Fin 2048) :
    val_main_v11 (F := Ideal) x0 x1 (ix3 b h s) = max (Ideal.ofBits FTy.f32 4286578688#32) (val_main_v9 (F := Ideal) x0 x1 (ix3 b h s)) := by
  rw [val_main_v11_apply, val_main_v10_apply, val_main_cst_0_apply]; rfl

theorem v13_at (x0 : FVec Ideal S8192x1024 .bf16) (x1 : FVec Ideal S1024x2048 .bf16) (b h : Fin 4) (s : Fin 2048) (t : Fin 256) :
    val_main_v13 (F := Ideal) x0 x1 (ix4 b h s t) = val_main_v11 (F := Ideal) x0 x1 (ix3 b h s) := by
  unfold val_main_v13 val_main_v12
  generalize val_main_v11 (F := Ideal) x0 x1 = X
  pointwise []

/-- The exponential of a score less its row's maximum. -/
theorem v15_at (x0 : FVec Ideal S8192x1024 .bf16) (x1 : FVec Ideal S1024x2048 .bf16) (b h : Fin 4) (s : Fin 2048) (t : Fin 256) :
    val_main_v15 (F := Ideal) x0 x1 (ix4 b h s t) = wt (sco x0 x1 b h s) t := by
  have e : val_main_v15 (F := Ideal) x0 x1 (ix4 b h s t) = Ideal.exp (val_main_v8 (F := Ideal) x0 x1 (ix4 b h s t) - val_main_v13 (F := Ideal) x0 x1 (ix4 b h s t)) := by
    rw [val_main_v15_apply, val_main_v14_apply]; rfl
  have f : (fun t => val_main_v8 (F := Ideal) x0 x1 (ix4 b h s t)) = sco x0 x1 b h s := funext fun t => v8_at x0 x1 b h s t
  rw [e, v13_at, v11_at, v9_at, f, v8_at, Cert.Num.ofBits_neg_inf, max_eq_right bot_le]
  rfl

/-- The softmax weight. -/
theorem v19_at (x0 : FVec Ideal S8192x1024 .bf16) (x1 : FVec Ideal S1024x2048 .bf16) (b h : Fin 4) (s : Fin 2048) (t : Fin 256) :
    val_main_v19 (F := Ideal) x0 x1 (ix4 b h s t) = Ideal.div (wt (sco x0 x1 b h s) t) (∑ t, wt (sco x0 x1 b h s) t) := by
  have e : val_main_v19 (F := Ideal) x0 x1 (ix4 b h s t) = Ideal.div (val_main_v15 (F := Ideal) x0 x1 (ix4 b h s t)) (∑ t, val_main_v15 (F := Ideal) x0 x1 (ix4 b h s t)) := by
    unfold val_main_v19 val_main_v18 val_main_v17 val_main_v16
    generalize val_main_v15 (F := Ideal) x0 x1 = X
    pointwise [val_main_cst_1]
  rw [e]
  simp only [v15_at]

theorem v7_at (x1 : FVec Ideal S1024x2048 .bf16) (b h : Fin 4) (t : Fin 256) (d : Fin 256) :
    val_main_v7 (F := Ideal) x1 (ix4 b t h d) = x1 (ix2 ⟨b.val * 256 + t.val, by omega⟩ ⟨1024 + (h.val * 256 + d.val), by omega⟩) := by
  pointwise [val_main_v7, val_main_v6, val_main_v3, val_main_v2]
  simp only [Nat.add_assoc]

/-- The reference at an index. -/
theorem ref_at (x0 : FVec Ideal S8192x1024 .bf16) (x1 : FVec Ideal S1024x2048 .bf16) (b : Fin 4) (s : Fin 2048) (l : Fin 1024) :
    REF x0 x1 (ix3 b s l) = ∑ t : Fin 256, x1 (ix2 ⟨b.val * 256 + t.val, by omega⟩ ⟨1024 + l.val, by omega⟩)
      * Ideal.div (wt (sco x0 x1 b ⟨l.val / 256, by omega⟩ s) t) (∑ t, wt (sco x0 x1 b ⟨l.val / 256, by omega⟩ s) t) := by
  have e : REF x0 x1 (ix3 b s l) = ∑ t : Fin 256, val_main_v7 (F := Ideal) x1 (ix4 b t ⟨l.val / 256, by omega⟩ ⟨l.val % 256, by omega⟩) * val_main_v19 (F := Ideal) x0 x1 (ix4 b ⟨l.val / 256, by omega⟩ s t) := by
    unfold REF val_main_v23 val_main_v22 val_main_v21 val_main_v20
    generalize val_main_v7 (F := Ideal) x1 = X
    generalize val_main_v19 (F := Ideal) x0 x1 = Y
    pointwise []
  rw [e]
  refine Finset.sum_congr rfl fun t _ => congrArg₂ (· * ·) ((v7_at x1 b _ t _).trans ?_) (v19_at x0 x1 b _ s t)
  have f : l.val / 256 * 256 + l.val % 256 = l.val := by omega
  simp only [f]

theorem score_real (q : Fin 256 → EReal) (k : Fin 256 → Fin 256 → EReal) (hq : ∀ d, ∃ r : ℝ, q d = r) (hk : ∀ t d, ∃ r : ℝ, k t d = r) (t : Fin 256) : ∃ r : ℝ, score q k t = r := by
  choose Q hQ using hq
  choose K hK using hk t
  refine ⟨∑ d, Q d * K d, ?_⟩
  unfold score
  rw [Cert.Num.coe_sum]
  exact Finset.sum_congr rfl fun d _ => by rw [hQ, hK, EReal.coe_mul]

theorem kout_congr {S S' v v' : Fin 256 → EReal} (h : S = S') (h' : ∀ t, v t = v' t) : kout S v = kout S' v' := by
  rw [h, funext h']

theorem score_congr {q q' : Fin 256 → EReal} {k k' : Fin 256 → Fin 256 → EReal} (h : ∀ d, q d = q' d) (h' : ∀ t d, k t d = k' t d) : score q k = score q' k' := by
  rw [funext h, funext fun t => funext (h' t)]

/-- The kernel's result array is the reference's, for finite queries and keys. -/
theorem final (c : Dev nD)
    (hq : ∀ i, ∃ r : ℝ, (show FVec Ideal S8192x1024 .bf16 from m ((c : Thread nD τ).loc main_arg0)) i = (r : EReal))
    (hk : ∀ (s : Fin 1024) (l : Fin 1024), ∃ r : ℝ, (show FVec Ideal S1024x2048 .bf16 from m ((c : Thread nD τ).loc main_arg1)) (ix2 s ⟨l.val, by omega⟩) = (r : EReal)) :
    (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 16 := lt_of_lt_of_eq t.isLt N_0
  have hy1 : (y 1).val < 512 := (y 1).isLt
  have hy2 : (y 2).val < 1024 := (y 2).isLt
  refine (out_at _ _ y (y 1) (y 2) rfl rfl).trans ?_
  refine (kout_congr (score_congr (fun d => ib0 m c t ht (y 1) _) (fun s d => ib1 m c t ht s _)) (fun s => ib1 m c t ht s _)).trans ?_
  refine (Cert.Num.softmax_div _ (score_real _ _ (fun d => hq _) (fun s d => hk _ ⟨(y 2).val / 256 * 256 + d.val, by omega⟩)) _).trans ?_
  have e := ref_at (m ((c : Thread nD τ).loc main_arg0)) (m ((c : Thread nD τ).loc main_arg1)) ⟨t.val / 4, by omega⟩ ⟨t.val % 4 * 512 + (y 1).val, by omega⟩ (y 2)
  generalize REF (m ((c : Thread nD τ).loc main_arg0)) (m ((c : Thread nD τ).loc main_arg1)) = A at e ⊢
  refine Eq.trans ?_ (e.symm.trans ?_)
  · rfl
  · blk_ext [idx t]

theorem q_finite (h : Cert.Pre_CaSampleIdeal_finite_ca_sample m) (c : Dev nD) :
    ∀ i, ∃ r : ℝ, (show FVec Ideal S8192x1024 .bf16 from m ((c.tc : Thread nD τ).loc main_arg0)) i = (r : EReal) :=
  fun i => Cert.Attn.real_of_cmp _ (congrFun (h c).1 i)

theorem k_finite (h : Cert.Pre_CaSampleIdeal_finite_ca_sample m) (c : Dev nD) (s : Fin 1024) (l : Fin 1024) :
    ∃ r : ℝ, (show FVec Ideal S1024x2048 .bf16 from m ((c.tc : Thread nD τ).loc main_arg1)) (ix2 s ⟨l.val, by omega⟩) = (r : EReal) := by
  refine Cert.Attn.real_of_cmp _ ?_
  refine Eq.trans ?_ (congrFun (h c).2 (ix2 s l))
  generalize m ((c.tc : Thread nD τ).loc main_arg1) = X
  pointwise [Cert.Pre_finite_ca_sample.fn]
  rfl

/-- Both programs run and end with the same result. -/
theorem algebraic : Cert.algebraic_CaSampleIdeal_CaSampleRefIdeal_pre_finite_ca_sample := by
  pair_intro
  · run_from Cert.CaSampleIdeal.Value.run_blocks m g
  · run_from Cert.CaSampleRefIdeal.Value.run m' g'
    rw [Cert.CaSampleRefIdeal.Read.val_main_v23_eq]
    exact (final m c (q_finite m hpre c) (k_finite m hpre c)).symm

end Cert.CaSampleProof
end
-- ==== Proof.CaOutSample.lean ====
/- The output projection of the cross attention with the residual. For the sample batch. -/
module

public import proofs.«01_k».proof.Defs
public import proofs.«01_k».proof.Proof.Gen.CaOutSample.Frame
public import proofs.«01_k».proof.Proof.Gen.CaOutSampleIdeal.Value
public import proofs.«01_k».proof.Proof.Gen.CaOutSampleRefIdeal.Run
public import proofs.«01_k».proof.Proof.Gen.CaOutSampleRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.CaOutSampleProof

open Idealize.ShloMosaic Idealize.ShloMosaic.TcCoe Idealize.SL.Sem
open Cert.CaOutSampleIdeal Cert.CaOutSampleIdeal.Gen

variable (m : (ℓ : Loc nD τ sig) → Buf (Elt Ideal) ℓ)

theorem idx : ∀ t : Fin cfg0.N, win0_0.index t = ![t.val / 8, 0] ∧ win0_1.index t = ![0, t.val % 8] ∧ win0_2.index t = ![t.val / 8, t.val % 8] ∧ win0_3.index t = ![t.val / 8, t.val % 8] := (by decide +kernel : ∀ t : Fin grid0.N, _)

/-- One point's block: the rows times the columns. -/
theorem pay_at (x0 : FVec Ideal S1024x1024 .bf16) (x1 : FVec Ideal S1024x512 .bf16) (x2 : FVec Ideal S1024x512 .f32) (r : Fin 1024) (l : Fin 512) :
    k0_pay1 x0 x1 x2 (ix2 r l) = x2 (ix2 r l) + ∑ k : Fin 1024, x0 (ix2 r k) * x1 (ix2 k l) := by
  pointwise [k0_pay1]

theorem out_at (x0 : FVec Ideal S1024x1024 .bf16) (x1 : FVec Ideal S1024x512 .bf16) (x2 : FVec Ideal S1024x512 .f32) (y : S1024x512.Idx) :
    out0_3 (F := Ideal) x0 x1 x2 y = x2 (ix2 (y 0) (y 1)) + ∑ k : Fin 1024, x0 (ix2 (y 0) k) * x1 (ix2 k (y 1)) := by
  unfold out0_3
  frame_out
  idx_vars y
  exact pay_at x0 x1 x2 y0 y1

abbrev REF (x0 : FVec Ideal S8192x1024 .bf16) (x1 : FVec Ideal S1x1024x4096 .f32) (x2 : FVec Ideal S8192x4096 .f32) : FVec Ideal S8192x4096 .f32 :=
  Cert.CaOutSampleRefIdeal.Read.val_main_v3 (F := Ideal) x0 x1 x2

/-- The reference at an index. -/
theorem ref_at (x0 : FVec Ideal S8192x1024 .bf16) (x1 : FVec Ideal S1x1024x4096 .f32) (x2 : FVec Ideal S8192x4096 .f32) (r : Fin 8192) (l : Fin 4096) :
    REF x0 x1 x2 (ix2 r l) = x2 (ix2 r l) + ∑ k : Fin 1024, x0 (ix2 r k) * x1 (ix3 0 k l) := by
  pointwise [REF, Cert.CaOutSampleRefIdeal.Read.val_main_v0, Cert.CaOutSampleRefIdeal.Read.val_main_v1, Cert.CaOutSampleRefIdeal.Read.val_main_v2, Cert.CaOutSampleRefIdeal.Read.val_main_v3]

/-- The kernel's weights, read at an index of the argument. -/
theorem w_at (c : Dev nD) (k : Fin 1024) (l : Fin 4096) :
    (show EReal from V m c main_v1 (ix2 k l)) = (show FVec Ideal S1x1024x4096 .f32 from m ((c : Thread nD τ).loc main_arg1)) (ix3 0 k l) := by
  entry_read
  pointwise []

/-- The kernel's result array is the reference's. -/
theorem final (c : Dev nD) :
    (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht : t.val < 64 := lt_of_lt_of_eq t.isLt N_0
  have hy0 : (y 0).val < 1024 := (y 0).isLt
  have hy1 : (y 1).val < 512 := (y 1).isLt
  refine (out_at _ _ _ y).trans ?_
  have e := ref_at (m ((c : Thread nD τ).loc main_arg0)) (m ((c : Thread nD τ).loc main_arg1)) (m ((c : Thread nD τ).loc main_arg2)) ⟨t.val / 8 * 1024 + (y 0).val, by omega⟩ ⟨t.val % 8 * 512 + (y 1).val, by omega⟩
  generalize REF (m ((c : Thread nD τ).loc main_arg0)) (m ((c : Thread nD τ).loc main_arg1)) (m ((c : Thread nD τ).loc main_arg2)) = A at e ⊢
  refine Eq.trans ?_ (e.symm.trans ?_)
  · refine congrArg₂ (· + ·) ?_ (Finset.sum_congr rfl fun k _ => congrArg₂ (· * ·) ?_ ?_)
    · blk_ext [iblk, V, idx t]
    · blk_ext [iblk, V, idx t]
    · refine Eq.trans ?_ (w_at m c k ⟨t.val % 8 * 512 + (y 1).val, by omega⟩)
      blk_ext [iblk, idx t]
  · blk_ext [idx t]

/-- Both programs run and end with the same result. -/
theorem algebraic : Cert.algebraic_CaOutSampleIdeal_CaOutSampleRefIdeal := by
  pair_intro
  · run_from Cert.CaOutSampleIdeal.Value.run_blocks m g
  · run_from Cert.CaOutSampleRefIdeal.Value.run m' g'
    rw [Cert.CaOutSampleRefIdeal.Read.val_main_v3_eq]
    exact (final m c).symm

end Cert.CaOutSampleProof
end
-- ==== Proof.RouteSampleLoop.lean ====
/- The loop of the expert routing: what its trips store of the scores. For the sample batch. -/
module

public import proofs.«01_k».proof.Defs
public import proofs.«01_k».proof.Proof.Gen.RouteSample.Frame
public import proofs.«01_k».proof.Proof.Gen.RouteSampleIdeal.Value
public import proofs.«01_k».proof.Proof.Gen.RouteSampleRefIdeal.Run
public import proofs.«01_k».proof.Proof.Gen.RouteSampleRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.RouteSampleProof

open Idealize.ShloMosaic Idealize.ShloMosaic.TcCoe Idealize.SL.Sem
open Cert.RouteSampleIdeal Cert.RouteSampleIdeal.Gen

/-- The scores of one head and one half: the keys `v` times the columns of the projected rows `Z` that start at row `o` of the head. -/
def sc (v : FVec Ideal S128x128 .f32) (Z : FVec Ideal S2048x256 .f32) (o : ℕ) (h : o ≤ 128) (y : S8x128x256.Idx) : EReal :=
  ∑ d : Fin 128, v (ix2 (y 1) d) * Z (ix2 ⟨(y 0).val * 256 + o + d.val, by have := (y 0).isLt; have e : S8x128x256.size 0 = 8 := rfl; omega⟩ (y 2))

theorem off1 : ∀ k : Fin k0_t1_loop.trips, k0_off1 k = ![k.val * 256 + 0, 0] ∧ k0_off2 k = ![k.val * 256 + 128, 0] ∧ k0_off3 k = ![k.val, 0, 0]
    ∧ k0_off5 k = ![k.val * 256 + 0, 128] ∧ k0_off6 k = ![k.val * 256 + 128, 128] ∧ k0_off7 k = ![k.val, 0, 128] := by decide +kernel

theorem trips : k0_t1_loop.trips = 8 := by decide +kernel

theorem p5 (v w : FVec Ideal S128x128 .f32) (x : S1x128x128.Idx) : k0_pay1022 (F := Ideal) (k0_pay3 v w) x = ∑ d : Fin 128, v (ix2 (x 1) d) * w (ix2 d (x 2)) := by
  idx_vars x
  pointwise [k0_pay1022, k0_pay3]

theorem p5' (v w : FVec Ideal S128x128 .f32) (x : S1x128x128.Idx) : k0_pay2038 (F := Ideal) (k0_pay1028 v w) x = ∑ d : Fin 128, v (ix2 (x 1) d) * w (ix2 d (x 2)) := by
  idx_vars x
  pointwise [k0_pay2038, k0_pay1028]

theorem p6 (v w : FVec Ideal S128x128 .f32) (x : S1x128x128.Idx) : k0_pay1023 (F := Ideal) (k0_pay4 v w) x = ∑ d : Fin 128, v (ix2 (x 1) d) * w (ix2 d (x 2)) := by
  idx_vars x
  pointwise [k0_pay1023, k0_pay4]

theorem p6' (v w : FVec Ideal S128x128 .f32) (x : S1x128x128.Idx) : k0_pay2039 (F := Ideal) (k0_pay1029 v w) x = ∑ d : Fin 128, v (ix2 (x 1) d) * w (ix2 d (x 2)) := by
  idx_vars x
  pointwise [k0_pay2039, k0_pay1029]

theorem in3 (j k : ℕ) (off : Fin 3 → ℕ) (e : off = ![k, 0, j]) (hj : j ≤ 128) (hk : k < 8) (a : Fin 3) : off a + S1x128x128.size a ≤ S8x128x256.size a := by
  subst e
  fin_cases a
  · show k + 1 ≤ 8
    omega
  · show 0 + 128 ≤ 128
    omega
  · show j + 128 ≤ 256
    omega

theorem in2 (j k o : ℕ) (off : Fin 2 → ℕ) (e : off = ![k * 256 + o, j]) (hj : j ≤ 128) (ho : o ≤ 128) (hk : k < 8) (a : Fin 2) : off a + S128x128.size a ≤ S2048x256.size a := by
  subst e
  fin_cases a
  · show k * 256 + o + 128 ≤ 2048
    omega
  · show j + 128 ≤ 256
    omega

/-- A tile of scores at its place in the block. -/
theorem tile (v : FVec Ideal S128x128 .f32) (Z : FVec Ideal S2048x256 .f32) (o : ℕ) (h : o ≤ 128) (j : ℕ) (k : ℕ) (off : Fin 3 → ℕ) (off' : Fin 2 → ℕ)
    (e : off = ![k, 0, j]) (e' : off' = ![k * 256 + o, j]) (inb : ∀ a, off a + S1x128x128.size a ≤ S8x128x256.size a) (inb' : ∀ a, off' a + S128x128.size a ≤ S2048x256.size a)
    (x : (Rect.unit (s := S8x128x256) off S1x128x128.size inb).shape.Idx) :
    (∑ d : Fin 128, v (ix2 (x 1) d) * Z ((Rect.unit (s := S2048x256) off' S128x128.size inb').idx (ix2 d (x 2)))) = sc v Z o h ((Rect.unit (s := S8x128x256) off S1x128x128.size inb).emb x) := by
  subst e e'
  unfold sc
  refine Finset.sum_congr rfl fun d _ => congrArg₂ (· * ·) (congrArg v ?_) (congrArg Z ?_)
  · funext a
    fin_cases a
    · apply Fin.ext
      show (x 1).val = 0 + 1 * (x 1).val
      omega
    · rfl
  · have hx : (x 0).val < 1 := (x 0).isLt
    funext a
    fin_cases a
    · apply Fin.ext
      show k * 256 + o + 1 * d.val = (k + 1 * (x 0).val) * 256 + o + d.val
      omega
    · apply Fin.ext
      rfl

/-- The tile's places. -/
theorem mem (j k : ℕ) (off : Fin 3 → ℕ) (e : off = ![k, 0, j]) (inb : ∀ a, off a + S1x128x128.size a ≤ S8x128x256.size a) (y : S8x128x256.Idx) (h0 : (y 0).val = k)
    (h2 : j ≤ (y 2).val) (h3 : (y 2).val < j + 128) : y ∈ (Rect.unit (s := S8x128x256) off S1x128x128.size inb).set := by
  subst e
  have hy1 : (y 1).val < 128 := (y 1).isLt
  refine Rect.mem_set_unit.mpr fun a => ?_
  fin_cases a
  · exact ⟨h0.ge, by show (y 0).val < k + 1; omega⟩
  · exact ⟨Nat.zero_le _, by show (y 1).val < 0 + 128; omega⟩
  · exact ⟨h2, h3⟩

/-- What one trip stores: tiles of the scores. -/
theorem trip5 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) (k : Fin k0_t1_loop.trips) :
    ∀ p ∈ (trip_k0_t1 (F := Ideal) 𝒱 c bd i a1 h1 a2 h2 a3 h3 a4 h4 a5 h5 a6 h6 a7 h7 a8 h8 a9 h9 a10 h10 a11 h11 a12 h12 v29 v31 c0 c1 X k).1, ∀ x : p.1.shape.Idx, p.2 x = sc v29 (a12.view.read (Elt Ideal) X) 0 (by omega) (p.1.emb x) := by
  unfold trip_k0_t1
  dsimp only
  intro p hp
  have hk : k.val < 8 := lt_of_lt_of_eq k.isLt trips
  rcases List.mem_cons.mp hp with rfl | hp
  · exact fun x => (p5' _ _ x).trans (tile _ _ _ _ 128 k.val _ _ (off1 k).2.2.2.2.2 (off1 k).2.2.2.1 (in3 128 k.val _ (off1 k).2.2.2.2.2 (by omega) hk) (in2 128 k.val 0 _ (off1 k).2.2.2.1 (by omega) (by omega) hk) x)
  · rcases List.mem_singleton.mp hp with rfl
    exact fun x => (p5 _ _ x).trans (tile _ _ _ _ 0 k.val _ _ (off1 k).2.2.1 (off1 k).1 (in3 0 k.val _ (off1 k).2.2.1 (by omega) hk) (in2 0 k.val 0 _ (off1 k).1 (by omega) (by omega) hk) x)

/-- One trip covers its head. -/
theorem cover5 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) (k : Fin k0_t1_loop.trips) (y : S8x128x256.Idx) (h : (y 0).val = k.val) :
    ∃ p ∈ (trip_k0_t1 (F := Ideal) 𝒱 c bd i a1 h1 a2 h2 a3 h3 a4 h4 a5 h5 a6 h6 a7 h7 a8 h8 a9 h9 a10 h10 a11 h11 a12 h12 v29 v31 c0 c1 X k).1, y ∈ p.1.set := by
  unfold trip_k0_t1
  dsimp only
  have hk : k.val < 8 := lt_of_lt_of_eq k.isLt trips
  have hy2 : (y 2).val < 256 := (y 2).isLt
  by_cases hl : (y 2).val < 128
  · exact ⟨_, List.mem_cons_of_mem _ (List.mem_singleton_self _), mem 0 k.val _ (off1 k).2.2.1 (in3 0 k.val _ (off1 k).2.2.1 (by omega) hk) y h (Nat.zero_le _) (by omega)⟩
  · exact ⟨_, List.mem_cons_self, mem 128 k.val _ (off1 k).2.2.2.2.2 (in3 128 k.val _ (off1 k).2.2.2.2.2 (by omega) hk) y h (by omega) (by omega)⟩

/-- So do all the trips before the n-th. -/
theorem all5 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) : ∀ n : ℕ, n ≤ 8 →
    (∀ p ∈ (pb_k0_t1 (F := Ideal) 𝒱 c bd i a1 h1 a2 h2 a3 h3 a4 h4 a5 h5 a6 h6 a7 h7 a8 h8 a9 h9 a10 h10 a11 h11 a12 h12 v29 v31 c0 c1 X n).1, ∀ x : p.1.shape.Idx, p.2 x = sc v29 (a12.view.read (Elt Ideal) X) 0 (by omega) (p.1.emb x))
    ∧ (∀ y : S8x128x256.Idx, (y 0).val < n → ∃ p ∈ (pb_k0_t1 (F := Ideal) 𝒱 c bd i a1 h1 a2 h2 a3 h3 a4 h4 a5 h5 a6 h6 a7 h7 a8 h8 a9 h9 a10 h10 a11 h11 a12 h12 v29 v31 c0 c1 X n).1, y ∈ p.1.set)
  | 0, _ => by
    rw [pb_k0_t1.eq_1]
    exact ⟨fun p hp => absurd hp List.not_mem_nil, fun y h => absurd h (Nat.not_lt_zero _)⟩
  | n + 1, hn => by
    have ih := all5 𝒱 c bd i a1 h1 a2 h2 a3 h3 a4 h4 a5 h5 a6 h6 a7 h7 a8 h8 a9 h9 a10 h10 a11 h11 a12 h12 v29 v31 c0 c1 X n (by omega)
    have hs := pb_k0_t1_succ (F := Ideal) 𝒱 c bd i a1 h1 a2 h2 a3 h3 a4 h4 a5 h5 a6 h6 a7 h7 a8 h8 a9 h9 a10 h10 a11 h11 a12 h12 v29 v31 c0 c1 X ⟨n, by rw [trips]; omega⟩
    dsimp only at hs
    rw [hs]
    dsimp only
    refine ⟨fun p hp => ?_, fun y hy => ?_⟩
    · rcases List.mem_append.mp hp with hp | hp
      · exact trip5 𝒱 c bd i a1 h1 a2 h2 a3 h3 a4 h4 a5 h5 a6 h6 a7 h7 a8 h8 a9 h9 a10 h10 a11 h11 a12 h12 v29 v31 c0 c1 X _ p hp
      · exact ih.1 p hp
    · by_cases he : (y 0).val = n
      · obtain ⟨p, hp, h⟩ := cover5 𝒱 c bd i a1 h1 a2 h2 a3 h3 a4 h4 a5 h5 a6 h6 a7 h7 a8 h8 a9 h9 a10 h10 a11 h11 a12 h12 v29 v31 c0 c1 X ⟨n, by rw [trips]; omega⟩ y he
        exact ⟨p, List.mem_append_left _ hp, h⟩
      · obtain ⟨p, hp, h⟩ := ih.2 y (by omega)
        exact ⟨p, List.mem_append_right _ hp, h⟩

/-- What one trip stores: tiles of the scores. -/
theorem trip6 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) (k : Fin k0_t1_loop.trips) :
    ∀ p ∈ (trip_k0_t1 (F := Ideal) 𝒱 c bd i a1 h1 a2 h2 a3 h3 a4 h4 a5 h5 a6 h6 a7 h7 a8 h8 a9 h9 a10 h10 a11 h11 a12 h12 v29 v31 c0 c1 X k).2.1, ∀ x : p.1.shape.Idx, p.2 x = sc v31 (a12.view.read (Elt Ideal) X) 128 (by omega) (p.1.emb x) := by
  unfold trip_k0_t1
  dsimp only
  intro p hp
  have hk : k.val < 8 := lt_of_lt_of_eq k.isLt trips
  rcases List.mem_cons.mp hp with rfl | hp
  · exact fun x => (p6' _ _ x).trans (tile _ _ _ _ 128 k.val _ _ (off1 k).2.2.2.2.2 (off1 k).2.2.2.2.1 (in3 128 k.val _ (off1 k).2.2.2.2.2 (by omega) hk) (in2 128 k.val 128 _ (off1 k).2.2.2.2.1 (by omega) (by omega) hk) x)
  · rcases List.mem_singleton.mp hp with rfl
    exact fun x => (p6 _ _ x).trans (tile _ _ _ _ 0 k.val _ _ (off1 k).2.2.1 (off1 k).2.1 (in3 0 k.val _ (off1 k).2.2.1 (by omega) hk) (in2 0 k.val 128 _ (off1 k).2.1 (by omega) (by omega) hk) x)

/-- One trip covers its head. -/
theorem cover6 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) (k : Fin k0_t1_loop.trips) (y : S8x128x256.Idx) (h : (y 0).val = k.val) :
    ∃ p ∈ (trip_k0_t1 (F := Ideal) 𝒱 c bd i a1 h1 a2 h2 a3 h3 a4 h4 a5 h5 a6 h6 a7 h7 a8 h8 a9 h9 a10 h10 a11 h11 a12 h12 v29 v31 c0 c1 X k).2.1, y ∈ p.1.set := by
  unfold trip_k0_t1
  dsimp only
  have hk : k.val < 8 := lt_of_lt_of_eq k.isLt trips
  have hy2 : (y 2).val < 256 := (y 2).isLt
  by_cases hl : (y 2).val < 128
  · exact ⟨_, List.mem_cons_of_mem _ (List.mem_singleton_self _), mem 0 k.val _ (off1 k).2.2.1 (in3 0 k.val _ (off1 k).2.2.1 (by omega) hk) y h (Nat.zero_le _) (by omega)⟩
  · exact ⟨_, List.mem_cons_self, mem 128 k.val _ (off1 k).2.2.2.2.2 (in3 128 k.val _ (off1 k).2.2.2.2.2 (by omega) hk) y h (by omega) (by omega)⟩

/-- So do all the trips before the n-th. -/
theorem all6 (𝒱 : Variants) (c : Dev nD) (bd : Option 𝒱.V) (i : grid0.Coords) (a1 h1 a2 h2 a3 h3 a4 h4 a5 h5 a6 h6 a7 h7 a8 h8 a9 h9 a10 h10 a11 h11 a12 h12 v29 v31 c0 c1 X) : ∀ n : ℕ, n ≤ 8 →
    (∀ p ∈ (pb_k0_t1 (F := Ideal) 𝒱 c bd i a1 h1 a2 h2 a3 h3 a4 h4 a5 h5 a6 h6 a7 h7 a8 h8 a9 h9 a10 h10 a11 h11 a12 h12 v29 v31 c0 c1 X n).2.1, ∀ x : p.1.shape.Idx, p.2 x = sc v31 (a12.view.read (Elt Ideal) X) 128 (by omega) (p.1.emb x))
    ∧ (∀ y : S8x128x256.Idx, (y 0).val < n → ∃ p ∈ (pb_k0_t1 (F := Ideal) 𝒱 c bd i a1 h1 a2 h2 a3 h3 a4 h4 a5 h5 a6 h6 a7 h7 a8 h8 a9 h9 a10 h10 a11 h11 a12 h12 v29 v31 c0 c1 X n).2.1, y ∈ p.1.set)
  | 0, _ => by
    rw [pb_k0_t1.eq_1]
    exact ⟨fun p hp => absurd hp List.not_mem_nil, fun y h => absurd h (Nat.not_lt_zero _)⟩
  | n + 1, hn => by
    have ih := all6 𝒱 c bd i a1 h1 a2 h2 a3 h3 a4 h4 a5 h5 a6 h6 a7 h7 a8 h8 a9 h9 a10 h10 a11 h11 a12 h12 v29 v31 c0 c1 X n (by omega)
    have hs := pb_k0_t1_succ (F := Ideal) 𝒱 c bd i a1 h1 a2 h2 a3 h3 a4 h4 a5 h5 a6 h6 a7 h7 a8 h8 a9 h9 a10 h10 a11 h11 a12 h12 v29 v31 c0 c1 X ⟨n, by rw [trips]; omega⟩
    dsimp only at hs
    rw [hs]
    dsimp only
    refine ⟨fun p hp => ?_, fun y hy => ?_⟩
    · rcases List.mem_append.mp hp with hp | hp
      · exact trip6 𝒱 c bd i a1 h1 a2 h2 a3 h3 a4 h4 a5 h5 a6 h6 a7 h7 a8 h8 a9 h9 a10 h10 a11 h11 a12 h12 v29 v31 c0 c1 X _ p hp
      · exact ih.1 p hp
    · by_cases he : (y 0).val = n
      · obtain ⟨p, hp, h⟩ := cover6 𝒱 c bd i a1 h1 a2 h2 a3 h3 a4 h4 a5 h5 a6 h6 a7 h7 a8 h8 a9 h9 a10 h10 a11 h11 a12 h12 v29 v31 c0 c1 X ⟨n, by rw [trips]; omega⟩ y he
        exact ⟨p, List.mem_append_left _ hp, h⟩
      · obtain ⟨p, hp, h⟩ := ih.2 y (by omega)
        exact ⟨p, List.mem_append_right _ hp, h⟩

end Cert.RouteSampleProof
end
-- ==== Proof.RouteSample.lean ====
/- The scores of the expert routing: the value of the kernel's first two result arrays. For the sample batch. -/
module

public import proofs.«01_k».proof.Defs
public import proofs.«01_k».proof.Proof.Gen.RouteSample.Frame
public import proofs.«01_k».proof.Proof.Gen.RouteSampleIdeal.Value
public import proofs.«01_k».proof.Proof.Gen.RouteSampleRefIdeal.Run
public import proofs.«01_k».proof.Proof.Gen.RouteSampleRefIdeal.Read
public import proofs.«01_k».proof.Proof.RouteSampleLoop
public import Idealize.ShloMosaic.Lib.Claim
public import Idealize.ShloMosaic.Lib.Pipeline.ValueKit
public import Idealize.ShloMosaic.Lib.Pointwise

@[expose] public section

set_option maxRecDepth 16384
set_option maxHeartbeats 2000000

noncomputable section

namespace Cert.RouteSampleProof

open Idealize.ShloMosaic Idealize.ShloMosaic.TcCoe Idealize.SL.Sem
open Cert.RouteSampleIdeal Cert.RouteSampleIdeal.Gen

variable (m : (ℓ : Loc nD τ sig) → Buf (Elt Ideal) ℓ)

/-- The projected rows, features first. -/
def zz (x1 : FVec Ideal S256x4096 .f32) (x2 : FVec Ideal S1x4096 .f32) (x3 : FVec Ideal S2048x4096 .bf16) : FVec Ideal S2048x256 .f32 :=
  k0_pay2046 (F := Ideal) x1 x2 x3

/-- One half of the keys. -/
def half0 (x4 : FVec Ideal S2x128x128 .f32) : FVec Ideal S128x128 .f32 := fun j => x4 (ix3 0 (j 0) (j 1))
def half1 (x4 : FVec Ideal S2x128x128 .f32) : FVec Ideal S128x128 .f32 := fun j => x4 (ix3 1 (j 0) (j 1))

theorem key0 (c : Dev nD) (a5 : Memref sig .tc .vmem S2x128x128 .f32) (h5 : a5.IsWhole) (x4 : FVec Ideal S2x128x128 .f32) :
    kernelRun0_A.sl.r_1 (F := Ideal) c a5 h5 x4 = half0 x4 := by
  funext j
  idx_vars j
  unfold kernelRun0_A.sl.r_1 half0
  simp only [View.readAt_eq_ld, h5.read_unread]
  pointwise [k0_pay2047]
  all_goals blk_ext []

theorem key1 (c : Dev nD) (a5 : Memref sig .tc .vmem S2x128x128 .f32) (h5 : a5.IsWhole) (x4 : FVec Ideal S2x128x128 .f32) :
    kernelRun0_A.sl.r_2 (F := Ideal) c a5 h5 x4 = half1 x4 := by
  funext j
  idx_vars j
  unfold kernelRun0_A.sl.r_2 half1
  simp only [View.readAt_eq_ld, h5.read_unread]
  pointwise [k0_pay2048]
  all_goals blk_ext []

theorem rows (c : Dev nD) (a2 : Memref sig .tc .vmem S256x4096 .f32) (h2 : a2.IsWhole) (a3 : Memref sig .tc .vmem S1x4096 .f32) (h3 : a3.IsWhole) (a4 : Memref sig .tc .vmem S2048x4096 .bf16) (h4 : a4.IsWhole)
    (a12 : Memref sig .tc .vmem S2048x256 .f32) (x1 : FVec Ideal S256x4096 .f32) (x2 : FVec Ideal S1x4096 .f32) (x3 : FVec Ideal S2048x4096 .bf16) :
    a12.view.read (Elt Ideal) (a12.view.writes (Elt Ideal) a12.view.junk (kernelRun0_A.sl.HS0_1 (F := Ideal) c a2 h2 a3 h3 a4 h4 x1 x2 x3)) = zz x1 x2 x3 := by
  rw [View.read_writes_junk_eq_canon]
  unfold kernelRun0_A.sl.HS0_1 zz
  simp only [View.readAt_eq_ld, h2.read_unread, h3.read_unread, h4.read_unread]
  frame_out

theorem trips8 : Scf.trips (0#32) (Scalar.addi 0#32 8#32) 1#32 = 8 := by decide +kernel

theorem out5 (c : Dev nD) (i : grid0.Coords) (a1 : Memref sig .tc .smem S1 .f32) (h1 : a1.IsWhole) (a2 : Memref sig .tc .vmem S256x4096 .f32) (h2 : a2.IsWhole) (a3 : Memref sig .tc .vmem S1x4096 .f32) (h3 : a3.IsWhole) (a4 : Memref sig .tc .vmem S2048x4096 .bf16) (h4 : a4.IsWhole) (a5 : Memref sig .tc .vmem S2x128x128 .f32) (h5 : a5.IsWhole) (a6 : Memref sig .tc .vmem S8x128x256 .f32) (h6 : a6.IsWhole) (a7 : Memref sig .tc .vmem S8x128x256 .f32) (h7 : a7.IsWhole) (a8 : Memref sig .tc .vmem S8x128x256 .f32) (h8 : a8.IsWhole) (a9 : Memref sig .tc .vmem S8x128x256 .f32) (h9 : a9.IsWhole) (a10 : Memref sig .tc .vmem S8x1x256 .f32) (h10 : a10.IsWhole) (a11 : Memref sig .tc .vmem S256x4096 .fp8e4m3) (h11 : a11.IsWhole) (a12 : Memref sig .tc .vmem S2048x256 .f32) (h12 : a12.IsWhole)
    (x0 : FVec Ideal S1 .f32) (x1 : FVec Ideal S256x4096 .f32) (x2 : FVec Ideal S1x4096 .f32) (x3 : FVec Ideal S2048x4096 .bf16) (x4 : FVec Ideal S2x128x128 .f32) (y : S8x128x256.Idx) :
    out0_A_5 (F := Ideal) c i a1 h1 a2 h2 a3 h3 a4 h4 a5 h5 a6 h6 a7 h7 a8 h8 a9 h9 a10 h10 a11 h11 a12 h12 x0 x1 x2 x3 x4 y = sc (half0 x4) (zz x1 x2 x3) 0 (by omega) y := by
  unfold out0_A_5
  rw [View.read_writes_junk_apply_eq_canon]
  have e : (kernelRun0_A (F := Ideal) c i a1 h1 a2 h2 a3 h3 a4 h4 a5 h5 a6 h6 a7 h7 a8 h8 a9 h9 a10 h10 a11 h11 a12 h12 x0 x1 x2 x3 x4).1 = (pb_k0_t1 (F := Ideal) Variants.none c none i a1 h1 a2 h2 a3 h3 a4 h4 a5 h5 a6 h6 a7 h7 a8 h8 a9 h9 a10 h10 a11 h11 a12 h12 (kernelRun0_A.sl.r_1 c a5 h5 x4) (kernelRun0_A.sl.r_2 c a5 h5 x4) (0#32) (1#32) (a12.view.writes (Elt Ideal) a12.view.junk (kernelRun0_A.sl.HS0_1 c a2 h2 a3 h3 a4 h4 x1 x2 x3)) 8).1 := by
    rw [← trips8]
    unfold kernelRun0_A
    rfl
  rw [e]
  have a := all5 Variants.none c none i a1 h1 a2 h2 a3 h3 a4 h4 a5 h5 a6 h6 a7 h7 a8 h8 a9 h9 a10 h10 a11 h11 a12 h12 (kernelRun0_A.sl.r_1 c a5 h5 x4) (kernelRun0_A.sl.r_2 c a5 h5 x4) (0#32) (1#32) (a12.view.writes (Elt Ideal) a12.view.junk (kernelRun0_A.sl.HS0_1 c a2 h2 a3 h3 a4 h4 x1 x2 x3)) 8 le_rfl
  rw [rows, key0, key1] at a
  rw [key0, key1]
  exact View.canon_apply_of_pieces _ _ a.1 y (a.2 y (y 0).isLt)

theorem out6 (c : Dev nD) (i : grid0.Coords) (a1 : Memref sig .tc .smem S1 .f32) (h1 : a1.IsWhole) (a2 : Memref sig .tc .vmem S256x4096 .f32) (h2 : a2.IsWhole) (a3 : Memref sig .tc .vmem S1x4096 .f32) (h3 : a3.IsWhole) (a4 : Memref sig .tc .vmem S2048x4096 .bf16) (h4 : a4.IsWhole) (a5 : Memref sig .tc .vmem S2x128x128 .f32) (h5 : a5.IsWhole) (a6 : Memref sig .tc .vmem S8x128x256 .f32) (h6 : a6.IsWhole) (a7 : Memref sig .tc .vmem S8x128x256 .f32) (h7 : a7.IsWhole) (a8 : Memref sig .tc .vmem S8x128x256 .f32) (h8 : a8.IsWhole) (a9 : Memref sig .tc .vmem S8x128x256 .f32) (h9 : a9.IsWhole) (a10 : Memref sig .tc .vmem S8x1x256 .f32) (h10 : a10.IsWhole) (a11 : Memref sig .tc .vmem S256x4096 .fp8e4m3) (h11 : a11.IsWhole) (a12 : Memref sig .tc .vmem S2048x256 .f32) (h12 : a12.IsWhole)
    (x0 : FVec Ideal S1 .f32) (x1 : FVec Ideal S256x4096 .f32) (x2 : FVec Ideal S1x4096 .f32) (x3 : FVec Ideal S2048x4096 .bf16) (x4 : FVec Ideal S2x128x128 .f32) (y : S8x128x256.Idx) :
    out0_A_6 (F := Ideal) c i a1 h1 a2 h2 a3 h3 a4 h4 a5 h5 a6 h6 a7 h7 a8 h8 a9 h9 a10 h10 a11 h11 a12 h12 x0 x1 x2 x3 x4 y = sc (half1 x4) (zz x1 x2 x3) 128 (by omega) y := by
  unfold out0_A_6
  rw [View.read_writes_junk_apply_eq_canon]
  have e : (kernelRun0_A (F := Ideal) c i a1 h1 a2 h2 a3 h3 a4 h4 a5 h5 a6 h6 a7 h7 a8 h8 a9 h9 a10 h10 a11 h11 a12 h12 x0 x1 x2 x3 x4).2.1 = (pb_k0_t1 (F := Ideal) Variants.none c none i a1 h1 a2 h2 a3 h3 a4 h4 a5 h5 a6 h6 a7 h7 a8 h8 a9 h9 a10 h10 a11 h11 a12 h12 (kernelRun0_A.sl.r_1 c a5 h5 x4) (kernelRun0_A.sl.r_2 c a5 h5 x4) (0#32) (1#32) (a12.view.writes (Elt Ideal) a12.view.junk (kernelRun0_A.sl.HS0_1 c a2 h2 a3 h3 a4 h4 x1 x2 x3)) 8).2.1 := by
    rw [← trips8]
    unfold kernelRun0_A
    rfl
  rw [e]
  have a := all6 Variants.none c none i a1 h1 a2 h2 a3 h3 a4 h4 a5 h5 a6 h6 a7 h7 a8 h8 a9 h9 a10 h10 a11 h11 a12 h12 (kernelRun0_A.sl.r_1 c a5 h5 x4) (kernelRun0_A.sl.r_2 c a5 h5 x4) (0#32) (1#32) (a12.view.writes (Elt Ideal) a12.view.junk (kernelRun0_A.sl.HS0_1 c a2 h2 a3 h3 a4 h4 x1 x2 x3)) 8 le_rfl
  rw [rows, key0, key1] at a
  rw [key0, key1]
  exact View.canon_apply_of_pieces _ _ a.1 y (a.2 y (y 0).isLt)

/-- One normed row, and its product with one feature's weights. -/
def row (x g : Fin 4096 → EReal) (l : Fin 4096) : EReal := x l * Ideal.rsqrt (Ideal.div (∑ k, x k * x k) (Ideal.ofBits FTy.f32 0x45800000#32) + Ideal.ofBits FTy.f32 0x358637BD#32) * g l

theorem zz_at (x1 : FVec Ideal S256x4096 .f32) (x2 : FVec Ideal S1x4096 .f32) (x3 : FVec Ideal S2048x4096 .bf16) (q : Fin 2048) (r : Fin 256) :
    zz x1 x2 x3 (ix2 q r) = ∑ k : Fin 4096, x3 (ix2 q k) * row (fun l => x1 (ix2 r l)) (fun l => x2 (ix2 0 l)) k := by
  unfold row
  pointwise [zz, k0_pay2046, k0_pay2044]

theorem idx : ∀ t : Fin cfg0.N, win0_1.index t = ![t.val, 0] ∧ win0_2.index t = ![0, 0] ∧ win0_3.index t = ![0, 0] ∧ win0_4.index t = ![0, 0, 0]
    ∧ win0_5.index t = ![0, 0, t.val] ∧ win0_6.index t = ![0, 0, t.val] := (by decide +kernel : ∀ t : Fin grid0.N, _)

abbrev A0 (c : Dev nD) : FVec Ideal S8192x4096 .f32 := m ((c : Thread nD τ).loc main_arg0)
abbrev A1 (c : Dev nD) : FVec Ideal S1x4096 .f32 := m ((c : Thread nD τ).loc main_arg1)
abbrev A2 (c : Dev nD) : FVec Ideal S1x4096x2048 .f32 := m ((c : Thread nD τ).loc main_arg2)
abbrev A3 (c : Dev nD) : FVec Ideal S1x2x128x128 .f32 := m ((c : Thread nD τ).loc main_arg3)

theorem w_at (c : Dev nD) (q : Fin 2048) (k : Fin 4096) : (show EReal from V m c main_v20 (ix2 q k)) = A2 m c (ix3 0 k q) := by
  unfold V
  simp only [hostOps0, hostOps0_1, hostOps0_2, hostOps0_3, hostOps0_4, List.flatten_cons, List.flatten_nil, List.append_nil, List.cons_append, List.nil_append]
  entry_read
  pointwise []

theorem s_at (c : Dev nD) (h : Fin 2) (n d : Fin 128) : (show EReal from V m c main_v21 (ix3 h n d)) = A3 m c (ix4 0 h n d) := by
  unfold V
  simp only [hostOps0, hostOps0_1, hostOps0_2, hostOps0_3, hostOps0_4, List.flatten_cons, List.flatten_nil, List.append_nil, List.cons_append, List.nil_append]
  entry_read
  pointwise []

theorem g_at (c : Dev nD) (k : Fin 4096) : (show EReal from V m c main_v23 (ix2 0 k)) = A1 m c (ix2 0 k) := by
  unfold V
  simp only [hostOps0, hostOps0_1, hostOps0_2, hostOps0_3, hostOps0_4, List.flatten_cons, List.flatten_nil, List.append_nil, List.cons_append, List.nil_append]
  entry_read
  pointwise []

theorem sc_eq (v : FVec Ideal S128x128 .f32) (Z : FVec Ideal S2048x256 .f32) (o : ℕ) (h : o ≤ 128) (y : S8x128x256.Idx) (f : Fin 128 → EReal)
    (H : ∀ d : Fin 128, v (ix2 (y 1) d) * Z (ix2 ⟨(y 0).val * 256 + o + d.val, by have := (y 0).isLt; have e : S8x128x256.size 0 = 8 := rfl; omega⟩ (y 2)) = f d) : sc v Z o h y = ∑ d, f d :=
  Finset.sum_congr rfl fun d _ => H d

abbrev REF5 (x0 : FVec Ideal S8192x4096 .f32) (x1 : FVec Ideal S1x4096 .f32) (x2 : FVec Ideal S1x4096x2048 .f32) (x3 : FVec Ideal S1x2x128x128 .f32) : FVec Ideal S8x128x8192 .f32 :=
  Cert.RouteSampleRefIdeal.Read.val_main_v22 (F := Ideal) x0 x1 x2 x3

/-- The reference's scores at an index. -/
theorem ref_at5 (x0 : FVec Ideal S8192x4096 .f32) (x1 : FVec Ideal S1x4096 .f32) (x2 : FVec Ideal S1x4096x2048 .f32) (x3 : FVec Ideal S1x2x128x128 .f32) (b : Fin 8) (n : Fin 128) (r : Fin 8192) :
    REF5 x0 x1 x2 x3 (ix3 b n r) = ∑ d : Fin 128, x3 (ix4 0 0 n d) * ∑ k : Fin 4096, row (fun l => x0 (ix2 r l)) (fun l => x1 (ix2 0 l)) k * x2 (ix3 0 k ⟨b.val * 256 + 0 + d.val, by omega⟩) := by
  unfold row
  pointwise [REF5, Cert.RouteSampleRefIdeal.Read.val_main_cst, Cert.RouteSampleRefIdeal.Read.val_main_cst_0, Cert.RouteSampleRefIdeal.Read.val_main_cst_1, Cert.RouteSampleRefIdeal.Read.val_main_v0, Cert.RouteSampleRefIdeal.Read.val_main_v1, Cert.RouteSampleRefIdeal.Read.val_main_v2, Cert.RouteSampleRefIdeal.Read.val_main_v3, Cert.RouteSampleRefIdeal.Read.val_main_v4, Cert.RouteSampleRefIdeal.Read.val_main_v5, Cert.RouteSampleRefIdeal.Read.val_main_v6, Cert.RouteSampleRefIdeal.Read.val_main_v7, Cert.RouteSampleRefIdeal.Read.val_main_v8, Cert.RouteSampleRefIdeal.Read.val_main_v9, Cert.RouteSampleRefIdeal.Read.val_main_v10, Cert.RouteSampleRefIdeal.Read.val_main_v11, Cert.RouteSampleRefIdeal.Read.val_main_v12, Cert.RouteSampleRefIdeal.Read.val_main_v13, Cert.RouteSampleRefIdeal.Read.val_main_v14, Cert.RouteSampleRefIdeal.Read.val_main_v15, Cert.RouteSampleRefIdeal.Read.val_main_v16, Cert.RouteSampleRefIdeal.Read.val_main_v17, Cert.RouteSampleRefIdeal.Read.val_main_v18, Cert.RouteSampleRefIdeal.Read.val_main_v19, Cert.RouteSampleRefIdeal.Read.val_main_v20, Cert.RouteSampleRefIdeal.Read.val_main_v21, Cert.RouteSampleRefIdeal.Read.val_main_v22]

/-- The kernel's array of scores is the reference's. -/
theorem final5 (c : Dev nD) : (dats m 0 c).arrAt 5 cfg0.N = REF5 (A0 m c) (A1 m c) (A2 m c) (A3 m c) := by
  refine (dats m 0 c).arrAt_eq_of_covers 5 _ (by decide +kernel) fun t _ y => ?_
  blk_simp
  rw [after0_5]
  unfold outsAt0
  dsimp only
  have ht : t.val < 32 := lt_of_lt_of_eq t.isLt N_0
  have hy0 : (y 0).val < 8 := (y 0).isLt
  have hy1 : (y 1).val < 128 := (y 1).isLt
  have hy2 : (y 2).val < 256 := (y 2).isLt
  have e := ref_at5 (A0 m c) (A1 m c) (A2 m c) (A3 m c) (y 0) (y 1) ⟨t.val * 256 + (y 2).val, by omega⟩
  generalize REF5 (A0 m c) (A1 m c) (A2 m c) (A3 m c) = A at e ⊢
  refine Eq.trans ?_ (e.symm.trans ?_)
  · refine (out5 _ _ _ _ _ _ _ _ _ _ _ _ _ _ _ _ _ _ _ _ _ _ _ _ _ _ _ _ _ _ _ y).trans (sc_eq _ _ _ _ _ _ fun d => congrArg₂ (· * ·) ?_ ((zz_at _ _ _ _ _).trans (Finset.sum_congr rfl fun k _ => (mul_comm _ _).trans (congrArg₂ (· * ·) (congrArg₂ (fun f g => row f g k) (funext fun l => ?_) (funext fun l => ?_)) ?_))))
    · refine Eq.trans ?_ (s_at m c 0 (y 1) d)
      unfold half0
      blk_ext [iblk, idx t]
    · blk_ext [iblk, V, idx t]
    · refine Eq.trans ?_ (g_at m c l)
      blk_ext [iblk, idx t]
    · refine Eq.trans ?_ (w_at m c _ k)
      blk_ext [iblk, idx t]
  · blk_ext [idx t]

abbrev REF6 (x0 : FVec Ideal S8192x4096 .f32) (x1 : FVec Ideal S1x4096 .f32) (x2 : FVec Ideal S1x4096x2048 .f32) (x3 : FVec Ideal S1x2x128x128 .f32) : FVec Ideal S8x128x8192 .f32 :=
  Cert.RouteSampleRefIdeal.Read.val_main_v25 (F := Ideal) x0 x1 x2 x3

/-- The reference's scores at an index. -/
theorem ref_at6 (x0 : FVec Ideal S8192x4096 .f32) (x1 : FVec Ideal S1x4096 .f32) (x2 : FVec Ideal S1x4096x2048 .f32) (x3 : FVec Ideal S1x2x128x128 .f32) (b : Fin 8) (n : Fin 128) (r : Fin 8192) :
    REF6 x0 x1 x2 x3 (ix3 b n r) = ∑ d : Fin 128, x3 (ix4 0 1 n d) * ∑ k : Fin 4096, row (fun l => x0 (ix2 r l)) (fun l => x1 (ix2 0 l)) k * x2 (ix3 0 k ⟨b.val * 256 + 128 + d.val, by omega⟩) := by
  unfold row
  pointwise [REF6, Cert.RouteSampleRefIdeal.Read.val_main_cst, Cert.RouteSampleRefIdeal.Read.val_main_cst_0, Cert.RouteSampleRefIdeal.Read.val_main_cst_1, Cert.RouteSampleRefIdeal.Read.val_main_v0, Cert.RouteSampleRefIdeal.Read.val_main_v1, Cert.RouteSampleRefIdeal.Read.val_main_v2, Cert.RouteSampleRefIdeal.Read.val_main_v3, Cert.RouteSampleRefIdeal.Read.val_main_v4, Cert.RouteSampleRefIdeal.Read.val_main_v5, Cert.RouteSampleRefIdeal.Read.val_main_v6, Cert.RouteSampleRefIdeal.Read.val_main_v7, Cert.RouteSampleRefIdeal.Read.val_main_v8, Cert.RouteSampleRefIdeal.Read.val_main_v9, Cert.RouteSampleRefIdeal.Read.val_main_v10, Cert.RouteSampleRefIdeal.Read.val_main_v11, Cert.RouteSampleRefIdeal.Read.val_main_v12, Cert.RouteSampleRefIdeal.Read.val_main_v13, Cert.RouteSampleRefIdeal.Read.val_main_v14, Cert.RouteSampleRefIdeal.Read.val_main_v15, Cert.RouteSampleRefIdeal.Read.val_main_v16, Cert.RouteSampleRefIdeal.Read.val_main_v17, Cert.RouteSampleRefIdeal.Read.val_main_v18, Cert.RouteSampleRefIdeal.Read.val_main_v19, Cert.RouteSampleRefIdeal.Read.val_main_v20, Cert.RouteSampleRefIdeal.Read.val_main_v21, Cert.RouteSampleRefIdeal.Read.val_main_v22, Cert.RouteSampleRefIdeal.Read.val_main_v23, Cert.RouteSampleRefIdeal.Read.val_main_v24, Cert.RouteSampleRefIdeal.Read.val_main_v25]

/-- The kernel's array of scores is the reference's. -/
theorem final6 (c : Dev nD) : (dats m 0 c).arrAt 6 cfg0.N = REF6 (A0 m c) (A1 m c) (A2 m c) (A3 m c) := by
  refine (dats m 0 c).arrAt_eq_of_covers 6 _ (by decide +kernel) fun t _ y => ?_
  blk_simp
  rw [after0_6]
  unfold outsAt0
  dsimp only
  have ht : t.val < 32 := lt_of_lt_of_eq t.isLt N_0
  have hy0 : (y 0).val < 8 := (y 0).isLt
  have hy1 : (y 1).val < 128 := (y 1).isLt
  have hy2 : (y 2).val < 256 := (y 2).isLt
  have e := ref_at6 (A0 m c) (A1 m c) (A2 m c) (A3 m c) (y 0) (y 1) ⟨t.val * 256 + (y 2).val, by omega⟩
  generalize REF6 (A0 m c) (A1 m c) (A2 m c) (A3 m c) = A at e ⊢
  refine Eq.trans ?_ (e.symm.trans ?_)
  · refine (out6 _ _ _ _ _ _ _ _ _ _ _ _ _ _ _ _ _ _ _ _ _ _ _ _ _ _ _ _ _ _ _ y).trans (sc_eq _ _ _ _ _ _ fun d => congrArg₂ (· * ·) ?_ ((zz_at _ _ _ _ _).trans (Finset.sum_congr rfl fun k _ => (mul_comm _ _).trans (congrArg₂ (· * ·) (congrArg₂ (fun f g => row f g k) (funext fun l => ?_) (funext fun l => ?_)) ?_))))
    · refine Eq.trans ?_ (s_at m c 1 (y 1) d)
      unfold half1
      blk_ext [iblk, idx t]
    · blk_ext [iblk, V, idx t]
    · refine Eq.trans ?_ (g_at m c l)
      blk_ext [iblk, idx t]
    · refine Eq.trans ?_ (w_at m c _ k)
      blk_ext [iblk, idx t]
  · blk_ext [idx t]

/-- Both programs run and end with the same scores. -/
theorem algebraic : Cert.algebraic_RouteSampleIdeal_RouteSampleRefIdeal := by
  pair_intro
  · run_from Cert.RouteSampleIdeal.Value.run_blocks m g
  · run_from Cert.RouteSampleRefIdeal.Value.run m' g'
    · rw [Cert.RouteSampleRefIdeal.Read.val_main_v22_eq]
      exact (final5 m c).symm
    · rw [Cert.RouteSampleRefIdeal.Read.val_main_v25_eq]
      exact (final6 m c).symm

end Cert.RouteSampleProof
end
-- ==== Proof.DftCSample.lean ====
/- The transform along the channels. For the sample batch. -/
module

public import proofs.«01_k».proof.Defs
public import proofs.«01_k».proof.Proof.Gen.DftCSample.Frame
public import proofs.«01_k».proof.Proof.Gen.DftCSampleIdeal.Value
public import proofs.«01_k».proof.Proof.Gen.DftCSampleRefIdeal.Run
public import proofs.«01_k».proof.Proof.Gen.DftCSampleRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.DftCSampleProof

open Idealize.ShloMosaic Idealize.ShloMosaic.TcCoe Idealize.SL.Sem
open Cert.DftCSampleIdeal Cert.DftCSampleIdeal.Gen

variable (m : (ℓ : Loc nD τ sig) → Buf (Elt Ideal) ℓ)

theorem idx : ∀ t : Fin cfg0.N, win0_0.index t = ![t.val / 8, 0] ∧ win0_1.index t = ![0, t.val % 8] ∧ win0_2.index t = ![t.val / 8, t.val % 8] := (by decide +kernel : ∀ t : Fin grid0.N, _)

/-- One point's block: the rows times the columns. -/
theorem pay_at (x0 : FVec Ideal S1024x2048 .bf16) (x1 : FVec Ideal S2048x512 .bf16) (r : Fin 1024) (l : Fin 512) :
    k0_pay1 x0 x1 (ix2 r l) = ∑ k : Fin 2048, x0 (ix2 r k) * x1 (ix2 k l) := by
  pointwise [k0_pay1]

theorem out_at (c : Dev nD) (i : grid0.Coords) (a2 : Memref sig .tc .vmem S1024x2048 .bf16) (h2 : a2.IsWhole) (a3 : Memref sig .tc .vmem S2048x512 .bf16) (h3 : a3.IsWhole)
    (a4 : Memref sig .tc .vmem S1024x512 .bf16) (h4 : a4.IsWhole) (x0 : FVec Ideal S1024x2048 .bf16) (x1 : FVec Ideal S2048x512 .bf16) (y : S1024x512.Idx) :
    out0_A_2 (F := Ideal) c i a2 h2 a3 h3 a4 h4 x0 x1 y = ∑ k : Fin 2048, x0 (ix2 (y 0) k) * x1 (ix2 k (y 1)) := by
  unfold out0_A_2
  rw [View.read_writes_junk_apply_eq_canon]
  unfold kernelRun0_A
  dsimp only
  simp only [View.readAt_eq_ld, h2.read_unread, h3.read_unread]
  frame_out
  idx_vars y
  exact pay_at x0 x1 y0 y1

/-- The first block array's contents at an index. -/
theorem x_at (m : (ℓ : Loc nD τ sig) → Buf (Elt Ideal) ℓ) (c : Dev nD) (t : Fin cfg0.N) (r : Fin 1024) (k : Fin 2048) (ht : t.val / 8 * 1024 + r.val < 8192) :
    (show FVec Ideal S1024x2048 .bf16 from X0_0 m c t) (ix2 r k) = (show FVec Ideal S8192x5120 .bf16 from m ((c : Thread nD τ).loc main_arg0)) (ix2 ⟨t.val / 8 * 1024 + r.val, ht⟩ ⟨k.val, by omega⟩) := by
  show (cfg0.win 0).fill (cfg0.grid.coords t) dflt0_0 (iblk m c 0 t) (ix2 r k) = _
  unfold Pipeline.Window.fill
  rw [dif_pos (moved0_0 t (ix2 r k))]
  blk_ext [iblk, V, idx t]

abbrev REF (x0 : FVec Ideal S8192x5120 .bf16) (x1 : FVec Ideal S2048x4096 .bf16) : FVec Ideal S8192x4096 .bf16 :=
  Cert.DftCSampleRefIdeal.Read.val_main_v4 (F := Ideal) x0 x1

/-- The reference at an index. -/
theorem ref_at (x0 : FVec Ideal S8192x5120 .bf16) (x1 : FVec Ideal S2048x4096 .bf16) (r : Fin 8192) (l : Fin 4096) :
    REF x0 x1 (ix2 r l) = ∑ k : Fin 2048, x0 (ix2 r ⟨k.val, by omega⟩) * x1 (ix2 k l) := by
  pointwise [REF, Cert.DftCSampleRefIdeal.Read.val_main_v0, Cert.DftCSampleRefIdeal.Read.val_main_v1, Cert.DftCSampleRefIdeal.Read.val_main_v2, Cert.DftCSampleRefIdeal.Read.val_main_v3, Cert.DftCSampleRefIdeal.Read.val_main_v4]

/-- The kernel's result array is the reference's. -/
theorem final (c : Dev nD) :
    (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 64 := lt_of_lt_of_eq t.isLt N_0
  have hy0 : (y 0).val < 1024 := (y 0).isLt
  have hy1 : (y 1).val < 512 := (y 1).isLt
  refine (out_at _ _ _ _ _ _ _ _ _ _ y).trans ?_
  have e := ref_at (m ((c : Thread nD τ).loc main_arg0)) (m ((c : Thread nD τ).loc main_arg1)) ⟨t.val / 8 * 1024 + (y 0).val, by omega⟩ ⟨t.val % 8 * 512 + (y 1).val, by omega⟩
  generalize REF (m ((c : Thread nD τ).loc main_arg0)) (m ((c : Thread nD τ).loc main_arg1)) = A at e ⊢
  refine Eq.trans ?_ (e.symm.trans ?_)
  · refine Finset.sum_congr rfl fun k _ => congrArg₂ (· * ·) ?_ ?_
    · exact x_at m c t (y 0) k _
    · blk_ext [iblk, V, idx t]
  · blk_ext [idx t]

/-- Both programs run and end with the same result. -/
theorem algebraic : Cert.algebraic_DftCSampleIdeal_DftCSampleRefIdeal := by
  pair_intro
  · run_from Cert.DftCSampleIdeal.Value.run_blocks m g
  · run_from Cert.DftCSampleRefIdeal.Value.run m' g'
    rw [Cert.DftCSampleRefIdeal.Read.val_main_v4_eq]
    exact (final m c).symm

end Cert.DftCSampleProof
end
-- ==== Proof.DftPSample.lean ====
/- The transform along the positions. For the sample batch. -/
module

public import proofs.«01_k».proof.Defs
public import proofs.«01_k».proof.Proof.Gen.DftPSample.Frame
public import proofs.«01_k».proof.Proof.Gen.DftPSampleIdeal.Value
public import proofs.«01_k».proof.Proof.Gen.DftPSampleRefIdeal.Run
public import proofs.«01_k».proof.Proof.Gen.DftPSampleRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.DftPSampleProof

open Idealize.ShloMosaic Idealize.ShloMosaic.TcCoe Idealize.SL.Sem
open Cert.DftPSampleIdeal Cert.DftPSampleIdeal.Gen

variable (m : (ℓ : Loc nD τ sig) → Buf (Elt Ideal) ℓ)

theorem idx : ∀ t : Fin cfg0.N, win0_0.index t = ![t.val / 16, 0] ∧ win0_1.index t = ![t.val / 16, 0] ∧ win0_2.index t = ![t.val / 4 % 4, 0, t.val % 4]
    ∧ win0_3.index t = ![t.val / 4 % 4, 0, 4 + t.val % 4] ∧ win0_4.index t = ![t.val / 4 % 4, t.val / 16, t.val % 4] := (by decide +kernel : ∀ t : Fin grid0.N, _)

/-- One point's block: the two products' difference, scaled. -/
theorem pay_at (x0 : FVec Ideal S512x2048 .bf16) (x2 : FVec Ideal S1x2048x512 .bf16) (x1 : FVec Ideal S512x2048 .bf16) (x3 : FVec Ideal S1x2048x512 .bf16) (z : Fin 1) (r : Fin 512) (l : Fin 512) :
    k0_pay1 x0 x2 x1 x3 (ix3 z r l) = ((∑ k : Fin 2048, x0 (ix2 r k) * x2 (ix3 0 k l)) - (∑ k : Fin 2048, x1 (ix2 r k) * x3 (ix3 0 k l))) * Ideal.ofBits FTy.f32 0x3A000000#32 := by
  pointwise [k0_pay1]

theorem out_at (x0 x1 : FVec Ideal S512x2048 .bf16) (x2 x3 : FVec Ideal S1x2048x512 .bf16) (y : S1x512x512.Idx) :
    out0_4 (F := Ideal) x0 x1 x2 x3 y = ((∑ k : Fin 2048, x0 (ix2 (y 1) k) * x2 (ix3 0 k (y 2))) - (∑ k : Fin 2048, x1 (ix2 (y 1) k) * x3 (ix3 0 k (y 2)))) * Ideal.ofBits FTy.f32 0x3A000000#32 := by
  unfold out0_4
  frame_out
  idx_vars y
  exact pay_at x0 x2 x1 x3 _ _ _

abbrev REF (x0 x1 : FVec Ideal S2048x2048 .bf16) (x2 : FVec Ideal S8192x4096 .bf16) : FVec Ideal S4x2048x2048 .bf16 :=
  Cert.DftPSampleRefIdeal.Read.val_main_v13 (F := Ideal) x0 x1 x2

/-- The reference at an index. -/
theorem ref_at (x0 x1 : FVec Ideal S2048x2048 .bf16) (x2 : FVec Ideal S8192x4096 .bf16) (b : Fin 4) (r : Fin 2048) (l : Fin 2048) :
    REF x0 x1 x2 (ix3 b r l) = ((∑ k : Fin 2048, x2 (ix2 ⟨b.val * 2048 + k.val, by omega⟩ ⟨l.val, by omega⟩) * x0 (ix2 r k)) - (∑ k : Fin 2048, x2 (ix2 ⟨b.val * 2048 + k.val, by omega⟩ ⟨2048 + l.val, by omega⟩) * x1 (ix2 r k))) * Ideal.ofBits FTy.f32 0x3A000000#32 := by
  pointwise [REF, Cert.DftPSampleRefIdeal.Read.val_main_cst, Cert.DftPSampleRefIdeal.Read.val_main_v0, Cert.DftPSampleRefIdeal.Read.val_main_v1, Cert.DftPSampleRefIdeal.Read.val_main_v2, Cert.DftPSampleRefIdeal.Read.val_main_v3, Cert.DftPSampleRefIdeal.Read.val_main_v4, Cert.DftPSampleRefIdeal.Read.val_main_v5, Cert.DftPSampleRefIdeal.Read.val_main_v6, Cert.DftPSampleRefIdeal.Read.val_main_v7, Cert.DftPSampleRefIdeal.Read.val_main_v8, Cert.DftPSampleRefIdeal.Read.val_main_v9, Cert.DftPSampleRefIdeal.Read.val_main_v10, Cert.DftPSampleRefIdeal.Read.val_main_v11, Cert.DftPSampleRefIdeal.Read.val_main_v12, Cert.DftPSampleRefIdeal.Read.val_main_v13]

/-- The kernel's products, in one array, read at an index of the argument. -/
theorem p_at (c : Dev nD) (b : Fin 4) (k : Fin 2048) (l : Fin 4096) :
    (show EReal from V m c main_v0 (ix3 b k l)) = (show FVec Ideal S8192x4096 .bf16 from m ((c : Thread nD τ).loc main_arg2)) (ix2 ⟨b.val * 2048 + k.val, by omega⟩ l) := by
  entry_read
  pointwise []

/-- The kernel's result array is the reference's. -/
theorem final (c : Dev nD) :
    (dats m 0 c).arrAt 4 cfg0.N = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have ht : t.val < 64 := lt_of_lt_of_eq t.isLt N_0
  have hy0 : (y 0).val < 1 := (y 0).isLt
  have hy1 : (y 1).val < 512 := (y 1).isLt
  have hy2 : (y 2).val < 512 := (y 2).isLt
  refine (out_at _ _ _ _ y).trans ?_
  have e := ref_at (m ((c : Thread nD τ).loc main_arg0)) (m ((c : Thread nD τ).loc main_arg1)) (m ((c : Thread nD τ).loc main_arg2)) ⟨t.val / 4 % 4, by omega⟩ ⟨t.val / 16 * 512 + (y 1).val, by omega⟩ ⟨t.val % 4 * 512 + (y 2).val, by omega⟩
  generalize REF (m ((c : Thread nD τ).loc main_arg0)) (m ((c : Thread nD τ).loc main_arg1)) (m ((c : Thread nD τ).loc main_arg2)) = A at e ⊢
  refine Eq.trans ?_ (e.symm.trans ?_)
  · refine congrArg (· * _) (congrArg₂ (· - ·) (Finset.sum_congr rfl fun k _ => ?_) (Finset.sum_congr rfl fun k _ => ?_))
    · refine (mul_comm _ _).trans (congrArg₂ (· * ·) ?_ ?_)
      · refine Eq.trans ?_ (p_at m c ⟨t.val / 4 % 4, by omega⟩ k ⟨t.val % 4 * 512 + (y 2).val, by omega⟩)
        blk_ext [iblk, idx t]
      · blk_ext [iblk, V, idx t]
    · refine (mul_comm _ _).trans (congrArg₂ (· * ·) ?_ ?_)
      · refine Eq.trans ?_ ((p_at m c ⟨t.val / 4 % 4, by omega⟩ k ⟨2048 + (t.val % 4 * 512 + (y 2).val), by omega⟩))
        blk_ext [iblk, idx t]
      · blk_ext [iblk, V, idx t]
  · blk_ext [idx t]

/-- Both programs run and end with the same result. -/
theorem algebraic : Cert.algebraic_DftPSampleIdeal_DftPSampleRefIdeal := by
  pair_intro
  · run_from Cert.DftPSampleIdeal.Value.run_blocks m g
  · run_from Cert.DftPSampleRefIdeal.Value.run m' g'
    rw [Cert.DftPSampleRefIdeal.Read.val_main_v13_eq]
    exact (final m c).symm

end Cert.DftPSampleProof
end
-- ==== Proof.lean ====
/- All the claims of the certificate, from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.LastSample
public import proofs.«01_k».proof.Proof.Gen.LastSample.Skeleton
public import proofs.«01_k».proof.Proof.Gen.LastSample.Launch
public import proofs.«01_k».proof.Proof.Gen.LastSample.Points
public import proofs.«01_k».proof.Proof.Gen.LastSample.Frame
public import proofs.«01_k».proof.Proof.Gen.LastSampleIdeal
public import proofs.«01_k».proof.Proof.Gen.LastSampleIdeal.Skeleton
public import proofs.«01_k».proof.Proof.Gen.LastSampleIdeal.Launch
public import proofs.«01_k».proof.Proof.Gen.LastSampleIdeal.Points
public import proofs.«01_k».proof.Proof.Gen.LastSampleIdeal.Frame
public import proofs.«01_k».proof.Proof.Gen.LastSampleIdeal.Value
public import proofs.«01_k».proof.Proof.Gen.LastSampleRefIdeal
public import proofs.«01_k».proof.Proof.Gen.LastSampleRefIdeal.Run
public import proofs.«01_k».proof.Proof.Gen.LastSampleRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.CaQ
public import proofs.«01_k».proof.Proof.Gen.CaQ.Skeleton
public import proofs.«01_k».proof.Proof.Gen.CaQ.Launch
public import proofs.«01_k».proof.Proof.Gen.CaQ.Points
public import proofs.«01_k».proof.Proof.Gen.CaQ.Frame
public import proofs.«01_k».proof.Proof.Gen.CaQIdeal
public import proofs.«01_k».proof.Proof.Gen.CaQIdeal.Skeleton
public import proofs.«01_k».proof.Proof.Gen.CaQIdeal.Launch
public import proofs.«01_k».proof.Proof.Gen.CaQIdeal.Points
public import proofs.«01_k».proof.Proof.Gen.CaQIdeal.Frame
public import proofs.«01_k».proof.Proof.Gen.CaQIdeal.Value
public import proofs.«01_k».proof.Proof.Gen.CaQRefIdeal
public import proofs.«01_k».proof.Proof.Gen.CaQRefIdeal.Run
public import proofs.«01_k».proof.Proof.Gen.CaQRefIdeal.Read
public import proofs.«01_k».proof.Proof.Gen.CaKv
public import proofs.«01_k».proof.Proof.Gen.CaKv.Skeleton
public import proofs.«01_k».proof.Proof.Gen.CaKv.Launch
public import proofs.«01_k».proof.Proof.Gen.CaKv.Points
public import proofs.«01_k».proof.Proof.Gen.CaKv.Frame
public import proofs.«01_k».proof.Proof.Gen.CaKvIdeal
public import proofs.«01_k».proof.Proof.Gen.CaKvIdeal.Skeleton
public import proofs.«01_k».proof.Proof.Gen.CaKvIdeal.Launch
public import proofs.«01_k».proof.Proof.Gen.CaKvIdeal.Points
public import proofs.«01_k».proof.Proof.Gen.CaKvIdeal.Frame
public import proofs.«01_k».proof.Proof.Gen.CaKvIdeal.Value
public import proofs.«01_k».proof.Proof.Gen.CaKvRefIdeal
public import proofs.«01_k».proof.Proof.Gen.CaKvRefIdeal.Run
public import proofs.«01_k».proof.Proof.Gen.CaKvRefIdeal.Read
public import proofs.«01_k».proof.Proof.Gen.CaOut
public import proofs.«01_k».proof.Proof.Gen.CaOut.Skeleton
public import proofs.«01_k».proof.Proof.Gen.CaOut.Launch
public import proofs.«01_k».proof.Proof.Gen.CaOut.Points
public import proofs.«01_k».proof.Proof.Gen.CaOut.Frame
public import proofs.«01_k».proof.Proof.Gen.CaOutIdeal
public import proofs.«01_k».proof.Proof.Gen.CaOutIdeal.Skeleton
public import proofs.«01_k».proof.Proof.Gen.CaOutIdeal.Launch
public import proofs.«01_k».proof.Proof.Gen.CaOutIdeal.Points
public import proofs.«01_k».proof.Proof.Gen.CaOutIdeal.Frame
public import proofs.«01_k».proof.Proof.Gen.CaOutIdeal.Value
public import proofs.«01_k».proof.Proof.Gen.CaOutRefIdeal
public import proofs.«01_k».proof.Proof.Gen.CaOutRefIdeal.Run
public import proofs.«01_k».proof.Proof.Gen.CaOutRefIdeal.Read
public import proofs.«01_k».proof.Proof.Gen.Pre_finite_keys
public import Idealize.ShloMosaic.Adequacy
public import Idealize.ShloMosaic.Init
public import proofs.«01_k».proof.Proof.Gen.Keys
public import proofs.«01_k».proof.Proof.Gen.Keys.Skeleton
public import proofs.«01_k».proof.Proof.Gen.Keys.Launch
public import proofs.«01_k».proof.Proof.Gen.Keys.Points
public import proofs.«01_k».proof.Proof.Gen.Keys.Frame
public import proofs.«01_k».proof.Proof.Gen.KeysIdeal
public import proofs.«01_k».proof.Proof.Gen.KeysIdeal.Skeleton
public import proofs.«01_k».proof.Proof.Gen.KeysIdeal.Launch
public import proofs.«01_k».proof.Proof.Gen.KeysIdeal.Points
public import proofs.«01_k».proof.Proof.Gen.KeysIdeal.Frame
public import proofs.«01_k».proof.Proof.Gen.KeysIdeal.Value
public import proofs.«01_k».proof.Proof.Gen.KeysRefIdeal
public import proofs.«01_k».proof.Proof.Gen.KeysRefIdeal.Run
public import proofs.«01_k».proof.Proof.Gen.KeysRefIdeal.Read
public import proofs.«01_k».proof.Proof.Gen.Ca
public import proofs.«01_k».proof.Proof.Gen.Ca.Skeleton
public import proofs.«01_k».proof.Proof.Gen.Ca.Launch
public import proofs.«01_k».proof.Proof.Gen.Ca.Points
public import proofs.«01_k».proof.Proof.Gen.Ca.Frame
public import proofs.«01_k».proof.Proof.Gen.CaIdeal
public import proofs.«01_k».proof.Proof.Gen.CaIdeal.Skeleton
public import proofs.«01_k».proof.Proof.Gen.CaIdeal.Launch
public import proofs.«01_k».proof.Proof.Gen.CaIdeal.Points
public import proofs.«01_k».proof.Proof.Gen.CaIdeal.Frame
public import proofs.«01_k».proof.Proof.Gen.CaIdeal.Value
public import proofs.«01_k».proof.Proof.Gen.CaRefIdeal
public import proofs.«01_k».proof.Proof.Gen.CaRefIdeal.Run
public import proofs.«01_k».proof.Proof.Gen.CaRefIdeal.Read
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.Gen.RouteRefIdeal
public import proofs.«01_k».proof.Proof.Gen.RouteRefIdeal.Run
public import proofs.«01_k».proof.Proof.Gen.RouteRefIdeal.Read
public import proofs.«01_k».proof.Proof.Gen.DftC
public import proofs.«01_k».proof.Proof.Gen.DftC.Skeleton
public import proofs.«01_k».proof.Proof.Gen.DftC.Launch
public import proofs.«01_k».proof.Proof.Gen.DftC.Points
public import proofs.«01_k».proof.Proof.Gen.DftC.Frame
public import proofs.«01_k».proof.Proof.Gen.DftCIdeal
public import proofs.«01_k».proof.Proof.Gen.DftCIdeal.Skeleton
public import proofs.«01_k».proof.Proof.Gen.DftCIdeal.Launch
public import proofs.«01_k».proof.Proof.Gen.DftCIdeal.Points
public import proofs.«01_k».proof.Proof.Gen.DftCIdeal.Frame
public import proofs.«01_k».proof.Proof.Gen.DftCIdeal.Value
public import proofs.«01_k».proof.Proof.Gen.DftCRefIdeal
public import proofs.«01_k».proof.Proof.Gen.DftCRefIdeal.Run
public import proofs.«01_k».proof.Proof.Gen.DftCRefIdeal.Read
public import proofs.«01_k».proof.Proof.Gen.DftP
public import proofs.«01_k».proof.Proof.Gen.DftP.Skeleton
public import proofs.«01_k».proof.Proof.Gen.DftP.Launch
public import proofs.«01_k».proof.Proof.Gen.DftP.Points
public import proofs.«01_k».proof.Proof.Gen.DftP.Frame
public import proofs.«01_k».proof.Proof.Gen.DftPIdeal
public import proofs.«01_k».proof.Proof.Gen.DftPIdeal.Skeleton
public import proofs.«01_k».proof.Proof.Gen.DftPIdeal.Launch
public import proofs.«01_k».proof.Proof.Gen.DftPIdeal.Points
public import proofs.«01_k».proof.Proof.Gen.DftPIdeal.Frame
public import proofs.«01_k».proof.Proof.Gen.DftPIdeal.Value
public import proofs.«01_k».proof.Proof.Gen.DftPRefIdeal
public import proofs.«01_k».proof.Proof.Gen.DftPRefIdeal.Run
public import proofs.«01_k».proof.Proof.Gen.DftPRefIdeal.Read
public import proofs.«01_k».proof.Proof.Gen.KernelSample
public import proofs.«01_k».proof.Proof.Gen.KernelSample.Skeleton
public import proofs.«01_k».proof.Proof.Gen.KernelSample.Launch
public import proofs.«01_k».proof.Proof.Gen.KernelSample.Points
public import proofs.«01_k».proof.Proof.Gen.KernelSample.Frame
public import proofs.«01_k».proof.Proof.Gen.KernelSampleIdeal
public import proofs.«01_k».proof.Proof.Gen.KernelSampleIdeal.Skeleton
public import proofs.«01_k».proof.Proof.Gen.KernelSampleIdeal.Launch
public import proofs.«01_k».proof.Proof.Gen.KernelSampleIdeal.Points
public import proofs.«01_k».proof.Proof.Gen.KernelSampleIdeal.Frame
public import proofs.«01_k».proof.Proof.Gen.KernelSampleIdeal.Value
public import proofs.«01_k».proof.Proof.Gen.KernelSampleRefIdeal
public import proofs.«01_k».proof.Proof.Gen.KernelSampleRefIdeal.Run
public import proofs.«01_k».proof.Proof.Gen.KernelSampleRefIdeal.Read
public import proofs.«01_k».proof.Proof.Gen.MergeSample
public import proofs.«01_k».proof.Proof.Gen.MergeSample.Skeleton
public import proofs.«01_k».proof.Proof.Gen.MergeSample.Launch
public import proofs.«01_k».proof.Proof.Gen.MergeSample.Points
public import proofs.«01_k».proof.Proof.Gen.MergeSample.Frame
public import proofs.«01_k».proof.Proof.Gen.MergeSampleIdeal
public import proofs.«01_k».proof.Proof.Gen.MergeSampleIdeal.Skeleton
public import proofs.«01_k».proof.Proof.Gen.MergeSampleIdeal.Launch
public import proofs.«01_k».proof.Proof.Gen.MergeSampleIdeal.Points
public import proofs.«01_k».proof.Proof.Gen.MergeSampleIdeal.Frame
public import proofs.«01_k».proof.Proof.Gen.MergeSampleIdeal.Value
public import proofs.«01_k».proof.Proof.Gen.MergeSampleRefIdeal
public import proofs.«01_k».proof.Proof.Gen.MergeSampleRefIdeal.Run
public import proofs.«01_k».proof.Proof.Gen.MergeSampleRefIdeal.Read
public import proofs.«01_k».proof.Proof.Gen.InProjSample
public import proofs.«01_k».proof.Proof.Gen.InProjSample.Skeleton
public import proofs.«01_k».proof.Proof.Gen.InProjSample.Launch
public import proofs.«01_k».proof.Proof.Gen.InProjSample.Points
public import proofs.«01_k».proof.Proof.Gen.InProjSample.Frame
public import proofs.«01_k».proof.Proof.Gen.InProjSampleIdeal
public import proofs.«01_k».proof.Proof.Gen.InProjSampleIdeal.Skeleton
public import proofs.«01_k».proof.Proof.Gen.InProjSampleIdeal.Launch
public import proofs.«01_k».proof.Proof.Gen.InProjSampleIdeal.Points
public import proofs.«01_k».proof.Proof.Gen.InProjSampleIdeal.Frame
public import proofs.«01_k».proof.Proof.Gen.InProjSampleIdeal.Value
public import proofs.«01_k».proof.Proof.Gen.InProjSampleRefIdeal
public import proofs.«01_k».proof.Proof.Gen.InProjSampleRefIdeal.Run
public import proofs.«01_k».proof.Proof.Gen.InProjSampleRefIdeal.Read
public import proofs.«01_k».proof.Proof.Gen.OutProjSample
public import proofs.«01_k».proof.Proof.Gen.OutProjSample.Skeleton
public import proofs.«01_k».proof.Proof.Gen.OutProjSample.Launch
public import proofs.«01_k».proof.Proof.Gen.OutProjSample.Points
public import proofs.«01_k».proof.Proof.Gen.OutProjSample.Frame
public import proofs.«01_k».proof.Proof.Gen.OutProjSampleIdeal
public import proofs.«01_k».proof.Proof.Gen.OutProjSampleIdeal.Skeleton
public import proofs.«01_k».proof.Proof.Gen.OutProjSampleIdeal.Launch
public import proofs.«01_k».proof.Proof.Gen.OutProjSampleIdeal.Points
public import proofs.«01_k».proof.Proof.Gen.OutProjSampleIdeal.Frame
public import proofs.«01_k».proof.Proof.Gen.OutProjSampleIdeal.Value
public import proofs.«01_k».proof.Proof.Gen.OutProjSampleRefIdeal
public import proofs.«01_k».proof.Proof.Gen.OutProjSampleRefIdeal.Run
public import proofs.«01_k».proof.Proof.Gen.OutProjSampleRefIdeal.Read
public import proofs.«01_k».proof.Proof.Gen.NormSample
public import proofs.«01_k».proof.Proof.Gen.NormSample.Skeleton
public import proofs.«01_k».proof.Proof.Gen.NormSample.Launch
public import proofs.«01_k».proof.Proof.Gen.NormSample.Points
public import proofs.«01_k».proof.Proof.Gen.NormSample.Frame
public import proofs.«01_k».proof.Proof.Gen.NormSampleIdeal
public import proofs.«01_k».proof.Proof.Gen.NormSampleIdeal.Skeleton
public import proofs.«01_k».proof.Proof.Gen.NormSampleIdeal.Launch
public import proofs.«01_k».proof.Proof.Gen.NormSampleIdeal.Points
public import proofs.«01_k».proof.Proof.Gen.NormSampleIdeal.Frame
public import proofs.«01_k».proof.Proof.Gen.NormSampleIdeal.Value
public import proofs.«01_k».proof.Proof.Gen.NormSampleRefIdeal
public import proofs.«01_k».proof.Proof.Gen.NormSampleRefIdeal.Run
public import proofs.«01_k».proof.Proof.Gen.NormSampleRefIdeal.Read
public import proofs.«01_k».proof.Proof.Gen.KeysSample
public import proofs.«01_k».proof.Proof.Gen.KeysSample.Skeleton
public import proofs.«01_k».proof.Proof.Gen.KeysSample.Launch
public import proofs.«01_k».proof.Proof.Gen.KeysSample.Points
public import proofs.«01_k».proof.Proof.Gen.KeysSample.Frame
public import proofs.«01_k».proof.Proof.Gen.KeysSampleIdeal
public import proofs.«01_k».proof.Proof.Gen.KeysSampleIdeal.Skeleton
public import proofs.«01_k».proof.Proof.Gen.KeysSampleIdeal.Launch
public import proofs.«01_k».proof.Proof.Gen.KeysSampleIdeal.Points
public import proofs.«01_k».proof.Proof.Gen.KeysSampleIdeal.Frame
public import proofs.«01_k».proof.Proof.Gen.KeysSampleIdeal.Value
public import proofs.«01_k».proof.Proof.Gen.KeysSampleRefIdeal
public import proofs.«01_k».proof.Proof.Gen.KeysSampleRefIdeal.Run
public import proofs.«01_k».proof.Proof.Gen.KeysSampleRefIdeal.Read
public import proofs.«01_k».proof.Proof.Gen.CaQSample
public import proofs.«01_k».proof.Proof.Gen.CaQSample.Skeleton
public import proofs.«01_k».proof.Proof.Gen.CaQSample.Launch
public import proofs.«01_k».proof.Proof.Gen.CaQSample.Points
public import proofs.«01_k».proof.Proof.Gen.CaQSample.Frame
public import proofs.«01_k».proof.Proof.Gen.CaQSampleIdeal
public import proofs.«01_k».proof.Proof.Gen.CaQSampleIdeal.Skeleton
public import proofs.«01_k».proof.Proof.Gen.CaQSampleIdeal.Launch
public import proofs.«01_k».proof.Proof.Gen.CaQSampleIdeal.Points
public import proofs.«01_k».proof.Proof.Gen.CaQSampleIdeal.Frame
public import proofs.«01_k».proof.Proof.Gen.CaQSampleIdeal.Value
public import proofs.«01_k».proof.Proof.Gen.CaQSampleRefIdeal
public import proofs.«01_k».proof.Proof.Gen.CaQSampleRefIdeal.Run
public import proofs.«01_k».proof.Proof.Gen.CaQSampleRefIdeal.Read
public import proofs.«01_k».proof.Proof.Gen.CaSample
public import proofs.«01_k».proof.Proof.Gen.CaSample.Skeleton
public import proofs.«01_k».proof.Proof.Gen.CaSample.Launch
public import proofs.«01_k».proof.Proof.Gen.CaSample.Points
public import proofs.«01_k».proof.Proof.Gen.CaSample.Frame
public import proofs.«01_k».proof.Proof.Gen.CaSampleIdeal
public import proofs.«01_k».proof.Proof.Gen.CaSampleIdeal.Skeleton
public import proofs.«01_k».proof.Proof.Gen.CaSampleIdeal.Launch
public import proofs.«01_k».proof.Proof.Gen.CaSampleIdeal.Points
public import proofs.«01_k».proof.Proof.Gen.CaSampleIdeal.Frame
public import proofs.«01_k».proof.Proof.Gen.CaSampleIdeal.Value
public import proofs.«01_k».proof.Proof.Gen.CaSampleRefIdeal
public import proofs.«01_k».proof.Proof.Gen.CaSampleRefIdeal.Run
public import proofs.«01_k».proof.Proof.Gen.CaSampleRefIdeal.Read
public import proofs.«01_k».proof.Proof.Gen.CaOutSample
public import proofs.«01_k».proof.Proof.Gen.CaOutSample.Skeleton
public import proofs.«01_k».proof.Proof.Gen.CaOutSample.Launch
public import proofs.«01_k».proof.Proof.Gen.CaOutSample.Points
public import proofs.«01_k».proof.Proof.Gen.CaOutSample.Frame
public import proofs.«01_k».proof.Proof.Gen.CaOutSampleIdeal
public import proofs.«01_k».proof.Proof.Gen.CaOutSampleIdeal.Skeleton
public import proofs.«01_k».proof.Proof.Gen.CaOutSampleIdeal.Launch
public import proofs.«01_k».proof.Proof.Gen.CaOutSampleIdeal.Points
public import proofs.«01_k».proof.Proof.Gen.CaOutSampleIdeal.Frame
public import proofs.«01_k».proof.Proof.Gen.CaOutSampleIdeal.Value
public import proofs.«01_k».proof.Proof.Gen.CaOutSampleRefIdeal
public import proofs.«01_k».proof.Proof.Gen.CaOutSampleRefIdeal.Run
public import proofs.«01_k».proof.Proof.Gen.CaOutSampleRefIdeal.Read
public import proofs.«01_k».proof.Proof.Gen.RouteSample
public import proofs.«01_k».proof.Proof.Gen.RouteSample.Skeleton
public import proofs.«01_k».proof.Proof.Gen.RouteSample.Launch
public import proofs.«01_k».proof.Proof.Gen.RouteSample.Points
public import proofs.«01_k».proof.Proof.Gen.RouteSample.Frame
public import proofs.«01_k».proof.Proof.Gen.RouteSampleIdeal
public import proofs.«01_k».proof.Proof.Gen.RouteSampleIdeal.Skeleton
public import proofs.«01_k».proof.Proof.Gen.RouteSampleIdeal.Launch
public import proofs.«01_k».proof.Proof.Gen.RouteSampleIdeal.Points
public import proofs.«01_k».proof.Proof.Gen.RouteSampleIdeal.Frame
public import proofs.«01_k».proof.Proof.Gen.RouteSampleIdeal.Value
public import proofs.«01_k».proof.Proof.Gen.RouteSampleRefIdeal
public import proofs.«01_k».proof.Proof.Gen.RouteSampleRefIdeal.Run
public import proofs.«01_k».proof.Proof.Gen.RouteSampleRefIdeal.Read
public import proofs.«01_k».proof.Proof.Gen.DftCSample
public import proofs.«01_k».proof.Proof.Gen.DftCSample.Skeleton
public import proofs.«01_k».proof.Proof.Gen.DftCSample.Launch
public import proofs.«01_k».proof.Proof.Gen.DftCSample.Points
public import proofs.«01_k».proof.Proof.Gen.DftCSample.Frame
public import proofs.«01_k».proof.Proof.Gen.DftCSampleIdeal
public import proofs.«01_k».proof.Proof.Gen.DftCSampleIdeal.Skeleton
public import proofs.«01_k».proof.Proof.Gen.DftCSampleIdeal.Launch
public import proofs.«01_k».proof.Proof.Gen.DftCSampleIdeal.Points
public import proofs.«01_k».proof.Proof.Gen.DftCSampleIdeal.Frame
public import proofs.«01_k».proof.Proof.Gen.DftCSampleIdeal.Value
public import proofs.«01_k».proof.Proof.Gen.DftCSampleRefIdeal
public import proofs.«01_k».proof.Proof.Gen.DftCSampleRefIdeal.Run
public import proofs.«01_k».proof.Proof.Gen.DftCSampleRefIdeal.Read
public import proofs.«01_k».proof.Proof.Gen.DftPSample
public import proofs.«01_k».proof.Proof.Gen.DftPSample.Skeleton
public import proofs.«01_k».proof.Proof.Gen.DftPSample.Launch
public import proofs.«01_k».proof.Proof.Gen.DftPSample.Points
public import proofs.«01_k».proof.Proof.Gen.DftPSample.Frame
public import proofs.«01_k».proof.Proof.Gen.DftPSampleIdeal
public import proofs.«01_k».proof.Proof.Gen.DftPSampleIdeal.Skeleton
public import proofs.«01_k».proof.Proof.Gen.DftPSampleIdeal.Launch
public import proofs.«01_k».proof.Proof.Gen.DftPSampleIdeal.Points
public import proofs.«01_k».proof.Proof.Gen.DftPSampleIdeal.Frame
public import proofs.«01_k».proof.Proof.Gen.DftPSampleIdeal.Value
public import proofs.«01_k».proof.Proof.Gen.DftPSampleRefIdeal
public import proofs.«01_k».proof.Proof.Gen.DftPSampleRefIdeal.Run
public import proofs.«01_k».proof.Proof.Gen.DftPSampleRefIdeal.Read
public import proofs.«01_k».proof.Proof.Attention
public import proofs.«01_k».proof.Proof.Merge
public import proofs.«01_k».proof.Proof.InProj
public import proofs.«01_k».proof.Proof.OutProj
public import proofs.«01_k».proof.Proof.Last
public import proofs.«01_k».proof.Proof.LastSample
public import proofs.«01_k».proof.Proof.Norm
public import proofs.«01_k».proof.Proof.KeysFinal
public import proofs.«01_k».proof.Proof.CaQ
public import proofs.«01_k».proof.Proof.CaKv
public import proofs.«01_k».proof.Proof.Ca
public import proofs.«01_k».proof.Proof.CaOut
public import proofs.«01_k».proof.Proof.Route
public import proofs.«01_k».proof.Proof.DftC
public import proofs.«01_k».proof.Proof.DftP
public import proofs.«01_k».proof.Proof.KernelSample
public import proofs.«01_k».proof.Proof.MergeSample
public import proofs.«01_k».proof.Proof.InProjSample
public import proofs.«01_k».proof.Proof.OutProjSample
public import proofs.«01_k».proof.Proof.NormSample
public import proofs.«01_k».proof.Proof.KeysSampleFinal
public import proofs.«01_k».proof.Proof.CaQSample
public import proofs.«01_k».proof.Proof.CaSample
public import proofs.«01_k».proof.Proof.CaOutSample
public import proofs.«01_k».proof.Proof.RouteSample
public import proofs.«01_k».proof.Proof.DftCSample
public import proofs.«01_k».proof.Proof.DftPSample

@[expose] public noncomputable section

namespace Cert.Proof

open Idealize.ShloMosaic Idealize.SL.Sem

/-- This reference runs and leaves its arguments; it declares no semaphore. -/
theorem frameReferenceIdeal : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- This reference runs and leaves its arguments; it declares no semaphore. -/
theorem frameMergeRefIdeal : Cert.quiescent_MergeRefIdeal := fun m g _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m g)

/-- This reference runs and leaves its arguments; it declares no semaphore. -/
theorem frameInProjRefIdeal : Cert.quiescent_InProjRefIdeal := fun m g _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m g)

/-- This reference runs and leaves its arguments; it declares no semaphore. -/
theorem frameOutProjRefIdeal : Cert.quiescent_OutProjRefIdeal := fun m g _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m g)

/-- This reference runs and leaves its arguments; it declares no semaphore. -/
theorem frameLastRefIdeal : Cert.quiescent_LastRefIdeal := fun m g _ =>
  (θ_run Cert.LastRefIdeal.defs _ _).mono
    (fun r h => ⟨fun c => (h c).2, Idealize.ShloMosaic.sem_eq_zero_of_no_sems (by decide) r.2⟩)
    (Cert.LastRefIdeal.Value.run (F := Ideal) m g)

/-- This reference runs and leaves its arguments; it declares no semaphore. -/
theorem frameLastSampleRefIdeal : Cert.quiescent_LastSampleRefIdeal := fun m g _ =>
  (θ_run Cert.LastSampleRefIdeal.defs _ _).mono
    (fun r h => ⟨fun c => (h c).2, Idealize.ShloMosaic.sem_eq_zero_of_no_sems (by decide) r.2⟩)
    (Cert.LastSampleRefIdeal.Value.run (F := Ideal) m g)

/-- This reference runs and leaves its arguments; it declares no semaphore. -/
theorem frameNormRefIdeal : Cert.quiescent_NormRefIdeal := fun m g _ =>
  (θ_run Cert.NormRefIdeal.defs _ _).mono
    (fun r h => ⟨fun c => (h c).2, Idealize.ShloMosaic.sem_eq_zero_of_no_sems (by decide) r.2⟩)
    (Cert.NormRefIdeal.Value.run (F := Ideal) m g)

/-- This reference runs and leaves its arguments; it declares no semaphore. -/
theorem frameKeysRefIdeal : Cert.quiescent_KeysRefIdeal := fun m g _ =>
  (θ_run Cert.KeysRefIdeal.defs _ _).mono
    (fun r h => ⟨fun c => (h c).2, Idealize.ShloMosaic.sem_eq_zero_of_no_sems (by decide) r.2⟩)
    (Cert.KeysRefIdeal.Value.run (F := Ideal) m g)

/-- This reference runs and leaves its arguments; it declares no semaphore. -/
theorem frameCaQRefIdeal : Cert.quiescent_CaQRefIdeal := fun m g _ =>
  (θ_run Cert.CaQRefIdeal.defs _ _).mono
    (fun r h => ⟨fun c => (h c).2, Idealize.ShloMosaic.sem_eq_zero_of_no_sems (by decide) r.2⟩)
    (Cert.CaQRefIdeal.Value.run (F := Ideal) m g)

/-- This reference runs and leaves its arguments; it declares no semaphore. -/
theorem frameCaKvRefIdeal : Cert.quiescent_CaKvRefIdeal := fun m g _ =>
  (θ_run Cert.CaKvRefIdeal.defs _ _).mono
    (fun r h => ⟨fun c => (h c).2, Idealize.ShloMosaic.sem_eq_zero_of_no_sems (by decide) r.2⟩)
    (Cert.CaKvRefIdeal.Value.run (F := Ideal) m g)

/-- This reference runs and leaves its arguments; it declares no semaphore. -/
theorem frameCaRefIdeal : Cert.quiescent_CaRefIdeal := fun m g _ =>
  (θ_run Cert.CaRefIdeal.defs _ _).mono
    (fun r h => ⟨fun c => (h c).2, Idealize.ShloMosaic.sem_eq_zero_of_no_sems (by decide) r.2⟩)
    (Cert.CaRefIdeal.Value.run (F := Ideal) m g)

/-- This reference runs and leaves its arguments; it declares no semaphore. -/
theorem frameCaOutRefIdeal : Cert.quiescent_CaOutRefIdeal := fun m g _ =>
  (θ_run Cert.CaOutRefIdeal.defs _ _).mono
    (fun r h => ⟨fun c => (h c).2, Idealize.ShloMosaic.sem_eq_zero_of_no_sems (by decide) r.2⟩)
    (Cert.CaOutRefIdeal.Value.run (F := Ideal) m g)

/-- This reference runs and leaves its arguments; it declares no semaphore. -/
theorem frameRouteRefIdeal : Cert.quiescent_RouteRefIdeal := fun m g _ =>
  (θ_run Cert.RouteRefIdeal.defs _ _).mono
    (fun r h => ⟨fun c => (h c).2.2, Idealize.ShloMosaic.sem_eq_zero_of_no_sems (by decide) r.2⟩)
    (Cert.RouteRefIdeal.Value.run (F := Ideal) m g)

/-- This reference runs and leaves its arguments; it declares no semaphore. -/
theorem frameDftCRefIdeal : Cert.quiescent_DftCRefIdeal := fun m g _ =>
  (θ_run Cert.DftCRefIdeal.defs _ _).mono
    (fun r h => ⟨fun c => (h c).2, Idealize.ShloMosaic.sem_eq_zero_of_no_sems (by decide) r.2⟩)
    (Cert.DftCRefIdeal.Value.run (F := Ideal) m g)

/-- This reference runs and leaves its arguments; it declares no semaphore. -/
theorem frameDftPRefIdeal : Cert.quiescent_DftPRefIdeal := fun m g _ =>
  (θ_run Cert.DftPRefIdeal.defs _ _).mono
    (fun r h => ⟨fun c => (h c).2, Idealize.ShloMosaic.sem_eq_zero_of_no_sems (by decide) r.2⟩)
    (Cert.DftPRefIdeal.Value.run (F := Ideal) m g)

/-- This reference runs and leaves its arguments; it declares no semaphore. -/
theorem frameKernelSampleRefIdeal : Cert.quiescent_KernelSampleRefIdeal := fun m g _ =>
  (θ_run Cert.KernelSampleRefIdeal.defs _ _).mono
    (fun r h => ⟨fun c => (h c).2, Idealize.ShloMosaic.sem_eq_zero_of_no_sems (by decide) r.2⟩)
    (Cert.KernelSampleRefIdeal.Value.run (F := Ideal) m g)

/-- This reference runs and leaves its arguments; it declares no semaphore. -/
theorem frameMergeSampleRefIdeal : Cert.quiescent_MergeSampleRefIdeal := fun m g _ =>
  (θ_run Cert.MergeSampleRefIdeal.defs _ _).mono
    (fun r h => ⟨fun c => (h c).2, Idealize.ShloMosaic.sem_eq_zero_of_no_sems (by decide) r.2⟩)
    (Cert.MergeSampleRefIdeal.Value.run (F := Ideal) m g)

/-- This reference runs and leaves its arguments; it declares no semaphore. -/
theorem frameInProjSampleRefIdeal : Cert.quiescent_InProjSampleRefIdeal := fun m g _ =>
  (θ_run Cert.InProjSampleRefIdeal.defs _ _).mono
    (fun r h => ⟨fun c => (h c).2, Idealize.ShloMosaic.sem_eq_zero_of_no_sems (by decide) r.2⟩)
    (Cert.InProjSampleRefIdeal.Value.run (F := Ideal) m g)

/-- This reference runs and leaves its arguments; it declares no semaphore. -/
theorem frameOutProjSampleRefIdeal : Cert.quiescent_OutProjSampleRefIdeal := fun m g _ =>
  (θ_run Cert.OutProjSampleRefIdeal.defs _ _).mono
    (fun r h => ⟨fun c => (h c).2, Idealize.ShloMosaic.sem_eq_zero_of_no_sems (by decide) r.2⟩)
    (Cert.OutProjSampleRefIdeal.Value.run (F := Ideal) m g)

/-- This reference runs and leaves its arguments; it declares no semaphore. -/
theorem frameNormSampleRefIdeal : Cert.quiescent_NormSampleRefIdeal := fun m g _ =>
  (θ_run Cert.NormSampleRefIdeal.defs _ _).mono
    (fun r h => ⟨fun c => (h c).2, Idealize.ShloMosaic.sem_eq_zero_of_no_sems (by decide) r.2⟩)
    (Cert.NormSampleRefIdeal.Value.run (F := Ideal) m g)

/-- This reference runs and leaves its arguments; it declares no semaphore. -/
theorem frameKeysSampleRefIdeal : Cert.quiescent_KeysSampleRefIdeal := fun m g _ =>
  (θ_run Cert.KeysSampleRefIdeal.defs _ _).mono
    (fun r h => ⟨fun c => (h c).2, Idealize.ShloMosaic.sem_eq_zero_of_no_sems (by decide) r.2⟩)
    (Cert.KeysSampleRefIdeal.Value.run (F := Ideal) m g)

/-- This reference runs and leaves its arguments; it declares no semaphore. -/
theorem frameCaQSampleRefIdeal : Cert.quiescent_CaQSampleRefIdeal := fun m g _ =>
  (θ_run Cert.CaQSampleRefIdeal.defs _ _).mono
    (fun r h => ⟨fun c => (h c).2, Idealize.ShloMosaic.sem_eq_zero_of_no_sems (by decide) r.2⟩)
    (Cert.CaQSampleRefIdeal.Value.run (F := Ideal) m g)

/-- This reference runs and leaves its arguments; it declares no semaphore. -/
theorem frameCaSampleRefIdeal : Cert.quiescent_CaSampleRefIdeal := fun m g _ =>
  (θ_run Cert.CaSampleRefIdeal.defs _ _).mono
    (fun r h => ⟨fun c => (h c).2, Idealize.ShloMosaic.sem_eq_zero_of_no_sems (by decide) r.2⟩)
    (Cert.CaSampleRefIdeal.Value.run (F := Ideal) m g)

/-- This reference runs and leaves its arguments; it declares no semaphore. -/
theorem frameCaOutSampleRefIdeal : Cert.quiescent_CaOutSampleRefIdeal := fun m g _ =>
  (θ_run Cert.CaOutSampleRefIdeal.defs _ _).mono
    (fun r h => ⟨fun c => (h c).2, Idealize.ShloMosaic.sem_eq_zero_of_no_sems (by decide) r.2⟩)
    (Cert.CaOutSampleRefIdeal.Value.run (F := Ideal) m g)

/-- This reference runs and leaves its arguments; it declares no semaphore. -/
theorem frameRouteSampleRefIdeal : Cert.quiescent_RouteSampleRefIdeal := fun m g _ =>
  (θ_run Cert.RouteSampleRefIdeal.defs _ _).mono
    (fun r h => ⟨fun c => (h c).2.2, Idealize.ShloMosaic.sem_eq_zero_of_no_sems (by decide) r.2⟩)
    (Cert.RouteSampleRefIdeal.Value.run (F := Ideal) m g)

/-- This reference runs and leaves its arguments; it declares no semaphore. -/
theorem frameDftCSampleRefIdeal : Cert.quiescent_DftCSampleRefIdeal := fun m g _ =>
  (θ_run Cert.DftCSampleRefIdeal.defs _ _).mono
    (fun r h => ⟨fun c => (h c).2, Idealize.ShloMosaic.sem_eq_zero_of_no_sems (by decide) r.2⟩)
    (Cert.DftCSampleRefIdeal.Value.run (F := Ideal) m g)

/-- This reference runs and leaves its arguments; it declares no semaphore. -/
theorem frameDftPSampleRefIdeal : Cert.quiescent_DftPSampleRefIdeal := fun m g _ =>
  (θ_run Cert.DftPSampleRefIdeal.defs _ _).mono
    (fun r h => ⟨fun c => (h c).2, Idealize.ShloMosaic.sem_eq_zero_of_no_sems (by decide) r.2⟩)
    (Cert.DftPSampleRefIdeal.Value.run (F := Ideal) m g)

/-- All claims: for each call the frames, the preserved text, and the equality with its reference. -/
theorem claim : Cert.Claim :=
  ⟨Cert.Kernel.Gen.facts,
  Cert.KernelIdeal.Gen.facts,
  Cert.ReferenceIdeal.Gen.facts,
  Cert.Merge.Gen.facts,
  Cert.MergeIdeal.Gen.facts,
  Cert.MergeRefIdeal.Gen.facts,
  Cert.InProj.Gen.facts,
  Cert.InProjIdeal.Gen.facts,
  Cert.InProjRefIdeal.Gen.facts,
  Cert.OutProj.Gen.facts,
  Cert.OutProjIdeal.Gen.facts,
  Cert.OutProjRefIdeal.Gen.facts,
  Cert.Last.Gen.facts,
  Cert.LastIdeal.Gen.facts,
  Cert.LastRefIdeal.Gen.facts,
  Cert.LastSample.Gen.facts,
  Cert.LastSampleIdeal.Gen.facts,
  Cert.LastSampleRefIdeal.Gen.facts,
  Cert.Norm.Gen.facts,
  Cert.NormIdeal.Gen.facts,
  Cert.NormRefIdeal.Gen.facts,
  Cert.Keys.Gen.facts,
  Cert.KeysIdeal.Gen.facts,
  Cert.KeysRefIdeal.Gen.facts,
  Cert.CaQ.Gen.facts,
  Cert.CaQIdeal.Gen.facts,
  Cert.CaQRefIdeal.Gen.facts,
  Cert.CaKv.Gen.facts,
  Cert.CaKvIdeal.Gen.facts,
  Cert.CaKvRefIdeal.Gen.facts,
  Cert.Ca.Gen.facts,
  Cert.CaIdeal.Gen.facts,
  Cert.CaRefIdeal.Gen.facts,
  Cert.CaOut.Gen.facts,
  Cert.CaOutIdeal.Gen.facts,
  Cert.CaOutRefIdeal.Gen.facts,
  Cert.Route.Gen.facts,
  Cert.RouteIdeal.Gen.facts,
  Cert.RouteRefIdeal.Gen.facts,
  Cert.DftC.Gen.facts,
  Cert.DftCIdeal.Gen.facts,
  Cert.DftCRefIdeal.Gen.facts,
  Cert.DftP.Gen.facts,
  Cert.DftPIdeal.Gen.facts,
  Cert.DftPRefIdeal.Gen.facts,
  Cert.KernelSample.Gen.facts,
  Cert.KernelSampleIdeal.Gen.facts,
  Cert.KernelSampleRefIdeal.Gen.facts,
  Cert.MergeSample.Gen.facts,
  Cert.MergeSampleIdeal.Gen.facts,
  Cert.MergeSampleRefIdeal.Gen.facts,
  Cert.InProjSample.Gen.facts,
  Cert.InProjSampleIdeal.Gen.facts,
  Cert.InProjSampleRefIdeal.Gen.facts,
  Cert.OutProjSample.Gen.facts,
  Cert.OutProjSampleIdeal.Gen.facts,
  Cert.OutProjSampleRefIdeal.Gen.facts,
  Cert.NormSample.Gen.facts,
  Cert.NormSampleIdeal.Gen.facts,
  Cert.NormSampleRefIdeal.Gen.facts,
  Cert.KeysSample.Gen.facts,
  Cert.KeysSampleIdeal.Gen.facts,
  Cert.KeysSampleRefIdeal.Gen.facts,
  Cert.CaQSample.Gen.facts,
  Cert.CaQSampleIdeal.Gen.facts,
  Cert.CaQSampleRefIdeal.Gen.facts,
  Cert.CaSample.Gen.facts,
  Cert.CaSampleIdeal.Gen.facts,
  Cert.CaSampleRefIdeal.Gen.facts,
  Cert.CaOutSample.Gen.facts,
  Cert.CaOutSampleIdeal.Gen.facts,
  Cert.CaOutSampleRefIdeal.Gen.facts,
  Cert.RouteSample.Gen.facts,
  Cert.RouteSampleIdeal.Gen.facts,
  Cert.RouteSampleRefIdeal.Gen.facts,
  Cert.DftCSample.Gen.facts,
  Cert.DftCSampleIdeal.Gen.facts,
  Cert.DftCSampleRefIdeal.Gen.facts,
  Cert.DftPSample.Gen.facts,
  Cert.DftPSampleIdeal.Gen.facts,
  Cert.DftPSampleRefIdeal.Gen.facts,
  Cert.Attn.preFacts,
  Cert.CaProof.preFacts,
  Cert.KernelSampleProof.preFacts,
  Cert.CaSampleProof.preFacts,
  fun m g _ => Cert.Kernel.Gen.frame m g,
  fun m g _ => Cert.KernelIdeal.Gen.frame m g,
  fun m g _ => Cert.KernelIdeal.Gen.frame m g,
  frameReferenceIdeal,
  fun m g _ => frameReferenceIdeal m g trivial,
  fun m g _ => Cert.Merge.Gen.frame m g,
  fun m g _ => Cert.MergeIdeal.Gen.frame m g,
  frameMergeRefIdeal,
  fun m g _ => Cert.InProj.Gen.frame m g,
  fun m g _ => Cert.InProjIdeal.Gen.frame m g,
  frameInProjRefIdeal,
  fun m g _ => Cert.OutProj.Gen.frame m g,
  fun m g _ => Cert.OutProjIdeal.Gen.frame m g,
  frameOutProjRefIdeal,
  fun m g _ => Cert.Last.Gen.frame m g,
  fun m g _ => Cert.LastIdeal.Gen.frame m g,
  frameLastRefIdeal,
  fun m g _ => Cert.LastSample.Gen.frame m g,
  fun m g _ => Cert.LastSampleIdeal.Gen.frame m g,
  frameLastSampleRefIdeal,
  fun m g _ => Cert.Norm.Gen.frame m g,
  fun m g _ => Cert.NormIdeal.Gen.frame m g,
  frameNormRefIdeal,
  fun m g _ => Cert.Keys.Gen.frame m g,
  fun m g _ => Cert.KeysIdeal.Gen.frame m g,
  frameKeysRefIdeal,
  fun m g _ => Cert.CaQ.Gen.frame m g,
  fun m g _ => Cert.CaQIdeal.Gen.frame m g,
  frameCaQRefIdeal,
  fun m g _ => Cert.CaKv.Gen.frame m g,
  fun m g _ => Cert.CaKvIdeal.Gen.frame m g,
  frameCaKvRefIdeal,
  fun m g _ => Cert.Ca.Gen.frame m g,
  fun m g _ => Cert.CaIdeal.Gen.frame m g,
  fun m g _ => Cert.CaIdeal.Gen.frame m g,
  frameCaRefIdeal,
  fun m g _ => frameCaRefIdeal m g trivial,
  fun m g _ => Cert.CaOut.Gen.frame m g,
  fun m g _ => Cert.CaOutIdeal.Gen.frame m g,
  frameCaOutRefIdeal,
  fun m g _ => Cert.Route.Gen.frame m g,
  fun m g _ => Cert.RouteIdeal.Gen.frame m g,
  frameRouteRefIdeal,
  fun m g _ => Cert.DftC.Gen.frame m g,
  fun m g _ => Cert.DftCIdeal.Gen.frame m g,
  frameDftCRefIdeal,
  fun m g _ => Cert.DftP.Gen.frame m g,
  fun m g _ => Cert.DftPIdeal.Gen.frame m g,
  frameDftPRefIdeal,
  fun m g _ => Cert.KernelSample.Gen.frame m g,
  fun m g _ => Cert.KernelSampleIdeal.Gen.frame m g,
  fun m g _ => Cert.KernelSampleIdeal.Gen.frame m g,
  frameKernelSampleRefIdeal,
  fun m g _ => frameKernelSampleRefIdeal m g trivial,
  fun m g _ => Cert.MergeSample.Gen.frame m g,
  fun m g _ => Cert.MergeSampleIdeal.Gen.frame m g,
  frameMergeSampleRefIdeal,
  fun m g _ => Cert.InProjSample.Gen.frame m g,
  fun m g _ => Cert.InProjSampleIdeal.Gen.frame m g,
  frameInProjSampleRefIdeal,
  fun m g _ => Cert.OutProjSample.Gen.frame m g,
  fun m g _ => Cert.OutProjSampleIdeal.Gen.frame m g,
  frameOutProjSampleRefIdeal,
  fun m g _ => Cert.NormSample.Gen.frame m g,
  fun m g _ => Cert.NormSampleIdeal.Gen.frame m g,
  frameNormSampleRefIdeal,
  fun m g _ => Cert.KeysSample.Gen.frame m g,
  fun m g _ => Cert.KeysSampleIdeal.Gen.frame m g,
  frameKeysSampleRefIdeal,
  fun m g _ => Cert.CaQSample.Gen.frame m g,
  fun m g _ => Cert.CaQSampleIdeal.Gen.frame m g,
  frameCaQSampleRefIdeal,
  fun m g _ => Cert.CaSample.Gen.frame m g,
  fun m g _ => Cert.CaSampleIdeal.Gen.frame m g,
  fun m g _ => Cert.CaSampleIdeal.Gen.frame m g,
  frameCaSampleRefIdeal,
  fun m g _ => frameCaSampleRefIdeal m g trivial,
  fun m g _ => Cert.CaOutSample.Gen.frame m g,
  fun m g _ => Cert.CaOutSampleIdeal.Gen.frame m g,
  frameCaOutSampleRefIdeal,
  fun m g _ => Cert.RouteSample.Gen.frame m g,
  fun m g _ => Cert.RouteSampleIdeal.Gen.frame m g,
  frameRouteSampleRefIdeal,
  fun m g _ => Cert.DftCSample.Gen.frame m g,
  fun m g _ => Cert.DftCSampleIdeal.Gen.frame m g,
  frameDftCSampleRefIdeal,
  fun m g _ => Cert.DftPSample.Gen.frame m g,
  fun m g _ => Cert.DftPSampleIdeal.Gen.frame m g,
  frameDftPSampleRefIdeal,
  trivial,
  Cert.Attn.algebraic,
  trivial,
  Cert.MergeProof.algebraic,
  trivial,
  Cert.InProjProof.algebraic,
  trivial,
  Cert.OutProjProof.algebraic,
  trivial,
  Cert.LastProof.algebraic,
  trivial,
  Cert.LastSampleProof.algebraic,
  trivial,
  Cert.NormProof.algebraic,
  trivial,
  Cert.KeysProof.algebraic,
  trivial,
  Cert.CaQProof.algebraic,
  trivial,
  Cert.CaKvProof.algebraic,
  trivial,
  Cert.CaProof.algebraic,
  trivial,
  Cert.CaOutProof.algebraic,
  trivial,
  Cert.RouteProof.algebraic,
  trivial,
  Cert.DftCProof.algebraic,
  trivial,
  Cert.DftPProof.algebraic,
  trivial,
  Cert.KernelSampleProof.algebraic,
  trivial,
  Cert.MergeSampleProof.algebraic,
  trivial,
  Cert.InProjSampleProof.algebraic,
  trivial,
  Cert.OutProjSampleProof.algebraic,
  trivial,
  Cert.NormSampleProof.algebraic,
  trivial,
  Cert.KeysSampleProof.algebraic,
  trivial,
  Cert.CaQSampleProof.algebraic,
  trivial,
  Cert.CaSampleProof.algebraic,
  trivial,
  Cert.CaOutSampleProof.algebraic,
  trivial,
  Cert.RouteSampleProof.algebraic,
  trivial,
  Cert.DftCSampleProof.algebraic,
  trivial,
  Cert.DftPSampleProof.algebraic⟩

end Cert.Proof

end
